-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_Xa (m : (ℓ : Loc Cert.Xa.nD Cert.Xa.τ Cert.Xa.sig) → Buf (Elt Bits) ℓ) : Prop :=
  True

def Pre_XaIdeal (m : (ℓ : Loc Cert.XaIdeal.nD Cert.XaIdeal.τ Cert.XaIdeal.sig) → Buf (Elt Ideal) ℓ) : Prop :=
  True

def Pre_XaReferenceIdeal (m : (ℓ : Loc Cert.XaReferenceIdeal.nD Cert.XaReferenceIdeal.τ Cert.XaReferenceIdeal.sig) → Buf (Elt Ideal) ℓ) : Prop :=
  True

def Pre_Core (m : (ℓ : Loc Cert.Core.nD Cert.Core.τ Cert.Core.sig) → Buf (Elt Bits) ℓ) : Prop :=
  True

def Pre_CoreIdeal (m : (ℓ : Loc Cert.CoreIdeal.nD Cert.CoreIdeal.τ Cert.CoreIdeal.sig) → Buf (Elt Ideal) ℓ) : Prop :=
  True

def Pre_CoreReferenceIdeal (m : (ℓ : Loc Cert.CoreReferenceIdeal.nD Cert.CoreReferenceIdeal.τ Cert.CoreReferenceIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_Mem (m : (ℓ : Loc Cert.Mem.nD Cert.Mem.τ Cert.Mem.sig) → Buf (Elt Bits) ℓ) : Prop :=
  True

def Pre_MemIdeal (m : (ℓ : Loc Cert.MemIdeal.nD Cert.MemIdeal.τ Cert.MemIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_MemB (m : (ℓ : Loc Cert.MemB.nD Cert.MemB.τ Cert.MemB.sig) → Buf (Elt Bits) ℓ) : Prop :=
  True

def Pre_MemBIdeal (m : (ℓ : Loc Cert.MemBIdeal.nD Cert.MemBIdeal.τ Cert.MemBIdeal.sig) → Buf (Elt Ideal) ℓ) : Prop :=
  True

def Pre_MemBReferenceIdeal (m : (ℓ : Loc Cert.MemBReferenceIdeal.nD Cert.MemBReferenceIdeal.τ Cert.MemBReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4)
      ∧ r.2.mem ((c.tc : Thread Cert.Glu.nD Cert.Glu.τ).loc Cert.Glu.main_arg5) = m ((c.tc : Thread Cert.Glu.nD Cert.Glu.τ).loc Cert.Glu.main_arg5)
      ∧ r.2.mem ((c.tc : Thread Cert.Glu.nD Cert.Glu.τ).loc Cert.Glu.main_arg6) = m ((c.tc : Thread Cert.Glu.nD Cert.Glu.τ).loc Cert.Glu.main_arg6))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4)
      ∧ r.2.mem ((c.tc : Thread Cert.GluIdeal.nD Cert.GluIdeal.τ).loc Cert.GluIdeal.main_arg5) = m ((c.tc : Thread Cert.GluIdeal.nD Cert.GluIdeal.τ).loc Cert.GluIdeal.main_arg5)
      ∧ r.2.mem ((c.tc : Thread Cert.GluIdeal.nD Cert.GluIdeal.τ).loc Cert.GluIdeal.main_arg6) = m ((c.tc : Thread Cert.GluIdeal.nD Cert.GluIdeal.τ).loc Cert.GluIdeal.main_arg6))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3)
      ∧ r.2.mem ((c.tc : Thread Cert.GluReferenceIdeal.nD Cert.GluReferenceIdeal.τ).loc Cert.GluReferenceIdeal.main_arg4) = m ((c.tc : Thread Cert.GluReferenceIdeal.nD Cert.GluReferenceIdeal.τ).loc Cert.GluReferenceIdeal.main_arg4)
      ∧ r.2.mem ((c.tc : Thread Cert.GluReferenceIdeal.nD Cert.GluReferenceIdeal.τ).loc Cert.GluReferenceIdeal.main_arg5) = m ((c.tc : Thread Cert.GluReferenceIdeal.nD Cert.GluReferenceIdeal.τ).loc Cert.GluReferenceIdeal.main_arg5)
      ∧ r.2.mem ((c.tc : Thread Cert.GluReferenceIdeal.nD Cert.GluReferenceIdeal.τ).loc Cert.GluReferenceIdeal.main_arg6) = m ((c.tc : Thread Cert.GluReferenceIdeal.nD Cert.GluReferenceIdeal.τ).loc Cert.GluReferenceIdeal.main_arg6))
      ∧ r.2.sem = fun _ => 0)

def quiescent_Xa [hXa : Cert.Xa.Facts] : Prop :=
  ∀ (m : (ℓ : Loc Cert.Xa.nD Cert.Xa.τ Cert.Xa.sig) → Buf (Elt Bits) ℓ) (g : Dev Cert.Xa.nD → PrngReg), Pre_Xa m →
    θ_run (Cert.Xa.defs (F := Bits)) (onTc (τ := Cert.Xa.τ) (Cert.Xa.main (F := Bits))) ⟨m, fun _ => 0, g⟩ (fun r => (∀ c : Dev Cert.Xa.nD,
      r.2.mem ((c.tc : Thread Cert.Xa.nD Cert.Xa.τ).loc Cert.Xa.main_arg0) = m ((c.tc : Thread Cert.Xa.nD Cert.Xa.τ).loc Cert.Xa.main_arg0)
      ∧ r.2.mem ((c.tc : Thread Cert.Xa.nD Cert.Xa.τ).loc Cert.Xa.main_arg1) = m ((c.tc : Thread Cert.Xa.nD Cert.Xa.τ).loc Cert.Xa.main_arg1)
      ∧ r.2.mem ((c.tc : Thread Cert.Xa.nD Cert.Xa.τ).loc Cert.Xa.main_arg2) = m ((c.tc : Thread Cert.Xa.nD Cert.Xa.τ).loc Cert.Xa.main_arg2)
      ∧ r.2.mem ((c.tc : Thread Cert.Xa.nD Cert.Xa.τ).loc Cert.Xa.main_arg3) = m ((c.tc : Thread Cert.Xa.nD Cert.Xa.τ).loc Cert.Xa.main_arg3)
      ∧ r.2.mem ((c.tc : Thread Cert.Xa.nD Cert.Xa.τ).loc Cert.Xa.main_arg4) = m ((c.tc : Thread Cert.Xa.nD Cert.Xa.τ).loc Cert.Xa.main_arg4)
      ∧ r.2.mem ((c.tc : Thread Cert.Xa.nD Cert.Xa.τ).loc Cert.Xa.main_arg5) = m ((c.tc : Thread Cert.Xa.nD Cert.Xa.τ).loc Cert.Xa.main_arg5)
      ∧ r.2.mem ((c.tc : Thread Cert.Xa.nD Cert.Xa.τ).loc Cert.Xa.main_arg6) = m ((c.tc : Thread Cert.Xa.nD Cert.Xa.τ).loc Cert.Xa.main_arg6))
      ∧ r.2.sem = fun _ => 0)

def quiescent_XaIdeal [hXaIdeal : Cert.XaIdeal.Facts] : Prop :=
  ∀ (m : (ℓ : Loc Cert.XaIdeal.nD Cert.XaIdeal.τ Cert.XaIdeal.sig) → Buf (Elt Ideal) ℓ) (g : Dev Cert.XaIdeal.nD → PrngReg), Pre_XaIdeal m →
    θ_run (Cert.XaIdeal.defs (F := Ideal)) (onTc (τ := Cert.XaIdeal.τ) (Cert.XaIdeal.main (F := Ideal))) ⟨m, fun _ => 0, g⟩ (fun r => (∀ c : Dev Cert.XaIdeal.nD,
      r.2.mem ((c.tc : Thread Cert.XaIdeal.nD Cert.XaIdeal.τ).loc Cert.XaIdeal.main_arg0) = m ((c.tc : Thread Cert.XaIdeal.nD Cert.XaIdeal.τ).loc Cert.XaIdeal.main_arg0)
      ∧ r.2.mem ((c.tc : Thread Cert.XaIdeal.nD Cert.XaIdeal.τ).loc Cert.XaIdeal.main_arg1) = m ((c.tc : Thread Cert.XaIdeal.nD Cert.XaIdeal.τ).loc Cert.XaIdeal.main_arg1)
      ∧ r.2.mem ((c.tc : Thread Cert.XaIdeal.nD Cert.XaIdeal.τ).loc Cert.XaIdeal.main_arg2) = m ((c.tc : Thread Cert.XaIdeal.nD Cert.XaIdeal.τ).loc Cert.XaIdeal.main_arg2)
      ∧ r.2.mem ((c.tc : Thread Cert.XaIdeal.nD Cert.XaIdeal.τ).loc Cert.XaIdeal.main_arg3) = m ((c.tc : Thread Cert.XaIdeal.nD Cert.XaIdeal.τ).loc Cert.XaIdeal.main_arg3)
      ∧ r.2.mem ((c.tc : Thread Cert.XaIdeal.nD Cert.XaIdeal.τ).loc Cert.XaIdeal.main_arg4) = m ((c.tc : Thread Cert.XaIdeal.nD Cert.XaIdeal.τ).loc Cert.XaIdeal.main_arg4)
      ∧ r.2.mem ((c.tc : Thread Cert.XaIdeal.nD Cert.XaIdeal.τ).loc Cert.XaIdeal.main_arg5) = m ((c.tc : Thread Cert.XaIdeal.nD Cert.XaIdeal.τ).loc Cert.XaIdeal.main_arg5)
      ∧ r.2.mem ((c.tc : Thread Cert.XaIdeal.nD Cert.XaIdeal.τ).loc Cert.XaIdeal.main_arg6) = m ((c.tc : Thread Cert.XaIdeal.nD Cert.XaIdeal.τ).loc Cert.XaIdeal.main_arg6))
      ∧ r.2.sem = fun _ => 0)

def quiescent_XaReferenceIdeal [hXaReferenceIdeal : Cert.XaReferenceIdeal.Facts] : Prop :=
  ∀ (m : (ℓ : Loc Cert.XaReferenceIdeal.nD Cert.XaReferenceIdeal.τ Cert.XaReferenceIdeal.sig) → Buf (Elt Ideal) ℓ) (g : Dev Cert.XaReferenceIdeal.nD → PrngReg), Pre_XaReferenceIdeal m →
    θ_run (Cert.XaReferenceIdeal.defs (F := Ideal)) (onTc (τ := Cert.XaReferenceIdeal.τ) (Cert.XaReferenceIdeal.main (F := Ideal))) ⟨m, fun _ => 0, g⟩ (fun r => (∀ c : Dev Cert.XaReferenceIdeal.nD,
      r.2.mem ((c.tc : Thread Cert.XaReferenceIdeal.nD Cert.XaReferenceIdeal.τ).loc Cert.XaReferenceIdeal.main_arg0) = m ((c.tc : Thread Cert.XaReferenceIdeal.nD Cert.XaReferenceIdeal.τ).loc Cert.XaReferenceIdeal.main_arg0)
      ∧ r.2.mem ((c.tc : Thread Cert.XaReferenceIdeal.nD Cert.XaReferenceIdeal.τ).loc Cert.XaReferenceIdeal.main_arg1) = m ((c.tc : Thread Cert.XaReferenceIdeal.nD Cert.XaReferenceIdeal.τ).loc Cert.XaReferenceIdeal.main_arg1)
      ∧ r.2.mem ((c.tc : Thread Cert.XaReferenceIdeal.nD Cert.XaReferenceIdeal.τ).loc Cert.XaReferenceIdeal.main_arg2) = m ((c.tc : Thread Cert.XaReferenceIdeal.nD Cert.XaReferenceIdeal.τ).loc Cert.XaReferenceIdeal.main_arg2)
      ∧ r.2.mem ((c.tc : Thread Cert.XaReferenceIdeal.nD Cert.XaReferenceIdeal.τ).loc Cert.XaReferenceIdeal.main_arg3) = m ((c.tc : Thread Cert.XaReferenceIdeal.nD Cert.XaReferenceIdeal.τ).loc Cert.XaReferenceIdeal.main_arg3)
      ∧ r.2.mem ((c.tc : Thread Cert.XaReferenceIdeal.nD Cert.XaReferenceIdeal.τ).loc Cert.XaReferenceIdeal.main_arg4) = m ((c.tc : Thread Cert.XaReferenceIdeal.nD Cert.XaReferenceIdeal.τ).loc Cert.XaReferenceIdeal.main_arg4)
      ∧ r.2.mem ((c.tc : Thread Cert.XaReferenceIdeal.nD Cert.XaReferenceIdeal.τ).loc Cert.XaReferenceIdeal.main_arg5) = m ((c.tc : Thread Cert.XaReferenceIdeal.nD Cert.XaReferenceIdeal.τ).loc Cert.XaReferenceIdeal.main_arg5)
      ∧ r.2.mem ((c.tc : Thread Cert.XaReferenceIdeal.nD Cert.XaReferenceIdeal.τ).loc Cert.XaReferenceIdeal.main_arg6) = m ((c.tc : Thread Cert.XaReferenceIdeal.nD Cert.XaReferenceIdeal.τ).loc Cert.XaReferenceIdeal.main_arg6))
      ∧ r.2.sem = fun _ => 0)

def quiescent_Core [hCore : Cert.Core.Facts] : Prop :=
  ∀ (m : (ℓ : Loc Cert.Core.nD Cert.Core.τ Cert.Core.sig) → Buf (Elt Bits) ℓ) (g : Dev Cert.Core.nD → PrngReg), Pre_Core m →
    θ_run (Cert.Core.defs (F := Bits)) (onTc (τ := Cert.Core.τ) (Cert.Core.main (F := Bits))) ⟨m, fun _ => 0, g⟩ (fun r => (∀ c : Dev Cert.Core.nD,
      r.2.mem ((c.tc : Thread Cert.Core.nD Cert.Core.τ).loc Cert.Core.main_arg0) = m ((c.tc : Thread Cert.Core.nD Cert.Core.τ).loc Cert.Core.main_arg0)
      ∧ r.2.mem ((c.tc : Thread Cert.Core.nD Cert.Core.τ).loc Cert.Core.main_arg1) = m ((c.tc : Thread Cert.Core.nD Cert.Core.τ).loc Cert.Core.main_arg1)
      ∧ r.2.mem ((c.tc : Thread Cert.Core.nD Cert.Core.τ).loc Cert.Core.main_arg2) = m ((c.tc : Thread Cert.Core.nD Cert.Core.τ).loc Cert.Core.main_arg2)
      ∧ r.2.mem ((c.tc : Thread Cert.Core.nD Cert.Core.τ).loc Cert.Core.main_arg3) = m ((c.tc : Thread Cert.Core.nD Cert.Core.τ).loc Cert.Core.main_arg3)
      ∧ r.2.mem ((c.tc : Thread Cert.Core.nD Cert.Core.τ).loc Cert.Core.main_arg4) = m ((c.tc : Thread Cert.Core.nD Cert.Core.τ).loc Cert.Core.main_arg4))
      ∧ r.2.sem = fun _ => 0)

def quiescent_CoreIdeal [hCoreIdeal : Cert.CoreIdeal.Facts] : Prop :=
  ∀ (m : (ℓ : Loc Cert.CoreIdeal.nD Cert.CoreIdeal.τ Cert.CoreIdeal.sig) → Buf (Elt Ideal) ℓ) (g : Dev Cert.CoreIdeal.nD → PrngReg), Pre_CoreIdeal m →
    θ_run (Cert.CoreIdeal.defs (F := Ideal)) (onTc (τ := Cert.CoreIdeal.τ) (Cert.CoreIdeal.main (F := Ideal))) ⟨m, fun _ => 0, g⟩ (fun r => (∀ c : Dev Cert.CoreIdeal.nD,
      r.2.mem ((c.tc : Thread Cert.CoreIdeal.nD Cert.CoreIdeal.τ).loc Cert.CoreIdeal.main_arg0) = m ((c.tc : Thread Cert.CoreIdeal.nD Cert.CoreIdeal.τ).loc Cert.CoreIdeal.main_arg0)
      ∧ r.2.mem ((c.tc : Thread Cert.CoreIdeal.nD Cert.CoreIdeal.τ).loc Cert.CoreIdeal.main_arg1) = m ((c.tc : Thread Cert.CoreIdeal.nD Cert.CoreIdeal.τ).loc Cert.CoreIdeal.main_arg1)
      ∧ r.2.mem ((c.tc : Thread Cert.CoreIdeal.nD Cert.CoreIdeal.τ).loc Cert.CoreIdeal.main_arg2) = m ((c.tc : Thread Cert.CoreIdeal.nD Cert.CoreIdeal.τ).loc Cert.CoreIdeal.main_arg2)
      ∧ r.2.mem ((c.tc : Thread Cert.CoreIdeal.nD Cert.CoreIdeal.τ).loc Cert.CoreIdeal.main_arg3) = m ((c.tc : Thread Cert.CoreIdeal.nD Cert.CoreIdeal.τ).loc Cert.CoreIdeal.main_arg3)
      ∧ r.2.mem ((c.tc : Thread Cert.CoreIdeal.nD Cert.CoreIdeal.τ).loc Cert.CoreIdeal.main_arg4) = m ((c.tc : Thread Cert.CoreIdeal.nD Cert.CoreIdeal.τ).loc Cert.CoreIdeal.main_arg4))
      ∧ r.2.sem = fun _ => 0)

def quiescent_CoreReferenceIdeal [hCoreReferenceIdeal : Cert.CoreReferenceIdeal.Facts] : Prop :=
  ∀ (m : (ℓ : Loc Cert.CoreReferenceIdeal.nD Cert.CoreReferenceIdeal.τ Cert.CoreReferenceIdeal.sig) → Buf (Elt Ideal) ℓ) (g : Dev Cert.CoreReferenceIdeal.nD → PrngReg), Pre_CoreReferenceIdeal m →
    θ_run (Cert.CoreReferenceIdeal.defs (F := Ideal)) (onTc (τ := Cert.CoreReferenceIdeal.τ) (Cert.CoreReferenceIdeal.main (F := Ideal))) ⟨m, fun _ => 0, g⟩ (fun r => (∀ c : Dev Cert.CoreReferenceIdeal.nD,
      r.2.mem ((c.tc : Thread Cert.CoreReferenceIdeal.nD Cert.CoreReferenceIdeal.τ).loc Cert.CoreReferenceIdeal.main_arg0) = m ((c.tc : Thread Cert.CoreReferenceIdeal.nD Cert.CoreReferenceIdeal.τ).loc Cert.CoreReferenceIdeal.main_arg0)
      ∧ r.2.mem ((c.tc : Thread Cert.CoreReferenceIdeal.nD Cert.CoreReferenceIdeal.τ).loc Cert.CoreReferenceIdeal.main_arg1) = m ((c.tc : Thread Cert.CoreReferenceIdeal.nD Cert.CoreReferenceIdeal.τ).loc Cert.CoreReferenceIdeal.main_arg1)
      ∧ r.2.mem ((c.tc : Thread Cert.CoreReferenceIdeal.nD Cert.CoreReferenceIdeal.τ).loc Cert.CoreReferenceIdeal.main_arg2) = m ((c.tc : Thread Cert.CoreReferenceIdeal.nD Cert.CoreReferenceIdeal.τ).loc Cert.CoreReferenceIdeal.main_arg2)
      ∧ r.2.mem ((c.tc : Thread Cert.CoreReferenceIdeal.nD Cert.CoreReferenceIdeal.τ).loc Cert.CoreReferenceIdeal.main_arg3) = m ((c.tc : Thread Cert.CoreReferenceIdeal.nD Cert.CoreReferenceIdeal.τ).loc Cert.CoreReferenceIdeal.main_arg3)
      ∧ r.2.mem ((c.tc : Thread Cert.CoreReferenceIdeal.nD Cert.CoreReferenceIdeal.τ).loc Cert.CoreReferenceIdeal.main_arg4) = m ((c.tc : Thread Cert.CoreReferenceIdeal.nD Cert.CoreReferenceIdeal.τ).loc Cert.CoreReferenceIdeal.main_arg4))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def quiescent_Mem [hMem : Cert.Mem.Facts] : Prop :=
  ∀ (m : (ℓ : Loc Cert.Mem.nD Cert.Mem.τ Cert.Mem.sig) → Buf (Elt Bits) ℓ) (g : Dev Cert.Mem.nD → PrngReg), Pre_Mem m →
    θ_run (Cert.Mem.defs (F := Bits)) (onTc (τ := Cert.Mem.τ) (Cert.Mem.main (F := Bits))) ⟨m, fun _ => 0, g⟩ (fun r => (∀ c : Dev Cert.Mem.nD,
      r.2.mem ((c.tc : Thread Cert.Mem.nD Cert.Mem.τ).loc Cert.Mem.main_arg0) = m ((c.tc : Thread Cert.Mem.nD Cert.Mem.τ).loc Cert.Mem.main_arg0)
      ∧ r.2.mem ((c.tc : Thread Cert.Mem.nD Cert.Mem.τ).loc Cert.Mem.main_arg1) = m ((c.tc : Thread Cert.Mem.nD Cert.Mem.τ).loc Cert.Mem.main_arg1)
      ∧ r.2.mem ((c.tc : Thread Cert.Mem.nD Cert.Mem.τ).loc Cert.Mem.main_arg2) = m ((c.tc : Thread Cert.Mem.nD Cert.Mem.τ).loc Cert.Mem.main_arg2)
      ∧ r.2.mem ((c.tc : Thread Cert.Mem.nD Cert.Mem.τ).loc Cert.Mem.main_arg3) = m ((c.tc : Thread Cert.Mem.nD Cert.Mem.τ).loc Cert.Mem.main_arg3)
      ∧ r.2.mem ((c.tc : Thread Cert.Mem.nD Cert.Mem.τ).loc Cert.Mem.main_arg4) = m ((c.tc : Thread Cert.Mem.nD Cert.Mem.τ).loc Cert.Mem.main_arg4))
      ∧ r.2.sem = fun _ => 0)

def quiescent_MemIdeal [hMemIdeal : Cert.MemIdeal.Facts] : Prop :=
  ∀ (m : (ℓ : Loc Cert.MemIdeal.nD Cert.MemIdeal.τ Cert.MemIdeal.sig) → Buf (Elt Ideal) ℓ) (g : Dev Cert.MemIdeal.nD → PrngReg), Pre_MemIdeal m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
      ∧ r.2.mem ((c.tc : Thread Cert.MemIdeal.nD Cert.MemIdeal.τ).loc Cert.MemIdeal.main_arg3) = m ((c.tc : Thread Cert.MemIdeal.nD Cert.MemIdeal.τ).loc Cert.MemIdeal.main_arg3)
      ∧ r.2.mem ((c.tc : Thread Cert.MemIdeal.nD Cert.MemIdeal.τ).loc Cert.MemIdeal.main_arg4) = m ((c.tc : Thread Cert.MemIdeal.nD Cert.MemIdeal.τ).loc Cert.MemIdeal.main_arg4))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3)
      ∧ r.2.mem ((c.tc : Thread Cert.MemReferenceIdeal.nD Cert.MemReferenceIdeal.τ).loc Cert.MemReferenceIdeal.main_arg4) = m ((c.tc : Thread Cert.MemReferenceIdeal.nD Cert.MemReferenceIdeal.τ).loc Cert.MemReferenceIdeal.main_arg4))
      ∧ r.2.sem = fun _ => 0)

def quiescent_MemB [hMemB : Cert.MemB.Facts] : Prop :=
  ∀ (m : (ℓ : Loc Cert.MemB.nD Cert.MemB.τ Cert.MemB.sig) → Buf (Elt Bits) ℓ) (g : Dev Cert.MemB.nD → PrngReg), Pre_MemB m →
    θ_run (Cert.MemB.defs (F := Bits)) (onTc (τ := Cert.MemB.τ) (Cert.MemB.main (F := Bits))) ⟨m, fun _ => 0, g⟩ (fun r => (∀ c : Dev Cert.MemB.nD,
      r.2.mem ((c.tc : Thread Cert.MemB.nD Cert.MemB.τ).loc Cert.MemB.main_arg0) = m ((c.tc : Thread Cert.MemB.nD Cert.MemB.τ).loc Cert.MemB.main_arg0)
      ∧ r.2.mem ((c.tc : Thread Cert.MemB.nD Cert.MemB.τ).loc Cert.MemB.main_arg1) = m ((c.tc : Thread Cert.MemB.nD Cert.MemB.τ).loc Cert.MemB.main_arg1)
      ∧ r.2.mem ((c.tc : Thread Cert.MemB.nD Cert.MemB.τ).loc Cert.MemB.main_arg2) = m ((c.tc : Thread Cert.MemB.nD Cert.MemB.τ).loc Cert.MemB.main_arg2)
      ∧ r.2.mem ((c.tc : Thread Cert.MemB.nD Cert.MemB.τ).loc Cert.MemB.main_arg3) = m ((c.tc : Thread Cert.MemB.nD Cert.MemB.τ).loc Cert.MemB.main_arg3)
      ∧ r.2.mem ((c.tc : Thread Cert.MemB.nD Cert.MemB.τ).loc Cert.MemB.main_arg4) = m ((c.tc : Thread Cert.MemB.nD Cert.MemB.τ).loc Cert.MemB.main_arg4)
      ∧ r.2.mem ((c.tc : Thread Cert.MemB.nD Cert.MemB.τ).loc Cert.MemB.main_arg5) = m ((c.tc : Thread Cert.MemB.nD Cert.MemB.τ).loc Cert.MemB.main_arg5)
      ∧ r.2.mem ((c.tc : Thread Cert.MemB.nD Cert.MemB.τ).loc Cert.MemB.main_arg6) = m ((c.tc : Thread Cert.MemB.nD Cert.MemB.τ).loc Cert.MemB.main_arg6))
      ∧ r.2.sem = fun _ => 0)

def quiescent_MemBIdeal [hMemBIdeal : Cert.MemBIdeal.Facts] : Prop :=
  ∀ (m : (ℓ : Loc Cert.MemBIdeal.nD Cert.MemBIdeal.τ Cert.MemBIdeal.sig) → Buf (Elt Ideal) ℓ) (g : Dev Cert.MemBIdeal.nD → PrngReg), Pre_MemBIdeal m →
    θ_run (Cert.MemBIdeal.defs (F := Ideal)) (onTc (τ := Cert.MemBIdeal.τ) (Cert.MemBIdeal.main (F := Ideal))) ⟨m, fun _ => 0, g⟩ (fun r => (∀ c : Dev Cert.MemBIdeal.nD,
      r.2.mem ((c.tc : Thread Cert.MemBIdeal.nD Cert.MemBIdeal.τ).loc Cert.MemBIdeal.main_arg0) = m ((c.tc : Thread Cert.MemBIdeal.nD Cert.MemBIdeal.τ).loc Cert.MemBIdeal.main_arg0)
      ∧ r.2.mem ((c.tc : Thread Cert.MemBIdeal.nD Cert.MemBIdeal.τ).loc Cert.MemBIdeal.main_arg1) = m ((c.tc : Thread Cert.MemBIdeal.nD Cert.MemBIdeal.τ).loc Cert.MemBIdeal.main_arg1)
      ∧ r.2.mem ((c.tc : Thread Cert.MemBIdeal.nD Cert.MemBIdeal.τ).loc Cert.MemBIdeal.main_arg2) = m ((c.tc : Thread Cert.MemBIdeal.nD Cert.MemBIdeal.τ).loc Cert.MemBIdeal.main_arg2)
      ∧ r.2.mem ((c.tc : Thread Cert.MemBIdeal.nD Cert.MemBIdeal.τ).loc Cert.MemBIdeal.main_arg3) = m ((c.tc : Thread Cert.MemBIdeal.nD Cert.MemBIdeal.τ).loc Cert.MemBIdeal.main_arg3)
      ∧ r.2.mem ((c.tc : Thread Cert.MemBIdeal.nD Cert.MemBIdeal.τ).loc Cert.MemBIdeal.main_arg4) = m ((c.tc : Thread Cert.MemBIdeal.nD Cert.MemBIdeal.τ).loc Cert.MemBIdeal.main_arg4)
      ∧ r.2.mem ((c.tc : Thread Cert.MemBIdeal.nD Cert.MemBIdeal.τ).loc Cert.MemBIdeal.main_arg5) = m ((c.tc : Thread Cert.MemBIdeal.nD Cert.MemBIdeal.τ).loc Cert.MemBIdeal.main_arg5)
      ∧ r.2.mem ((c.tc : Thread Cert.MemBIdeal.nD Cert.MemBIdeal.τ).loc Cert.MemBIdeal.main_arg6) = m ((c.tc : Thread Cert.MemBIdeal.nD Cert.MemBIdeal.τ).loc Cert.MemBIdeal.main_arg6))
      ∧ r.2.sem = fun _ => 0)

def quiescent_MemBReferenceIdeal [hMemBReferenceIdeal : Cert.MemBReferenceIdeal.Facts] : Prop :=
  ∀ (m : (ℓ : Loc Cert.MemBReferenceIdeal.nD Cert.MemBReferenceIdeal.τ Cert.MemBReferenceIdeal.sig) → Buf (Elt Ideal) ℓ) (g : Dev Cert.MemBReferenceIdeal.nD → PrngReg), Pre_MemBReferenceIdeal m →
    θ_run (Cert.MemBReferenceIdeal.defs (F := Ideal)) (onTc (τ := Cert.MemBReferenceIdeal.τ) (Cert.MemBReferenceIdeal.main (F := Ideal))) ⟨m, fun _ => 0, g⟩ (fun r => (∀ c : Dev Cert.MemBReferenceIdeal.nD,
      r.2.mem ((c.tc : Thread Cert.MemBReferenceIdeal.nD Cert.MemBReferenceIdeal.τ).loc Cert.MemBReferenceIdeal.main_arg0) = m ((c.tc : Thread Cert.MemBReferenceIdeal.nD Cert.MemBReferenceIdeal.τ).loc Cert.MemBReferenceIdeal.main_arg0)
      ∧ r.2.mem ((c.tc : Thread Cert.MemBReferenceIdeal.nD Cert.MemBReferenceIdeal.τ).loc Cert.MemBReferenceIdeal.main_arg1) = m ((c.tc : Thread Cert.MemBReferenceIdeal.nD Cert.MemBReferenceIdeal.τ).loc Cert.MemBReferenceIdeal.main_arg1)
      ∧ r.2.mem ((c.tc : Thread Cert.MemBReferenceIdeal.nD Cert.MemBReferenceIdeal.τ).loc Cert.MemBReferenceIdeal.main_arg2) = m ((c.tc : Thread Cert.MemBReferenceIdeal.nD Cert.MemBReferenceIdeal.τ).loc Cert.MemBReferenceIdeal.main_arg2)
      ∧ r.2.mem ((c.tc : Thread Cert.MemBReferenceIdeal.nD Cert.MemBReferenceIdeal.τ).loc Cert.MemBReferenceIdeal.main_arg3) = m ((c.tc : Thread Cert.MemBReferenceIdeal.nD Cert.MemBReferenceIdeal.τ).loc Cert.MemBReferenceIdeal.main_arg3)
      ∧ r.2.mem ((c.tc : Thread Cert.MemBReferenceIdeal.nD Cert.MemBReferenceIdeal.τ).loc Cert.MemBReferenceIdeal.main_arg4) = m ((c.tc : Thread Cert.MemBReferenceIdeal.nD Cert.MemBReferenceIdeal.τ).loc Cert.MemBReferenceIdeal.main_arg4)
      ∧ r.2.mem ((c.tc : Thread Cert.MemBReferenceIdeal.nD Cert.MemBReferenceIdeal.τ).loc Cert.MemBReferenceIdeal.main_arg5) = m ((c.tc : Thread Cert.MemBReferenceIdeal.nD Cert.MemBReferenceIdeal.τ).loc Cert.MemBReferenceIdeal.main_arg5)
      ∧ r.2.mem ((c.tc : Thread Cert.MemBReferenceIdeal.nD Cert.MemBReferenceIdeal.τ).loc Cert.MemBReferenceIdeal.main_arg6) = m ((c.tc : Thread Cert.MemBReferenceIdeal.nD Cert.MemBReferenceIdeal.τ).loc Cert.MemBReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v2_0)) (v3 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_v2_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_v71) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v27)) (v1 : (c : Dev Cert.FfnIdeal.nD) → Buf (Elt Ideal) ((c.tc : Thread Cert.FfnIdeal.nD Cert.FfnIdeal.τ).loc Cert.FfnIdeal.main_v59_0)) (v2 : (c : Dev Cert.FfnIdeal.nD) → Buf (Elt Ideal) ((c.tc : Thread Cert.FfnIdeal.nD Cert.FfnIdeal.τ).loc Cert.FfnIdeal.main_v59_1)) (v3 : (c : Dev Cert.FfnIdeal.nD) → Buf (Elt Ideal) ((c.tc : Thread Cert.FfnIdeal.nD Cert.FfnIdeal.τ).loc Cert.FfnIdeal.main_v52)) (v4 : (c : Dev Cert.FfnIdeal.nD) → Buf (Elt Ideal) ((c.tc : Thread Cert.FfnIdeal.nD Cert.FfnIdeal.τ).loc Cert.FfnIdeal.main_v47)) (v5 : (c : Dev Cert.FfnIdeal.nD) → Buf (Elt Ideal) ((c.tc : Thread Cert.FfnIdeal.nD Cert.FfnIdeal.τ).loc Cert.FfnIdeal.main_v49)) (v6 : (c : Dev Cert.FfnIdeal.nD) → Buf (Elt Ideal) ((c.tc : Thread Cert.FfnIdeal.nD Cert.FfnIdeal.τ).loc Cert.FfnIdeal.main_v60)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v27) = v0 c
          ∧ r.2.mem ((c.tc : Thread Cert.FfnIdeal.nD Cert.FfnIdeal.τ).loc Cert.FfnIdeal.main_v59_0) = v1 c
          ∧ r.2.mem ((c.tc : Thread Cert.FfnIdeal.nD Cert.FfnIdeal.τ).loc Cert.FfnIdeal.main_v59_1) = v2 c
          ∧ r.2.mem ((c.tc : Thread Cert.FfnIdeal.nD Cert.FfnIdeal.τ).loc Cert.FfnIdeal.main_v52) = v3 c
          ∧ r.2.mem ((c.tc : Thread Cert.FfnIdeal.nD Cert.FfnIdeal.τ).loc Cert.FfnIdeal.main_v47) = v4 c
          ∧ r.2.mem ((c.tc : Thread Cert.FfnIdeal.nD Cert.FfnIdeal.τ).loc Cert.FfnIdeal.main_v49) = v5 c
          ∧ r.2.mem ((c.tc : Thread Cert.FfnIdeal.nD Cert.FfnIdeal.τ).loc Cert.FfnIdeal.main_v60) = v6 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v52) = v0 c
          ∧ r.2.mem ((c.tc : Thread Cert.FfnReferenceIdeal.nD Cert.FfnReferenceIdeal.τ).loc Cert.FfnReferenceIdeal.main_v120) = v1 c
          ∧ r.2.mem ((c.tc : Thread Cert.FfnReferenceIdeal.nD Cert.FfnReferenceIdeal.τ).loc Cert.FfnReferenceIdeal.main_v121) = v2 c
          ∧ r.2.mem ((c.tc : Thread Cert.FfnReferenceIdeal.nD Cert.FfnReferenceIdeal.τ).loc Cert.FfnReferenceIdeal.main_v130) = v3 c
          ∧ r.2.mem ((c.tc : Thread Cert.FfnReferenceIdeal.nD Cert.FfnReferenceIdeal.τ).loc Cert.FfnReferenceIdeal.main_v92) = v4 c
          ∧ r.2.mem ((c.tc : Thread Cert.FfnReferenceIdeal.nD Cert.FfnReferenceIdeal.τ).loc Cert.FfnReferenceIdeal.main_v63) = v5 c
          ∧ r.2.mem ((c.tc : Thread Cert.FfnReferenceIdeal.nD Cert.FfnReferenceIdeal.τ).loc Cert.FfnReferenceIdeal.main_v131) = v6 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)
      ∧ m' ((c.tc : Thread Cert.ProjReferenceIdeal.nD Cert.ProjReferenceIdeal.τ).loc Cert.ProjReferenceIdeal.main_arg8) = m ((c.tc : Thread Cert.ProjIdeal.nD Cert.ProjIdeal.τ).loc Cert.ProjIdeal.main_arg8)) →
    ∃ (v0 : (c : Dev Cert.ProjIdeal.nD) → Buf (Elt Ideal) ((c.tc : Thread Cert.ProjIdeal.nD Cert.ProjIdeal.τ).loc Cert.ProjIdeal.main_v14)) (v1 : (c : Dev Cert.ProjIdeal.nD) → Buf (Elt Ideal) ((c.tc : Thread Cert.ProjIdeal.nD Cert.ProjIdeal.τ).loc Cert.ProjIdeal.main_v19)) (v2 : (c : Dev Cert.ProjIdeal.nD) → Buf (Elt Ideal) ((c.tc : Thread Cert.ProjIdeal.nD Cert.ProjIdeal.τ).loc Cert.ProjIdeal.main_v22)) (v3 : (c : Dev Cert.ProjIdeal.nD) → Buf (Elt Ideal) ((c.tc : Thread Cert.ProjIdeal.nD Cert.ProjIdeal.τ).loc Cert.ProjIdeal.main_v24)) (v4 : (c : Dev Cert.ProjIdeal.nD) → Buf (Elt Ideal) ((c.tc : Thread Cert.ProjIdeal.nD Cert.ProjIdeal.τ).loc Cert.ProjIdeal.main_v45_0)) (v5 : (c : Dev Cert.ProjIdeal.nD) → Buf (Elt Ideal) ((c.tc : Thread Cert.ProjIdeal.nD Cert.ProjIdeal.τ).loc Cert.ProjIdeal.main_v45_1)) (v6 : (c : Dev Cert.ProjIdeal.nD) → Buf (Elt Ideal) ((c.tc : Thread Cert.ProjIdeal.nD Cert.ProjIdeal.τ).loc Cert.ProjIdeal.main_v51)) (v7 : (c : Dev Cert.ProjIdeal.nD) → Buf (Elt Ideal) ((c.tc : Thread Cert.ProjIdeal.nD Cert.ProjIdeal.τ).loc Cert.ProjIdeal.main_v27)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v14) = v0 c
          ∧ r.2.mem ((c.tc : Thread Cert.ProjIdeal.nD Cert.ProjIdeal.τ).loc Cert.ProjIdeal.main_v19) = v1 c
          ∧ r.2.mem ((c.tc : Thread Cert.ProjIdeal.nD Cert.ProjIdeal.τ).loc Cert.ProjIdeal.main_v22) = v2 c
          ∧ r.2.mem ((c.tc : Thread Cert.ProjIdeal.nD Cert.ProjIdeal.τ).loc Cert.ProjIdeal.main_v24) = v3 c
          ∧ r.2.mem ((c.tc : Thread Cert.ProjIdeal.nD Cert.ProjIdeal.τ).loc Cert.ProjIdeal.main_v45_0) = v4 c
          ∧ r.2.mem ((c.tc : Thread Cert.ProjIdeal.nD Cert.ProjIdeal.τ).loc Cert.ProjIdeal.main_v45_1) = v5 c
          ∧ r.2.mem ((c.tc : Thread Cert.ProjIdeal.nD Cert.ProjIdeal.τ).loc Cert.ProjIdeal.main_v51) = v6 c
          ∧ r.2.mem ((c.tc : Thread Cert.ProjIdeal.nD Cert.ProjIdeal.τ).loc Cert.ProjIdeal.main_v27) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v22) = v0 c
          ∧ r.2.mem ((c.tc : Thread Cert.ProjReferenceIdeal.nD Cert.ProjReferenceIdeal.τ).loc Cert.ProjReferenceIdeal.main_v29) = v1 c
          ∧ r.2.mem ((c.tc : Thread Cert.ProjReferenceIdeal.nD Cert.ProjReferenceIdeal.τ).loc Cert.ProjReferenceIdeal.main_v64) = v2 c
          ∧ r.2.mem ((c.tc : Thread Cert.ProjReferenceIdeal.nD Cert.ProjReferenceIdeal.τ).loc Cert.ProjReferenceIdeal.main_v65) = v3 c
          ∧ r.2.mem ((c.tc : Thread Cert.ProjReferenceIdeal.nD Cert.ProjReferenceIdeal.τ).loc Cert.ProjReferenceIdeal.main_v66) = v4 c
          ∧ r.2.mem ((c.tc : Thread Cert.ProjReferenceIdeal.nD Cert.ProjReferenceIdeal.τ).loc Cert.ProjReferenceIdeal.main_v67) = v5 c
          ∧ r.2.mem ((c.tc : Thread Cert.ProjReferenceIdeal.nD Cert.ProjReferenceIdeal.τ).loc Cert.ProjReferenceIdeal.main_v38) = v6 c
          ∧ r.2.mem ((c.tc : Thread Cert.ProjReferenceIdeal.nD Cert.ProjReferenceIdeal.τ).loc Cert.ProjReferenceIdeal.main_v62) = v7 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)
      ∧ m' ((c.tc : Thread Cert.GluReferenceIdeal.nD Cert.GluReferenceIdeal.τ).loc Cert.GluReferenceIdeal.main_arg2) = m ((c.tc : Thread Cert.GluIdeal.nD Cert.GluIdeal.τ).loc Cert.GluIdeal.main_arg2)
      ∧ m' ((c.tc : Thread Cert.GluReferenceIdeal.nD Cert.GluReferenceIdeal.τ).loc Cert.GluReferenceIdeal.main_arg3) = m ((c.tc : Thread Cert.GluIdeal.nD Cert.GluIdeal.τ).loc Cert.GluIdeal.main_arg3)
      ∧ m' ((c.tc : Thread Cert.GluReferenceIdeal.nD Cert.GluReferenceIdeal.τ).loc Cert.GluReferenceIdeal.main_arg4) = m ((c.tc : Thread Cert.GluIdeal.nD Cert.GluIdeal.τ).loc Cert.GluIdeal.main_arg4)
      ∧ m' ((c.tc : Thread Cert.GluReferenceIdeal.nD Cert.GluReferenceIdeal.τ).loc Cert.GluReferenceIdeal.main_arg5) = m ((c.tc : Thread Cert.GluIdeal.nD Cert.GluIdeal.τ).loc Cert.GluIdeal.main_arg5)
      ∧ m' ((c.tc : Thread Cert.GluReferenceIdeal.nD Cert.GluReferenceIdeal.τ).loc Cert.GluReferenceIdeal.main_arg6) = m ((c.tc : Thread Cert.GluIdeal.nD Cert.GluIdeal.τ).loc Cert.GluIdeal.main_arg6)) →
    ∃ (v0 : (c : Dev Cert.GluIdeal.nD) → Buf (Elt Ideal) ((c.tc : Thread Cert.GluIdeal.nD Cert.GluIdeal.τ).loc Cert.GluIdeal.main_v8)) (v1 : (c : Dev Cert.GluIdeal.nD) → Buf (Elt Ideal) ((c.tc : Thread Cert.GluIdeal.nD Cert.GluIdeal.τ).loc Cert.GluIdeal.main_v16_0)) (v2 : (c : Dev Cert.GluIdeal.nD) → Buf (Elt Ideal) ((c.tc : Thread Cert.GluIdeal.nD Cert.GluIdeal.τ).loc Cert.GluIdeal.main_v16_1)) (v3 : (c : Dev Cert.GluIdeal.nD) → Buf (Elt Ideal) ((c.tc : Thread Cert.GluIdeal.nD Cert.GluIdeal.τ).loc Cert.GluIdeal.main_v16_2)) (v4 : (c : Dev Cert.GluIdeal.nD) → Buf (Elt Ideal) ((c.tc : Thread Cert.GluIdeal.nD Cert.GluIdeal.τ).loc Cert.GluIdeal.main_v17)) (v5 : (c : Dev Cert.GluIdeal.nD) → Buf (Elt Ideal) ((c.tc : Thread Cert.GluIdeal.nD Cert.GluIdeal.τ).loc Cert.GluIdeal.main_v18)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v8) = v0 c
          ∧ r.2.mem ((c.tc : Thread Cert.GluIdeal.nD Cert.GluIdeal.τ).loc Cert.GluIdeal.main_v16_0) = v1 c
          ∧ r.2.mem ((c.tc : Thread Cert.GluIdeal.nD Cert.GluIdeal.τ).loc Cert.GluIdeal.main_v16_1) = v2 c
          ∧ r.2.mem ((c.tc : Thread Cert.GluIdeal.nD Cert.GluIdeal.τ).loc Cert.GluIdeal.main_v16_2) = v3 c
          ∧ r.2.mem ((c.tc : Thread Cert.GluIdeal.nD Cert.GluIdeal.τ).loc Cert.GluIdeal.main_v17) = v4 c
          ∧ r.2.mem ((c.tc : Thread Cert.GluIdeal.nD Cert.GluIdeal.τ).loc Cert.GluIdeal.main_v18) = v5 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4)
          ∧ r.2.mem ((c.tc : Thread Cert.GluIdeal.nD Cert.GluIdeal.τ).loc Cert.GluIdeal.main_arg5) = m ((c.tc : Thread Cert.GluIdeal.nD Cert.GluIdeal.τ).loc Cert.GluIdeal.main_arg5)
          ∧ r.2.mem ((c.tc : Thread Cert.GluIdeal.nD Cert.GluIdeal.τ).loc Cert.GluIdeal.main_arg6) = m ((c.tc : Thread Cert.GluIdeal.nD Cert.GluIdeal.τ).loc Cert.GluIdeal.main_arg6))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v39) = v0 c
          ∧ r.2.mem ((c.tc : Thread Cert.GluReferenceIdeal.nD Cert.GluReferenceIdeal.τ).loc Cert.GluReferenceIdeal.main_v62) = v1 c
          ∧ r.2.mem ((c.tc : Thread Cert.GluReferenceIdeal.nD Cert.GluReferenceIdeal.τ).loc Cert.GluReferenceIdeal.main_v64) = v2 c
          ∧ r.2.mem ((c.tc : Thread Cert.GluReferenceIdeal.nD Cert.GluReferenceIdeal.τ).loc Cert.GluReferenceIdeal.main_v69) = v3 c
          ∧ r.2.mem ((c.tc : Thread Cert.GluReferenceIdeal.nD Cert.GluReferenceIdeal.τ).loc Cert.GluReferenceIdeal.main_v70) = v4 c
          ∧ r.2.mem ((c.tc : Thread Cert.GluReferenceIdeal.nD Cert.GluReferenceIdeal.τ).loc Cert.GluReferenceIdeal.main_v71) = v5 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2)
          ∧ r.2.mem ((c.tc : Thread Cert.GluReferenceIdeal.nD Cert.GluReferenceIdeal.τ).loc Cert.GluReferenceIdeal.main_arg3) = m' ((c.tc : Thread Cert.GluReferenceIdeal.nD Cert.GluReferenceIdeal.τ).loc Cert.GluReferenceIdeal.main_arg3)
          ∧ r.2.mem ((c.tc : Thread Cert.GluReferenceIdeal.nD Cert.GluReferenceIdeal.τ).loc Cert.GluReferenceIdeal.main_arg4) = m' ((c.tc : Thread Cert.GluReferenceIdeal.nD Cert.GluReferenceIdeal.τ).loc Cert.GluReferenceIdeal.main_arg4)
          ∧ r.2.mem ((c.tc : Thread Cert.GluReferenceIdeal.nD Cert.GluReferenceIdeal.τ).loc Cert.GluReferenceIdeal.main_arg5) = m' ((c.tc : Thread Cert.GluReferenceIdeal.nD Cert.GluReferenceIdeal.τ).loc Cert.GluReferenceIdeal.main_arg5)
          ∧ r.2.mem ((c.tc : Thread Cert.GluReferenceIdeal.nD Cert.GluReferenceIdeal.τ).loc Cert.GluReferenceIdeal.main_arg6) = m' ((c.tc : Thread Cert.GluReferenceIdeal.nD Cert.GluReferenceIdeal.τ).loc Cert.GluReferenceIdeal.main_arg6))

def preserves_Xa_XaIdeal : Prop :=
  True

def algebraic_XaIdeal_XaReferenceIdeal [hXaIdeal : Cert.XaIdeal.Facts] [hXaReferenceIdeal : Cert.XaReferenceIdeal.Facts] : Prop :=
  ∀ (m : (ℓ : Loc Cert.XaIdeal.nD Cert.XaIdeal.τ Cert.XaIdeal.sig) → Buf (Elt Ideal) ℓ) (g : Dev Cert.XaIdeal.nD → PrngReg)
    (m' : (ℓ : Loc Cert.XaReferenceIdeal.nD Cert.XaReferenceIdeal.τ Cert.XaReferenceIdeal.sig) → Buf (Elt Ideal) ℓ) (g' : Dev Cert.XaReferenceIdeal.nD → PrngReg), Pre_XaIdeal m →
    (∀ c : Dev Cert.XaIdeal.nD,
      m' ((c.tc : Thread Cert.XaReferenceIdeal.nD Cert.XaReferenceIdeal.τ).loc Cert.XaReferenceIdeal.main_arg0) = m ((c.tc : Thread Cert.XaIdeal.nD Cert.XaIdeal.τ).loc Cert.XaIdeal.main_arg0)
      ∧ m' ((c.tc : Thread Cert.XaReferenceIdeal.nD Cert.XaReferenceIdeal.τ).loc Cert.XaReferenceIdeal.main_arg1) = m ((c.tc : Thread Cert.XaIdeal.nD Cert.XaIdeal.τ).loc Cert.XaIdeal.main_arg1)
      ∧ m' ((c.tc : Thread Cert.XaReferenceIdeal.nD Cert.XaReferenceIdeal.τ).loc Cert.XaReferenceIdeal.main_arg2) = m ((c.tc : Thread Cert.XaIdeal.nD Cert.XaIdeal.τ).loc Cert.XaIdeal.main_arg2)
      ∧ m' ((c.tc : Thread Cert.XaReferenceIdeal.nD Cert.XaReferenceIdeal.τ).loc Cert.XaReferenceIdeal.main_arg3) = m ((c.tc : Thread Cert.XaIdeal.nD Cert.XaIdeal.τ).loc Cert.XaIdeal.main_arg3)
      ∧ m' ((c.tc : Thread Cert.XaReferenceIdeal.nD Cert.XaReferenceIdeal.τ).loc Cert.XaReferenceIdeal.main_arg4) = m ((c.tc : Thread Cert.XaIdeal.nD Cert.XaIdeal.τ).loc Cert.XaIdeal.main_arg4)
      ∧ m' ((c.tc : Thread Cert.XaReferenceIdeal.nD Cert.XaReferenceIdeal.τ).loc Cert.XaReferenceIdeal.main_arg5) = m ((c.tc : Thread Cert.XaIdeal.nD Cert.XaIdeal.τ).loc Cert.XaIdeal.main_arg5)
      ∧ m' ((c.tc : Thread Cert.XaReferenceIdeal.nD Cert.XaReferenceIdeal.τ).loc Cert.XaReferenceIdeal.main_arg6) = m ((c.tc : Thread Cert.XaIdeal.nD Cert.XaIdeal.τ).loc Cert.XaIdeal.main_arg6)) →
    ∃ (v0 : (c : Dev Cert.XaIdeal.nD) → Buf (Elt Ideal) ((c.tc : Thread Cert.XaIdeal.nD Cert.XaIdeal.τ).loc Cert.XaIdeal.main_v7)) (v1 : (c : Dev Cert.XaIdeal.nD) → Buf (Elt Ideal) ((c.tc : Thread Cert.XaIdeal.nD Cert.XaIdeal.τ).loc Cert.XaIdeal.main_v9)) (v2 : (c : Dev Cert.XaIdeal.nD) → Buf (Elt Ideal) ((c.tc : Thread Cert.XaIdeal.nD Cert.XaIdeal.τ).loc Cert.XaIdeal.main_v11)) (v3 : (c : Dev Cert.XaIdeal.nD) → Buf (Elt Ideal) ((c.tc : Thread Cert.XaIdeal.nD Cert.XaIdeal.τ).loc Cert.XaIdeal.main_v18_0)) (v4 : (c : Dev Cert.XaIdeal.nD) → Buf (Elt Ideal) ((c.tc : Thread Cert.XaIdeal.nD Cert.XaIdeal.τ).loc Cert.XaIdeal.main_v18_1)) (v5 : (c : Dev Cert.XaIdeal.nD) → Buf (Elt Ideal) ((c.tc : Thread Cert.XaIdeal.nD Cert.XaIdeal.τ).loc Cert.XaIdeal.main_v19)) (v6 : (c : Dev Cert.XaIdeal.nD) → Buf (Elt Ideal) ((c.tc : Thread Cert.XaIdeal.nD Cert.XaIdeal.τ).loc Cert.XaIdeal.main_v20)),
      θ_run (Cert.XaIdeal.defs (F := Ideal)) (onTc (τ := Cert.XaIdeal.τ) (Cert.XaIdeal.main (F := Ideal))) ⟨m, fun _ => 0, g⟩ (fun r => ∀ c : Dev Cert.XaIdeal.nD,
          r.2.mem ((c.tc : Thread Cert.XaIdeal.nD Cert.XaIdeal.τ).loc Cert.XaIdeal.main_v7) = v0 c
          ∧ r.2.mem ((c.tc : Thread Cert.XaIdeal.nD Cert.XaIdeal.τ).loc Cert.XaIdeal.main_v9) = v1 c
          ∧ r.2.mem ((c.tc : Thread Cert.XaIdeal.nD Cert.XaIdeal.τ).loc Cert.XaIdeal.main_v11) = v2 c
          ∧ r.2.mem ((c.tc : Thread Cert.XaIdeal.nD Cert.XaIdeal.τ).loc Cert.XaIdeal.main_v18_0) = v3 c
          ∧ r.2.mem ((c.tc : Thread Cert.XaIdeal.nD Cert.XaIdeal.τ).loc Cert.XaIdeal.main_v18_1) = v4 c
          ∧ r.2.mem ((c.tc : Thread Cert.XaIdeal.nD Cert.XaIdeal.τ).loc Cert.XaIdeal.main_v19) = v5 c
          ∧ r.2.mem ((c.tc : Thread Cert.XaIdeal.nD Cert.XaIdeal.τ).loc Cert.XaIdeal.main_v20) = v6 c
          ∧ r.2.mem ((c.tc : Thread Cert.XaIdeal.nD Cert.XaIdeal.τ).loc Cert.XaIdeal.main_arg0) = m ((c.tc : Thread Cert.XaIdeal.nD Cert.XaIdeal.τ).loc Cert.XaIdeal.main_arg0)
          ∧ r.2.mem ((c.tc : Thread Cert.XaIdeal.nD Cert.XaIdeal.τ).loc Cert.XaIdeal.main_arg1) = m ((c.tc : Thread Cert.XaIdeal.nD Cert.XaIdeal.τ).loc Cert.XaIdeal.main_arg1)
          ∧ r.2.mem ((c.tc : Thread Cert.XaIdeal.nD Cert.XaIdeal.τ).loc Cert.XaIdeal.main_arg2) = m ((c.tc : Thread Cert.XaIdeal.nD Cert.XaIdeal.τ).loc Cert.XaIdeal.main_arg2)
          ∧ r.2.mem ((c.tc : Thread Cert.XaIdeal.nD Cert.XaIdeal.τ).loc Cert.XaIdeal.main_arg3) = m ((c.tc : Thread Cert.XaIdeal.nD Cert.XaIdeal.τ).loc Cert.XaIdeal.main_arg3)
          ∧ r.2.mem ((c.tc : Thread Cert.XaIdeal.nD Cert.XaIdeal.τ).loc Cert.XaIdeal.main_arg4) = m ((c.tc : Thread Cert.XaIdeal.nD Cert.XaIdeal.τ).loc Cert.XaIdeal.main_arg4)
          ∧ r.2.mem ((c.tc : Thread Cert.XaIdeal.nD Cert.XaIdeal.τ).loc Cert.XaIdeal.main_arg5) = m ((c.tc : Thread Cert.XaIdeal.nD Cert.XaIdeal.τ).loc Cert.XaIdeal.main_arg5)
          ∧ r.2.mem ((c.tc : Thread Cert.XaIdeal.nD Cert.XaIdeal.τ).loc Cert.XaIdeal.main_arg6) = m ((c.tc : Thread Cert.XaIdeal.nD Cert.XaIdeal.τ).loc Cert.XaIdeal.main_arg6))
      ∧ θ_run (Cert.XaReferenceIdeal.defs (F := Ideal)) (onTc (τ := Cert.XaReferenceIdeal.τ) (Cert.XaReferenceIdeal.main (F := Ideal))) ⟨m', fun _ => 0, g'⟩ (fun r => ∀ c : Dev Cert.XaReferenceIdeal.nD,
          r.2.mem ((c.tc : Thread Cert.XaReferenceIdeal.nD Cert.XaReferenceIdeal.τ).loc Cert.XaReferenceIdeal.main_v17) = v0 c
          ∧ r.2.mem ((c.tc : Thread Cert.XaReferenceIdeal.nD Cert.XaReferenceIdeal.τ).loc Cert.XaReferenceIdeal.main_v21) = v1 c
          ∧ r.2.mem ((c.tc : Thread Cert.XaReferenceIdeal.nD Cert.XaReferenceIdeal.τ).loc Cert.XaReferenceIdeal.main_v48) = v2 c
          ∧ r.2.mem ((c.tc : Thread Cert.XaReferenceIdeal.nD Cert.XaReferenceIdeal.τ).loc Cert.XaReferenceIdeal.main_v49) = v3 c
          ∧ r.2.mem ((c.tc : Thread Cert.XaReferenceIdeal.nD Cert.XaReferenceIdeal.τ).loc Cert.XaReferenceIdeal.main_v50) = v4 c
          ∧ r.2.mem ((c.tc : Thread Cert.XaReferenceIdeal.nD Cert.XaReferenceIdeal.τ).loc Cert.XaReferenceIdeal.main_v51) = v5 c
          ∧ r.2.mem ((c.tc : Thread Cert.XaReferenceIdeal.nD Cert.XaReferenceIdeal.τ).loc Cert.XaReferenceIdeal.main_v52) = v6 c
          ∧ r.2.mem ((c.tc : Thread Cert.XaReferenceIdeal.nD Cert.XaReferenceIdeal.τ).loc Cert.XaReferenceIdeal.main_arg0) = m' ((c.tc : Thread Cert.XaReferenceIdeal.nD Cert.XaReferenceIdeal.τ).loc Cert.XaReferenceIdeal.main_arg0)
          ∧ r.2.mem ((c.tc : Thread Cert.XaReferenceIdeal.nD Cert.XaReferenceIdeal.τ).loc Cert.XaReferenceIdeal.main_arg1) = m' ((c.tc : Thread Cert.XaReferenceIdeal.nD Cert.XaReferenceIdeal.τ).loc Cert.XaReferenceIdeal.main_arg1)
          ∧ r.2.mem ((c.tc : Thread Cert.XaReferenceIdeal.nD Cert.XaReferenceIdeal.τ).loc Cert.XaReferenceIdeal.main_arg2) = m' ((c.tc : Thread Cert.XaReferenceIdeal.nD Cert.XaReferenceIdeal.τ).loc Cert.XaReferenceIdeal.main_arg2)
          ∧ r.2.mem ((c.tc : Thread Cert.XaReferenceIdeal.nD Cert.XaReferenceIdeal.τ).loc Cert.XaReferenceIdeal.main_arg3) = m' ((c.tc : Thread Cert.XaReferenceIdeal.nD Cert.XaReferenceIdeal.τ).loc Cert.XaReferenceIdeal.main_arg3)
          ∧ r.2.mem ((c.tc : Thread Cert.XaReferenceIdeal.nD Cert.XaReferenceIdeal.τ).loc Cert.XaReferenceIdeal.main_arg4) = m' ((c.tc : Thread Cert.XaReferenceIdeal.nD Cert.XaReferenceIdeal.τ).loc Cert.XaReferenceIdeal.main_arg4)
          ∧ r.2.mem ((c.tc : Thread Cert.XaReferenceIdeal.nD Cert.XaReferenceIdeal.τ).loc Cert.XaReferenceIdeal.main_arg5) = m' ((c.tc : Thread Cert.XaReferenceIdeal.nD Cert.XaReferenceIdeal.τ).loc Cert.XaReferenceIdeal.main_arg5)
          ∧ r.2.mem ((c.tc : Thread Cert.XaReferenceIdeal.nD Cert.XaReferenceIdeal.τ).loc Cert.XaReferenceIdeal.main_arg6) = m' ((c.tc : Thread Cert.XaReferenceIdeal.nD Cert.XaReferenceIdeal.τ).loc Cert.XaReferenceIdeal.main_arg6))

def preserves_Core_CoreIdeal : Prop :=
  True

def algebraic_CoreIdeal_CoreReferenceIdeal [hCoreIdeal : Cert.CoreIdeal.Facts] [hCoreReferenceIdeal : Cert.CoreReferenceIdeal.Facts] : Prop :=
  ∀ (m : (ℓ : Loc Cert.CoreIdeal.nD Cert.CoreIdeal.τ Cert.CoreIdeal.sig) → Buf (Elt Ideal) ℓ) (g : Dev Cert.CoreIdeal.nD → PrngReg)
    (m' : (ℓ : Loc Cert.CoreReferenceIdeal.nD Cert.CoreReferenceIdeal.τ Cert.CoreReferenceIdeal.sig) → Buf (Elt Ideal) ℓ) (g' : Dev Cert.CoreReferenceIdeal.nD → PrngReg), Pre_CoreIdeal m →
    (∀ c : Dev Cert.CoreIdeal.nD,
      m' ((c.tc : Thread Cert.CoreReferenceIdeal.nD Cert.CoreReferenceIdeal.τ).loc Cert.CoreReferenceIdeal.main_arg0) = m ((c.tc : Thread Cert.CoreIdeal.nD Cert.CoreIdeal.τ).loc Cert.CoreIdeal.main_arg0)
      ∧ m' ((c.tc : Thread Cert.CoreReferenceIdeal.nD Cert.CoreReferenceIdeal.τ).loc Cert.CoreReferenceIdeal.main_arg1) = m ((c.tc : Thread Cert.CoreIdeal.nD Cert.CoreIdeal.τ).loc Cert.CoreIdeal.main_arg1)
      ∧ m' ((c.tc : Thread Cert.CoreReferenceIdeal.nD Cert.CoreReferenceIdeal.τ).loc Cert.CoreReferenceIdeal.main_arg2) = m ((c.tc : Thread Cert.CoreIdeal.nD Cert.CoreIdeal.τ).loc Cert.CoreIdeal.main_arg2)
      ∧ m' ((c.tc : Thread Cert.CoreReferenceIdeal.nD Cert.CoreReferenceIdeal.τ).loc Cert.CoreReferenceIdeal.main_arg3) = m ((c.tc : Thread Cert.CoreIdeal.nD Cert.CoreIdeal.τ).loc Cert.CoreIdeal.main_arg3)
      ∧ m' ((c.tc : Thread Cert.CoreReferenceIdeal.nD Cert.CoreReferenceIdeal.τ).loc Cert.CoreReferenceIdeal.main_arg4) = m ((c.tc : Thread Cert.CoreIdeal.nD Cert.CoreIdeal.τ).loc Cert.CoreIdeal.main_arg4)) →
    ∃ (v0 : (c : Dev Cert.CoreIdeal.nD) → Buf (Elt Ideal) ((c.tc : Thread Cert.CoreIdeal.nD Cert.CoreIdeal.τ).loc Cert.CoreIdeal.main_v3)) (v1 : (c : Dev Cert.CoreIdeal.nD) → Buf (Elt Ideal) ((c.tc : Thread Cert.CoreIdeal.nD Cert.CoreIdeal.τ).loc Cert.CoreIdeal.main_v6_0)) (v2 : (c : Dev Cert.CoreIdeal.nD) → Buf (Elt Ideal) ((c.tc : Thread Cert.CoreIdeal.nD Cert.CoreIdeal.τ).loc Cert.CoreIdeal.main_v6_1)) (v3 : (c : Dev Cert.CoreIdeal.nD) → Buf (Elt Ideal) ((c.tc : Thread Cert.CoreIdeal.nD Cert.CoreIdeal.τ).loc Cert.CoreIdeal.main_v6_2)) (v4 : (c : Dev Cert.CoreIdeal.nD) → Buf (Elt Ideal) ((c.tc : Thread Cert.CoreIdeal.nD Cert.CoreIdeal.τ).loc Cert.CoreIdeal.main_v6_3)),
      θ_run (Cert.CoreIdeal.defs (F := Ideal)) (onTc (τ := Cert.CoreIdeal.τ) (Cert.CoreIdeal.main (F := Ideal))) ⟨m, fun _ => 0, g⟩ (fun r => ∀ c : Dev Cert.CoreIdeal.nD,
          r.2.mem ((c.tc : Thread Cert.CoreIdeal.nD Cert.CoreIdeal.τ).loc Cert.CoreIdeal.main_v3) = v0 c
          ∧ r.2.mem ((c.tc : Thread Cert.CoreIdeal.nD Cert.CoreIdeal.τ).loc Cert.CoreIdeal.main_v6_0) = v1 c
          ∧ r.2.mem ((c.tc : Thread Cert.CoreIdeal.nD Cert.CoreIdeal.τ).loc Cert.CoreIdeal.main_v6_1) = v2 c
          ∧ r.2.mem ((c.tc : Thread Cert.CoreIdeal.nD Cert.CoreIdeal.τ).loc Cert.CoreIdeal.main_v6_2) = v3 c
          ∧ r.2.mem ((c.tc : Thread Cert.CoreIdeal.nD Cert.CoreIdeal.τ).loc Cert.CoreIdeal.main_v6_3) = v4 c
          ∧ r.2.mem ((c.tc : Thread Cert.CoreIdeal.nD Cert.CoreIdeal.τ).loc Cert.CoreIdeal.main_arg0) = m ((c.tc : Thread Cert.CoreIdeal.nD Cert.CoreIdeal.τ).loc Cert.CoreIdeal.main_arg0)
          ∧ r.2.mem ((c.tc : Thread Cert.CoreIdeal.nD Cert.CoreIdeal.τ).loc Cert.CoreIdeal.main_arg1) = m ((c.tc : Thread Cert.CoreIdeal.nD Cert.CoreIdeal.τ).loc Cert.CoreIdeal.main_arg1)
          ∧ r.2.mem ((c.tc : Thread Cert.CoreIdeal.nD Cert.CoreIdeal.τ).loc Cert.CoreIdeal.main_arg2) = m ((c.tc : Thread Cert.CoreIdeal.nD Cert.CoreIdeal.τ).loc Cert.CoreIdeal.main_arg2)
          ∧ r.2.mem ((c.tc : Thread Cert.CoreIdeal.nD Cert.CoreIdeal.τ).loc Cert.CoreIdeal.main_arg3) = m ((c.tc : Thread Cert.CoreIdeal.nD Cert.CoreIdeal.τ).loc Cert.CoreIdeal.main_arg3)
          ∧ r.2.mem ((c.tc : Thread Cert.CoreIdeal.nD Cert.CoreIdeal.τ).loc Cert.CoreIdeal.main_arg4) = m ((c.tc : Thread Cert.CoreIdeal.nD Cert.CoreIdeal.τ).loc Cert.CoreIdeal.main_arg4))
      ∧ θ_run (Cert.CoreReferenceIdeal.defs (F := Ideal)) (onTc (τ := Cert.CoreReferenceIdeal.τ) (Cert.CoreReferenceIdeal.main (F := Ideal))) ⟨m', fun _ => 0, g'⟩ (fun r => ∀ c : Dev Cert.CoreReferenceIdeal.nD,
          r.2.mem ((c.tc : Thread Cert.CoreReferenceIdeal.nD Cert.CoreReferenceIdeal.τ).loc Cert.CoreReferenceIdeal.main_v88) = v0 c
          ∧ r.2.mem ((c.tc : Thread Cert.CoreReferenceIdeal.nD Cert.CoreReferenceIdeal.τ).loc Cert.CoreReferenceIdeal.main_v87) = v1 c
          ∧ r.2.mem ((c.tc : Thread Cert.CoreReferenceIdeal.nD Cert.CoreReferenceIdeal.τ).loc Cert.CoreReferenceIdeal.main_v66) = v2 c
          ∧ r.2.mem ((c.tc : Thread Cert.CoreReferenceIdeal.nD Cert.CoreReferenceIdeal.τ).loc Cert.CoreReferenceIdeal.main_v47) = v3 c
          ∧ r.2.mem ((c.tc : Thread Cert.CoreReferenceIdeal.nD Cert.CoreReferenceIdeal.τ).loc Cert.CoreReferenceIdeal.main_v89) = v4 c
          ∧ r.2.mem ((c.tc : Thread Cert.CoreReferenceIdeal.nD Cert.CoreReferenceIdeal.τ).loc Cert.CoreReferenceIdeal.main_arg0) = m' ((c.tc : Thread Cert.CoreReferenceIdeal.nD Cert.CoreReferenceIdeal.τ).loc Cert.CoreReferenceIdeal.main_arg0)
          ∧ r.2.mem ((c.tc : Thread Cert.CoreReferenceIdeal.nD Cert.CoreReferenceIdeal.τ).loc Cert.CoreReferenceIdeal.main_arg1) = m' ((c.tc : Thread Cert.CoreReferenceIdeal.nD Cert.CoreReferenceIdeal.τ).loc Cert.CoreReferenceIdeal.main_arg1)
          ∧ r.2.mem ((c.tc : Thread Cert.CoreReferenceIdeal.nD Cert.CoreReferenceIdeal.τ).loc Cert.CoreReferenceIdeal.main_arg2) = m' ((c.tc : Thread Cert.CoreReferenceIdeal.nD Cert.CoreReferenceIdeal.τ).loc Cert.CoreReferenceIdeal.main_arg2)
          ∧ r.2.mem ((c.tc : Thread Cert.CoreReferenceIdeal.nD Cert.CoreReferenceIdeal.τ).loc Cert.CoreReferenceIdeal.main_arg3) = m' ((c.tc : Thread Cert.CoreReferenceIdeal.nD Cert.CoreReferenceIdeal.τ).loc Cert.CoreReferenceIdeal.main_arg3)
          ∧ r.2.mem ((c.tc : Thread Cert.CoreReferenceIdeal.nD Cert.CoreReferenceIdeal.τ).loc Cert.CoreReferenceIdeal.main_arg4) = m' ((c.tc : Thread Cert.CoreReferenceIdeal.nD Cert.CoreReferenceIdeal.τ).loc Cert.CoreReferenceIdeal.main_arg4))

def preserves_Adam_AdamIdeal : Prop :=
  True

def algebraic_AdamIdeal_AdamReferenceIdeal [hAdamIdeal : Cert.AdamIdeal.Facts] [hAdamReferenceIdeal : Cert.AdamReferenceIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamIdeal m →
    (∀ c : Dev Cert.AdamIdeal.nD,
      m' ((c.tc : Thread Cert.AdamReferenceIdeal.nD Cert.AdamReferenceIdeal.τ).loc Cert.AdamReferenceIdeal.main_arg0) = m ((c.tc : Thread Cert.AdamIdeal.nD Cert.AdamIdeal.τ).loc Cert.AdamIdeal.main_arg0)
      ∧ m' ((c.tc : Thread Cert.AdamReferenceIdeal.nD Cert.AdamReferenceIdeal.τ).loc Cert.AdamReferenceIdeal.main_arg1) = m ((c.tc : Thread Cert.AdamIdeal.nD Cert.AdamIdeal.τ).loc Cert.AdamIdeal.main_arg1)
      ∧ m' ((c.tc : Thread Cert.AdamReferenceIdeal.nD Cert.AdamReferenceIdeal.τ).loc Cert.AdamReferenceIdeal.main_arg2) = m ((c.tc : Thread Cert.AdamIdeal.nD Cert.AdamIdeal.τ).loc Cert.AdamIdeal.main_arg2)
      ∧ m' ((c.tc : Thread Cert.AdamReferenceIdeal.nD Cert.AdamReferenceIdeal.τ).loc Cert.AdamReferenceIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v23) = v0 c
          ∧ r.2.mem ((c.tc : Thread Cert.AdamReferenceIdeal.nD Cert.AdamReferenceIdeal.τ).loc Cert.AdamReferenceIdeal.main_v4) = v1 c
          ∧ r.2.mem ((c.tc : Thread Cert.AdamReferenceIdeal.nD Cert.AdamReferenceIdeal.τ).loc Cert.AdamReferenceIdeal.main_v10) = v2 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def preserves_Mem_MemIdeal : Prop :=
  True

def algebraic_MemIdeal_MemReferenceIdeal [hMemIdeal : Cert.MemIdeal.Facts] [hMemReferenceIdeal : Cert.MemReferenceIdeal.Facts] : Prop :=
  ∀ (m : (ℓ : Loc Cert.MemIdeal.nD Cert.MemIdeal.τ Cert.MemIdeal.sig) → Buf (Elt Ideal) ℓ) (g : Dev Cert.MemIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemIdeal m →
    (∀ c : Dev Cert.MemIdeal.nD,
      m' ((c.tc : Thread Cert.MemReferenceIdeal.nD Cert.MemReferenceIdeal.τ).loc Cert.MemReferenceIdeal.main_arg0) = m ((c.tc : Thread Cert.MemIdeal.nD Cert.MemIdeal.τ).loc Cert.MemIdeal.main_arg0)
      ∧ m' ((c.tc : Thread Cert.MemReferenceIdeal.nD Cert.MemReferenceIdeal.τ).loc Cert.MemReferenceIdeal.main_arg1) = m ((c.tc : Thread Cert.MemIdeal.nD Cert.MemIdeal.τ).loc Cert.MemIdeal.main_arg1)
      ∧ m' ((c.tc : Thread Cert.MemReferenceIdeal.nD Cert.MemReferenceIdeal.τ).loc Cert.MemReferenceIdeal.main_arg2) = m ((c.tc : Thread Cert.MemIdeal.nD Cert.MemIdeal.τ).loc Cert.MemIdeal.main_arg2)
      ∧ m' ((c.tc : Thread Cert.MemReferenceIdeal.nD Cert.MemReferenceIdeal.τ).loc Cert.MemReferenceIdeal.main_arg3) = m ((c.tc : Thread Cert.MemIdeal.nD Cert.MemIdeal.τ).loc Cert.MemIdeal.main_arg3)
      ∧ m' ((c.tc : Thread Cert.MemReferenceIdeal.nD Cert.MemReferenceIdeal.τ).loc Cert.MemReferenceIdeal.main_arg4) = m ((c.tc : Thread Cert.MemIdeal.nD Cert.MemIdeal.τ).loc Cert.MemIdeal.main_arg4)) →
    ∃ (v0 : (c : Dev Cert.MemIdeal.nD) → Buf (Elt Ideal) ((c.tc : Thread Cert.MemIdeal.nD Cert.MemIdeal.τ).loc Cert.MemIdeal.main_v0_0)) (v1 : (c : Dev Cert.MemIdeal.nD) → Buf (Elt Ideal) ((c.tc : Thread Cert.MemIdeal.nD Cert.MemIdeal.τ).loc Cert.MemIdeal.main_v0_1)),
      θ_run (Cert.MemIdeal.defs (F := Ideal)) (onTc (τ := Cert.MemIdeal.τ) (Cert.MemIdeal.main (F := Ideal))) ⟨m, fun _ => 0, g⟩ (fun r => ∀ c : Dev Cert.MemIdeal.nD,
          r.2.mem ((c.tc : Thread Cert.MemIdeal.nD Cert.MemIdeal.τ).loc Cert.MemIdeal.main_v0_0) = v0 c
          ∧ r.2.mem ((c.tc : Thread Cert.MemIdeal.nD Cert.MemIdeal.τ).loc Cert.MemIdeal.main_v0_1) = v1 c
          ∧ r.2.mem ((c.tc : Thread Cert.MemIdeal.nD Cert.MemIdeal.τ).loc Cert.MemIdeal.main_arg0) = m ((c.tc : Thread Cert.MemIdeal.nD Cert.MemIdeal.τ).loc Cert.MemIdeal.main_arg0)
          ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
          ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
          ∧ r.2.mem ((c.tc : Thread Cert.MemIdeal.nD Cert.MemIdeal.τ).loc Cert.MemIdeal.main_arg3) = m ((c.tc : Thread Cert.MemIdeal.nD Cert.MemIdeal.τ).loc Cert.MemIdeal.main_arg3)
          ∧ r.2.mem ((c.tc : Thread Cert.MemIdeal.nD Cert.MemIdeal.τ).loc Cert.MemIdeal.main_arg4) = m ((c.tc : Thread Cert.MemIdeal.nD Cert.MemIdeal.τ).loc Cert.MemIdeal.main_arg4))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v30) = v0 c
          ∧ r.2.mem ((c.tc : Thread Cert.MemReferenceIdeal.nD Cert.MemReferenceIdeal.τ).loc Cert.MemReferenceIdeal.main_v31) = v1 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3)
          ∧ r.2.mem ((c.tc : Thread Cert.MemReferenceIdeal.nD Cert.MemReferenceIdeal.τ).loc Cert.MemReferenceIdeal.main_arg4) = m' ((c.tc : Thread Cert.MemReferenceIdeal.nD Cert.MemReferenceIdeal.τ).loc Cert.MemReferenceIdeal.main_arg4))

def preserves_MemB_MemBIdeal : Prop :=
  True

def algebraic_MemBIdeal_MemBReferenceIdeal [hMemBIdeal : Cert.MemBIdeal.Facts] [hMemBReferenceIdeal : Cert.MemBReferenceIdeal.Facts] : Prop :=
  ∀ (m : (ℓ : Loc Cert.MemBIdeal.nD Cert.MemBIdeal.τ Cert.MemBIdeal.sig) → Buf (Elt Ideal) ℓ) (g : Dev Cert.MemBIdeal.nD → PrngReg)
    (m' : (ℓ : Loc Cert.MemBReferenceIdeal.nD Cert.MemBReferenceIdeal.τ Cert.MemBReferenceIdeal.sig) → Buf (Elt Ideal) ℓ) (g' : Dev Cert.MemBReferenceIdeal.nD → PrngReg), Pre_MemBIdeal m →
    (∀ c : Dev Cert.MemBIdeal.nD,
      m' ((c.tc : Thread Cert.MemBReferenceIdeal.nD Cert.MemBReferenceIdeal.τ).loc Cert.MemBReferenceIdeal.main_arg0) = m ((c.tc : Thread Cert.MemBIdeal.nD Cert.MemBIdeal.τ).loc Cert.MemBIdeal.main_arg0)
      ∧ m' ((c.tc : Thread Cert.MemBReferenceIdeal.nD Cert.MemBReferenceIdeal.τ).loc Cert.MemBReferenceIdeal.main_arg1) = m ((c.tc : Thread Cert.MemBIdeal.nD Cert.MemBIdeal.τ).loc Cert.MemBIdeal.main_arg1)
      ∧ m' ((c.tc : Thread Cert.MemBReferenceIdeal.nD Cert.MemBReferenceIdeal.τ).loc Cert.MemBReferenceIdeal.main_arg2) = m ((c.tc : Thread Cert.MemBIdeal.nD Cert.MemBIdeal.τ).loc Cert.MemBIdeal.main_arg2)
      ∧ m' ((c.tc : Thread Cert.MemBReferenceIdeal.nD Cert.MemBReferenceIdeal.τ).loc Cert.MemBReferenceIdeal.main_arg3) = m ((c.tc : Thread Cert.MemBIdeal.nD Cert.MemBIdeal.τ).loc Cert.MemBIdeal.main_arg3)
      ∧ m' ((c.tc : Thread Cert.MemBReferenceIdeal.nD Cert.MemBReferenceIdeal.τ).loc Cert.MemBReferenceIdeal.main_arg4) = m ((c.tc : Thread Cert.MemBIdeal.nD Cert.MemBIdeal.τ).loc Cert.MemBIdeal.main_arg4)
      ∧ m' ((c.tc : Thread Cert.MemBReferenceIdeal.nD Cert.MemBReferenceIdeal.τ).loc Cert.MemBReferenceIdeal.main_arg5) = m ((c.tc : Thread Cert.MemBIdeal.nD Cert.MemBIdeal.τ).loc Cert.MemBIdeal.main_arg5)
      ∧ m' ((c.tc : Thread Cert.MemBReferenceIdeal.nD Cert.MemBReferenceIdeal.τ).loc Cert.MemBReferenceIdeal.main_arg6) = m ((c.tc : Thread Cert.MemBIdeal.nD Cert.MemBIdeal.τ).loc Cert.MemBIdeal.main_arg6)) →
    ∃ (v0 : (c : Dev Cert.MemBIdeal.nD) → Buf (Elt Ideal) ((c.tc : Thread Cert.MemBIdeal.nD Cert.MemBIdeal.τ).loc Cert.MemBIdeal.main_v0_0)) (v1 : (c : Dev Cert.MemBIdeal.nD) → Buf (Elt Ideal) ((c.tc : Thread Cert.MemBIdeal.nD Cert.MemBIdeal.τ).loc Cert.MemBIdeal.main_v0_1)) (v2 : (c : Dev Cert.MemBIdeal.nD) → Buf (Elt Ideal) ((c.tc : Thread Cert.MemBIdeal.nD Cert.MemBIdeal.τ).loc Cert.MemBIdeal.main_v0_2)) (v3 : (c : Dev Cert.MemBIdeal.nD) → Buf (Elt Ideal) ((c.tc : Thread Cert.MemBIdeal.nD Cert.MemBIdeal.τ).loc Cert.MemBIdeal.main_v0_3)),
      θ_run (Cert.MemBIdeal.defs (F := Ideal)) (onTc (τ := Cert.MemBIdeal.τ) (Cert.MemBIdeal.main (F := Ideal))) ⟨m, fun _ => 0, g⟩ (fun r => ∀ c : Dev Cert.MemBIdeal.nD,
          r.2.mem ((c.tc : Thread Cert.MemBIdeal.nD Cert.MemBIdeal.τ).loc Cert.MemBIdeal.main_v0_0) = v0 c
          ∧ r.2.mem ((c.tc : Thread Cert.MemBIdeal.nD Cert.MemBIdeal.τ).loc Cert.MemBIdeal.main_v0_1) = v1 c
          ∧ r.2.mem ((c.tc : Thread Cert.MemBIdeal.nD Cert.MemBIdeal.τ).loc Cert.MemBIdeal.main_v0_2) = v2 c
          ∧ r.2.mem ((c.tc : Thread Cert.MemBIdeal.nD Cert.MemBIdeal.τ).loc Cert.MemBIdeal.main_v0_3) = v3 c
          ∧ r.2.mem ((c.tc : Thread Cert.MemBIdeal.nD Cert.MemBIdeal.τ).loc Cert.MemBIdeal.main_arg0) = m ((c.tc : Thread Cert.MemBIdeal.nD Cert.MemBIdeal.τ).loc Cert.MemBIdeal.main_arg0)
          ∧ r.2.mem ((c.tc : Thread Cert.MemBIdeal.nD Cert.MemBIdeal.τ).loc Cert.MemBIdeal.main_arg1) = m ((c.tc : Thread Cert.MemBIdeal.nD Cert.MemBIdeal.τ).loc Cert.MemBIdeal.main_arg1)
          ∧ r.2.mem ((c.tc : Thread Cert.MemBIdeal.nD Cert.MemBIdeal.τ).loc Cert.MemBIdeal.main_arg2) = m ((c.tc : Thread Cert.MemBIdeal.nD Cert.MemBIdeal.τ).loc Cert.MemBIdeal.main_arg2)
          ∧ r.2.mem ((c.tc : Thread Cert.MemBIdeal.nD Cert.MemBIdeal.τ).loc Cert.MemBIdeal.main_arg3) = m ((c.tc : Thread Cert.MemBIdeal.nD Cert.MemBIdeal.τ).loc Cert.MemBIdeal.main_arg3)
          ∧ r.2.mem ((c.tc : Thread Cert.MemBIdeal.nD Cert.MemBIdeal.τ).loc Cert.MemBIdeal.main_arg4) = m ((c.tc : Thread Cert.MemBIdeal.nD Cert.MemBIdeal.τ).loc Cert.MemBIdeal.main_arg4)
          ∧ r.2.mem ((c.tc : Thread Cert.MemBIdeal.nD Cert.MemBIdeal.τ).loc Cert.MemBIdeal.main_arg5) = m ((c.tc : Thread Cert.MemBIdeal.nD Cert.MemBIdeal.τ).loc Cert.MemBIdeal.main_arg5)
          ∧ r.2.mem ((c.tc : Thread Cert.MemBIdeal.nD Cert.MemBIdeal.τ).loc Cert.MemBIdeal.main_arg6) = m ((c.tc : Thread Cert.MemBIdeal.nD Cert.MemBIdeal.τ).loc Cert.MemBIdeal.main_arg6))
      ∧ θ_run (Cert.MemBReferenceIdeal.defs (F := Ideal)) (onTc (τ := Cert.MemBReferenceIdeal.τ) (Cert.MemBReferenceIdeal.main (F := Ideal))) ⟨m', fun _ => 0, g'⟩ (fun r => ∀ c : Dev Cert.MemBReferenceIdeal.nD,
          r.2.mem ((c.tc : Thread Cert.MemBReferenceIdeal.nD Cert.MemBReferenceIdeal.τ).loc Cert.MemBReferenceIdeal.main_v71) = v0 c
          ∧ r.2.mem ((c.tc : Thread Cert.MemBReferenceIdeal.nD Cert.MemBReferenceIdeal.τ).loc Cert.MemBReferenceIdeal.main_v64) = v1 c
          ∧ r.2.mem ((c.tc : Thread Cert.MemBReferenceIdeal.nD Cert.MemBReferenceIdeal.τ).loc Cert.MemBReferenceIdeal.main_v38) = v2 c
          ∧ r.2.mem ((c.tc : Thread Cert.MemBReferenceIdeal.nD Cert.MemBReferenceIdeal.τ).loc Cert.MemBReferenceIdeal.main_v61) = v3 c
          ∧ r.2.mem ((c.tc : Thread Cert.MemBReferenceIdeal.nD Cert.MemBReferenceIdeal.τ).loc Cert.MemBReferenceIdeal.main_arg0) = m' ((c.tc : Thread Cert.MemBReferenceIdeal.nD Cert.MemBReferenceIdeal.τ).loc Cert.MemBReferenceIdeal.main_arg0)
          ∧ r.2.mem ((c.tc : Thread Cert.MemBReferenceIdeal.nD Cert.MemBReferenceIdeal.τ).loc Cert.MemBReferenceIdeal.main_arg1) = m' ((c.tc : Thread Cert.MemBReferenceIdeal.nD Cert.MemBReferenceIdeal.τ).loc Cert.MemBReferenceIdeal.main_arg1)
          ∧ r.2.mem ((c.tc : Thread Cert.MemBReferenceIdeal.nD Cert.MemBReferenceIdeal.τ).loc Cert.MemBReferenceIdeal.main_arg2) = m' ((c.tc : Thread Cert.MemBReferenceIdeal.nD Cert.MemBReferenceIdeal.τ).loc Cert.MemBReferenceIdeal.main_arg2)
          ∧ r.2.mem ((c.tc : Thread Cert.MemBReferenceIdeal.nD Cert.MemBReferenceIdeal.τ).loc Cert.MemBReferenceIdeal.main_arg3) = m' ((c.tc : Thread Cert.MemBReferenceIdeal.nD Cert.MemBReferenceIdeal.τ).loc Cert.MemBReferenceIdeal.main_arg3)
          ∧ r.2.mem ((c.tc : Thread Cert.MemBReferenceIdeal.nD Cert.MemBReferenceIdeal.τ).loc Cert.MemBReferenceIdeal.main_arg4) = m' ((c.tc : Thread Cert.MemBReferenceIdeal.nD Cert.MemBReferenceIdeal.τ).loc Cert.MemBReferenceIdeal.main_arg4)
          ∧ r.2.mem ((c.tc : Thread Cert.MemBReferenceIdeal.nD Cert.MemBReferenceIdeal.τ).loc Cert.MemBReferenceIdeal.main_arg5) = m' ((c.tc : Thread Cert.MemBReferenceIdeal.nD Cert.MemBReferenceIdeal.τ).loc Cert.MemBReferenceIdeal.main_arg5)
          ∧ r.2.mem ((c.tc : Thread Cert.MemBReferenceIdeal.nD Cert.MemBReferenceIdeal.τ).loc Cert.MemBReferenceIdeal.main_arg6) = m' ((c.tc : Thread Cert.MemBReferenceIdeal.nD Cert.MemBReferenceIdeal.τ).loc Cert.MemBReferenceIdeal.main_arg6))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hProj : Cert.Proj.Facts) (hProjIdeal : Cert.ProjIdeal.Facts) (hProjReferenceIdeal : Cert.ProjReferenceIdeal.Facts) (hGlu : Cert.Glu.Facts) (hGluIdeal : Cert.GluIdeal.Facts) (hGluReferenceIdeal : Cert.GluReferenceIdeal.Facts) (hXa : Cert.Xa.Facts) (hXaIdeal : Cert.XaIdeal.Facts) (hXaReferenceIdeal : Cert.XaReferenceIdeal.Facts) (hCore : Cert.Core.Facts) (hCoreIdeal : Cert.CoreIdeal.Facts) (hCoreReferenceIdeal : Cert.CoreReferenceIdeal.Facts) (hAdam : Cert.Adam.Facts) (hAdamIdeal : Cert.AdamIdeal.Facts) (hAdamReferenceIdeal : Cert.AdamReferenceIdeal.Facts) (hMem : Cert.Mem.Facts) (hMemIdeal : Cert.MemIdeal.Facts) (hMemReferenceIdeal : Cert.MemReferenceIdeal.Facts) (hMemB : Cert.MemB.Facts) (hMemBIdeal : Cert.MemBIdeal.Facts) (hMemBReferenceIdeal : Cert.MemBReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_Xa (hXa := hXa)
    ∧ quiescent_XaIdeal (hXaIdeal := hXaIdeal)
    ∧ quiescent_XaReferenceIdeal (hXaReferenceIdeal := hXaReferenceIdeal)
    ∧ quiescent_Core (hCore := hCore)
    ∧ quiescent_CoreIdeal (hCoreIdeal := hCoreIdeal)
    ∧ quiescent_CoreReferenceIdeal (hCoreReferenceIdeal := hCoreReferenceIdeal)
    ∧ quiescent_Adam (hAdam := hAdam)
    ∧ quiescent_AdamIdeal (hAdamIdeal := hAdamIdeal)
    ∧ quiescent_AdamReferenceIdeal (hAdamReferenceIdeal := hAdamReferenceIdeal)
    ∧ quiescent_Mem (hMem := hMem)
    ∧ quiescent_MemIdeal (hMemIdeal := hMemIdeal)
    ∧ quiescent_MemReferenceIdeal (hMemReferenceIdeal := hMemReferenceIdeal)
    ∧ quiescent_MemB (hMemB := hMemB)
    ∧ quiescent_MemBIdeal (hMemBIdeal := hMemBIdeal)
    ∧ quiescent_MemBReferenceIdeal (hMemBReferenceIdeal := hMemBReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Proj_ProjIdeal
    ∧ algebraic_ProjIdeal_ProjReferenceIdeal (hProjIdeal := hProjIdeal) (hProjReferenceIdeal := hProjReferenceIdeal)
    ∧ preserves_Glu_GluIdeal
    ∧ algebraic_GluIdeal_GluReferenceIdeal (hGluIdeal := hGluIdeal) (hGluReferenceIdeal := hGluReferenceIdeal)
    ∧ preserves_Xa_XaIdeal
    ∧ algebraic_XaIdeal_XaReferenceIdeal (hXaIdeal := hXaIdeal) (hXaReferenceIdeal := hXaReferenceIdeal)
    ∧ preserves_Core_CoreIdeal
    ∧ algebraic_CoreIdeal_CoreReferenceIdeal (hCoreIdeal := hCoreIdeal) (hCoreReferenceIdeal := hCoreReferenceIdeal)
    ∧ preserves_Adam_AdamIdeal
    ∧ algebraic_AdamIdeal_AdamReferenceIdeal (hAdamIdeal := hAdamIdeal) (hAdamReferenceIdeal := hAdamReferenceIdeal)
    ∧ preserves_Mem_MemIdeal
    ∧ algebraic_MemIdeal_MemReferenceIdeal (hMemIdeal := hMemIdeal) (hMemReferenceIdeal := hMemReferenceIdeal)
    ∧ preserves_MemB_MemBIdeal
    ∧ algebraic_MemBIdeal_MemBReferenceIdeal (hMemBIdeal := hMemBIdeal) (hMemBReferenceIdeal := hMemBReferenceIdeal)
-- ==== Pre_finite.lean ====
abbrev S4096x1024 : Shape := ⟨2, ![4096, 1024]⟩
abbrev S4096x512 : Shape := ⟨2, ![4096, 512]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S4096x512 : S_.BroadcastsInDim S4096x512 (![] : Fin 0 → Fin S4096x512.rank)

variable [Facts]

def fn {F : FTy → Type} [FloatOps F] (main_arg0 : FVec F S4096x1024 .bf16) (main_arg1 : FVec F S4096x1024 .bf16) (main_arg2 : FVec F S4096x512 .bf16) (main_arg3 : FVec F S4096x512 .f32) : IVec S4096x1024 1 × IVec S4096x1024 1 × IVec S4096x512 1 × IVec S4096x512 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : FVec F S4096x512 .f32 := (extf .f32 · bitsLt_bf16_f32) main_arg2
  let main_v9 : FVec F S4096x512 .f32 := Host.absf main_v8
  let main_cst_1 : FVec F S_ .f32 := constant S_ .f32 0x7F800000#32
  let main_v10 : FVec F S4096x512 .f32 := broadcastInDim S4096x512 ![] bcast_S_S4096x512 main_cst_1
  let main_v11 : IVec S4096x512 1 := cmpf .olt main_v9 main_v10
  let main_v12 : FVec F S4096x512 .f32 := Host.absf main_arg3
  let main_cst_2 : FVec F S_ .f32 := constant S_ .f32 0x7F800000#32
  let main_v13 : FVec F S4096x512 .f32 := broadcastInDim S4096x512 ![] bcast_S_S4096x512 main_cst_2
  let main_v14 : IVec S4096x512 1 := cmpf .olt main_v12 main_v13
  (main_v3, main_v7, main_v11, main_v14)
-- ==== Kernel.lean ====
abbrev S4096x1024 : Shape := ⟨2, ![4096, 1024]⟩
abbrev S4096x512 : Shape := ⟨2, ![4096, 512]⟩
abbrev S1024x256 : Shape := ⟨2, ![1024, 256]⟩
abbrev S4096x256 : Shape := ⟨2, ![4096, 256]⟩
abbrev S4096x128 : Shape := ⟨2, ![4096, 128]⟩
abbrev S1024x128 : Shape := ⟨2, ![1024, 128]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 9
  | .vmem => 40
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x512, .bf16⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x1024, .f32⟩
  | .hbm, ⟨7, _⟩ => ⟨S4096x1024, .f32⟩
  | .hbm, ⟨8, _⟩ => ⟨S4096x512, .f32⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x256, .bf16⟩
  | .local _ .vmem, ⟨11, _⟩ => ⟨S1024x256, .bf16⟩
  | .local _ .vmem, ⟨12, _⟩ => ⟨S4096x256, .bf16⟩
  | .local _ .vmem, ⟨13, _⟩ => ⟨S4096x256, .bf16⟩
  | .local _ .vmem, ⟨14, _⟩ => ⟨S4096x128, .bf16⟩
  | .local _ .vmem, ⟨15, _⟩ => ⟨S4096x128, .bf16⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x256, .f32⟩
  | .local _ .vmem, ⟨23, _⟩ => ⟨S1024x256, .f32⟩
  | .local _ .vmem, ⟨24, _⟩ => ⟨S4096x256, .bf16⟩
  | .local _ .vmem, ⟨25, _⟩ => ⟨S4096x256, .bf16⟩
  | .local _ .vmem, ⟨26, _⟩ => ⟨S1024x256, .bf16⟩
  | .local _ .vmem, ⟨27, _⟩ => ⟨S1024x256, .bf16⟩
  | .local _ .vmem, ⟨28, _⟩ => ⟨S1024x128, .bf16⟩
  | .local _ .vmem, ⟨29, _⟩ => ⟨S1024x128, .bf16⟩
  | .local _ .vmem, ⟨30, _⟩ => ⟨S4096x128, .f32⟩
  | .local _ .vmem, ⟨31, _⟩ => ⟨S4096x128, .f32⟩
  | .local _ .vmem, ⟨32, _⟩ => ⟨S4096x128, .f32⟩
  | .local _ .vmem, ⟨33, _⟩ => ⟨S4096x128, .f32⟩
  | .local _ .vmem, ⟨34, _⟩ => ⟨S4096x128, .f32⟩
  | .local _ .vmem, ⟨35, _⟩ => ⟨S4096x128, .f32⟩
  | .local _ .vmem, ⟨36, _⟩ => ⟨S1024x256, .f32⟩
  | .local _ .vmem, ⟨37, _⟩ => ⟨S1024x256, .f32⟩
  | .local _ .vmem, ⟨38, _⟩ => ⟨S1024x128, .f32⟩
  | .local _ .vmem, ⟨39, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc2_stg6_0 : Ref sig .tc := ⟨.vmem, 36, rfl⟩
abbrev cc2_stg6_1 : Ref sig .tc := ⟨.vmem, 37, rfl⟩
abbrev cc2_stg7_0 : Ref sig .tc := ⟨.vmem, 38, rfl⟩
abbrev cc2_stg7_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35
abbrev cc2_sem6_0 : DmaSem sig := 36
abbrev cc2_sem6_1 : DmaSem sig := 37
abbrev cc2_sem7_0 : DmaSem sig := 38
abbrev cc2_sem7_1 : DmaSem sig := 39

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32 : BitVec 32 := 0#32
  let c1_i32 : BitVec 32 := 1#32
  let arg1 : BitVec 32 := BitVec.ofNat 32 (i 1).val
  let v4 : BitVec 32 := Scalar.muli c1_i32 arg1
  let v5 : BitVec 32 := Scalar.subi v4 c0_i32
  let c1_i32_3 : BitVec 32 := 1#32
  let v7 : BitVec 32 := Scalar.divsi v5 c1_i32_3
  let v8 : BitVec 32 := Scalar.muli v7 c1_i32_3
  let v9 : BitVec 32 := Scalar.addi c0_i32 v8
  let c1_i32_4 : BitVec 32 := 1#32
  ⟨c0_i32, v9, c1_i32_4⟩
def k0_mult1 (i : grid0.Coords) (k0_t1 : Fin (k0_t1_loop i).trips) : BitVec 32 :=
  let c0_i32 : BitVec 32 := 0#32
  let c1_i32_4 : BitVec 32 := 1#32
  let arg7 : BitVec 32 := Scf.iv c0_i32 c1_i32_4 k0_t1
  let c1024_i32_22 : BitVec 32 := 1024#32
  let v57 : BitVec 32 := Scalar.muli arg7 c1024_i32_22
  v57
def k0_off1 (i : grid0.Coords) (k0_t1 : Fin (k0_t1_loop i).trips) : Fin 2 → Nat :=
  let c0_i32 : BitVec 32 := 0#32
  let c1_i32_4 : BitVec 32 := 1#32
  let arg7 : BitVec 32 := Scf.iv c0_i32 c1_i32_4 k0_t1
  let c1024_i32_22 : BitVec 32 := 1024#32
  let v57 : BitVec 32 := Scalar.muli arg7 c1024_i32_22
  let v58 : BitVec 32 := v57
  let v59 : Index := Scalar.indexCast v58
  let c0_23 : Index := 0#32
  ![v59.toNat, 0]
def k0_mult2 (i : grid0.Coords) (k0_t1 : Fin (k0_t1_loop i).trips) : BitVec 32 :=
  let c0_i32 : BitVec 32 := 0#32
  let c1_i32_4 : BitVec 32 := 1#32
  let arg7 : BitVec 32 := Scf.iv c0_i32 c1_i32_4 k0_t1
  let c1024_i32_24 : BitVec 32 := 1024#32
  let v61 : BitVec 32 := Scalar.muli arg7 c1024_i32_24
  v61
def k0_off2 (i : grid0.Coords) (k0_t1 : Fin (k0_t1_loop i).trips) : Fin 2 → Nat :=
  let c0_i32 : BitVec 32 := 0#32
  let c1_i32_4 : BitVec 32 := 1#32
  let arg7 : BitVec 32 := Scf.iv c0_i32 c1_i32_4 k0_t1
  let c1024_i32_24 : BitVec 32 := 1024#32
  let v61 : BitVec 32 := Scalar.muli arg7 c1024_i32_24
  let v62 : BitVec 32 := v61
  let v63 : Index := Scalar.indexCast v62
  let c0_25 : Index := 0#32
  ![v63.toNat, 0]
@[reducible] def k0_t2_loop (i : grid0.Coords) : Scf.Loop 32 :=
  let c0_i32 : BitVec 32 := 0#32
  let c1_i32 : BitVec 32 := 1#32
  let arg1 : BitVec 32 := BitVec.ofNat 32 (i 1).val
  let v4 : BitVec 32 := Scalar.muli c1_i32 arg1
  let v5 : BitVec 32 := Scalar.subi v4 c0_i32
  let c1_i32_3 : BitVec 32 := 1#32
  let v7 : BitVec 32 := Scalar.divsi v5 c1_i32_3
  let v8 : BitVec 32 := Scalar.muli v7 c1_i32_3
  let v9 : BitVec 32 := Scalar.addi c0_i32 v8
  let v6 : BitVec 32 := Scalar.addi c0_i32 v5
  let c1_i32_5 : BitVec 32 := 1#32
  ⟨v9, v6, c1_i32_5⟩
def k0_mult3 (i : grid0.Coords) (k0_t2 : Fin (k0_t2_loop i).trips) : BitVec 32 :=
  let c0_i32 : BitVec 32 := 0#32
  let c1_i32 : BitVec 32 := 1#32
  let arg1 : BitVec 32 := BitVec.ofNat 32 (i 1).val
  let v4 : BitVec 32 := Scalar.muli c1_i32 arg1
  let v5 : BitVec 32 := Scalar.subi v4 c0_i32
  let c1_i32_3 : BitVec 32 := 1#32
  let v7 : BitVec 32 := Scalar.divsi v5 c1_i32_3
  let v8 : BitVec 32 := Scalar.muli v7 c1_i32_3
  let v9 : BitVec 32 := Scalar.addi c0_i32 v8
  let c1_i32_5 : BitVec 32 := 1#32
  let arg7 : BitVec 32 := Scf.iv v9 c1_i32_5 k0_t2
  let c1024_i32_22 : BitVec 32 := 1024#32
  let v57 : BitVec 32 := Scalar.muli arg7 c1024_i32_22
  v57
def k0_off3 (i : grid0.Coords) (k0_t2 : Fin (k0_t2_loop i).trips) : Fin 2 → Nat :=
  let c0_i32 : BitVec 32 := 0#32
  let c1_i32 : BitVec 32 := 1#32
  let arg1 : BitVec 32 := BitVec.ofNat 32 (i 1).val
  let v4 : BitVec 32 := Scalar.muli c1_i32 arg1
  let v5 : BitVec 32 := Scalar.subi v4 c0_i32
  let c1_i32_3 : BitVec 32 := 1#32
  let v7 : BitVec 32 := Scalar.divsi v5 c1_i32_3
  let v8 : BitVec 32 := Scalar.muli v7 c1_i32_3
  let v9 : BitVec 32 := Scalar.addi c0_i32 v8
  let c1_i32_5 : BitVec 32 := 1#32
  let arg7 : BitVec 32 := Scf.iv v9 c1_i32_5 k0_t2
  let c1024_i32_22 : BitVec 32 := 1024#32
  let v57 : BitVec 32 := Scalar.muli arg7 c1024_i32_22
  let v58 : BitVec 32 := v57
  let v59 : Index := Scalar.indexCast v58
  let c0_23 : Index := 0#32
  ![v59.toNat, 0]
def k0_mult4 (i : grid0.Coords) (k0_t2 : Fin (k0_t2_loop i).trips) : BitVec 32 :=
  let c0_i32 : BitVec 32 := 0#32
  let c1_i32 : BitVec 32 := 1#32
  let arg1 : BitVec 32 := BitVec.ofNat 32 (i 1).val
  let v4 : BitVec 32 := Scalar.muli c1_i32 arg1
  let v5 : BitVec 32 := Scalar.subi v4 c0_i32
  let c1_i32_3 : BitVec 32 := 1#32
  let v7 : BitVec 32 := Scalar.divsi v5 c1_i32_3
  let v8 : BitVec 32 := Scalar.muli v7 c1_i32_3
  let v9 : BitVec 32 := Scalar.addi c0_i32 v8
  let c1_i32_5 : BitVec 32 := 1#32
  let arg7 : BitVec 32 := Scf.iv v9 c1_i32_5 k0_t2
  let c1024_i32_24 : BitVec 32 := 1024#32
  let v61 : BitVec 32 := Scalar.muli arg7 c1024_i32_24
  v61
def k0_off4 (i : grid0.Coords) (k0_t2 : Fin (k0_t2_loop i).trips) : Fin 2 → Nat :=
  let c0_i32 : BitVec 32 := 0#32
  let c1_i32 : BitVec 32 := 1#32
  let arg1 : BitVec 32 := BitVec.ofNat 32 (i 1).val
  let v4 : BitVec 32 := Scalar.muli c1_i32 arg1
  let v5 : BitVec 32 := Scalar.subi v4 c0_i32
  let c1_i32_3 : BitVec 32 := 1#32
  let v7 : BitVec 32 := Scalar.divsi v5 c1_i32_3
  let v8 : BitVec 32 := Scalar.muli v7 c1_i32_3
  let v9 : BitVec 32 := Scalar.addi c0_i32 v8
  let c1_i32_5 : BitVec 32 := 1#32
  let arg7 : BitVec 32 := Scf.iv v9 c1_i32_5 k0_t2
  let c1024_i32_24 : BitVec 32 := 1024#32
  let v61 : BitVec 32 := Scalar.muli arg7 c1024_i32_24
  let v62 : BitVec 32 := v61
  let v63 : Index := Scalar.indexCast v62
  let c0_25 : Index := 0#32
  ![v63.toNat, 0]
def k0_mult5 (i : grid0.Coords) : BitVec 32 :=
  let c1_i32_6 : BitVec 32 := 1#32
  let arg1 : BitVec 32 := BitVec.ofNat 32 (i 1).val
  let v12 : BitVec 32 := Scalar.muli c1_i32_6 arg1
  let c0_i32_7 : BitVec 32 := 0#32
  let v13 : BitVec 32 := Scalar.addi v12 c0_i32_7
  let c1024_i32 : BitVec 32 := 1024#32
  let v14 : BitVec 32 := Scalar.muli v13 c1024_i32
  v14
def k0_off5 (i : grid0.Coords) : Fin 2 → Nat :=
  let c1_i32_6 : BitVec 32 := 1#32
  let arg1 : BitVec 32 := BitVec.ofNat 32 (i 1).val
  let v12 : BitVec 32 := Scalar.muli c1_i32_6 arg1
  let c0_i32_7 : BitVec 32 := 0#32
  let v13 : BitVec 32 := Scalar.addi v12 c0_i32_7
  let c1024_i32 : BitVec 32 := 1024#32
  let v14 : BitVec 32 := Scalar.muli v13 c1024_i32
  let v15 : BitVec 32 := v14
  let v16 : Index := Scalar.indexCast v15
  let c0_8 : Index := 0#32
  ![v16.toNat, 0]
def k0_mult6 (i : grid0.Coords) : BitVec 32 :=
  let c1_i32_6 : BitVec 32 := 1#32
  let arg1 : BitVec 32 := BitVec.ofNat 32 (i 1).val
  let v12 : BitVec 32 := Scalar.muli c1_i32_6 arg1
  let c0_i32_7 : BitVec 32 := 0#32
  let v13 : BitVec 32 := Scalar.addi v12 c0_i32_7
  let c1024_i32_9 : BitVec 32 := 1024#32
  let v18 : BitVec 32 := Scalar.muli v13 c1024_i32_9
  v18
def k0_off6 (i : grid0.Coords) : Fin 2 → Nat :=
  let c1_i32_6 : BitVec 32 := 1#32
  let arg1 : BitVec 32 := BitVec.ofNat 32 (i 1).val
  let v12 : BitVec 32 := Scalar.muli c1_i32_6 arg1
  let c0_i32_7 : BitVec 32 := 0#32
  let v13 : BitVec 32 := Scalar.addi v12 c0_i32_7
  let c1024_i32_9 : BitVec 32 := 1024#32
  let v18 : BitVec 32 := Scalar.muli v13 c1024_i32_9
  let v19 : BitVec 32 := v18
  let v20 : Index := Scalar.indexCast v19
  let c0_10 : Index := 0#32
  ![v20.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 4], ![false, false]⟩

@[reducible] def k1_t1_loop (i : grid1.Coords) : Scf.Loop 32 :=
  let c0_i32 : BitVec 32 := 0#32
  let c1_i32 : BitVec 32 := 1#32
  let arg1 : BitVec 32 := BitVec.ofNat 32 (i 1).val
  let v11 : BitVec 32 := Scalar.muli c1_i32 arg1
  let v13 : BitVec 32 := Scalar.subi v11 c0_i32
  let c1_i32_9 : BitVec 32 := 1#32
  let v15 : BitVec 32 := Scalar.divsi v13 c1_i32_9
  let v16 : BitVec 32 := Scalar.muli v15 c1_i32_9
  let v17 : BitVec 32 := Scalar.addi c0_i32 v16
  let c1_i32_10 : BitVec 32 := 1#32
  ⟨c0_i32, v17, c1_i32_10⟩
def k1_mult1 (i : grid1.Coords) (k1_t1 : Fin (k1_t1_loop i).trips) : BitVec 32 :=
  let c0_i32 : BitVec 32 := 0#32
  let c1_i32_10 : BitVec 32 := 1#32
  let arg9 : BitVec 32 := Scf.iv c0_i32 c1_i32_10 k1_t1
  let c1024_i32_26 : BitVec 32 := 1024#32
  let v54 : BitVec 32 := Scalar.muli arg9 c1024_i32_26
  v54
def k1_off1 (i : grid1.Coords) (k1_t1 : Fin (k1_t1_loop i).trips) : Fin 2 → Nat :=
  let c0_i32 : BitVec 32 := 0#32
  let c1_i32_10 : BitVec 32 := 1#32
  let arg9 : BitVec 32 := Scf.iv c0_i32 c1_i32_10 k1_t1
  let c1024_i32_26 : BitVec 32 := 1024#32
  let v54 : BitVec 32 := Scalar.muli arg9 c1024_i32_26
  let v55 : BitVec 32 := v54
  let v56 : Index := Scalar.indexCast v55
  let c0_27 : Index := 0#32
  ![v56.toNat, 0]
def k1_mult2 (i : grid1.Coords) (k1_t1 : Fin (k1_t1_loop i).trips) : BitVec 32 :=
  let c0_i32 : BitVec 32 := 0#32
  let c1_i32_10 : BitVec 32 := 1#32
  let arg9 : BitVec 32 := Scf.iv c0_i32 c1_i32_10 k1_t1
  let c1024_i32_28 : BitVec 32 := 1024#32
  let v58 : BitVec 32 := Scalar.muli arg9 c1024_i32_28
  v58
def k1_off2 (i : grid1.Coords) (k1_t1 : Fin (k1_t1_loop i).trips) : Fin 2 → Nat :=
  let c0_i32 : BitVec 32 := 0#32
  let c1_i32_10 : BitVec 32 := 1#32
  let arg9 : BitVec 32 := Scf.iv c0_i32 c1_i32_10 k1_t1
  let c1024_i32_28 : BitVec 32 := 1024#32
  let v58 : BitVec 32 := Scalar.muli arg9 c1024_i32_28
  let v59 : BitVec 32 := v58
  let v60 : Index := Scalar.indexCast v59
  let c0_29 : Index := 0#32
  ![v60.toNat, 0]
@[reducible] def k1_t2_loop (i : grid1.Coords) : Scf.Loop 32 :=
  let c0_i32 : BitVec 32 := 0#32
  let c1_i32 : BitVec 32 := 1#32
  let arg1 : BitVec 32 := BitVec.ofNat 32 (i 1).val
  let v11 : BitVec 32 := Scalar.muli c1_i32 arg1
  let v13 : BitVec 32 := Scalar.subi v11 c0_i32
  let c1_i32_9 : BitVec 32 := 1#32
  let v15 : BitVec 32 := Scalar.divsi v13 c1_i32_9
  let v16 : BitVec 32 := Scalar.muli v15 c1_i32_9
  let v17 : BitVec 32 := Scalar.addi c0_i32 v16
  let v14 : BitVec 32 := Scalar.addi c0_i32 v13
  let c1_i32_11 : BitVec 32 := 1#32
  ⟨v17, v14, c1_i32_11⟩
def k1_mult3 (i : grid1.Coords) (k1_t2 : Fin (k1_t2_loop i).trips) : BitVec 32 :=
  let c0_i32 : BitVec 32 := 0#32
  let c1_i32 : BitVec 32 := 1#32
  let arg1 : BitVec 32 := BitVec.ofNat 32 (i 1).val
  let v11 : BitVec 32 := Scalar.muli c1_i32 arg1
  let v13 : BitVec 32 := Scalar.subi v11 c0_i32
  let c1_i32_9 : BitVec 32 := 1#32
  let v15 : BitVec 32 := Scalar.divsi v13 c1_i32_9
  let v16 : BitVec 32 := Scalar.muli v15 c1_i32_9
  let v17 : BitVec 32 := Scalar.addi c0_i32 v16
  let c1_i32_11 : BitVec 32 := 1#32
  let arg9 : BitVec 32 := Scf.iv v17 c1_i32_11 k1_t2
  let c1024_i32_26 : BitVec 32 := 1024#32
  let v54 : BitVec 32 := Scalar.muli arg9 c1024_i32_26
  v54
def k1_off3 (i : grid1.Coords) (k1_t2 : Fin (k1_t2_loop i).trips) : Fin 2 → Nat :=
  let c0_i32 : BitVec 32 := 0#32
  let c1_i32 : BitVec 32 := 1#32
  let arg1 : BitVec 32 := BitVec.ofNat 32 (i 1).val
  let v11 : BitVec 32 := Scalar.muli c1_i32 arg1
  let v13 : BitVec 32 := Scalar.subi v11 c0_i32
  let c1_i32_9 : BitVec 32 := 1#32
  let v15 : BitVec 32 := Scalar.divsi v13 c1_i32_9
  let v16 : BitVec 32 := Scalar.muli v15 c1_i32_9
  let v17 : BitVec 32 := Scalar.addi c0_i32 v16
  let c1_i32_11 : BitVec 32 := 1#32
  let arg9 : BitVec 32 := Scf.iv v17 c1_i32_11 k1_t2
  let c1024_i32_26 : BitVec 32 := 1024#32
  let v54 : BitVec 32 := Scalar.muli arg9 c1024_i32_26
  let v55 : BitVec 32 := v54
  let v56 : Index := Scalar.indexCast v55
  let c0_27 : Index := 0#32
  ![v56.toNat, 0]
def k1_mult4 (i : grid1.Coords) (k1_t2 : Fin (k1_t2_loop i).trips) : BitVec 32 :=
  let c0_i32 : BitVec 32 := 0#32
  let c1_i32 : BitVec 32 := 1#32
  let arg1 : BitVec 32 := BitVec.ofNat 32 (i 1).val
  let v11 : BitVec 32 := Scalar.muli c1_i32 arg1
  let v13 : BitVec 32 := Scalar.subi v11 c0_i32
  let c1_i32_9 : BitVec 32 := 1#32
  let v15 : BitVec 32 := Scalar.divsi v13 c1_i32_9
  let v16 : BitVec 32 := Scalar.muli v15 c1_i32_9
  let v17 : BitVec 32 := Scalar.addi c0_i32 v16
  let c1_i32_11 : BitVec 32 := 1#32
  let arg9 : BitVec 32 := Scf.iv v17 c1_i32_11 k1_t2
  let c1024_i32_28 : BitVec 32 := 1024#32
  let v58 : BitVec 32 := Scalar.muli arg9 c1024_i32_28
  v58
def k1_off4 (i : grid1.Coords) (k1_t2 : Fin (k1_t2_loop i).trips) : Fin 2 → Nat :=
  let c0_i32 : BitVec 32 := 0#32
  let c1_i32 : BitVec 32 := 1#32
  let arg1 : BitVec 32 := BitVec.ofNat 32 (i 1).val
  let v11 : BitVec 32 := Scalar.muli c1_i32 arg1
  let v13 : BitVec 32 := Scalar.subi v11 c0_i32
  let c1_i32_9 : BitVec 32 := 1#32
  let v15 : BitVec 32 := Scalar.divsi v13 c1_i32_9
  let v16 : BitVec 32 := Scalar.muli v15 c1_i32_9
  let v17 : BitVec 32 := Scalar.addi c0_i32 v16
  let c1_i32_11 : BitVec 32 := 1#32
  let arg9 : BitVec 32 := Scf.iv v17 c1_i32_11 k1_t2
  let c1024_i32_28 : BitVec 32 := 1024#32
  let v58 : BitVec 32 := Scalar.muli arg9 c1024_i32_28
  let v59 : BitVec 32 := v58
  let v60 : Index := Scalar.indexCast v59
  let c0_29 : Index := 0#32
  ![v60.toNat, 0]
def k1_mult5 (i : grid1.Coords) : BitVec 32 :=
  let c1_i32_12 : BitVec 32 := 1#32
  let arg1 : BitVec 32 := BitVec.ofNat 32 (i 1).val
  let v20 : BitVec 32 := Scalar.muli c1_i32_12 arg1
  let c0_i32_13 : BitVec 32 := 0#32
  let v21 : BitVec 32 := Scalar.addi v20 c0_i32_13
  let c1024_i32 : BitVec 32 := 1024#32
  let v22 : BitVec 32 := Scalar.muli v21 c1024_i32
  v22
def k1_off5 (i : grid1.Coords) : Fin 2 → Nat :=
  let c1_i32_12 : BitVec 32 := 1#32
  let arg1 : BitVec 32 := BitVec.ofNat 32 (i 1).val
  let v20 : BitVec 32 := Scalar.muli c1_i32_12 arg1
  let c0_i32_13 : BitVec 32 := 0#32
  let v21 : BitVec 32 := Scalar.addi v20 c0_i32_13
  let c1024_i32 : BitVec 32 := 1024#32
  let v22 : BitVec 32 := Scalar.muli v21 c1024_i32
  let v23 : BitVec 32 := v22
  let v24 : Index := Scalar.indexCast v23
  let c0_14 : Index := 0#32
  ![v24.toNat, 0]
def k1_mult6 (i : grid1.Coords) : BitVec 32 :=
  let c1_i32_12 : BitVec 32 := 1#32
  let arg1 : BitVec 32 := BitVec.ofNat 32 (i 1).val
  let v20 : BitVec 32 := Scalar.muli c1_i32_12 arg1
  let c0_i32_13 : BitVec 32 := 0#32
  let v21 : BitVec 32 := Scalar.addi v20 c0_i32_13
  let c1024_i32_15 : BitVec 32 := 1024#32
  let v26 : BitVec 32 := Scalar.muli v21 c1024_i32_15
  v26
def k1_off6 (i : grid1.Coords) : Fin 2 → Nat :=
  let c1_i32_12 : BitVec 32 := 1#32
  let arg1 : BitVec 32 := BitVec.ofNat 32 (i 1).val
  let v20 : BitVec 32 := Scalar.muli c1_i32_12 arg1
  let c0_i32_13 : BitVec 32 := 0#32
  let v21 : BitVec 32 := Scalar.addi v20 c0_i32_13
  let c1024_i32_15 : BitVec 32 := 1024#32
  let v26 : BitVec 32 := Scalar.muli v21 c1024_i32_15
  let v27 : BitVec 32 := v26
  let v28 : Index := Scalar.indexCast v27
  let c0_16 : Index := 0#32
  ![v28.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![4, 4], ![false, false]⟩

def k2_mult1 (i : grid2.Coords) : BitVec 32 :=
  let c1_i32 : BitVec 32 := 1#32
  let arg1 : BitVec 32 := BitVec.ofNat 32 (i 1).val
  let v4 : BitVec 32 := Scalar.muli c1_i32 arg1
  let c0_i32 : BitVec 32 := 0#32
  let v5 : BitVec 32 := Scalar.addi v4 c0_i32
  let c1024_i32 : BitVec 32 := 1024#32
  let v6 : BitVec 32 := Scalar.muli v5 c1024_i32
  v6
def k2_off1 (i : grid2.Coords) : Fin 2 → Nat :=
  let c1_i32 : BitVec 32 := 1#32
  let arg1 : BitVec 32 := BitVec.ofNat 32 (i 1).val
  let v4 : BitVec 32 := Scalar.muli c1_i32 arg1
  let c0_i32 : BitVec 32 := 0#32
  let v5 : BitVec 32 := Scalar.addi v4 c0_i32
  let c1024_i32 : BitVec 32 := 1024#32
  let v6 : BitVec 32 := Scalar.muli v5 c1024_i32
  let v7 : BitVec 32 := v6
  let v8 : Index := Scalar.indexCast v7
  let c0_4 : Index := 0#32
  ![v8.toNat, 0]
def k2_off2 (i : grid2.Coords) : Fin 2 → Nat :=
  let c1_i32 : BitVec 32 := 1#32
  let arg1 : BitVec 32 := BitVec.ofNat 32 (i 1).val
  let v4 : BitVec 32 := Scalar.muli c1_i32 arg1
  let c0_i32 : BitVec 32 := 0#32
  let v5 : BitVec 32 := Scalar.addi v4 c0_i32
  let c1024_i32 : BitVec 32 := 1024#32
  let v6 : BitVec 32 := Scalar.muli v5 c1024_i32
  let v7 : BitVec 32 := v6
  let v10 : Index := Scalar.indexCast v7
  let c0_5 : Index := 0#32
  ![v10.toNat, 0]
@[reducible] def k2_t1_loop (i : grid2.Coords) : Scf.Loop 32 :=
  let c1_i32_19 : BitVec 32 := 1#32
  let arg1 : BitVec 32 := BitVec.ofNat 32 (i 1).val
  let c1_i32_18 : BitVec 32 := 1#32
  let v50 : BitVec 32 := Scalar.addi arg1 c1_i32_18
  let v51 : BitVec 32 := Scalar.muli c1_i32_19 v50
  let c4_i32 : BitVec 32 := 4#32
  let v52 : BitVec 32 := Scalar.subi c4_i32 v51
  let c1_i32_20 : BitVec 32 := 1#32
  let v54 : BitVec 32 := Scalar.divsi v52 c1_i32_20
  let v55 : BitVec 32 := Scalar.muli v54 c1_i32_20
  let v56 : BitVec 32 := Scalar.addi v51 v55
  let c1_i32_21 : BitVec 32 := 1#32
  ⟨v51, v56, c1_i32_21⟩
def k2_mult2 (i : grid2.Coords) (k2_t1 : Fin (k2_t1_loop i).trips) : BitVec 32 :=
  let c1_i32_19 : BitVec 32 := 1#32
  let arg1 : BitVec 32 := BitVec.ofNat 32 (i 1).val
  let c1_i32_18 : BitVec 32 := 1#32
  let v50 : BitVec 32 := Scalar.addi arg1 c1_i32_18
  let v51 : BitVec 32 := Scalar.muli c1_i32_19 v50
  let c1_i32_21 : BitVec 32 := 1#32
  let arg10 : BitVec 32 := Scf.iv v51 c1_i32_21 k2_t1
  let c1024_i32_27 : BitVec 32 := 1024#32
  let v61 : BitVec 32 := Scalar.muli arg10 c1024_i32_27
  v61
def k2_off3 (i : grid2.Coords) (k2_t1 : Fin (k2_t1_loop i).trips) : Fin 2 → Nat :=
  let c1_i32_19 : BitVec 32 := 1#32
  let arg1 : BitVec 32 := BitVec.ofNat 32 (i 1).val
  let c1_i32_18 : BitVec 32 := 1#32
  let v50 : BitVec 32 := Scalar.addi arg1 c1_i32_18
  let v51 : BitVec 32 := Scalar.muli c1_i32_19 v50
  let c1_i32_21 : BitVec 32 := 1#32
  let arg10 : BitVec 32 := Scf.iv v51 c1_i32_21 k2_t1
  let c1024_i32_27 : BitVec 32 := 1024#32
  let v61 : BitVec 32 := Scalar.muli arg10 c1024_i32_27
  let v62 : BitVec 32 := v61
  let v63 : Index := Scalar.indexCast v62
  let c0_28 : Index := 0#32
  ![v63.toNat, 0]
def k2_off4 (i : grid2.Coords) (k2_t1 : Fin (k2_t1_loop i).trips) : Fin 2 → Nat :=
  let c1_i32_19 : BitVec 32 := 1#32
  let arg1 : BitVec 32 := BitVec.ofNat 32 (i 1).val
  let c1_i32_18 : BitVec 32 := 1#32
  let v50 : BitVec 32 := Scalar.addi arg1 c1_i32_18
  let v51 : BitVec 32 := Scalar.muli c1_i32_19 v50
  let c1_i32_21 : BitVec 32 := 1#32
  let arg10 : BitVec 32 := Scf.iv v51 c1_i32_21 k2_t1
  let c1024_i32_27 : BitVec 32 := 1024#32
  let v61 : BitVec 32 := Scalar.muli arg10 c1024_i32_27
  let v62 : BitVec 32 := v61
  let v65 : Index := Scalar.indexCast v62
  let c0_29 : Index := 0#32
  ![v65.toNat, 0]
@[reducible] def k2_t2_loop (i : grid2.Coords) : Scf.Loop 32 :=
  let c1_i32_19 : BitVec 32 := 1#32
  let arg1 : BitVec 32 := BitVec.ofNat 32 (i 1).val
  let c1_i32_18 : BitVec 32 := 1#32
  let v50 : BitVec 32 := Scalar.addi arg1 c1_i32_18
  let v51 : BitVec 32 := Scalar.muli c1_i32_19 v50
  let c4_i32 : BitVec 32 := 4#32
  let v52 : BitVec 32 := Scalar.subi c4_i32 v51
  let c1_i32_20 : BitVec 32 := 1#32
  let v54 : BitVec 32 := Scalar.divsi v52 c1_i32_20
  let v55 : BitVec 32 := Scalar.muli v54 c1_i32_20
  let v56 : BitVec 32 := Scalar.addi v51 v55
  let v53 : BitVec 32 := Scalar.addi v51 v52
  let c1_i32_22 : BitVec 32 := 1#32
  ⟨v56, v53, c1_i32_22⟩
def k2_mult3 (i : grid2.Coords) (k2_t2 : Fin (k2_t2_loop i).trips) : BitVec 32 :=
  let c1_i32_19 : BitVec 32 := 1#32
  let arg1 : BitVec 32 := BitVec.ofNat 32 (i 1).val
  let c1_i32_18 : BitVec 32 := 1#32
  let v50 : BitVec 32 := Scalar.addi arg1 c1_i32_18
  let v51 : BitVec 32 := Scalar.muli c1_i32_19 v50
  let c4_i32 : BitVec 32 := 4#32
  let v52 : BitVec 32 := Scalar.subi c4_i32 v51
  let c1_i32_20 : BitVec 32 := 1#32
  let v54 : BitVec 32 := Scalar.divsi v52 c1_i32_20
  let v55 : BitVec 32 := Scalar.muli v54 c1_i32_20
  let v56 : BitVec 32 := Scalar.addi v51 v55
  let c1_i32_22 : BitVec 32 := 1#32
  let arg10 : BitVec 32 := Scf.iv v56 c1_i32_22 k2_t2
  let c1024_i32_27 : BitVec 32 := 1024#32
  let v61 : BitVec 32 := Scalar.muli arg10 c1024_i32_27
  v61
def k2_off5 (i : grid2.Coords) (k2_t2 : Fin (k2_t2_loop i).trips) : Fin 2 → Nat :=
  let c1_i32_19 : BitVec 32 := 1#32
  let arg1 : BitVec 32 := BitVec.ofNat 32 (i 1).val
  let c1_i32_18 : BitVec 32 := 1#32
  let v50 : BitVec 32 := Scalar.addi arg1 c1_i32_18
  let v51 : BitVec 32 := Scalar.muli c1_i32_19 v50
  let c4_i32 : BitVec 32 := 4#32
  let v52 : BitVec 32 := Scalar.subi c4_i32 v51
  let c1_i32_20 : BitVec 32 := 1#32
  let v54 : BitVec 32 := Scalar.divsi v52 c1_i32_20
  let v55 : BitVec 32 := Scalar.muli v54 c1_i32_20
  let v56 : BitVec 32 := Scalar.addi v51 v55
  let c1_i32_22 : BitVec 32 := 1#32
  let arg10 : BitVec 32 := Scf.iv v56 c1_i32_22 k2_t2
  let c1024_i32_27 : BitVec 32 := 1024#32
  let v61 : BitVec 32 := Scalar.muli arg10 c1024_i32_27
  let v62 : BitVec 32 := v61
  let v63 : Index := Scalar.indexCast v62
  let c0_28 : Index := 0#32
  ![v63.toNat, 0]
def k2_off6 (i : grid2.Coords) (k2_t2 : Fin (k2_t2_loop i).trips) : Fin 2 → Nat :=
  let c1_i32_19 : BitVec 32 := 1#32
  let arg1 : BitVec 32 := BitVec.ofNat 32 (i 1).val
  let c1_i32_18 : BitVec 32 := 1#32
  let v50 : BitVec 32 := Scalar.addi arg1 c1_i32_18
  let v51 : BitVec 32 := Scalar.muli c1_i32_19 v50
  let c4_i32 : BitVec 32 := 4#32
  let v52 : BitVec 32 := Scalar.subi c4_i32 v51
  let c1_i32_20 : BitVec 32 := 1#32
  let v54 : BitVec 32 := Scalar.divsi v52 c1_i32_20
  let v55 : BitVec 32 := Scalar.muli v54 c1_i32_20
  let v56 : BitVec 32 := Scalar.addi v51 v55
  let c1_i32_22 : BitVec 32 := 1#32
  let arg10 : BitVec 32 := Scf.iv v56 c1_i32_22 k2_t2
  let c1024_i32_27 : BitVec 32 := 1024#32
  let v61 : BitVec 32 := Scalar.muli arg10 c1024_i32_27
  let v62 : BitVec 32 := v61
  let v65 : Index := Scalar.indexCast v62
  let c0_29 : Index := 0#32
  ![v65.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S4096x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S4096x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S4096x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S4096x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1024x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1024x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]
-- ==== ReferenceIdeal.lean ====
abbrev S4096x1024 : Shape := ⟨2, ![4096, 1024]⟩
abbrev S4096x512 : Shape := ⟨2, ![4096, 512]⟩
abbrev S4096x4x256 : Shape := ⟨3, ![4096, 4, 256]⟩
abbrev S4096x4x128 : Shape := ⟨3, ![4096, 4, 128]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4096 : Shape := ⟨2, ![4, 4096]⟩
abbrev S4x4096x1 : Shape := ⟨3, ![4, 4096, 1]⟩
abbrev S4x128x4096 : Shape := ⟨3, ![4, 128, 4096]⟩
abbrev S4x4096x256 : Shape := ⟨3, ![4, 4096, 256]⟩

abbrev nBuf : Space → Nat
  | .hbm => 100
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x512, .bf16⟩
  | .hbm, ⟨3, _⟩ => ⟨S4096x512, .f32⟩
  | .hbm, ⟨4, _⟩ => ⟨S4096x1024, .f32⟩
  | .hbm, ⟨5, _⟩ => ⟨S4096x1024, .f32⟩
  | .hbm, ⟨6, _⟩ => ⟨S4096x512, .f32⟩
  | .hbm, ⟨7, _⟩ => ⟨S4096x4x256, .f32⟩
  | .hbm, ⟨8, _⟩ => ⟨S4096x4x256, .f32⟩
  | .hbm, ⟨9, _⟩ => ⟨S4096x4x128, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S4x4096x4096, .i1⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x4096x4096, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S4x4096x4096, .f32⟩
  | .hbm, ⟨31, _⟩ => ⟨S4x4096x4096, .i1⟩
  | .hbm, ⟨32, _⟩ => ⟨S4x4096x4096, .f32⟩
  | .hbm, ⟨33, _⟩ => ⟨S_, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S4x4096, .f32⟩
  | .hbm, ⟨38, _⟩ => ⟨S_, .f32⟩
  | .hbm, ⟨39, _⟩ => ⟨S4x4096, .f32⟩
  | .hbm, ⟨40, _⟩ => ⟨S4x4096, .i1⟩
  | .hbm, ⟨41, _⟩ => ⟨S_, .f32⟩
  | .hbm, ⟨42, _⟩ => ⟨S4x4096, .f32⟩
  | .hbm, ⟨43, _⟩ => ⟨S4x4096, .i1⟩
  | .hbm, ⟨44, _⟩ => ⟨S_, .f32⟩
  | .hbm, ⟨45, _⟩ => ⟨S4x4096, .f32⟩
  | .hbm, ⟨46, _⟩ => ⟨S_, .f32⟩
  | .hbm, ⟨47, _⟩ => ⟨S4x4096, .f32⟩
  | .hbm, ⟨48, _⟩ => ⟨S_, .f32⟩
  | .hbm, ⟨49, _⟩ => ⟨S4x4096, .f32⟩
  | .hbm, ⟨50, _⟩ => ⟨S4x4096, .f32⟩
  | .hbm, ⟨51, _⟩ => ⟨S4x4096, .f32⟩
  | .hbm, ⟨52, _⟩ => ⟨S4x4096x1, .f32⟩
  | .hbm, ⟨53, _⟩ => ⟨S4x4096x4096, .f32⟩
  | .hbm, ⟨54, _⟩ => ⟨S4x4096x4096, .f32⟩
  | .hbm, ⟨55, _⟩ => ⟨S4x4096x4096, .f32⟩
  | .hbm, ⟨56, _⟩ => ⟨S_, .f32⟩
  | .hbm, ⟨57, _⟩ => ⟨S4x4096, .f32⟩
  | .hbm, ⟨58, _⟩ => ⟨S4x4096x1, .f32⟩
  | .hbm, ⟨59, _⟩ => ⟨S4x4096x4096, .f32⟩
  | .hbm, ⟨60, _⟩ => ⟨S4x4096x4096, .f32⟩
  | .hbm, ⟨61, _⟩ => ⟨S4x4096x1, .f32⟩
  | .hbm, ⟨62, _⟩ => ⟨S_, .f32⟩
  | .hbm, ⟨63, _⟩ => ⟨S4x4096x1, .f32⟩
  | .hbm, ⟨64, _⟩ => ⟨S4x4096x1, .f32⟩
  | .hbm, ⟨65, _⟩ => ⟨S4x128x4096, .f32⟩
  | .hbm, ⟨66, _⟩ => ⟨S4096x4x128, .f32⟩
  | .hbm, ⟨67, _⟩ => ⟨S4096x512, .f32⟩
  | .hbm, ⟨68, _⟩ => ⟨S4096x4x128, .f32⟩
  | .hbm, ⟨69, _⟩ => ⟨S4x128x4096, .f32⟩
  | .hbm, ⟨70, _⟩ => ⟨S4x4096x4096, .f32⟩
  | .hbm, ⟨71, _⟩ => ⟨S4x128x4096, .f32⟩
  | .hbm, ⟨72, _⟩ => ⟨S4096x4x128, .f32⟩
  | .hbm, ⟨73, _⟩ => ⟨S4x4096x4096, .f32⟩
  | .hbm, ⟨74, _⟩ => ⟨S4x4096x4096, .f32⟩
  | .hbm, ⟨75, _⟩ => ⟨S4x4096x4096, .f32⟩
  | .hbm, ⟨76, _⟩ => ⟨S_, .f32⟩
  | .hbm, ⟨77, _⟩ => ⟨S4x4096, .f32⟩
  | .hbm, ⟨78, _⟩ => ⟨S4x4096x1, .f32⟩
  | .hbm, ⟨79, _⟩ => ⟨S4x4096x1, .f32⟩
  | .hbm, ⟨80, _⟩ => ⟨S4x4096x4096, .f32⟩
  | .hbm, ⟨81, _⟩ => ⟨S4x4096x4096, .f32⟩
  | .hbm, ⟨82, _⟩ => ⟨S_, .f32⟩
  | .hbm, ⟨83, _⟩ => ⟨S4x4096, .f32⟩
  | .hbm, ⟨84, _⟩ => ⟨S4x4096x4096, .f32⟩
  | .hbm, ⟨85, _⟩ => ⟨S4x4096x4096, .f32⟩
  | .hbm, ⟨86, _⟩ => ⟨S4x4096x4096, .f32⟩
  | .hbm, ⟨87, _⟩ => ⟨S_, .f32⟩
  | .hbm, ⟨88, _⟩ => ⟨S4x4096x4096, .f32⟩
  | .hbm, ⟨89, _⟩ => ⟨S4x4096x4096, .f32⟩
  | .hbm, ⟨90, _⟩ => ⟨S_, .f32⟩
  | .hbm, ⟨91, _⟩ => ⟨S4x4096x4096, .f32⟩
  | .hbm, ⟨92, _⟩ => ⟨S4x4096x4096, .f32⟩
  | .hbm, ⟨93, _⟩ => ⟨S4x4096x256, .f32⟩
  | .hbm, ⟨94, _⟩ => ⟨S4096x4x256, .f32⟩
  | .hbm, ⟨95, _⟩ => ⟨S4x4096x256, .f32⟩
  | .hbm, ⟨96, _⟩ => ⟨S4096x4x256, .f32⟩
  | .hbm, ⟨97, _⟩ => ⟨S4096x512, .f32⟩
  | .hbm, ⟨98, _⟩ => ⟨S4096x1024, .f32⟩
  | .hbm, ⟨99, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_v15_1 : Ref sig .tc := ⟨.hbm, 22, rfl⟩
abbrev main_call0_v2 : Ref sig .tc := ⟨.hbm, 23, rfl⟩
abbrev main_v15_0 : Ref sig .tc := ⟨.hbm, 24, rfl⟩
abbrev main_call0_cst : Ref sig .tc := ⟨.hbm, 25, rfl⟩
abbrev main_v15_2 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call1_cst : Ref sig .tc := ⟨.hbm, 87, rfl⟩
abbrev main_call1_v0 : Ref sig .tc := ⟨.hbm, 88, rfl⟩
abbrev main_v64 : Ref sig .tc := ⟨.hbm, 89, rfl⟩
abbrev main_cst_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== Ffn.lean ====
abbrev S4096x1024 : Shape := ⟨2, ![4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S512x1024 : Shape := ⟨2, ![512, 1024]⟩
abbrev S512 : Shape := ⟨1, ![512]⟩
abbrev S512x1 : Shape := ⟨2, ![512, 1]⟩
abbrev S1024x2816 : Shape := ⟨2, ![1024, 2816]⟩
abbrev S4096x2816 : Shape := ⟨2, ![4096, 2816]⟩
abbrev S512x2816 : Shape := ⟨2, ![512, 2816]⟩
abbrev S1x2816 : Shape := ⟨2, ![1, 2816]⟩
abbrev S2816 : Shape := ⟨1, ![2816]⟩
abbrev S4096x128 : Shape := ⟨2, ![4096, 128]⟩
abbrev S1x128 : Shape := ⟨2, ![1, 128]⟩
abbrev S1024x512 : Shape := ⟨2, ![1024, 512]⟩
abbrev S2816x512 : Shape := ⟨2, ![2816, 512]⟩
abbrev S128 : Shape := ⟨1, ![128]⟩
abbrev S3x2816 : Shape := ⟨2, ![3, 2816]⟩
abbrev S_ : Shape := ⟨0, ![]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩
abbrev S4x704x1024 : Shape := ⟨3, ![4, 704, 1024]⟩

abbrev nBuf : Space → Nat
  | .hbm => 79
  | .vmem => 131
  | .smem => 0
  | _ => 0

abbrev vmemTy0_0 (i : Nat) : BufTy := match i % 128 with
  | 0 => ⟨S512x1024, .f32⟩
  | 1 => ⟨S512x1024, .f32⟩
  | 2 => ⟨S1x1024, .f32⟩
  | 3 => ⟨S512x1024, .bf16⟩
  | 4 => ⟨S512x1024, .bf16⟩
  | 5 => ⟨S512x1024, .bf16⟩
  | 6 => ⟨S512x1024, .bf16⟩
  | 7 => ⟨S1024x2816, .bf16⟩
  | 8 => ⟨S512x2816, .f32⟩
  | 9 => ⟨S512x2816, .f32⟩
  | 10 => ⟨S512x1024, .bf16⟩
  | 11 => ⟨S512x1024, .bf16⟩
  | 12 => ⟨S1024x2816, .bf16⟩
  | 13 => ⟨S512x2816, .f32⟩
  | 14 => ⟨S512x2816, .f32⟩
  | 15 => ⟨S4096x128, .f32⟩
  | 16 => ⟨S4096x128, .f32⟩
  | 17 => ⟨S4096x128, .f32⟩
  | 18 => ⟨S4096x128, .f32⟩
  | 19 => ⟨S1x128, .f32⟩
  | 20 => ⟨S1x128, .f32⟩
  | 21 => ⟨S1x128, .f32⟩
  | 22 => ⟨S1x128, .f32⟩
  | 23 => ⟨S1x128, .f32⟩
  | 24 => ⟨S1x128, .f32⟩
  | 25 => ⟨S1x128, .f32⟩
  | 26 => ⟨S1x128, .f32⟩
  | 27 => ⟨S1x128, .f32⟩
  | 28 => ⟨S1x128, .f32⟩
  | 29 => ⟨S1x128, .f32⟩
  | 30 => ⟨S1x128, .f32⟩
  | 31 => ⟨S1x128, .f32⟩
  | 32 => ⟨S1x128, .f32⟩
  | 33 => ⟨S1x128, .f32⟩
  | 34 => ⟨S1x128, .f32⟩
  | 35 => ⟨S4096x128, .bf16⟩
  | 36 => ⟨S4096x128, .bf16⟩
  | 37 => ⟨S512x2816, .bf16⟩
  | 38 => ⟨S512x2816, .bf16⟩
  | 39 => ⟨S2816x1024, .bf16⟩
  | 40 => ⟨S512x1024, .f32⟩
  | 41 => ⟨S512x1024, .f32⟩
  | 42 => ⟨S512x1024, .f32⟩
  | 43 => ⟨S512x1024, .f32⟩
  | 44 => ⟨S512x1024, .f32⟩
  | 45 => ⟨S512x1024, .f32⟩
  | 46 => ⟨S2816x1024, .bf16⟩
  | 47 => ⟨S512x2816, .f32⟩
  | 48 => ⟨S512x2816, .f32⟩
  | 49 => ⟨S1024x2816, .bf16⟩
  | 50 => ⟨S1024x2816, .bf16⟩
  | 51 => ⟨S1024x512, .f32⟩
  | 52 => ⟨S1024x512, .f32⟩
  | 53 => ⟨S2816x512, .f32⟩
  | 54 => ⟨S2816x512, .f32⟩
  | 55 => ⟨S4096x128, .f32⟩
  | 56 => ⟨S4096x128, .f32⟩
  | 57 => ⟨S4096x128, .f32⟩
  | 58 => ⟨S4096x128, .f32⟩
  | 59 => ⟨S1x128, .f32⟩
  | 60 => ⟨S1x128, .f32⟩
  | 61 => ⟨S1x128, .f32⟩
  | 62 => ⟨S1x128, .f32⟩
  | 63 => ⟨S1x128, .f32⟩
  | 64 => ⟨S1x128, .f32⟩
  | 65 => ⟨S1x128, .f32⟩
  | 66 => ⟨S1x128, .f32⟩
  | 67 => ⟨S1x128, .f32⟩
  | 68 => ⟨S1x128, .f32⟩
  | 69 => ⟨S1x128, .f32⟩
  | 70 => ⟨S1x128, .f32⟩
  | 71 => ⟨S1x128, .f32⟩
  | 72 => ⟨S1x128, .f32⟩
  | 73 => ⟨S1x128, .f32⟩
  | 74 => ⟨S1x128, .f32⟩
  | 75 => ⟨S4096x128, .f32⟩
  | 76 => ⟨S4096x128, .f32⟩
  | 77 => ⟨S4096x128, .f32⟩
  | 78 => ⟨S4096x128, .f32⟩
  | 79 => ⟨S4096x128, .f32⟩
  | 80 => ⟨S4096x128, .f32⟩
  | 81 => ⟨S1x128, .f32⟩
  | 82 => ⟨S1x128, .f32⟩
  | 83 => ⟨S1x128, .f32⟩
  | 84 => ⟨S1x128, .f32⟩
  | 85 => ⟨S1x128, .f32⟩
  | 86 => ⟨S1x128, .f32⟩
  | 87 => ⟨S1x128, .f32⟩
  | 88 => ⟨S1x128, .f32⟩
  | 89 => ⟨S1x128, .f32⟩
  | 90 => ⟨S1x128, .f32⟩
  | 91 => ⟨S1x128, .f32⟩
  | 92 => ⟨S1x128, .f32⟩
  | 93 => ⟨S1x128, .f32⟩
  | 94 => ⟨S1x128, .f32⟩
  | 95 => ⟨S1x128, .f32⟩
  | 96 => ⟨S1x128, .f32⟩
  | 97 => ⟨S1024x1024, .bf16⟩
  | 98 => ⟨S1024x1024, .bf16⟩
  | 99 => ⟨S1024x1408, .f32⟩
  | 100 => ⟨S1024x1408, .f32⟩
  | 101 => ⟨S1x1024x1408, .f32⟩
  | 102 => ⟨S1x1024x1408, .f32⟩
  | 103 => ⟨S1024x1024, .bf16⟩
  | 104 => ⟨S1024x1024, .bf16⟩
  | 105 => ⟨S1024x1408, .f32⟩
  | 106 => ⟨S1024x1408, .f32⟩
  | 107 => ⟨S1x1024x1408, .f32⟩
  | 108 => ⟨S1x1024x1408, .f32⟩
  | 109 => ⟨S512x2816, .f32⟩
  | 110 => ⟨S512x2816, .f32⟩
  | 111 => ⟨S1024x2816, .bf16⟩
  | 112 => ⟨S512x1024, .f32⟩
  | 113 => ⟨S512x1024, .f32⟩
  | 114 => ⟨S512x2816, .f32⟩
  | 115 => ⟨S512x2816, .f32⟩
  | 116 => ⟨S1024x2816, .bf16⟩
  | 117 => ⟨S512x1024, .f32⟩
  | 118 => ⟨S512x1024, .f32⟩
  | 119 => ⟨S512x1024, .f32⟩
  | 120 => ⟨S512x1024, .f32⟩
  | 121 => ⟨S512x1024, .f32⟩
  | 122 => ⟨S512x1024, .f32⟩
  | 123 => ⟨S1x1024, .f32⟩
  | 124 => ⟨S512x1024, .f32⟩
  | 125 => ⟨S512x1024, .f32⟩
  | 126 => ⟨S512x1024, .f32⟩
  | 127 => ⟨S512x1024, .f32⟩
  | _ => ⟨S4096x1024, .f32⟩

abbrev vmemTy0_1 (i : Nat) : BufTy := match i % 128 with
  | 0 => ⟨S512x1024, .f32⟩
  | 1 => ⟨S512x1024, .f32⟩
  | 2 => ⟨S1x1024, .f32⟩
  | _ => ⟨S4096x1024, .f32⟩

abbrev vmemTy (i : Nat) : BufTy := match i / 128 with
  | 0 => vmemTy0_0 i
  | 1 => vmemTy0_1 i
  | _ => ⟨S4096x1024, .f32⟩

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x5632, .bf16⟩
  | .hbm, ⟨4, _⟩ => ⟨S3x5632, .f32⟩
  | .hbm, ⟨5, _⟩ => ⟨S5632, .f32⟩
  | .hbm, ⟨6, _⟩ => ⟨S2816x1024, .bf16⟩
  | .hbm, ⟨7, _⟩ => ⟨S1x1024, .f32⟩
  | .hbm, ⟨8, _⟩ => ⟨S1x1024x5632, .bf16⟩
  | .hbm, ⟨9, _⟩ => ⟨S1x3x5632, .f32⟩
  | .hbm, ⟨10, _⟩ => ⟨S1x5632, .f32⟩
  | .hbm, ⟨11, _⟩ => ⟨S1x2816x1024, .bf16⟩
  | .hbm, ⟨12, _⟩ => ⟨S1024x5632, .bf16⟩
  | .hbm, ⟨13, _⟩ => ⟨S2816x1024, .bf16⟩
  | .hbm, ⟨14, _⟩ => ⟨S1024, .f32⟩
  | .hbm, ⟨15, _⟩ => ⟨S1x1024, .f32⟩
  | .hbm, ⟨16, _⟩ => ⟨S4096x1024, .bf16⟩
  | .hbm, ⟨17, _⟩ => ⟨S1024x2816, .bf16⟩
  | .hbm, ⟨18, _⟩ => ⟨S4096x2816, .f32⟩
  | .hbm, ⟨19, _⟩ => ⟨S1024x2816, .bf16⟩
  | .hbm, ⟨20, _⟩ => ⟨S4096x2816, .f32⟩
  | .hbm, ⟨21, _⟩ => ⟨S3x5632, .f32⟩
  | .hbm, ⟨22, _⟩ => ⟨S5632, .f32⟩
  | .hbm, ⟨23, _⟩ => ⟨S1x2816, .f32⟩
  | .hbm, ⟨24, _⟩ => ⟨S1x2816, .f32⟩
  | .hbm, ⟨25, _⟩ => ⟨S1x2816, .f32⟩
  | .hbm, ⟨26, _⟩ => ⟨S1x2816, .f32⟩
  | .hbm, ⟨27, _⟩ => ⟨S1x2816, .f32⟩
  | .hbm, ⟨28, _⟩ => ⟨S1x2816, .f32⟩
  | .hbm, ⟨29, _⟩ => ⟨S2816, .f32⟩
  | .hbm, ⟨30, _⟩ => ⟨S1x2816, .f32⟩
  | .hbm, ⟨31, _⟩ => ⟨S2816, .f32⟩
  | .hbm, ⟨32, _⟩ => ⟨S1x2816, .f32⟩
  | .hbm, ⟨33, _⟩ => ⟨S4096x2816, .bf16⟩
  | .hbm, ⟨34, _⟩ => ⟨S4096x1024, .f32⟩
  | .hbm, ⟨35, _⟩ => ⟨S1024x5632, .bf16⟩
  | .hbm, ⟨36, _⟩ => ⟨S2816x1024, .bf16⟩
  | .hbm, ⟨37, _⟩ => ⟨S4096x2816, .f32⟩
  | .hbm, ⟨38, _⟩ => ⟨S2816x1024, .f32⟩
  | .hbm, ⟨39, _⟩ => ⟨S3x5632, .f32⟩
  | .hbm, ⟨40, _⟩ => ⟨S5632, .f32⟩
  | .hbm, ⟨41, _⟩ => ⟨S1x2816, .f32⟩
  | .hbm, ⟨42, _⟩ => ⟨S1x2816, .f32⟩
  | .hbm, ⟨43, _⟩ => ⟨S1x2816, .f32⟩
  | .hbm, ⟨44, _⟩ => ⟨S1x2816, .f32⟩
  | .hbm, ⟨45, _⟩ => ⟨S1x2816, .f32⟩
  | .hbm, ⟨46, _⟩ => ⟨S1x2816, .f32⟩
  | .hbm, ⟨47, _⟩ => ⟨S2816, .f32⟩
  | .hbm, ⟨48, _⟩ => ⟨S1x2816, .f32⟩
  | .hbm, ⟨49, _⟩ => ⟨S2816, .f32⟩
  | .hbm, ⟨50, _⟩ => ⟨S1x2816, .f32⟩
  | .hbm, ⟨51, _⟩ => ⟨S4096x2816, .f32⟩
  | .hbm, ⟨52, _⟩ => ⟨S4096x2816, .f32⟩
  | .hbm, ⟨53, _⟩ => ⟨S1x2816, .f32⟩
  | .hbm, ⟨54, _⟩ => ⟨S1x2816, .f32⟩
  | .hbm, ⟨55, _⟩ => ⟨S1x2816, .f32⟩
  | .hbm, ⟨56, _⟩ => ⟨S1x2816, .f32⟩
  | .hbm, ⟨57, _⟩ => ⟨S1x2816, .f32⟩
  | .hbm, ⟨58, _⟩ => ⟨S1x2816, .f32⟩
  | .hbm, ⟨59, _⟩ => ⟨S1x2816, .f32⟩
  | .hbm, ⟨60, _⟩ => ⟨S1x2816, .f32⟩
  | .hbm, ⟨61, _⟩ => ⟨S3x2816, .f32⟩
  | .hbm, ⟨62, _⟩ => ⟨S3x2816, .f32⟩
  | .hbm, ⟨63, _⟩ => ⟨S3x5632, .f32⟩
  | .hbm, ⟨64, _⟩ => ⟨S1x5632, .f32⟩
  | .hbm, ⟨65, _⟩ => ⟨S5632, .f32⟩
  | .hbm, ⟨66, _⟩ => ⟨S_, .f32⟩
  | .hbm, ⟨67, _⟩ => ⟨S4x1024x1408, .f32⟩
  | .hbm, ⟨68, _⟩ => ⟨S4x1024x1408, .f32⟩
  | .hbm, ⟨69, _⟩ => ⟨S4x1024x1408, .f32⟩
  | .hbm, ⟨70, _⟩ => ⟨S1024x2816, .bf16⟩
  | .hbm, ⟨71, _⟩ => ⟨S4096x1024, .f32⟩
  | .hbm, ⟨72, _⟩ => ⟨S1024x2816, .bf16⟩
  | .hbm, ⟨73, _⟩ => ⟨S4096x1024, .f32⟩
  | .hbm, ⟨74, _⟩ => ⟨S1024, .f32⟩
  | .hbm, ⟨75, _⟩ => ⟨S1x1024, .f32⟩
  | .hbm, ⟨76, _⟩ => ⟨S4096x1024, .f32⟩
  | .hbm, ⟨77, _⟩ => ⟨S1x1024, .f32⟩
  | .hbm, ⟨78, _⟩ => ⟨S4x704x1024, .f32⟩
  | .local _ .vmem, ⟨i, _⟩ => vmemTy i
  | _, _ => ⟨S4096x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 131 → Bool
  | ⟨i, _⟩ => dmaSemScopedAt i

abbrev sig : RefSig :=
  ofTc nBuf bufTy 0 131 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44_0 : Ref sig .tc := ⟨.hbm, 51, rfl⟩
abbrev main_v44_1 : Ref sig .tc := ⟨.hbm, 52, rfl⟩
abbrev main_v44_2 : Ref sig .tc := ⟨.hbm, 53, rfl⟩
abbrev main_v44_3 : Ref sig .tc := ⟨.hbm, 54, rfl⟩
abbrev main_v44_4 : Ref sig .tc := ⟨.hbm, 55, rfl⟩
abbrev main_v44_5 : Ref sig .tc := ⟨.hbm, 56, rfl⟩
abbrev main_v44_6 : Ref sig .tc := ⟨.hbm, 57, rfl⟩
abbrev main_v44_7 : Ref sig .tc := ⟨.hbm, 58, rfl⟩
abbrev main_v44_8 : Ref sig .tc := ⟨.hbm, 59, rfl⟩
abbrev main_v44_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59_0 : Ref sig .tc := ⟨.hbm, 76, rfl⟩
abbrev main_v59_1 : Ref sig .tc := ⟨.hbm, 77, rfl⟩
abbrev main_v60 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg4_1 : Ref sig .tc := ⟨.vmem, 24, rfl⟩
abbrev cc3_stg5_0 : Ref sig .tc := ⟨.vmem, 25, rfl⟩
abbrev cc3_stg5_1 : Ref sig .tc := ⟨.vmem, 26, rfl⟩
abbrev cc3_stg6_0 : Ref sig .tc := ⟨.vmem, 27, rfl⟩
abbrev cc3_stg6_1 : Ref sig .tc := ⟨.vmem, 28, rfl⟩
abbrev cc3_stg7_0 : Ref sig .tc := ⟨.vmem, 29, rfl⟩
abbrev cc3_stg7_1 : Ref sig .tc := ⟨.vmem, 30, rfl⟩
abbrev cc3_stg8_0 : Ref sig .tc := ⟨.vmem, 31, rfl⟩
abbrev cc3_stg8_1 : Ref sig .tc := ⟨.vmem, 32, rfl⟩
abbrev cc3_stg9_0 : Ref sig .tc := ⟨.vmem, 33, rfl⟩
abbrev cc3_stg9_1 : Ref sig .tc := ⟨.vmem, 34, rfl⟩
abbrev cc3_stg10_0 : Ref sig .tc := ⟨.vmem, 35, rfl⟩
abbrev cc3_stg10_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg2_1 : Ref sig .tc := ⟨.vmem, 48, rfl⟩
abbrev cc6_stg0_0 : Ref sig .tc := ⟨.vmem, 49, rfl⟩
abbrev cc6_stg0_1 : Ref sig .tc := ⟨.vmem, 50, rfl⟩
abbrev cc6_stg1_0 : Ref sig .tc := ⟨.vmem, 51, rfl⟩
abbrev cc6_stg1_1 : Ref sig .tc := ⟨.vmem, 52, rfl⟩
abbrev cc6_stg2_0 : Ref sig .tc := ⟨.vmem, 53, rfl⟩
abbrev cc6_stg2_1 : Ref sig .tc := ⟨.vmem, 54, rfl⟩
abbrev cc7_stg0_0 : Ref sig .tc := ⟨.vmem, 55, rfl⟩
abbrev cc7_stg0_1 : Ref sig .tc := ⟨.vmem, 56, rfl⟩
abbrev cc7_stg1_0 : Ref sig .tc := ⟨.vmem, 57, rfl⟩
abbrev cc7_stg1_1 : Ref sig .tc := ⟨.vmem, 58, rfl⟩
abbrev cc7_stg2_0 : Ref sig .tc := ⟨.vmem, 59, rfl⟩
abbrev cc7_stg2_1 : Ref sig .tc := ⟨.vmem, 60, rfl⟩
abbrev cc7_stg3_0 : Ref sig .tc := ⟨.vmem, 61, rfl⟩
abbrev cc7_stg3_1 : Ref sig .tc := ⟨.vmem, 62, rfl⟩
abbrev cc7_stg4_0 : Ref sig .tc := ⟨.vmem, 63, rfl⟩
abbrev cc7_stg4_1 : Ref sig .tc := ⟨.vmem, 64, rfl⟩
abbrev cc7_stg5_0 : Ref sig .tc := ⟨.vmem, 65, rfl⟩
abbrev cc7_stg5_1 : Ref sig .tc := ⟨.vmem, 66, rfl⟩
abbrev cc7_stg6_0 : Ref sig .tc := ⟨.vmem, 67, rfl⟩
abbrev cc7_stg6_1 : Ref sig .tc := ⟨.vmem, 68, rfl⟩
abbrev cc7_stg7_0 : Ref sig .tc := ⟨.vmem, 69, rfl⟩
abbrev cc7_stg7_1 : Ref sig .tc := ⟨.vmem, 70, rfl⟩
abbrev cc7_stg8_0 : Ref sig .tc := ⟨.vmem, 71, rfl⟩
abbrev cc7_stg8_1 : Ref sig .tc := ⟨.vmem, 72, rfl⟩
abbrev cc7_stg9_0 : Ref sig .tc := ⟨.vmem, 73, rfl⟩
abbrev cc7_stg9_1 : Ref sig .tc := ⟨.vmem, 74, rfl⟩
abbrev cc7_stg10_0 : Ref sig .tc := ⟨.vmem, 75, rfl⟩
abbrev cc7_stg10_1 : Ref sig .tc := ⟨.vmem, 76, rfl⟩
abbrev cc7_stg11_0 : Ref sig .tc := ⟨.vmem, 77, rfl⟩
abbrev cc7_stg11_1 : Ref sig .tc := ⟨.vmem, 78, rfl⟩
abbrev cc7_stg12_0 : Ref sig .tc := ⟨.vmem, 79, rfl⟩
abbrev cc7_stg12_1 : Ref sig .tc := ⟨.vmem, 80, rfl⟩
abbrev cc7_stg13_0 : Ref sig .tc := ⟨.vmem, 81, rfl⟩
abbrev cc7_stg13_1 : Ref sig .tc := ⟨.vmem, 82, rfl⟩
abbrev cc7_stg14_0 : Ref sig .tc := ⟨.vmem, 83, rfl⟩
abbrev cc7_stg14_1 : Ref sig .tc := ⟨.vmem, 84, rfl⟩
abbrev cc7_stg15_0 : Ref sig .tc := ⟨.vmem, 85, rfl⟩
abbrev cc7_stg15_1 : Ref sig .tc := ⟨.vmem, 86, rfl⟩
abbrev cc7_stg16_0 : Ref sig .tc := ⟨.vmem, 87, rfl⟩
abbrev cc7_stg16_1 : Ref sig .tc := ⟨.vmem, 88, rfl⟩
abbrev cc7_stg17_0 : Ref sig .tc := ⟨.vmem, 89, rfl⟩
abbrev cc7_stg17_1 : Ref sig .tc := ⟨.vmem, 90, rfl⟩
abbrev cc7_stg18_0 : Ref sig .tc := ⟨.vmem, 91, rfl⟩
abbrev cc7_stg18_1 : Ref sig .tc := ⟨.vmem, 92, rfl⟩
abbrev cc7_stg19_0 : Ref sig .tc := ⟨.vmem, 93, rfl⟩
abbrev cc7_stg19_1 : Ref sig .tc := ⟨.vmem, 94, rfl⟩
abbrev cc7_stg20_0 : Ref sig .tc := ⟨.vmem, 95, rfl⟩
abbrev cc7_stg20_1 : Ref sig .tc := ⟨.vmem, 96, rfl⟩
abbrev cc8_stg0_0 : Ref sig .tc := ⟨.vmem, 97, rfl⟩
abbrev cc8_stg0_1 : Ref sig .tc := ⟨.vmem, 98, rfl⟩
abbrev cc8_stg1_0 : Ref sig .tc := ⟨.vmem, 99, rfl⟩
abbrev cc8_stg1_1 : Ref sig .tc := ⟨.vmem, 100, rfl⟩
abbrev cc8_stg2_0 : Ref sig .tc := ⟨.vmem, 101, rfl⟩
abbrev cc8_stg2_1 : Ref sig .tc := ⟨.vmem, 102, rfl⟩
abbrev cc9_stg0_0 : Ref sig .tc := ⟨.vmem, 103, rfl⟩
abbrev cc9_stg0_1 : Ref sig .tc := ⟨.vmem, 104, rfl⟩
abbrev cc9_stg1_0 : Ref sig .tc := ⟨.vmem, 105, rfl⟩
abbrev cc9_stg1_1 : Ref sig .tc := ⟨.vmem, 106, rfl⟩
abbrev cc9_stg2_0 : Ref sig .tc := ⟨.vmem, 107, rfl⟩
abbrev cc9_stg2_1 : Ref sig .tc := ⟨.vmem, 108, rfl⟩
abbrev cc10_stg0_0 : Ref sig .tc := ⟨.vmem, 109, rfl⟩
abbrev cc10_stg0_1 : Ref sig .tc := ⟨.vmem, 110, rfl⟩
abbrev cc10_stg1_0 : Ref sig .tc := ⟨.vmem, 111, rfl⟩
abbrev cc10_stg2_0 : Ref sig .tc := ⟨.vmem, 112, rfl⟩
abbrev cc10_stg2_1 : Ref sig .tc := ⟨.vmem, 113, rfl⟩
abbrev cc11_stg0_0 : Ref sig .tc := ⟨.vmem, 114, rfl⟩
abbrev cc11_stg0_1 : Ref sig .tc := ⟨.vmem, 115, rfl⟩
abbrev cc11_stg1_0 : Ref sig .tc := ⟨.vmem, 116, rfl⟩
abbrev cc11_stg2_0 : Ref sig .tc := ⟨.vmem, 117, rfl⟩
abbrev cc11_stg2_1 : Ref sig .tc := ⟨.vmem, 118, rfl⟩
abbrev cc11_stg3_0 : Ref sig .tc := ⟨.vmem, 119, rfl⟩
abbrev cc11_stg3_1 : Ref sig .tc := ⟨.vmem, 120, rfl⟩
abbrev cc12_stg0_0 : Ref sig .tc := ⟨.vmem, 121, rfl⟩
abbrev cc12_stg0_1 : Ref sig .tc := ⟨.vmem, 122, rfl⟩
abbrev cc12_stg1_0 : Ref sig .tc := ⟨.vmem, 123, rfl⟩
abbrev cc12_stg2_0 : Ref sig .tc := ⟨.vmem, 124, rfl⟩
abbrev cc12_stg2_1 : Ref sig .tc := ⟨.vmem, 125, rfl⟩
abbrev cc12_stg3_0 : Ref sig .tc := ⟨.vmem, 126, rfl⟩
abbrev cc12_stg3_1 : Ref sig .tc := ⟨.vmem, 127, rfl⟩
abbrev cc12_stg4_0 : Ref sig .tc := ⟨.vmem, 128, rfl⟩
abbrev cc12_stg4_1 : Ref sig .tc := ⟨.vmem, 129, rfl⟩
abbrev cc12_stg5_0 : Ref sig .tc := ⟨.vmem, 130, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem4_1 : DmaSem sig := 24
abbrev cc3_sem5_0 : DmaSem sig := 25
abbrev cc3_sem5_1 : DmaSem sig := 26
abbrev cc3_sem6_0 : DmaSem sig := 27
abbrev cc3_sem6_1 : DmaSem sig := 28
abbrev cc3_sem7_0 : DmaSem sig := 29
abbrev cc3_sem7_1 : DmaSem sig := 30
abbrev cc3_sem8_0 : DmaSem sig := 31
abbrev cc3_sem8_1 : DmaSem sig := 32
abbrev cc3_sem9_0 : DmaSem sig := 33
abbrev cc3_sem9_1 : DmaSem sig := 34
abbrev cc3_sem10_0 : DmaSem sig := 35
abbrev cc3_sem10_1 : DmaSem sig := 36
abbrev cc4_sem0_0 : DmaSem sig := 37
abbrev cc4_sem0_1 : DmaSem sig := 38
abbrev cc4_sem1_0 : DmaSem sig := 39
abbrev cc4_sem2_0 : DmaSem sig := 40
abbrev cc4_sem2_1 : DmaSem sig := 41
abbrev cc4_sem3_0 : DmaSem sig := 42
abbrev cc4_sem3_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem2_1 : DmaSem sig := 48
abbrev cc6_sem0_0 : DmaSem sig := 49
abbrev cc6_sem0_1 : DmaSem sig := 50
abbrev cc6_sem1_0 : DmaSem sig := 51
abbrev cc6_sem1_1 : DmaSem sig := 52
abbrev cc6_sem2_0 : DmaSem sig := 53
abbrev cc6_sem2_1 : DmaSem sig := 54
abbrev cc7_sem0_0 : DmaSem sig := 55
abbrev cc7_sem0_1 : DmaSem sig := 56
abbrev cc7_sem1_0 : DmaSem sig := 57
abbrev cc7_sem1_1 : DmaSem sig := 58
abbrev cc7_sem2_0 : DmaSem sig := 59
abbrev cc7_sem2_1 : DmaSem sig := 60
abbrev cc7_sem3_0 : DmaSem sig := 61
abbrev cc7_sem3_1 : DmaSem sig := 62
abbrev cc7_sem4_0 : DmaSem sig := 63
abbrev cc7_sem4_1 : DmaSem sig := 64
abbrev cc7_sem5_0 : DmaSem sig := 65
abbrev cc7_sem5_1 : DmaSem sig := 66
abbrev cc7_sem6_0 : DmaSem sig := 67
abbrev cc7_sem6_1 : DmaSem sig := 68
abbrev cc7_sem7_0 : DmaSem sig := 69
abbrev cc7_sem7_1 : DmaSem sig := 70
abbrev cc7_sem8_0 : DmaSem sig := 71
abbrev cc7_sem8_1 : DmaSem sig := 72
abbrev cc7_sem9_0 : DmaSem sig := 73
abbrev cc7_sem9_1 : DmaSem sig := 74
abbrev cc7_sem10_0 : DmaSem sig := 75
abbrev cc7_sem10_1 : DmaSem sig := 76
abbrev cc7_sem11_0 : DmaSem sig := 77
abbrev cc7_sem11_1 : DmaSem sig := 78
abbrev cc7_sem12_0 : DmaSem sig := 79
abbrev cc7_sem12_1 : DmaSem sig := 80
abbrev cc7_sem13_0 : DmaSem sig := 81
abbrev cc7_sem13_1 : DmaSem sig := 82
abbrev cc7_sem14_0 : DmaSem sig := 83
abbrev cc7_sem14_1 : DmaSem sig := 84
abbrev cc7_sem15_0 : DmaSem sig := 85
abbrev cc7_sem15_1 : DmaSem sig := 86
abbrev cc7_sem16_0 : DmaSem sig := 87
abbrev cc7_sem16_1 : DmaSem sig := 88
abbrev cc7_sem17_0 : DmaSem sig := 89
abbrev cc7_sem17_1 : DmaSem sig := 90
abbrev cc7_sem18_0 : DmaSem sig := 91
abbrev cc7_sem18_1 : DmaSem sig := 92
abbrev cc7_sem19_0 : DmaSem sig := 93
abbrev cc7_sem19_1 : DmaSem sig := 94
abbrev cc7_sem20_0 : DmaSem sig := 95
abbrev cc7_sem20_1 : DmaSem sig := 96
abbrev cc8_sem0_0 : DmaSem sig := 97
abbrev cc8_sem0_1 : DmaSem sig := 98
abbrev cc8_sem1_0 : DmaSem sig := 99
abbrev cc8_sem1_1 : DmaSem sig := 100
abbrev cc8_sem2_0 : DmaSem sig := 101
abbrev cc8_sem2_1 : DmaSem sig := 102
abbrev cc9_sem0_0 : DmaSem sig := 103
abbrev cc9_sem0_1 : DmaSem sig := 104
abbrev cc9_sem1_0 : DmaSem sig := 105
abbrev cc9_sem1_1 : DmaSem sig := 106
abbrev cc9_sem2_0 : DmaSem sig := 107
abbrev cc9_sem2_1 : DmaSem sig := 108
abbrev cc10_sem0_0 : DmaSem sig := 109
abbrev cc10_sem0_1 : DmaSem sig := 110
abbrev cc10_sem1_0 : DmaSem sig := 111
abbrev cc10_sem2_0 : DmaSem sig := 112
abbrev cc10_sem2_1 : DmaSem sig := 113
abbrev cc11_sem0_0 : DmaSem sig := 114
abbrev cc11_sem0_1 : DmaSem sig := 115
abbrev cc11_sem1_0 : DmaSem sig := 116
abbrev cc11_sem2_0 : DmaSem sig := 117
abbrev cc11_sem2_1 : DmaSem sig := 118
abbrev cc11_sem3_0 : DmaSem sig := 119
abbrev cc11_sem3_1 : DmaSem sig := 120
abbrev cc12_sem0_0 : DmaSem sig := 121
abbrev cc12_sem0_1 : DmaSem sig := 122
abbrev cc12_sem1_0 : DmaSem sig := 123
abbrev cc12_sem2_0 : DmaSem sig := 124
abbrev cc12_sem2_1 : DmaSem sig := 125
abbrev cc12_sem3_0 : DmaSem sig := 126
abbrev cc12_sem3_1 : DmaSem sig := 127
abbrev cc12_sem4_0 : DmaSem sig := 128
abbrev cc12_sem4_1 : DmaSem sig := 129
abbrev cc12_sem5_0 : DmaSem sig := 130

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1024x2816 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S512x2816 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S1024x2816 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 2 → Memref sig .tc .vmem S512x2816 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![22], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S1x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S4096x128 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨2, ![1, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S512x2816 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S2816x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![1, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S512x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 1 → Memref sig .tc .vmem S2816x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, false]

abbrev stage5_2 : Fin 2 → Memref sig .tc .vmem S512x2816 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![2, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage6_0 : Fin 2 → Memref sig .tc .vmem S1024x2816 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S1024x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S2816x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev grid7 : Pipeline.Grid := ⟨1, ![22], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_8 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_9 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_10 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_11 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_12 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_13 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_14 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_15 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_16 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_17 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_18 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_19 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_20 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage7_0 : Fin 2 → Memref sig .tc .vmem S4096x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4096x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S1x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S1x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S1x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S1x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S1x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 2 → Memref sig .tc .vmem S1x128 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev stage7_9 : Fin 2 → Memref sig .tc .vmem S1x128 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

abbrev stage7_10 : Fin 2 → Memref sig .tc .vmem S4096x128 .f32 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![true]

abbrev stage7_11 : Fin 2 → Memref sig .tc .vmem S4096x128 .f32 := fun | 0 => Memref.whole cc7_stg11_0 | 1 => Memref.whole cc7_stg11_1 | ⟨_ + 2, h⟩ => absurd h (Nat.not_lt.2 (Nat.le_add_left _ _))
abbrev sem7_11 : Fin 2 → DmaSem sig := fun | 0 => cc7_sem11_0 | 1 => cc7_sem11_1 | ⟨_ + 2, h⟩ => absurd h (Nat.not_lt.2 (Nat.le_add_left _ _))
abbrev reads7_11 : Fin grid7.rank → Bool := ![true]

abbrev stage7_12 : Fin 2 → Memref sig .tc .vmem S4096x128 .f32 := fun | 0 => Memref.whole cc7_stg12_0 | 1 => Memref.whole cc7_stg12_1 | ⟨_ + 2, h⟩ => absurd h (Nat.not_lt.2 (Nat.le_add_left _ _))
abbrev sem7_12 : Fin 2 → DmaSem sig := fun | 0 => cc7_sem12_0 | 1 => cc7_sem12_1 | ⟨_ + 2, h⟩ => absurd h (Nat.not_lt.2 (Nat.le_add_left _ _))
abbrev reads7_12 : Fin grid7.rank → Bool := ![true]

abbrev stage7_13 : Fin 2 → Memref sig .tc .vmem S1x128 .f32 := fun | 0 => Memref.whole cc7_stg13_0 | 1 => Memref.whole cc7_stg13_1 | ⟨_ + 2, h⟩ => absurd h (Nat.not_lt.2 (Nat.le_add_left _ _))
abbrev sem7_13 : Fin 2 → DmaSem sig := fun | 0 => cc7_sem13_0 | 1 => cc7_sem13_1 | ⟨_ + 2, h⟩ => absurd h (Nat.not_lt.2 (Nat.le_add_left _ _))
abbrev reads7_13 : Fin grid7.rank → Bool := ![true]

abbrev stage7_14 : Fin 2 → Memref sig .tc .vmem S1x128 .f32 := fun | 0 => Memref.whole cc7_stg14_0 | 1 => Memref.whole cc7_stg14_1 | ⟨_ + 2, h⟩ => absurd h (Nat.not_lt.2 (Nat.le_add_left _ _))
abbrev sem7_14 : Fin 2 → DmaSem sig := fun | 0 => cc7_sem14_0 | 1 => cc7_sem14_1 | ⟨_ + 2, h⟩ => absurd h (Nat.not_lt.2 (Nat.le_add_left _ _))
abbrev reads7_14 : Fin grid7.rank → Bool := ![true]

abbrev stage7_15 : Fin 2 → Memref sig .tc .vmem S1x128 .f32 := fun | 0 => Memref.whole cc7_stg15_0 | 1 => Memref.whole cc7_stg15_1 | ⟨_ + 2, h⟩ => absurd h (Nat.not_lt.2 (Nat.le_add_left _ _))
abbrev sem7_15 : Fin 2 → DmaSem sig := fun | 0 => cc7_sem15_0 | 1 => cc7_sem15_1 | ⟨_ + 2, h⟩ => absurd h (Nat.not_lt.2 (Nat.le_add_left _ _))
abbrev reads7_15 : Fin grid7.rank → Bool := ![true]

abbrev stage7_16 : Fin 2 → Memref sig .tc .vmem S1x128 .f32 := fun | 0 => Memref.whole cc7_stg16_0 | 1 => Memref.whole cc7_stg16_1 | ⟨_ + 2, h⟩ => absurd h (Nat.not_lt.2 (Nat.le_add_left _ _))
abbrev sem7_16 : Fin 2 → DmaSem sig := fun | 0 => cc7_sem16_0 | 1 => cc7_sem16_1 | ⟨_ + 2, h⟩ => absurd h (Nat.not_lt.2 (Nat.le_add_left _ _))
abbrev reads7_16 : Fin grid7.rank → Bool := ![true]

abbrev stage7_17 : Fin 2 → Memref sig .tc .vmem S1x128 .f32 := fun | 0 => Memref.whole cc7_stg17_0 | 1 => Memref.whole cc7_stg17_1 | ⟨_ + 2, h⟩ => absurd h (Nat.not_lt.2 (Nat.le_add_left _ _))
abbrev sem7_17 : Fin 2 → DmaSem sig := fun | 0 => cc7_sem17_0 | 1 => cc7_sem17_1 | ⟨_ + 2, h⟩ => absurd h (Nat.not_lt.2 (Nat.le_add_left _ _))
abbrev reads7_17 : Fin grid7.rank → Bool := ![true]

abbrev stage7_18 : Fin 2 → Memref sig .tc .vmem S1x128 .f32 := fun | 0 => Memref.whole cc7_stg18_0 | 1 => Memref.whole cc7_stg18_1 | ⟨_ + 2, h⟩ => absurd h (Nat.not_lt.2 (Nat.le_add_left _ _))
abbrev sem7_18 : Fin 2 → DmaSem sig := fun | 0 => cc7_sem18_0 | 1 => cc7_sem18_1 | ⟨_ + 2, h⟩ => absurd h (Nat.not_lt.2 (Nat.le_add_left _ _))
abbrev reads7_18 : Fin grid7.rank → Bool := ![true]

abbrev stage7_19 : Fin 2 → Memref sig .tc .vmem S1x128 .f32 := fun | 0 => Memref.whole cc7_stg19_0 | 1 => Memref.whole cc7_stg19_1 | ⟨_ + 2, h⟩ => absurd h (Nat.not_lt.2 (Nat.le_add_left _ _))
abbrev sem7_19 : Fin 2 → DmaSem sig := fun | 0 => cc7_sem19_0 | 1 => cc7_sem19_1 | ⟨_ + 2, h⟩ => absurd h (Nat.not_lt.2 (Nat.le_add_left _ _))
abbrev reads7_19 : Fin grid7.rank → Bool := ![true]

abbrev stage7_20 : Fin 2 → Memref sig .tc .vmem S1x128 .f32 := fun | 0 => Memref.whole cc7_stg20_0 | 1 => Memref.whole cc7_stg20_1 | ⟨_ + 2, h⟩ => absurd h (Nat.not_lt.2 (Nat.le_add_left _ _))
abbrev sem7_20 : Fin 2 → DmaSem sig := fun | 0 => cc7_sem20_0 | 1 => cc7_sem20_1 | ⟨_ + 2, h⟩ => absurd h (Nat.not_lt.2 (Nat.le_add_left _ _))
abbrev reads7_20 : Fin grid7.rank → Bool := ![true]

abbrev grid8 : Pipeline.Grid := ⟨2, ![2, 4], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc8_transform_3 (i : grid8.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

abbrev stage8_0 : Fin 2 → Memref sig .tc .vmem S1024x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![false, true]

abbrev stage8_1 : Fin 2 → Memref sig .tc .vmem S1024x1408 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, true]

abbrev stage8_2 : Fin 2 → Memref sig .tc .vmem S1x1024x1408 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev grid9 : Pipeline.Grid := ⟨2, ![2, 4], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc9_transform_3 (i : grid9.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![v0.toNat, c0_i32.toNat, c0_i32_0.toNat]

abbrev stage9_0 : Fin 2 → Memref sig .tc .vmem S1024x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![false, true]

abbrev stage9_1 : Fin 2 → Memref sig .tc .vmem S1024x1408 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, true]

abbrev stage9_2 : Fin 2 → Memref sig .tc .vmem S1x1024x1408 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, false]

abbrev grid10 : Pipeline.Grid := ⟨2, ![1, 8], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage10_0 : Fin 2 → Memref sig .tc .vmem S512x2816 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![false, true]

abbrev stage10_1 : Fin 1 → Memref sig .tc .vmem S1024x2816 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![true, false]

abbrev stage10_2 : Fin 2 → Memref sig .tc .vmem S512x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev grid11 : Pipeline.Grid := ⟨2, ![1, 8], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc11_transform_3 (i : grid11.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage11_0 : Fin 2 → Memref sig .tc .vmem S512x2816 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![false, true]

abbrev stage11_1 : Fin 1 → Memref sig .tc .vmem S1024x2816 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![true, false]

abbrev stage11_2 : Fin 2 → Memref sig .tc .vmem S512x1024 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true]

abbrev stage11_3 : Fin 2 → Memref sig .tc .vmem S512x1024 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, true]

abbrev grid12 : Pipeline.Grid := ⟨1, ![8], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S512x1024 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x1024 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S512x1024 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 2 → Memref sig .tc .vmem S512x1024 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 2 → Memref sig .tc .vmem S512x1024 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev stage12_5 : Fin 1 → Memref sig .tc .vmem S1x1024 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]
-- ==== FfnReferenceIdeal.lean ====
abbrev S4096x1024 : Shape := ⟨2, ![4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S2x5632 : Shape := ⟨2, ![2, 5632]⟩
abbrev S4098x5632 : Shape := ⟨2, ![4098, 5632]⟩
abbrev S1x5632 : Shape := ⟨2, ![1, 5632]⟩
abbrev S4096x2816 : Shape := ⟨2, ![4096, 2816]⟩
abbrev S1024x2816 : Shape := ⟨2, ![1024, 2816]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩
abbrev S4x704x1024 : Shape := ⟨3, ![4, 704, 1024]⟩

abbrev nBuf : Space → Nat
  | .hbm => 180
  | .vmem => 0
  | .smem => 0
  | _ => 0

abbrev hbmTy0_0 (i : Nat) : BufTy := match i % 128 with
  | 0 => ⟨S4096x1024, .f32⟩
  | 1 => ⟨S4096x1024, .f32⟩
  | 2 => ⟨S1024, .f32⟩
  | 3 => ⟨S1024x5632, .bf16⟩
  | 4 => ⟨S3x5632, .f32⟩
  | 5 => ⟨S5632, .f32⟩
  | 6 => ⟨S2816x1024, .bf16⟩
  | 7 => ⟨S1024x5632, .f32⟩
  | 8 => ⟨S2816x1024, .f32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1024, .f32⟩
  | 25 => ⟨S4096x1024, .f32⟩
  | 26 => ⟨S1x1024, .f32⟩
  | 27 => ⟨S4096x1024, .f32⟩
  | 28 => ⟨S4096x1024, .f32⟩
  | 29 => ⟨S4096x5632, .f32⟩
  | 30 => ⟨S_, .f32⟩
  | 31 => ⟨S2x5632, .f32⟩
  | 32 => ⟨S4098x5632, .f32⟩
  | 33 => ⟨S_, .f32⟩
  | 34 => ⟨S2x5632, .f32⟩
  | 35 => ⟨S4096x5632, .f32⟩
  | 36 => ⟨S1x5632, .f32⟩
  | 37 => ⟨S5632, .f32⟩
  | 38 => ⟨S1x5632, .f32⟩
  | 39 => ⟨S4096x5632, .f32⟩
  | 40 => ⟨S4096x5632, .f32⟩
  | 41 => ⟨S_, .f32⟩
  | 42 => ⟨S4096x5632, .f32⟩
  | 43 => ⟨S4096x5632, .f32⟩
  | 44 => ⟨S4096x5632, .f32⟩
  | 45 => ⟨S1x5632, .f32⟩
  | 46 => ⟨S5632, .f32⟩
  | 47 => ⟨S1x5632, .f32⟩
  | 48 => ⟨S4096x5632, .f32⟩
  | 49 => ⟨S4096x5632, .f32⟩
  | 50 => ⟨S4096x5632, .f32⟩
  | 51 => ⟨S4096x5632, .f32⟩
  | 52 => ⟨S1x5632, .f32⟩
  | 53 => ⟨S5632, .f32⟩
  | 54 => ⟨S1x5632, .f32⟩
  | 55 => ⟨S4096x5632, .f32⟩
  | 56 => ⟨S4096x5632, .f32⟩
  | 57 => ⟨S4096x5632, .f32⟩
  | 58 => ⟨S1x5632, .f32⟩
  | 59 => ⟨S4096x5632, .f32⟩
  | 60 => ⟨S4096x5632, .f32⟩
  | 61 => ⟨S4096x2816, .f32⟩
  | 62 => ⟨S4096x2816, .f32⟩
  | 63 => ⟨S4096x2816, .f32⟩
  | 64 => ⟨S4096x2816, .f32⟩
  | 65 => ⟨S_, .f32⟩
  | 66 => ⟨S4096x2816, .f32⟩
  | 67 => ⟨S4096x2816, .f32⟩
  | 68 => ⟨S_, .f32⟩
  | 69 => ⟨S4096x2816, .f32⟩
  | 70 => ⟨S4096x2816, .f32⟩
  | 71 => ⟨S_, .f32⟩
  | 72 => ⟨S4096x2816, .f32⟩
  | 73 => ⟨S4096x2816, .f32⟩
  | 74 => ⟨S4096x2816, .f32⟩
  | 75 => ⟨S4096x2816, .f32⟩
  | 76 => ⟨S4096x2816, .f32⟩
  | 77 => ⟨S4096x1024, .f32⟩
  | 78 => ⟨S4096x1024, .f32⟩
  | 79 => ⟨S4096x1024, .f32⟩
  | 80 => ⟨S1024x2816, .f32⟩
  | 81 => ⟨S2816x1024, .f32⟩
  | 82 => ⟨S4096x2816, .f32⟩
  | 83 => ⟨S4096x2816, .f32⟩
  | 84 => ⟨S4096x2816, .f32⟩
  | 85 => ⟨S4096x2816, .f32⟩
  | 86 => ⟨S4096x2816, .f32⟩
  | 87 => ⟨S4096x2816, .f32⟩
  | 88 => ⟨S4096x2816, .f32⟩
  | 89 => ⟨S4096x5632, .f32⟩
  | 90 => ⟨S_, .f32⟩
  | 91 => ⟨S5632, .f32⟩
  | 92 => ⟨S1x5632, .f32⟩
  | 93 => ⟨S_, .f32⟩
  | 94 => ⟨S5632, .f32⟩
  | 95 => ⟨S4096x5632, .f32⟩
  | 96 => ⟨S_, .f32⟩
  | 97 => ⟨S5632, .f32⟩
  | 98 => ⟨S1x5632, .f32⟩
  | 99 => ⟨S4096x5632, .f32⟩
  | 100 => ⟨S4096x5632, .f32⟩
  | 101 => ⟨S_, .f32⟩
  | 102 => ⟨S5632, .f32⟩
  | 103 => ⟨S1x5632, .f32⟩
  | 104 => ⟨S_, .f32⟩
  | 105 => ⟨S3x5632, .f32⟩
  | 106 => ⟨S_, .f32⟩
  | 107 => ⟨S4098x5632, .f32⟩
  | 108 => ⟨S4096x5632, .f32⟩
  | 109 => ⟨S_, .f32⟩
  | 110 => ⟨S5632, .f32⟩
  | 111 => ⟨S1x5632, .f32⟩
  | 112 => ⟨S4096x5632, .f32⟩
  | 113 => ⟨S4096x5632, .f32⟩
  | 114 => ⟨S_, .f32⟩
  | 115 => ⟨S5632, .f32⟩
  | 116 => ⟨S1x5632, .f32⟩
  | 117 => ⟨S_, .f32⟩
  | 118 => ⟨S3x5632, .f32⟩
  | 119 => ⟨S3x5632, .f32⟩
  | 120 => ⟨S_, .f32⟩
  | 121 => ⟨S4098x5632, .f32⟩
  | 122 => ⟨S4098x5632, .f32⟩
  | 123 => ⟨S4096x5632, .f32⟩
  | 124 => ⟨S_, .f32⟩
  | 125 => ⟨S5632, .f32⟩
  | 126 => ⟨S1x5632, .f32⟩
  | 127 => ⟨S4096x5632, .f32⟩
  | _ => ⟨S4096x1024, .f32⟩

abbrev hbmTy0_1 (i : Nat) : BufTy := match i % 128 with
  | 0 => ⟨S4096x5632, .f32⟩
  | 1 => ⟨S_, .f32⟩
  | 2 => ⟨S5632, .f32⟩
  | 3 => ⟨S1x5632, .f32⟩
  | 4 => ⟨S_, .f32⟩
  | 5 => ⟨S3x5632, .f32⟩
  | 6 => ⟨S3x5632, .f32⟩
  | 7 => ⟨S_, .f32⟩
  | 8 => ⟨S4098x5632, .f32⟩
  | 9 => ⟨S4098x5632, .f32⟩
  | 10 => ⟨S2x5632, .f32⟩
  | 11 => ⟨S4096x5632, .f32⟩
  | 12 => ⟨S5632x1024, .f32⟩
  | 13 => ⟨S1024x5632, .f32⟩
  | 14 => ⟨S4096x1024, .f32⟩
  | 15 => ⟨S4096x1024, .f32⟩
  | 16 => ⟨S_, .f32⟩
  | 17 => ⟨S1024, .f32⟩
  | 18 => ⟨S1x1024, .f32⟩
  | 19 => ⟨S4096x1024, .f32⟩
  | 20 => ⟨S4096x1024, .f32⟩
  | 21 => ⟨S_, .f32⟩
  | 22 => ⟨S1024, .f32⟩
  | 23 => ⟨S4096x1024, .f32⟩
  | 24 => ⟨S_, .f32⟩
  | 25 => ⟨S4096, .f32⟩
  | 26 => ⟨S4096x1, .f32⟩
  | 27 => ⟨S4096x1024, .f32⟩
  | 28 => ⟨S4096x1024, .f32⟩
  | 29 => ⟨S4096x1024, .f32⟩
  | 30 => ⟨S4096x1, .f32⟩
  | 31 => ⟨S_, .f32⟩
  | 32 => ⟨S4096x1, .f32⟩
  | 33 => ⟨S4096x1, .f32⟩
  | 34 => ⟨S_, .f32⟩
  | 35 => ⟨S4096, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S1x1024, .f32⟩
  | 42 => ⟨S1024x1408, .f32⟩
  | 43 => ⟨S1024x1408, .f32⟩
  | 44 => ⟨S1024x1408, .f32⟩
  | 45 => ⟨S1024x1408, .f32⟩
  | 46 => ⟨S1x1024x1408, .f32⟩
  | 47 => ⟨S1x1024x1408, .f32⟩
  | 48 => ⟨S1x1024x1408, .f32⟩
  | 49 => ⟨S1x1024x1408, .f32⟩
  | 50 => ⟨S4x1024x1408, .f32⟩
  | 51 => ⟨S4x704x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_v49_2 : Ref sig .tc := ⟨.hbm, 70, rfl⟩
abbrev main_call0_cst_1 : Ref sig .tc := ⟨.hbm, 71, rfl⟩
abbrev main_call0_v6 : Ref sig .tc := ⟨.hbm, 72, rfl⟩
abbrev main_call0_v7 : Ref sig .tc := ⟨.hbm, 73, rfl⟩
abbrev main_v49_1 : Ref sig .tc := ⟨.hbm, 74, rfl⟩
abbrev main_v49_0 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v59 : Ref sig .tc := ⟨.hbm, 88, rfl⟩
abbrev main_v60 : Ref sig .tc := ⟨.hbm, 89, rfl⟩
abbrev main_cst_6 : Ref sig .tc := ⟨.hbm, 90, rfl⟩
abbrev main_v61 : Ref sig .tc := ⟨.hbm, 91, rfl⟩
abbrev main_v62 : Ref sig .tc := ⟨.hbm, 92, rfl⟩
abbrev main_cst_7 : Ref sig .tc := ⟨.hbm, 93, rfl⟩
abbrev main_v63 : Ref sig .tc := ⟨.hbm, 94, rfl⟩
abbrev main_v64 : Ref sig .tc := ⟨.hbm, 95, rfl⟩
abbrev main_cst_8 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_9 : Ref sig .tc := ⟨.hbm, 101, rfl⟩
abbrev main_v69 : Ref sig .tc := ⟨.hbm, 102, rfl⟩
abbrev main_v70 : Ref sig .tc := ⟨.hbm, 103, rfl⟩
abbrev main_cst_10 : Ref sig .tc := ⟨.hbm, 104, rfl⟩
abbrev main_v71 : Ref sig .tc := ⟨.hbm, 105, rfl⟩
abbrev main_cst_11 : Ref sig .tc := ⟨.hbm, 106, rfl⟩
abbrev main_v72 : Ref sig .tc := ⟨.hbm, 107, rfl⟩
abbrev main_v73 : Ref sig .tc := ⟨.hbm, 108, rfl⟩
abbrev main_cst_12 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_13 : Ref sig .tc := ⟨.hbm, 114, rfl⟩
abbrev main_v78 : Ref sig .tc := ⟨.hbm, 115, rfl⟩
abbrev main_v79 : Ref sig .tc := ⟨.hbm, 116, rfl⟩
abbrev main_cst_14 : Ref sig .tc := ⟨.hbm, 117, rfl⟩
abbrev main_v80 : Ref sig .tc := ⟨.hbm, 118, rfl⟩
abbrev main_v81 : Ref sig .tc := ⟨.hbm, 119, rfl⟩
abbrev main_cst_15 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_16 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_17 : Ref sig .tc := ⟨.hbm, 129, rfl⟩
abbrev main_v89 : Ref sig .tc := ⟨.hbm, 130, rfl⟩
abbrev main_v90 : Ref sig .tc := ⟨.hbm, 131, rfl⟩
abbrev main_cst_18 : Ref sig .tc := ⟨.hbm, 132, rfl⟩
abbrev main_v91 : Ref sig .tc := ⟨.hbm, 133, rfl⟩
abbrev main_v92 : Ref sig .tc := ⟨.hbm, 134, rfl⟩
abbrev main_cst_19 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_20 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_21 : Ref sig .tc := ⟨.hbm, 149, rfl⟩
abbrev main_v105 : Ref sig .tc := ⟨.hbm, 150, rfl⟩
abbrev main_v106 : Ref sig .tc := ⟨.hbm, 151, rfl⟩
abbrev main_cst_22 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_23 : Ref sig .tc := ⟨.hbm, 159, rfl⟩
abbrev main_v113 : Ref sig .tc := ⟨.hbm, 160, rfl⟩
abbrev main_v114 : Ref sig .tc := ⟨.hbm, 161, rfl⟩
abbrev main_cst_24 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩

abbrev nD : Nat := 1
abbrev τ : Topo := Topo.v7x

variable {F : FTy → Type} [FloatOps F]
-- ==== Proj.lean ====
abbrev S4096x1024 : Shape := ⟨2, ![4096, 1024]⟩
abbrev S1024 : Shape := ⟨1, ![1024]⟩
abbrev S1024x2496 : Shape := ⟨2, ![1024, 2496]⟩
abbrev S1024x1024 : Shape := ⟨2, ![1024, 1024]⟩
abbrev S4096x512 : Shape := ⟨2, ![4096, 512]⟩
abbrev S4096x2048 : Shape := ⟨2, ![4096, 2048]⟩
abbrev S1x1024 : Shape := ⟨2, ![1, 1024]⟩
abbrev S1x1024x2496 : Shape := ⟨3, ![1, 1024, 2496]⟩
abbrev S1x1024x1024 : Shape := ⟨3, ![1, 1024, 1024]⟩
abbrev S512x1024 : Shape := ⟨2, ![512, 1024]⟩
abbrev S512 : Shape := ⟨1, ![512]⟩
abbrev S512x1 : Shape := ⟨2, ![512, 1]⟩
abbrev S1024x2432 : Shape := ⟨2, ![1024, 2432]⟩
abbrev S1024x64 : Shape := ⟨2, ![1024, 64]⟩
abbrev S_ : Shape := ⟨0, ![]⟩
abbrev S1024x32 : Shape := ⟨2, ![1024, 32]⟩
abbrev S1024x128 : Shape := ⟨2, ![1024, 128]⟩
abbrev S1024x2560 : Shape := ⟨2, ![1024, 2560]⟩
abbrev S4096x2560 : Shape := ⟨2, ![4096, 2560]⟩
abbrev S512x2560 : Shape := ⟨2, ![512, 2560]⟩
abbrev S512x512 : Shape := ⟨2, ![512, 512]⟩
abbrev S1024x512 : Shape := ⟨2, ![1024, 512]⟩
abbrev S1024x2048 : Shape := ⟨2, ![1024, 2048]⟩
abbrev S512x2048 : Shape := ⟨2, ![512, 2048]⟩

abbrev nBuf : Space → Nat
  | .hbm => 64
  | .vmem => 76
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x2496, .bf16⟩
  | .hbm, ⟨4, _⟩ => ⟨S1024x1024, .bf16⟩
  | .hbm, ⟨5, _⟩ => ⟨S4096x512, .bf16⟩
  | .hbm, ⟨6, _⟩ => ⟨S4096x512, .f32⟩
  | .hbm, ⟨7, _⟩ => ⟨S4096x2048, .f32⟩
  | .hbm, ⟨8, _⟩ => ⟨S4096x512, .f32⟩
  | .hbm, ⟨9, _⟩ => ⟨S1x1024, .f32⟩
  | .hbm, ⟨10, _⟩ => ⟨S1x1024x2496, .bf16⟩
  | .hbm, ⟨11, _⟩ => ⟨S1x1024x1024, .bf16⟩
  | .hbm, ⟨12, _⟩ => ⟨S1024, .f32⟩
  | .hbm, ⟨13, _⟩ => ⟨S1x1024, .f32⟩
  | .hbm, ⟨14, _⟩ => ⟨S4096x1024, .bf16⟩
  | .hbm, ⟨15, _⟩ => ⟨S1024x2496, .bf16⟩
  | .hbm, ⟨16, _⟩ => ⟨S1024x2432, .bf16⟩
  | .hbm, ⟨17, _⟩ => ⟨S1024x64, .bf16⟩
  | .hbm, ⟨18, _⟩ => ⟨S_, .bf16⟩
  | .hbm, ⟨19, _⟩ => ⟨S1024x32, .bf16⟩
  | .hbm, ⟨20, _⟩ => ⟨S1024x32, .bf16⟩
  | .hbm, ⟨21, _⟩ => ⟨S1024x32, .bf16⟩
  | .hbm, ⟨22, _⟩ => ⟨S1024x128, .bf16⟩
  | .hbm, ⟨23, _⟩ => ⟨S1024x2560, .bf16⟩
  | .hbm, ⟨24, _⟩ => ⟨S4096x2560, .f32⟩
  | .hbm, ⟨25, _⟩ => ⟨S1024x1024, .bf16⟩
  | .hbm, ⟨26, _⟩ => ⟨S512x1024, .bf16⟩
  | .hbm, ⟨27, _⟩ => ⟨S4096x1024, .f32⟩
  | .hbm, ⟨28, _⟩ => ⟨S512x1024, .bf16⟩
  | .hbm, ⟨29, _⟩ => ⟨S4096x1024, .f32⟩
  | .hbm, ⟨30, _⟩ => ⟨S1024x1024, .bf16⟩
  | .hbm, ⟨31, _⟩ => ⟨S512x1024, .bf16⟩
  | .hbm, ⟨32, _⟩ => ⟨S4096x512, .f32⟩
  | .hbm, ⟨33, _⟩ => ⟨S512x1024, .bf16⟩
  | .hbm, ⟨34, _⟩ => ⟨S4096x512, .f32⟩
  | .hbm, ⟨35, _⟩ => ⟨S512x1024, .f32⟩
  | .hbm, ⟨36, _⟩ => ⟨S512x1024, .f32⟩
  | .hbm, ⟨37, _⟩ => ⟨S1024x1024, .f32⟩
  | .hbm, ⟨38, _⟩ => ⟨S1024x2496, .bf16⟩
  | .hbm, ⟨39, _⟩ => ⟨S1024x2432, .bf16⟩
  | .hbm, ⟨40, _⟩ => ⟨S1024x64, .bf16⟩
  | .hbm, ⟨41, _⟩ => ⟨S_, .bf16⟩
  | .hbm, ⟨42, _⟩ => ⟨S1024x32, .bf16⟩
  | .hbm, ⟨43, _⟩ => ⟨S1024x32, .bf16⟩
  | .hbm, ⟨44, _⟩ => ⟨S1024x32, .bf16⟩
  | .hbm, ⟨45, _⟩ => ⟨S1024x128, .bf16⟩
  | .hbm, ⟨46, _⟩ => ⟨S1024x2560, .bf16⟩
  | .hbm, ⟨47, _⟩ => ⟨S1024x2048, .f32⟩
  | .hbm, ⟨48, _⟩ => ⟨S1024x512, .f32⟩
  | .hbm, ⟨49, _⟩ => ⟨S1024x2560, .f32⟩
  | .hbm, ⟨50, _⟩ => ⟨S1024x2048, .bf16⟩
  | .hbm, ⟨51, _⟩ => ⟨S4096x1024, .f32⟩
  | .hbm, ⟨52, _⟩ => ⟨S1024x512, .bf16⟩
  | .hbm, ⟨53, _⟩ => ⟨S4096x1024, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S1x1024, .f32⟩
  | .hbm, ⟨58, _⟩ => ⟨S1024x2432, .f32⟩
  | .hbm, ⟨59, _⟩ => ⟨S1024x128, .f32⟩
  | .hbm, ⟨60, _⟩ => ⟨S1024x32, .f32⟩
  | .hbm, ⟨61, _⟩ => ⟨S1024x32, .f32⟩
  | .hbm, ⟨62, _⟩ => ⟨S1024x64, .f32⟩
  | .hbm, ⟨63, _⟩ => ⟨S1024x2496, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1024x2560, .bf16⟩
  | .local _ .vmem, ⟨8, _⟩ => ⟨S512x2560, .f32⟩
  | .local _ .vmem, ⟨9, _⟩ => ⟨S512x2560, .f32⟩
  | .local _ .vmem, ⟨10, _⟩ => ⟨S512x512, .bf16⟩
  | .local _ .vmem, ⟨11, _⟩ => ⟨S512x512, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x512, .f32⟩
  | .local _ .vmem, ⟨18, _⟩ => ⟨S512x512, .f32⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x512, .f32⟩
  | .local _ .vmem, ⟨28, _⟩ => ⟨S512x512, .f32⟩
  | .local _ .vmem, ⟨29, _⟩ => ⟨S512x1024, .f32⟩
  | .local _ .vmem, ⟨30, _⟩ => ⟨S512x1024, .f32⟩
  | .local _ .vmem, ⟨31, _⟩ => ⟨S512x1024, .bf16⟩
  | .local _ .vmem, ⟨32, _⟩ => ⟨S512x512, .f32⟩
  | .local _ .vmem, ⟨33, _⟩ => ⟨S512x512, .f32⟩
  | .local _ .vmem, ⟨34, _⟩ => ⟨S1024x512, .bf16⟩
  | .local _ .vmem, ⟨35, _⟩ => ⟨S1024x512, .bf16⟩
  | .local _ .vmem, ⟨36, _⟩ => ⟨S1024x1024, .f32⟩
  | .local _ .vmem, ⟨37, _⟩ => ⟨S1024x1024, .f32⟩
  | .local _ .vmem, ⟨38, _⟩ => ⟨S512x1024, .f32⟩
  | .local _ .vmem, ⟨39, _⟩ => ⟨S1024x512, .f32⟩
  | .local _ .vmem, ⟨40, _⟩ => ⟨S1024x512, .f32⟩
  | .local _ .vmem, ⟨41, _⟩ => ⟨S1024x1024, .f32⟩
  | .local _ .vmem, ⟨42, _⟩ => ⟨S1024x1024, .f32⟩
  | .local _ .vmem, ⟨43, _⟩ => ⟨S512x1024, .f32⟩
  | .local _ .vmem, ⟨44, _⟩ => ⟨S1024x1024, .bf16⟩
  | .local _ .vmem, ⟨45, _⟩ => ⟨S1024x1024, .bf16⟩
  | .local _ .vmem, ⟨46, _⟩ => ⟨S1024x2048, .f32⟩
  | .local _ .vmem, ⟨47, _⟩ => ⟨S1024x2048, .f32⟩
  | .local _ .vmem, ⟨48, _⟩ => ⟨S1024x2048, .f32⟩
  | .local _ .vmem, ⟨49, _⟩ => ⟨S1024x1024, .bf16⟩
  | .local _ .vmem, ⟨50, _⟩ => ⟨S1024x1024, .bf16⟩
  | .local _ .vmem, ⟨51, _⟩ => ⟨S1024x512, .f32⟩
  | .local _ .vmem, ⟨52, _⟩ => ⟨S1024x512, .f32⟩
  | .local _ .vmem, ⟨53, _⟩ => ⟨S1024x512, .f32⟩
  | .local _ .vmem, ⟨54, _⟩ => ⟨S512x2048, .f32⟩
  | .local _ .vmem, ⟨55, _⟩ => ⟨S512x2048, .f32⟩
  | .local _ .vmem, ⟨56, _⟩ => ⟨S1024x2048, .bf16⟩
  | .local _ .vmem, ⟨57, _⟩ => ⟨S512x1024, .f32⟩
  | .local _ .vmem, ⟨58, _⟩ => ⟨S512x1024, .f32⟩
  | .local _ .vmem, ⟨59, _⟩ => ⟨S512x512, .f32⟩
  | .local _ .vmem, ⟨60, _⟩ => ⟨S512x512, .f32⟩
  | .local _ .vmem, ⟨61, _⟩ => ⟨S1024x512, .bf16⟩
  | .local _ .vmem, ⟨62, _⟩ => ⟨S512x1024, .f32⟩
  | .local _ .vmem, ⟨63, _⟩ => ⟨S512x1024, .f32⟩
  | .local _ .vmem, ⟨64, _⟩ => ⟨S512x1024, .f32⟩
  | .local _ .vmem, ⟨65, _⟩ => ⟨S512x1024, .f32⟩
  | .local _ .vmem, ⟨66, _⟩ => ⟨S512x1024, .f32⟩
  | .local _ .vmem, ⟨67, _⟩ => ⟨S512x1024, .f32⟩
  | .local _ .vmem, ⟨68, _⟩ => ⟨S1x1024, .f32⟩
  | .local _ .vmem, ⟨69, _⟩ => ⟨S512x1024, .f32⟩
  | .local _ .vmem, ⟨70, _⟩ => ⟨S512x1024, .f32⟩
  | .local _ .vmem, ⟨71, _⟩ => ⟨S512x1024, .f32⟩
  | .local _ .vmem, ⟨72, _⟩ => ⟨S512x1024, .f32⟩
  | .local _ .vmem, ⟨73, _⟩ => ⟨S512x1024, .f32⟩
  | .local _ .vmem, ⟨74, _⟩ => ⟨S512x1024, .f32⟩
  | .local _ .vmem, ⟨75, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_0 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45_0 : Ref sig .tc := ⟨.hbm, 56, rfl⟩
abbrev main_v45_1 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg1_1 : Ref sig .tc := ⟨.vmem, 37, rfl⟩
abbrev cc6_stg2_0 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg1_1 : Ref sig .tc := ⟨.vmem, 42, rfl⟩
abbrev cc7_stg2_0 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg1_1 : Ref sig .tc := ⟨.vmem, 47, rfl⟩
abbrev cc8_stg2_0 : Ref sig .tc := ⟨.vmem, 48, rfl⟩
abbrev cc9_stg0_0 : Ref sig .tc := ⟨.vmem, 49, rfl⟩
abbrev cc9_stg0_1 : Ref sig .tc := ⟨.vmem, 50, rfl⟩
abbrev cc9_stg1_0 : Ref sig .tc := ⟨.vmem, 51, rfl⟩
abbrev cc9_stg1_1 : Ref sig .tc := ⟨.vmem, 52, rfl⟩
abbrev cc9_stg2_0 : Ref sig .tc := ⟨.vmem, 53, rfl⟩
abbrev cc10_stg0_0 : Ref sig .tc := ⟨.vmem, 54, rfl⟩
abbrev cc10_stg0_1 : Ref sig .tc := ⟨.vmem, 55, rfl⟩
abbrev cc10_stg1_0 : Ref sig .tc := ⟨.vmem, 56, rfl⟩
abbrev cc10_stg2_0 : Ref sig .tc := ⟨.vmem, 57, rfl⟩
abbrev cc10_stg2_1 : Ref sig .tc := ⟨.vmem, 58, rfl⟩
abbrev cc11_stg0_0 : Ref sig .tc := ⟨.vmem, 59, rfl⟩
abbrev cc11_stg0_1 : Ref sig .tc := ⟨.vmem, 60, rfl⟩
abbrev cc11_stg1_0 : Ref sig .tc := ⟨.vmem, 61, rfl⟩
abbrev cc11_stg2_0 : Ref sig .tc := ⟨.vmem, 62, rfl⟩
abbrev cc11_stg2_1 : Ref sig .tc := ⟨.vmem, 63, rfl⟩
abbrev cc11_stg3_0 : Ref sig .tc := ⟨.vmem, 64, rfl⟩
abbrev cc11_stg3_1 : Ref sig .tc := ⟨.vmem, 65, rfl⟩
abbrev cc12_stg0_0 : Ref sig .tc := ⟨.vmem, 66, rfl⟩
abbrev cc12_stg0_1 : Ref sig .tc := ⟨.vmem, 67, rfl⟩
abbrev cc12_stg1_0 : Ref sig .tc := ⟨.vmem, 68, rfl⟩
abbrev cc12_stg2_0 : Ref sig .tc := ⟨.vmem, 69, rfl⟩
abbrev cc12_stg2_1 : Ref sig .tc := ⟨.vmem, 70, rfl⟩
abbrev cc12_stg3_0 : Ref sig .tc := ⟨.vmem, 71, rfl⟩
abbrev cc12_stg3_1 : Ref sig .tc := ⟨.vmem, 72, rfl⟩
abbrev cc12_stg4_0 : Ref sig .tc := ⟨.vmem, 73, rfl⟩
abbrev cc12_stg4_1 : Ref sig .tc := ⟨.vmem, 74, rfl⟩
abbrev cc12_stg5_0 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33
abbrev cc6_sem0_0 : DmaSem sig := 34
abbrev cc6_sem0_1 : DmaSem sig := 35
abbrev cc6_sem1_0 : DmaSem sig := 36
abbrev cc6_sem1_1 : DmaSem sig := 37
abbrev cc6_sem2_0 : DmaSem sig := 38
abbrev cc7_sem0_0 : DmaSem sig := 39
abbrev cc7_sem0_1 : DmaSem sig := 40
abbrev cc7_sem1_0 : DmaSem sig := 41
abbrev cc7_sem1_1 : DmaSem sig := 42
abbrev cc7_sem2_0 : DmaSem sig := 43
abbrev cc8_sem0_0 : DmaSem sig := 44
abbrev cc8_sem0_1 : DmaSem sig := 45
abbrev cc8_sem1_0 : DmaSem sig := 46
abbrev cc8_sem1_1 : DmaSem sig := 47
abbrev cc8_sem2_0 : DmaSem sig := 48
abbrev cc9_sem0_0 : DmaSem sig := 49
abbrev cc9_sem0_1 : DmaSem sig := 50
abbrev cc9_sem1_0 : DmaSem sig := 51
abbrev cc9_sem1_1 : DmaSem sig := 52
abbrev cc9_sem2_0 : DmaSem sig := 53
abbrev cc10_sem0_0 : DmaSem sig := 54
abbrev cc10_sem0_1 : DmaSem sig := 55
abbrev cc10_sem1_0 : DmaSem sig := 56
abbrev cc10_sem2_0 : DmaSem sig := 57
abbrev cc10_sem2_1 : DmaSem sig := 58
abbrev cc11_sem0_0 : DmaSem sig := 59
abbrev cc11_sem0_1 : DmaSem sig := 60
abbrev cc11_sem1_0 : DmaSem sig := 61
abbrev cc11_sem2_0 : DmaSem sig := 62
abbrev cc11_sem2_1 : DmaSem sig := 63
abbrev cc11_sem3_0 : DmaSem sig := 64
abbrev cc11_sem3_1 : DmaSem sig := 65
abbrev cc12_sem0_0 : DmaSem sig := 66
abbrev cc12_sem0_1 : DmaSem sig := 67
abbrev cc12_sem1_0 : DmaSem sig := 68
abbrev cc12_sem2_0 : DmaSem sig := 69
abbrev cc12_sem2_1 : DmaSem sig := 70
abbrev cc12_sem3_0 : DmaSem sig := 71
abbrev cc12_sem3_1 : DmaSem sig := 72
abbrev cc12_sem4_0 : DmaSem sig := 73
abbrev cc12_sem4_1 : DmaSem sig := 74
abbrev cc12_sem5_0 : DmaSem sig := 75

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1024x2560 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S512x2560 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S512x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![1, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S512x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![1, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S512x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 2 → Memref sig .tc .vmem S512x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S512x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 1 → Memref sig .tc .vmem S512x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, false]

abbrev stage5_2 : Fin 2 → Memref sig .tc .vmem S512x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![1, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage6_0 : Fin 2 → Memref sig .tc .vmem S1024x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S1024x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 1 → Memref sig .tc .vmem S512x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, false]

abbrev grid7 : Pipeline.Grid := ⟨2, ![1, 4], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage7_0 : Fin 2 → Memref sig .tc .vmem S1024x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S1024x1024 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 1 → Memref sig .tc .vmem S512x1024 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true, false]

abbrev grid8 : Pipeline.Grid := ⟨2, ![1, 4], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage8_0 : Fin 2 → Memref sig .tc .vmem S1024x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![false, true]

abbrev stage8_1 : Fin 2 → Memref sig .tc .vmem S1024x2048 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, true]

abbrev stage8_2 : Fin 1 → Memref sig .tc .vmem S1024x2048 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true, false]

abbrev grid9 : Pipeline.Grid := ⟨2, ![1, 4], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage9_0 : Fin 2 → Memref sig .tc .vmem S1024x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![false, true]

abbrev stage9_1 : Fin 2 → Memref sig .tc .vmem S1024x512 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, true]

abbrev stage9_2 : Fin 1 → Memref sig .tc .vmem S1024x512 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true, false]

abbrev grid10 : Pipeline.Grid := ⟨2, ![1, 8], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage10_0 : Fin 2 → Memref sig .tc .vmem S512x2048 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![false, true]

abbrev stage10_1 : Fin 1 → Memref sig .tc .vmem S1024x2048 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![true, false]

abbrev stage10_2 : Fin 2 → Memref sig .tc .vmem S512x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev grid11 : Pipeline.Grid := ⟨2, ![1, 8], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc11_transform_3 (i : grid11.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage11_0 : Fin 2 → Memref sig .tc .vmem S512x512 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![false, true]

abbrev stage11_1 : Fin 1 → Memref sig .tc .vmem S1024x512 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![true, false]

abbrev stage11_2 : Fin 2 → Memref sig .tc .vmem S512x1024 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true]

abbrev stage11_3 : Fin 2 → Memref sig .tc .vmem S512x1024 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, true]

abbrev grid12 : Pipeline.Grid := ⟨1, ![8], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S512x1024 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x1024 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S512x1024 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 2 → Memref sig .tc .vmem S512x1024 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 2 → Memref sig .tc .vmem S512x1024 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev stage12_5 : Fin 1 → Memref sig .tc .vmem S1x1024 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]
-- ==== ProjReferenceIdeal.lean ====
abbrev S4096x1024 : Shape := ⟨2, ![4096, 1024]⟩
abbrev S1024 : Shape := ⟨1, ![1024]⟩
abbrev S1024x2496 : Shape := ⟨2, ![1024, 2496]⟩
abbrev S1024x1024 : Shape := ⟨2, ![1024, 1024]⟩
abbrev S4096x512 : Shape := ⟨2, ![4096, 512]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2496 : Shape := ⟨2, ![4096, 2496]⟩
abbrev S4096x2432 : Shape := ⟨2, ![4096, 2432]⟩
abbrev S4096x32 : Shape := ⟨2, ![4096, 32]⟩
abbrev S4096x2560 : Shape := ⟨2, ![4096, 2560]⟩
abbrev S2496x1024 : Shape := ⟨2, ![2496, 1024]⟩

abbrev nBuf : Space → Nat
  | .hbm => 89
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x2496, .bf16⟩
  | .hbm, ⟨4, _⟩ => ⟨S1024x1024, .bf16⟩
  | .hbm, ⟨5, _⟩ => ⟨S4096x512, .bf16⟩
  | .hbm, ⟨6, _⟩ => ⟨S4096x512, .f32⟩
  | .hbm, ⟨7, _⟩ => ⟨S4096x2048, .f32⟩
  | .hbm, ⟨8, _⟩ => ⟨S4096x512, .f32⟩
  | .hbm, ⟨9, _⟩ => ⟨S1024x2496, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x2496, .f32⟩
  | .hbm, ⟨31, _⟩ => ⟨S4096x2432, .f32⟩
  | .hbm, ⟨32, _⟩ => ⟨S4096x32, .f32⟩
  | .hbm, ⟨33, _⟩ => ⟨S4096x32, .f32⟩
  | .hbm, ⟨34, _⟩ => ⟨S_, .f32⟩
  | .hbm, ⟨35, _⟩ => ⟨S4096x32, .f32⟩
  | .hbm, ⟨36, _⟩ => ⟨S4096x2560, .f32⟩
  | .hbm, ⟨37, _⟩ => ⟨S_, .f32⟩
  | .hbm, ⟨38, _⟩ => ⟨S4096x32, .f32⟩
  | .hbm, ⟨39, _⟩ => ⟨S_, .f32⟩
  | .hbm, ⟨40, _⟩ => ⟨S4096x32, .f32⟩
  | .hbm, ⟨41, _⟩ => ⟨S4096x512, .f32⟩
  | .hbm, ⟨42, _⟩ => ⟨S1024x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x2560, .f32⟩
  | .hbm, ⟨47, _⟩ => ⟨S4096x2432, .f32⟩
  | .hbm, ⟨48, _⟩ => ⟨S4096x32, .f32⟩
  | .hbm, ⟨49, _⟩ => ⟨S4096x32, .f32⟩
  | .hbm, ⟨50, _⟩ => ⟨S4096x32, .f32⟩
  | .hbm, ⟨51, _⟩ => ⟨S4096x32, .f32⟩
  | .hbm, ⟨52, _⟩ => ⟨S4096x2496, .f32⟩
  | .hbm, ⟨53, _⟩ => ⟨S2496x1024, .f32⟩
  | .hbm, ⟨54, _⟩ => ⟨S1024x2496, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S1024x1024, .f32⟩
  | .hbm, ⟨83, _⟩ => ⟨S1024x1024, .f32⟩
  | .hbm, ⟨84, _⟩ => ⟨S4096x1024, .f32⟩
  | .hbm, ⟨85, _⟩ => ⟨S4096x512, .f32⟩
  | .hbm, ⟨86, _⟩ => ⟨S4096x512, .f32⟩
  | .hbm, ⟨87, _⟩ => ⟨S4096x1024, .f32⟩
  | .hbm, ⟨88, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩

abbrev nD : Nat := 1
abbrev τ : Topo := Topo.v7x

variable {F : FTy → Type} [FloatOps F]
-- ==== Glu.lean ====
abbrev S4096x1024 : Shape := ⟨2, ![4096, 1024]⟩
abbrev S1024 : Shape := ⟨1, ![1024]⟩
abbrev S1024x1024 : Shape := ⟨2, ![1024, 1024]⟩
abbrev S1x1024 : Shape := ⟨2, ![1, 1024]⟩
abbrev S1x1024x1024 : Shape := ⟨3, ![1, 1024, 1024]⟩
abbrev S256x1024 : Shape := ⟨2, ![256, 1024]⟩
abbrev S1024x2048 : Shape := ⟨2, ![1024, 2048]⟩
abbrev S4096x2048 : Shape := ⟨2, ![4096, 2048]⟩
abbrev S512x1024 : Shape := ⟨2, ![512, 1024]⟩
abbrev S512x2048 : Shape := ⟨2, ![512, 2048]⟩
abbrev S4x256x1024 : Shape := ⟨3, ![4, 256, 1024]⟩

abbrev nBuf : Space → Nat
  | .hbm => 29
  | .vmem => 64
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S1x1024x1024, .bf16⟩
  | .hbm, ⟨9, _⟩ => ⟨S1x1024x1024, .bf16⟩
  | .hbm, ⟨10, _⟩ => ⟨S4096x1024, .bf16⟩
  | .hbm, ⟨11, _⟩ => ⟨S1024x1024, .bf16⟩
  | .hbm, ⟨12, _⟩ => ⟨S1024x1024, .bf16⟩
  | .hbm, ⟨13, _⟩ => ⟨S1024x2048, .bf16⟩
  | .hbm, ⟨14, _⟩ => ⟨S4096x2048, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x1024, .bf16⟩
  | .hbm, ⟨19, _⟩ => ⟨S1024x1024, .bf16⟩
  | .hbm, ⟨20, _⟩ => ⟨S4096x1024, .f32⟩
  | .hbm, ⟨21, _⟩ => ⟨S4096x1024, .f32⟩
  | .hbm, ⟨22, _⟩ => ⟨S1024x1024, .f32⟩
  | .hbm, ⟨23, _⟩ => ⟨S1024x1024, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4x256x1024, .f32⟩
  | .hbm, ⟨28, _⟩ => ⟨S4x256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | .local _ .vmem, ⟨7, _⟩ => ⟨S512x1024, .bf16⟩
  | .local _ .vmem, ⟨8, _⟩ => ⟨S512x1024, .bf16⟩
  | .local _ .vmem, ⟨9, _⟩ => ⟨S1024x2048, .bf16⟩
  | .local _ .vmem, ⟨10, _⟩ => ⟨S512x2048, .f32⟩
  | .local _ .vmem, ⟨11, _⟩ => ⟨S512x2048, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S512x1024, .f32⟩
  | .local _ .vmem, ⟨31, _⟩ => ⟨S512x1024, .f32⟩
  | .local _ .vmem, ⟨32, _⟩ => ⟨S1024x1024, .bf16⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | .local _ .vmem, ⟨36, _⟩ => ⟨S512x1024, .f32⟩
  | .local _ .vmem, ⟨37, _⟩ => ⟨S1024x1024, .bf16⟩
  | .local _ .vmem, ⟨38, _⟩ => ⟨S512x1024, .f32⟩
  | .local _ .vmem, ⟨39, _⟩ => ⟨S512x1024, .f32⟩
  | .local _ .vmem, ⟨40, _⟩ => ⟨S512x1024, .f32⟩
  | .local _ .vmem, ⟨41, _⟩ => ⟨S512x1024, .f32⟩
  | .local _ .vmem, ⟨42, _⟩ => ⟨S1024x1024, .bf16⟩
  | .local _ .vmem, ⟨43, _⟩ => ⟨S1024x1024, .bf16⟩
  | .local _ .vmem, ⟨44, _⟩ => ⟨S1024x1024, .f32⟩
  | .local _ .vmem, ⟨45, _⟩ => ⟨S1024x1024, .f32⟩
  | .local _ .vmem, ⟨46, _⟩ => ⟨S1024x1024, .f32⟩
  | .local _ .vmem, ⟨47, _⟩ => ⟨S1024x1024, .bf16⟩
  | .local _ .vmem, ⟨48, _⟩ => ⟨S1024x1024, .bf16⟩
  | .local _ .vmem, ⟨49, _⟩ => ⟨S1024x1024, .f32⟩
  | .local _ .vmem, ⟨50, _⟩ => ⟨S1024x1024, .f32⟩
  | .local _ .vmem, ⟨51, _⟩ => ⟨S1024x1024, .f32⟩
  | .local _ .vmem, ⟨52, _⟩ => ⟨S256x1024, .f32⟩
  | .local _ .vmem, ⟨53, _⟩ => ⟨S256x1024, .f32⟩
  | .local _ .vmem, ⟨54, _⟩ => ⟨S256x1024, .f32⟩
  | .local _ .vmem, ⟨55, _⟩ => ⟨S256x1024, .f32⟩
  | .local _ .vmem, ⟨56, _⟩ => ⟨S1x1024, .f32⟩
  | .local _ .vmem, ⟨57, _⟩ => ⟨S256x1024, .f32⟩
  | .local _ .vmem, ⟨58, _⟩ => ⟨S256x1024, .f32⟩
  | .local _ .vmem, ⟨59, _⟩ => ⟨S256x1024, .f32⟩
  | .local _ .vmem, ⟨60, _⟩ => ⟨S256x1024, .f32⟩
  | .local _ .vmem, ⟨61, _⟩ => ⟨S256x1024, .f32⟩
  | .local _ .vmem, ⟨62, _⟩ => ⟨S256x1024, .f32⟩
  | .local _ .vmem, ⟨63, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg2_1 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg1_1 : Ref sig .tc := ⟨.vmem, 55, rfl⟩
abbrev cc8_stg2_0 : Ref sig .tc := ⟨.vmem, 56, rfl⟩
abbrev cc8_stg3_0 : Ref sig .tc := ⟨.vmem, 57, rfl⟩
abbrev cc8_stg3_1 : Ref sig .tc := ⟨.vmem, 58, rfl⟩
abbrev cc8_stg4_0 : Ref sig .tc := ⟨.vmem, 59, rfl⟩
abbrev cc8_stg4_1 : Ref sig .tc := ⟨.vmem, 60, rfl⟩
abbrev cc8_stg5_0 : Ref sig .tc := ⟨.vmem, 61, rfl⟩
abbrev cc8_stg5_1 : Ref sig .tc := ⟨.vmem, 62, rfl⟩
abbrev cc8_stg6_0 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem2_1 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc8_sem0_0 : DmaSem sig := 52
abbrev cc8_sem0_1 : DmaSem sig := 53
abbrev cc8_sem1_0 : DmaSem sig := 54
abbrev cc8_sem1_1 : DmaSem sig := 55
abbrev cc8_sem2_0 : DmaSem sig := 56
abbrev cc8_sem3_0 : DmaSem sig := 57
abbrev cc8_sem3_1 : DmaSem sig := 58
abbrev cc8_sem4_0 : DmaSem sig := 59
abbrev cc8_sem4_1 : DmaSem sig := 60
abbrev cc8_sem5_0 : DmaSem sig := 61
abbrev cc8_sem5_1 : DmaSem sig := 62
abbrev cc8_sem6_0 : DmaSem sig := 63

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![1, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1024x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c1_i32 : BitVec 32 := 1#32
  let c0_i32 : BitVec 32 := 0#32
  ![arg0.toNat, c1_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c1_i32 : BitVec 32 := 1#32
  let c0_i32 : BitVec 32 := 0#32
  ![arg0.toNat, c1_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨2, ![1, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S512x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 1 → Memref sig .tc .vmem S1024x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, false]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S512x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev grid6 : Pipeline.Grid := ⟨2, ![1, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S1024x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 1 → Memref sig .tc .vmem S1024x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, false]

abbrev grid7 : Pipeline.Grid := ⟨2, ![1, 4], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage7_0 : Fin 2 → Memref sig .tc .vmem S1024x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S1024x1024 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 1 → Memref sig .tc .vmem S1024x1024 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true, false]

abbrev grid8 : Pipeline.Grid := ⟨1, ![16], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S256x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S256x1024 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x1024 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S256x1024 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S256x1024 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S256x1024 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 1 → Memref sig .tc .vmem S1x1024 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]
-- ==== GluReferenceIdeal.lean ====
abbrev S4096x1024 : Shape := ⟨2, ![4096, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S4x256x1024 : Shape := ⟨3, ![4, 256, 1024]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024x1024, .bf16⟩
  | .hbm, ⟨6, _⟩ => ⟨S1024x1024, .bf16⟩
  | .hbm, ⟨7, _⟩ => ⟨S1024x1024, .f32⟩
  | .hbm, ⟨8, _⟩ => ⟨S1024x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1024x1024, .f32⟩
  | .hbm, ⟨62, _⟩ => ⟨S1024x1024, .f32⟩
  | .hbm, ⟨63, _⟩ => ⟨S4096x1024, .f32⟩
  | .hbm, ⟨64, _⟩ => ⟨S1024x1024, .f32⟩
  | .hbm, ⟨65, _⟩ => ⟨S1024x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S_, .f32⟩
  | .hbm, ⟨90, _⟩ => ⟨S1024, .f32⟩
  | .hbm, ⟨91, _⟩ => ⟨S1x1024, .f32⟩
  | .hbm, ⟨92, _⟩ => ⟨S4x256x1024, .f32⟩
  | .hbm, ⟨93, _⟩ => ⟨S4x256x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_12 : Ref sig .tc := ⟨.hbm, 86, rfl⟩
abbrev main_v66 : Ref sig .tc := ⟨.hbm, 87, rfl⟩
abbrev main_v67 : Ref sig .tc := ⟨.hbm, 88, rfl⟩
abbrev main_cst_13 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Xa.lean ====
abbrev S4096x1024 : Shape := ⟨2, ![4096, 1024]⟩
abbrev S1024 : Shape := ⟨1, ![1024]⟩
abbrev S1024x1024 : Shape := ⟨2, ![1024, 1024]⟩
abbrev S1x1024 : Shape := ⟨2, ![1, 1024]⟩
abbrev S1x1024x1024 : Shape := ⟨3, ![1, 1024, 1024]⟩
abbrev S512x1024 : Shape := ⟨2, ![512, 1024]⟩
abbrev S512 : Shape := ⟨1, ![512]⟩
abbrev S512x1 : Shape := ⟨2, ![512, 1]⟩
abbrev S4x256x1024 : Shape := ⟨3, ![4, 256, 1024]⟩

abbrev nBuf : Space → Nat
  | .hbm => 29
  | .vmem => 47
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x1024, .bf16⟩
  | .hbm, ⟨4, _⟩ => ⟨S1024x1024, .bf16⟩
  | .hbm, ⟨5, _⟩ => ⟨S4096x1024, .bf16⟩
  | .hbm, ⟨6, _⟩ => ⟨S4096x1024, .f32⟩
  | .hbm, ⟨7, _⟩ => ⟨S1x1024, .f32⟩
  | .hbm, ⟨8, _⟩ => ⟨S1x1024x1024, .bf16⟩
  | .hbm, ⟨9, _⟩ => ⟨S1x1024x1024, .bf16⟩
  | .hbm, ⟨10, _⟩ => ⟨S1024, .f32⟩
  | .hbm, ⟨11, _⟩ => ⟨S1x1024, .f32⟩
  | .hbm, ⟨12, _⟩ => ⟨S4096x1024, .bf16⟩
  | .hbm, ⟨13, _⟩ => ⟨S1024x1024, .bf16⟩
  | .hbm, ⟨14, _⟩ => ⟨S4096x1024, .f32⟩
  | .hbm, ⟨15, _⟩ => ⟨S1024x1024, .bf16⟩
  | .hbm, ⟨16, _⟩ => ⟨S4096x1024, .f32⟩
  | .hbm, ⟨17, _⟩ => ⟨S1024x1024, .bf16⟩
  | .hbm, ⟨18, _⟩ => ⟨S4096x1024, .f32⟩
  | .hbm, ⟨19, _⟩ => ⟨S1024x1024, .f32⟩
  | .hbm, ⟨20, _⟩ => ⟨S1024x1024, .f32⟩
  | .hbm, ⟨21, _⟩ => ⟨S1024x1024, .bf16⟩
  | .hbm, ⟨22, _⟩ => ⟨S4096x1024, .f32⟩
  | .hbm, ⟨23, _⟩ => ⟨S1024, .f32⟩
  | .hbm, ⟨24, _⟩ => ⟨S1x1024, .f32⟩
  | .hbm, ⟨25, _⟩ => ⟨S4096x1024, .f32⟩
  | .hbm, ⟨26, _⟩ => ⟨S1x1024, .f32⟩
  | .hbm, ⟨27, _⟩ => ⟨S4x256x1024, .f32⟩
  | .hbm, ⟨28, _⟩ => ⟨S4x256x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | .local _ .vmem, ⟨22, _⟩ => ⟨S1024x1024, .bf16⟩
  | .local _ .vmem, ⟨23, _⟩ => ⟨S1024x1024, .bf16⟩
  | .local _ .vmem, ⟨24, _⟩ => ⟨S1024x1024, .f32⟩
  | .local _ .vmem, ⟨25, _⟩ => ⟨S1024x1024, .f32⟩
  | .local _ .vmem, ⟨26, _⟩ => ⟨S1024x1024, .f32⟩
  | .local _ .vmem, ⟨27, _⟩ => ⟨S1024x1024, .bf16⟩
  | .local _ .vmem, ⟨28, _⟩ => ⟨S1024x1024, .bf16⟩
  | .local _ .vmem, ⟨29, _⟩ => ⟨S1024x1024, .f32⟩
  | .local _ .vmem, ⟨30, _⟩ => ⟨S1024x1024, .f32⟩
  | .local _ .vmem, ⟨31, _⟩ => ⟨S1024x1024, .f32⟩
  | .local _ .vmem, ⟨32, _⟩ => ⟨S512x1024, .f32⟩
  | .local _ .vmem, ⟨33, _⟩ => ⟨S512x1024, .f32⟩
  | .local _ .vmem, ⟨34, _⟩ => ⟨S1024x1024, .bf16⟩
  | .local _ .vmem, ⟨35, _⟩ => ⟨S512x1024, .f32⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S1x1024, .f32⟩
  | .local _ .vmem, ⟨40, _⟩ => ⟨S512x1024, .f32⟩
  | .local _ .vmem, ⟨41, _⟩ => ⟨S512x1024, .f32⟩
  | .local _ .vmem, ⟨42, _⟩ => ⟨S512x1024, .f32⟩
  | .local _ .vmem, ⟨43, _⟩ => ⟨S512x1024, .f32⟩
  | .local _ .vmem, ⟨44, _⟩ => ⟨S512x1024, .f32⟩
  | .local _ .vmem, ⟨45, _⟩ => ⟨S512x1024, .f32⟩
  | .local _ .vmem, ⟨46, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg1_1 : Ref sig .tc := ⟨.vmem, 30, rfl⟩
abbrev cc5_stg2_0 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg2_0 : Ref sig .tc := ⟨.vmem, 40, rfl⟩
abbrev cc7_stg2_1 : Ref sig .tc := ⟨.vmem, 41, rfl⟩
abbrev cc7_stg3_0 : Ref sig .tc := ⟨.vmem, 42, rfl⟩
abbrev cc7_stg3_1 : Ref sig .tc := ⟨.vmem, 43, rfl⟩
abbrev cc7_stg4_0 : Ref sig .tc := ⟨.vmem, 44, rfl⟩
abbrev cc7_stg4_1 : Ref sig .tc := ⟨.vmem, 45, rfl⟩
abbrev cc7_stg5_0 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc5_sem0_0 : DmaSem sig := 27
abbrev cc5_sem0_1 : DmaSem sig := 28
abbrev cc5_sem1_0 : DmaSem sig := 29
abbrev cc5_sem1_1 : DmaSem sig := 30
abbrev cc5_sem2_0 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem2_0 : DmaSem sig := 40
abbrev cc7_sem2_1 : DmaSem sig := 41
abbrev cc7_sem3_0 : DmaSem sig := 42
abbrev cc7_sem3_1 : DmaSem sig := 43
abbrev cc7_sem4_0 : DmaSem sig := 44
abbrev cc7_sem4_1 : DmaSem sig := 45
abbrev cc7_sem5_0 : DmaSem sig := 46

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![1, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1024x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 1 → Memref sig .tc .vmem S1024x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, false]

abbrev grid5 : Pipeline.Grid := ⟨2, ![1, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S1024x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 1 → Memref sig .tc .vmem S1024x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, false]

abbrev grid6 : Pipeline.Grid := ⟨2, ![1, 8], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage6_0 : Fin 2 → Memref sig .tc .vmem S512x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 1 → Memref sig .tc .vmem S1024x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true, false]

abbrev stage6_2 : Fin 2 → Memref sig .tc .vmem S512x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S512x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x1024 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S512x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S512x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S512x1024 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x1024 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]
-- ==== XaReferenceIdeal.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4x256x1024 : Shape := ⟨3, ![4, 256, 1024]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x1024, .bf16⟩
  | .hbm, ⟨4, _⟩ => ⟨S1024x1024, .bf16⟩
  | .hbm, ⟨5, _⟩ => ⟨S4096x1024, .bf16⟩
  | .hbm, ⟨6, _⟩ => ⟨S4096x1024, .f32⟩
  | .hbm, ⟨7, _⟩ => ⟨S1024x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1024x1024, .f32⟩
  | .hbm, ⟨31, _⟩ => ⟨S4096x1024, .f32⟩
  | .hbm, ⟨32, _⟩ => ⟨S4096x1024, .f32⟩
  | .hbm, ⟨33, _⟩ => ⟨S1024x1024, .f32⟩
  | .hbm, ⟨34, _⟩ => ⟨S1024x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S1024x1024, .f32⟩
  | .hbm, ⟨63, _⟩ => ⟨S1024x1024, .f32⟩
  | .hbm, ⟨64, _⟩ => ⟨S4096x1024, .f32⟩
  | .hbm, ⟨65, _⟩ => ⟨S4096x1024, .f32⟩
  | .hbm, ⟨66, _⟩ => ⟨S1x1024, .f32⟩
  | .hbm, ⟨67, _⟩ => ⟨S4x256x1024, .f32⟩
  | .hbm, ⟨68, _⟩ => ⟨S4x256x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Core.lean ====
abbrev S4096x1024 : Shape := ⟨2, ![4096, 1024]⟩
abbrev S256x1024 : Shape := ⟨2, ![256, 1024]⟩
abbrev S256 : Shape := ⟨1, ![256]⟩
abbrev S1x256 : Shape := ⟨2, ![1, 256]⟩
abbrev S256x256 : Shape := ⟨2, ![256, 256]⟩
abbrev S256x1 : Shape := ⟨2, ![256, 1]⟩
abbrev S256x768 : Shape := ⟨2, ![256, 768]⟩
abbrev S256x512 : Shape := ⟨2, ![256, 512]⟩

abbrev nBuf : Space → Nat
  | .hbm => 15
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S256x1024, .f32⟩
  | .hbm, ⟨3, _⟩ => ⟨S256, .f32⟩
  | .hbm, ⟨4, _⟩ => ⟨S4096x1024, .f32⟩
  | .hbm, ⟨5, _⟩ => ⟨S1x256, .f32⟩
  | .hbm, ⟨6, _⟩ => ⟨S256, .f32⟩
  | .hbm, ⟨7, _⟩ => ⟨S1x256, .f32⟩
  | .hbm, ⟨8, _⟩ => ⟨S4096x1024, .bf16⟩
  | .hbm, ⟨9, _⟩ => ⟨S256, .f32⟩
  | .hbm, ⟨10, _⟩ => ⟨S1x256, .f32⟩
  | .hbm, ⟨11, _⟩ => ⟨S4096x1024, .f32⟩
  | .hbm, ⟨12, _⟩ => ⟨S256x1024, .f32⟩
  | .hbm, ⟨13, _⟩ => ⟨S256x1024, .f32⟩
  | .hbm, ⟨14, _⟩ => ⟨S1x256, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x256, .f32⟩
  | .local _ .vmem, ⟨5, _⟩ => ⟨S256x1024, .bf16⟩
  | .local _ .vmem, ⟨6, _⟩ => ⟨S256x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x256, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem7_0 : DmaSem sig := 17
abbrev cc1_sem8_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S256x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== CoreReferenceIdeal.lean ====
abbrev S4096x1024 : Shape := ⟨2, ![4096, 1024]⟩
abbrev S256x1024 : Shape := ⟨2, ![256, 1024]⟩
abbrev S256 : Shape := ⟨1, ![256]⟩
abbrev S4096x4x256 : Shape := ⟨3, ![4096, 4, 256]⟩
abbrev S_ : Shape := ⟨0, ![]⟩
abbrev S4096x4 : Shape := ⟨2, ![4096, 4]⟩
abbrev S4096x4x1 : Shape := ⟨3, ![4096, 4, 1]⟩
abbrev S1x1x256 : Shape := ⟨3, ![1, 1, 256]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩
abbrev S1x256 : Shape := ⟨2, ![1, 256]⟩

abbrev nBuf : Space → Nat
  | .hbm => 112
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S256x1024, .f32⟩
  | .hbm, ⟨3, _⟩ => ⟨S256, .f32⟩
  | .hbm, ⟨4, _⟩ => ⟨S4096x1024, .f32⟩
  | .hbm, ⟨5, _⟩ => ⟨S4096x4x256, .f32⟩
  | .hbm, ⟨6, _⟩ => ⟨S4096x4x256, .f32⟩
  | .hbm, ⟨7, _⟩ => ⟨S_, .f32⟩
  | .hbm, ⟨8, _⟩ => ⟨S4096x4, .f32⟩
  | .hbm, ⟨9, _⟩ => ⟨S4096x4x1, .f32⟩
  | .hbm, ⟨10, _⟩ => ⟨S_, .f32⟩
  | .hbm, ⟨11, _⟩ => ⟨S4096x4x1, .f32⟩
  | .hbm, ⟨12, _⟩ => ⟨S4096x4x1, .f32⟩
  | .hbm, ⟨13, _⟩ => ⟨S_, .f32⟩
  | .hbm, ⟨14, _⟩ => ⟨S4096x4x1, .f32⟩
  | .hbm, ⟨15, _⟩ => ⟨S4096x4x1, .f32⟩
  | .hbm, ⟨16, _⟩ => ⟨S4096x4x1, .f32⟩
  | .hbm, ⟨17, _⟩ => ⟨S4096x4x1, .f32⟩
  | .hbm, ⟨18, _⟩ => ⟨S_, .f32⟩
  | .hbm, ⟨19, _⟩ => ⟨S4096x4x1, .f32⟩
  | .hbm, ⟨20, _⟩ => ⟨S4096x4x1, .f32⟩
  | .hbm, ⟨21, _⟩ => ⟨S4096x4x256, .f32⟩
  | .hbm, ⟨22, _⟩ => ⟨S4096x4x256, .f32⟩
  | .hbm, ⟨23, _⟩ => ⟨S1x1x256, .f32⟩
  | .hbm, ⟨24, _⟩ => ⟨S4096x4x256, .f32⟩
  | .hbm, ⟨25, _⟩ => ⟨S4096x4x256, .f32⟩
  | .hbm, ⟨26, _⟩ => ⟨S256x4x256, .f32⟩
  | .hbm, ⟨27, _⟩ => ⟨S4x4096x256, .f32⟩
  | .hbm, ⟨28, _⟩ => ⟨S_, .f32⟩
  | .hbm, ⟨29, _⟩ => ⟨S4x4096x256, .f32⟩
  | .hbm, ⟨30, _⟩ => ⟨S4x4096x256, .f32⟩
  | .hbm, ⟨31, _⟩ => ⟨S_, .f32⟩
  | .hbm, ⟨32, _⟩ => ⟨S4x4096, .f32⟩
  | .hbm, ⟨33, _⟩ => ⟨S4x4096x1, .f32⟩
  | .hbm, ⟨34, _⟩ => ⟨S4x4096x256, .f32⟩
  | .hbm, ⟨35, _⟩ => ⟨S4x4096x256, .i1⟩
  | .hbm, ⟨36, _⟩ => ⟨S4x4096x256, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S4x4096x256, .f32⟩
  | .hbm, ⟨41, _⟩ => ⟨S4x4096x256, .f32⟩
  | .hbm, ⟨42, _⟩ => ⟨S4x4096x256, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S4x4096x256, .f32⟩
  | .hbm, ⟨47, _⟩ => ⟨S4x4096x256, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S256x4x256, .f32⟩
  | .hbm, ⟨53, _⟩ => ⟨S4x256x4096, .f32⟩
  | .hbm, ⟨54, _⟩ => ⟨S4096x4x256, .f32⟩
  | .hbm, ⟨55, _⟩ => ⟨S4096x1024, .f32⟩
  | .hbm, ⟨56, _⟩ => ⟨S4096x4x256, .f32⟩
  | .hbm, ⟨57, _⟩ => ⟨S4x256x4096, .f32⟩
  | .hbm, ⟨58, _⟩ => ⟨S4x4096x256, .f32⟩
  | .hbm, ⟨59, _⟩ => ⟨S4x256x256, .f32⟩
  | .hbm, ⟨60, _⟩ => ⟨S256x4x256, .f32⟩
  | .hbm, ⟨61, _⟩ => ⟨S256x1024, .f32⟩
  | .hbm, ⟨62, _⟩ => ⟨S4x4096x256, .f32⟩
  | .hbm, ⟨63, _⟩ => ⟨S4x4096x256, .f32⟩
  | .hbm, ⟨64, _⟩ => ⟨S4x4096x256, .f32⟩
  | .hbm, ⟨65, _⟩ => ⟨S_, .f32⟩
  | .hbm, ⟨66, _⟩ => ⟨S4x4096, .f32⟩
  | .hbm, ⟨67, _⟩ => ⟨S4x4096x1, .f32⟩
  | .hbm, ⟨68, _⟩ => ⟨S4x4096x1, .f32⟩
  | .hbm, ⟨69, _⟩ => ⟨S4x4096x256, .f32⟩
  | .hbm, ⟨70, _⟩ => ⟨S4x4096x256, .f32⟩
  | .hbm, ⟨71, _⟩ => ⟨S_, .f32⟩
  | .hbm, ⟨72, _⟩ => ⟨S4x4096, .f32⟩
  | .hbm, ⟨73, _⟩ => ⟨S4x4096x256, .f32⟩
  | .hbm, ⟨74, _⟩ => ⟨S4x4096x256, .f32⟩
  | .hbm, ⟨75, _⟩ => ⟨S4x4096x256, .f32⟩
  | .hbm, ⟨76, _⟩ => ⟨S_, .f32⟩
  | .hbm, ⟨77, _⟩ => ⟨S4x4096x256, .f32⟩
  | .hbm, ⟨78, _⟩ => ⟨S4x4096x256, .f32⟩
  | .hbm, ⟨79, _⟩ => ⟨S4x256x256, .f32⟩
  | .hbm, ⟨80, _⟩ => ⟨S256x4x256, .f32⟩
  | .hbm, ⟨81, _⟩ => ⟨S4x4096x256, .f32⟩
  | .hbm, ⟨82, _⟩ => ⟨S4096x4x256, .f32⟩
  | .hbm, ⟨83, _⟩ => ⟨S256x1024, .f32⟩
  | .hbm, ⟨84, _⟩ => ⟨S4096x4x256, .f32⟩
  | .hbm, ⟨85, _⟩ => ⟨S_, .f32⟩
  | .hbm, ⟨86, _⟩ => ⟨S256, .f32⟩
  | .hbm, ⟨87, _⟩ => ⟨S1x1x256, .f32⟩
  | .hbm, ⟨88, _⟩ => ⟨S4096x4x256, .f32⟩
  | .hbm, ⟨89, _⟩ => ⟨S4096x4x256, .f32⟩
  | .hbm, ⟨90, _⟩ => ⟨S_, .f32⟩
  | .hbm, ⟨91, _⟩ => ⟨S256, .f32⟩
  | .hbm, ⟨92, _⟩ => ⟨S4096x4x256, .f32⟩
  | .hbm, ⟨93, _⟩ => ⟨S_, .f32⟩
  | .hbm, ⟨94, _⟩ => ⟨S4096x4, .f32⟩
  | .hbm, ⟨95, _⟩ => ⟨S4096x4x1, .f32⟩
  | .hbm, ⟨96, _⟩ => ⟨S4096x4x256, .f32⟩
  | .hbm, ⟨97, _⟩ => ⟨S4096x4x256, .f32⟩
  | .hbm, ⟨98, _⟩ => ⟨S4096x4x1, .f32⟩
  | .hbm, ⟨99, _⟩ => ⟨S_, .f32⟩
  | .hbm, ⟨100, _⟩ => ⟨S4096x4x1, .f32⟩
  | .hbm, ⟨101, _⟩ => ⟨S4096x4x1, .f32⟩
  | .hbm, ⟨102, _⟩ => ⟨S_, .f32⟩
  | .hbm, ⟨103, _⟩ => ⟨S4096x4, .f32⟩
  | .hbm, ⟨104, _⟩ => ⟨S4096x4x256, .f32⟩
  | .hbm, ⟨105, _⟩ => ⟨S4096x4x256, .f32⟩
  | .hbm, ⟨106, _⟩ => ⟨S4096x4x256, .f32⟩
  | .hbm, ⟨107, _⟩ => ⟨S4096x4x256, .f32⟩
  | .hbm, ⟨108, _⟩ => ⟨S4096x4x256, .f32⟩
  | .hbm, ⟨109, _⟩ => ⟨S4096x1024, .f32⟩
  | .hbm, ⟨110, _⟩ => ⟨S4096x1024, .bf16⟩
  | .hbm, ⟨111, _⟩ => ⟨S1x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_10 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_11 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_12 : Ref sig .tc := ⟨.hbm, 90, rfl⟩
abbrev main_v72 : Ref sig .tc := ⟨.hbm, 91, rfl⟩
abbrev main_v73 : Ref sig .tc := ⟨.hbm, 92, rfl⟩
abbrev main_cst_13 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_14 : Ref sig .tc := ⟨.hbm, 99, rfl⟩
abbrev main_v79 : Ref sig .tc := ⟨.hbm, 100, rfl⟩
abbrev main_v80 : Ref sig .tc := ⟨.hbm, 101, rfl⟩
abbrev main_cst_15 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩

abbrev nD : Nat := 1
abbrev τ : Topo := Topo.v7x

variable {F : FTy → Type} [FloatOps F]
-- ==== Adam.lean ====
abbrev S384x1024 : Shape := ⟨2, ![384, 1024]⟩
abbrev S192x1024 : Shape := ⟨2, ![192, 1024]⟩

abbrev nBuf : Space → Nat
  | .hbm => 7
  | .vmem => 14
  | .smem => 0
  | _ => 0

abbrev bufTy : (tb : Table) → Fin (tcTables nBuf tb) → BufTy
  | .hbm, ⟨0, _⟩ => ⟨S384x1024, .f32⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S384x1024, .f32⟩
  | .hbm, ⟨5, _⟩ => ⟨S384x1024, .f32⟩
  | .hbm, ⟨6, _⟩ => ⟨S384x1024, .f32⟩
  | .local _ .vmem, ⟨0, _⟩ => ⟨S192x1024, .f32⟩
  | .local _ .vmem, ⟨1, _⟩ => ⟨S192x1024, .f32⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S192x1024, .f32⟩
  | .local _ .vmem, ⟨8, _⟩ => ⟨S192x1024, .f32⟩
  | .local _ .vmem, ⟨9, _⟩ => ⟨S192x1024, .f32⟩
  | .local _ .vmem, ⟨10, _⟩ => ⟨S192x1024, .f32⟩
  | .local _ .vmem, ⟨11, _⟩ => ⟨S192x1024, .f32⟩
  | .local _ .vmem, ⟨12, _⟩ => ⟨S192x1024, .f32⟩
  | .local _ .vmem, ⟨13, _⟩ => ⟨S192x1024, .f32⟩
  | _, _ => ⟨S384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamReferenceIdeal.lean ====
abbrev S384x1024 : Shape := ⟨2, ![384, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S384x1024, .f32⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S_, .f32⟩
  | .hbm, ⟨5, _⟩ => ⟨S384x1024, .f32⟩
  | .hbm, ⟨6, _⟩ => ⟨S384x1024, .f32⟩
  | .hbm, ⟨7, _⟩ => ⟨S_, .f32⟩
  | .hbm, ⟨8, _⟩ => ⟨S384x1024, .f32⟩
  | .hbm, ⟨9, _⟩ => ⟨S384x1024, .f32⟩
  | .hbm, ⟨10, _⟩ => ⟨S384x1024, .f32⟩
  | .hbm, ⟨11, _⟩ => ⟨S_, .f32⟩
  | .hbm, ⟨12, _⟩ => ⟨S384x1024, .f32⟩
  | .hbm, ⟨13, _⟩ => ⟨S384x1024, .f32⟩
  | .hbm, ⟨14, _⟩ => ⟨S384x1024, .f32⟩
  | .hbm, ⟨15, _⟩ => ⟨S_, .f32⟩
  | .hbm, ⟨16, _⟩ => ⟨S384x1024, .f32⟩
  | .hbm, ⟨17, _⟩ => ⟨S384x1024, .f32⟩
  | .hbm, ⟨18, _⟩ => ⟨S384x1024, .f32⟩
  | .hbm, ⟨19, _⟩ => ⟨S_, .f32⟩
  | .hbm, ⟨20, _⟩ => ⟨S384x1024, .f32⟩
  | .hbm, ⟨21, _⟩ => ⟨S384x1024, .f32⟩
  | .hbm, ⟨22, _⟩ => ⟨S_, .f32⟩
  | .hbm, ⟨23, _⟩ => ⟨S384x1024, .f32⟩
  | .hbm, ⟨24, _⟩ => ⟨S384x1024, .f32⟩
  | .hbm, ⟨25, _⟩ => ⟨S384x1024, .f32⟩
  | .hbm, ⟨26, _⟩ => ⟨S_, .f32⟩
  | .hbm, ⟨27, _⟩ => ⟨S384x1024, .f32⟩
  | .hbm, ⟨28, _⟩ => ⟨S384x1024, .f32⟩
  | .hbm, ⟨29, _⟩ => ⟨S384x1024, .f32⟩
  | .hbm, ⟨30, _⟩ => ⟨S_, .f32⟩
  | .hbm, ⟨31, _⟩ => ⟨S384x1024, .f32⟩
  | .hbm, ⟨32, _⟩ => ⟨S384x1024, .f32⟩
  | .hbm, ⟨33, _⟩ => ⟨S384x1024, .f32⟩
  | .hbm, ⟨34, _⟩ => ⟨S_, .f32⟩
  | .hbm, ⟨35, _⟩ => ⟨S384x1024, .f32⟩
  | .hbm, ⟨36, _⟩ => ⟨S384x1024, .f32⟩
  | _, _ => ⟨S384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Mem.lean ====
abbrev S256x1024 : Shape := ⟨2, ![256, 1024]⟩
abbrev S1x1024 : Shape := ⟨2, ![1, 1024]⟩
abbrev S1024x1024 : Shape := ⟨2, ![1024, 1024]⟩
abbrev S1x256 : Shape := ⟨2, ![1, 256]⟩
abbrev S256 : Shape := ⟨1, ![256]⟩
abbrev S256x1 : Shape := ⟨2, ![256, 1]⟩
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .bf16⟩
  | .hbm, ⟨3, _⟩ => ⟨S1024x1024, .bf16⟩
  | .hbm, ⟨4, _⟩ => ⟨S1x256, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x256, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MemReferenceIdeal.lean ====
abbrev S256x1024 : Shape := ⟨2, ![256, 1024]⟩
abbrev S1x1024 : Shape := ⟨2, ![1, 1024]⟩
abbrev S1024x1024 : Shape := ⟨2, ![1024, 1024]⟩
abbrev S1x256 : Shape := ⟨2, ![1, 256]⟩
abbrev S1024 : Shape := ⟨1, ![1024]⟩
abbrev S_ : Shape := ⟨0, ![]⟩
abbrev S256 : Shape := ⟨1, ![256]⟩
abbrev S256x1 : Shape := ⟨2, ![256, 1]⟩
abbrev S256x4x256 : Shape := ⟨3, ![256, 4, 256]⟩
abbrev S256x4 : Shape := ⟨2, ![256, 4]⟩
abbrev S256x4x1 : Shape := ⟨3, ![256, 4, 1]⟩
abbrev S1x1x256 : Shape := ⟨3, ![1, 1, 256]⟩

abbrev nBuf : Space → Nat
  | .hbm => 43
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .bf16⟩
  | .hbm, ⟨3, _⟩ => ⟨S1024x1024, .bf16⟩
  | .hbm, ⟨4, _⟩ => ⟨S1x256, .f32⟩
  | .hbm, ⟨5, _⟩ => ⟨S1024, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S1x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x4x256, .f32⟩
  | .hbm, ⟨24, _⟩ => ⟨S256, .f32⟩
  | .hbm, ⟨25, _⟩ => ⟨S256x4x256, .f32⟩
  | .hbm, ⟨26, _⟩ => ⟨S_, .f32⟩
  | .hbm, ⟨27, _⟩ => ⟨S256x4, .f32⟩
  | .hbm, ⟨28, _⟩ => ⟨S256x4x1, .f32⟩
  | .hbm, ⟨29, _⟩ => ⟨S_, .f32⟩
  | .hbm, ⟨30, _⟩ => ⟨S256x4x1, .f32⟩
  | .hbm, ⟨31, _⟩ => ⟨S256x4x1, .f32⟩
  | .hbm, ⟨32, _⟩ => ⟨S_, .f32⟩
  | .hbm, ⟨33, _⟩ => ⟨S256x4x1, .f32⟩
  | .hbm, ⟨34, _⟩ => ⟨S256x4x1, .f32⟩
  | .hbm, ⟨35, _⟩ => ⟨S256x4x1, .f32⟩
  | .hbm, ⟨36, _⟩ => ⟨S256x4x256, .f32⟩
  | .hbm, ⟨37, _⟩ => ⟨S256x4x256, .f32⟩
  | .hbm, ⟨38, _⟩ => ⟨S1x1x256, .f32⟩
  | .hbm, ⟨39, _⟩ => ⟨S256x4x256, .f32⟩
  | .hbm, ⟨40, _⟩ => ⟨S256x4x256, .f32⟩
  | .hbm, ⟨41, _⟩ => ⟨S256x1024, .f32⟩
  | .hbm, ⟨42, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== MemB.lean ====
abbrev S256x1024 : Shape := ⟨2, ![256, 1024]⟩
abbrev S1x1024 : Shape := ⟨2, ![1, 1024]⟩
abbrev S1024x1024 : Shape := ⟨2, ![1024, 1024]⟩
abbrev S1x256 : Shape := ⟨2, ![1, 256]⟩
abbrev S256 : Shape := ⟨1, ![256]⟩
abbrev S256x1 : Shape := ⟨2, ![256, 1]⟩
abbrev S256x256 : Shape := ⟨2, ![256, 256]⟩
abbrev S256x768 : Shape := ⟨2, ![256, 768]⟩
abbrev S256x512 : Shape := ⟨2, ![256, 512]⟩
abbrev S1024 : Shape := ⟨1, ![1024]⟩

abbrev nBuf : Space → Nat
  | .hbm => 11
  | .vmem => 11
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .bf16⟩
  | .hbm, ⟨3, _⟩ => ⟨S1024x1024, .bf16⟩
  | .hbm, ⟨4, _⟩ => ⟨S1x256, .f32⟩
  | .hbm, ⟨5, _⟩ => ⟨S256x1024, .f32⟩
  | .hbm, ⟨6, _⟩ => ⟨S256x1024, .f32⟩
  | .hbm, ⟨7, _⟩ => ⟨S1x1024, .f32⟩
  | .hbm, ⟨8, _⟩ => ⟨S1024x1024, .f32⟩
  | .hbm, ⟨9, _⟩ => ⟨S1024x1024, .f32⟩
  | .hbm, ⟨10, _⟩ => ⟨S1x256, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x256, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MemBReferenceIdeal.lean ====
abbrev S256x1024 : Shape := ⟨2, ![256, 1024]⟩
abbrev S1x1024 : Shape := ⟨2, ![1, 1024]⟩
abbrev S1024x1024 : Shape := ⟨2, ![1024, 1024]⟩
abbrev S1x256 : Shape := ⟨2, ![1, 256]⟩
abbrev S1024 : Shape := ⟨1, ![1024]⟩
abbrev S_ : Shape := ⟨0, ![]⟩
abbrev S256 : Shape := ⟨1, ![256]⟩
abbrev S256x1 : Shape := ⟨2, ![256, 1]⟩
abbrev S256x4x256 : Shape := ⟨3, ![256, 4, 256]⟩
abbrev S256x4 : Shape := ⟨2, ![256, 4]⟩
abbrev S256x4x1 : Shape := ⟨3, ![256, 4, 1]⟩
abbrev S1x1x256 : Shape := ⟨3, ![1, 1, 256]⟩

abbrev nBuf : Space → Nat
  | .hbm => 93
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .bf16⟩
  | .hbm, ⟨3, _⟩ => ⟨S1024x1024, .bf16⟩
  | .hbm, ⟨4, _⟩ => ⟨S1x256, .f32⟩
  | .hbm, ⟨5, _⟩ => ⟨S256x1024, .f32⟩
  | .hbm, ⟨6, _⟩ => ⟨S256x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S256x1024, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x1, .f32⟩
  | .hbm, ⟨21, _⟩ => ⟨S256x1024, .f32⟩
  | .hbm, ⟨22, _⟩ => ⟨S256x1024, .f32⟩
  | .hbm, ⟨23, _⟩ => ⟨S1x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S256x4x256, .f32⟩
  | .hbm, ⟨28, _⟩ => ⟨S256, .f32⟩
  | .hbm, ⟨29, _⟩ => ⟨S256x4x256, .f32⟩
  | .hbm, ⟨30, _⟩ => ⟨S_, .f32⟩
  | .hbm, ⟨31, _⟩ => ⟨S256x4, .f32⟩
  | .hbm, ⟨32, _⟩ => ⟨S256x4x1, .f32⟩
  | .hbm, ⟨33, _⟩ => ⟨S_, .f32⟩
  | .hbm, ⟨34, _⟩ => ⟨S256x4x1, .f32⟩
  | .hbm, ⟨35, _⟩ => ⟨S256x4x1, .f32⟩
  | .hbm, ⟨36, _⟩ => ⟨S_, .f32⟩
  | .hbm, ⟨37, _⟩ => ⟨S256x4x1, .f32⟩
  | .hbm, ⟨38, _⟩ => ⟨S256x4x1, .f32⟩
  | .hbm, ⟨39, _⟩ => ⟨S256x4x1, .f32⟩
  | .hbm, ⟨40, _⟩ => ⟨S256x4x1, .f32⟩
  | .hbm, ⟨41, _⟩ => ⟨S_, .f32⟩
  | .hbm, ⟨42, _⟩ => ⟨S256x4x1, .f32⟩
  | .hbm, ⟨43, _⟩ => ⟨S256x4x1, .f32⟩
  | .hbm, ⟨44, _⟩ => ⟨S256x4x256, .f32⟩
  | .hbm, ⟨45, _⟩ => ⟨S256x4x256, .f32⟩
  | .hbm, ⟨46, _⟩ => ⟨S1x1x256, .f32⟩
  | .hbm, ⟨47, _⟩ => ⟨S256x4x256, .f32⟩
  | .hbm, ⟨48, _⟩ => ⟨S256x4x256, .f32⟩
  | .hbm, ⟨49, _⟩ => ⟨S256x1024, .f32⟩
  | .hbm, ⟨50, _⟩ => ⟨S256x1024, .f32⟩
  | .hbm, ⟨51, _⟩ => ⟨S1024x1024, .f32⟩
  | .hbm, ⟨52, _⟩ => ⟨S1024x1024, .f32⟩
  | .hbm, ⟨53, _⟩ => ⟨S256x1024, .f32⟩
  | .hbm, ⟨54, _⟩ => ⟨S256x4x256, .f32⟩
  | .hbm, ⟨55, _⟩ => ⟨S256x4x256, .f32⟩
  | .hbm, ⟨56, _⟩ => ⟨S_, .f32⟩
  | .hbm, ⟨57, _⟩ => ⟨S256, .f32⟩
  | .hbm, ⟨58, _⟩ => ⟨S1x1x256, .f32⟩
  | .hbm, ⟨59, _⟩ => ⟨S256x4x256, .f32⟩
  | .hbm, ⟨60, _⟩ => ⟨S256x4x256, .f32⟩
  | .hbm, ⟨61, _⟩ => ⟨S_, .f32⟩
  | .hbm, ⟨62, _⟩ => ⟨S256, .f32⟩
  | .hbm, ⟨63, _⟩ => ⟨S256x4x256, .f32⟩
  | .hbm, ⟨64, _⟩ => ⟨S_, .f32⟩
  | .hbm, ⟨65, _⟩ => ⟨S256x4, .f32⟩
  | .hbm, ⟨66, _⟩ => ⟨S256x4x1, .f32⟩
  | .hbm, ⟨67, _⟩ => ⟨S256x4x256, .f32⟩
  | .hbm, ⟨68, _⟩ => ⟨S256x4x256, .f32⟩
  | .hbm, ⟨69, _⟩ => ⟨S256x4x1, .f32⟩
  | .hbm, ⟨70, _⟩ => ⟨S_, .f32⟩
  | .hbm, ⟨71, _⟩ => ⟨S256x4x1, .f32⟩
  | .hbm, ⟨72, _⟩ => ⟨S256x4x1, .f32⟩
  | .hbm, ⟨73, _⟩ => ⟨S_, .f32⟩
  | .hbm, ⟨74, _⟩ => ⟨S256x4, .f32⟩
  | .hbm, ⟨75, _⟩ => ⟨S256x4x256, .f32⟩
  | .hbm, ⟨76, _⟩ => ⟨S256x4x256, .f32⟩
  | .hbm, ⟨77, _⟩ => ⟨S256x4x256, .f32⟩
  | .hbm, ⟨78, _⟩ => ⟨S256x4x256, .f32⟩
  | .hbm, ⟨79, _⟩ => ⟨S256x4x256, .f32⟩
  | .hbm, ⟨80, _⟩ => ⟨S1x256, .f32⟩
  | .hbm, ⟨81, _⟩ => ⟨S256x1024, .f32⟩
  | .hbm, ⟨82, _⟩ => ⟨S1024x1024, .f32⟩
  | .hbm, ⟨83, _⟩ => ⟨S1024x1024, .f32⟩
  | .hbm, ⟨84, _⟩ => ⟨S256x1024, .f32⟩
  | .hbm, ⟨85, _⟩ => ⟨S256x1024, .f32⟩
  | .hbm, ⟨86, _⟩ => ⟨S256x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S_, .f32⟩
  | .hbm, ⟨91, _⟩ => ⟨S1024, .f32⟩
  | .hbm, ⟨92, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_11 : Ref sig .tc := ⟨.hbm, 87, rfl⟩
abbrev main_v68 : Ref sig .tc := ⟨.hbm, 88, rfl⟩
abbrev main_v69 : Ref sig .tc := ⟨.hbm, 89, rfl⟩
abbrev main_cst_12 : Ref sig .tc := ⟨.hbm, 90, rfl⟩
abbrev main_v70 : Ref sig .tc := ⟨.hbm, 91, rfl⟩
abbrev main_v71 : Ref sig .tc := ⟨.hbm, 92, rfl⟩

abbrev nD : Nat := 1
abbrev τ : Topo := Topo.v7x

variable {F : FTy → Type} [FloatOps F]
-- ==== Proof.RefOps.lean ====
/- The reference's arrays, one operation after another, each read at an index. -/
module

public import proofs.«01_k».proof.Proof.Gen.ReferenceIdeal.Run
public import Idealize.ShloMosaic.Lib.Pointwise
public import Idealize.ShloMosaic.Lib.Tactic.CleanTypes
public import Idealize.ShloMosaic.Lib.StableHlo.Predicate

@[expose] public section

set_option maxRecDepth 16384

noncomputable section

namespace Cert.Attn.Ref

open Idealize.ShloMosaic Idealize.ShloMosaic.TcCoe Idealize.SL.Sem Cert.ReferenceIdeal Cert.ReferenceIdeal.Gen
open scoped BigOperators

/-- Which keys a query sees. -/
def mask : IVec S4x4096x4096 1 :=
  broadcastInDim S4x4096x4096 ![1, 2] bcast_S4096x4096_S4x4096x4096_1_2 (cmpi .sle
    (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0))))

/-- A bf16 array, widened and cut into heads. -/
def wide256 (x : FVec Ideal S4096x1024 .bf16) : FVec Ideal S4096x4x256 .f32 := shapeCast _ (extf .f32 x bitsLt_bf16_f32) shapeCasts_S4096x1024_S4096x4x256
def wide128 (x : FVec Ideal S4096x512 .bf16) : FVec Ideal S4096x4x128 .f32 := shapeCast _ (extf .f32 x bitsLt_bf16_f32) shapeCasts_S4096x512_S4096x4x128

/-- The masked scores. -/
def scores (q k : FVec Ideal S4096x1024 .bf16) : FVec Ideal S4x4096x4096 .f32 :=
  select mask (mulf (Host.dotGeneral dot_S4096x4x256_S4096x4x256_S4x4096x4096_2_2_0_0_1_1 none (wide256 q) (wide256 k))
      (broadcastInDim S4x4096x4096 ![] bcast_S_S4x4096x4096 (constant S_ .f32 0x3D93CD3A#32)))
    (broadcastInDim S4x4096x4096 ![] bcast_S_S4x4096x4096 (id (constant S_ .f32 0xFF800000#32 : FVec Ideal S_ .f32)))

/-- The greatest score of a row. -/
def most0 (s : FVec Ideal S4x4096x4096 .f32) : FVec Ideal S4x4096 .f32 :=
  Host.reduce FloatOps.maximumf s (constant S_ .f32 0xFF800000#32) reducesTo_S4x4096x4096_S4x4096_d2 h_S_

/-- A row's number, repeated over the keys. -/
def spread (x : FVec Ideal S4x4096 .f32) : FVec Ideal S4x4096x4096 .f32 :=
  broadcastInDim S4x4096x4096 ![0, 1, 2] bcast_S4x4096x1_S4x4096x4096_0_1_2 (broadcastInDim S4x4096x1 ![0, 1] bcast_S4x4096_S4x4096x1_0_1 x)

/-- The exponentials. -/
def lowered (s : FVec Ideal S4x4096x4096 .f32) (x : FVec Ideal S4x4096 .f32) : FVec Ideal S4x4096x4096 .f32 :=
  Host.exp (subf s (spread (maximumf (broadcastInDim S4x4096 ![] bcast_S_S4x4096 (constant S_ .f32 0xFF800000#32)) x)))
def exps (s : FVec Ideal S4x4096x4096 .f32) : FVec Ideal S4x4096x4096 .f32 := lowered s (most0 s)

/-- A row's sum. -/
def sums (e : FVec Ideal S4x4096x4096 .f32) : FVec Ideal S4x4096 .f32 :=
  Host.reduceAdd e (constant S_ .f32 0x00000000#32) reducesTo_S4x4096x4096_S4x4096_d2 h_S_

/-- The weights. -/
def weights (e : FVec Ideal S4x4096x4096 .f32) : FVec Ideal S4x4096x4096 .f32 := Host.divf e (spread (sums e))

def outs (v : FVec Ideal S4096x512 .bf16) (y : FVec Ideal S4x4096x4096 .f32) : FVec Ideal S4096x512 .f32 :=
  shapeCast _ (transpose S4096x4x128 [2, 0, 1] (Host.dotGeneral dot_S4096x4x128_S4x4096x4096_S4x128x4096_0_2_2_1_1_0 none (wide128 v) y)
    transposes_S4x128x4096_S4096x4x128_2_0_1) shapeCasts_S4096x4x128_S4096x512

/-- The outputs' cotangents, cut into heads. -/
def cots (w : FVec Ideal S4096x512 .f32) : FVec Ideal S4x128x4096 .f32 :=
  transpose S4x128x4096 [1, 2, 0] (shapeCast _ w shapeCasts_S4096x512_S4096x4x128) transposes_S4096x4x128_S4x128x4096_1_2_0

/-- The weights' cotangents. -/
def dweights (w : FVec Ideal S4096x512 .f32) (v : FVec Ideal S4096x512 .bf16) : FVec Ideal S4x4096x4096 .f32 :=
  Host.dotGeneral dot_S4x128x4096_S4096x4x128_S4x4096x4096_1_2_2_0_0_1 none (cots w) (wide128 v)

def dvals (w : FVec Ideal S4096x512 .f32) (y : FVec Ideal S4x4096x4096 .f32) : FVec Ideal S4096x512 .f32 :=
  shapeCast _ (transpose S4096x4x128 [2, 0, 1] (Host.dotGeneral dot_S4x128x4096_S4x4096x4096_S4x128x4096_2_1_1_2_0_0 none (cots w) y)
    transposes_S4x128x4096_S4096x4x128_2_0_1) shapeCasts_S4096x4x128_S4096x512

/-- What a row's sum receives. -/
def dsums (dp e : FVec Ideal S4x4096x4096 .f32) : FVec Ideal S4x4096 .f32 :=
  Host.reduceAdd (Host.negf (shapeCast _ (Host.reduceAdd (mulf (mulf dp
    (broadcastInDim S4x4096x4096 ![0, 1, 2] bcast_S4x4096x1_S4x4096x4096_0_1_2 (Host.divf
      (broadcastInDim S4x4096x1 ![] bcast_S_S4x4096x1 (constant S_ .f32 0x3F800000#32))
      (mulf (broadcastInDim S4x4096x1 ![0, 1] bcast_S4x4096_S4x4096x1_0_1 (sums e)) (broadcastInDim S4x4096x1 ![0, 1] bcast_S4x4096_S4x4096x1_0_1 (sums e)))))) e)
    (constant S_ .f32 0x00000000#32) reducesTo_S4x4096x4096_S4x4096_d2 h_S_) shapeCasts_S4x4096_S4x4096x1))
    (constant S_ .f32 0x00000000#32) reducesTo_S4x4096x1_S4x4096_d2 h_S_

/-- The scores' cotangents. -/
def dscores (dp e : FVec Ideal S4x4096x4096 .f32) : FVec Ideal S4x4096x4096 .f32 :=
  mulf (select mask (mulf (addf (Host.divf dp (spread (sums e)))
      (broadcastInDim S4x4096x4096 ![0, 1] bcast_S4x4096_S4x4096x4096_0_1 (dsums dp e))) e)
    (broadcastInDim S4x4096x4096 ![] bcast_S_S4x4096x4096 (constant S_ .f32 0x00000000#32)))
    (broadcastInDim S4x4096x4096 ![] bcast_S_S4x4096x4096 (constant S_ .f32 0x3D93CD3A#32))

def dkeys (ds : FVec Ideal S4x4096x4096 .f32) (q : FVec Ideal S4096x1024 .bf16) : FVec Ideal S4096x1024 .f32 :=
  shapeCast _ (transpose S4096x4x256 [1, 0, 2] (Host.dotGeneral dot_S4x4096x4096_S4096x4x256_S4x4096x256_1_0_2_2_0_1 none ds (wide256 q))
    transposes_S4x4096x256_S4096x4x256_1_0_2) shapeCasts_S4096x4x256_S4096x1024

def dqueries (ds : FVec Ideal S4x4096x4096 .f32) (k : FVec Ideal S4096x1024 .bf16) : FVec Ideal S4096x1024 .f32 :=
  shapeCast _ (transpose S4096x4x256 [1, 0, 2] (Host.dotGeneral dot_S4x4096x4096_S4096x4x256_S4x4096x256_2_0_1_2_0_1 none ds (wide256 k))
    transposes_S4x4096x256_S4096x4x256_1_0_2) shapeCasts_S4096x4x256_S4096x1024

section Results
variable (m : (l : Loc nD τ sig) → Buf (Elt Ideal) l) (c : Dev nD)

/-- The four results are these. -/
theorem res0 (q k : FVec Ideal S4096x1024 .bf16) (v : FVec Ideal S4096x512 .bf16) (hq : m ((c.tc : Thread nD τ).loc main_arg0) = q)
    (hk : m ((c.tc : Thread nD τ).loc main_arg1) = k) (hv : m ((c.tc : Thread nD τ).loc main_arg2) = v) :
    Value.res_main_v46 m c = outs v (weights (exps (scores q k))) := by
  subst hq hk hv; rfl
theorem res3 (q k : FVec Ideal S4096x1024 .bf16) (w : FVec Ideal S4096x512 .f32) (hq : m ((c.tc : Thread nD τ).loc main_arg0) = q)
    (hk : m ((c.tc : Thread nD τ).loc main_arg1) = k) (hw : m ((c.tc : Thread nD τ).loc main_arg3) = w) :
    Value.res_main_v71 m c = dvals w (weights (exps (scores q k))) := by
  subst hq hk hw; rfl
theorem res1 (q k : FVec Ideal S4096x1024 .bf16) (v : FVec Ideal S4096x512 .bf16) (w : FVec Ideal S4096x512 .f32)
    (hq : m ((c.tc : Thread nD τ).loc main_arg0) = q) (hk : m ((c.tc : Thread nD τ).loc main_arg1) = k)
    (hv : m ((c.tc : Thread nD τ).loc main_arg2) = v) (hw : m ((c.tc : Thread nD τ).loc main_arg3) = w) :
    Value.res_main_v73 m c = dqueries (dscores (dweights w v) (exps (scores q k))) k := by
  subst hq hk hv hw; rfl
theorem res2 (q k : FVec Ideal S4096x1024 .bf16) (v : FVec Ideal S4096x512 .bf16) (w : FVec Ideal S4096x512 .f32)
    (hq : m ((c.tc : Thread nD τ).loc main_arg0) = q) (hk : m ((c.tc : Thread nD τ).loc main_arg1) = k)
    (hv : m ((c.tc : Thread nD τ).loc main_arg2) = v) (hw : m ((c.tc : Thread nD τ).loc main_arg3) = w) :
    Value.res_main_v72 m c = dkeys (dscores (dweights w v) (exps (scores q k))) q := by
  subst hq hk hv hw; rfl
end Results

/-! ## At an index -/

/-- The maximum over an array's last axis. -/
theorem reduce_max_last {A B N : ℕ} {u : Shape} (x : FVec Ideal (⟨3, ![A, B, N]⟩ : Shape) .f32) (init : FVec Ideal u .f32)
    (h' : (⟨3, ![A, B, N]⟩ : Shape).ReducesTo [2] (⟨2, ![A, B]⟩ : Shape)) (h : (⟨3, ![A, B, N]⟩ : Shape).Reduces [2] (⟨2, ![A, B]⟩ : Shape))
    (hu : 0 < u.numel) (a : Fin A) (b : Fin B) :
    Host.reduce FloatOps.maximumf x init h' hu (ix2 a b)
      = Finset.fold max (init (Shape.Idx.first hu)) (fun c : Fin N => x (ix3 a b c)) Finset.univ := by
  refine (Host.reduce_eq_fold_single FloatOps.maximumf x init h' h hu (ix2 a b)).trans ?_
  refine Finset.fold_congr fun c _ => congrArg x (funext fun z => Fin.ext ?_)
  rw [h.lift_val]
  match z with
  | 0 => rfl
  | 1 => rfl
  | 2 => rfl

theorem reduces_last : (⟨3, ![4, 4096, 4096]⟩ : Shape).Reduces [2] (⟨2, ![4, 4096]⟩ : Shape) := by decide

theorem mask_at (h : Fin 4) (r c : Fin 4096) (x y : EReal) : Scalar.select (mask (ix3 h r c)) x y = if c.val ≤ r.val then x else y := by
  pointwise [mask]
  have hr : (BitVec.ofNat 32 r.val).toNat = r.val := by
    rw [BitVec.toNat_ofNat]; exact Nat.mod_eq_of_lt (by omega)
  have hc : (BitVec.ofNat 32 c.val).toNat = c.val := by
    rw [BitVec.toNat_ofNat]; exact Nat.mod_eq_of_lt (by omega)
  unfold Scalar.select
  refine if_congr ?_ rfl rfl
  rw [show (1 : BitVec 1) = 1#1 from rfl, StableHlo.Predicate.sle_iff_toNat (by omega) (by omega), hr, hc]

section
variable (q k : FVec Ideal S4096x1024 .bf16) (v : FVec Ideal S4096x512 .bf16) (w : FVec Ideal S4096x512 .f32)
  (s e y dp : FVec Ideal S4x4096x4096 .f32) (h : Fin 4) (r c : Fin 4096)

theorem scores_at : scores q k (ix3 h r c) = if c.val ≤ r.val then
      (∑ x : Fin 256, q (ix2 r ⟨h.val * 256 + x.val, by omega⟩) * k (ix2 c ⟨h.val * 256 + x.val, by omega⟩)) * Ideal.ofBits .f32 1033096506#32
    else Ideal.ofBits .f32 4286578688#32 := by
  rw [← mask_at h]
  pointwise [scores, wide256]
  rfl
theorem most0_at : most0 s (ix2 h r) = Finset.fold max (Ideal.ofBits .f32 4286578688#32) (fun c : Fin 4096 => s (ix3 h r c)) Finset.univ := by
  unfold most0
  rw [reduce_max_last s _ _ reduces_last _ h r]
  pointwise
theorem lowered_at (x : FVec Ideal S4x4096 .f32) : lowered s x (ix3 h r c)
    = Ideal.exp (s (ix3 h r c) - max (Ideal.ofBits .f32 4286578688#32) (x (ix2 h r))) := by
  pointwise [lowered, spread]
theorem exps_at : exps s (ix3 h r c) = Ideal.exp (s (ix3 h r c) - max (Ideal.ofBits .f32 4286578688#32)
      (Finset.fold max (Ideal.ofBits .f32 4286578688#32) (fun c : Fin 4096 => s (ix3 h r c)) Finset.univ)) := by
  unfold exps
  rw [lowered_at, most0_at]
theorem sums_at : sums s (ix2 h r) = ∑ c : Fin 4096, s (ix3 h r c) := by
  pointwise [sums]
theorem weights_at : weights e (ix3 h r c) = Ideal.div (e (ix3 h r c)) (sums e (ix2 h r)) := by
  pointwise [weights, spread]
theorem outs_at (x : Fin 512) : outs v y (ix2 r x) = ∑ c : Fin 4096, v (ix2 c x) * y (ix3 ⟨x.val / 128, by omega⟩ r c) := by
  pointwise [outs, wide128]
theorem dweights_at : dweights w v (ix3 h r c)
    = ∑ x : Fin 128, w (ix2 r ⟨h.val * 128 + x.val, by omega⟩) * v (ix2 c ⟨h.val * 128 + x.val, by omega⟩) := by
  pointwise [dweights, cots, wide128]
theorem dvals_at (x : Fin 512) : dvals w y (ix2 c x) = ∑ r : Fin 4096, w (ix2 r x) * y (ix3 ⟨x.val / 128, by omega⟩ r c) := by
  pointwise [dvals, cots]
theorem dsums_at : dsums dp e (ix2 h r)
    = - ∑ c : Fin 4096, dp (ix3 h r c) * Ideal.div 1 (sums e (ix2 h r) * sums e (ix2 h r)) * e (ix3 h r c) := by
  pointwise [dsums]
  rw [Fin.sum_univ_one]
theorem dscores_at : dscores dp e (ix3 h r c) = if c.val ≤ r.val then
      (Ideal.div (dp (ix3 h r c)) (sums e (ix2 h r)) + dsums dp e (ix2 h r)) * e (ix3 h r c) * Ideal.ofBits .f32 1033096506#32
    else 0 := by
  rw [← mask_at h]
  pointwise [dscores, spread]
theorem dkeys_at (x : Fin 1024) : dkeys s q (ix2 c x) = ∑ r : Fin 4096, s (ix3 ⟨x.val / 256, by omega⟩ r c) * q (ix2 r x) := by
  pointwise [dkeys, wide256]
theorem dqueries_at (x : Fin 1024) : dqueries s k (ix2 r x) = ∑ c : Fin 4096, s (ix3 ⟨x.val / 256, by omega⟩ r c) * k (ix2 c x) := by
  pointwise [dqueries, wide256]
end

end Cert.Attn.Ref
-- ==== Proof.Real.lean ====
/- Real arithmetic inside the extended reals, and the causal attention of one head over the real numbers. -/
module

public import Idealize.ShloMosaic.Lib.IdealHost

@[expose] public section

noncomputable section

namespace Cert.Attn

open Idealize.ShloMosaic
open scoped BigOperators

/-! ## Extended reals that are real -/

/-- A finite sum of reals, taken in the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The f32 pattern of minus infinity. -/
theorem ofBits_neg_inf : Ideal.ofBits .f32 4286578688#32 = ⊥ := by
  simp [Ideal.ofBits, Ideal.ieee]

/-- The f32 pattern of plus infinity. -/
theorem ofBits_pos_inf : Ideal.ofBits .f32 2139095040#32 = ⊤ := by
  simp [Ideal.ofBits, Ideal.ieee]

/-- The scale of the scores: the f32 number nearest to one over the square root of 192. -/
def sc : ℝ := (Ideal.ofBits .f32 1033096506#32).toReal

theorem ofBits_sc : Ideal.ofBits .f32 1033096506#32 = ((sc : ℝ) : EReal) := by
  unfold sc
  simp [Ideal.ofBits, Ideal.ieee, -EReal.coe_mul]

/-- Division of reals by a real that is not zero. -/
theorem div_coe_coe {x y : ℝ} (h : y ≠ 0) : Ideal.div (x : EReal) (y : EReal) = ((x / y : ℝ) : EReal) := by
  rw [Ideal.div_coe h, ← EReal.coe_mul, mul_one_div]

/-- The logarithm of a positive real. -/
theorem log_coe_pos {x : ℝ} (h : 0 < x) : Ideal.log (x : EReal) = ((Real.log x : ℝ) : EReal) := by
  rw [Ideal.log_coe, if_neg (not_le.2 h)]

/-- The maximum of finitely many values, started at minus infinity, where some are real and the others minus
    infinity: it is real. -/
theorem fold_max_real {n : ℕ} (f : Fin n → EReal) (b : EReal) (hb : b ≠ ⊤) (hf : ∀ x, f x ≠ ⊤)
    (h : b ≠ ⊥ ∨ ∃ x, f x ≠ ⊥) : ∃ μ : ℝ, max b (Finset.fold max ⊥ f Finset.univ) = ((μ : ℝ) : EReal) := by
  have ht : max b (Finset.fold max ⊥ f Finset.univ) ≠ ⊤ := by
    intro e
    have : ⊤ ≤ max b (Finset.fold max ⊥ f Finset.univ) := e.ge
    rcases le_max_iff.1 this with h1 | h1
    · exact hb (top_le_iff.1 h1)
    · rcases (Finset.le_fold_max _).1 h1 with h2 | ⟨x, -, hx⟩
      · exact absurd h2 (by simp)
      · exact hf x (top_le_iff.1 hx)
  have hbot : max b (Finset.fold max ⊥ f Finset.univ) ≠ ⊥ := by
    intro e
    have e' : max b (Finset.fold max ⊥ f Finset.univ) ≤ ⊥ := e.le
    rcases h with h | ⟨x, hx⟩
    · exact h (le_bot_iff.1 ((le_max_left _ _).trans e'))
    · exact hx (le_bot_iff.1 (((Finset.le_fold_max _).2 (Or.inr ⟨x, Finset.mem_univ x, le_rfl⟩)).trans
        ((le_max_right _ _).trans e')))
  exact ⟨_, (EReal.coe_toReal ht hbot).symm⟩

/-- The maximum over equal entries is that entry. -/
theorem fold_max_const {n : ℕ} (hn : 0 < n) (a : EReal) : Finset.fold max ⊥ (fun _ : Fin n => a) Finset.univ = a := by
  apply le_antisymm
  · exact (Finset.fold_max_le _).2 ⟨bot_le, fun _ _ => le_rfl⟩
  · exact (Finset.le_fold_max _).2 (Or.inr ⟨⟨0, hn⟩, Finset.mem_univ _, le_rfl⟩)

/-! ## The running softmax

  A row's running state is `(m, l, a)`: a shift, the sum of `exp (s - m)` over the scores seen, and the same sum with
  each term times a value. Nothing is asked of the shift but that it is real once a score has been seen. -/

/-- The state `(m, l, a)` holds the sums `L` of `exp s` and `A` of `exp s · v`. -/
def Holds (L A : ℝ) (m l a : EReal) : Prop :=
  (m = ⊥ ∧ l = 0 ∧ a = 0 ∧ L = 0 ∧ A = 0) ∨
    ∃ μ : ℝ, m = (μ : EReal) ∧ l = ((Real.exp (-μ) * L : ℝ) : EReal) ∧ a = ((Real.exp (-μ) * A : ℝ) : EReal)

theorem Holds.zero : Holds 0 0 ⊥ 0 0 := Or.inl ⟨rfl, rfl, rfl, rfl, rfl⟩

/-- A score seen through the mask: minus infinity where it is masked. -/
def masked (keep : Prop) [Decidable keep] (s : ℝ) : EReal := if keep then (s : EReal) else ⊥

theorem exp_masked_sub (keep : Prop) [Decidable keep] (s μ : ℝ) :
    Ideal.exp (masked keep s - (μ : EReal)) = ((Real.exp (-μ) * (if keep then Real.exp s else 0) : ℝ) : EReal) := by
  unfold masked
  split
  · rw [← EReal.coe_sub, Ideal.exp_coe, sub_eq_neg_add, Real.exp_add]
  · rw [EReal.bot_sub, Ideal.exp_bot, mul_zero, EReal.coe_zero]

/-- One block of scores taken into a row's state. -/
theorem Holds.step {L A : ℝ} {m l a : EReal} (h : Holds L A m l a) {n : ℕ} (keep : Fin n → Prop) [DecidablePred keep]
    (s v : Fin n → ℝ) (hk : ∃ x, keep x) {m' l' a' : EReal}
    (hm : m' = max m (Finset.fold max ⊥ (fun x => masked (keep x) (s x)) Finset.univ))
    (hl : l' = Ideal.exp (m - m') * l + ∑ x, Ideal.exp (masked (keep x) (s x) - m'))
    (ha : a' = Ideal.exp (m - m') * a + ∑ x, Ideal.exp (masked (keep x) (s x) - m') * ((v x : ℝ) : EReal)) :
    Holds (L + ∑ x, if keep x then Real.exp (s x) else 0) (A + ∑ x, (if keep x then Real.exp (s x) else 0) * v x)
      m' l' a' := by
  obtain ⟨x₀, hx₀⟩ := hk
  have hmt : m ≠ ⊤ := by
    rcases h with ⟨h, -⟩ | ⟨μ, h, -⟩ <;> rw [h]
    · exact bot_ne_top
    · exact EReal.coe_ne_top μ
  obtain ⟨μ', hμ'⟩ := fold_max_real (fun x => masked (keep x) (s x)) m hmt
    (fun x => by unfold masked; split <;> simp) (Or.inr ⟨x₀, by simp [masked, hx₀]⟩)
  rw [hμ'] at hm
  subst hm
  refine Or.inr ⟨μ', rfl, ?_, ?_⟩
  · rw [hl]
    simp only [exp_masked_sub, coe_sum]
    rcases h with ⟨rfl, rfl, rfl, rfl, rfl⟩ | ⟨μ, rfl, rfl, rfl⟩
    · rw [mul_zero, zero_add, zero_add, Finset.mul_sum]
    · rw [← EReal.coe_sub, Ideal.exp_coe, ← EReal.coe_mul, ← EReal.coe_add, mul_add, ← Finset.mul_sum, ← mul_assoc,
        ← Real.exp_add]
      congr 5; ring
  · rw [ha]
    simp only [exp_masked_sub, ← EReal.coe_mul, coe_sum]
    rcases h with ⟨rfl, rfl, rfl, rfl, rfl⟩ | ⟨μ, rfl, rfl, rfl⟩
    · rw [mul_zero, zero_add, zero_add, Finset.mul_sum]
      simp only [mul_assoc]
    · rw [← EReal.coe_sub, Ideal.exp_coe, ← EReal.coe_mul, ← EReal.coe_add, mul_add, Finset.mul_sum, ← mul_assoc,
        ← Real.exp_add]
      simp only [mul_assoc]
      congr 4; ring

/-- What a row's state ends as: the quotient of the sums, and the logarithm of the sum. -/
theorem Holds.quotient {L A : ℝ} {m l a : EReal} (h : Holds L A m l a) (hL : 0 < L) :
    Ideal.div a l = ((A / L : ℝ) : EReal) ∧ m + Ideal.log l = ((Real.log L : ℝ) : EReal) := by
  rcases h with ⟨-, -, -, h, -⟩ | ⟨μ, rfl, rfl, rfl⟩
  · exact absurd h hL.ne'
  · have he := Real.exp_pos (-μ)
    refine ⟨?_, ?_⟩
    · rw [div_coe_coe (mul_pos he hL).ne', mul_div_mul_left _ _ he.ne']
    · rw [log_coe_pos (mul_pos he hL), Real.log_mul he.ne' hL.ne', Real.log_exp, ← EReal.coe_add]
      congr 1; ring

/-! ## One head's causal attention over the reals

  `q`, `k`, `v`, `w` are a head's queries, keys, values and incoming gradient, as functions of the row and the column. -/

variable (q k v w : ℕ → ℕ → ℝ)

/-- The score of query `r` against key `c`. -/
def score (r c : ℕ) : ℝ := (∑ d : Fin 256, q r d * k c d) * sc

/-- The exponential of a score, zero where the key lies after the query. -/
def expo (r c : ℕ) : ℝ := if c ≤ r then Real.exp (score q k r c) else 0

/-- A query's sum of exponentials. -/
def total (r : ℕ) : ℝ := ∑ c ∈ Finset.range 4096, expo q k r c

/-- The attention's weights. -/
def prob (r c : ℕ) : ℝ := expo q k r c / total q k r

/-- The attention's output. -/
def outA (r d : ℕ) : ℝ := (∑ c ∈ Finset.range 4096, expo q k r c * v c d) / total q k r

/-- The gradient of the weights. -/
def dprob (r c : ℕ) : ℝ := ∑ d : Fin 128, w r d * v c d

/-- A query's output against its gradient. -/
def delta (r : ℕ) : ℝ := ∑ d : Fin 128, w r d * outA q k v r d

/-- The gradient of the scores. -/
def dscore (r c : ℕ) : ℝ := prob q k r c * (dprob v w r c - delta q k v w r) * sc

/-- The gradients of the queries, the keys and the values. -/
def gradQ (r d : ℕ) : ℝ := ∑ c ∈ Finset.range 4096, dscore q k v w r c * k c d
def gradK (c d : ℕ) : ℝ := ∑ r ∈ Finset.range 4096, dscore q k v w r c * q r d
def gradV (c d : ℕ) : ℝ := ∑ r ∈ Finset.range 4096, prob q k r c * w r d

theorem expo_nonneg (r c : ℕ) : 0 ≤ expo q k r c := by unfold expo; split <;> positivity

theorem expo_of_lt {r c : ℕ} (h : r < c) : expo q k r c = 0 := if_neg (by omega)

theorem prob_of_lt {r c : ℕ} (h : r < c) : prob q k r c = 0 := by rw [prob, expo_of_lt q k h, zero_div]

theorem dscore_of_lt {r c : ℕ} (h : r < c) : dscore q k v w r c = 0 := by
  rw [dscore, prob_of_lt q k h, zero_mul, zero_mul]

theorem total_pos {r : ℕ} (h : r < 4096) : 0 < total q k r := by
  unfold total
  refine Finset.sum_pos' (fun c _ => expo_nonneg q k r c) ⟨0, Finset.mem_range.2 (by omega), ?_⟩
  rw [expo, if_pos (Nat.zero_le r)]
  exact Real.exp_pos _

/-- A weight from the logarithm of the row's sum. -/
theorem exp_sub_log {r c : ℕ} (h : r < 4096) :
    Ideal.exp (masked (c ≤ r) (score q k r c) - ((Real.log (total q k r) : ℝ) : EReal)) = ((prob q k r c : ℝ) : EReal) := by
  rw [exp_masked_sub, Real.exp_neg, Real.exp_log (total_pos q k h), prob, expo, div_eq_inv_mul]

/-- A sum over a block more. -/
theorem sum_range_block (f : ℕ → ℝ) (n : ℕ) :
    ∑ c ∈ Finset.range (1024 * (n + 1)), f c = ∑ c ∈ Finset.range (1024 * n), f c + ∑ x : Fin 1024, f (1024 * n + x) := by
  rw [mul_add, mul_one, Finset.sum_range_add, Finset.sum_range (fun x => f (1024 * n + x))]

/-- A sum whose terms end early. -/
theorem sum_range_le {f : ℕ → ℝ} {n N : ℕ} (hn : n ≤ N) (h : ∀ c, n ≤ c → f c = 0) :
    ∑ c ∈ Finset.range n, f c = ∑ c ∈ Finset.range N, f c := by
  refine Finset.sum_subset (Finset.range_mono hn) fun c _ hc => h c ?_
  simpa using hc

end Cert.Attn
-- ==== Proof.Tile.lean ====
/- Arrays of extended reals that hold real numbers, and the scores of two blocks of rows. -/
module

public import proofs.«01_k».proof.Proof.Gen.KernelIdeal.Frame
public import proofs.«01_k».proof.Proof.Real
public import Idealize.ShloMosaic.Lib.Pointwise
public import Idealize.ShloMosaic.Lib.Pipeline.ValueKit
public import Idealize.ShloMosaic.Lib.StableHlo.Predicate

@[expose] public section

noncomputable section

namespace Cert.Attn

open Idealize.ShloMosaic Idealize.SL.Sem Cert.KernelIdeal
open scoped BigOperators

/-- A matrix of extended reals that holds the real numbers `f`. -/
def Tile {M N : ℕ} (A : (⟨2, ![M, N]⟩ : Shape).Idx → EReal) (f : ℕ → ℕ → ℝ) : Prop :=
  ∀ (a : Fin M) (b : Fin N), A (ix2 a b) = ((f a b : ℝ) : EReal)

/-- A block of rows loaded from a matrix, at an index. -/
theorem ld_rows {N : ℕ} {e' : EltTy} (x : Vec Ideal (⟨2, ![4096, N]⟩ : Shape) e') {off : Fin 2 → ℕ} {R : ℕ} (ho : off = ![R, 0])
    (inb : ∀ a, off a + (![1024, N] : Fin 2 → ℕ) a ≤ (⟨2, ![4096, N]⟩ : Shape).size a) (a : Fin 1024) (b : Fin N)
    (hR : R + a.val < 4096) :
    View.ld x (Rect.unit (s := ⟨2, ![4096, N]⟩) off ![1024, N] inb) (ix2 a b) = x (ix2 (⟨R + a, hR⟩ : Fin 4096) b) := by
  subst ho
  refine congrArg x (funext fun z => Fin.ext ?_)
  match z with
  | 0 => exact (Rect.idx_unit_val _ _ _ _ _).trans rfl
  | 1 => exact (Rect.idx_unit_val _ _ _ _ _).trans (Nat.zero_add _)

/-- A block of rows loaded from a bf16 matrix that holds real numbers. -/
theorem Tile.ld_bf16 {N : ℕ} {x : Vec Ideal (⟨2, ![4096, N]⟩ : Shape) .bf16} {f : ℕ → ℕ → ℝ} (h : Tile x f) {off : Fin 2 → ℕ} {R : ℕ}
    (ho : off = ![R, 0]) (inb : ∀ a, off a + (![1024, N] : Fin 2 → ℕ) a ≤ (⟨2, ![4096, N]⟩ : Shape).size a) :
    Tile (M := 1024) (N := N) (View.ld x (Rect.unit (s := ⟨2, ![4096, N]⟩) off ![1024, N] inb)) (fun a b => f (R + a) b) := by
  intro a b
  have hR : R + 1024 ≤ 4096 := by have := inb 0; subst ho; exact this
  exact (ld_rows x ho inb a b (by omega)).trans (h _ _)

/-- A block of rows loaded from an f32 matrix that holds real numbers. -/
theorem Tile.ld_f32 {N : ℕ} {x : Vec Ideal (⟨2, ![4096, N]⟩ : Shape) .f32} {f : ℕ → ℕ → ℝ} (h : Tile x f) {off : Fin 2 → ℕ} {R : ℕ}
    (ho : off = ![R, 0]) (inb : ∀ a, off a + (![1024, N] : Fin 2 → ℕ) a ≤ (⟨2, ![4096, N]⟩ : Shape).size a) :
    Tile (M := 1024) (N := N) (View.ld x (Rect.unit (s := ⟨2, ![4096, N]⟩) off ![1024, N] inb)) (fun a b => f (R + a) b) := by
  intro a b
  have hR : R + 1024 ≤ 4096 := by have := inb 0; subst ho; exact this
  exact (ld_rows x ho inb a b (by omega)).trans (h _ _)

/-- The scaled product of row `a` of one block with row `x` of another. -/
def raw (q k : (⟨2, ![1024, 256]⟩ : Shape).Idx → EReal) (a x : Fin 1024) : EReal :=
  (∑ e : Fin 256, q (ix2 a e) * k (ix2 x e)) * Ideal.ofBits .f32 1033096506#32

/-- It is the score of the two rows. -/
theorem raw_eq {qb kb : (⟨2, ![1024, 256]⟩ : Shape).Idx → EReal} {q k : ℕ → ℕ → ℝ} {R C : ℕ}
    (hq : Tile qb (fun a b => q (R + a) b)) (hk : Tile kb (fun a b => k (C + a) b)) (a x : Fin 1024) :
    raw qb kb a x = ((score q k (R + a) (C + x) : ℝ) : EReal) := by
  unfold raw score
  rw [ofBits_sc]
  simp only [hq a, hk x, ← EReal.coe_mul, coe_sum]

/-- The causal mask of a block on the diagonal. -/
theorem select_mask (a x : Fin 1024) (s : EReal) :
    Scalar.select (IntOp.cmpi .sle (BitVec.ofNat 32 x.val) (IntOp.addi (BitVec.ofNat 32 a.val) 0#32)) s
      (Ideal.ofBits .f32 4286578688#32) = if x.val ≤ a.val then s else ⊥ := by
  have h0 : IntOp.addi (BitVec.ofNat 32 a.val) 0#32 = BitVec.ofNat 32 a.val := by
    unfold IntOp.addi; exact BitVec.add_zero _
  have ha : (BitVec.ofNat 32 a.val).toNat = a.val := by
    rw [BitVec.toNat_ofNat]; exact Nat.mod_eq_of_lt (by omega)
  have hx : (BitVec.ofNat 32 x.val).toNat = x.val := by
    rw [BitVec.toNat_ofNat]; exact Nat.mod_eq_of_lt (by omega)
  rw [h0, ofBits_neg_inf]
  unfold Scalar.select
  refine if_congr ?_ rfl rfl
  rw [show (1 : BitVec 1) = 1#1 from rfl, StableHlo.Predicate.sle_iff_toNat (by omega) (by omega), ha, hx]

end Cert.Attn
-- ==== Proof.FwdPay.lean ====
/- The forward call: what one step computes, at an index. -/
module

public import proofs.«01_k».proof.Proof.Tile
public import Idealize.ShloMosaic.Lib.Pipeline.ValueKit

@[expose] public section

noncomputable section

namespace Cert.Attn

open Idealize.ShloMosaic Idealize.SL.Sem Cert.KernelIdeal Cert.KernelIdeal.Gen
open scoped BigOperators

/-! ## The payloads at an index -/

section Payloads
variable (v0 : Vec Ideal S1024x256 .bf16) (kb : Vec Ideal S1024x256 .bf16) (vb : Vec Ideal S1024x128 .bf16)
  (m l : FVec Ideal S1024x1 .f32) (acc : FVec Ideal S1024x128 .f32) (a : Fin 1024) (d : Fin 128)

set_option maxRecDepth 16384 in
theorem pay10_at : k0_pay10 v0 m kb (ix2 a 0) = max (m (ix2 a 0)) (Finset.fold max ⊥ (fun x => raw v0 kb a x) Finset.univ) := by
  pointwise [k0_pay10, k0_pay9]
  rw [ofBits_neg_inf]
  rfl

set_option maxRecDepth 16384 in
theorem pay13_at : k0_pay13 v0 m l kb (ix2 a 0)
    = Ideal.exp (m (ix2 a 0) - k0_pay10 v0 m kb (ix2 a 0)) * l (ix2 a 0)
      + ∑ x : Fin 1024, Ideal.exp (raw v0 kb a x - k0_pay10 v0 m kb (ix2 a 0)) := by
  rw [pay10_at]
  pointwise [k0_pay13, k0_pay12, k0_pay11, k0_pay10, k0_pay9]
  rw [ofBits_neg_inf]
  rfl

set_option maxRecDepth 16384 in
theorem pay14_at : k0_pay14 v0 m acc kb vb (ix2 a d)
    = Ideal.exp (m (ix2 a 0) - k0_pay10 v0 m kb (ix2 a 0)) * acc (ix2 a d)
      + ∑ x : Fin 1024, Ideal.exp (raw v0 kb a x - k0_pay10 v0 m kb (ix2 a 0)) * vb (ix2 x d) := by
  rw [pay10_at]
  pointwise [k0_pay14, k0_pay12, k0_pay11, k0_pay10, k0_pay9]
  rw [ofBits_neg_inf]
  rfl

/-- The masked scores of the diagonal block. -/
def rawD (q k : (⟨2, ![1024, 256]⟩ : Shape).Idx → EReal) (a x : Fin 1024) : EReal := if x.val ≤ a.val then raw q k a x else ⊥

set_option maxRecDepth 16384 in
theorem pay21_at (x : Fin 1024) : k0_pay21 v0 kb (ix2 a x) = rawD v0 kb a x := by
  pointwise [k0_pay21]
  exact select_mask a x (raw v0 kb a x)

set_option maxRecDepth 16384 in
theorem pay22_at : k0_pay22 v0 m kb (ix2 a 0) = max (m (ix2 a 0)) (Finset.fold max ⊥ (fun x => rawD v0 kb a x) Finset.univ) := by
  pointwise [k0_pay22]
  simp only [pay21_at, ofBits_neg_inf]

set_option maxRecDepth 16384 in
theorem pay23_at (x : Fin 1024) : k0_pay23 v0 m kb (ix2 a x) = rawD v0 kb a x - k0_pay22 v0 m kb (ix2 a 0) := by
  pointwise [k0_pay23]
  simp only [pay21_at]

set_option maxRecDepth 16384 in
theorem pay3_at (m' : FVec Ideal S1024x1 .f32) (s : FVec Ideal S1024x1024 .f32) : k0_pay3 m l m' s (ix2 a 0)
    = Ideal.exp (m (ix2 a 0) - m' (ix2 a 0)) * l (ix2 a 0) + ∑ x : Fin 1024, Ideal.exp (s (ix2 a x)) := by
  pointwise [k0_pay3, k0_pay2, k0_pay1]

set_option maxRecDepth 16384 in
theorem pay4_at (m' : FVec Ideal S1024x1 .f32) (s : FVec Ideal S1024x1024 .f32) : k0_pay4 m l acc vb m' s (ix2 a d)
    = Ideal.div (Ideal.exp (m (ix2 a 0) - m' (ix2 a 0)) * acc (ix2 a d) + ∑ x : Fin 1024, Ideal.exp (s (ix2 a x)) * vb (ix2 x d))
      (k0_pay3 m l m' s (ix2 a 0)) := by
  pointwise [k0_pay4, k0_pay2, k0_pay1]

set_option maxRecDepth 16384 in
theorem pay5_at (m' : FVec Ideal S1024x1 .f32) (s : FVec Ideal S1024x1024 .f32) : k0_pay5 m l m' s (ix2 a d)
    = m' (ix2 a 0) + Ideal.log (k0_pay3 m l m' s (ix2 a 0)) := by
  pointwise [k0_pay5]

end Payloads

end Cert.Attn
-- ==== Proof.Fwd.lean ====
/- The forward call: a block of 1024 queries against the blocks of keys up to the diagonal. -/
module

public import proofs.«01_k».proof.Proof.FwdPay

@[expose] public section

noncomputable section

namespace Cert.Attn

open Idealize.ShloMosaic Idealize.SL.Sem Cert.KernelIdeal Cert.KernelIdeal.Gen
open scoped BigOperators

theorem trips0 : ∀ i : grid0.Coords, (k0_t1_loop i).trips = (i 1).val ∧ (k0_t2_loop i).trips = 0 := by decide +kernel
theorem off0 : ∀ (i : grid0.Coords) (k : Fin (k0_t1_loop i).trips), k0_off1 i k = ![1024 * k.val, 0] ∧ k0_off2 i k = ![1024 * k.val, 0] := by
  decide +kernel
theorem offD0 : ∀ i : grid0.Coords, k0_off5 i = ![1024 * (i 1).val, 0] ∧ k0_off6 i = ![1024 * (i 1).val, 0] := by decide +kernel

/-- A row's sums over the first `n` blocks of keys. -/
def sumL (q k : ℕ → ℕ → ℝ) (r n : ℕ) : ℝ := ∑ c ∈ Finset.range (1024 * n), expo q k r c
def sumA (q k v : ℕ → ℕ → ℝ) (r d n : ℕ) : ℝ := ∑ c ∈ Finset.range (1024 * n), expo q k r c * v c d

/-- One step of the running softmax, for any scores that are real where the key is not after the query. -/
theorem holds_next {q k v : ℕ → ℕ → ℝ} {r d n : ℕ} (hr : 1024 * n ≤ r) {m l a m' l' a' : EReal} {s w : Fin 1024 → EReal}
    (h : Holds (sumL q k r n) (sumA q k v r d n) m l a)
    (hs : ∀ x, s x = masked (1024 * n + x.val ≤ r) (score q k r (1024 * n + x.val)))
    (hw : ∀ x, w x = ((v (1024 * n + x.val) d : ℝ) : EReal))
    (hm : m' = max m (Finset.fold max ⊥ s Finset.univ))
    (hl : l' = Ideal.exp (m - m') * l + ∑ x, Ideal.exp (s x - m'))
    (ha : a' = Ideal.exp (m - m') * a + ∑ x, Ideal.exp (s x - m') * w x) :
    Holds (sumL q k r (n + 1)) (sumA q k v r d (n + 1)) m' l' a' := by
  obtain rfl : s = fun x => masked (1024 * n + x.val ≤ r) (score q k r (1024 * n + x.val)) := funext hs
  obtain rfl : w = fun x => ((v (1024 * n + x.val) d : ℝ) : EReal) := funext hw
  have := h.step (fun x : Fin 1024 => 1024 * n + x.val ≤ r) (fun x => score q k r (1024 * n + x.val))
    (fun x => v (1024 * n + x.val) d) ⟨0, by simpa using hr⟩ hm hl ha
  unfold sumL sumA
  rw [sum_range_block, sum_range_block]
  exact this

/-- The sums up to the diagonal block are the sums over all keys. -/
theorem sumL_all (q k : ℕ → ℕ → ℝ) {r n : ℕ} (hn : 1024 * (n + 1) ≤ 4096) (hr : r < 1024 * (n + 1)) :
    sumL q k r (n + 1) = total q k r :=
  sum_range_le hn fun c hc => expo_of_lt q k (by omega)

theorem sumA_all (q k v : ℕ → ℕ → ℝ) {r n : ℕ} (d : ℕ) (hn : 1024 * (n + 1) ≤ 4096) (hr : r < 1024 * (n + 1)) :
    sumA q k v r d (n + 1) / total q k r = outA q k v r d := by
  unfold outA sumA
  rw [sum_range_le hn fun c hc => by rw [expo_of_lt q k (by omega), zero_mul]]

/-- The diagonal block, the last of a row: what is stored. -/
theorem diag_step {q k v : ℕ → ℕ → ℝ} {n : ℕ} (hn : n < 4) {v0 kb : Vec Ideal S1024x256 .bf16} {vb : Vec Ideal S1024x128 .bf16}
    {m l : FVec Ideal S1024x1 .f32} {acc : FVec Ideal S1024x128 .f32} (hq : Tile v0 (fun a b => q (1024 * n + a) b))
    (hk : Tile kb (fun a b => k (1024 * n + a) b)) (hv : Tile vb (fun a b => v (1024 * n + a) b)) (a : Fin 1024) (d : Fin 128)
    (h : Holds (sumL q k (1024 * n + a) n) (sumA q k v (1024 * n + a) d n) (m (ix2 a 0)) (l (ix2 a 0)) (acc (ix2 a d))) :
    k0_pay4 m l acc vb (k0_pay22 v0 m kb) (k0_pay23 v0 m kb) (ix2 a d) = ((outA q k v (1024 * n + a) d : ℝ) : EReal)
      ∧ k0_pay5 m l (k0_pay22 v0 m kb) (k0_pay23 v0 m kb) (ix2 a d) = ((Real.log (total q k (1024 * n + a)) : ℝ) : EReal) := by
  have hz := total_pos q k (r := 1024 * n + a) (by omega)
  have h1 := holds_next (s := fun x => rawD v0 kb a x) (w := fun x => vb (ix2 x d)) (by omega) h (fun x => ?_) (fun x => hv x d)
    (pay22_at v0 kb m a) rfl rfl
  · rw [pay4_at, pay5_at, pay3_at]
    simp only [pay23_at v0 kb]
    rw [sumL_all q k (by omega) (by omega)] at h1
    obtain ⟨e1, e2⟩ := h1.quotient hz
    rw [sumA_all q k v d (by omega) (by omega)] at e1
    exact ⟨e1, e2⟩
  · unfold rawD masked
    refine if_congr (by omega) ?_ rfl
    exact raw_eq hq hk a x

section Block
variable (c : Dev nD) (i : grid0.Coords) (arg2 : Memref sig .tc .vmem S1024x256 .bf16) (harg2 : arg2.IsWhole)
  (arg3 : Memref sig .tc .vmem S4096x256 .bf16) (harg3 : arg3.IsWhole) (arg4 : Memref sig .tc .vmem S4096x128 .bf16) (harg4 : arg4.IsWhole)
  (arg5 : Memref sig .tc .vmem S1024x128 .f32) (harg5 : arg5.IsWhole) (arg6 : Memref sig .tc .vmem S1024x128 .f32) (harg6 : arg6.IsWhole)
  (x0 : Vec Ideal S1024x256 .bf16) (x1 : Vec Ideal S4096x256 .bf16) (x2 : Vec Ideal S4096x128 .bf16)

/-- The running state before block `n` of the keys. -/
def state0 (n : ℕ) : FVec Ideal S1024x1 .f32 × FVec Ideal S1024x1 .f32 × FVec Ideal S1024x128 .f32 :=
  st_k0_t1 Variants.none c none i arg2 harg2 arg3 harg3 arg4 harg4 arg5 harg5 arg6 harg6 x0 (harg3.unread x1) (harg4.unread x2)
    (k0_pay6, k0_pay7, k0_pay8) n

theorem state0_succ (k : Fin (k0_t1_loop i).trips) : state0 c i arg2 harg2 arg3 harg3 arg4 harg4 arg5 harg5 arg6 harg6 x0 x1 x2 (k.val + 1)
    = (k0_pay10 x0 (state0 c i arg2 harg2 arg3 harg3 arg4 harg4 arg5 harg5 arg6 harg6 x0 x1 x2 k.val).1 (View.ld x1 (Rect.unit (k0_off1 i k) S1024x256.size (k0_off1_inb i k))),
      k0_pay13 x0 (state0 c i arg2 harg2 arg3 harg3 arg4 harg4 arg5 harg5 arg6 harg6 x0 x1 x2 k.val).1 (state0 c i arg2 harg2 arg3 harg3 arg4 harg4 arg5 harg5 arg6 harg6 x0 x1 x2 k.val).2.1 (View.ld x1 (Rect.unit (k0_off1 i k) S1024x256.size (k0_off1_inb i k))),
      k0_pay14 x0 (state0 c i arg2 harg2 arg3 harg3 arg4 harg4 arg5 harg5 arg6 harg6 x0 x1 x2 k.val).1 (state0 c i arg2 harg2 arg3 harg3 arg4 harg4 arg5 harg5 arg6 harg6 x0 x1 x2 k.val).2.2 (View.ld x1 (Rect.unit (k0_off1 i k) S1024x256.size (k0_off1_inb i k)))
        (View.ld x2 (Rect.unit (k0_off2 i k) S1024x128.size (k0_off2_inb i k)))) := by
  refine (st_k0_t1_succ Variants.none c none i arg2 harg2 arg3 harg3 arg4 harg4 arg5 harg5 arg6 harg6 x0 (harg3.unread x1)
    (harg4.unread x2) (k0_pay6, k0_pay7, k0_pay8) k).trans ?_
  unfold tripR_k0_t1 trip_k0_t1
  dsimp only
  simp only [View.readAt_eq_ld, harg3.read_unread, harg4.read_unread]
  rfl

variable {q k v : ℕ → ℕ → ℝ} (hq : Tile x0 (fun a b => q (1024 * (i 1).val + a) b)) (hk : Tile x1 k) (hv : Tile x2 v)

include hq hk hv in
theorem state0_holds (a : Fin 1024) (d : Fin 128) (n : ℕ) (hn : n ≤ (i 1).val) :
    Holds (sumL q k (1024 * (i 1).val + a) n) (sumA q k v (1024 * (i 1).val + a) d n)
      ((state0 c i arg2 harg2 arg3 harg3 arg4 harg4 arg5 harg5 arg6 harg6 x0 x1 x2 n).1 (ix2 a 0)) ((state0 c i arg2 harg2 arg3 harg3 arg4 harg4 arg5 harg5 arg6 harg6 x0 x1 x2 n).2.1 (ix2 a 0)) ((state0 c i arg2 harg2 arg3 harg3 arg4 harg4 arg5 harg5 arg6 harg6 x0 x1 x2 n).2.2 (ix2 a d)) := by
  induction n with
  | zero =>
    have h6 : k0_pay6 (F := Ideal) (ix2 a 0) = ⊥ := ofBits_neg_inf
    have h7 : k0_pay7 (F := Ideal) (ix2 a 0) = 0 := Ideal.ofBits_zero_f32
    have h8 : k0_pay8 (F := Ideal) (ix2 a d) = 0 := Ideal.ofBits_zero_f32
    show Holds _ _ (k0_pay6 (F := Ideal) (ix2 a 0)) (k0_pay7 (F := Ideal) (ix2 a 0)) (k0_pay8 (F := Ideal) (ix2 a d))
    rw [h6, h7, h8]
    exact Or.inl ⟨rfl, rfl, rfl, by simp [sumL], by simp [sumA]⟩
  | succ n ih =>
    have hlt : n < (k0_t1_loop i).trips := by rw [(trips0 i).1]; omega
    rw [state0_succ c i arg2 harg2 arg3 harg3 arg4 harg4 arg5 harg5 arg6 harg6 x0 x1 x2 ⟨n, hlt⟩]
    have hkb := hk.ld_bf16 (off0 i ⟨n, hlt⟩).1 (k0_off1_inb i ⟨n, hlt⟩)
    have hvb := hv.ld_bf16 (off0 i ⟨n, hlt⟩).2 (k0_off2_inb i ⟨n, hlt⟩)
    refine holds_next (by omega) (ih (by omega)) (fun x => ?_) (fun x => hvb x d) (pay10_at _ _ _ a) (pay13_at _ _ _ _ a)
      (pay14_at _ _ _ _ _ a d)
    rw [masked, if_pos (by omega)]
    exact raw_eq hq hkb a x

/-- The blocks of keys and of values on the diagonal. -/
abbrev keysD : Vec Ideal S1024x256 .bf16 := View.ld x1 (Rect.unit (k0_off5 i) S1024x256.size (k0_off5_inb i))
abbrev valsD : Vec Ideal S1024x128 .bf16 := View.ld x2 (Rect.unit (k0_off6 i) S1024x128.size (k0_off6_inb i))

/-- The loop over the rest of the blocks makes no trip. -/
theorem rest0 (s : FVec Ideal S1024x1 .f32 × FVec Ideal S1024x1 .f32 × FVec Ideal S1024x128 .f32) :
    st_k0_t2 Variants.none c none i arg2 harg2 arg3 harg3 arg4 harg4 arg5 harg5 arg6 harg6 x0 (harg3.unread x1) (harg4.unread x2)
      (s.1, s.2.1, s.2.2) (k0_t2_loop i).trips = s := by
  rw [(trips0 i).2]; rfl

theorem out3_eq : out0_A_3 c i arg2 harg2 arg3 harg3 arg4 harg4 arg5 harg5 arg6 harg6 x0 x1 x2
    = k0_pay4 (state0 c i arg2 harg2 arg3 harg3 arg4 harg4 arg5 harg5 arg6 harg6 x0 x1 x2 (k0_t1_loop i).trips).1 (state0 c i arg2 harg2 arg3 harg3 arg4 harg4 arg5 harg5 arg6 harg6 x0 x1 x2 (k0_t1_loop i).trips).2.1 (state0 c i arg2 harg2 arg3 harg3 arg4 harg4 arg5 harg5 arg6 harg6 x0 x1 x2 (k0_t1_loop i).trips).2.2 (valsD i x2) (k0_pay22 x0 (state0 c i arg2 harg2 arg3 harg3 arg4 harg4 arg5 harg5 arg6 harg6 x0 x1 x2 (k0_t1_loop i).trips).1 (keysD i x1)) (k0_pay23 x0 (state0 c i arg2 harg2 arg3 harg3 arg4 harg4 arg5 harg5 arg6 harg6 x0 x1 x2 (k0_t1_loop i).trips).1 (keysD i x1)) := by
  have h := rest0 c i arg2 harg2 arg3 harg3 arg4 harg4 arg5 harg5 arg6 harg6 x0 x1 x2
    (state0 c i arg2 harg2 arg3 harg3 arg4 harg4 arg5 harg5 arg6 harg6 x0 x1 x2 (k0_t1_loop i).trips)
  have key : ∀ t s : FVec Ideal S1024x1 .f32 × FVec Ideal S1024x1 .f32 × FVec Ideal S1024x128 .f32, t = s →
      k0_pay4 t.1 t.2.1 t.2.2 (valsD i x2) (k0_pay22 x0 t.1 (keysD i x1)) (k0_pay23 x0 t.1 (keysD i x1))
      = k0_pay4 s.1 s.2.1 s.2.2 (valsD i x2) (k0_pay22 x0 s.1 (keysD i x1)) (k0_pay23 x0 s.1 (keysD i x1)) := by
    rintro t _ rfl; rfl
  unfold state0 at h ⊢
  frame_out
  exact key _ _ h

theorem out4_eq : out0_A_4 c i arg2 harg2 arg3 harg3 arg4 harg4 arg5 harg5 arg6 harg6 x0 x1 x2
    = k0_pay5 (state0 c i arg2 harg2 arg3 harg3 arg4 harg4 arg5 harg5 arg6 harg6 x0 x1 x2 (k0_t1_loop i).trips).1 (state0 c i arg2 harg2 arg3 harg3 arg4 harg4 arg5 harg5 arg6 harg6 x0 x1 x2 (k0_t1_loop i).trips).2.1 (k0_pay22 x0 (state0 c i arg2 harg2 arg3 harg3 arg4 harg4 arg5 harg5 arg6 harg6 x0 x1 x2 (k0_t1_loop i).trips).1 (keysD i x1)) (k0_pay23 x0 (state0 c i arg2 harg2 arg3 harg3 arg4 harg4 arg5 harg5 arg6 harg6 x0 x1 x2 (k0_t1_loop i).trips).1 (keysD i x1)) := by
  have h := rest0 c i arg2 harg2 arg3 harg3 arg4 harg4 arg5 harg5 arg6 harg6 x0 x1 x2
    (state0 c i arg2 harg2 arg3 harg3 arg4 harg4 arg5 harg5 arg6 harg6 x0 x1 x2 (k0_t1_loop i).trips)
  have key : ∀ t s : FVec Ideal S1024x1 .f32 × FVec Ideal S1024x1 .f32 × FVec Ideal S1024x128 .f32, t = s →
      k0_pay5 t.1 t.2.1 (k0_pay22 x0 t.1 (keysD i x1)) (k0_pay23 x0 t.1 (keysD i x1))
      = k0_pay5 s.1 s.2.1 (k0_pay22 x0 s.1 (keysD i x1)) (k0_pay23 x0 s.1 (keysD i x1)) := by
    rintro t _ rfl; rfl
  unfold state0 at h ⊢
  frame_out
  exact key _ _ h

include hq hk hv in
/-- The block of outputs, and the block of logarithms of sums. -/
theorem block0 (a : Fin 1024) (d : Fin 128) :
    out0_A_3 c i arg2 harg2 arg3 harg3 arg4 harg4 arg5 harg5 arg6 harg6 x0 x1 x2 (ix2 a d)
        = ((outA q k v (1024 * (i 1).val + a) d : ℝ) : EReal)
      ∧ out0_A_4 c i arg2 harg2 arg3 harg3 arg4 harg4 arg5 harg5 arg6 harg6 x0 x1 x2 (ix2 a d)
        = ((Real.log (total q k (1024 * (i 1).val + a)) : ℝ) : EReal) := by
  have h0 := state0_holds c i arg2 harg2 arg3 harg3 arg4 harg4 arg5 harg5 arg6 harg6 x0 x1 x2 hq hk hv a d (i 1).val le_rfl
  have hkb := hk.ld_bf16 (offD0 i).1 (k0_off5_inb i)
  have hvb := hv.ld_bf16 (offD0 i).2 (k0_off6_inb i)
  rw [out3_eq, out4_eq, (trips0 i).1]
  exact diag_step (i 1).isLt hq hkb hvb a d h0

end Block

end Cert.Attn
-- ==== Proof.BwdPay.lean ====
/- The two backward calls: what one step computes, at an index. -/
module

public import proofs.«01_k».proof.Proof.Tile

@[expose] public section

noncomputable section

namespace Cert.Attn

open Idealize.ShloMosaic Idealize.SL.Sem Cert.KernelIdeal Cert.KernelIdeal.Gen
open scoped BigOperators

/-- The product of row `a` of one block of 128 columns with row `x` of another. -/
def rawV (w v : (⟨2, ![1024, 128]⟩ : Shape).Idx → EReal) (a x : Fin 1024) : EReal := ∑ e : Fin 128, w (ix2 a e) * v (ix2 x e)

/-- The product of the two rows `a`. -/
def rowDot (w o : (⟨2, ![1024, 128]⟩ : Shape).Idx → EReal) (a : Fin 1024) : EReal := ∑ e : Fin 128, w (ix2 a e) * o (ix2 a e)

/-- The greatest entry of row `a`. -/
def rowMax (l : (⟨2, ![1024, 128]⟩ : Shape).Idx → EReal) (a : Fin 1024) : EReal :=
  Finset.fold max ⊥ (fun e : Fin 128 => l (ix2 a e)) Finset.univ

variable (q k : Vec Ideal S1024x256 .bf16) (v : Vec Ideal S1024x128 .bf16) (w o l : Vec Ideal S1024x128 .f32)
  (a x : Fin 1024)

set_option maxRecDepth 16384 in
theorem k1_pay2_at : k1_pay2 w o (ix2 a 0) = rowDot w o a := by
  pointwise [k1_pay2]
  rfl

set_option maxRecDepth 16384 in
theorem k1_pay3_at : k1_pay3 l (ix2 a 0) = rowMax l a := by
  pointwise [k1_pay3]
  rw [ofBits_neg_inf]
  rfl

set_option maxRecDepth 16384 in
theorem k1_pay5_at (acc : FVec Ideal S1024x256 .f32) (d : Fin 256) : k1_pay5 q w o l acc k v (ix2 a d)
    = acc (ix2 a d) + ∑ x : Fin 1024, Ideal.exp (raw q k a x - rowMax l a) * (rawV w v a x - rowDot w o a)
        * Ideal.ofBits .f32 1033096506#32 * k (ix2 x d) := by
  pointwise [k1_pay5]
  simp only [k1_pay2_at, k1_pay3_at]
  rfl

set_option maxRecDepth 16384 in
theorem k1_pay7_at : k1_pay7 q k (ix2 a x) = raw q k a x := by
  pointwise [k1_pay7]
  rfl

set_option maxRecDepth 16384 in
theorem k1_pay1_at (m : FVec Ideal S1024x1 .f32) (t : FVec Ideal S1024x1 .f32) (acc : FVec Ideal S1024x256 .f32)
    (s : FVec Ideal S1024x1024 .f32) (d : Fin 256) :
    k1_pay1 w t m acc k v s (iota .tc S1024x1024 32 [0] iota_S1024x1024_d0_w32) (ix2 a d)
      = acc (ix2 a d) + ∑ x : Fin 1024, Ideal.exp ((if x.val ≤ a.val then s (ix2 a x) else ⊥) - m (ix2 a 0)) * (rawV w v a x - t (ix2 a 0))
        * Ideal.ofBits .f32 1033096506#32 * k (ix2 x d) := by
  pointwise [k1_pay1]
  simp only [select_mask]
  rfl

set_option maxRecDepth 16384 in
theorem k2_pay3_at : k2_pay3 k q l (ix2 a x) = Ideal.exp (raw q k a x - rowMax l a) := by
  pointwise [k2_pay3]
  rw [ofBits_neg_inf]
  rfl

set_option maxRecDepth 16384 in
theorem k2_pay4_at (acc : FVec Ideal S1024x256 .f32) (d : Fin 256) : k2_pay4 k v acc q w o l (ix2 x d)
    = acc (ix2 x d) + ∑ a : Fin 1024, Ideal.exp (raw q k a x - rowMax l a) * (rawV w v a x - rowDot w o a)
        * Ideal.ofBits .f32 1033096506#32 * q (ix2 a d) := by
  pointwise [k2_pay4]
  simp only [k2_pay3_at]
  rfl

set_option maxRecDepth 16384 in
theorem k2_pay5_at (acc : FVec Ideal S1024x128 .f32) (d : Fin 128) : k2_pay5 k acc q w l (ix2 x d)
    = acc (ix2 x d) + ∑ a : Fin 1024, Ideal.exp (raw q k a x - rowMax l a) * w (ix2 a d) := by
  pointwise [k2_pay5]
  simp only [k2_pay3_at]

set_option maxRecDepth 16384 in
theorem k2_pay11_at : k2_pay11 w o (ix2 a 0) = rowDot w o a := by
  pointwise [k2_pay11]
  rfl

set_option maxRecDepth 16384 in
theorem k2_pay12_at : k2_pay12 k q l (ix2 a x) = Ideal.exp ((if x.val ≤ a.val then raw q k a x else ⊥) - rowMax l a) := by
  pointwise [k2_pay12]
  rw [select_mask, ofBits_neg_inf]
  rfl

set_option maxRecDepth 16384 in
theorem k2_pay13_at : k2_pay13 v w (ix2 a x) = rawV w v a x := by
  pointwise [k2_pay13]
  rfl

set_option maxRecDepth 16384 in
theorem k2_pay1_at (t : FVec Ideal S1024x1 .f32) (p dp : FVec Ideal S1024x1024 .f32) (acc : FVec Ideal S1024x256 .f32) (d : Fin 256) :
    k2_pay1 acc q t p dp (ix2 x d)
      = acc (ix2 x d) + ∑ a : Fin 1024, p (ix2 a x) * (dp (ix2 a x) - t (ix2 a 0)) * Ideal.ofBits .f32 1033096506#32 * q (ix2 a d) := by
  pointwise [k2_pay1]

set_option maxRecDepth 16384 in
theorem k2_pay2_at (p : FVec Ideal S1024x1024 .f32) (acc : FVec Ideal S1024x128 .f32) (d : Fin 128) :
    k2_pay2 acc w p (ix2 x d) = acc (ix2 x d) + ∑ a : Fin 1024, p (ix2 a x) * w (ix2 a d) := by
  pointwise [k2_pay2]

end Cert.Attn
-- ==== Proof.Bwd.lean ====
/- The two backward calls: a block of queries against the keys up to the diagonal, and a block of keys against the
   queries from the diagonal on. -/
module

public import proofs.«01_k».proof.Proof.BwdPay

@[expose] public section

noncomputable section

namespace Cert.Attn

open Idealize.ShloMosaic Idealize.SL.Sem Cert.KernelIdeal Cert.KernelIdeal.Gen
open scoped BigOperators

theorem trips1 : ∀ i : grid1.Coords, (k1_t1_loop i).trips = (i 1).val ∧ (k1_t2_loop i).trips = 0 := by decide +kernel
theorem off1 : ∀ (i : grid1.Coords) (k : Fin (k1_t1_loop i).trips),
    k1_off1 i k = ![1024 * k.val, 0] ∧ k1_off2 i k = ![1024 * k.val, 0] := by decide +kernel
theorem offD1 : ∀ i : grid1.Coords, k1_off5 i = ![1024 * (i 1).val, 0] ∧ k1_off6 i = ![1024 * (i 1).val, 0] := by decide +kernel
theorem trips2 : ∀ i : grid2.Coords, (k2_t1_loop i).trips = 3 - (i 1).val ∧ (k2_t2_loop i).trips = 0 := by decide +kernel
theorem off2 : ∀ (i : grid2.Coords) (k : Fin (k2_t1_loop i).trips),
    k2_off3 i k = ![1024 * ((i 1).val + 1 + k.val), 0] ∧ k2_off4 i k = ![1024 * ((i 1).val + 1 + k.val), 0] := by decide +kernel
theorem offD2 : ∀ i : grid2.Coords, k2_off1 i = ![1024 * (i 1).val, 0] ∧ k2_off2 i = ![1024 * (i 1).val, 0] := by decide +kernel

/-! ## One tile of weights and of score gradients -/

theorem rowMax_eq {l : Vec Ideal S1024x128 .f32} {g : ℕ → ℝ} (hl : Tile l (fun a _ => g a)) (a : Fin 1024) :
    rowMax l a = ((g a : ℝ) : EReal) := by
  unfold rowMax
  rw [show (fun e : Fin 128 => l (ix2 a e)) = fun _ => ((g a : ℝ) : EReal) from funext fun e => hl a e]
  exact fold_max_const (by norm_num) _

section TileStep
variable {q k v w : ℕ → ℕ → ℝ} {R C : ℕ} {qb kb : Vec Ideal S1024x256 .bf16} {vb : Vec Ideal S1024x128 .bf16}
  {wb ob lb : Vec Ideal S1024x128 .f32}
  (hq : Tile qb (fun a b => q (R + a) b)) (hk : Tile kb (fun a b => k (C + a) b)) (hv : Tile vb (fun a b => v (C + a) b))
  (hw : Tile wb (fun a b => w (R + a) b)) (ho : Tile ob (fun a b => outA q k v (R + a) b))
  (hl : Tile lb (fun a _ => Real.log (total q k (R + a)))) (hR : R + 1024 ≤ 4096)

include hq hk hl hR in
/-- A weight on the diagonal block. -/
theorem weight_diag (hRC : R = C) (a x : Fin 1024) :
    Ideal.exp ((if x.val ≤ a.val then raw qb kb a x else ⊥) - rowMax lb a) = ((prob q k (R + a) (C + x) : ℝ) : EReal) := by
  rw [rowMax_eq (g := fun a => Real.log (total q k (R + a))) hl, ← exp_sub_log q k (by omega), masked]
  refine congrArg (fun z => Ideal.exp (z - _)) (if_congr (by omega) (raw_eq hq hk a x) rfl)

include hq hk hl hR in
/-- A weight on a block before the diagonal. -/
theorem weight_full (hRC : C + 1024 ≤ R) (a x : Fin 1024) :
    Ideal.exp (raw qb kb a x - rowMax lb a) = ((prob q k (R + a) (C + x) : ℝ) : EReal) := by
  rw [rowMax_eq (g := fun a => Real.log (total q k (R + a))) hl, ← exp_sub_log q k (by omega), masked, if_pos (by omega)]
  rw [raw_eq hq hk a x]

include hv hw ho in
/-- From a weight, the gradient of its score. -/
theorem dscore_tile {p : EReal} (a x : Fin 1024) (hp : p = ((prob q k (R + a) (C + x) : ℝ) : EReal)) :
    p * (rawV wb vb a x - rowDot wb ob a) * Ideal.ofBits .f32 1033096506#32 = ((dscore q k v w (R + a) (C + x) : ℝ) : EReal) := by
  rw [hp, ofBits_sc]
  unfold rawV rowDot dscore dprob delta
  simp only [hw a, hv x, ho a, ← EReal.coe_mul, coe_sum, ← EReal.coe_sub]

end TileStep

/-! ## The gradient of the queries -/

section Block1
variable (c : Dev nD) (i : grid1.Coords)
  (arg2 : Memref sig .tc .vmem S1024x256 .bf16) (harg2 : arg2.IsWhole) (arg3 : Memref sig .tc .vmem S4096x256 .bf16) (harg3 : arg3.IsWhole)
  (arg4 : Memref sig .tc .vmem S4096x128 .bf16) (harg4 : arg4.IsWhole) (arg5 : Memref sig .tc .vmem S1024x128 .f32) (harg5 : arg5.IsWhole)
  (arg6 : Memref sig .tc .vmem S1024x128 .f32) (harg6 : arg6.IsWhole) (arg7 : Memref sig .tc .vmem S1024x128 .f32) (harg7 : arg7.IsWhole)
  (arg8 : Memref sig .tc .vmem S1024x256 .f32) (harg8 : arg8.IsWhole)
  (x0 : Vec Ideal S1024x256 .bf16) (x1 : Vec Ideal S4096x256 .bf16) (x2 : Vec Ideal S4096x128 .bf16)
  (x3 x4 x5 : Vec Ideal S1024x128 .f32)

/-- The running gradient before block `n` of the keys. -/
def state1 (n : ℕ) : FVec Ideal S1024x256 .f32 :=
  st_k1_t1 Variants.none c none i arg2 harg2 arg3 harg3 arg4 harg4 arg5 harg5 arg6 harg6 arg7 harg7 arg8 harg8 x0 x5 x3 x4
    (harg3.unread x1) (harg4.unread x2) k1_pay4 n

theorem state1_succ (k : Fin (k1_t1_loop i).trips) :
    state1 c i arg2 harg2 arg3 harg3 arg4 harg4 arg5 harg5 arg6 harg6 arg7 harg7 arg8 harg8 x0 x1 x2 x3 x4 x5 (k.val + 1)
    = k1_pay5 x0 x5 x3 x4 (state1 c i arg2 harg2 arg3 harg3 arg4 harg4 arg5 harg5 arg6 harg6 arg7 harg7 arg8 harg8 x0 x1 x2 x3 x4 x5 k.val)
        (View.ld x1 (Rect.unit (k1_off1 i k) S1024x256.size (k1_off1_inb i k)))
        (View.ld x2 (Rect.unit (k1_off2 i k) S1024x128.size (k1_off2_inb i k))) := by
  refine (st_k1_t1_succ Variants.none c none i arg2 harg2 arg3 harg3 arg4 harg4 arg5 harg5 arg6 harg6 arg7 harg7 arg8 harg8 x0 x5 x3 x4
    (harg3.unread x1) (harg4.unread x2) k1_pay4 k).trans ?_
  unfold tripR_k1_t1 trip_k1_t1
  dsimp only
  simp only [View.readAt_eq_ld, harg3.read_unread, harg4.read_unread]
  rfl

variable {q k v w : ℕ → ℕ → ℝ} (hq : Tile x0 (fun a b => q (1024 * (i 1).val + a) b)) (hk : Tile x1 k) (hv : Tile x2 v)
  (ho : Tile x3 (fun a b => outA q k v (1024 * (i 1).val + a) b))
  (hl : Tile x4 (fun a _ => Real.log (total q k (1024 * (i 1).val + a))))
  (hw : Tile x5 (fun a b => w (1024 * (i 1).val + a) b))

include hq hk hv ho hl hw in
theorem state1_eq (a : Fin 1024) (d : Fin 256) (n : ℕ) (hn : n ≤ (i 1).val) :
    state1 c i arg2 harg2 arg3 harg3 arg4 harg4 arg5 harg5 arg6 harg6 arg7 harg7 arg8 harg8 x0 x1 x2 x3 x4 x5 n (ix2 a d)
      = ((∑ c ∈ Finset.range (1024 * n), dscore q k v w (1024 * (i 1).val + a) c * k c d : ℝ) : EReal) := by
  have hi : (i 1).val < 4 := (i 1).isLt
  induction n with
  | zero => exact Ideal.ofBits_zero_f32.trans (by simp)
  | succ n ih =>
    have hlt : n < (k1_t1_loop i).trips := by rw [(trips1 i).1]; omega
    have hkb := hk.ld_bf16 (off1 i ⟨n, hlt⟩).1 (k1_off1_inb i ⟨n, hlt⟩)
    have hvb := hv.ld_bf16 (off1 i ⟨n, hlt⟩).2 (k1_off2_inb i ⟨n, hlt⟩)
    rw [state1_succ c i arg2 harg2 arg3 harg3 arg4 harg4 arg5 harg5 arg6 harg6 arg7 harg7 arg8 harg8 x0 x1 x2 x3 x4 x5 ⟨n, hlt⟩,
      k1_pay5_at, ih (by omega), sum_range_block, EReal.coe_add]
    refine congrArg _ ((Finset.sum_congr rfl fun x _ => ?_).trans (coe_sum _ _))
    rw [dscore_tile hvb hw ho a x (weight_full hq hkb hl (by omega) (by dsimp only; omega) a x), EReal.coe_mul]
    exact congrArg _ (hkb x d)

/-- The loop over the rest of the blocks makes no trip. -/
theorem rest1 (s : FVec Ideal S1024x256 .f32) :
    st_k1_t2 Variants.none c none i arg2 harg2 arg3 harg3 arg4 harg4 arg5 harg5 arg6 harg6 arg7 harg7 arg8 harg8 x0 x5 x3 x4
      (harg3.unread x1) (harg4.unread x2) s (k1_t2_loop i).trips = s := by
  rw [(trips1 i).2]; rfl

theorem out1_eq : out1_A_6 c i arg2 harg2 arg3 harg3 arg4 harg4 arg5 harg5 arg6 harg6 arg7 harg7 arg8 harg8 x0 x1 x2 x3 x4 x5
    = k1_pay1 x5 (k1_pay2 x5 x3) (k1_pay3 x4)
      (state1 c i arg2 harg2 arg3 harg3 arg4 harg4 arg5 harg5 arg6 harg6 arg7 harg7 arg8 harg8 x0 x1 x2 x3 x4 x5 (k1_t1_loop i).trips)
      (View.ld x1 (Rect.unit (k1_off5 i) S1024x256.size (k1_off5_inb i))) (View.ld x2 (Rect.unit (k1_off6 i) S1024x128.size (k1_off6_inb i)))
      (k1_pay7 x0 (View.ld x1 (Rect.unit (k1_off5 i) S1024x256.size (k1_off5_inb i)))) (iota .tc S1024x1024 32 [0] iota_S1024x1024_d0_w32) := by
  have h := rest1 c i arg2 harg2 arg3 harg3 arg4 harg4 arg5 harg5 arg6 harg6 arg7 harg7 arg8 harg8 x0 x1 x2 x3 x4 x5
    (state1 c i arg2 harg2 arg3 harg3 arg4 harg4 arg5 harg5 arg6 harg6 arg7 harg7 arg8 harg8 x0 x1 x2 x3 x4 x5 (k1_t1_loop i).trips)
  unfold state1 at h ⊢
  frame_out
  exact congrArg (fun s => k1_pay1 x5 (k1_pay2 x5 x3) (k1_pay3 x4) s
      (View.ld x1 (Rect.unit (k1_off5 i) S1024x256.size (k1_off5_inb i))) (View.ld x2 (Rect.unit (k1_off6 i) S1024x128.size (k1_off6_inb i)))
      (k1_pay7 x0 (View.ld x1 (Rect.unit (k1_off5 i) S1024x256.size (k1_off5_inb i)))) (iota .tc S1024x1024 32 [0] iota_S1024x1024_d0_w32)) h

include hq hk hv ho hl hw in
/-- The block of the queries' gradient. -/
theorem block1 (a : Fin 1024) (d : Fin 256) :
    out1_A_6 c i arg2 harg2 arg3 harg3 arg4 harg4 arg5 harg5 arg6 harg6 arg7 harg7 arg8 harg8 x0 x1 x2 x3 x4 x5 (ix2 a d)
      = ((gradQ q k v w (1024 * (i 1).val + a) d : ℝ) : EReal) := by
  have hi : (i 1).val < 4 := (i 1).isLt
  have hkb := hk.ld_bf16 (offD1 i).1 (k1_off5_inb i)
  have hvb := hv.ld_bf16 (offD1 i).2 (k1_off6_inb i)
  rw [out1_eq, k1_pay1_at, (trips1 i).1, state1_eq c i arg2 harg2 arg3 harg3 arg4 harg4 arg5 harg5 arg6 harg6 arg7 harg7 arg8 harg8 x0 x1 x2 x3 x4 x5 hq hk hv ho hl hw a d _ le_rfl]
  have e := sum_range_le (f := fun c => dscore q k v w (1024 * (i 1).val + a) c * k c d) (n := 1024 * ((i 1).val + 1)) (N := 4096)
    (by omega) fun c hc => by rw [dscore_of_lt q k v w (by omega), zero_mul]
  unfold gradQ
  rw [← e, sum_range_block, EReal.coe_add]
  refine congrArg _ ((Finset.sum_congr rfl fun x _ => ?_).trans (coe_sum _ _))
  rw [k1_pay7_at, k1_pay2_at, k1_pay3_at,
    dscore_tile hvb hw ho a x (weight_diag hq hkb hl (by omega) rfl a x), EReal.coe_mul]
  exact congrArg _ (hkb x d)

end Block1

/-! ## The gradients of the keys and of the values -/

section Block2
variable (c : Dev nD) (i : grid2.Coords)
  (arg2 : Memref sig .tc .vmem S4096x256 .bf16) (harg2 : arg2.IsWhole) (arg3 : Memref sig .tc .vmem S1024x256 .bf16) (harg3 : arg3.IsWhole)
  (arg4 : Memref sig .tc .vmem S1024x128 .bf16) (harg4 : arg4.IsWhole) (arg5 : Memref sig .tc .vmem S4096x128 .f32) (harg5 : arg5.IsWhole)
  (arg6 : Memref sig .tc .vmem S4096x128 .f32) (harg6 : arg6.IsWhole) (arg7 : Memref sig .tc .vmem S4096x128 .f32) (harg7 : arg7.IsWhole)
  (arg8 : Memref sig .tc .vmem S1024x256 .f32) (harg8 : arg8.IsWhole) (arg9 : Memref sig .tc .vmem S1024x128 .f32) (harg9 : arg9.IsWhole)
  (x0 : Vec Ideal S4096x256 .bf16) (x1 : Vec Ideal S1024x256 .bf16) (x2 : Vec Ideal S1024x128 .bf16)
  (x3 x4 x5 : Vec Ideal S4096x128 .f32)

/-- The diagonal block's queries, and its rows of an array of 128 columns. -/
abbrev rowsQ : Vec Ideal S1024x256 .bf16 := View.ld x0 (Rect.unit (k2_off1 i) S1024x256.size (k2_off1_inb i))
abbrev rowsD (x : Vec Ideal S4096x128 .f32) : Vec Ideal S1024x128 .f32 := View.ld x (Rect.unit (k2_off2 i) S1024x128.size (k2_off2_inb i))

/-- The running gradients before the block `n` after the diagonal. -/
def state2 (n : ℕ) : FVec Ideal S1024x256 .f32 × FVec Ideal S1024x128 .f32 :=
  st_k2_t1 Variants.none c none i arg2 harg2 arg3 harg3 arg4 harg4 arg5 harg5 arg6 harg6 arg7 harg7 arg8 harg8 arg9 harg9 x1 x2
    (harg2.unread x0) (harg5.unread x3) (harg6.unread x4) (harg7.unread x5)
    (k2_pay1 k2_pay9 (rowsQ i x0) (k2_pay11 (rowsD i x5) (rowsD i x3)) (k2_pay12 x1 (rowsQ i x0) (rowsD i x4)) (k2_pay13 x2 (rowsD i x5)),
      k2_pay2 k2_pay10 (rowsD i x5) (k2_pay12 x1 (rowsQ i x0) (rowsD i x4))) n

theorem state2_succ (k : Fin (k2_t1_loop i).trips) :
    state2 c i arg2 harg2 arg3 harg3 arg4 harg4 arg5 harg5 arg6 harg6 arg7 harg7 arg8 harg8 arg9 harg9 x0 x1 x2 x3 x4 x5 (k.val + 1)
    = (k2_pay4 x1 x2 (state2 c i arg2 harg2 arg3 harg3 arg4 harg4 arg5 harg5 arg6 harg6 arg7 harg7 arg8 harg8 arg9 harg9 x0 x1 x2 x3 x4 x5 k.val).1
        (View.ld x0 (Rect.unit (k2_off3 i k) S1024x256.size (k2_off3_inb i k)))
        (View.ld x5 (Rect.unit (k2_off4 i k) S1024x128.size (k2_off4_inb i k)))
        (View.ld x3 (Rect.unit (k2_off4 i k) S1024x128.size (k2_off4_inb i k)))
        (View.ld x4 (Rect.unit (k2_off4 i k) S1024x128.size (k2_off4_inb i k))),
      k2_pay5 x1 (state2 c i arg2 harg2 arg3 harg3 arg4 harg4 arg5 harg5 arg6 harg6 arg7 harg7 arg8 harg8 arg9 harg9 x0 x1 x2 x3 x4 x5 k.val).2
        (View.ld x0 (Rect.unit (k2_off3 i k) S1024x256.size (k2_off3_inb i k)))
        (View.ld x5 (Rect.unit (k2_off4 i k) S1024x128.size (k2_off4_inb i k)))
        (View.ld x4 (Rect.unit (k2_off4 i k) S1024x128.size (k2_off4_inb i k)))) := by
  refine (st_k2_t1_succ Variants.none c none i arg2 harg2 arg3 harg3 arg4 harg4 arg5 harg5 arg6 harg6 arg7 harg7 arg8 harg8 arg9 harg9 x1 x2
    (harg2.unread x0) (harg5.unread x3) (harg6.unread x4) (harg7.unread x5) _ k).trans ?_
  unfold tripR_k2_t1 trip_k2_t1
  dsimp only
  simp only [View.readAt_eq_ld, harg2.read_unread, harg5.read_unread, harg6.read_unread, harg7.read_unread]
  rfl

variable {q k v w : ℕ → ℕ → ℝ} (hq : Tile x0 q) (hk : Tile x1 (fun a b => k (1024 * (i 1).val + a) b))
  (hv : Tile x2 (fun a b => v (1024 * (i 1).val + a) b)) (ho : Tile x3 (outA q k v))
  (hl : Tile x4 (fun a _ => Real.log (total q k a))) (hw : Tile x5 w)

include hq hk hv ho hl hw in
theorem state2_eq (x : Fin 1024) (n : ℕ) (hn : n ≤ 3 - (i 1).val) :
    (∀ d : Fin 256, (state2 c i arg2 harg2 arg3 harg3 arg4 harg4 arg5 harg5 arg6 harg6 arg7 harg7 arg8 harg8 arg9 harg9 x0 x1 x2 x3 x4 x5 n).1 (ix2 x d)
      = ((∑ r ∈ Finset.range (1024 * ((i 1).val + 1 + n)), dscore q k v w r (1024 * (i 1).val + x) * q r d : ℝ) : EReal))
    ∧ ∀ d : Fin 128, (state2 c i arg2 harg2 arg3 harg3 arg4 harg4 arg5 harg5 arg6 harg6 arg7 harg7 arg8 harg8 arg9 harg9 x0 x1 x2 x3 x4 x5 n).2 (ix2 x d)
      = ((∑ r ∈ Finset.range (1024 * ((i 1).val + 1 + n)), prob q k r (1024 * (i 1).val + x) * w r d : ℝ) : EReal) := by
  have hi : (i 1).val < 4 := (i 1).isLt
  induction n with
  | zero =>
    have hqb := hq.ld_bf16 (offD2 i).1 (k2_off1_inb i)
    have hob := ho.ld_f32 (offD2 i).2 (k2_off2_inb i)
    have hlb := hl.ld_f32 (offD2 i).2 (k2_off2_inb i)
    have hwb := hw.ld_f32 (offD2 i).2 (k2_off2_inb i)
    have hp := fun a => weight_diag hqb hk hlb (by omega) rfl a x
    refine ⟨fun d => ?_, fun d => ?_⟩
    · refine (k2_pay1_at _ x _ _ _ _ d).trans ?_
      rw [show k2_pay9 (F := Ideal) (ix2 x d) = 0 from Ideal.ofBits_zero_f32, zero_add, add_zero, sum_range_block,
        show ∑ r ∈ Finset.range (1024 * (i 1).val), dscore q k v w r (1024 * (i 1).val + x) * q r d = 0 from
          Finset.sum_eq_zero fun r hr => by
            rw [Finset.mem_range] at hr
            rw [dscore_of_lt q k v w (by omega), zero_mul], zero_add, ← coe_sum]
      refine Finset.sum_congr rfl fun a _ => ?_
      rw [k2_pay12_at, k2_pay13_at, k2_pay11_at, dscore_tile hv hwb hob a x (hp a), EReal.coe_mul]
      exact congrArg _ (hqb a d)
    · refine (k2_pay2_at _ x _ _ d).trans ?_
      rw [show k2_pay10 (F := Ideal) (ix2 x d) = 0 from Ideal.ofBits_zero_f32, zero_add, add_zero, sum_range_block,
        show ∑ r ∈ Finset.range (1024 * (i 1).val), prob q k r (1024 * (i 1).val + x) * w r d = 0 from
          Finset.sum_eq_zero fun r hr => by
            rw [Finset.mem_range] at hr
            rw [prob_of_lt q k (by omega), zero_mul], zero_add, ← coe_sum]
      refine Finset.sum_congr rfl fun a _ => ?_
      rw [k2_pay12_at, hp a, EReal.coe_mul]
      exact congrArg _ (hwb a d)
  | succ n ih =>
    have hlt : n < (k2_t1_loop i).trips := by rw [(trips2 i).1]; omega
    obtain ⟨ih1, ih2⟩ := ih (by omega)
    have hqb := hq.ld_bf16 (off2 i ⟨n, hlt⟩).1 (k2_off3_inb i ⟨n, hlt⟩)
    have hob := ho.ld_f32 (off2 i ⟨n, hlt⟩).2 (k2_off4_inb i ⟨n, hlt⟩)
    have hlb := hl.ld_f32 (off2 i ⟨n, hlt⟩).2 (k2_off4_inb i ⟨n, hlt⟩)
    have hwb := hw.ld_f32 (off2 i ⟨n, hlt⟩).2 (k2_off4_inb i ⟨n, hlt⟩)
    have hp := fun a => weight_full hqb hk hlb (by dsimp only; omega) (by dsimp only; omega) a x
    rw [state2_succ c i arg2 harg2 arg3 harg3 arg4 harg4 arg5 harg5 arg6 harg6 arg7 harg7 arg8 harg8 arg9 harg9 x0 x1 x2 x3 x4 x5 ⟨n, hlt⟩]
    refine ⟨fun d => ?_, fun d => ?_⟩
    · refine (k2_pay4_at _ _ _ _ _ _ x _ d).trans ?_
      rw [ih1 d, show (i 1).val + 1 + (n + 1) = (i 1).val + 1 + n + 1 from rfl, sum_range_block, EReal.coe_add]
      refine congrArg _ ((Finset.sum_congr rfl fun a _ => ?_).trans (coe_sum _ _))
      rw [dscore_tile hv hwb hob a x (hp a), EReal.coe_mul]
      exact congrArg _ (hqb a d)
    · refine (k2_pay5_at _ _ _ _ x _ d).trans ?_
      rw [ih2 d, show (i 1).val + 1 + (n + 1) = (i 1).val + 1 + n + 1 from rfl, sum_range_block, EReal.coe_add]
      refine congrArg _ ((Finset.sum_congr rfl fun a _ => ?_).trans (coe_sum _ _))
      rw [hp a, EReal.coe_mul]
      exact congrArg _ (hwb a d)

/-- The loop over the rest of the blocks makes no trip. -/
theorem rest2 (s : FVec Ideal S1024x256 .f32 × FVec Ideal S1024x128 .f32) :
    st_k2_t2 Variants.none c none i arg2 harg2 arg3 harg3 arg4 harg4 arg5 harg5 arg6 harg6 arg7 harg7 arg8 harg8 arg9 harg9 x1 x2
      (harg2.unread x0) (harg5.unread x3) (harg6.unread x4) (harg7.unread x5) (s.1, s.2) (k2_t2_loop i).trips = s := by
  rw [(trips2 i).2]; rfl

theorem out2_eq :
    out2_A_6 c i arg2 harg2 arg3 harg3 arg4 harg4 arg5 harg5 arg6 harg6 arg7 harg7 arg8 harg8 arg9 harg9 x0 x1 x2 x3 x4 x5
      = (state2 c i arg2 harg2 arg3 harg3 arg4 harg4 arg5 harg5 arg6 harg6 arg7 harg7 arg8 harg8 arg9 harg9 x0 x1 x2 x3 x4 x5 (k2_t1_loop i).trips).1
    ∧ out2_A_7 c i arg2 harg2 arg3 harg3 arg4 harg4 arg5 harg5 arg6 harg6 arg7 harg7 arg8 harg8 arg9 harg9 x0 x1 x2 x3 x4 x5
      = (state2 c i arg2 harg2 arg3 harg3 arg4 harg4 arg5 harg5 arg6 harg6 arg7 harg7 arg8 harg8 arg9 harg9 x0 x1 x2 x3 x4 x5 (k2_t1_loop i).trips).2 := by
  have h := rest2 c i arg2 harg2 arg3 harg3 arg4 harg4 arg5 harg5 arg6 harg6 arg7 harg7 arg8 harg8 arg9 harg9 x0 x1 x2 x3 x4 x5
    (state2 c i arg2 harg2 arg3 harg3 arg4 harg4 arg5 harg5 arg6 harg6 arg7 harg7 arg8 harg8 arg9 harg9 x0 x1 x2 x3 x4 x5 (k2_t1_loop i).trips)
  unfold state2 at h ⊢
  refine ⟨?_, ?_⟩
  · frame_out
    exact congrArg Prod.fst h
  · frame_out
    exact congrArg Prod.snd h

include hq hk hv ho hl hw in
/-- The blocks of the keys' and of the values' gradients. -/
theorem block2 (x : Fin 1024) :
    (∀ d : Fin 256, out2_A_6 c i arg2 harg2 arg3 harg3 arg4 harg4 arg5 harg5 arg6 harg6 arg7 harg7 arg8 harg8 arg9 harg9 x0 x1 x2 x3 x4 x5 (ix2 x d)
      = ((gradK q k v w (1024 * (i 1).val + x) d : ℝ) : EReal))
    ∧ ∀ d : Fin 128, out2_A_7 c i arg2 harg2 arg3 harg3 arg4 harg4 arg5 harg5 arg6 harg6 arg7 harg7 arg8 harg8 arg9 harg9 x0 x1 x2 x3 x4 x5 (ix2 x d)
      = ((gradV q k w (1024 * (i 1).val + x) d : ℝ) : EReal) := by
  have hi : (i 1).val < 4 := (i 1).isLt
  have h := state2_eq c i arg2 harg2 arg3 harg3 arg4 harg4 arg5 harg5 arg6 harg6 arg7 harg7 arg8 harg8 arg9 harg9 x0 x1 x2 x3 x4 x5 hq hk hv ho hl hw x _ le_rfl
  rw [show 1024 * ((i 1).val + 1 + (3 - (i 1).val)) = 4096 by omega] at h
  obtain ⟨e6, e7⟩ := out2_eq c i arg2 harg2 arg3 harg3 arg4 harg4 arg5 harg5 arg6 harg6 arg7 harg7 arg8 harg8 arg9 harg9 x0 x1 x2 x3 x4 x5
  rw [e6, e7, (trips2 i).1]
  exact h

end Block2

end Cert.Attn
-- ==== Proof.Run.lean ====
/- What the three calls leave: the run of the whole program, with the four result arrays after it. -/
module

public import proofs.«01_k».proof.Proof.Gen.KernelIdeal.Frame
public import Idealize.ShloMosaic.Lib.Pipeline.ValueKit

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable (m : (l : Loc nD τ sig) → Buf (Elt Ideal) l) (ρ : Dev nD → PrngReg)

set_option backward.isDefEq.respectTransparency.types false in
/-- Every run ends with the buffers at the contents folded through the three calls. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- The result arrays after the run, and the arguments as they were. -/
theorem results : θ_run defs (onTc (τ := τ) (main (F := Ideal))) ⟨m, fun _ => 0, ρ⟩ (fun r => ∀ c : Dev nD,
      r.2.mem ((c.tc : Thread nD τ).loc main_v0_0) = W1 m ρ c (Proc.devRef .tc main_v0_0)
      ∧ r.2.mem ((c.tc : Thread nD τ).loc main_v1) = W2 m ρ c (Proc.devRef .tc main_v1)
      ∧ r.2.mem ((c.tc : Thread nD τ).loc main_v2_0) = W3 m ρ c (Proc.devRef .tc main_v2_0)
      ∧ r.2.mem ((c.tc : Thread nD τ).loc main_v2_1) = W3 m ρ c (Proc.devRef .tc main_v2_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v0_0 (by decide))).trans
        ((W3_of m ρ c main_v0_0 (by decide +kernel)).trans (W2_of m ρ c main_v0_0 (by decide +kernel))),
     (h c _ (mem_uc main_v1 (by decide))).trans (W3_of m ρ c main_v1 (by decide +kernel)),
     h c _ (mem_uc main_v2_0 (by decide)),
     h c _ (mem_uc main_v2_1 (by decide)),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run m ρ)

end Cert.Attn
-- ==== Proof.Arrays.lean ====
/- The arrays the three calls leave, an element at a time. -/
module

public import proofs.«01_k».proof.Proof.Fwd
public import proofs.«01_k».proof.Proof.Bwd
public import proofs.«01_k».proof.Proof.Run

@[expose] public section

set_option maxRecDepth 16384

noncomputable section

namespace Cert.Attn

open Idealize.ShloMosaic Idealize.ShloMosaic.TcCoe Idealize.SL.Sem Cert.KernelIdeal Cert.KernelIdeal.Gen

/-- The columns of head `h` in an array of heads of `n` columns. -/
def head (n : ℕ) (X : ℕ → ℕ → ℝ) (h : ℕ) : ℕ → ℕ → ℝ := fun r e => X r (n * h + e)

/-- An array assembled of the heads' columns. -/
def heads (n : ℕ) (f : ℕ → ℕ → ℕ → ℝ) : ℕ → ℕ → ℝ := fun r x => f (x / n) r (x % n)

theorem head_heads {n : ℕ} (f : ℕ → ℕ → ℕ → ℝ) (h r e : ℕ) (he : e < n) : head n (heads n f) h r e = f h r e := by
  have hn : 0 < n := by omega
  unfold head heads
  rw [Nat.mul_add_div hn, Nat.div_eq_of_lt he, Nat.mul_add_mod, Nat.mod_eq_of_lt he, add_zero]

/-- A matrix of real numbers, at any index. -/
theorem Tile.at {M N : ℕ} {A : (⟨2, ![M, N]⟩ : Shape).Idx → EReal} {f : ℕ → ℕ → ℝ} (h : Tile A f) (j : (⟨2, ![M, N]⟩ : Shape).Idx) :
    A j = ((f (j 0).val (j 1).val : ℝ) : EReal) := by
  conv_lhs => rw [show j = ix2 (j 0) (j 1) from funext fun z => by match z with | 0 => rfl | 1 => rfl]
  exact h _ _

/-- … and from what it is at any index. -/
theorem Tile.of {M N : ℕ} {A : (⟨2, ![M, N]⟩ : Shape).Idx → EReal} {f : ℕ → ℕ → ℝ} (h : A = fun j => ((f (j 0).val (j 1).val : ℝ) : EReal)) :
    Tile A f := fun a b => congrFun h (ix2 a b)

theorem at0_0 : ∀ t : Fin grid0.N, win0_0.index t = ![(grid0.coords t 1).val, (grid0.coords t 0).val] := by decide +kernel
theorem at0_1 : ∀ t : Fin grid0.N, win0_1.index t = ![0, (grid0.coords t 0).val] := by decide +kernel
theorem at0_2 : ∀ t : Fin grid0.N, win0_2.index t = ![0, (grid0.coords t 0).val] := by decide +kernel
theorem at0_3 : ∀ t : Fin grid0.N, win0_3.index t = ![(grid0.coords t 1).val, (grid0.coords t 0).val] := by decide +kernel
theorem at0_4 : ∀ t : Fin grid0.N, win0_4.index t = ![(grid0.coords t 1).val, (grid0.coords t 0).val] := by decide +kernel
theorem at1_0 : ∀ t : Fin grid1.N, win1_0.index t = ![(grid1.coords t 1).val, (grid1.coords t 0).val] := by decide +kernel
theorem at1_1 : ∀ t : Fin grid1.N, win1_1.index t = ![0, (grid1.coords t 0).val] := by decide +kernel
theorem at1_2 : ∀ t : Fin grid1.N, win1_2.index t = ![0, (grid1.coords t 0).val] := by decide +kernel
theorem at1_3 : ∀ t : Fin grid1.N, win1_3.index t = ![(grid1.coords t 1).val, (grid1.coords t 0).val] := by decide +kernel
theorem at1_4 : ∀ t : Fin grid1.N, win1_4.index t = ![(grid1.coords t 1).val, (grid1.coords t 0).val] := by decide +kernel
theorem at1_5 : ∀ t : Fin grid1.N, win1_5.index t = ![(grid1.coords t 1).val, (grid1.coords t 0).val] := by decide +kernel
theorem at1_6 : ∀ t : Fin grid1.N, win1_6.index t = ![(grid1.coords t 1).val, (grid1.coords t 0).val] := by decide +kernel
theorem at2_0 : ∀ t : Fin grid2.N, win2_0.index t = ![0, (grid2.coords t 0).val] := by decide +kernel
theorem at2_1 : ∀ t : Fin grid2.N, win2_1.index t = ![(grid2.coords t 1).val, (grid2.coords t 0).val] := by decide +kernel
theorem at2_2 : ∀ t : Fin grid2.N, win2_2.index t = ![(grid2.coords t 1).val, (grid2.coords t 0).val] := by decide +kernel
theorem at2_3 : ∀ t : Fin grid2.N, win2_3.index t = ![0, (grid2.coords t 0).val] := by decide +kernel
theorem at2_4 : ∀ t : Fin grid2.N, win2_4.index t = ![0, (grid2.coords t 0).val] := by decide +kernel
theorem at2_5 : ∀ t : Fin grid2.N, win2_5.index t = ![0, (grid2.coords t 0).val] := by decide +kernel
theorem at2_6 : ∀ t : Fin grid2.N, win2_6.index t = ![(grid2.coords t 1).val, (grid2.coords t 0).val] := by decide +kernel
theorem at2_7 : ∀ t : Fin grid2.N, win2_7.index t = ![(grid2.coords t 1).val, (grid2.coords t 0).val] := by decide +kernel

variable (V : (c : Dev nD) → (b : Ref sig .tc) → Buf (Elt Ideal) ((c : Thread nD τ).loc b)) (c : Dev nD)

/-! ## The blocks of the arguments -/

theorem tile0_0 {X : ℕ → ℕ → ℝ} (h : Tile (V c main_arg0) X) (t : Fin grid0.N) :
    Tile (M := 1024) (N := 256) (iblk0 V c 0 t) (fun a b => head 256 X (grid0.coords t 0).val (1024 * (grid0.coords t 1).val + a) b) := by
  intro a b
  blk_simp [iblk0]
  refine (h.at _).trans ?_
  unfold head
  blk_simp [at0_0 t]
  rw [mul_comm 1024, mul_comm 256]

theorem tile0_1 {X : ℕ → ℕ → ℝ} (h : Tile (V c main_arg1) X) (t : Fin grid0.N) :
    Tile (M := 4096) (N := 256) (iblk0 V c 1 t) (head 256 X (grid0.coords t 0).val) := by
  intro a b
  blk_simp [iblk0]
  refine (h.at _).trans ?_
  unfold head
  blk_simp [at0_1 t]
  rw [mul_comm 256]

theorem tile0_2 {X : ℕ → ℕ → ℝ} (h : Tile (V c main_arg2) X) (t : Fin grid0.N) :
    Tile (M := 4096) (N := 128) (iblk0 V c 2 t) (head 128 X (grid0.coords t 0).val) := by
  intro a b
  blk_simp [iblk0]
  refine (h.at _).trans ?_
  unfold head
  blk_simp [at0_2 t]
  rw [mul_comm 128]

theorem tile1_0 {X : ℕ → ℕ → ℝ} (h : Tile (V c main_arg0) X) (t : Fin grid1.N) :
    Tile (M := 1024) (N := 256) (iblk1 V c 0 t) (fun a b => head 256 X (grid1.coords t 0).val (1024 * (grid1.coords t 1).val + a) b) := by
  intro a b
  blk_simp [iblk1]
  refine (h.at _).trans ?_
  unfold head
  blk_simp [at1_0 t]
  rw [mul_comm 1024, mul_comm 256]

theorem tile1_1 {X : ℕ → ℕ → ℝ} (h : Tile (V c main_arg1) X) (t : Fin grid1.N) :
    Tile (M := 4096) (N := 256) (iblk1 V c 1 t) (head 256 X (grid1.coords t 0).val) := by
  intro a b
  blk_simp [iblk1]
  refine (h.at _).trans ?_
  unfold head
  blk_simp [at1_1 t]
  rw [mul_comm 256]

theorem tile1_2 {X : ℕ → ℕ → ℝ} (h : Tile (V c main_arg2) X) (t : Fin grid1.N) :
    Tile (M := 4096) (N := 128) (iblk1 V c 2 t) (head 128 X (grid1.coords t 0).val) := by
  intro a b
  blk_simp [iblk1]
  refine (h.at _).trans ?_
  unfold head
  blk_simp [at1_2 t]
  rw [mul_comm 128]

theorem tile1_3 {X : ℕ → ℕ → ℝ} (h : Tile (V c main_v0_0) X) (t : Fin grid1.N) :
    Tile (M := 1024) (N := 128) (iblk1 V c 3 t) (fun a b => head 128 X (grid1.coords t 0).val (1024 * (grid1.coords t 1).val + a) b) := by
  intro a b
  blk_simp [iblk1]
  refine (h.at _).trans ?_
  unfold head
  blk_simp [at1_3 t]
  rw [mul_comm 1024, mul_comm 128]

theorem tile1_4 {X : ℕ → ℕ → ℝ} (h : Tile (V c main_v0_1) X) (t : Fin grid1.N) :
    Tile (M := 1024) (N := 128) (iblk1 V c 4 t) (fun a b => head 128 X (grid1.coords t 0).val (1024 * (grid1.coords t 1).val + a) b) := by
  intro a b
  blk_simp [iblk1]
  refine (h.at _).trans ?_
  unfold head
  blk_simp [at1_4 t]
  rw [mul_comm 1024, mul_comm 128]

theorem tile1_5 {X : ℕ → ℕ → ℝ} (h : Tile (V c main_arg3) X) (t : Fin grid1.N) :
    Tile (M := 1024) (N := 128) (iblk1 V c 5 t) (fun a b => head 128 X (grid1.coords t 0).val (1024 * (grid1.coords t 1).val + a) b) := by
  intro a b
  blk_simp [iblk1]
  refine (h.at _).trans ?_
  unfold head
  blk_simp [at1_5 t]
  rw [mul_comm 1024, mul_comm 128]

theorem tile2_0 {X : ℕ → ℕ → ℝ} (h : Tile (V c main_arg0) X) (t : Fin grid2.N) :
    Tile (M := 4096) (N := 256) (iblk2 V c 0 t) (head 256 X (grid2.coords t 0).val) := by
  intro a b
  blk_simp [iblk2]
  refine (h.at _).trans ?_
  unfold head
  blk_simp [at2_0 t]
  rw [mul_comm 256]

theorem tile2_1 {X : ℕ → ℕ → ℝ} (h : Tile (V c main_arg1) X) (t : Fin grid2.N) :
    Tile (M := 1024) (N := 256) (iblk2 V c 1 t) (fun a b => head 256 X (grid2.coords t 0).val (1024 * (grid2.coords t 1).val + a) b) := by
  intro a b
  blk_simp [iblk2]
  refine (h.at _).trans ?_
  unfold head
  blk_simp [at2_1 t]
  rw [mul_comm 1024, mul_comm 256]

theorem tile2_2 {X : ℕ → ℕ → ℝ} (h : Tile (V c main_arg2) X) (t : Fin grid2.N) :
    Tile (M := 1024) (N := 128) (iblk2 V c 2 t) (fun a b => head 128 X (grid2.coords t 0).val (1024 * (grid2.coords t 1).val + a) b) := by
  intro a b
  blk_simp [iblk2]
  refine (h.at _).trans ?_
  unfold head
  blk_simp [at2_2 t]
  rw [mul_comm 1024, mul_comm 128]

theorem tile2_3 {X : ℕ → ℕ → ℝ} (h : Tile (V c main_v0_0) X) (t : Fin grid2.N) :
    Tile (M := 4096) (N := 128) (iblk2 V c 3 t) (head 128 X (grid2.coords t 0).val) := by
  intro a b
  blk_simp [iblk2]
  refine (h.at _).trans ?_
  unfold head
  blk_simp [at2_3 t]
  rw [mul_comm 128]

theorem tile2_4 {X : ℕ → ℕ → ℝ} (h : Tile (V c main_v0_1) X) (t : Fin grid2.N) :
    Tile (M := 4096) (N := 128) (iblk2 V c 4 t) (head 128 X (grid2.coords t 0).val) := by
  intro a b
  blk_simp [iblk2]
  refine (h.at _).trans ?_
  unfold head
  blk_simp [at2_4 t]
  rw [mul_comm 128]

theorem tile2_5 {X : ℕ → ℕ → ℝ} (h : Tile (V c main_arg3) X) (t : Fin grid2.N) :
    Tile (M := 4096) (N := 128) (iblk2 V c 5 t) (head 128 X (grid2.coords t 0).val) := by
  intro a b
  blk_simp [iblk2]
  refine (h.at _).trans ?_
  unfold head
  blk_simp [at2_5 t]
  rw [mul_comm 128]

/-! ## The forward call -/

/-- The outputs of every head. -/
def attnO (Q K U : ℕ → ℕ → ℝ) : ℕ → ℕ → ℝ := heads 128 fun h => outA (head 256 Q h) (head 256 K h) (head 128 U h)

/-- The logarithms of the sums, repeated over a head's columns. -/
def attnL (Q K : ℕ → ℕ → ℝ) : ℕ → ℕ → ℝ := heads 128 fun h r _ => Real.log (total (head 256 Q h) (head 256 K h) r)

/-- The gradients of the queries, of the keys and of the values. -/
def attnDq (Q K U W : ℕ → ℕ → ℝ) : ℕ → ℕ → ℝ := heads 256 fun h => gradQ (head 256 Q h) (head 256 K h) (head 128 U h) (head 128 W h)
def attnDk (Q K U W : ℕ → ℕ → ℝ) : ℕ → ℕ → ℝ := heads 256 fun h => gradK (head 256 Q h) (head 256 K h) (head 128 U h) (head 128 W h)
def attnDv (Q K W : ℕ → ℕ → ℝ) : ℕ → ℕ → ℝ := heads 128 fun h => gradV (head 256 Q h) (head 256 K h) (head 128 W h)

/-- Where a block's element lies: its head and its column. -/
theorem heads_block (n : ℕ) (f : ℕ → ℕ → ℕ → ℝ) (h i a b : ℕ) (hb : b < n) :
    heads n f (i * 1024 + a) (h * n + b) = f h (1024 * i + a) b := by
  rw [mul_comm h, mul_comm i]; exact head_heads f h _ b hb

/-- What the later calls read of the outputs and of the logarithms. -/
theorem tile_attnO {M : ℕ} {A : (⟨2, ![M, 128]⟩ : Shape).Idx → EReal} {Q K U : ℕ → ℕ → ℝ} {h : ℕ} {g : ℕ → ℕ}
    (hA : Tile A (fun a b => head 128 (attnO Q K U) h (g a) b)) :
    Tile A (fun a b => outA (head 256 Q h) (head 256 K h) (head 128 U h) (g a) b) := fun a b =>
  (hA a b).trans (congrArg _ (head_heads _ h _ b b.isLt))
theorem tile_attnL {M : ℕ} {A : (⟨2, ![M, 128]⟩ : Shape).Idx → EReal} {Q K : ℕ → ℕ → ℝ} {h : ℕ} {g : ℕ → ℕ}
    (hA : Tile A (fun a b => head 128 (attnL Q K) h (g a) b)) :
    Tile A (fun a _ => Real.log (total (head 256 Q h) (head 256 K h) (g a))) := fun a b =>
  (hA a b).trans (congrArg _ (head_heads _ h _ b b.isLt))

section Calls
variable {Q K U W : ℕ → ℕ → ℝ} (hQ : Tile (V c main_arg0) Q) (hK : Tile (V c main_arg1) K) (hU : Tile (V c main_arg2) U)

include hQ hK hU in
theorem call0_3 : Tile (M := 4096) (N := 512) ((dat0 V c).arrAt 3 cfg0.N) (attnO Q K U) := by
  refine Tile.of ((dat0 V c).arrAt_eq_of_covers 3 _ (by decide +kernel) fun t hf y => ?_)
  blk_simp
  rw [after0_3]
  unfold outsAt0
  dsimp only
  refine (Tile.at (M := 1024) (N := 128) (f := fun a b => outA (head 256 Q (grid0.coords t 0).val) (head 256 K (grid0.coords t 0).val) (head 128 U (grid0.coords t 0).val) (1024 * (grid0.coords t 1).val + a) b)
    (fun a b => (block0 c (grid0.coords t) (ms0_0 t) (hs0_0 t) (ms0_1 t) (hs0_1 t) (ms0_2 t) (hs0_2 t) (ms0_3 t) (hs0_3 t) (ms0_4 t) (hs0_4 t)
      (iblk0 V c 0 t) (iblk0 V c 1 t) (iblk0 V c 2 t)
      (tile0_0 V c hQ t) (tile0_1 V c hK t) (tile0_2 V c hU t) a b).1) y).trans (congrArg _ ?_)
  blk_simp [at0_3 t]
  exact (heads_block 128 (fun h => outA (head 256 Q h) (head 256 K h) (head 128 U h)) (grid0.coords t 0).val (grid0.coords t 1).val
    (y 0).val (y 1).val (y 1).isLt).symm

include hQ hK hU in
theorem call0_4 : Tile (M := 4096) (N := 512) ((dat0 V c).arrAt 4 cfg0.N) (attnL Q K) := by
  refine Tile.of ((dat0 V c).arrAt_eq_of_covers 4 _ (by decide +kernel) fun t hf y => ?_)
  blk_simp
  rw [after0_4]
  unfold outsAt0
  dsimp only
  refine (Tile.at (M := 1024) (N := 128) (f := fun a b => Real.log (total (head 256 Q (grid0.coords t 0).val) (head 256 K (grid0.coords t 0).val) (1024 * (grid0.coords t 1).val + a)))
    (fun a b => (block0 c (grid0.coords t) (ms0_0 t) (hs0_0 t) (ms0_1 t) (hs0_1 t) (ms0_2 t) (hs0_2 t) (ms0_3 t) (hs0_3 t) (ms0_4 t) (hs0_4 t)
      (iblk0 V c 0 t) (iblk0 V c 1 t) (iblk0 V c 2 t)
      (tile0_0 V c hQ t) (tile0_1 V c hK t) (tile0_2 V c hU t) a b).2) y).trans (congrArg _ ?_)
  blk_simp [at0_4 t]
  exact (heads_block 128 (fun h r _ => Real.log (total (head 256 Q h) (head 256 K h) r)) (grid0.coords t 0).val (grid0.coords t 1).val
    (y 0).val (y 1).val (y 1).isLt).symm

variable (hO : Tile (V c main_v0_0) (attnO Q K U)) (hL : Tile (V c main_v0_1) (attnL Q K)) (hW : Tile (V c main_arg3) W)

/-! ## The backward calls -/

include hQ hK hU hO hL hW in
theorem call1_6 : Tile (M := 4096) (N := 1024) ((dat1 V c).arrAt 6 cfg1.N) (attnDq Q K U W) := by
  refine Tile.of ((dat1 V c).arrAt_eq_of_covers 6 _ (by decide +kernel) fun t hf y => ?_)
  blk_simp
  rw [after1_6]
  unfold outsAt1
  dsimp only
  refine (Tile.at (M := 1024) (N := 256) (f := fun a b => gradQ (head 256 Q (grid1.coords t 0).val) (head 256 K (grid1.coords t 0).val) (head 128 U (grid1.coords t 0).val) (head 128 W (grid1.coords t 0).val) (1024 * (grid1.coords t 1).val + a) b)
    (fun a b => (block1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t)
      (iblk1 V c 0 t) (iblk1 V c 1 t) (iblk1 V c 2 t) (iblk1 V c 3 t) (iblk1 V c 4 t) (iblk1 V c 5 t)
      (tile1_0 V c hQ t) (tile1_1 V c hK t) (tile1_2 V c hU t)
    (tile_attnO (tile1_3 V c hO t)) (tile_attnL (tile1_4 V c hL t)) (tile1_5 V c hW t) a b)) y).trans (congrArg _ ?_)
  blk_simp [at1_6 t]
  exact (heads_block 256 (fun h => gradQ (head 256 Q h) (head 256 K h) (head 128 U h) (head 128 W h)) (grid1.coords t 0).val (grid1.coords t 1).val
    (y 0).val (y 1).val (y 1).isLt).symm

include hQ hK hU hO hL hW in
theorem call2_6 : Tile (M := 4096) (N := 1024) ((dat2 V c).arrAt 6 cfg2.N) (attnDk Q K U W) := by
  refine Tile.of ((dat2 V c).arrAt_eq_of_covers 6 _ (by decide +kernel) fun t hf y => ?_)
  blk_simp
  rw [after2_6]
  unfold outsAt2
  dsimp only
  refine (Tile.at (M := 1024) (N := 256) (f := fun a b => gradK (head 256 Q (grid2.coords t 0).val) (head 256 K (grid2.coords t 0).val) (head 128 U (grid2.coords t 0).val) (head 128 W (grid2.coords t 0).val) (1024 * (grid2.coords t 1).val + a) b)
    (fun a b => (block2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t)
      (iblk2 V c 0 t) (iblk2 V c 1 t) (iblk2 V c 2 t) (iblk2 V c 3 t) (iblk2 V c 4 t) (iblk2 V c 5 t)
      (tile2_0 V c hQ t) (tile2_1 V c hK t) (tile2_2 V c hU t)
    (tile_attnO (tile2_3 V c hO t)) (tile_attnL (tile2_4 V c hL t)) (tile2_5 V c hW t) a).1 b) y).trans (congrArg _ ?_)
  blk_simp [at2_6 t]
  exact (heads_block 256 (fun h => gradK (head 256 Q h) (head 256 K h) (head 128 U h) (head 128 W h)) (grid2.coords t 0).val (grid2.coords t 1).val
    (y 0).val (y 1).val (y 1).isLt).symm

include hQ hK hU hO hL hW in
theorem call2_7 : Tile (M := 4096) (N := 512) ((dat2 V c).arrAt 7 cfg2.N) (attnDv Q K W) := by
  refine Tile.of ((dat2 V c).arrAt_eq_of_covers 7 _ (by decide +kernel) fun t hf y => ?_)
  blk_simp
  rw [after2_7]
  unfold outsAt2
  dsimp only
  refine (Tile.at (M := 1024) (N := 128) (f := fun a b => gradV (head 256 Q (grid2.coords t 0).val) (head 256 K (grid2.coords t 0).val) (head 128 W (grid2.coords t 0).val) (1024 * (grid2.coords t 1).val + a) b)
    (fun a b => (block2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t)
      (iblk2 V c 0 t) (iblk2 V c 1 t) (iblk2 V c 2 t) (iblk2 V c 3 t) (iblk2 V c 4 t) (iblk2 V c 5 t)
      (tile2_0 V c hQ t) (tile2_1 V c hK t) (tile2_2 V c hU t)
    (tile_attnO (tile2_3 V c hO t)) (tile_attnL (tile2_4 V c hL t)) (tile2_5 V c hW t) a).2 b) y).trans (congrArg _ ?_)
  blk_simp [at2_7 t]
  exact (heads_block 128 (fun h => gradV (head 256 Q h) (head 256 K h) (head 128 W h)) (grid2.coords t 0).val (grid2.coords t 1).val
    (y 0).val (y 1).val (y 1).isLt).symm

end Calls

end Cert.Attn
-- ==== Proof.Ref.lean ====
/- The reference's results over the reals: the attention and its gradients, head by head. -/
module

public import proofs.«01_k».proof.Proof.RefOps
public import proofs.«01_k».proof.Proof.Arrays

@[expose] public section

set_option maxRecDepth 16384

noncomputable section

namespace Cert.Attn.Ref

open Idealize.ShloMosaic Cert.ReferenceIdeal
open scoped BigOperators

/-- A query's output against its gradient, summed over the keys first. -/
theorem delta_eq (q k v w : ℕ → ℕ → ℝ) (r : ℕ) :
    delta q k v w r = (∑ c : Fin 4096, dprob v w r c.val * expo q k r c.val) / total q k r := by
  unfold delta outA dprob
  simp only [Finset.sum_range, Finset.sum_mul, mul_div_assoc', Finset.mul_sum, ← Finset.sum_div]
  rw [Finset.sum_comm]
  congr 1
  exact Finset.sum_congr rfl fun c _ => Finset.sum_congr rfl fun d _ => by ring

section
variable {q k : FVec Ideal S4096x1024 .bf16} {v : FVec Ideal S4096x512 .bf16} {w : FVec Ideal S4096x512 .f32} {Q K U W : ℕ → ℕ → ℝ}
  (hQ : Tile (M := 4096) (N := 1024) q Q) (hK : Tile (M := 4096) (N := 1024) k K)
  (hU : Tile (M := 4096) (N := 512) v U) (hW : Tile (M := 4096) (N := 512) w W)

include hQ hK in
theorem scores_real (h : Fin 4) (r c : Fin 4096) :
    scores q k (ix3 h r c) = masked (c.val ≤ r.val) (score (head 256 Q h.val) (head 256 K h.val) r.val c.val) := by
  rw [scores_at, ofBits_neg_inf, ofBits_sc]
  unfold masked
  refine if_congr Iff.rfl ?_ rfl
  unfold score head
  rw [EReal.coe_mul, ← coe_sum]
  congr 1
  refine Finset.sum_congr rfl fun x _ => ?_
  rw [hQ, hK, ← EReal.coe_mul, Nat.mul_comm 256]

include hQ hK in
/-- The exponentials of a row, up to the factor of its greatest score. -/
theorem exps_real (h : Fin 4) (r : Fin 4096) : ∃ a : ℝ, 0 < a ∧ ∀ c : Fin 4096,
    exps (scores q k) (ix3 h r c) = ((a * expo (head 256 Q h.val) (head 256 K h.val) r.val c.val : ℝ) : EReal) := by
  obtain ⟨μ, hμ⟩ := fold_max_real (fun c : Fin 4096 => scores q k (ix3 h r c)) ⊥ bot_ne_top
    (fun c => by
      rw [scores_real hQ hK]; unfold masked
      split
      · exact EReal.coe_ne_top _
      · exact bot_ne_top)
    (Or.inr ⟨0, by
      rw [scores_real hQ hK]; unfold masked
      rw [if_pos (show ((0 : Fin 4096).val ≤ r.val) from Nat.zero_le _)]
      exact EReal.coe_ne_bot _⟩)
  refine ⟨Real.exp (-μ), Real.exp_pos _, fun c => ?_⟩
  rw [exps_at, ofBits_neg_inf, hμ, scores_real hQ hK, exp_masked_sub]
  rfl

include hU hW in
theorem dweights_real (h : Fin 4) (r c : Fin 4096) :
    dweights w v (ix3 h r c) = ((dprob (head 128 U h.val) (head 128 W h.val) r.val c.val : ℝ) : EReal) := by
  rw [dweights_at]
  unfold dprob head
  rw [← coe_sum]
  refine Finset.sum_congr rfl fun x _ => ?_
  rw [hU, hW, ← EReal.coe_mul, Nat.mul_comm 128]
end

section
variable {e : FVec Ideal S4x4096x4096 .f32} {qh kh vh wh : ℕ → ℕ → ℝ} {h : Fin 4} {r : Fin 4096} {a : ℝ}
  (ha : 0 < a) (he : ∀ c : Fin 4096, e (ix3 h r c) = ((a * expo qh kh r.val c.val : ℝ) : EReal))

include he in
theorem sums_real : sums e (ix2 h r) = ((a * total qh kh r.val : ℝ) : EReal) := by
  rw [sums_at]
  unfold total
  rw [Finset.sum_range, Finset.mul_sum, ← coe_sum]
  exact Finset.sum_congr rfl fun c _ => he c

include ha he in
theorem weights_real (c : Fin 4096) : weights e (ix3 h r c) = ((prob qh kh r.val c.val : ℝ) : EReal) := by
  have ht := total_pos qh kh r.isLt
  rw [weights_at, sums_real he, he, div_coe_coe (mul_pos ha ht).ne', mul_div_mul_left _ _ ha.ne']
  rfl

theorem dsums_term {a t : ℝ} (ha : a ≠ 0) (ht : t ≠ 0) (d x : ℝ) : d * (1 / (a * t * (a * t))) * (a * x) = d * x / (t * (a * t)) := by
  field_simp

include ha he in
theorem dsums_real {dp : FVec Ideal S4x4096x4096 .f32} (hd : ∀ c : Fin 4096, dp (ix3 h r c) = ((dprob vh wh r.val c.val : ℝ) : EReal)) :
    dsums dp e (ix2 h r) = ((-(delta qh kh vh wh r.val / (a * total qh kh r.val)) : ℝ) : EReal) := by
  have ht := total_pos qh kh r.isLt
  have h1 : a * total qh kh r.val * (a * total qh kh r.val) ≠ 0 := (mul_pos (mul_pos ha ht) (mul_pos ha ht)).ne'
  rw [dsums_at, sums_real he, EReal.coe_neg, delta_eq, div_div, Finset.sum_div, ← coe_sum]
  refine congrArg (fun x : EReal => -x) (Finset.sum_congr rfl fun c _ => ?_)
  rw [hd, he, ← EReal.coe_mul, ← EReal.coe_one, div_coe_coe h1, ← EReal.coe_mul, ← EReal.coe_mul]
  exact congrArg (fun x : ℝ => (x : EReal)) (dsums_term ha.ne' ht.ne' _ _)

include ha he in
theorem dscores_real {dp : FVec Ideal S4x4096x4096 .f32} (hd : ∀ c : Fin 4096, dp (ix3 h r c) = ((dprob vh wh r.val c.val : ℝ) : EReal))
    (c : Fin 4096) : dscores dp e (ix3 h r c) = ((dscore qh kh vh wh r.val c.val : ℝ) : EReal) := by
  rw [dscores_at]
  split
  · have ht := total_pos qh kh r.isLt
    rw [dsums_real ha he hd, sums_real he, hd, he, div_coe_coe (mul_pos ha ht).ne', ofBits_sc, ← EReal.coe_add, ← EReal.coe_mul,
      ← EReal.coe_mul]
    congr 1
    unfold dscore prob
    have := ht.ne'
    have := ha.ne'
    field_simp
    ring
  · rw [dscore_of_lt _ _ _ _ (by omega), EReal.coe_zero]
end

section
variable {q k : FVec Ideal S4096x1024 .bf16} {v : FVec Ideal S4096x512 .bf16} {w : FVec Ideal S4096x512 .f32} {Q K U W : ℕ → ℕ → ℝ}
  (hQ : Tile (M := 4096) (N := 1024) q Q) (hK : Tile (M := 4096) (N := 1024) k K)
  (hU : Tile (M := 4096) (N := 512) v U) (hW : Tile (M := 4096) (N := 512) w W)

/-- A column is its head's first column and its place in the head. -/
theorem head_div (n : ℕ) (X : ℕ → ℕ → ℝ) (r x : ℕ) : X r x = head n X (x / n) r (x % n) := by
  unfold head
  rw [Nat.div_add_mod]

include hQ hK in
theorem prob_real (h : Fin 4) (r c : Fin 4096) : weights (exps (scores q k)) (ix3 h r c)
    = ((prob (head 256 Q h.val) (head 256 K h.val) r.val c.val : ℝ) : EReal) := by
  obtain ⟨a, ha, he⟩ := exps_real hQ hK h r
  exact weights_real ha he c

include hQ hK hU hW in
theorem dscore_real (h : Fin 4) (r c : Fin 4096) : dscores (dweights w v) (exps (scores q k)) (ix3 h r c)
    = ((dscore (head 256 Q h.val) (head 256 K h.val) (head 128 U h.val) (head 128 W h.val) r.val c.val : ℝ) : EReal) := by
  obtain ⟨a, ha, he⟩ := exps_real hQ hK h r
  exact dscores_real ha he (dweights_real hU hW h r) c

include hQ hK hU in
theorem out_tile : Tile (M := 4096) (N := 512) (outs v (weights (exps (scores q k)))) (attnO Q K U) := fun r x => by
  rw [outs_at]
  unfold attnO heads outA
  beta_reduce
  rw [Finset.sum_range, Finset.sum_div, ← coe_sum]
  refine Finset.sum_congr rfl fun c _ => ?_
  rw [hU, prob_real hQ hK, ← EReal.coe_mul, head_div 128 U]
  unfold prob
  congr 1
  ring

include hQ hK hW in
theorem dv_tile : Tile (M := 4096) (N := 512) (dvals w (weights (exps (scores q k)))) (attnDv Q K W) := fun c x => by
  rw [dvals_at]
  unfold attnDv heads gradV
  beta_reduce
  rw [Finset.sum_range, ← coe_sum]
  refine Finset.sum_congr rfl fun r _ => ?_
  rw [hW, prob_real hQ hK, ← EReal.coe_mul, head_div 128 W, mul_comm]

include hQ hK hU hW in
theorem dk_tile : Tile (M := 4096) (N := 1024) (dkeys (dscores (dweights w v) (exps (scores q k))) q) (attnDk Q K U W) := fun c x => by
  rw [dkeys_at]
  unfold attnDk heads gradK
  beta_reduce
  rw [Finset.sum_range, ← coe_sum]
  refine Finset.sum_congr rfl fun r _ => ?_
  rw [hQ, dscore_real hQ hK hU hW, ← EReal.coe_mul, head_div 256 Q]

include hQ hK hU hW in
theorem dq_tile : Tile (M := 4096) (N := 1024) (dqueries (dscores (dweights w v) (exps (scores q k))) k) (attnDq Q K U W) := fun r x => by
  rw [dqueries_at]
  unfold attnDq heads gradQ
  beta_reduce
  rw [Finset.sum_range, ← coe_sum]
  refine Finset.sum_congr rfl fun c _ => ?_
  rw [hK, dscore_real hQ hK hU hW, ← EReal.coe_mul, head_div 256 K]
end

end Cert.Attn.Ref
-- ==== Proof.Finite.lean ====
/- What the precondition says: every argument array holds real numbers. -/
module

public import proofs.«01_k».proof.Pre_finite
public import proofs.«01_k».proof.Proof.Tile
public import Idealize.ShloMosaic.Lib.Pointwise

@[expose] public section

set_option maxRecDepth 16384

noncomputable section

namespace Cert.Attn

open Idealize.ShloMosaic

/-- The precondition's shapes broadcast as it states. -/
instance preFacts : Cert.Pre_finite.Facts where
  bitsLt_bf16_f32 := by decide
  bcast_S_S4096x1024 := by decide
  bcast_S_S4096x512 := by decide

/-- The function of the row and the column that an array of real numbers holds. -/
def read {M N : ℕ} (A : (⟨2, ![M, N]⟩ : Shape).Idx → EReal) (r c : ℕ) : ℝ :=
  if h : r < M ∧ c < N then (A (ix2 ⟨r, h.1⟩ ⟨c, h.2⟩)).toReal else 0

/-- A number whose absolute value lies below plus infinity is real. -/
theorem real_of_lt {x : EReal} (h : max x (-x) < ⊤) : x = ((x.toReal : ℝ) : EReal) := by
  refine (EReal.coe_toReal ?_ ?_).symm
  · rintro rfl; simp at h
  · rintro rfl; simp at h

theorem read_tile {M N : ℕ} (A : (⟨2, ![M, N]⟩ : Shape).Idx → EReal) (h : ∀ a b, max (A (ix2 a b)) (-A (ix2 a b)) < ⊤) : Tile A (read A) :=
  fun a b => by
    rw [read, dif_pos ⟨a.isLt, b.isLt⟩]
    exact real_of_lt (h a b)

theorem lt_of_cmp {x : EReal} (h : Ideal.cmp .olt (max x (-x)) (Ideal.ofBits .f32 2139095040#32) = 1#1) : max x (-x) < ⊤ := by
  rw [ofBits_pos_inf] at h
  unfold Ideal.cmp at h
  by_contra hn
  simp [hn] at h

section
open Cert.Pre_finite
variable (q k : FVec Ideal S4096x1024 .bf16) (v : FVec Ideal S4096x512 .bf16) (w : FVec Ideal S4096x512 .f32)

theorem finite_q (h : (Cert.Pre_finite.fn q k v w).1 = fun _ => 1#1) : Tile (M := 4096) (N := 1024) q (read q) :=
  read_tile q fun a b => lt_of_cmp (congrFun h (ix2 a b))
theorem finite_k (h : (Cert.Pre_finite.fn q k v w).2.1 = fun _ => 1#1) : Tile (M := 4096) (N := 1024) k (read k) :=
  read_tile k fun a b => lt_of_cmp (congrFun h (ix2 a b))
theorem finite_v (h : (Cert.Pre_finite.fn q k v w).2.2.1 = fun _ => 1#1) : Tile (M := 4096) (N := 512) v (read v) :=
  read_tile v fun a b => lt_of_cmp (congrFun h (ix2 a b))
theorem finite_w (h : (Cert.Pre_finite.fn q k v w).2.2.2 = fun _ => 1#1) : Tile (M := 4096) (N := 512) w (read w) :=
  read_tile w fun a b => lt_of_cmp (congrFun h (ix2 a b))
end

end Cert.Attn
-- ==== Proof.Join.lean ====
/- The kernel's four results are the reference's. -/
module

public import proofs.«01_k».proof.Defs
public import proofs.«01_k».proof.Proof.Ref
public import proofs.«01_k».proof.Proof.Finite

@[expose] public section

set_option maxRecDepth 16384

noncomputable section

namespace Cert.Attn

open Idealize.ShloMosaic Idealize.ShloMosaic.TcCoe Idealize.SL.Sem Cert.KernelIdeal Cert.KernelIdeal.Gen

/-- Two arrays that hold the same real numbers are one. -/
theorem Tile.eq {M N : ℕ} {A B : (⟨2, ![M, N]⟩ : Shape).Idx → EReal} {f : ℕ → ℕ → ℝ} (hA : Tile A f) (hB : Tile B f) : A = B :=
  funext fun j => (hA.at j).trans (hB.at j).symm

section
variable (m : (l : Loc nD τ sig) → Buf (Elt Ideal) l) (ρ : Dev nD → PrngReg) (c : Dev nD) {Q K U W : ℕ → ℕ → ℝ}
  (hQ : Tile (M := 4096) (N := 1024) (m ((c.tc : Thread nD τ).loc main_arg0)) Q)
  (hK : Tile (M := 4096) (N := 1024) (m ((c.tc : Thread nD τ).loc main_arg1)) K)
  (hU : Tile (M := 4096) (N := 512) (m ((c.tc : Thread nD τ).loc main_arg2)) U)
  (hW : Tile (M := 4096) (N := 512) (m ((c.tc : Thread nD τ).loc main_arg3)) W)

include hQ hK hU in
/-- After the first call: the output and the logarithms of the sums. -/
theorem first : Tile (M := 4096) (N := 512) (V1 m ρ c main_v0_0) (attnO Q K U)
    ∧ Tile (M := 4096) (N := 512) (V1 m ρ c main_v0_1) (attnL Q K) := by
  have e3 := W1_arr m ρ c 3
  have e4 := W1_arr m ρ c 4
  have t3 := call0_3 (V0 m ρ) c hQ hK hU
  have t4 := call0_4 (V0 m ρ) c hQ hK hU
  rw [← e3] at t3
  rw [← e4] at t4
  exact ⟨t3, t4⟩

include hQ hK hU hW in
/-- After the second call: the gradient of the queries. -/
theorem second : Tile (M := 4096) (N := 1024) (V2 m ρ c main_v1) (attnDq Q K U W) := by
  obtain ⟨hO, hL⟩ := first m ρ c hQ hK hU
  have e := W2_arr m ρ c 6
  have t := call1_6 (V1 m ρ) c (Q := Q) (K := K) (U := U) (W := W)
    (by rw [show V1 m ρ c main_arg0 = _ from W1_of m ρ c main_arg0 (by decide +kernel)]; exact hQ)
    (by rw [show V1 m ρ c main_arg1 = _ from W1_of m ρ c main_arg1 (by decide +kernel)]; exact hK)
    (by rw [show V1 m ρ c main_arg2 = _ from W1_of m ρ c main_arg2 (by decide +kernel)]; exact hU)
    hO hL
    (by rw [show V1 m ρ c main_arg3 = _ from W1_of m ρ c main_arg3 (by decide +kernel)]; exact hW)
  rw [← e] at t
  exact t

include hQ hK hU hW in
/-- After the third call: the gradients of the keys and of the values. -/
theorem third : Tile (M := 4096) (N := 1024) (W3 m ρ c (Proc.devRef .tc main_v2_0)) (attnDk Q K U W)
    ∧ Tile (M := 4096) (N := 512) (W3 m ρ c (Proc.devRef .tc main_v2_1)) (attnDv Q K W) := by
  obtain ⟨hO, hL⟩ := first m ρ c hQ hK hU
  have h0 : Tile (M := 4096) (N := 1024) (V2 m ρ c main_arg0) Q := by
    rw [show V2 m ρ c main_arg0 = _ from (W2_of m ρ c main_arg0 (by decide +kernel)).trans (W1_of m ρ c main_arg0 (by decide +kernel))]; exact hQ
  have h1 : Tile (M := 4096) (N := 1024) (V2 m ρ c main_arg1) K := by
    rw [show V2 m ρ c main_arg1 = _ from (W2_of m ρ c main_arg1 (by decide +kernel)).trans (W1_of m ρ c main_arg1 (by decide +kernel))]; exact hK
  have h2 : Tile (M := 4096) (N := 512) (V2 m ρ c main_arg2) U := by
    rw [show V2 m ρ c main_arg2 = _ from (W2_of m ρ c main_arg2 (by decide +kernel)).trans (W1_of m ρ c main_arg2 (by decide +kernel))]; exact hU
  have h3 : Tile (M := 4096) (N := 512) (V2 m ρ c main_arg3) W := by
    rw [show V2 m ρ c main_arg3 = _ from (W2_of m ρ c main_arg3 (by decide +kernel)).trans (W1_of m ρ c main_arg3 (by decide +kernel))]; exact hW
  have hO' : Tile (M := 4096) (N := 512) (V2 m ρ c main_v0_0) (attnO Q K U) := by
    rw [show V2 m ρ c main_v0_0 = _ from W2_of m ρ c main_v0_0 (by decide +kernel)]; exact hO
  have hL' : Tile (M := 4096) (N := 512) (V2 m ρ c main_v0_1) (attnL Q K) := by
    rw [show V2 m ρ c main_v0_1 = _ from W2_of m ρ c main_v0_1 (by decide +kernel)]; exact hL
  have e6 := W3_arr m ρ c 6
  have e7 := W3_arr m ρ c 7
  have t6 := call2_6 (V2 m ρ) c h0 h1 h2 hO' hL' h3
  have t7 := call2_7 (V2 m ρ) c h0 h1 h2 hO' hL' h3
  rw [← e6] at t6
  rw [← e7] at t7
  exact ⟨t6, t7⟩
end

/-- The kernel and the reference, from the same finite arguments, end with the same four arrays. -/
theorem agree : Cert.algebraic_KernelIdeal_ReferenceIdeal_pre_finite (hPre_finite := preFacts) := by
  intro m g m' g' hpre hargs
  refine ⟨fun c => W1 m g c (Proc.devRef .tc main_v0_0), fun c => W2 m g c (Proc.devRef .tc main_v1),
    fun c => W3 m g c (Proc.devRef .tc main_v2_0), fun c => W3 m g c (Proc.devRef .tc main_v2_1), results m g, ?_⟩
  refine (θ_run _ _ _).mono (fun r h c => ?_) (Cert.ReferenceIdeal.Value.run m' g')
  obtain ⟨r0, r1, r2, r3, ra⟩ := h c
  obtain ⟨a0, a1, a2, a3⟩ := hargs c
  obtain ⟨f0, f1, f2, f3⟩ := hpre c
  have hQ := finite_q _ _ _ _ f0
  have hK := finite_k _ _ _ _ f1
  have hU := finite_v _ _ _ _ f2
  have hW := finite_w _ _ _ _ f3
  obtain ⟨kO, -⟩ := first m g c hQ hK hU
  have kQ := second m g c hQ hK hU hW
  obtain ⟨kK, kV⟩ := third m g c hQ hK hU hW
  refine ⟨r0.trans ((Ref.res0 m' c _ _ _ a0 a1 a2).trans ?_), r1.trans ((Ref.res1 m' c _ _ _ _ a0 a1 a2 a3).trans ?_),
    r2.trans ((Ref.res2 m' c _ _ _ _ a0 a1 a2 a3).trans ?_), r3.trans ((Ref.res3 m' c _ _ _ a0 a1 a3).trans ?_), ra⟩
  · exact Tile.eq (Ref.out_tile hQ hK hU) kO
  · exact Tile.eq (Ref.dq_tile hQ hK hU hW) kQ
  · exact Tile.eq (Ref.dk_tile hQ hK hU hW) kK
  · exact Tile.eq (Ref.dv_tile hQ hK hW) kV

end Cert.Attn
-- ==== Proof.FfnRun.lean ====
/- What the feed-forward block's calls leave: the run of the whole program, with the result arrays after it. -/
module

public import proofs.«01_k».proof.Proof.Gen.FfnIdeal.Frame
public import Idealize.ShloMosaic.Lib.Pipeline.ValueKit

@[expose] public section

set_option maxRecDepth 16384

noncomputable section

namespace Cert.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnIdeal Cert.FfnIdeal.Gen

variable (m : (l : Loc nD τ sig) → Buf (Elt Ideal) l) (ρ : Dev nD → PrngReg)

set_option backward.isDefEq.respectTransparency.types false in
/-- Every run ends with the buffers at the contents folded through the calls and the host operations between them. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W25 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h _ => h)

/-- The result arrays after the run, and the arguments as they were. -/
theorem results : θ_run defs (onTc (τ := τ) (main (F := Ideal))) ⟨m, fun _ => 0, ρ⟩ (fun r => ∀ c : Dev nD,
      r.2.mem ((c.tc : Thread nD τ).loc main_v27) = W9 m ρ c (Proc.devRef .tc main_v27)
      ∧ r.2.mem ((c.tc : Thread nD τ).loc main_v59_0) = W24 m ρ c (Proc.devRef .tc main_v59_0)
      ∧ r.2.mem ((c.tc : Thread nD τ).loc main_v59_1) = W24 m ρ c (Proc.devRef .tc main_v59_1)
      ∧ r.2.mem ((c.tc : Thread nD τ).loc main_v52) = W18 m ρ c (Proc.devRef .tc main_v52)
      ∧ r.2.mem ((c.tc : Thread nD τ).loc main_v47) = W15 m ρ c (Proc.devRef .tc main_v47)
      ∧ r.2.mem ((c.tc : Thread nD τ).loc main_v49) = W15 m ρ c (Proc.devRef .tc main_v49)
      ∧ r.2.mem ((c.tc : Thread nD τ).loc main_v60) = W25 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v27 (by decide))).trans ((W25_of m ρ c main_v27 (by decide)).trans ((W24_of m ρ c main_v27 (by decide)).trans ((W23_of m ρ c main_v27 (by decide)).trans ((W22_of m ρ c main_v27 (by decide)).trans ((W21_of m ρ c main_v27 (by decide)).trans ((W20_of m ρ c main_v27 (by decide)).trans ((W19_of m ρ c main_v27 (by decide)).trans ((W18_of m ρ c main_v27 (by decide)).trans ((W17_of m ρ c main_v27 (by decide)).trans ((W16_of m ρ c main_v27 (by decide)).trans ((W15_of m ρ c main_v27 (by decide)).trans ((W14_of m ρ c main_v27 (by decide)).trans ((W13_of m ρ c main_v27 (by decide)).trans ((W12_of m ρ c main_v27 (by decide)).trans ((W11_of m ρ c main_v27 (by decide)).trans (W10_of m ρ c main_v27 (by decide))))))))))))))))),
     (h c _ (mem_uc main_v59_0 (by decide))).trans (W25_of m ρ c main_v59_0 (by decide)),
     (h c _ (mem_uc main_v59_1 (by decide))).trans (W25_of m ρ c main_v59_1 (by decide)),
     (h c _ (mem_uc main_v52 (by decide))).trans ((W25_of m ρ c main_v52 (by decide)).trans ((W24_of m ρ c main_v52 (by decide)).trans ((W23_of m ρ c main_v52 (by decide)).trans ((W22_of m ρ c main_v52 (by decide)).trans ((W21_of m ρ c main_v52 (by decide)).trans ((W20_of m ρ c main_v52 (by decide)).trans (W19_of m ρ c main_v52 (by decide)))))))),
     (h c _ (mem_uc main_v47 (by decide))).trans ((W25_of m ρ c main_v47 (by decide)).trans ((W24_of m ρ c main_v47 (by decide)).trans ((W23_of m ρ c main_v47 (by decide)).trans ((W22_of m ρ c main_v47 (by decide)).trans ((W21_of m ρ c main_v47 (by decide)).trans ((W20_of m ρ c main_v47 (by decide)).trans ((W19_of m ρ c main_v47 (by decide)).trans ((W18_of m ρ c main_v47 (by decide)).trans ((W17_of m ρ c main_v47 (by decide)).trans (W16_of m ρ c main_v47 (by decide))))))))))),
     (h c _ (mem_uc main_v49 (by decide))).trans ((W25_of m ρ c main_v49 (by decide)).trans ((W24_of m ρ c main_v49 (by decide)).trans ((W23_of m ρ c main_v49 (by decide)).trans ((W22_of m ρ c main_v49 (by decide)).trans ((W21_of m ρ c main_v49 (by decide)).trans ((W20_of m ρ c main_v49 (by decide)).trans ((W19_of m ρ c main_v49 (by decide)).trans ((W18_of m ρ c main_v49 (by decide)).trans ((W17_of m ρ c main_v49 (by decide)).trans (W16_of m ρ c main_v49 (by decide))))))))))),
     h c _ (mem_uc main_v60 (by decide)),
     (h c _ (mem_uc main_arg0 (by decide))).trans (W25_args m ρ c main_arg0 (by decide)),
     (h c _ (mem_uc main_arg1 (by decide))).trans (W25_args m ρ c main_arg1 (by decide)),
     (h c _ (mem_uc main_arg2 (by decide))).trans (W25_args m ρ c main_arg2 (by decide)),
     (h c _ (mem_uc main_arg3 (by decide))).trans (W25_args m ρ c main_arg3 (by decide)),
     (h c _ (mem_uc main_arg4 (by decide))).trans (W25_args m ρ c main_arg4 (by decide)),
     (h c _ (mem_uc main_arg5 (by decide))).trans (W25_args m ρ c main_arg5 (by decide)),
     (h c _ (mem_uc main_arg6 (by decide))).trans (W25_args m ρ c main_arg6 (by decide))⟩) (run m ρ)

end Cert.Mlp
-- ==== Proof.FfnMat.lean ====
/- Matrices of extended reals, and the functions the feed-forward block and the projections are made of. -/
module

public import Idealize.ShloMosaic.Lib.Pointwise
public import Idealize.ShloMosaic.Lib.StableHlo.Predicate

@[expose] public section

noncomputable section

namespace Cert.Mlp

open Idealize.ShloMosaic Idealize.SL.Sem
open scoped BigOperators

/-- A matrix of extended reals whose entries are those of `f`. -/
def Mat {M N : ℕ} (A : (⟨2, ![M, N]⟩ : Shape).Idx → EReal) (f : ℕ → ℕ → EReal) : Prop :=
  ∀ (a : Fin M) (b : Fin N), A (ix2 a b) = f a b

/-- The same of three axes. -/
def Mat3 {L M N : ℕ} (A : (⟨3, ![L, M, N]⟩ : Shape).Idx → EReal) (f : ℕ → ℕ → ℕ → EReal) : Prop :=
  ∀ (l : Fin L) (a : Fin M) (b : Fin N), A (ix3 l a b) = f l a b

/-- The same of one axis. -/
def Row {N : ℕ} (A : (⟨1, ![N]⟩ : Shape).Idx → EReal) (f : ℕ → EReal) : Prop := ∀ b : Fin N, A (ix1 b) = f b

section
variable {L M N : ℕ}

theorem Mat.e {A : (⟨2, ![M, N]⟩ : Shape).Idx → EReal} {f : ℕ → ℕ → EReal} (h : Mat A f) : ∀ (a : Fin M) (b : Fin N), A (ix2 a b) = f a b := h

theorem Mat3.e {A : (⟨3, ![L, M, N]⟩ : Shape).Idx → EReal} {f : ℕ → ℕ → ℕ → EReal} (h : Mat3 A f) :
    ∀ (l : Fin L) (a : Fin M) (b : Fin N), A (ix3 l a b) = f l a b := h

theorem Row.e {A : (⟨1, ![N]⟩ : Shape).Idx → EReal} {f : ℕ → EReal} (h : Row A f) : ∀ b : Fin N, A (ix1 b) = f b := h

/-- At any index … -/
theorem Mat.at {A : (⟨2, ![M, N]⟩ : Shape).Idx → EReal} {f : ℕ → ℕ → EReal} (h : Mat A f) (j : (⟨2, ![M, N]⟩ : Shape).Idx) :
    A j = f (j 0).val (j 1).val := by
  conv_lhs => rw [show j = ix2 (j 0) (j 1) from funext fun z => by match z with | 0 => rfl | 1 => rfl]
  exact h _ _

theorem Mat3.at {A : (⟨3, ![L, M, N]⟩ : Shape).Idx → EReal} {f : ℕ → ℕ → ℕ → EReal} (h : Mat3 A f) (j : (⟨3, ![L, M, N]⟩ : Shape).Idx) :
    A j = f (j 0).val (j 1).val (j 2).val := by
  conv_lhs => rw [show j = ix3 (j 0) (j 1) (j 2) from funext fun z => by match z with | 0 => rfl | 1 => rfl | 2 => rfl]
  exact h _ _ _

/-- … and from any index. -/
theorem Mat.of {A : (⟨2, ![M, N]⟩ : Shape).Idx → EReal} {f : ℕ → ℕ → EReal} (h : A = fun j => f (j 0).val (j 1).val) : Mat A f :=
  fun a b => congrFun h (ix2 a b)

theorem Mat3.of {A : (⟨3, ![L, M, N]⟩ : Shape).Idx → EReal} {f : ℕ → ℕ → ℕ → EReal} (h : A = fun j => f (j 0).val (j 1).val (j 2).val) : Mat3 A f :=
  fun l a b => congrFun h (ix3 l a b)

theorem Mat.congr {A : (⟨2, ![M, N]⟩ : Shape).Idx → EReal} {f g : ℕ → ℕ → EReal} (h : Mat A f) (hf : ∀ a b, a < M → b < N → f a b = g a b) : Mat A g :=
  fun a b => (h a b).trans (hf _ _ a.isLt b.isLt)

/-- Two arrays of the same entries are equal. -/
theorem Mat.ext {A B : (⟨2, ![M, N]⟩ : Shape).Idx → EReal} {f : ℕ → ℕ → EReal} (hA : Mat A f) (hB : Mat B f) : A = B :=
  funext fun j => (hA.at j).trans (hB.at j).symm

theorem Mat3.ext {A B : (⟨3, ![L, M, N]⟩ : Shape).Idx → EReal} {f : ℕ → ℕ → ℕ → EReal} (hA : Mat3 A f) (hB : Mat3 B f) : A = B :=
  funext fun j => (hA.at j).trans (hB.at j).symm

theorem Row.ext {A B : (⟨1, ![N]⟩ : Shape).Idx → EReal} {f : ℕ → EReal} (hA : Row A f) (hB : Row B f) : A = B :=
  funext fun j => by
    rw [show j = ix1 (j 0) from funext fun z => by match z with | 0 => rfl]
    exact (hA _).trans (hB _).symm

/-- What holds of one of two equal arrays holds of the other. -/
theorem Mat.cast {A B : (⟨2, ![M, N]⟩ : Shape).Idx → EReal} {f : ℕ → ℕ → EReal} (e : A = B) (h : Mat B f) : Mat A f := e ▸ h
theorem Mat3.cast {A B : (⟨3, ![L, M, N]⟩ : Shape).Idx → EReal} {f : ℕ → ℕ → ℕ → EReal} (e : A = B) (h : Mat3 B f) : Mat3 A f := e ▸ h
theorem Row.cast {A B : (⟨1, ![N]⟩ : Shape).Idx → EReal} {f : ℕ → EReal} (e : A = B) (h : Row B f) : Row A f := e ▸ h

/-- Every array is the array of some function. -/
theorem some_mat {M N : ℕ} (A : (⟨2, ![M, N]⟩ : Shape).Idx → EReal) : ∃ f, Mat A f :=
  ⟨fun a b => if hab : a < M ∧ b < N then A (ix2 ⟨a, hab.1⟩ ⟨b, hab.2⟩) else 0, fun a b => by dsimp only; rw [dif_pos ⟨a.isLt, b.isLt⟩]⟩

theorem some_row {N : ℕ} (A : (⟨1, ![N]⟩ : Shape).Idx → EReal) : ∃ f, Row A f :=
  ⟨fun b => if hb : b < N then A (ix1 ⟨b, hb⟩) else 0, fun b => by dsimp only; rw [dif_pos b.isLt]⟩

end

/-! ## Rows moved down and up -/

/-- The rows of a matrix moved down by `s`, zeros before them. -/
def down (s : ℕ) (x : ℕ → ℕ → EReal) (a b : ℕ) : EReal := if s ≤ a then x (a - s) b else 0

/-- The rows of a matrix of 4096 rows moved up by `s`, zeros behind them. -/
def up (s : ℕ) (x : ℕ → ℕ → EReal) (a b : ℕ) : EReal := if a < 4096 - s then x (a + s) b else 0

theorem down_zero (x : ℕ → ℕ → EReal) (a b : ℕ) : down 0 x a b = x a b := if_pos (Nat.zero_le a)

theorem word {n : ℕ} (h : n < 2 ^ 31) : (BitVec.ofNat 32 n).toNat = n := by
  rw [BitVec.toNat_ofNat]; exact Nat.mod_eq_of_lt (by omega)

theorem word_lt {n : ℕ} (h : n < 2 ^ 31) : (BitVec.ofNat 32 n).toNat < 2 ^ 31 := by rw [word h]; exact h

/-- A rotation of the rows of which the first `s` are zeroed moves the rows down. -/
theorem rotate_down {x : (⟨2, ![4096, 128]⟩ : Shape).Idx → EReal} {f : ℕ → ℕ → EReal} (hx : Mat (M := 4096) (N := 128) x f)
    (s : ℕ) (hs : s < 4096) (a : Fin 4096) (b : Fin 128) (h : (a.val + 4096 - s) % 4096 < 4096) :
    Scalar.select (IntOp.cmpi .sge (BitVec.ofNat 32 a.val) (BitVec.ofNat 32 s)) (x (ix2 ⟨(a.val + 4096 - s) % 4096, h⟩ b)) 0
      = down s f a b := by
  unfold Scalar.select down
  have ha := a.isLt
  by_cases hd : s ≤ a.val
  · refine (if_pos ?_).trans ?_
    · rw [show (1 : BitVec 1) = 1#1 from rfl, StableHlo.Predicate.sge_iff_toNat (word_lt (by omega)) (word_lt (by omega)), word (by omega), word (by omega)]
      exact hd
    · rw [if_pos hd, hx]
      exact congrArg (fun n => f n b) (by show (a.val + 4096 - s) % 4096 = a.val - s; omega)
  · refine (if_neg ?_).trans (if_neg hd).symm
    rw [show (1 : BitVec 1) = 1#1 from rfl, StableHlo.Predicate.sge_iff_toNat (word_lt (by omega)) (word_lt (by omega)), word (by omega), word (by omega)]
    exact hd

/-- … also of a product. -/
theorem rotate_down_mul {x : (⟨2, ![4096, 128]⟩ : Shape).Idx → EReal} {f : ℕ → ℕ → EReal} (hx : Mat (M := 4096) (N := 128) x f)
    (s : ℕ) (hs : s < 4096) (a : Fin 4096) (b : Fin 128) (h : (a.val + 4096 - s) % 4096 < 4096) (y : EReal) :
    Scalar.select (IntOp.cmpi .sge (BitVec.ofNat 32 a.val) (BitVec.ofNat 32 s)) (x (ix2 ⟨(a.val + 4096 - s) % 4096, h⟩ b) * y) 0
      = down s f a b * y := by
  rw [← rotate_down hx s hs a b h]
  unfold Scalar.select
  split
  · rfl
  · exact (zero_mul y).symm

/-- A rotation of the rows of which the last `s` are zeroed moves the rows up. -/
theorem rotate_up {x : (⟨2, ![4096, 128]⟩ : Shape).Idx → EReal} {f : ℕ → ℕ → EReal} (hx : Mat (M := 4096) (N := 128) x f)
    (s r : ℕ) (hs : 0 < s) (hsr : s + r = 4096) (a : Fin 4096) (b : Fin 128) (h : (a.val + 4096 - r) % 4096 < 4096) :
    Scalar.select (IntOp.cmpi .slt (BitVec.ofNat 32 a.val) (BitVec.ofNat 32 r)) (x (ix2 ⟨(a.val + 4096 - r) % 4096, h⟩ b)) 0
      = up s f a b := by
  unfold Scalar.select up
  have ha := a.isLt
  by_cases hd : a.val < r
  · refine (if_pos ?_).trans ?_
    · rw [show (1 : BitVec 1) = 1#1 from rfl, StableHlo.Predicate.slt_iff_toNat (word_lt (by omega)) (word_lt (by omega)), word (by omega), word (by omega)]
      exact hd
    · rw [if_pos (by omega), hx]
      exact congrArg (fun n => f n b) (by show (a.val + 4096 - r) % 4096 = a.val + s; omega)
  · refine (if_neg ?_).trans (if_neg (by omega)).symm
    rw [show (1 : BitVec 1) = 1#1 from rfl, StableHlo.Predicate.slt_iff_toNat (word_lt (by omega)) (word_lt (by omega)), word (by omega), word (by omega)]
    exact hd

/-- … also of a product. -/
theorem rotate_up_mul {x : (⟨2, ![4096, 128]⟩ : Shape).Idx → EReal} {f : ℕ → ℕ → EReal} (hx : Mat (M := 4096) (N := 128) x f)
    (s r : ℕ) (hs : 0 < s) (hsr : s + r = 4096) (a : Fin 4096) (b : Fin 128) (h : (a.val + 4096 - r) % 4096 < 4096) (g : ℕ → EReal) :
    Scalar.select (IntOp.cmpi .slt (BitVec.ofNat 32 a.val) (BitVec.ofNat 32 r)) (x (ix2 ⟨(a.val + 4096 - r) % 4096, h⟩ b) * g b) 0
      = up s (fun a b => f a b * g b) a b := by
  have e := rotate_up hx s r hs hsr a b h
  unfold Scalar.select up at *
  split <;> rename_i hc
  · rw [if_pos hc] at e
    rw [e, ite_mul, zero_mul]
  · rw [if_neg hc] at e
    split <;> rename_i hd
    · rw [if_pos hd] at e
      show (0 : EReal) = f (a + s) b * g b
      rw [← e, zero_mul]
    · rfl

/-- Two matrices side by side, the second from column `n` on. -/
def cat (n : ℕ) (f g : ℕ → ℕ → EReal) (a b : ℕ) : EReal := if b < n then f a b else g a (b - n)

/-! ## Products -/

/-- The product of two matrices over `K` terms, and those with the second and with the first transposed. -/
def mul (K : ℕ) (f g : ℕ → ℕ → EReal) (a b : ℕ) : EReal := ∑ k ∈ Finset.range K, f a k * g k b
def mulT (K : ℕ) (f g : ℕ → ℕ → EReal) (a b : ℕ) : EReal := ∑ k ∈ Finset.range K, f a k * g b k
def Tmul (K : ℕ) (f g : ℕ → ℕ → EReal) (a b : ℕ) : EReal := ∑ k ∈ Finset.range K, f k a * g k b

/-! ## The norm -/

/-- The mean of a row's squares, a little above it. -/
def meanSq (h : ℕ → ℕ → EReal) (a : ℕ) : EReal :=
  Ideal.div (∑ k ∈ Finset.range 1024, h a k * h a k) (Ideal.ofBits FTy.f32 1149239296#32) + Ideal.ofBits FTy.f32 897988541#32

/-- A row divided by its length, and that scaled by the gains. -/
def unit (h : ℕ → ℕ → EReal) (a b : ℕ) : EReal := h a b * Ideal.rsqrt (meanSq h a)
def rms (h : ℕ → ℕ → EReal) (g : ℕ → EReal) (a b : ℕ) : EReal := unit h a b * g b

/-- What the mean of a row's squares receives. -/
def dMean (h : ℕ → ℕ → EReal) (g : ℕ → EReal) (d : ℕ → ℕ → EReal) (a : ℕ) : EReal :=
  Ideal.div ((∑ k ∈ Finset.range 1024, h a k * (d a k * g k)) *
    (Ideal.ofBits FTy.f32 3204448256#32 * Ideal.div (Ideal.rsqrt (meanSq h a)) (meanSq h a))) (Ideal.ofBits FTy.f32 1149239296#32)

/-- The gradient of the norm's rows, with what reaches them past the block. -/
def dRms (h : ℕ → ℕ → EReal) (g : ℕ → EReal) (d e : ℕ → ℕ → EReal) (a b : ℕ) : EReal :=
  d a b * g b * Ideal.rsqrt (meanSq h a) + h a b * dMean h g d a + dMean h g d a * h a b + e a b

/-- The gradient of the gains, from `n` rows. -/
def dGain (n : ℕ) (h d : ℕ → ℕ → EReal) (b : ℕ) : EReal := ∑ a ∈ Finset.range n, unit h a b * d a b

/-! ## The convolution and the gate -/

/-- The convolution over a row and the two before it. -/
def conv (w : ℕ → ℕ → EReal) (c : ℕ → EReal) (u : ℕ → ℕ → EReal) (a b : ℕ) : EReal :=
  u a b * w 2 b + down 1 u a b * w 1 b + down 2 u a b * w 0 b + c b

/-- Its gradient in the rows. -/
def unconv (w d : ℕ → ℕ → EReal) (a b : ℕ) : EReal :=
  up 2 (fun a b => d a b * w 0 b) a b + up 1 (fun a b => d a b * w 1 b) a b + d a b * w 2 b

/-- Its gradient in the weights of the rows moved down by `s`, and in the biases. -/
def dTap (s : ℕ) (u d : ℕ → ℕ → EReal) (b : ℕ) : EReal := ∑ a ∈ Finset.range 4096, down s u a b * d a b
def dBias (d : ℕ → ℕ → EReal) (b : ℕ) : EReal := ∑ a ∈ Finset.range 4096, d a b

/-- The gate. -/
def gated (p q : ℕ → ℕ → EReal) (a b : ℕ) : EReal := p a b * Ideal.logistic (p a b) * q a b

/-- Its gradients. -/
def dGate (p q d : ℕ → ℕ → EReal) (a b : ℕ) : EReal :=
  d a b * q a b * Ideal.logistic (p a b) + p a b * (d a b * q a b) * (Ideal.logistic (p a b) * (1 - Ideal.logistic (p a b)))
def dValue (p d : ℕ → ℕ → EReal) (a b : ℕ) : EReal := p a b * Ideal.logistic (p a b) * d a b

/-! ## Sums of which a part is added -/

theorem Tmul_add (n m : ℕ) (f g : ℕ → ℕ → EReal) (a b : ℕ) :
    Tmul (n + m) f g a b = Tmul n f g a b + Tmul m (fun r => f (n + r)) (fun r => g (n + r)) a b := by
  unfold Tmul; exact Finset.sum_range_add _ n m

theorem dGain_add (n m : ℕ) (h d : ℕ → ℕ → EReal) (b : ℕ) :
    dGain (n + m) h d b = dGain n h d b + dGain m (fun r => h (n + r)) (fun r => d (n + r)) b := by
  unfold dGain; exact Finset.sum_range_add _ n m

/-- Four blocks of 1024 rows: after block `k`, the sum over the rows so far. -/
theorem Tmul_step {n k : ℕ} (f g : ℕ → ℕ → EReal) (h0 : ¬n % 4 = 0) (hk : k = n % 4 * 1024) (a b : ℕ) :
    Tmul (((n - 1) % 4 + 1) * 1024) f g a b + Tmul 1024 (fun r => f (k + r)) (fun r => g (k + r)) a b = Tmul ((n % 4 + 1) * 1024) f g a b := by
  rw [show (n - 1) % 4 + 1 = n % 4 by omega, ← hk, ← Tmul_add, show (n % 4 + 1) * 1024 = k + 1024 by omega]

theorem Tmul_first {n : ℕ} (f g : ℕ → ℕ → EReal) (h0 : n % 4 = 0) (a b : ℕ) :
    0 + Tmul 1024 (fun r => f (n % 4 * 1024 + r)) (fun r => g (n % 4 * 1024 + r)) a b = Tmul ((n % 4 + 1) * 1024) f g a b := by
  rw [h0, zero_add]; simp only [Nat.zero_mul, Nat.zero_add, Nat.one_mul]

end Cert.Mlp
-- ==== Proof.FfnSpec.lean ====
/- The feed-forward block and its gradients, as functions of the seven arguments. -/
module

public import proofs.«01_k».proof.Proof.FfnMat

@[expose] public section

noncomputable section

namespace Cert.Mlp

open Idealize.ShloMosaic

/-- The right half of a matrix of 5632 columns, and of a row. -/
abbrev hi (u : ℕ → ℕ → EReal) (a b : ℕ) : EReal := u a (2816 + b)
abbrev hi1 (p : ℕ → EReal) (b : ℕ) : EReal := p (2816 + b)

section
variable (h d : ℕ → ℕ → EReal) (g : ℕ → EReal) (U w : ℕ → ℕ → EReal) (p : ℕ → EReal) (D : ℕ → ℕ → EReal)

/-- The rows after the norm, and the two halves of what the first weights make of them. -/
def nrm : ℕ → ℕ → EReal := rms h g
def gateIn : ℕ → ℕ → EReal := mul 1024 (nrm h g) U
def valueIn : ℕ → ℕ → EReal := mul 1024 (nrm h g) (hi U)
/-- The two halves after the convolution. -/
def gateC : ℕ → ℕ → EReal := conv w p (gateIn h g U)
def valueC : ℕ → ℕ → EReal := conv (hi w) (hi1 p) (valueIn h g U)
/-- The gated rows, and the block's result. -/
def act : ℕ → ℕ → EReal := gated (gateC h g U w p) (valueC h g U w p)
def outF (a b : ℕ) : EReal := mul 2816 (act h g U w p) D a b + h a b
/-- The gradients at the gated rows, at the two halves after the convolution, and before it. -/
def dAct : ℕ → ℕ → EReal := mulT 1024 d D
def dGateC : ℕ → ℕ → EReal := dGate (gateC h g U w p) (valueC h g U w p) (dAct d D)
def dValueC : ℕ → ℕ → EReal := dValue (gateC h g U w p) (dAct d D)
def dGateIn : ℕ → ℕ → EReal := unconv w (dGateC h d g U w p D)
def dValueIn : ℕ → ℕ → EReal := unconv (hi w) (dValueC h d g U w p D)
/-- The gradient at the rows after the norm. -/
def dNrm (a b : ℕ) : EReal := mulT 2816 (dValueIn h d g U w p D) (hi U) a b + mulT 2816 (dGateIn h d g U w p D) U a b
/-- The two gradients side by side. -/
def dConv (a b : ℕ) : EReal := if b < 2816 then dGateC h d g U w p D a b else dValueC h d g U w p D a (b - 2816)
/-- The gradients of the two weights, of the convolution's weights and of its biases. -/
def dUp (l a b : ℕ) : EReal :=
  if 2 ≤ l then Tmul 4096 (nrm h g) (fun r b => dValueIn h d g U w p D r ((l - 2) * 1408 + b)) a b
  else if l < 2 then Tmul 4096 (nrm h g) (fun r b => dGateIn h d g U w p D r (l * 1408 + b)) a b else 0
def dDown : ℕ → ℕ → EReal := Tmul 4096 (act h g U w p) d
def dConvW (a b : ℕ) : EReal :=
  if b < 2816 then (if a = 0 then dTap 2 (gateIn h g U) (dGateC h d g U w p D) b
    else if a = 1 then dTap 1 (gateIn h g U) (dGateC h d g U w p D) b else dTap 0 (gateIn h g U) (dGateC h d g U w p D) b)
  else (if a = 0 then dTap 2 (valueIn h g U) (dValueC h d g U w p D) (b - 2816)
    else if a = 1 then dTap 1 (valueIn h g U) (dValueC h d g U w p D) (b - 2816)
    else dTap 0 (valueIn h g U) (dValueC h d g U w p D) (b - 2816))
def dConvB (b : ℕ) : EReal :=
  if b < 2816 then dBias (dGateC h d g U w p D) b else dBias (dValueC h d g U w p D) (b - 2816)
end

end Cert.Mlp
-- ==== Proof.FfnHost.lean ====
/- The host operations between the calls of the feed-forward block: slices, reshapes and concatenations, read at an index. -/
module

public import proofs.«01_k».proof.Proof.Gen.FfnIdeal.Launch
public import proofs.«01_k».proof.Proof.FfnMat
public import Idealize.ShloMosaic.Lib.StableHlo.ReadAt

@[expose] public section

set_option maxRecDepth 16384

noncomputable section

namespace Cert.Mlp

open Idealize.ShloMosaic Idealize.ShloMosaic.TcCoe Idealize.SL.Sem Cert.FfnIdeal Cert.FfnIdeal.Gen

variable (X : Valuation τ sig (Elt Ideal))

theorem host0_v0 {g : ℕ → EReal}
    (h0 : Row (N := 1024) (X (Proc.devRef .tc main_arg2)) (g)) :
    Mat (M := 1) (N := 1024) (StableHlo.after hostOps0 X (Proc.devRef .tc main_v0)) (fun _ => g) := by
  intro a b
  after_reads_at
  simp only [h0.e]

theorem host0_v1 {u : ℕ → ℕ → EReal}
    (h0 : Mat (M := 1024) (N := 5632) (X (Proc.devRef .tc main_arg3)) (u)) :
    Mat3 (L := 1) (M := 1024) (N := 5632) (StableHlo.after hostOps0 X (Proc.devRef .tc main_v1)) (fun _ => u) := by
  intro l a b
  after_reads_at
  simp only [h0.e]

theorem host0_v2 {u : ℕ → ℕ → EReal}
    (h0 : Mat (M := 3) (N := 5632) (X (Proc.devRef .tc main_arg4)) (u)) :
    Mat3 (L := 1) (M := 3) (N := 5632) (StableHlo.after hostOps0 X (Proc.devRef .tc main_v2)) (fun _ => u) := by
  intro l a b
  after_reads_at
  simp only [h0.e]

theorem host0_v3 {g : ℕ → EReal}
    (h0 : Row (N := 5632) (X (Proc.devRef .tc main_arg5)) (g)) :
    Mat (M := 1) (N := 5632) (StableHlo.after hostOps0 X (Proc.devRef .tc main_v3)) (fun _ => g) := by
  intro a b
  after_reads_at
  simp only [h0.e]

theorem host0_v4 {u : ℕ → ℕ → EReal}
    (h0 : Mat (M := 2816) (N := 1024) (X (Proc.devRef .tc main_arg6)) (u)) :
    Mat3 (L := 1) (M := 2816) (N := 1024) (StableHlo.after hostOps0 X (Proc.devRef .tc main_v4)) (fun _ => u) := by
  intro l a b
  after_reads_at
  simp only [h0.e]

theorem host0_v5 {u : ℕ → ℕ → EReal}
    (h0 : Mat (M := 1024) (N := 5632) (X (Proc.devRef .tc main_arg3)) (u)) :
    Mat (M := 1024) (N := 5632) (StableHlo.after hostOps0 X (Proc.devRef .tc main_v5)) (u) := by
  intro a b
  after_reads_at
  simp only [h0.e]

theorem host0_v6 {u : ℕ → ℕ → EReal}
    (h0 : Mat (M := 2816) (N := 1024) (X (Proc.devRef .tc main_arg6)) (u)) :
    Mat (M := 2816) (N := 1024) (StableHlo.after hostOps0 X (Proc.devRef .tc main_v6)) (u) := by
  intro a b
  after_reads_at
  simp only [h0.e]

theorem host0_v8 {g : ℕ → EReal}
    (h0 : Row (N := 1024) (X (Proc.devRef .tc main_arg2)) (g)) :
    Mat (M := 1) (N := 1024) (StableHlo.after hostOps0 X (Proc.devRef .tc main_v8)) (fun _ => g) := by
  intro a b
  after_reads_at
  simp only [h0.e]

theorem host1_v10 {u : ℕ → ℕ → EReal}
    (h0 : Mat (M := 1024) (N := 5632) (X (Proc.devRef .tc main_v5)) (u)) :
    Mat (M := 1024) (N := 2816) (StableHlo.after hostOps1 X (Proc.devRef .tc main_v10)) (u) := by
  intro a b
  after_reads_at
  simp only [h0.e]

theorem host2_v12 {u : ℕ → ℕ → EReal}
    (h0 : Mat (M := 1024) (N := 5632) (X (Proc.devRef .tc main_v5)) (u)) :
    Mat (M := 1024) (N := 2816) (StableHlo.after hostOps2 X (Proc.devRef .tc main_v12)) (fun a b => u a (2816 + b)) := by
  intro a b
  after_reads_at
  simp only [h0.e]

theorem host3_v16 {u : ℕ → ℕ → EReal}
    (h0 : Mat3 (L := 1) (M := 3) (N := 5632) (X (Proc.devRef .tc main_v2)) (fun _ => u)) :
    Mat (M := 1) (N := 2816) (StableHlo.after hostOps3 X (Proc.devRef .tc main_v16)) (fun _ => u 0) := by
  intro a b
  after_reads_at
  simp only [h0.e]
  rfl

theorem host3_v17 {u : ℕ → ℕ → EReal}
    (h0 : Mat3 (L := 1) (M := 3) (N := 5632) (X (Proc.devRef .tc main_v2)) (fun _ => u)) :
    Mat (M := 1) (N := 2816) (StableHlo.after hostOps3 X (Proc.devRef .tc main_v17)) (fun _ => u 1) := by
  intro a b
  after_reads_at
  simp only [h0.e]
  rfl

theorem host3_v18 {u : ℕ → ℕ → EReal}
    (h0 : Mat3 (L := 1) (M := 3) (N := 5632) (X (Proc.devRef .tc main_v2)) (fun _ => u)) :
    Mat (M := 1) (N := 2816) (StableHlo.after hostOps3 X (Proc.devRef .tc main_v18)) (fun _ => u 2) := by
  intro a b
  after_reads_at
  simp only [h0.e]
  rfl

theorem host3_v19 {u : ℕ → ℕ → EReal}
    (h0 : Mat3 (L := 1) (M := 3) (N := 5632) (X (Proc.devRef .tc main_v2)) (fun _ => u)) :
    Mat (M := 1) (N := 2816) (StableHlo.after hostOps3 X (Proc.devRef .tc main_v19)) (fun _ b => u 0 (2816 + b)) := by
  intro a b
  after_reads_at
  simp only [h0.e]
  rfl

theorem host3_v20 {u : ℕ → ℕ → EReal}
    (h0 : Mat3 (L := 1) (M := 3) (N := 5632) (X (Proc.devRef .tc main_v2)) (fun _ => u)) :
    Mat (M := 1) (N := 2816) (StableHlo.after hostOps3 X (Proc.devRef .tc main_v20)) (fun _ b => u 1 (2816 + b)) := by
  intro a b
  after_reads_at
  simp only [h0.e]
  rfl

theorem host3_v21 {u : ℕ → ℕ → EReal}
    (h0 : Mat3 (L := 1) (M := 3) (N := 5632) (X (Proc.devRef .tc main_v2)) (fun _ => u)) :
    Mat (M := 1) (N := 2816) (StableHlo.after hostOps3 X (Proc.devRef .tc main_v21)) (fun _ b => u 2 (2816 + b)) := by
  intro a b
  after_reads_at
  simp only [h0.e]
  rfl

theorem host3_v23 {g : ℕ → EReal}
    (h0 : Mat (M := 1) (N := 5632) (X (Proc.devRef .tc main_v3)) (fun _ => g)) :
    Mat (M := 1) (N := 2816) (StableHlo.after hostOps3 X (Proc.devRef .tc main_v23)) (fun _ => g) := by
  intro a b
  after_reads_at
  simp only [h0.e]

theorem host3_v25 {g : ℕ → EReal}
    (h0 : Mat (M := 1) (N := 5632) (X (Proc.devRef .tc main_v3)) (fun _ => g)) :
    Mat (M := 1) (N := 2816) (StableHlo.after hostOps3 X (Proc.devRef .tc main_v25)) (fun _ b => g (2816 + b)) := by
  intro a b
  after_reads_at
  simp only [h0.e]

theorem host7_v34 {u : ℕ → ℕ → EReal}
    (h0 : Mat3 (L := 1) (M := 3) (N := 5632) (X (Proc.devRef .tc main_v2)) (fun _ => u)) :
    Mat (M := 1) (N := 2816) (StableHlo.after hostOps7 X (Proc.devRef .tc main_v34)) (fun _ => u 0) := by
  intro a b
  after_reads_at
  simp only [h0.e]
  rfl

theorem host7_v35 {u : ℕ → ℕ → EReal}
    (h0 : Mat3 (L := 1) (M := 3) (N := 5632) (X (Proc.devRef .tc main_v2)) (fun _ => u)) :
    Mat (M := 1) (N := 2816) (StableHlo.after hostOps7 X (Proc.devRef .tc main_v35)) (fun _ => u 1) := by
  intro a b
  after_reads_at
  simp only [h0.e]
  rfl

theorem host7_v36 {u : ℕ → ℕ → EReal}
    (h0 : Mat3 (L := 1) (M := 3) (N := 5632) (X (Proc.devRef .tc main_v2)) (fun _ => u)) :
    Mat (M := 1) (N := 2816) (StableHlo.after hostOps7 X (Proc.devRef .tc main_v36)) (fun _ => u 2) := by
  intro a b
  after_reads_at
  simp only [h0.e]
  rfl

theorem host7_v37 {u : ℕ → ℕ → EReal}
    (h0 : Mat3 (L := 1) (M := 3) (N := 5632) (X (Proc.devRef .tc main_v2)) (fun _ => u)) :
    Mat (M := 1) (N := 2816) (StableHlo.after hostOps7 X (Proc.devRef .tc main_v37)) (fun _ b => u 0 (2816 + b)) := by
  intro a b
  after_reads_at
  simp only [h0.e]
  rfl

theorem host7_v38 {u : ℕ → ℕ → EReal}
    (h0 : Mat3 (L := 1) (M := 3) (N := 5632) (X (Proc.devRef .tc main_v2)) (fun _ => u)) :
    Mat (M := 1) (N := 2816) (StableHlo.after hostOps7 X (Proc.devRef .tc main_v38)) (fun _ b => u 1 (2816 + b)) := by
  intro a b
  after_reads_at
  simp only [h0.e]
  rfl

theorem host7_v39 {u : ℕ → ℕ → EReal}
    (h0 : Mat3 (L := 1) (M := 3) (N := 5632) (X (Proc.devRef .tc main_v2)) (fun _ => u)) :
    Mat (M := 1) (N := 2816) (StableHlo.after hostOps7 X (Proc.devRef .tc main_v39)) (fun _ b => u 2 (2816 + b)) := by
  intro a b
  after_reads_at
  simp only [h0.e]
  rfl

theorem host7_v41 {g : ℕ → EReal}
    (h0 : Mat (M := 1) (N := 5632) (X (Proc.devRef .tc main_v3)) (fun _ => g)) :
    Mat (M := 1) (N := 2816) (StableHlo.after hostOps7 X (Proc.devRef .tc main_v41)) (fun _ => g) := by
  intro a b
  after_reads_at
  simp only [h0.e]

theorem host7_v43 {g : ℕ → EReal}
    (h0 : Mat (M := 1) (N := 5632) (X (Proc.devRef .tc main_v3)) (fun _ => g)) :
    Mat (M := 1) (N := 2816) (StableHlo.after hostOps7 X (Proc.devRef .tc main_v43)) (fun _ b => g (2816 + b)) := by
  intro a b
  after_reads_at
  simp only [h0.e]

theorem host5_v28 {u : ℕ → ℕ → EReal}
    (h0 : Mat3 (L := 1) (M := 1024) (N := 5632) (X (Proc.devRef .tc main_v1)) (fun _ => u)) :
    Mat (M := 1024) (N := 5632) (StableHlo.after hostOps5 X (Proc.devRef .tc main_v28)) (u) := by
  intro a b
  after_reads_at
  simp only [h0.e]

theorem host5_v29 {u : ℕ → ℕ → EReal}
    (h0 : Mat3 (L := 1) (M := 2816) (N := 1024) (X (Proc.devRef .tc main_v4)) (fun _ => u)) :
    Mat (M := 2816) (N := 1024) (StableHlo.after hostOps5 X (Proc.devRef .tc main_v29)) (u) := by
  intro a b
  after_reads_at
  simp only [h0.e]

theorem host8_v47 {p : ℕ → EReal} {q : ℕ → EReal} {r : ℕ → EReal} {s : ℕ → EReal} {t : ℕ → EReal} {v : ℕ → EReal}
    (h0 : Mat (M := 1) (N := 2816) (X (Proc.devRef .tc main_v44_2)) (fun _ => p)) (h1 : Mat (M := 1) (N := 2816) (X (Proc.devRef .tc main_v44_3)) (fun _ => q)) (h2 : Mat (M := 1) (N := 2816) (X (Proc.devRef .tc main_v44_4)) (fun _ => r)) (h3 : Mat (M := 1) (N := 2816) (X (Proc.devRef .tc main_v44_5)) (fun _ => s)) (h4 : Mat (M := 1) (N := 2816) (X (Proc.devRef .tc main_v44_6)) (fun _ => t)) (h5 : Mat (M := 1) (N := 2816) (X (Proc.devRef .tc main_v44_7)) (fun _ => v)) :
    Mat (M := 3) (N := 5632) (StableHlo.after hostOps8 X (Proc.devRef .tc main_v47)) (fun a b => if b < 2816 then (if a = 0 then p b else if a = 1 then q b else r b) else (if a = 0 then s (b - 2816) else if a = 1 then t (b - 2816) else v (b - 2816))) := by
  intro a b
  after_reads_at
  after_reads_simp
  obtain ⟨a, ha⟩ := a
  have hs : a = 0 ∨ a = 1 ∨ a = 2 := by omega
  rcases hs with rfl | rfl | rfl <;> simp [h0.e, h1.e, h2.e, h3.e, h4.e, h5.e]

theorem host8_v49 {p : ℕ → EReal} {q : ℕ → EReal}
    (h0 : Mat (M := 1) (N := 2816) (X (Proc.devRef .tc main_v44_8)) (fun _ => p)) (h1 : Mat (M := 1) (N := 2816) (X (Proc.devRef .tc main_v44_9)) (fun _ => q)) :
    Row (N := 5632) (StableHlo.after hostOps8 X (Proc.devRef .tc main_v49)) (fun b => if b < 2816 then p b else q (b - 2816)) := by
  intro b
  after_reads_at
  after_reads_simp
  simp [h0.e, h1.e]

theorem host8_v51
     :
    Mat3 (L := 4) (M := 1024) (N := 1408) (StableHlo.after hostOps8 X (Proc.devRef .tc main_v51)) (fun _ _ _ => 0) := by
  intro l a b
  after_reads_at
  dsimp only [id]
  pointwise

theorem host9_v52 {f : ℕ → ℕ → ℕ → EReal}
    (h0 : Mat3 (L := 4) (M := 1024) (N := 1408) (X (Proc.devRef .tc main_v51)) (f)) :
    Mat3 (L := 4) (M := 1024) (N := 1408) (StableHlo.after hostOps9 X (Proc.devRef .tc main_v52)) (f) := by
  intro l a b
  after_reads_at
  exact h0 l a b

theorem host10_v53 {u : ℕ → ℕ → EReal}
    (h0 : Mat (M := 1024) (N := 5632) (X (Proc.devRef .tc main_v28)) (u)) :
    Mat (M := 1024) (N := 2816) (StableHlo.after hostOps10 X (Proc.devRef .tc main_v53)) (u) := by
  intro a b
  after_reads_at
  simp only [h0.e]

theorem host11_v55 {u : ℕ → ℕ → EReal}
    (h0 : Mat (M := 1024) (N := 5632) (X (Proc.devRef .tc main_v28)) (u)) :
    Mat (M := 1024) (N := 2816) (StableHlo.after hostOps11 X (Proc.devRef .tc main_v55)) (fun a b => u a (2816 + b)) := by
  intro a b
  after_reads_at
  simp only [h0.e]

theorem host12_v58 {g : ℕ → EReal}
    (h0 : Mat (M := 1) (N := 1024) (X (Proc.devRef .tc main_v0)) (fun _ => g)) :
    Mat (M := 1) (N := 1024) (StableHlo.after hostOps12 X (Proc.devRef .tc main_v58)) (fun _ => g) := by
  intro a b
  after_reads_at
  simp only [h0.e]

theorem host13_v60 {u : ℕ → ℕ → EReal}
    (h0 : Mat (M := 2816) (N := 1024) (X (Proc.devRef .tc main_v31)) (u)) :
    Mat3 (L := 4) (M := 704) (N := 1024) (StableHlo.after hostOps13 X (Proc.devRef .tc main_v60)) (fun l a b => u (l * 704 + a) b) := by
  intro l a b
  after_reads_at
  simp only [h0.e]

end Cert.Mlp
-- ==== Proof.FfnBlk.lean ====
/- Where the blocks of the feed-forward block's calls lie, and what they hold of the arrays. -/
module

public import proofs.«01_k».proof.Proof.Gen.FfnIdeal.Frame
public import Idealize.ShloMosaic.Lib.Pipeline.ValueKit
public import proofs.«01_k».proof.Proof.FfnMat

@[expose] public section

set_option maxRecDepth 16384

noncomputable section

namespace Cert.Mlp

open Idealize.ShloMosaic Idealize.ShloMosaic.TcCoe Idealize.SL.Sem Cert.FfnIdeal Cert.FfnIdeal.Gen

/-! ## The index maps -/

theorem at0_0 : ∀ t : Fin grid0.N, win0_0.index t = ![t.val, 0] := by decide +kernel
theorem at0_1 : ∀ t : Fin grid0.N, win0_1.index t = ![0, 0] := by decide +kernel
theorem at0_2 : ∀ t : Fin grid0.N, win0_2.index t = ![t.val, 0] := by decide +kernel
theorem at1_0 : ∀ t : Fin grid1.N, win1_0.index t = ![t.val, 0] := by decide +kernel
theorem at1_1 : ∀ t : Fin grid1.N, win1_1.index t = ![0, 0] := by decide +kernel
theorem at1_2 : ∀ t : Fin grid1.N, win1_2.index t = ![t.val, 0] := by decide +kernel
theorem at2_0 : ∀ t : Fin grid2.N, win2_0.index t = ![t.val, 0] := by decide +kernel
theorem at2_1 : ∀ t : Fin grid2.N, win2_1.index t = ![0, 0] := by decide +kernel
theorem at2_2 : ∀ t : Fin grid2.N, win2_2.index t = ![t.val, 0] := by decide +kernel
theorem at3_0 : ∀ t : Fin grid3.N, win3_0.index t = ![0, t.val] := by decide +kernel
theorem at3_1 : ∀ t : Fin grid3.N, win3_1.index t = ![0, t.val] := by decide +kernel
theorem at3_2 : ∀ t : Fin grid3.N, win3_2.index t = ![0, t.val] := by decide +kernel
theorem at3_3 : ∀ t : Fin grid3.N, win3_3.index t = ![0, t.val] := by decide +kernel
theorem at3_4 : ∀ t : Fin grid3.N, win3_4.index t = ![0, t.val] := by decide +kernel
theorem at3_5 : ∀ t : Fin grid3.N, win3_5.index t = ![0, t.val] := by decide +kernel
theorem at3_6 : ∀ t : Fin grid3.N, win3_6.index t = ![0, t.val] := by decide +kernel
theorem at3_7 : ∀ t : Fin grid3.N, win3_7.index t = ![0, t.val] := by decide +kernel
theorem at3_8 : ∀ t : Fin grid3.N, win3_8.index t = ![0, t.val] := by decide +kernel
theorem at3_9 : ∀ t : Fin grid3.N, win3_9.index t = ![0, t.val] := by decide +kernel
theorem at3_10 : ∀ t : Fin grid3.N, win3_10.index t = ![0, t.val] := by decide +kernel
theorem at4_0 : ∀ t : Fin grid4.N, win4_0.index t = ![t.val, 0] := by decide +kernel
theorem at4_1 : ∀ t : Fin grid4.N, win4_1.index t = ![0, 0] := by decide +kernel
theorem at4_2 : ∀ t : Fin grid4.N, win4_2.index t = ![t.val, 0] := by decide +kernel
theorem at4_3 : ∀ t : Fin grid4.N, win4_3.index t = ![t.val, 0] := by decide +kernel
theorem at5_0 : ∀ t : Fin grid5.N, win5_0.index t = ![t.val, 0] := by decide +kernel
theorem at5_1 : ∀ t : Fin grid5.N, win5_1.index t = ![0, 0] := by decide +kernel
theorem at5_2 : ∀ t : Fin grid5.N, win5_2.index t = ![t.val, 0] := by decide +kernel
theorem at6_0 : ∀ t : Fin grid6.N, win6_0.index t = ![t.val % 4, 0] := by decide +kernel
theorem at6_1 : ∀ t : Fin grid6.N, win6_1.index t = ![t.val % 4, t.val / 4] := by decide +kernel
theorem at6_2 : ∀ t : Fin grid6.N, win6_2.index t = ![0, t.val / 4] := by decide +kernel
theorem at7_0 : ∀ t : Fin grid7.N, win7_0.index t = ![0, t.val] := by decide +kernel
theorem at7_1 : ∀ t : Fin grid7.N, win7_1.index t = ![0, t.val] := by decide +kernel
theorem at7_2 : ∀ t : Fin grid7.N, win7_2.index t = ![0, t.val] := by decide +kernel
theorem at7_3 : ∀ t : Fin grid7.N, win7_3.index t = ![0, t.val] := by decide +kernel
theorem at7_4 : ∀ t : Fin grid7.N, win7_4.index t = ![0, t.val] := by decide +kernel
theorem at7_5 : ∀ t : Fin grid7.N, win7_5.index t = ![0, t.val] := by decide +kernel
theorem at7_6 : ∀ t : Fin grid7.N, win7_6.index t = ![0, t.val] := by decide +kernel
theorem at7_7 : ∀ t : Fin grid7.N, win7_7.index t = ![0, t.val] := by decide +kernel
theorem at7_8 : ∀ t : Fin grid7.N, win7_8.index t = ![0, t.val] := by decide +kernel
theorem at7_9 : ∀ t : Fin grid7.N, win7_9.index t = ![0, t.val] := by decide +kernel
theorem at7_10 : ∀ t : Fin grid7.N, win7_10.index t = ![0, t.val] := by decide +kernel
theorem at7_11 : ∀ t : Fin grid7.N, win7_11.index t = ![0, t.val] := by decide +kernel
theorem at7_12 : ∀ t : Fin grid7.N, win7_12.index t = ![0, t.val] := by decide +kernel
theorem at7_13 : ∀ t : Fin grid7.N, win7_13.index t = ![0, t.val] := by decide +kernel
theorem at7_14 : ∀ t : Fin grid7.N, win7_14.index t = ![0, t.val] := by decide +kernel
theorem at7_15 : ∀ t : Fin grid7.N, win7_15.index t = ![0, t.val] := by decide +kernel
theorem at7_16 : ∀ t : Fin grid7.N, win7_16.index t = ![0, t.val] := by decide +kernel
theorem at7_17 : ∀ t : Fin grid7.N, win7_17.index t = ![0, t.val] := by decide +kernel
theorem at7_18 : ∀ t : Fin grid7.N, win7_18.index t = ![0, t.val] := by decide +kernel
theorem at7_19 : ∀ t : Fin grid7.N, win7_19.index t = ![0, t.val] := by decide +kernel
theorem at7_20 : ∀ t : Fin grid7.N, win7_20.index t = ![0, t.val] := by decide +kernel
theorem at8_0 : ∀ t : Fin grid8.N, win8_0.index t = ![t.val % 4, 0] := by decide +kernel
theorem at8_1 : ∀ t : Fin grid8.N, win8_1.index t = ![t.val % 4, t.val / 4] := by decide +kernel
theorem at8_2 : ∀ t : Fin grid8.N, win8_2.index t = ![t.val / 4, 0, 0] := by decide +kernel
theorem at9_0 : ∀ t : Fin grid9.N, win9_0.index t = ![t.val % 4, 0] := by decide +kernel
theorem at9_1 : ∀ t : Fin grid9.N, win9_1.index t = ![t.val % 4, t.val / 4] := by decide +kernel
theorem at9_2 : ∀ t : Fin grid9.N, win9_2.index t = ![2 + t.val / 4, 0, 0] := by decide +kernel
theorem at10_0 : ∀ t : Fin grid10.N, win10_0.index t = ![t.val, 0] := by decide +kernel
theorem at10_1 : ∀ t : Fin grid10.N, win10_1.index t = ![0, 0] := by decide +kernel
theorem at10_2 : ∀ t : Fin grid10.N, win10_2.index t = ![t.val, 0] := by decide +kernel
theorem at11_0 : ∀ t : Fin grid11.N, win11_0.index t = ![t.val, 0] := by decide +kernel
theorem at11_1 : ∀ t : Fin grid11.N, win11_1.index t = ![0, 0] := by decide +kernel
theorem at11_2 : ∀ t : Fin grid11.N, win11_2.index t = ![t.val, 0] := by decide +kernel
theorem at11_3 : ∀ t : Fin grid11.N, win11_3.index t = ![t.val, 0] := by decide +kernel
theorem at12_0 : ∀ t : Fin grid12.N, win12_0.index t = ![t.val, 0] := by decide +kernel
theorem at12_1 : ∀ t : Fin grid12.N, win12_1.index t = ![0, 0] := by decide +kernel
theorem at12_2 : ∀ t : Fin grid12.N, win12_2.index t = ![t.val, 0] := by decide +kernel
theorem at12_3 : ∀ t : Fin grid12.N, win12_3.index t = ![t.val, 0] := by decide +kernel
theorem at12_4 : ∀ t : Fin grid12.N, win12_4.index t = ![t.val, 0] := by decide +kernel
theorem at12_5 : ∀ t : Fin grid12.N, win12_5.index t = ![0, 0] := by decide +kernel

variable (V : (c : Dev nD) → (b : Ref sig .tc) → Buf (Elt Ideal) ((c : Thread nD τ).loc b)) (c : Dev nD)

/-! ## The blocks of the operands -/

section
variable {f : ℕ → ℕ → EReal}

theorem blk0_0 (h : Mat (M := 4096) (N := 1024) (V c main_arg0) f) (t : Fin grid0.N) :
    Mat (M := 512) (N := 1024) (iblk0 V c 0 t) (fun a b => f (t.val * 512 + a) b) := by
  intro a b
  blk_simp [iblk0]
  refine (h.at _).trans ?_
  blk_simp [at0_0 t]

theorem blk0_1 (h : Mat (M := 1) (N := 1024) (V c main_v8) f) (t : Fin grid0.N) :
    Mat (M := 1) (N := 1024) (iblk0 V c 1 t) f := by
  intro a b
  blk_simp [iblk0]
  refine (h.at _).trans ?_
  blk_simp [at0_1 t]

theorem blk1_0 (h : Mat (M := 4096) (N := 1024) (V c main_v9) f) (t : Fin grid1.N) :
    Mat (M := 512) (N := 1024) (iblk1 V c 0 t) (fun a b => f (t.val * 512 + a) b) := by
  intro a b
  blk_simp [iblk1]
  refine (h.at _).trans ?_
  blk_simp [at1_0 t]

theorem blk1_1 (h : Mat (M := 1024) (N := 2816) (V c main_v10) f) (t : Fin grid1.N) :
    Mat (M := 1024) (N := 2816) (iblk1 V c 1 t) f := by
  intro a b
  blk_simp [iblk1]
  refine (h.at _).trans ?_
  blk_simp [at1_1 t]

theorem blk2_0 (h : Mat (M := 4096) (N := 1024) (V c main_v9) f) (t : Fin grid2.N) :
    Mat (M := 512) (N := 1024) (iblk2 V c 0 t) (fun a b => f (t.val * 512 + a) b) := by
  intro a b
  blk_simp [iblk2]
  refine (h.at _).trans ?_
  blk_simp [at2_0 t]

theorem blk2_1 (h : Mat (M := 1024) (N := 2816) (V c main_v12) f) (t : Fin grid2.N) :
    Mat (M := 1024) (N := 2816) (iblk2 V c 1 t) f := by
  intro a b
  blk_simp [iblk2]
  refine (h.at _).trans ?_
  blk_simp [at2_1 t]

theorem blk3_0 (h : Mat (M := 4096) (N := 2816) (V c main_v11) f) (t : Fin grid3.N) :
    Mat (M := 4096) (N := 128) (iblk3 V c 0 t) (fun a b => f a (t.val * 128 + b)) := by
  intro a b
  blk_simp [iblk3]
  refine (h.at _).trans ?_
  blk_simp [at3_0 t]

theorem blk3_1 (h : Mat (M := 4096) (N := 2816) (V c main_v13) f) (t : Fin grid3.N) :
    Mat (M := 4096) (N := 128) (iblk3 V c 1 t) (fun a b => f a (t.val * 128 + b)) := by
  intro a b
  blk_simp [iblk3]
  refine (h.at _).trans ?_
  blk_simp [at3_1 t]

theorem blk3_2 (h : Mat (M := 1) (N := 2816) (V c main_v16) f) (t : Fin grid3.N) :
    Mat (M := 1) (N := 128) (iblk3 V c 2 t) (fun a b => f a (t.val * 128 + b)) := by
  intro a b
  blk_simp [iblk3]
  refine (h.at _).trans ?_
  blk_simp [at3_2 t]

theorem blk3_3 (h : Mat (M := 1) (N := 2816) (V c main_v17) f) (t : Fin grid3.N) :
    Mat (M := 1) (N := 128) (iblk3 V c 3 t) (fun a b => f a (t.val * 128 + b)) := by
  intro a b
  blk_simp [iblk3]
  refine (h.at _).trans ?_
  blk_simp [at3_3 t]

theorem blk3_4 (h : Mat (M := 1) (N := 2816) (V c main_v18) f) (t : Fin grid3.N) :
    Mat (M := 1) (N := 128) (iblk3 V c 4 t) (fun a b => f a (t.val * 128 + b)) := by
  intro a b
  blk_simp [iblk3]
  refine (h.at _).trans ?_
  blk_simp [at3_4 t]

theorem blk3_5 (h : Mat (M := 1) (N := 2816) (V c main_v19) f) (t : Fin grid3.N) :
    Mat (M := 1) (N := 128) (iblk3 V c 5 t) (fun a b => f a (t.val * 128 + b)) := by
  intro a b
  blk_simp [iblk3]
  refine (h.at _).trans ?_
  blk_simp [at3_5 t]

theorem blk3_6 (h : Mat (M := 1) (N := 2816) (V c main_v20) f) (t : Fin grid3.N) :
    Mat (M := 1) (N := 128) (iblk3 V c 6 t) (fun a b => f a (t.val * 128 + b)) := by
  intro a b
  blk_simp [iblk3]
  refine (h.at _).trans ?_
  blk_simp [at3_6 t]

theorem blk3_7 (h : Mat (M := 1) (N := 2816) (V c main_v21) f) (t : Fin grid3.N) :
    Mat (M := 1) (N := 128) (iblk3 V c 7 t) (fun a b => f a (t.val * 128 + b)) := by
  intro a b
  blk_simp [iblk3]
  refine (h.at _).trans ?_
  blk_simp [at3_7 t]

theorem blk3_8 (h : Mat (M := 1) (N := 2816) (V c main_v23) f) (t : Fin grid3.N) :
    Mat (M := 1) (N := 128) (iblk3 V c 8 t) (fun a b => f a (t.val * 128 + b)) := by
  intro a b
  blk_simp [iblk3]
  refine (h.at _).trans ?_
  blk_simp [at3_8 t]

theorem blk3_9 (h : Mat (M := 1) (N := 2816) (V c main_v25) f) (t : Fin grid3.N) :
    Mat (M := 1) (N := 128) (iblk3 V c 9 t) (fun a b => f a (t.val * 128 + b)) := by
  intro a b
  blk_simp [iblk3]
  refine (h.at _).trans ?_
  blk_simp [at3_9 t]

theorem blk4_0 (h : Mat (M := 4096) (N := 2816) (V c main_v26) f) (t : Fin grid4.N) :
    Mat (M := 512) (N := 2816) (iblk4 V c 0 t) (fun a b => f (t.val * 512 + a) b) := by
  intro a b
  blk_simp [iblk4]
  refine (h.at _).trans ?_
  blk_simp [at4_0 t]

theorem blk4_1 (h : Mat (M := 2816) (N := 1024) (V c main_v6) f) (t : Fin grid4.N) :
    Mat (M := 2816) (N := 1024) (iblk4 V c 1 t) f := by
  intro a b
  blk_simp [iblk4]
  refine (h.at _).trans ?_
  blk_simp [at4_1 t]

theorem blk4_2 (h : Mat (M := 4096) (N := 1024) (V c main_arg0) f) (t : Fin grid4.N) :
    Mat (M := 512) (N := 1024) (iblk4 V c 2 t) (fun a b => f (t.val * 512 + a) b) := by
  intro a b
  blk_simp [iblk4]
  refine (h.at _).trans ?_
  blk_simp [at4_2 t]

theorem blk5_0 (h : Mat (M := 4096) (N := 1024) (V c main_arg1) f) (t : Fin grid5.N) :
    Mat (M := 512) (N := 1024) (iblk5 V c 0 t) (fun a b => f (t.val * 512 + a) b) := by
  intro a b
  blk_simp [iblk5]
  refine (h.at _).trans ?_
  blk_simp [at5_0 t]

theorem blk5_1 (h : Mat (M := 2816) (N := 1024) (V c main_v29) f) (t : Fin grid5.N) :
    Mat (M := 2816) (N := 1024) (iblk5 V c 1 t) f := by
  intro a b
  blk_simp [iblk5]
  refine (h.at _).trans ?_
  blk_simp [at5_1 t]

theorem blk6_0 (h : Mat (M := 4096) (N := 2816) (V c main_v26) f) (t : Fin grid6.N) :
    Mat (M := 1024) (N := 2816) (iblk6 V c 0 t) (fun a b => f ((t.val % 4) * 1024 + a) b) := by
  intro a b
  blk_simp [iblk6]
  refine (h.at _).trans ?_
  blk_simp [at6_0 t]

theorem blk6_1 (h : Mat (M := 4096) (N := 1024) (V c main_arg1) f) (t : Fin grid6.N) :
    Mat (M := 1024) (N := 512) (iblk6 V c 1 t) (fun a b => f ((t.val % 4) * 1024 + a) ((t.val / 4) * 512 + b)) := by
  intro a b
  blk_simp [iblk6]
  refine (h.at _).trans ?_
  blk_simp [at6_1 t]

theorem blk7_0 (h : Mat (M := 4096) (N := 2816) (V c main_v11) f) (t : Fin grid7.N) :
    Mat (M := 4096) (N := 128) (iblk7 V c 0 t) (fun a b => f a (t.val * 128 + b)) := by
  intro a b
  blk_simp [iblk7]
  refine (h.at _).trans ?_
  blk_simp [at7_0 t]

theorem blk7_1 (h : Mat (M := 4096) (N := 2816) (V c main_v13) f) (t : Fin grid7.N) :
    Mat (M := 4096) (N := 128) (iblk7 V c 1 t) (fun a b => f a (t.val * 128 + b)) := by
  intro a b
  blk_simp [iblk7]
  refine (h.at _).trans ?_
  blk_simp [at7_1 t]

theorem blk7_2 (h : Mat (M := 1) (N := 2816) (V c main_v34) f) (t : Fin grid7.N) :
    Mat (M := 1) (N := 128) (iblk7 V c 2 t) (fun a b => f a (t.val * 128 + b)) := by
  intro a b
  blk_simp [iblk7]
  refine (h.at _).trans ?_
  blk_simp [at7_2 t]

theorem blk7_3 (h : Mat (M := 1) (N := 2816) (V c main_v35) f) (t : Fin grid7.N) :
    Mat (M := 1) (N := 128) (iblk7 V c 3 t) (fun a b => f a (t.val * 128 + b)) := by
  intro a b
  blk_simp [iblk7]
  refine (h.at _).trans ?_
  blk_simp [at7_3 t]

theorem blk7_4 (h : Mat (M := 1) (N := 2816) (V c main_v36) f) (t : Fin grid7.N) :
    Mat (M := 1) (N := 128) (iblk7 V c 4 t) (fun a b => f a (t.val * 128 + b)) := by
  intro a b
  blk_simp [iblk7]
  refine (h.at _).trans ?_
  blk_simp [at7_4 t]

theorem blk7_5 (h : Mat (M := 1) (N := 2816) (V c main_v37) f) (t : Fin grid7.N) :
    Mat (M := 1) (N := 128) (iblk7 V c 5 t) (fun a b => f a (t.val * 128 + b)) := by
  intro a b
  blk_simp [iblk7]
  refine (h.at _).trans ?_
  blk_simp [at7_5 t]

theorem blk7_6 (h : Mat (M := 1) (N := 2816) (V c main_v38) f) (t : Fin grid7.N) :
    Mat (M := 1) (N := 128) (iblk7 V c 6 t) (fun a b => f a (t.val * 128 + b)) := by
  intro a b
  blk_simp [iblk7]
  refine (h.at _).trans ?_
  blk_simp [at7_6 t]

theorem blk7_7 (h : Mat (M := 1) (N := 2816) (V c main_v39) f) (t : Fin grid7.N) :
    Mat (M := 1) (N := 128) (iblk7 V c 7 t) (fun a b => f a (t.val * 128 + b)) := by
  intro a b
  blk_simp [iblk7]
  refine (h.at _).trans ?_
  blk_simp [at7_7 t]

theorem blk7_8 (h : Mat (M := 1) (N := 2816) (V c main_v41) f) (t : Fin grid7.N) :
    Mat (M := 1) (N := 128) (iblk7 V c 8 t) (fun a b => f a (t.val * 128 + b)) := by
  intro a b
  blk_simp [iblk7]
  refine (h.at _).trans ?_
  blk_simp [at7_8 t]

theorem blk7_9 (h : Mat (M := 1) (N := 2816) (V c main_v43) f) (t : Fin grid7.N) :
    Mat (M := 1) (N := 128) (iblk7 V c 9 t) (fun a b => f a (t.val * 128 + b)) := by
  intro a b
  blk_simp [iblk7]
  refine (h.at _).trans ?_
  blk_simp [at7_9 t]

theorem blk7_10 (h : Mat (M := 4096) (N := 2816) (V c main_v30) f) (t : Fin grid7.N) :
    Mat (M := 4096) (N := 128) (iblk7 V c 10 t) (fun a b => f a (t.val * 128 + b)) := by
  intro a b
  blk_simp [iblk7]
  refine (h.at _).trans ?_
  blk_simp [at7_10 t]

theorem blk8_0 (h : Mat (M := 4096) (N := 1024) (V c main_v9) f) (t : Fin grid8.N) :
    Mat (M := 1024) (N := 1024) (iblk8 V c 0 t) (fun a b => f ((t.val % 4) * 1024 + a) b) := by
  intro a b
  blk_simp [iblk8]
  refine (h.at _).trans ?_
  blk_simp [at8_0 t]

theorem blk8_1 (h : Mat (M := 4096) (N := 2816) (V c main_v44_0) f) (t : Fin grid8.N) :
    Mat (M := 1024) (N := 1408) (iblk8 V c 1 t) (fun a b => f ((t.val % 4) * 1024 + a) ((t.val / 4) * 1408 + b)) := by
  intro a b
  blk_simp [iblk8]
  refine (h.at _).trans ?_
  blk_simp [at8_1 t]

theorem blk9_0 (h : Mat (M := 4096) (N := 1024) (V c main_v9) f) (t : Fin grid9.N) :
    Mat (M := 1024) (N := 1024) (iblk9 V c 0 t) (fun a b => f ((t.val % 4) * 1024 + a) b) := by
  intro a b
  blk_simp [iblk9]
  refine (h.at _).trans ?_
  blk_simp [at9_0 t]

theorem blk9_1 (h : Mat (M := 4096) (N := 2816) (V c main_v44_1) f) (t : Fin grid9.N) :
    Mat (M := 1024) (N := 1408) (iblk9 V c 1 t) (fun a b => f ((t.val % 4) * 1024 + a) ((t.val / 4) * 1408 + b)) := by
  intro a b
  blk_simp [iblk9]
  refine (h.at _).trans ?_
  blk_simp [at9_1 t]

theorem blk10_0 (h : Mat (M := 4096) (N := 2816) (V c main_v44_0) f) (t : Fin grid10.N) :
    Mat (M := 512) (N := 2816) (iblk10 V c 0 t) (fun a b => f (t.val * 512 + a) b) := by
  intro a b
  blk_simp [iblk10]
  refine (h.at _).trans ?_
  blk_simp [at10_0 t]

theorem blk10_1 (h : Mat (M := 1024) (N := 2816) (V c main_v53) f) (t : Fin grid10.N) :
    Mat (M := 1024) (N := 2816) (iblk10 V c 1 t) f := by
  intro a b
  blk_simp [iblk10]
  refine (h.at _).trans ?_
  blk_simp [at10_1 t]

theorem blk11_0 (h : Mat (M := 4096) (N := 2816) (V c main_v44_1) f) (t : Fin grid11.N) :
    Mat (M := 512) (N := 2816) (iblk11 V c 0 t) (fun a b => f (t.val * 512 + a) b) := by
  intro a b
  blk_simp [iblk11]
  refine (h.at _).trans ?_
  blk_simp [at11_0 t]

theorem blk11_1 (h : Mat (M := 1024) (N := 2816) (V c main_v55) f) (t : Fin grid11.N) :
    Mat (M := 1024) (N := 2816) (iblk11 V c 1 t) f := by
  intro a b
  blk_simp [iblk11]
  refine (h.at _).trans ?_
  blk_simp [at11_1 t]

theorem blk11_2 (h : Mat (M := 4096) (N := 1024) (V c main_v54) f) (t : Fin grid11.N) :
    Mat (M := 512) (N := 1024) (iblk11 V c 2 t) (fun a b => f (t.val * 512 + a) b) := by
  intro a b
  blk_simp [iblk11]
  refine (h.at _).trans ?_
  blk_simp [at11_2 t]

theorem blk12_0 (h : Mat (M := 4096) (N := 1024) (V c main_arg0) f) (t : Fin grid12.N) :
    Mat (M := 512) (N := 1024) (iblk12 V c 0 t) (fun a b => f (t.val * 512 + a) b) := by
  intro a b
  blk_simp [iblk12]
  refine (h.at _).trans ?_
  blk_simp [at12_0 t]

theorem blk12_1 (h : Mat (M := 1) (N := 1024) (V c main_v58) f) (t : Fin grid12.N) :
    Mat (M := 1) (N := 1024) (iblk12 V c 1 t) f := by
  intro a b
  blk_simp [iblk12]
  refine (h.at _).trans ?_
  blk_simp [at12_1 t]

theorem blk12_2 (h : Mat (M := 4096) (N := 1024) (V c main_v56) f) (t : Fin grid12.N) :
    Mat (M := 512) (N := 1024) (iblk12 V c 2 t) (fun a b => f (t.val * 512 + a) b) := by
  intro a b
  blk_simp [iblk12]
  refine (h.at _).trans ?_
  blk_simp [at12_2 t]

theorem blk12_3 (h : Mat (M := 4096) (N := 1024) (V c main_arg1) f) (t : Fin grid12.N) :
    Mat (M := 512) (N := 1024) (iblk12 V c 3 t) (fun a b => f (t.val * 512 + a) b) := by
  intro a b
  blk_simp [iblk12]
  refine (h.at _).trans ?_
  blk_simp [at12_3 t]

end

end Cert.Mlp
-- ==== Proof.FfnPay.lean ====
/- The calls of the feed-forward block: what one step computes, at an index. -/
module

public import proofs.«01_k».proof.Proof.Gen.FfnIdeal.Skeleton
public import Idealize.ShloMosaic.Lib.Pointwise
public import Idealize.ShloMosaic.Lib.KernelVsHost
public import Idealize.ShloMosaic.Lib.Pipeline.ValueKit
public import Idealize.ShloMosaic.Lib.StableHlo.Predicate
public import proofs.«01_k».proof.Proof.FfnMat

@[expose] public section

set_option maxRecDepth 16384

noncomputable section

namespace Cert.Mlp

open Idealize.ShloMosaic Idealize.SL.Sem Cert.FfnIdeal Cert.FfnIdeal.Gen
open scoped BigOperators

/-! ## The norm, the products -/

section
variable {f g h : ℕ → ℕ → EReal}

theorem k0_pay1_mat {v0 : Vec Ideal S512x1024 .f32} {v1 : Vec Ideal S1x1024 .f32} {g : ℕ → EReal} (h0 : Mat (M := 512) (N := 1024) v0 f)
    (h1 : Mat (M := 1) (N := 1024) v1 fun _ => g) : Mat (M := 512) (N := 1024) (k0_pay1 v0 v1) (rms f g) := fun a b => by
  pointwise [k0_pay1]
  simp only [h0.e, h1.e]
  unfold rms unit meanSq
  rw [Finset.sum_range]

theorem k1_pay1_mat {v0 : Vec Ideal S512x1024 .bf16} {v1 : Vec Ideal S1024x2816 .bf16} (h0 : Mat (M := 512) (N := 1024) v0 f)
    (h1 : Mat (M := 1024) (N := 2816) v1 g) : Mat (M := 512) (N := 2816) (k1_pay1 v0 v1) (mul 1024 f g) := fun a b => by
  pointwise [k1_pay1]
  simp only [h0.e, h1.e]
  exact (Finset.sum_range fun k => f a k * g k b).symm

theorem k2_pay1_mat {v0 : Vec Ideal S512x1024 .bf16} {v1 : Vec Ideal S1024x2816 .bf16} (h0 : Mat (M := 512) (N := 1024) v0 f)
    (h1 : Mat (M := 1024) (N := 2816) v1 g) : Mat (M := 512) (N := 2816) (k2_pay1 v0 v1) (mul 1024 f g) := fun a b => by
  pointwise [k2_pay1]
  simp only [h0.e, h1.e]
  exact (Finset.sum_range fun k => f a k * g k b).symm

theorem k4_pay1_mat {v0 : Vec Ideal S512x2816 .bf16} {v1 : Vec Ideal S2816x1024 .bf16} {v2 : Vec Ideal S512x1024 .f32} (h0 : Mat (M := 512) (N := 2816) v0 f)
    (h1 : Mat (M := 2816) (N := 1024) v1 g) (h2 : Mat (M := 512) (N := 1024) v2 h) :
    Mat (M := 512) (N := 1024) (k4_pay1 v0 v1 v2) (fun a b => mul 2816 f g a b + h a b) := fun a b => by
  pointwise [k4_pay1]
  simp only [h0.e, h1.e, h2.e]
  exact congrArg (· + h a b) (Finset.sum_range fun k => f a k * g k b).symm

theorem k5_pay1_mat {v0 : Vec Ideal S512x1024 .f32} {v1 : Vec Ideal S2816x1024 .bf16} (h0 : Mat (M := 512) (N := 1024) v0 f)
    (h1 : Mat (M := 2816) (N := 1024) v1 g) : Mat (M := 512) (N := 2816) (k5_pay1 v0 v1) (mulT 1024 f g) := fun a b => by
  pointwise [k5_pay1]
  simp only [h0.e, h1.e]
  exact (Finset.sum_range fun k => f a k * g b k).symm

theorem k6_pay1_mat : Mat (M := 2816) (N := 512) (k6_pay1 (F := Ideal)) fun _ _ => 0 := fun a b => by
  pointwise [k6_pay1]

theorem k6_pay2_mat {v0 : Vec Ideal S1024x2816 .bf16} {v1 : Vec Ideal S1024x512 .f32} {v2 : Vec Ideal S2816x512 .f32} (h0 : Mat (M := 1024) (N := 2816) v0 f)
    (h1 : Mat (M := 1024) (N := 512) v1 g) (h2 : Mat (M := 2816) (N := 512) v2 h) :
    Mat (M := 2816) (N := 512) (k6_pay2 v0 v1 v2) (fun a b => h a b + Tmul 1024 f g a b) := fun a b => by
  pointwise [k6_pay2]
  simp only [h0.e, h1.e, h2.e]
  exact congrArg (h a b + ·) (Finset.sum_range fun k => f k a * g k b).symm

theorem k8_pay1_mat : Mat3 (L := 1) (M := 1024) (N := 1408) (k8_pay1 (F := Ideal)) fun _ _ _ => 0 := fun l a b => by
  obtain rfl : l = 0 := Subsingleton.elim _ _
  pointwise [k8_pay1]

theorem k8_pay2_mat {v0 : Vec Ideal S1024x1024 .bf16} {v1 : Vec Ideal S1024x1408 .f32} {v2 : Vec Ideal S1x1024x1408 .f32} (h0 : Mat (M := 1024) (N := 1024) v0 f)
    (h1 : Mat (M := 1024) (N := 1408) v1 g) (h2 : Mat3 (L := 1) (M := 1024) (N := 1408) v2 fun _ => h) :
    Mat3 (L := 1) (M := 1024) (N := 1408) (k8_pay2 v0 v1 v2) (fun _ a b => h a b + Tmul 1024 f g a b) := fun l a b => by
  obtain rfl : l = 0 := Subsingleton.elim _ _
  pointwise [k8_pay2]
  simp only [h0.e, h1.e, h2 0]
  exact congrArg (h a b + ·) (Finset.sum_range fun k => f k a * g k b).symm

theorem k9_pay1_mat : Mat3 (L := 1) (M := 1024) (N := 1408) (k9_pay1 (F := Ideal)) fun _ _ _ => 0 := fun l a b => by
  obtain rfl : l = 0 := Subsingleton.elim _ _
  pointwise [k9_pay1]

theorem k9_pay2_mat {v0 : Vec Ideal S1024x1024 .bf16} {v1 : Vec Ideal S1024x1408 .f32} {v2 : Vec Ideal S1x1024x1408 .f32} (h0 : Mat (M := 1024) (N := 1024) v0 f)
    (h1 : Mat (M := 1024) (N := 1408) v1 g) (h2 : Mat3 (L := 1) (M := 1024) (N := 1408) v2 fun _ => h) :
    Mat3 (L := 1) (M := 1024) (N := 1408) (k9_pay2 v0 v1 v2) (fun _ a b => h a b + Tmul 1024 f g a b) := fun l a b => by
  obtain rfl : l = 0 := Subsingleton.elim _ _
  pointwise [k9_pay2]
  simp only [h0.e, h1.e, h2 0]
  exact congrArg (h a b + ·) (Finset.sum_range fun k => f k a * g k b).symm

theorem k10_pay1_mat {v0 : Vec Ideal S512x2816 .f32} {v1 : Vec Ideal S1024x2816 .bf16} (h0 : Mat (M := 512) (N := 2816) v0 f)
    (h1 : Mat (M := 1024) (N := 2816) v1 g) : Mat (M := 512) (N := 1024) (k10_pay1 v0 v1) (mulT 2816 f g) := fun a b => by
  pointwise [k10_pay1]
  simp only [h0.e, h1.e]
  exact (Finset.sum_range fun k => f a k * g b k).symm

theorem k11_pay1_mat {v0 : Vec Ideal S512x2816 .f32} {v1 : Vec Ideal S1024x2816 .bf16} {v2 : Vec Ideal S512x1024 .f32} (h0 : Mat (M := 512) (N := 2816) v0 f)
    (h1 : Mat (M := 1024) (N := 2816) v1 g) (h2 : Mat (M := 512) (N := 1024) v2 h) :
    Mat (M := 512) (N := 1024) (k11_pay1 v0 v1 v2) (fun a b => mulT 2816 f g a b + h a b) := fun a b => by
  pointwise [k11_pay1]
  simp only [h0.e, h1.e, h2.e]
  exact congrArg (· + h a b) (Finset.sum_range fun k => f a k * g b k).symm

end

/-! ## The norm's gradient -/

section
variable {f d e : ℕ → ℕ → EReal} {g : ℕ → EReal} {v0 v16 v38 : Vec Ideal S512x1024 .f32} {v1 : Vec Ideal S1x1024 .f32}
  (h0 : Mat (M := 512) (N := 1024) v0 f) (h16 : Mat (M := 512) (N := 1024) v16 d)

include h0 in
theorem k12_pay3_mat : Mat (M := 512) (N := 1) (k12_pay3 v0) fun a _ => meanSq f a := fun a b => by
  obtain rfl : b = 0 := Subsingleton.elim _ _
  pointwise [k12_pay3]
  simp only [h0.e]
  unfold meanSq
  rw [Finset.sum_range]

include h0 h16 in
theorem k12_pay6_mat : Mat (M := 1) (N := 1024) (k12_pay6 v0 v16) fun _ => dGain 512 f d := fun a b => by
  obtain rfl : a = 0 := Subsingleton.elim _ _
  pointwise [k12_pay6, k12_pay5, k12_pay4]
  simp only [h0.e, h16.e, (k12_pay3_mat h0).e]
  unfold dGain unit
  rw [Finset.sum_range]

include h0 h16 in
theorem k12_pay7_mat (h1 : Mat (M := 1) (N := 1024) v1 fun _ => g) (h38 : Mat (M := 512) (N := 1024) v38 e) :
    Mat (M := 512) (N := 1024) (k12_pay7 v0 v1 v16 v38) (dRms f g d e) := fun a b => by
  pointwise [k12_pay7, k12_pay5, k12_pay4]
  simp only [h0.e, h1.e, h16.e, h38.e, (k12_pay3_mat h0).e, Finset.sum_const, Finset.card_univ, Fintype.card_fin, one_smul]
  unfold dRms dMean
  rw [Finset.sum_range]

theorem k12_pay1_mat : Mat (M := 1) (N := 1024) (k12_pay1 (F := Ideal)) fun _ _ => 0 := fun a b => by
  obtain rfl : a = 0 := Subsingleton.elim _ _
  pointwise [k12_pay1]

theorem k12_pay2_mat {v20 v44 : FVec Ideal S1x1024 .f32} {p q : ℕ → EReal} (hp : Mat (M := 1) (N := 1024) v20 fun _ => p)
    (hq : Mat (M := 1) (N := 1024) v44 fun _ => q) : Mat (M := 1) (N := 1024) (k12_pay2 v20 v44) fun _ b => q b + p b := fun a b => by
  obtain rfl : a = 0 := Subsingleton.elim _ _
  pointwise [k12_pay2]
  simp only [hp.e, hq.e]

end

end Cert.Mlp
-- ==== Proof.FfnCall.lean ====
/- The arrays the norm's call and the products' calls leave. -/
module

public import proofs.«01_k».proof.Proof.FfnBlk
public import proofs.«01_k».proof.Proof.FfnPay

@[expose] public section

set_option maxRecDepth 16384

noncomputable section

namespace Cert.Mlp

open Idealize.ShloMosaic Idealize.ShloMosaic.TcCoe Idealize.SL.Sem Cert.FfnIdeal Cert.FfnIdeal.Gen

variable (V : (c : Dev nD) → (b : Ref sig .tc) → Buf (Elt Ideal) ((c : Thread nD τ).loc b)) (c : Dev nD)
variable {f g h : ℕ → ℕ → EReal}

theorem call0 (h0 : Mat (M := 4096) (N := 1024) (V c main_arg0) f) (h1 : Mat (M := 1) (N := 1024) (V c main_v8) fun _ => g 0) :
    Mat (M := 4096) (N := 1024) ((dat0 V c).arrAt 2 cfg0.N) (rms f (g 0)) := by
  refine Mat.of ((dat0 V c).arrAt_eq_of_covers 2 _ (by decide +kernel) fun t hf y => ?_)
  blk_simp
  rw [after0_2]
  frame_out
  refine ((k0_pay1_mat (blk0_0 V c h0 t) (blk0_1 V c h1 t)).at y).trans ?_
  blk_simp [at0_2 t]
  rfl

theorem call1 (h0 : Mat (M := 4096) (N := 1024) (V c main_v9) f) (h1 : Mat (M := 1024) (N := 2816) (V c main_v10) g) :
    Mat (M := 4096) (N := 2816) ((dat1 V c).arrAt 2 cfg1.N) (mul 1024 f g) := by
  refine Mat.of ((dat1 V c).arrAt_eq_of_covers 2 _ (by decide +kernel) fun t hf y => ?_)
  blk_simp
  rw [after1_2]
  frame_out
  refine ((k1_pay1_mat (blk1_0 V c h0 t) (blk1_1 V c h1 t)).at y).trans ?_
  blk_simp [at1_2 t]
  rfl

theorem call2 (h0 : Mat (M := 4096) (N := 1024) (V c main_v9) f) (h1 : Mat (M := 1024) (N := 2816) (V c main_v12) g) :
    Mat (M := 4096) (N := 2816) ((dat2 V c).arrAt 2 cfg2.N) (mul 1024 f g) := by
  refine Mat.of ((dat2 V c).arrAt_eq_of_covers 2 _ (by decide +kernel) fun t hf y => ?_)
  blk_simp
  rw [after2_2]
  frame_out
  refine ((k2_pay1_mat (blk2_0 V c h0 t) (blk2_1 V c h1 t)).at y).trans ?_
  blk_simp [at2_2 t]
  rfl

theorem call4 (h0 : Mat (M := 4096) (N := 2816) (V c main_v26) f) (h1 : Mat (M := 2816) (N := 1024) (V c main_v6) g) (h2 : Mat (M := 4096) (N := 1024) (V c main_arg0) h) :
    Mat (M := 4096) (N := 1024) ((dat4 V c).arrAt 3 cfg4.N) (fun a b => mul 2816 f g a b + h a b) := by
  refine Mat.of ((dat4 V c).arrAt_eq_of_covers 3 _ (by decide +kernel) fun t hf y => ?_)
  blk_simp
  rw [after4_3]
  frame_out
  refine ((k4_pay1_mat (blk4_0 V c h0 t) (blk4_1 V c h1 t) (blk4_2 V c h2 t)).at y).trans ?_
  blk_simp [at4_3 t]
  rfl

theorem call5 (h0 : Mat (M := 4096) (N := 1024) (V c main_arg1) f) (h1 : Mat (M := 2816) (N := 1024) (V c main_v29) g) :
    Mat (M := 4096) (N := 2816) ((dat5 V c).arrAt 2 cfg5.N) (mulT 1024 f g) := by
  refine Mat.of ((dat5 V c).arrAt_eq_of_covers 2 _ (by decide +kernel) fun t hf y => ?_)
  blk_simp
  rw [after5_2]
  frame_out
  refine ((k5_pay1_mat (blk5_0 V c h0 t) (blk5_1 V c h1 t)).at y).trans ?_
  blk_simp [at5_2 t]
  rfl

theorem call10 (h0 : Mat (M := 4096) (N := 2816) (V c main_v44_0) f) (h1 : Mat (M := 1024) (N := 2816) (V c main_v53) g) :
    Mat (M := 4096) (N := 1024) ((dat10 V c).arrAt 2 cfg10.N) (mulT 2816 f g) := by
  refine Mat.of ((dat10 V c).arrAt_eq_of_covers 2 _ (by decide +kernel) fun t hf y => ?_)
  blk_simp
  rw [after10_2]
  frame_out
  refine ((k10_pay1_mat (blk10_0 V c h0 t) (blk10_1 V c h1 t)).at y).trans ?_
  blk_simp [at10_2 t]
  rfl

theorem call11 (h0 : Mat (M := 4096) (N := 2816) (V c main_v44_1) f) (h1 : Mat (M := 1024) (N := 2816) (V c main_v55) g) (h2 : Mat (M := 4096) (N := 1024) (V c main_v54) h) :
    Mat (M := 4096) (N := 1024) ((dat11 V c).arrAt 3 cfg11.N) (fun a b => mulT 2816 f g a b + h a b) := by
  refine Mat.of ((dat11 V c).arrAt_eq_of_covers 3 _ (by decide +kernel) fun t hf y => ?_)
  blk_simp
  rw [after11_3]
  frame_out
  refine ((k11_pay1_mat (blk11_0 V c h0 t) (blk11_1 V c h1 t) (blk11_2 V c h2 t)).at y).trans ?_
  blk_simp [at11_3 t]
  rfl

end Cert.Mlp
-- ==== Proof.FfnConv.lean ====
/- The calls of the feed-forward block: the convolution and the gate, at an index. -/
module

public import proofs.«01_k».proof.Proof.Gen.FfnIdeal.Skeleton
public import Idealize.ShloMosaic.Lib.Pointwise
public import Idealize.ShloMosaic.Lib.KernelVsHost
public import Idealize.ShloMosaic.Lib.Pipeline.ValueKit
public import Idealize.ShloMosaic.Lib.StableHlo.Predicate
public import proofs.«01_k».proof.Proof.FfnMat

@[expose] public section

set_option maxRecDepth 16384

noncomputable section

namespace Cert.Mlp

open Idealize.ShloMosaic Idealize.SL.Sem Cert.FfnIdeal Cert.FfnIdeal.Gen
open scoped BigOperators

/-! ## The blocks as they are loaded -/

theorem k3_pay2_mat {v : Vec Ideal S4096x128 .f32} {f : ℕ → ℕ → EReal} (h : Mat (M := 4096) (N := 128) v f) : Mat (M := 4096) (N := 128) (k3_pay2 v) f := fun a b => by
  pointwise [k3_pay2]
  exact h.e a b

theorem k3_pay3_mat {v : Vec Ideal S4096x128 .f32} {f : ℕ → ℕ → EReal} (h : Mat (M := 4096) (N := 128) v f) : Mat (M := 4096) (N := 128) (k3_pay3 v) f := fun a b => by
  pointwise [k3_pay3]
  exact h.e a b

theorem k3_pay4_mat {v : Vec Ideal S1x128 .f32} {f : ℕ → EReal} (h : Mat (M := 1) (N := 128) v fun _ => f) : Mat (M := 1) (N := 128) (k3_pay4 v) fun _ => f := fun a b => by
  pointwise [k3_pay4]
  exact h.e a b

theorem k3_pay5_mat {v : Vec Ideal S1x128 .f32} {f : ℕ → EReal} (h : Mat (M := 1) (N := 128) v fun _ => f) : Mat (M := 1) (N := 128) (k3_pay5 v) fun _ => f := fun a b => by
  pointwise [k3_pay5]
  exact h.e a b

theorem k3_pay6_mat {v : Vec Ideal S1x128 .f32} {f : ℕ → EReal} (h : Mat (M := 1) (N := 128) v fun _ => f) : Mat (M := 1) (N := 128) (k3_pay6 v) fun _ => f := fun a b => by
  pointwise [k3_pay6]
  exact h.e a b

theorem k3_pay7_mat {v : Vec Ideal S1x128 .f32} {f : ℕ → EReal} (h : Mat (M := 1) (N := 128) v fun _ => f) : Mat (M := 1) (N := 128) (k3_pay7 v) fun _ => f := fun a b => by
  pointwise [k3_pay7]
  exact h.e a b

theorem k3_pay8_mat {v : Vec Ideal S1x128 .f32} {f : ℕ → EReal} (h : Mat (M := 1) (N := 128) v fun _ => f) : Mat (M := 1) (N := 128) (k3_pay8 v) fun _ => f := fun a b => by
  pointwise [k3_pay8]
  exact h.e a b

theorem k3_pay9_mat {v : Vec Ideal S1x128 .f32} {f : ℕ → EReal} (h : Mat (M := 1) (N := 128) v fun _ => f) : Mat (M := 1) (N := 128) (k3_pay9 v) fun _ => f := fun a b => by
  pointwise [k3_pay9]
  exact h.e a b

theorem k7_pay3_mat {v : Vec Ideal S4096x128 .f32} {f : ℕ → ℕ → EReal} (h : Mat (M := 4096) (N := 128) v f) : Mat (M := 4096) (N := 128) (k7_pay3 v) f := fun a b => by
  pointwise [k7_pay3]
  exact h.e a b

theorem k7_pay4_mat {v : Vec Ideal S4096x128 .f32} {f : ℕ → ℕ → EReal} (h : Mat (M := 4096) (N := 128) v f) : Mat (M := 4096) (N := 128) (k7_pay4 v) f := fun a b => by
  pointwise [k7_pay4]
  exact h.e a b

theorem k7_pay5_mat {v : Vec Ideal S1x128 .f32} {f : ℕ → EReal} (h : Mat (M := 1) (N := 128) v fun _ => f) : Mat (M := 1) (N := 128) (k7_pay5 v) fun _ => f := fun a b => by
  pointwise [k7_pay5]
  exact h.e a b

theorem k7_pay6_mat {v : Vec Ideal S1x128 .f32} {f : ℕ → EReal} (h : Mat (M := 1) (N := 128) v fun _ => f) : Mat (M := 1) (N := 128) (k7_pay6 v) fun _ => f := fun a b => by
  pointwise [k7_pay6]
  exact h.e a b

theorem k7_pay7_mat {v : Vec Ideal S1x128 .f32} {f : ℕ → EReal} (h : Mat (M := 1) (N := 128) v fun _ => f) : Mat (M := 1) (N := 128) (k7_pay7 v) fun _ => f := fun a b => by
  pointwise [k7_pay7]
  exact h.e a b

theorem k7_pay8_mat {v : Vec Ideal S1x128 .f32} {f : ℕ → EReal} (h : Mat (M := 1) (N := 128) v fun _ => f) : Mat (M := 1) (N := 128) (k7_pay8 v) fun _ => f := fun a b => by
  pointwise [k7_pay8]
  exact h.e a b

theorem k7_pay9_mat {v : Vec Ideal S1x128 .f32} {f : ℕ → EReal} (h : Mat (M := 1) (N := 128) v fun _ => f) : Mat (M := 1) (N := 128) (k7_pay9 v) fun _ => f := fun a b => by
  pointwise [k7_pay9]
  exact h.e a b

theorem k7_pay10_mat {v : Vec Ideal S1x128 .f32} {f : ℕ → EReal} (h : Mat (M := 1) (N := 128) v fun _ => f) : Mat (M := 1) (N := 128) (k7_pay10 v) fun _ => f := fun a b => by
  pointwise [k7_pay10]
  exact h.e a b

theorem k7_pay11_mat {v : Vec Ideal S1x128 .f32} {f : ℕ → EReal} (h : Mat (M := 1) (N := 128) v fun _ => f) : Mat (M := 1) (N := 128) (k7_pay11 v) fun _ => f := fun a b => by
  pointwise [k7_pay11]
  exact h.e a b

theorem k7_pay12_mat {v : Vec Ideal S1x128 .f32} {f : ℕ → EReal} (h : Mat (M := 1) (N := 128) v fun _ => f) : Mat (M := 1) (N := 128) (k7_pay12 v) fun _ => f := fun a b => by
  pointwise [k7_pay12]
  exact h.e a b

theorem k7_pay22_mat {v : Vec Ideal S4096x128 .f32} {f : ℕ → ℕ → EReal} (h : Mat (M := 4096) (N := 128) v f) : Mat (M := 4096) (N := 128) (k7_pay22 v) f := fun a b => by
  pointwise [k7_pay22]
  exact h.e a b

/-! ## The convolution -/

/-- The part of the convolution over a row and the one before it. -/
def conv2 (w : ℕ → ℕ → EReal) (u : ℕ → ℕ → EReal) (a b : ℕ) : EReal := u a b * w 2 b + down 1 u a b * w 1 b

section
variable {u v w x d : ℕ → ℕ → EReal} {p q : ℕ → EReal}

theorem k3_pay10_mat {v0 : Vec Ideal S4096x128 .f32} {v6 v8 : Vec Ideal S1x128 .f32} (h0 : Mat (M := 4096) (N := 128) v0 u) (h6 : Mat (M := 1) (N := 128) v6 fun _ => (w 1)) (h8 : Mat (M := 1) (N := 128) v8 fun _ => (w 2)) :
    Mat (M := 4096) (N := 128) (k3_pay10 v0 v6 v8) (conv2 w u) := fun a b => by
  pointwise [k3_pay10, k3_pay2]
  rw [rotate_down_mul h0 1 (by omega) a b]
  simp only [h0.e, h6.e, h8.e]
  rfl

theorem k7_pay14_mat {v0 : Vec Ideal S4096x128 .f32} {v6 v8 : Vec Ideal S1x128 .f32} (h0 : Mat (M := 4096) (N := 128) v0 u) (h6 : Mat (M := 1) (N := 128) v6 fun _ => (w 1)) (h8 : Mat (M := 1) (N := 128) v8 fun _ => (w 2)) :
    Mat (M := 4096) (N := 128) (k7_pay14 v0 v6 v8) (conv2 w u) := fun a b => by
  pointwise [k7_pay14, k7_pay13, k7_pay6, k7_pay7, k7_pay3]
  rw [rotate_down_mul h0 1 (by omega) a b]
  simp only [h0.e, h6.e, h8.e]
  rfl

theorem k7_pay13_mat {v0 : Vec Ideal S4096x128 .f32} (h0 : Mat (M := 4096) (N := 128) v0 u) :
    Mat (M := 4096) (N := 128) (k7_pay13 v0) (down 1 u) := fun a b => by
  pointwise [k7_pay13, k7_pay3]
  exact rotate_down h0 1 (by omega) a b _

theorem k7_pay16_mat {v1 : FVec Ideal S4096x128 .f32} (h1 : Mat (M := 4096) (N := 128) v1 u) :
    Mat (M := 4096) (N := 128) (k7_pay16 v1 k7_pay15 2#32) (down 2 u) := fun a b => by
  pointwise [k7_pay16, k7_pay15]
  exact rotate_down h1 2 (by omega) a b _

theorem k7_pay20_mat {v3 : FVec Ideal S4096x128 .f32} (h3 : Mat (M := 4096) (N := 128) v3 v) :
    Mat (M := 4096) (N := 128) (k7_pay20 v3) (down 1 v) := fun a b => by
  pointwise [k7_pay20]
  exact rotate_down h3 1 (by omega) a b _

theorem k7_pay21_mat {v3 : FVec Ideal S4096x128 .f32} (h3 : Mat (M := 4096) (N := 128) v3 v) :
    Mat (M := 4096) (N := 128) (k7_pay21 v3) (down 2 v) := fun a b => by
  pointwise [k7_pay21]
  exact rotate_down h3 2 (by omega) a b _

theorem k3_pay1_mat {v1 v3 v30 : FVec Ideal S4096x128 .f32} {v5 v11 v13 v15 v17 v19 : FVec Ideal S1x128 .f32} (h1 : Mat (M := 4096) (N := 128) v1 u) (h3 : Mat (M := 4096) (N := 128) v3 v) (h5 : Mat (M := 1) (N := 128) v5 fun _ => (w 0)) (h11 : Mat (M := 1) (N := 128) v11 fun _ => (x 0)) (h13 : Mat (M := 1) (N := 128) v13 fun _ => (x 1)) (h15 : Mat (M := 1) (N := 128) v15 fun _ => (x 2))
    (h17 : Mat (M := 1) (N := 128) v17 fun _ => p) (h19 : Mat (M := 1) (N := 128) v19 fun _ => q) (h30 : Mat (M := 4096) (N := 128) v30 (conv2 w u)) :
    Mat (M := 4096) (N := 128) (k3_pay1 v1 v3 v5 v11 v13 v15 v17 v19 v30 k3_pay11 2#32) (gated (conv w p u) (conv x q v)) := fun a b => by
  pointwise [k3_pay1, k3_pay11]
  rw [rotate_down_mul h1 2 (by omega) a b, rotate_down_mul h3 2 (by omega) a b, rotate_down_mul h3 1 (by omega) a b]
  simp only [h1.e, h3.e, h5.e, h11.e, h13.e, h15.e, h17.e, h19.e, h30.e]
  rfl

theorem k7_pay17_mat {v1 v30 : FVec Ideal S4096x128 .f32} {v5 v17 : FVec Ideal S1x128 .f32} (h1 : Mat (M := 4096) (N := 128) v1 u) (h5 : Mat (M := 1) (N := 128) v5 fun _ => (w 0)) (h17 : Mat (M := 1) (N := 128) v17 fun _ => p) (h30 : Mat (M := 4096) (N := 128) v30 (conv2 w u)) :
    Mat (M := 4096) (N := 128) (k7_pay17 v1 v5 v17 v30 k7_pay15 2#32) (conv w p u) := fun a b => by
  pointwise [k7_pay17]
  simp only [(k7_pay16_mat h1).e, h5.e, h17.e, h30.e]
  rfl

theorem k7_pay18_mat {v1 v30 : FVec Ideal S4096x128 .f32} {v5 v17 : FVec Ideal S1x128 .f32} (h1 : Mat (M := 4096) (N := 128) v1 u) (h5 : Mat (M := 1) (N := 128) v5 fun _ => (w 0)) (h17 : Mat (M := 1) (N := 128) v17 fun _ => p) (h30 : Mat (M := 4096) (N := 128) v30 (conv2 w u)) :
    Mat (M := 4096) (N := 128) (k7_pay18 v1 v5 v17 v30 k7_pay15 2#32) (fun a b => Ideal.logistic (conv w p u a b)) := fun a b => by
  pointwise [k7_pay18]
  simp only [(k7_pay17_mat h1 h5 h17 h30).e]

theorem k7_pay19_mat {v1 v30 : FVec Ideal S4096x128 .f32} {v5 v17 : FVec Ideal S1x128 .f32} (h1 : Mat (M := 4096) (N := 128) v1 u) (h5 : Mat (M := 1) (N := 128) v5 fun _ => (w 0)) (h17 : Mat (M := 1) (N := 128) v17 fun _ => p) (h30 : Mat (M := 4096) (N := 128) v30 (conv2 w u)) :
    Mat (M := 4096) (N := 128) (k7_pay19 v1 v5 v17 v30 k7_pay15 2#32) (fun a b => Ideal.logistic (conv w p u a b) * (1 - Ideal.logistic (conv w p u a b))) := fun a b => by
  pointwise [k7_pay19]
  simp only [(k7_pay18_mat h1 h5 h17 h30).e]

theorem k7_pay23_mat {v1 v30 : FVec Ideal S4096x128 .f32} {v5 v17 : FVec Ideal S1x128 .f32} (h1 : Mat (M := 4096) (N := 128) v1 u) (h5 : Mat (M := 1) (N := 128) v5 fun _ => (w 0)) (h17 : Mat (M := 1) (N := 128) v17 fun _ => p) (h30 : Mat (M := 4096) (N := 128) v30 (conv2 w u)) {v69 : Vec Ideal S4096x128 .f32} (h69 : Mat (M := 4096) (N := 128) v69 d) :
    Mat (M := 4096) (N := 128) (k7_pay23 v1 v5 v17 v30 k7_pay15 2#32 v69) (dValue (conv w p u) d) := fun a b => by
  pointwise [k7_pay23]
  simp only [(k7_pay17_mat h1 h5 h17 h30).e, (k7_pay18_mat h1 h5 h17 h30).e, (k7_pay22_mat h69).e]
  rfl

theorem k7_pay25_mat {v1 v30 : FVec Ideal S4096x128 .f32} {v5 v17 : FVec Ideal S1x128 .f32} (h1 : Mat (M := 4096) (N := 128) v1 u) (h5 : Mat (M := 1) (N := 128) v5 fun _ => (w 0)) (h17 : Mat (M := 1) (N := 128) v17 fun _ => p) (h30 : Mat (M := 4096) (N := 128) v30 (conv2 w u)) {v69 : Vec Ideal S4096x128 .f32} (h69 : Mat (M := 4096) (N := 128) v69 d) :
    Mat (M := 1) (N := 128) (k7_pay25 v1 v5 v17 v30 k7_pay15 2#32 v69) (fun _ => dBias (dValue (conv w p u) d)) := fun a b => by
  obtain rfl : a = 0 := Subsingleton.elim _ _
  pointwise [k7_pay25]
  simp only [(k7_pay23_mat h1 h5 h17 h30 h69).e]
  exact (Finset.sum_range fun k => dValue (conv w p u) d k b).symm

theorem k7_pay26_mat {v1 v30 : FVec Ideal S4096x128 .f32} {v5 v17 : FVec Ideal S1x128 .f32} (h1 : Mat (M := 4096) (N := 128) v1 u) (h5 : Mat (M := 1) (N := 128) v5 fun _ => (w 0)) (h17 : Mat (M := 1) (N := 128) v17 fun _ => p) (h30 : Mat (M := 4096) (N := 128) v30 (conv2 w u)) {v3 : FVec Ideal S4096x128 .f32} (h3 : Mat (M := 4096) (N := 128) v3 v) {v69 : Vec Ideal S4096x128 .f32} (h69 : Mat (M := 4096) (N := 128) v69 d) :
    Mat (M := 1) (N := 128) (k7_pay26 v1 v3 v5 v17 v30 k7_pay15 2#32 v69) (fun _ => dTap 2 v (dValue (conv w p u) d)) := fun a b => by
  obtain rfl : a = 0 := Subsingleton.elim _ _
  pointwise [k7_pay26]
  simp only [(k7_pay23_mat h1 h5 h17 h30 h69).e, (k7_pay21_mat h3).e]
  exact (Finset.sum_range fun k => down 2 v k b * dValue (conv w p u) d k b).symm

theorem k7_pay27_mat {v1 v30 : FVec Ideal S4096x128 .f32} {v5 v17 : FVec Ideal S1x128 .f32} (h1 : Mat (M := 4096) (N := 128) v1 u) (h5 : Mat (M := 1) (N := 128) v5 fun _ => (w 0)) (h17 : Mat (M := 1) (N := 128) v17 fun _ => p) (h30 : Mat (M := 4096) (N := 128) v30 (conv2 w u)) {v11 : FVec Ideal S1x128 .f32} (h11 : Mat (M := 1) (N := 128) v11 fun _ => (x 0)) {v69 : Vec Ideal S4096x128 .f32} (h69 : Mat (M := 4096) (N := 128) v69 d) :
    Mat (M := 4096) (N := 128) (k7_pay27 v1 v5 v11 v17 v30 k7_pay15 2#32 v69) (fun a b => dValue (conv w p u) d a b * x 0 b) := fun a b => by
  pointwise [k7_pay27]
  simp only [(k7_pay23_mat h1 h5 h17 h30 h69).e, h11.e]

theorem k7_pay24_mat {v3 : FVec Ideal S4096x128 .f32} (h3 : Mat (M := 4096) (N := 128) v3 v) {v11 v13 v15 v19 : FVec Ideal S1x128 .f32} (h11 : Mat (M := 1) (N := 128) v11 fun _ => (x 0)) (h13 : Mat (M := 1) (N := 128) v13 fun _ => (x 1)) (h15 : Mat (M := 1) (N := 128) v15 fun _ => (x 2)) (h19 : Mat (M := 1) (N := 128) v19 fun _ => q) {v69 : Vec Ideal S4096x128 .f32} (h69 : Mat (M := 4096) (N := 128) v69 d) :
    Mat (M := 4096) (N := 128) (k7_pay24 v3 v11 v13 v15 v19 v69) (fun a b => d a b * conv x q v a b) := fun a b => by
  pointwise [k7_pay24]
  simp only [(k7_pay20_mat h3).e, (k7_pay21_mat h3).e, (k7_pay22_mat h69).e, h3.e, h11.e, h13.e, h15.e, h19.e]
  rfl

theorem k7_pay28_mat {v54 v71 : FVec Ideal S4096x128 .f32} (h54 : Mat (M := 4096) (N := 128) v54 (down 1 v)) (h71 : Mat (M := 4096) (N := 128) v71 d) :
    Mat (M := 1) (N := 128) (k7_pay28 v54 v71) (fun _ => dTap 1 v d) := fun a b => by
  obtain rfl : a = 0 := Subsingleton.elim _ _
  pointwise [k7_pay28]
  simp only [h54.e, h71.e]
  exact (Finset.sum_range fun k => down 1 v k b * d k b).symm

theorem k7_pay29_mat {v3 v71 : FVec Ideal S4096x128 .f32} (h3 : Mat (M := 4096) (N := 128) v3 v) (h71 : Mat (M := 4096) (N := 128) v71 d) :
    Mat (M := 1) (N := 128) (k7_pay29 v3 v71) (fun _ => dTap 0 v d) := fun a b => by
  obtain rfl : a = 0 := Subsingleton.elim _ _
  pointwise [k7_pay29]
  simp only [h3.e, h71.e]
  unfold dTap
  simp only [down_zero]
  exact (Finset.sum_range fun k => v k b * d k b).symm

set_option maxRecDepth 100000 in
theorem k7_pay30_mat {v71 v79 : FVec Ideal S4096x128 .f32} {v13 v15 : FVec Ideal S1x128 .f32} (h13 : Mat (M := 1) (N := 128) v13 fun _ => (x 1)) (h15 : Mat (M := 1) (N := 128) v15 fun _ => (x 2)) (h71 : Mat (M := 4096) (N := 128) v71 d) (h79 : Mat (M := 4096) (N := 128) v79 (fun a b => d a b * x 0 b)) :
    Mat (M := 4096) (N := 128) (k7_pay30 v13 v15 v71 v79 (iota .tc S4096x128 32 [0] iota_S4096x128_d0_w32) 4094#32) (unconv x d) := fun a b => by
  pointwise [k7_pay30]
  simp only [h13.e, h15.e]
  rw [rotate_up h79 2 4094 (by omega) (by omega) a b _, rotate_up_mul h71 1 4095 (by omega) (by omega) a b _ (x 1), h71.e]
  rfl

theorem k7_pay31_mat {v41 v42 v45 v72 : FVec Ideal S4096x128 .f32} (h41 : Mat (M := 4096) (N := 128) v41 w) (h42 : Mat (M := 4096) (N := 128) v42 fun a b => Ideal.logistic (w a b)) (h45 : Mat (M := 4096) (N := 128) v45 fun a b => Ideal.logistic (w a b) * (1 - Ideal.logistic (w a b)))
    (h72 : Mat (M := 4096) (N := 128) v72 fun a b => d a b * x a b) :
    Mat (M := 4096) (N := 128) (k7_pay31 v41 v42 v45 v72) (dGate w x d) := fun a b => by
  pointwise [k7_pay31]
  simp only [h41.e, h42.e, h45.e, h72.e]
  rfl

theorem k7_pay32_mat {v41 v42 v45 v72 : FVec Ideal S4096x128 .f32} (h41 : Mat (M := 4096) (N := 128) v41 w) (h42 : Mat (M := 4096) (N := 128) v42 fun a b => Ideal.logistic (w a b)) (h45 : Mat (M := 4096) (N := 128) v45 fun a b => Ideal.logistic (w a b) * (1 - Ideal.logistic (w a b)))
    (h72 : Mat (M := 4096) (N := 128) v72 fun a b => d a b * x a b) :
    Mat (M := 1) (N := 128) (k7_pay32 v41 v42 v45 v72) (fun _ => dBias (dGate w x d)) := fun a b => by
  obtain rfl : a = 0 := Subsingleton.elim _ _
  pointwise [k7_pay32]
  simp only [(k7_pay31_mat h41 h42 h45 h72).e]
  exact (Finset.sum_range fun k => dGate w x d k b).symm

theorem k7_pay33_mat {v36 : FVec Ideal S4096x128 .f32} (h36 : Mat (M := 4096) (N := 128) v36 (down 2 u)) {v41 v42 v45 v72 : FVec Ideal S4096x128 .f32} (h41 : Mat (M := 4096) (N := 128) v41 w) (h42 : Mat (M := 4096) (N := 128) v42 fun a b => Ideal.logistic (w a b)) (h45 : Mat (M := 4096) (N := 128) v45 fun a b => Ideal.logistic (w a b) * (1 - Ideal.logistic (w a b)))
    (h72 : Mat (M := 4096) (N := 128) v72 fun a b => d a b * x a b) :
    Mat (M := 1) (N := 128) (k7_pay33 v36 v41 v42 v45 v72) (fun _ => dTap 2 u (dGate w x d)) := fun a b => by
  obtain rfl : a = 0 := Subsingleton.elim _ _
  pointwise [k7_pay33]
  simp only [h36.e, (k7_pay31_mat h41 h42 h45 h72).e]
  exact (Finset.sum_range fun k => down 2 u k b * dGate w x d k b).symm

theorem k7_pay35_mat {v27 : FVec Ideal S4096x128 .f32} (h27 : Mat (M := 4096) (N := 128) v27 (down 1 u)) {v41 v42 v45 v72 : FVec Ideal S4096x128 .f32} (h41 : Mat (M := 4096) (N := 128) v41 w) (h42 : Mat (M := 4096) (N := 128) v42 fun a b => Ideal.logistic (w a b)) (h45 : Mat (M := 4096) (N := 128) v45 fun a b => Ideal.logistic (w a b) * (1 - Ideal.logistic (w a b)))
    (h72 : Mat (M := 4096) (N := 128) v72 fun a b => d a b * x a b) :
    Mat (M := 1) (N := 128) (k7_pay35 v27 v41 v42 v45 v72) (fun _ => dTap 1 u (dGate w x d)) := fun a b => by
  obtain rfl : a = 0 := Subsingleton.elim _ _
  pointwise [k7_pay35]
  simp only [h27.e, (k7_pay31_mat h41 h42 h45 h72).e]
  exact (Finset.sum_range fun k => down 1 u k b * dGate w x d k b).symm

theorem k7_pay1_mat {v1 v107 : FVec Ideal S4096x128 .f32} (h1 : Mat (M := 4096) (N := 128) v1 u) (h107 : Mat (M := 4096) (N := 128) v107 d) :
    Mat (M := 1) (N := 128) (k7_pay1 v1 v107) (fun _ => dTap 0 u d) := fun a b => by
  obtain rfl : a = 0 := Subsingleton.elim _ _
  pointwise [k7_pay1]
  simp only [h1.e, h107.e]
  unfold dTap
  simp only [down_zero]
  exact (Finset.sum_range fun k => u k b * d k b).symm

theorem k7_pay36_mat {v7 : FVec Ideal S1x128 .f32} (h7 : Mat (M := 1) (N := 128) v7 fun _ => p) {v41 v42 v45 v72 : FVec Ideal S4096x128 .f32} (h41 : Mat (M := 4096) (N := 128) v41 w) (h42 : Mat (M := 4096) (N := 128) v42 fun a b => Ideal.logistic (w a b)) (h45 : Mat (M := 4096) (N := 128) v45 fun a b => Ideal.logistic (w a b) * (1 - Ideal.logistic (w a b)))
    (h72 : Mat (M := 4096) (N := 128) v72 fun a b => d a b * x a b) :
    Mat (M := 4096) (N := 128) (k7_pay36 v7 v41 v42 v45 v72) (fun a b => dGate w x d a b * p b) := fun a b => by
  pointwise [k7_pay36]
  simp only [(k7_pay31_mat h41 h42 h45 h72).e, h7.e]

set_option maxRecDepth 100000 in
theorem k7_pay34_mat {v5 : FVec Ideal S1x128 .f32} (h5 : Mat (M := 1) (N := 128) v5 fun _ => p) {v41 v42 v45 v72 : FVec Ideal S4096x128 .f32} (h41 : Mat (M := 4096) (N := 128) v41 w) (h42 : Mat (M := 4096) (N := 128) v42 fun a b => Ideal.logistic (w a b)) (h45 : Mat (M := 4096) (N := 128) v45 fun a b => Ideal.logistic (w a b) * (1 - Ideal.logistic (w a b)))
    (h72 : Mat (M := 4096) (N := 128) v72 fun a b => d a b * x a b) :
    Mat (M := 4096) (N := 128) (k7_pay34 v5 v41 v42 v45 v72) (up 2 fun a b => dGate w x d a b * p b) := fun a b => by
  pointwise [k7_pay34]
  simp only [h5.e]
  exact rotate_up_mul (k7_pay31_mat h41 h42 h45 h72) 2 4094 (by omega) (by omega) a b _ p

set_option maxRecDepth 100000 in
theorem k7_pay2_mat {v9 : FVec Ideal S1x128 .f32} {v107 v120 v125 : FVec Ideal S4096x128 .f32} (h9 : Mat (M := 1) (N := 128) v9 fun _ => (x 2)) (h107 : Mat (M := 4096) (N := 128) v107 d) (h120 : Mat (M := 4096) (N := 128) v120 (up 2 fun a b => d a b * x 0 b)) (h125 : Mat (M := 4096) (N := 128) v125 (fun a b => d a b * x 1 b)) :
    Mat (M := 4096) (N := 128) (k7_pay2 v9 v107 v120 v125 (iota .tc S4096x128 32 [0] iota_S4096x128_d0_w32) 4095#32) (unconv x d) := fun a b => by
  pointwise [k7_pay2]
  rw [rotate_up h125 1 4095 (by omega) (by omega) a b _]
  simp only [h107.e, h9.e, h120.e]
  rfl

end

end Cert.Mlp
-- ==== Proof.FfnConvCall.lean ====
/- The arrays the convolution's calls leave. -/
module

public import proofs.«01_k».proof.Proof.FfnBlk
public import proofs.«01_k».proof.Proof.FfnConv

@[expose] public section

set_option maxRecDepth 16384

noncomputable section

namespace Cert.Mlp

open Idealize.ShloMosaic Idealize.ShloMosaic.TcCoe Idealize.SL.Sem Cert.FfnIdeal Cert.FfnIdeal.Gen

/-! ## Loads and stores of whole blocks -/

theorem Mat.ld {x : Vec Ideal S4096x128 .f32} {f : ℕ → ℕ → EReal} (h : Mat (M := 4096) (N := 128) x f) : Mat (M := 4096) (N := 128) (View.ld x r7_0) f := by
  rw [View.ld_unit_lit _ _ (by decide)]; exact h
theorem Mat.ld1 {x : Vec Ideal S1x128 .f32} {f : ℕ → ℕ → EReal} (h : Mat (M := 1) (N := 128) x f) : Mat (M := 1) (N := 128) (View.ld x r7_1) f := by
  rw [View.ld_unit_lit _ _ (by decide)]; exact h
theorem Mat.st {x : Vec Ideal S4096x128 .f32} {f : ℕ → ℕ → EReal} (h : Mat (M := 4096) (N := 128) x f) : Mat (M := 4096) (N := 128) (View.canon [⟨r7_0, x⟩]) f := by
  rw [View.canon_cons_unit_lit _ _ _ (by decide)]; exact h
theorem Mat.stb {x : Vec Ideal S4096x128 .bf16} {f : ℕ → ℕ → EReal} (h : Mat (M := 4096) (N := 128) x f) : Mat (M := 4096) (N := 128) (View.canon [⟨r3_0, x⟩]) f := by
  rw [View.canon_cons_unit_lit _ _ _ (by decide)]; exact h
theorem Mat.st1 {x : Vec Ideal S1x128 .f32} {f : ℕ → ℕ → EReal} (h : Mat (M := 1) (N := 128) x f) : Mat (M := 1) (N := 128) (View.canon [⟨r7_1, x⟩]) f := by
  rw [View.canon_cons_unit_lit _ _ _ (by decide)]; exact h

/-! ## One block of columns -/

section
variable {u v w x d : ℕ → ℕ → EReal} {p q : ℕ → EReal}
variable {x0 : Vec Ideal S4096x128 .f32} {x1 : Vec Ideal S4096x128 .f32} {x2 : Vec Ideal S1x128 .f32} {x3 : Vec Ideal S1x128 .f32} {x4 : Vec Ideal S1x128 .f32} {x5 : Vec Ideal S1x128 .f32} {x6 : Vec Ideal S1x128 .f32} {x7 : Vec Ideal S1x128 .f32} {x8 : Vec Ideal S1x128 .f32} {x9 : Vec Ideal S1x128 .f32} {x10 : Vec Ideal S4096x128 .f32}
variable (h0 : Mat (M := 4096) (N := 128) x0 (u)) (h1 : Mat (M := 4096) (N := 128) x1 (v)) (h2 : Mat (M := 1) (N := 128) x2 (fun _ => w 0)) (h3 : Mat (M := 1) (N := 128) x3 (fun _ => w 1)) (h4 : Mat (M := 1) (N := 128) x4 (fun _ => w 2)) (h5 : Mat (M := 1) (N := 128) x5 (fun _ => x 0)) (h6 : Mat (M := 1) (N := 128) x6 (fun _ => x 1)) (h7 : Mat (M := 1) (N := 128) x7 (fun _ => x 2)) (h8 : Mat (M := 1) (N := 128) x8 (fun _ => p)) (h9 : Mat (M := 1) (N := 128) x9 (fun _ => q))

include h0 h1 h2 h3 h4 h5 h6 h7 h8 h9 in
theorem out3_10_mat : Mat (M := 4096) (N := 128) (out3_10 x0 x1 x2 x3 x4 x5 x6 x7 x8 x9) (gated (conv w p u) (conv x q v)) :=
  Mat.stb (k3_pay1_mat (k3_pay2_mat h0.ld) (k3_pay3_mat h1.ld) (k3_pay4_mat h2.ld1) (k3_pay5_mat h5.ld1) (k3_pay6_mat h6.ld1) (k3_pay7_mat h7.ld1)
    (k3_pay8_mat h8.ld1) (k3_pay9_mat h9.ld1) (k3_pay10_mat h0.ld h3.ld1 h4.ld1))

variable (h10 : Mat (M := 4096) (N := 128) x10 d)

include h0 in
theorem k7_pay37_mat : Mat (M := 4096) (N := 128) (k7_pay37 x0 x1 x2 x3 x4 x5 x6 x7 x8 x9 x10) (u) := k7_pay3_mat h0.ld
include h1 in
theorem k7_pay38_mat : Mat (M := 4096) (N := 128) (k7_pay38 x0 x1 x2 x3 x4 x5 x6 x7 x8 x9 x10) (v) := k7_pay4_mat h1.ld
include h2 in
theorem k7_pay39_mat : Mat (M := 1) (N := 128) (k7_pay39 x0 x1 x2 x3 x4 x5 x6 x7 x8 x9 x10) (fun _ => w 0) := k7_pay5_mat h2.ld1
include h5 in
theorem k7_pay40_mat : Mat (M := 1) (N := 128) (k7_pay40 x0 x1 x2 x3 x4 x5 x6 x7 x8 x9 x10) (fun _ => x 0) := k7_pay8_mat h5.ld1
include h6 in
theorem k7_pay41_mat : Mat (M := 1) (N := 128) (k7_pay41 x0 x1 x2 x3 x4 x5 x6 x7 x8 x9 x10) (fun _ => x 1) := k7_pay9_mat h6.ld1
include h7 in
theorem k7_pay42_mat : Mat (M := 1) (N := 128) (k7_pay42 x0 x1 x2 x3 x4 x5 x6 x7 x8 x9 x10) (fun _ => x 2) := k7_pay10_mat h7.ld1
include h8 in
theorem k7_pay43_mat : Mat (M := 1) (N := 128) (k7_pay43 x0 x1 x2 x3 x4 x5 x6 x7 x8 x9 x10) (fun _ => p) := k7_pay11_mat h8.ld1
include h0 h3 h4 in
theorem k7_pay44_mat : Mat (M := 4096) (N := 128) (k7_pay44 x0 x1 x2 x3 x4 x5 x6 x7 x8 x9 x10) (conv2 w u) := k7_pay14_mat h0.ld h3.ld1 h4.ld1
include h0 h2 h3 h4 h8 in
theorem k7_pay46_mat : Mat (M := 4096) (N := 128) (k7_pay46 x0 x1 x2 x3 x4 x5 x6 x7 x8 x9 x10) (conv w p u) := k7_pay17_mat (k7_pay37_mat h0) (k7_pay39_mat h2) (k7_pay43_mat h8) (k7_pay44_mat h0 h3 h4)
include h0 h2 h3 h4 h8 in
theorem k7_pay47_mat : Mat (M := 4096) (N := 128) (k7_pay47 x0 x1 x2 x3 x4 x5 x6 x7 x8 x9 x10) (fun a b => Ideal.logistic (conv w p u a b)) := k7_pay18_mat (k7_pay37_mat h0) (k7_pay39_mat h2) (k7_pay43_mat h8) (k7_pay44_mat h0 h3 h4)
include h0 h2 h3 h4 h8 in
theorem k7_pay48_mat : Mat (M := 4096) (N := 128) (k7_pay48 x0 x1 x2 x3 x4 x5 x6 x7 x8 x9 x10) (fun a b => Ideal.logistic (conv w p u a b) * (1 - Ideal.logistic (conv w p u a b))) := k7_pay19_mat (k7_pay37_mat h0) (k7_pay39_mat h2) (k7_pay43_mat h8) (k7_pay44_mat h0 h3 h4)
include h0 h2 h3 h4 h8 h10 in
theorem k7_pay49_mat : Mat (M := 4096) (N := 128) (k7_pay49 x0 x1 x2 x3 x4 x5 x6 x7 x8 x9 x10) (dValue (conv w p u) d) := k7_pay23_mat (k7_pay37_mat h0) (k7_pay39_mat h2) (k7_pay43_mat h8) (k7_pay44_mat h0 h3 h4) h10.ld
include h1 h5 h6 h7 h9 h10 in
theorem k7_pay50_mat : Mat (M := 4096) (N := 128) (k7_pay50 x0 x1 x2 x3 x4 x5 x6 x7 x8 x9 x10) (fun a b => d a b * conv x q v a b) := k7_pay24_mat (k7_pay38_mat h1) (k7_pay40_mat h5) (k7_pay41_mat h6) (k7_pay42_mat h7) (k7_pay12_mat h9.ld1) h10.ld
include h0 h1 h2 h3 h4 h5 h6 h7 h8 h9 h10 in
theorem k7_pay51_mat : Mat (M := 4096) (N := 128) (k7_pay51 x0 x1 x2 x3 x4 x5 x6 x7 x8 x9 x10) (dGate (conv w p u) (conv x q v) d) := k7_pay31_mat (k7_pay46_mat h0 h2 h3 h4 h8) (k7_pay47_mat h0 h2 h3 h4 h8) (k7_pay48_mat h0 h2 h3 h4 h8) (k7_pay50_mat h1 h5 h6 h7 h9 h10)

include h0 h1 h2 h3 h4 h5 h6 h7 h8 h9 h10 in
theorem out7_11_mat : Mat (M := 4096) (N := 128) (out7_11 x0 x1 x2 x3 x4 x5 x6 x7 x8 x9 x10) (unconv w (dGate (conv w p u) (conv x q v) d)) :=
  Mat.st (k7_pay2_mat (k7_pay7_mat h4.ld1) (k7_pay51_mat h0 h1 h2 h3 h4 h5 h6 h7 h8 h9 h10) (k7_pay34_mat (k7_pay39_mat h2) (k7_pay46_mat h0 h2 h3 h4 h8) (k7_pay47_mat h0 h2 h3 h4 h8) (k7_pay48_mat h0 h2 h3 h4 h8) (k7_pay50_mat h1 h5 h6 h7 h9 h10)) (k7_pay36_mat (k7_pay6_mat h3.ld1) (k7_pay46_mat h0 h2 h3 h4 h8) (k7_pay47_mat h0 h2 h3 h4 h8) (k7_pay48_mat h0 h2 h3 h4 h8) (k7_pay50_mat h1 h5 h6 h7 h9 h10)))
include h0 h1 h2 h3 h4 h5 h6 h7 h8 h9 h10 in
theorem out7_12_mat : Mat (M := 4096) (N := 128) (out7_12 x0 x1 x2 x3 x4 x5 x6 x7 x8 x9 x10) (unconv x (dValue (conv w p u) d)) :=
  Mat.st (k7_pay30_mat (k7_pay41_mat h6) (k7_pay42_mat h7) (k7_pay49_mat h0 h2 h3 h4 h8 h10) (k7_pay27_mat (k7_pay37_mat h0) (k7_pay39_mat h2) (k7_pay43_mat h8) (k7_pay44_mat h0 h3 h4) (k7_pay40_mat h5) h10.ld))
include h0 h1 h2 h3 h4 h5 h6 h7 h8 h9 h10 in
theorem out7_13_mat : Mat (M := 1) (N := 128) (out7_13 x0 x1 x2 x3 x4 x5 x6 x7 x8 x9 x10) (fun _ => dTap 2 u (dGate (conv w p u) (conv x q v) d)) :=
  Mat.st1 (k7_pay33_mat (k7_pay16_mat (k7_pay37_mat h0)) (k7_pay46_mat h0 h2 h3 h4 h8) (k7_pay47_mat h0 h2 h3 h4 h8) (k7_pay48_mat h0 h2 h3 h4 h8) (k7_pay50_mat h1 h5 h6 h7 h9 h10))
include h0 h1 h2 h3 h4 h5 h6 h7 h8 h9 h10 in
theorem out7_14_mat : Mat (M := 1) (N := 128) (out7_14 x0 x1 x2 x3 x4 x5 x6 x7 x8 x9 x10) (fun _ => dTap 1 u (dGate (conv w p u) (conv x q v) d)) :=
  Mat.st1 (k7_pay35_mat (k7_pay13_mat h0.ld) (k7_pay46_mat h0 h2 h3 h4 h8) (k7_pay47_mat h0 h2 h3 h4 h8) (k7_pay48_mat h0 h2 h3 h4 h8) (k7_pay50_mat h1 h5 h6 h7 h9 h10))
include h0 h1 h2 h3 h4 h5 h6 h7 h8 h9 h10 in
theorem out7_15_mat : Mat (M := 1) (N := 128) (out7_15 x0 x1 x2 x3 x4 x5 x6 x7 x8 x9 x10) (fun _ => dTap 0 u (dGate (conv w p u) (conv x q v) d)) :=
  Mat.st1 (k7_pay1_mat (k7_pay37_mat h0) (k7_pay51_mat h0 h1 h2 h3 h4 h5 h6 h7 h8 h9 h10))
include h0 h1 h2 h3 h4 h5 h6 h7 h8 h9 h10 in
theorem out7_16_mat : Mat (M := 1) (N := 128) (out7_16 x0 x1 x2 x3 x4 x5 x6 x7 x8 x9 x10) (fun _ => dTap 2 v (dValue (conv w p u) d)) :=
  Mat.st1 (k7_pay26_mat (k7_pay37_mat h0) (k7_pay39_mat h2) (k7_pay43_mat h8) (k7_pay44_mat h0 h3 h4) (k7_pay38_mat h1) h10.ld)
include h0 h1 h2 h3 h4 h5 h6 h7 h8 h9 h10 in
theorem out7_17_mat : Mat (M := 1) (N := 128) (out7_17 x0 x1 x2 x3 x4 x5 x6 x7 x8 x9 x10) (fun _ => dTap 1 v (dValue (conv w p u) d)) :=
  Mat.st1 (k7_pay28_mat (k7_pay20_mat (k7_pay38_mat h1)) (k7_pay49_mat h0 h2 h3 h4 h8 h10))
include h0 h1 h2 h3 h4 h5 h6 h7 h8 h9 h10 in
theorem out7_18_mat : Mat (M := 1) (N := 128) (out7_18 x0 x1 x2 x3 x4 x5 x6 x7 x8 x9 x10) (fun _ => dTap 0 v (dValue (conv w p u) d)) :=
  Mat.st1 (k7_pay29_mat (k7_pay38_mat h1) (k7_pay49_mat h0 h2 h3 h4 h8 h10))
include h0 h1 h2 h3 h4 h5 h6 h7 h8 h9 h10 in
theorem out7_19_mat : Mat (M := 1) (N := 128) (out7_19 x0 x1 x2 x3 x4 x5 x6 x7 x8 x9 x10) (fun _ => dBias (dGate (conv w p u) (conv x q v) d)) :=
  Mat.st1 (k7_pay32_mat (k7_pay46_mat h0 h2 h3 h4 h8) (k7_pay47_mat h0 h2 h3 h4 h8) (k7_pay48_mat h0 h2 h3 h4 h8) (k7_pay50_mat h1 h5 h6 h7 h9 h10))
include h0 h1 h2 h3 h4 h5 h6 h7 h8 h9 h10 in
theorem out7_20_mat : Mat (M := 1) (N := 128) (out7_20 x0 x1 x2 x3 x4 x5 x6 x7 x8 x9 x10) (fun _ => dBias (dValue (conv w p u) d)) :=
  Mat.st1 (k7_pay25_mat (k7_pay37_mat h0) (k7_pay39_mat h2) (k7_pay43_mat h8) (k7_pay44_mat h0 h3 h4) h10.ld)

end

/-! ## The arrays -/

section
variable (V : (c : Dev nD) → (b : Ref sig .tc) → Buf (Elt Ideal) ((c : Thread nD τ).loc b)) (c : Dev nD)
variable {u v w x d : ℕ → ℕ → EReal} {p q : ℕ → EReal}

section
variable (h0 : Mat (M := 4096) (N := 2816) (V c main_v11) (u)) (h1 : Mat (M := 4096) (N := 2816) (V c main_v13) (v)) (h2 : Mat (M := 1) (N := 2816) (V c main_v16) (fun _ => w 0)) (h3 : Mat (M := 1) (N := 2816) (V c main_v17) (fun _ => w 1)) (h4 : Mat (M := 1) (N := 2816) (V c main_v18) (fun _ => w 2)) (h5 : Mat (M := 1) (N := 2816) (V c main_v19) (fun _ => x 0)) (h6 : Mat (M := 1) (N := 2816) (V c main_v20) (fun _ => x 1)) (h7 : Mat (M := 1) (N := 2816) (V c main_v21) (fun _ => x 2)) (h8 : Mat (M := 1) (N := 2816) (V c main_v23) (fun _ => p)) (h9 : Mat (M := 1) (N := 2816) (V c main_v25) (fun _ => q))

include h0 h1 h2 h3 h4 h5 h6 h7 h8 h9 in
theorem call3_10 : Mat (M := 4096) (N := 2816) ((dat3 V c).arrAt 10 cfg3.N) (gated (conv w p u) (conv x q v)) := by
  refine Mat.of ((dat3 V c).arrAt_eq_of_covers 10 _ (by decide +kernel) fun t hf y => ?_)
  blk_simp
  rw [after3_10]
  refine ((out3_10_mat (u := fun a b => u a (t.val * 128 + b)) (v := fun a b => v a (t.val * 128 + b)) (w := fun i b => w i (t.val * 128 + b)) (x := fun i b => x i (t.val * 128 + b)) (p := fun b => p (t.val * 128 + b)) (q := fun b => q (t.val * 128 + b))
    (blk3_0 V c h0 t) (blk3_1 V c h1 t) (blk3_2 V c h2 t) (blk3_3 V c h3 t) (blk3_4 V c h4 t) (blk3_5 V c h5 t) (blk3_6 V c h6 t) (blk3_7 V c h7 t) (blk3_8 V c h8 t) (blk3_9 V c h9 t)).at y).trans ?_
  blk_simp [at3_10 t]
  rfl

end

section
variable (h0 : Mat (M := 4096) (N := 2816) (V c main_v11) (u)) (h1 : Mat (M := 4096) (N := 2816) (V c main_v13) (v)) (h2 : Mat (M := 1) (N := 2816) (V c main_v34) (fun _ => w 0)) (h3 : Mat (M := 1) (N := 2816) (V c main_v35) (fun _ => w 1)) (h4 : Mat (M := 1) (N := 2816) (V c main_v36) (fun _ => w 2)) (h5 : Mat (M := 1) (N := 2816) (V c main_v37) (fun _ => x 0)) (h6 : Mat (M := 1) (N := 2816) (V c main_v38) (fun _ => x 1)) (h7 : Mat (M := 1) (N := 2816) (V c main_v39) (fun _ => x 2)) (h8 : Mat (M := 1) (N := 2816) (V c main_v41) (fun _ => p)) (h9 : Mat (M := 1) (N := 2816) (V c main_v43) (fun _ => q)) (h10 : Mat (M := 4096) (N := 2816) (V c main_v30) (d))

include h0 h1 h2 h3 h4 h5 h6 h7 h8 h9 h10 in
theorem call7_11 : Mat (M := 4096) (N := 2816) ((dat7 V c).arrAt 11 cfg7.N) (unconv w (dGate (conv w p u) (conv x q v) d)) := by
  refine Mat.of ((dat7 V c).arrAt_eq_of_covers 11 _ (by decide +kernel) fun t hf y => ?_)
  blk_simp
  rw [after7_11]
  refine ((out7_11_mat (u := fun a b => u a (t.val * 128 + b)) (v := fun a b => v a (t.val * 128 + b)) (w := fun i b => w i (t.val * 128 + b)) (x := fun i b => x i (t.val * 128 + b)) (p := fun b => p (t.val * 128 + b)) (q := fun b => q (t.val * 128 + b)) (d := fun a b => d a (t.val * 128 + b))
    (blk7_0 V c h0 t) (blk7_1 V c h1 t) (blk7_2 V c h2 t) (blk7_3 V c h3 t) (blk7_4 V c h4 t) (blk7_5 V c h5 t) (blk7_6 V c h6 t) (blk7_7 V c h7 t) (blk7_8 V c h8 t) (blk7_9 V c h9 t) (blk7_10 V c h10 t)).at y).trans ?_
  blk_simp [at7_11 t]
  rfl

include h0 h1 h2 h3 h4 h5 h6 h7 h8 h9 h10 in
theorem call7_12 : Mat (M := 4096) (N := 2816) ((dat7 V c).arrAt 12 cfg7.N) (unconv x (dValue (conv w p u) d)) := by
  refine Mat.of ((dat7 V c).arrAt_eq_of_covers 12 _ (by decide +kernel) fun t hf y => ?_)
  blk_simp
  rw [after7_12]
  refine ((out7_12_mat (u := fun a b => u a (t.val * 128 + b)) (v := fun a b => v a (t.val * 128 + b)) (w := fun i b => w i (t.val * 128 + b)) (x := fun i b => x i (t.val * 128 + b)) (p := fun b => p (t.val * 128 + b)) (q := fun b => q (t.val * 128 + b)) (d := fun a b => d a (t.val * 128 + b))
    (blk7_0 V c h0 t) (blk7_1 V c h1 t) (blk7_2 V c h2 t) (blk7_3 V c h3 t) (blk7_4 V c h4 t) (blk7_5 V c h5 t) (blk7_6 V c h6 t) (blk7_7 V c h7 t) (blk7_8 V c h8 t) (blk7_9 V c h9 t) (blk7_10 V c h10 t)).at y).trans ?_
  blk_simp [at7_12 t]
  rfl

include h0 h1 h2 h3 h4 h5 h6 h7 h8 h9 h10 in
theorem call7_13 : Mat (M := 1) (N := 2816) ((dat7 V c).arrAt 13 cfg7.N) (fun _ => dTap 2 u (dGate (conv w p u) (conv x q v) d)) := by
  refine Mat.of ((dat7 V c).arrAt_eq_of_covers 13 _ (by decide +kernel) fun t hf y => ?_)
  blk_simp
  rw [after7_13]
  refine ((out7_13_mat (u := fun a b => u a (t.val * 128 + b)) (v := fun a b => v a (t.val * 128 + b)) (w := fun i b => w i (t.val * 128 + b)) (x := fun i b => x i (t.val * 128 + b)) (p := fun b => p (t.val * 128 + b)) (q := fun b => q (t.val * 128 + b)) (d := fun a b => d a (t.val * 128 + b))
    (blk7_0 V c h0 t) (blk7_1 V c h1 t) (blk7_2 V c h2 t) (blk7_3 V c h3 t) (blk7_4 V c h4 t) (blk7_5 V c h5 t) (blk7_6 V c h6 t) (blk7_7 V c h7 t) (blk7_8 V c h8 t) (blk7_9 V c h9 t) (blk7_10 V c h10 t)).at y).trans ?_
  blk_simp [at7_13 t]
  rfl

include h0 h1 h2 h3 h4 h5 h6 h7 h8 h9 h10 in
theorem call7_14 : Mat (M := 1) (N := 2816) ((dat7 V c).arrAt 14 cfg7.N) (fun _ => dTap 1 u (dGate (conv w p u) (conv x q v) d)) := by
  refine Mat.of ((dat7 V c).arrAt_eq_of_covers 14 _ (by decide +kernel) fun t hf y => ?_)
  blk_simp
  rw [after7_14]
  refine ((out7_14_mat (u := fun a b => u a (t.val * 128 + b)) (v := fun a b => v a (t.val * 128 + b)) (w := fun i b => w i (t.val * 128 + b)) (x := fun i b => x i (t.val * 128 + b)) (p := fun b => p (t.val * 128 + b)) (q := fun b => q (t.val * 128 + b)) (d := fun a b => d a (t.val * 128 + b))
    (blk7_0 V c h0 t) (blk7_1 V c h1 t) (blk7_2 V c h2 t) (blk7_3 V c h3 t) (blk7_4 V c h4 t) (blk7_5 V c h5 t) (blk7_6 V c h6 t) (blk7_7 V c h7 t) (blk7_8 V c h8 t) (blk7_9 V c h9 t) (blk7_10 V c h10 t)).at y).trans ?_
  blk_simp [at7_14 t]
  rfl

include h0 h1 h2 h3 h4 h5 h6 h7 h8 h9 h10 in
theorem call7_15 : Mat (M := 1) (N := 2816) ((dat7 V c).arrAt 15 cfg7.N) (fun _ => dTap 0 u (dGate (conv w p u) (conv x q v) d)) := by
  refine Mat.of ((dat7 V c).arrAt_eq_of_covers 15 _ (by decide +kernel) fun t hf y => ?_)
  blk_simp
  rw [after7_15]
  refine ((out7_15_mat (u := fun a b => u a (t.val * 128 + b)) (v := fun a b => v a (t.val * 128 + b)) (w := fun i b => w i (t.val * 128 + b)) (x := fun i b => x i (t.val * 128 + b)) (p := fun b => p (t.val * 128 + b)) (q := fun b => q (t.val * 128 + b)) (d := fun a b => d a (t.val * 128 + b))
    (blk7_0 V c h0 t) (blk7_1 V c h1 t) (blk7_2 V c h2 t) (blk7_3 V c h3 t) (blk7_4 V c h4 t) (blk7_5 V c h5 t) (blk7_6 V c h6 t) (blk7_7 V c h7 t) (blk7_8 V c h8 t) (blk7_9 V c h9 t) (blk7_10 V c h10 t)).at y).trans ?_
  blk_simp [at7_15 t]
  rfl

include h0 h1 h2 h3 h4 h5 h6 h7 h8 h9 h10 in
theorem call7_16 : Mat (M := 1) (N := 2816) ((dat7 V c).arrAt 16 cfg7.N) (fun _ => dTap 2 v (dValue (conv w p u) d)) := by
  refine Mat.of ((dat7 V c).arrAt_eq_of_covers 16 _ (by decide +kernel) fun t hf y => ?_)
  blk_simp
  rw [after7_16]
  refine ((out7_16_mat (u := fun a b => u a (t.val * 128 + b)) (v := fun a b => v a (t.val * 128 + b)) (w := fun i b => w i (t.val * 128 + b)) (x := fun i b => x i (t.val * 128 + b)) (p := fun b => p (t.val * 128 + b)) (q := fun b => q (t.val * 128 + b)) (d := fun a b => d a (t.val * 128 + b))
    (blk7_0 V c h0 t) (blk7_1 V c h1 t) (blk7_2 V c h2 t) (blk7_3 V c h3 t) (blk7_4 V c h4 t) (blk7_5 V c h5 t) (blk7_6 V c h6 t) (blk7_7 V c h7 t) (blk7_8 V c h8 t) (blk7_9 V c h9 t) (blk7_10 V c h10 t)).at y).trans ?_
  blk_simp [at7_16 t]
  rfl

include h0 h1 h2 h3 h4 h5 h6 h7 h8 h9 h10 in
theorem call7_17 : Mat (M := 1) (N := 2816) ((dat7 V c).arrAt 17 cfg7.N) (fun _ => dTap 1 v (dValue (conv w p u) d)) := by
  refine Mat.of ((dat7 V c).arrAt_eq_of_covers 17 _ (by decide +kernel) fun t hf y => ?_)
  blk_simp
  rw [after7_17]
  refine ((out7_17_mat (u := fun a b => u a (t.val * 128 + b)) (v := fun a b => v a (t.val * 128 + b)) (w := fun i b => w i (t.val * 128 + b)) (x := fun i b => x i (t.val * 128 + b)) (p := fun b => p (t.val * 128 + b)) (q := fun b => q (t.val * 128 + b)) (d := fun a b => d a (t.val * 128 + b))
    (blk7_0 V c h0 t) (blk7_1 V c h1 t) (blk7_2 V c h2 t) (blk7_3 V c h3 t) (blk7_4 V c h4 t) (blk7_5 V c h5 t) (blk7_6 V c h6 t) (blk7_7 V c h7 t) (blk7_8 V c h8 t) (blk7_9 V c h9 t) (blk7_10 V c h10 t)).at y).trans ?_
  blk_simp [at7_17 t]
  rfl

include h0 h1 h2 h3 h4 h5 h6 h7 h8 h9 h10 in
theorem call7_18 : Mat (M := 1) (N := 2816) ((dat7 V c).arrAt 18 cfg7.N) (fun _ => dTap 0 v (dValue (conv w p u) d)) := by
  refine Mat.of ((dat7 V c).arrAt_eq_of_covers 18 _ (by decide +kernel) fun t hf y => ?_)
  blk_simp
  rw [after7_18]
  refine ((out7_18_mat (u := fun a b => u a (t.val * 128 + b)) (v := fun a b => v a (t.val * 128 + b)) (w := fun i b => w i (t.val * 128 + b)) (x := fun i b => x i (t.val * 128 + b)) (p := fun b => p (t.val * 128 + b)) (q := fun b => q (t.val * 128 + b)) (d := fun a b => d a (t.val * 128 + b))
    (blk7_0 V c h0 t) (blk7_1 V c h1 t) (blk7_2 V c h2 t) (blk7_3 V c h3 t) (blk7_4 V c h4 t) (blk7_5 V c h5 t) (blk7_6 V c h6 t) (blk7_7 V c h7 t) (blk7_8 V c h8 t) (blk7_9 V c h9 t) (blk7_10 V c h10 t)).at y).trans ?_
  blk_simp [at7_18 t]
  rfl

include h0 h1 h2 h3 h4 h5 h6 h7 h8 h9 h10 in
theorem call7_19 : Mat (M := 1) (N := 2816) ((dat7 V c).arrAt 19 cfg7.N) (fun _ => dBias (dGate (conv w p u) (conv x q v) d)) := by
  refine Mat.of ((dat7 V c).arrAt_eq_of_covers 19 _ (by decide +kernel) fun t hf y => ?_)
  blk_simp
  rw [after7_19]
  refine ((out7_19_mat (u := fun a b => u a (t.val * 128 + b)) (v := fun a b => v a (t.val * 128 + b)) (w := fun i b => w i (t.val * 128 + b)) (x := fun i b => x i (t.val * 128 + b)) (p := fun b => p (t.val * 128 + b)) (q := fun b => q (t.val * 128 + b)) (d := fun a b => d a (t.val * 128 + b))
    (blk7_0 V c h0 t) (blk7_1 V c h1 t) (blk7_2 V c h2 t) (blk7_3 V c h3 t) (blk7_4 V c h4 t) (blk7_5 V c h5 t) (blk7_6 V c h6 t) (blk7_7 V c h7 t) (blk7_8 V c h8 t) (blk7_9 V c h9 t) (blk7_10 V c h10 t)).at y).trans ?_
  blk_simp [at7_19 t]
  rfl

include h0 h1 h2 h3 h4 h5 h6 h7 h8 h9 h10 in
theorem call7_20 : Mat (M := 1) (N := 2816) ((dat7 V c).arrAt 20 cfg7.N) (fun _ => dBias (dValue (conv w p u) d)) := by
  refine Mat.of ((dat7 V c).arrAt_eq_of_covers 20 _ (by decide +kernel) fun t hf y => ?_)
  blk_simp
  rw [after7_20]
  refine ((out7_20_mat (u := fun a b => u a (t.val * 128 + b)) (v := fun a b => v a (t.val * 128 + b)) (w := fun i b => w i (t.val * 128 + b)) (x := fun i b => x i (t.val * 128 + b)) (p := fun b => p (t.val * 128 + b)) (q := fun b => q (t.val * 128 + b)) (d := fun a b => d a (t.val * 128 + b))
    (blk7_0 V c h0 t) (blk7_1 V c h1 t) (blk7_2 V c h2 t) (blk7_3 V c h3 t) (blk7_4 V c h4 t) (blk7_5 V c h5 t) (blk7_6 V c h6 t) (blk7_7 V c h7 t) (blk7_8 V c h8 t) (blk7_9 V c h9 t) (blk7_10 V c h10 t)).at y).trans ?_
  blk_simp [at7_20 t]
  rfl

end

end

end Cert.Mlp
-- ==== Proof.FfnAcc.lean ====
/- The arrays the calls leave that add up over their points. -/
module

public import proofs.«01_k».proof.Proof.FfnBlk
public import proofs.«01_k».proof.Proof.FfnPay

@[expose] public section

set_option maxRecDepth 16384

noncomputable section

namespace Cert.Mlp

open Idealize.ShloMosaic Idealize.ShloMosaic.TcCoe Idealize.SL.Sem Cert.FfnIdeal Cert.FfnIdeal.Gen

variable (V : (c : Dev nD) → (b : Ref sig .tc) → Buf (Elt Ideal) ((c : Thread nD τ).loc b)) (c : Dev nD)
variable {f g h e : ℕ → ℕ → EReal}

/-! ## The gradient of the second weights -/

section
variable (h0 : Mat (M := 4096) (N := 2816) (V c main_v26) f) (h1 : Mat (M := 4096) (N := 1024) (V c main_arg1) g)

include h0 h1 in
theorem acc6 (n : ℕ) : ∀ hn : n < cfg6.N, Mat (M := 2816) (N := 512) (outsAt6 V c n hn)
    (fun a b => Tmul ((n % 4 + 1) * 1024) f (fun r b => g r (n / 4 * 512 + b)) a b) := by
  induction n using Nat.strong_induction_on with
  | _ n ih =>
    intro hn a b
    by_cases hz : n % 4 = 0
    · refine (congrFun (outsAt6_A V c ⟨n, hn⟩ hz) (ix2 a b)).trans ?_
      frame_out
      refine (k6_pay2_mat (blk6_0 V c h0 ⟨n, hn⟩) (blk6_1 V c h1 ⟨n, hn⟩) k6_pay1_mat a b).trans ?_
      exact Tmul_first f (fun r b => g r (n / 4 * 512 + b)) hz a b
    · refine (congrFun (outsAt6_B V c ⟨n, hn⟩ hz) (ix2 a b)).trans ?_
      frame_out
      refine (k6_pay2_mat (blk6_0 V c h0 ⟨n, hn⟩) (blk6_1 V c h1 ⟨n, hn⟩) (ih (n - 1) (by omega) (by omega)) a b).trans ?_
      rw [show (n - 1) / 4 = n / 4 by omega]
      exact Tmul_step f (fun r b => g r (n / 4 * 512 + b)) hz rfl a b

include h0 h1 in
theorem call6 : Mat (M := 2816) (N := 1024) ((dat6 V c).arrAt 2 cfg6.N) (Tmul 4096 f g) := by
  refine Mat.of ((dat6 V c).arrAt_eq_of_covers 2 _ (by decide +kernel) fun t hf y => ?_)
  have hl := (flush6_2 t).mp hf
  blk_simp
  rw [after6_2]
  refine ((acc6 V c h0 h1 t.val t.isLt).at y).trans ?_
  blk_simp [at6_2 t]
  rw [hl]
  rfl

end

/-! ## The gradient of the first weights, the gate's half -/

section
variable (h0 : Mat (M := 4096) (N := 1024) (V c main_v9) f) (h1 : Mat (M := 4096) (N := 2816) (V c main_v44_0) g)

include h0 h1 in
theorem acc8 (n : ℕ) : ∀ hn : n < cfg8.N, Mat3 (L := 1) (M := 1024) (N := 1408) (outsAt8 V c n hn)
    (fun _ a b => Tmul ((n % 4 + 1) * 1024) f (fun r b => g r (n / 4 * 1408 + b)) a b) := by
  induction n using Nat.strong_induction_on with
  | _ n ih =>
    intro hn l a b
    by_cases hz : n % 4 = 0
    · refine (congrFun (outsAt8_A V c ⟨n, hn⟩ hz) (ix3 l a b)).trans ?_
      frame_out
      refine (k8_pay2_mat (blk8_0 V c h0 ⟨n, hn⟩) (blk8_1 V c h1 ⟨n, hn⟩) k8_pay1_mat l a b).trans ?_
      exact Tmul_first f (fun r b => g r (n / 4 * 1408 + b)) hz a b
    · refine (congrFun (outsAt8_B V c ⟨n, hn⟩ hz) (ix3 l a b)).trans ?_
      frame_out
      refine (k8_pay2_mat (blk8_0 V c h0 ⟨n, hn⟩) (blk8_1 V c h1 ⟨n, hn⟩) (ih (n - 1) (by omega) (by omega)) l a b).trans ?_
      rw [show (n - 1) / 4 = n / 4 by omega]
      exact Tmul_step f (fun r b => g r (n / 4 * 1408 + b)) hz rfl a b

include h0 h1 in
theorem call8 {z : ℕ → ℕ → ℕ → EReal} (hz : Mat3 (L := 4) (M := 1024) (N := 1408) (V c main_v51) z) :
    Mat3 (L := 4) (M := 1024) (N := 1408) ((dat8 V c).arrAt 2 cfg8.N)
      (fun l a b => if l < 2 then Tmul 4096 f (fun r b => g r (l * 1408 + b)) a b else z l a b) := by
  have H := (dat8 V c).arrAt_eq_of_coversWhere 2 (fun j => Tmul 4096 f (fun r b => g r ((j 0).val * 1408 + b)) (j 1).val (j 2).val)
    (fun β => β (0 : Fin _) < 2) (by decide +kernel) (fun t hf y => ?_)
    (P := fun j => (j 0).val < 2) (fun j => ?_)
  · intro l a b
    refine (congrFun H (ix3 l a b)).trans ?_
    dsimp only
    exact if_congr Iff.rfl rfl (hz l a b)
  · have hl := (flush8_2 t).mp hf
    blk_simp
    rw [after8_2]
    refine ((acc8 V c h0 h1 t.val t.isLt).at y).trans ?_
    blk_simp [at8_2 t]
    rw [hl]
  · blk_simp [Pipeline.Window.cell_apply]
    rw [Nat.div_one]

end

/-! ## The gradient of the first weights, the value's half -/

section
variable (h0 : Mat (M := 4096) (N := 1024) (V c main_v9) f) (h1 : Mat (M := 4096) (N := 2816) (V c main_v44_1) g)

include h0 h1 in
theorem acc9 (n : ℕ) : ∀ hn : n < cfg9.N, Mat3 (L := 1) (M := 1024) (N := 1408) (outsAt9 V c n hn)
    (fun _ a b => Tmul ((n % 4 + 1) * 1024) f (fun r b => g r (n / 4 * 1408 + b)) a b) := by
  induction n using Nat.strong_induction_on with
  | _ n ih =>
    intro hn l a b
    by_cases hz : n % 4 = 0
    · refine (congrFun (outsAt9_A V c ⟨n, hn⟩ hz) (ix3 l a b)).trans ?_
      frame_out
      refine (k9_pay2_mat (blk9_0 V c h0 ⟨n, hn⟩) (blk9_1 V c h1 ⟨n, hn⟩) k9_pay1_mat l a b).trans ?_
      exact Tmul_first f (fun r b => g r (n / 4 * 1408 + b)) hz a b
    · refine (congrFun (outsAt9_B V c ⟨n, hn⟩ hz) (ix3 l a b)).trans ?_
      frame_out
      refine (k9_pay2_mat (blk9_0 V c h0 ⟨n, hn⟩) (blk9_1 V c h1 ⟨n, hn⟩) (ih (n - 1) (by omega) (by omega)) l a b).trans ?_
      rw [show (n - 1) / 4 = n / 4 by omega]
      exact Tmul_step f (fun r b => g r (n / 4 * 1408 + b)) hz rfl a b

include h0 h1 in
theorem call9 {z : ℕ → ℕ → ℕ → EReal} (hz : Mat3 (L := 4) (M := 1024) (N := 1408) (V c main_v52) z) :
    Mat3 (L := 4) (M := 1024) (N := 1408) ((dat9 V c).arrAt 2 cfg9.N)
      (fun l a b => if 2 ≤ l then Tmul 4096 f (fun r b => g r ((l - 2) * 1408 + b)) a b else z l a b) := by
  have H := (dat9 V c).arrAt_eq_of_coversWhere 2 (fun j => Tmul 4096 f (fun r b => g r (((j 0).val - 2) * 1408 + b)) (j 1).val (j 2).val)
    (fun β => 2 ≤ β (0 : Fin _)) (by decide +kernel) (fun t hf y => ?_)
    (P := fun j => 2 ≤ (j 0).val) (fun j => ?_)
  · intro l a b
    refine (congrFun H (ix3 l a b)).trans ?_
    dsimp only
    exact if_congr Iff.rfl rfl (hz l a b)
  · have hl := (flush9_2 t).mp hf
    blk_simp
    rw [after9_2]
    refine ((acc9 V c h0 h1 t.val t.isLt).at y).trans ?_
    blk_simp [at9_2 t]
    rw [hl, Nat.add_sub_cancel_left]
  · blk_simp [Pipeline.Window.cell_apply]
    rw [Nat.div_one]

end

/-! ## The gradient of the norm -/

section
variable {g : ℕ → EReal} {d : ℕ → ℕ → EReal}
variable (h0 : Mat (M := 4096) (N := 1024) (V c main_arg0) h) (h1 : Mat (M := 1) (N := 1024) (V c main_v58) fun _ => g)
  (h2 : Mat (M := 4096) (N := 1024) (V c main_v56) d) (h3 : Mat (M := 4096) (N := 1024) (V c main_arg1) e)

include h0 h1 h2 h3 in
theorem row12 (t : Fin cfg12.N) : Mat (M := 512) (N := 1024) (outsAt12 V c t.val t.isLt).1
    (dRms (fun a b => h (t.val * 512 + a) b) g (fun a b => d (t.val * 512 + a) b) (fun a b => e (t.val * 512 + a) b)) := by
  intro a b
  by_cases hz : t.val % 8 = 0
  · rw [outsAt12_A V c t hz]
    frame_out
    exact k12_pay7_mat (blk12_0 V c h0 t) (blk12_2 V c h2 t) (blk12_1 V c h1 t) (blk12_3 V c h3 t) a b
  · rw [outsAt12_B V c t hz]
    frame_out
    exact k12_pay7_mat (blk12_0 V c h0 t) (blk12_2 V c h2 t) (blk12_1 V c h1 t) (blk12_3 V c h3 t) a b

include h0 h1 h2 h3 in
theorem call12_4 : Mat (M := 4096) (N := 1024) ((dat12 V c).arrAt 4 cfg12.N) (dRms h g d e) := by
  refine Mat.of ((dat12 V c).arrAt_eq_of_covers 4 _ (by decide +kernel) fun t hf y => ?_)
  blk_simp
  rw [after12_4]
  refine ((row12 V c h0 h1 h2 h3 t).at y).trans ?_
  blk_simp [at12_4 t]
  rfl

include h0 h2 in
theorem acc12 (n : ℕ) : ∀ hn : n < cfg12.N, Mat (M := 1) (N := 1024) (outsAt12 V c n hn).2 (fun _ => dGain ((n % 8 + 1) * 512) h d) := by
  induction n using Nat.strong_induction_on with
  | _ n ih =>
    intro hn a b
    have hN : n < 8 := lt_of_lt_of_eq hn N_12
    by_cases hz : n % 8 = 0
    · refine (congrFun (congrArg Prod.snd (outsAt12_A V c ⟨n, hn⟩ hz)) (ix2 a b)).trans ?_
      frame_out
      refine (k12_pay2_mat (k12_pay6_mat (blk12_0 V c h0 ⟨n, hn⟩) (blk12_2 V c h2 ⟨n, hn⟩)) k12_pay1_mat a b).trans ?_
      obtain rfl : n = 0 := by omega
      show 0 + dGain 512 (fun a b => h (0 * 512 + a) b) (fun a b => d (0 * 512 + a) b) b = dGain ((0 % 8 + 1) * 512) h d b
      rw [zero_add]
      simp only [Nat.zero_mul, Nat.zero_add, Nat.zero_mod, Nat.one_mul]
    · refine (congrFun (congrArg Prod.snd (outsAt12_B V c ⟨n, hn⟩ hz)) (ix2 a b)).trans ?_
      frame_out
      refine (k12_pay2_mat (k12_pay6_mat (blk12_0 V c h0 ⟨n, hn⟩) (blk12_2 V c h2 ⟨n, hn⟩)) (ih (n - 1) (by omega) (by omega)) a b).trans ?_
      show dGain (((n - 1) % 8 + 1) * 512) h d b + dGain 512 (fun r => h (n * 512 + r)) (fun r => d (n * 512 + r)) b = _
      rw [show ((n - 1) % 8 + 1) * 512 = n * 512 by omega, ← dGain_add, show n * 512 + 512 = (n % 8 + 1) * 512 by omega]

include h0 h2 in
theorem call12_5 : Mat (M := 1) (N := 1024) ((dat12 V c).arrAt 5 cfg12.N) (fun _ => dGain 4096 h d) := by
  refine Mat.of ((dat12 V c).arrAt_eq_of_covers 5 _ (by decide +kernel) fun t hf y => ?_)
  have hl := (flush12_5 t).mp hf
  blk_simp
  rw [after12_5]
  refine ((acc12 V c h0 h2 t.val t.isLt).at y).trans ?_
  blk_simp [at12_5 t]
  rw [hl]

end

end Cert.Mlp
-- ==== Proof.FfnChain.lean ====
/- What each buffer of the feed-forward block holds, call after call: from the arguments to the seven results. -/
module

public import proofs.«01_k».proof.Proof.FfnSpec
public import proofs.«01_k».proof.Proof.FfnHost
public import proofs.«01_k».proof.Proof.FfnCall
public import proofs.«01_k».proof.Proof.FfnConvCall
public import proofs.«01_k».proof.Proof.FfnAcc
public import proofs.«01_k».proof.Proof.Gen.FfnIdeal.Frame

@[expose] public section

set_option maxRecDepth 16384

noncomputable section

namespace Cert.Mlp

open Idealize.ShloMosaic Idealize.ShloMosaic.TcCoe Idealize.SL.Sem Cert.FfnIdeal Cert.FfnIdeal.Gen

section
variable (m : (l : Loc nD τ sig) → Buf (Elt Ideal) l) (ρ : Dev nD → PrngReg) (c : Dev nD)
variable {h d : ℕ → ℕ → EReal} {g : ℕ → EReal} {U w : ℕ → ℕ → EReal} {p : ℕ → EReal} {D : ℕ → ℕ → EReal}
  (hH : Mat (M := 4096) (N := 1024) (m ((c.tc : Thread nD τ).loc main_arg0)) h)
  (hd : Mat (M := 4096) (N := 1024) (m ((c.tc : Thread nD τ).loc main_arg1)) d)
  (hg : Row (N := 1024) (m ((c.tc : Thread nD τ).loc main_arg2)) g)
  (hU : Mat (M := 1024) (N := 5632) (m ((c.tc : Thread nD τ).loc main_arg3)) U)
  (hw : Mat (M := 3) (N := 5632) (m ((c.tc : Thread nD τ).loc main_arg4)) w)
  (hp : Row (N := 5632) (m ((c.tc : Thread nD τ).loc main_arg5)) p)
  (hD : Mat (M := 2816) (N := 1024) (m ((c.tc : Thread nD τ).loc main_arg6)) D)

include hg in
theorem at_v0 : Mat (M := 1) (N := 1024) (W1 m ρ c (Proc.devRef .tc main_v0)) (fun _ => g) :=
  host0_v0 (W0 m ρ c) hg

include hU in
theorem at_v1 : Mat3 (L := 1) (M := 1024) (N := 5632) (W1 m ρ c (Proc.devRef .tc main_v1)) (fun _ => U) :=
  host0_v1 (W0 m ρ c) hU

include hw in
theorem at_v2 : Mat3 (L := 1) (M := 3) (N := 5632) (W1 m ρ c (Proc.devRef .tc main_v2)) (fun _ => w) :=
  host0_v2 (W0 m ρ c) hw

include hp in
theorem at_v3 : Mat (M := 1) (N := 5632) (W1 m ρ c (Proc.devRef .tc main_v3)) (fun _ => p) :=
  host0_v3 (W0 m ρ c) hp

include hD in
theorem at_v4 : Mat3 (L := 1) (M := 2816) (N := 1024) (W1 m ρ c (Proc.devRef .tc main_v4)) (fun _ => D) :=
  host0_v4 (W0 m ρ c) hD

include hU in
theorem at_v5 : Mat (M := 1024) (N := 5632) (W1 m ρ c (Proc.devRef .tc main_v5)) (U) :=
  host0_v5 (W0 m ρ c) hU

include hD in
theorem at_v6 : Mat (M := 2816) (N := 1024) (W1 m ρ c (Proc.devRef .tc main_v6)) (D) :=
  host0_v6 (W0 m ρ c) hD

include hg in
theorem at_v8 : Mat (M := 1) (N := 1024) (W1 m ρ c (Proc.devRef .tc main_v8)) (fun _ => g) :=
  host0_v8 (W0 m ρ c) hg

include hH hg in
theorem at_v9 : Mat (M := 4096) (N := 1024) (W2 m ρ c (Proc.devRef .tc main_v9)) (nrm h g) :=
  Mat.cast (M := 4096) (N := 1024) (W2_arr m ρ c 2) (call0 (V1 m ρ) c (g := fun _ => g)
    (Mat.cast (M := 4096) (N := 1024) (W1_args m ρ c main_arg0 (by decide)) hH)
    (at_v8 m ρ c hg))

include hU in
theorem at_v10 : Mat (M := 1024) (N := 2816) (W3 m ρ c (Proc.devRef .tc main_v10)) (U) :=
  host1_v10 (W2 m ρ c) (Mat.cast (M := 1024) (N := 5632) (W2_of m ρ c main_v5 (by decide)) (at_v5 m ρ c hU))

include hH hg hU in
theorem at_v11 : Mat (M := 4096) (N := 2816) (W4 m ρ c (Proc.devRef .tc main_v11)) (gateIn h g U) :=
  Mat.cast (M := 4096) (N := 2816) (W4_arr m ρ c 2) (call1 (V3 m ρ) c
    (Mat.cast (M := 4096) (N := 1024) (W3_of m ρ c main_v9 (by decide)) (at_v9 m ρ c hH hg))
    (at_v10 m ρ c hU))

include hU in
theorem at_v12 : Mat (M := 1024) (N := 2816) (W5 m ρ c (Proc.devRef .tc main_v12)) (hi U) :=
  host2_v12 (W4 m ρ c) (Mat.cast (M := 1024) (N := 5632) ((W4_of m ρ c main_v5 (by decide)).trans ((W3_of _ _ _ _ (by decide)).trans (W2_of _ _ _ _ (by decide)))) (at_v5 m ρ c hU))

/-! Buffers unchanged over several steps. -/

theorem v30_13 : W13 m ρ c (Proc.devRef .tc main_v30) = W11 m ρ c (Proc.devRef .tc main_v30) :=
  (W13_of _ _ _ _ (by decide)).trans (W12_of _ _ _ _ (by decide))

theorem v9_5 : W5 m ρ c (Proc.devRef .tc main_v9) = W2 m ρ c (Proc.devRef .tc main_v9) :=
  (W5_of _ _ _ _ (by decide)).trans ((W4_of _ _ _ _ (by decide)).trans (W3_of _ _ _ _ (by decide)))

theorem v3_6 : W6 m ρ c (Proc.devRef .tc main_v3) = W1 m ρ c (Proc.devRef .tc main_v3) :=
  (W6_of _ _ _ _ (by decide)).trans ((W5_of _ _ _ _ (by decide)).trans ((W4_of _ _ _ _ (by decide)).trans ((W3_of _ _ _ _ (by decide)).trans (W2_of _ _ _ _ (by decide)))))

theorem v2_6 : W6 m ρ c (Proc.devRef .tc main_v2) = W1 m ρ c (Proc.devRef .tc main_v2) :=
  (W6_of _ _ _ _ (by decide)).trans ((W5_of _ _ _ _ (by decide)).trans ((W4_of _ _ _ _ (by decide)).trans ((W3_of _ _ _ _ (by decide)).trans (W2_of _ _ _ _ (by decide)))))

theorem v13_13 : W13 m ρ c (Proc.devRef .tc main_v13) = W6 m ρ c (Proc.devRef .tc main_v13) :=
  (W13_of _ _ _ _ (by decide)).trans ((W12_of _ _ _ _ (by decide)).trans ((W11_of _ _ _ _ (by decide)).trans ((W10_of _ _ _ _ (by decide)).trans ((W9_of _ _ _ _ (by decide)).trans ((W8_of _ _ _ _ (by decide)).trans (W7_of _ _ _ _ (by decide)))))))

theorem v28_18 : W18 m ρ c (Proc.devRef .tc main_v28) = W10 m ρ c (Proc.devRef .tc main_v28) :=
  (W18_of _ _ _ _ (by decide)).trans ((W17_of _ _ _ _ (by decide)).trans ((W16_of _ _ _ _ (by decide)).trans ((W15_of _ _ _ _ (by decide)).trans ((W14_of _ _ _ _ (by decide)).trans ((W13_of _ _ _ _ (by decide)).trans ((W12_of _ _ _ _ (by decide)).trans (W11_of _ _ _ _ (by decide))))))))

theorem v11_13 : W13 m ρ c (Proc.devRef .tc main_v11) = W4 m ρ c (Proc.devRef .tc main_v11) :=
  (W13_of _ _ _ _ (by decide)).trans ((W12_of _ _ _ _ (by decide)).trans ((W11_of _ _ _ _ (by decide)).trans ((W10_of _ _ _ _ (by decide)).trans ((W9_of _ _ _ _ (by decide)).trans ((W8_of _ _ _ _ (by decide)).trans ((W7_of _ _ _ _ (by decide)).trans ((W6_of _ _ _ _ (by decide)).trans (W5_of _ _ _ _ (by decide)))))))))

theorem v3_12 : W12 m ρ c (Proc.devRef .tc main_v3) = W1 m ρ c (Proc.devRef .tc main_v3) :=
  (W12_of _ _ _ _ (by decide)).trans ((W11_of _ _ _ _ (by decide)).trans ((W10_of _ _ _ _ (by decide)).trans ((W9_of _ _ _ _ (by decide)).trans ((W8_of _ _ _ _ (by decide)).trans ((W7_of _ _ _ _ (by decide)).trans (v3_6 m ρ c))))))

theorem v2_12 : W12 m ρ c (Proc.devRef .tc main_v2) = W1 m ρ c (Proc.devRef .tc main_v2) :=
  (W12_of _ _ _ _ (by decide)).trans ((W11_of _ _ _ _ (by decide)).trans ((W10_of _ _ _ _ (by decide)).trans ((W9_of _ _ _ _ (by decide)).trans ((W8_of _ _ _ _ (by decide)).trans ((W7_of _ _ _ _ (by decide)).trans (v2_6 m ρ c))))))

theorem v9_15 : W15 m ρ c (Proc.devRef .tc main_v9) = W2 m ρ c (Proc.devRef .tc main_v9) :=
  (W15_of _ _ _ _ (by decide)).trans ((W14_of _ _ _ _ (by decide)).trans ((W13_of _ _ _ _ (by decide)).trans ((W12_of _ _ _ _ (by decide)).trans ((W11_of _ _ _ _ (by decide)).trans ((W10_of _ _ _ _ (by decide)).trans ((W9_of _ _ _ _ (by decide)).trans ((W8_of _ _ _ _ (by decide)).trans ((W7_of _ _ _ _ (by decide)).trans ((W6_of _ _ _ _ (by decide)).trans (v9_5 m ρ c))))))))))

include hH hg hU in
theorem at_v13 : Mat (M := 4096) (N := 2816) (W6 m ρ c (Proc.devRef .tc main_v13)) (valueIn h g U) :=
  Mat.cast (M := 4096) (N := 2816) (W6_arr m ρ c 2) (call2 (V5 m ρ) c
    (Mat.cast (M := 4096) (N := 1024) (v9_5 m ρ c) (at_v9 m ρ c hH hg))
    (at_v12 m ρ c hU))

include hw in
theorem at_v16 : Mat (M := 1) (N := 2816) (W7 m ρ c (Proc.devRef .tc main_v16)) (fun _ => w 0) :=
  host3_v16 (W6 m ρ c) (Mat3.cast (L := 1) (M := 3) (N := 5632) (v2_6 m ρ c) (at_v2 m ρ c hw))

include hw in
theorem at_v17 : Mat (M := 1) (N := 2816) (W7 m ρ c (Proc.devRef .tc main_v17)) (fun _ => w 1) :=
  host3_v17 (W6 m ρ c) (Mat3.cast (L := 1) (M := 3) (N := 5632) (v2_6 m ρ c) (at_v2 m ρ c hw))

include hw in
theorem at_v18 : Mat (M := 1) (N := 2816) (W7 m ρ c (Proc.devRef .tc main_v18)) (fun _ => w 2) :=
  host3_v18 (W6 m ρ c) (Mat3.cast (L := 1) (M := 3) (N := 5632) (v2_6 m ρ c) (at_v2 m ρ c hw))

include hw in
theorem at_v19 : Mat (M := 1) (N := 2816) (W7 m ρ c (Proc.devRef .tc main_v19)) (fun _ => hi w 0) :=
  host3_v19 (W6 m ρ c) (Mat3.cast (L := 1) (M := 3) (N := 5632) (v2_6 m ρ c) (at_v2 m ρ c hw))

include hw in
theorem at_v20 : Mat (M := 1) (N := 2816) (W7 m ρ c (Proc.devRef .tc main_v20)) (fun _ => hi w 1) :=
  host3_v20 (W6 m ρ c) (Mat3.cast (L := 1) (M := 3) (N := 5632) (v2_6 m ρ c) (at_v2 m ρ c hw))

include hw in
theorem at_v21 : Mat (M := 1) (N := 2816) (W7 m ρ c (Proc.devRef .tc main_v21)) (fun _ => hi w 2) :=
  host3_v21 (W6 m ρ c) (Mat3.cast (L := 1) (M := 3) (N := 5632) (v2_6 m ρ c) (at_v2 m ρ c hw))

include hp in
theorem at_v23 : Mat (M := 1) (N := 2816) (W7 m ρ c (Proc.devRef .tc main_v23)) (fun _ => p) :=
  host3_v23 (W6 m ρ c) (Mat.cast (M := 1) (N := 5632) (v3_6 m ρ c) (at_v3 m ρ c hp))

include hp in
theorem at_v25 : Mat (M := 1) (N := 2816) (W7 m ρ c (Proc.devRef .tc main_v25)) (fun _ => hi1 p) :=
  host3_v25 (W6 m ρ c) (Mat.cast (M := 1) (N := 5632) (v3_6 m ρ c) (at_v3 m ρ c hp))

include hH hg hU hw hp in
theorem at_v26 : Mat (M := 4096) (N := 2816) (W8 m ρ c (Proc.devRef .tc main_v26)) (act h g U w p) :=
  Mat.cast (M := 4096) (N := 2816) (W8_arr m ρ c 10) (call3_10 (V7 m ρ) c (w := w) (x := hi w) (p := p) (q := hi1 p)
    (Mat.cast (M := 4096) (N := 2816) ((W7_of m ρ c main_v11 (by decide)).trans ((W6_of _ _ _ _ (by decide)).trans (W5_of _ _ _ _ (by decide)))) (at_v11 m ρ c hH hg hU))
    (Mat.cast (M := 4096) (N := 2816) (W7_of m ρ c main_v13 (by decide)) (at_v13 m ρ c hH hg hU))
    (at_v16 m ρ c hw)
    (at_v17 m ρ c hw)
    (at_v18 m ρ c hw)
    (at_v19 m ρ c hw)
    (at_v20 m ρ c hw)
    (at_v21 m ρ c hw)
    (at_v23 m ρ c hp)
    (at_v25 m ρ c hp))

include hH hg hU hw hp hD in
theorem at_v27 : Mat (M := 4096) (N := 1024) (W9 m ρ c (Proc.devRef .tc main_v27)) (outF h g U w p D) :=
  Mat.cast (M := 4096) (N := 1024) (W9_arr m ρ c 3) (call4 (V8 m ρ) c
    (at_v26 m ρ c hH hg hU hw hp)
    (Mat.cast (M := 2816) (N := 1024) ((W8_of m ρ c main_v6 (by decide)).trans ((W7_of _ _ _ _ (by decide)).trans ((W6_of _ _ _ _ (by decide)).trans ((W5_of _ _ _ _ (by decide)).trans ((W4_of _ _ _ _ (by decide)).trans ((W3_of _ _ _ _ (by decide)).trans (W2_of _ _ _ _ (by decide)))))))) (at_v6 m ρ c hD))
    (Mat.cast (M := 4096) (N := 1024) (W8_args m ρ c main_arg0 (by decide)) hH))

include hU in
theorem at_v28 : Mat (M := 1024) (N := 5632) (W10 m ρ c (Proc.devRef .tc main_v28)) (U) :=
  host5_v28 (W9 m ρ c) (Mat3.cast (L := 1) (M := 1024) (N := 5632) ((W9_of m ρ c main_v1 (by decide)).trans ((W8_of _ _ _ _ (by decide)).trans ((W7_of _ _ _ _ (by decide)).trans ((W6_of _ _ _ _ (by decide)).trans ((W5_of _ _ _ _ (by decide)).trans ((W4_of _ _ _ _ (by decide)).trans ((W3_of _ _ _ _ (by decide)).trans (W2_of _ _ _ _ (by decide))))))))) (at_v1 m ρ c hU))

include hD in
theorem at_v29 : Mat (M := 2816) (N := 1024) (W10 m ρ c (Proc.devRef .tc main_v29)) (D) :=
  host5_v29 (W9 m ρ c) (Mat3.cast (L := 1) (M := 2816) (N := 1024) ((W9_of m ρ c main_v4 (by decide)).trans ((W8_of _ _ _ _ (by decide)).trans ((W7_of _ _ _ _ (by decide)).trans ((W6_of _ _ _ _ (by decide)).trans ((W5_of _ _ _ _ (by decide)).trans ((W4_of _ _ _ _ (by decide)).trans ((W3_of _ _ _ _ (by decide)).trans (W2_of _ _ _ _ (by decide))))))))) (at_v4 m ρ c hD))

include hd hD in
theorem at_v30 : Mat (M := 4096) (N := 2816) (W11 m ρ c (Proc.devRef .tc main_v30)) (dAct d D) :=
  Mat.cast (M := 4096) (N := 2816) (W11_arr m ρ c 2) (call5 (V10 m ρ) c
    (Mat.cast (M := 4096) (N := 1024) (W10_args m ρ c main_arg1 (by decide)) hd)
    (at_v29 m ρ c hD))

include hH hd hg hU hw hp in
theorem at_v31 : Mat (M := 2816) (N := 1024) (W12 m ρ c (Proc.devRef .tc main_v31)) (dDown h d g U w p) :=
  Mat.cast (M := 2816) (N := 1024) (W12_arr m ρ c 2) (call6 (V11 m ρ) c
    (Mat.cast (M := 4096) (N := 2816) ((W11_of m ρ c main_v26 (by decide)).trans ((W10_of _ _ _ _ (by decide)).trans (W9_of _ _ _ _ (by decide)))) (at_v26 m ρ c hH hg hU hw hp))
    (Mat.cast (M := 4096) (N := 1024) (W11_args m ρ c main_arg1 (by decide)) hd))

include hw in
theorem at_v34 : Mat (M := 1) (N := 2816) (W13 m ρ c (Proc.devRef .tc main_v34)) (fun _ => w 0) :=
  host7_v34 (W12 m ρ c) (Mat3.cast (L := 1) (M := 3) (N := 5632) (v2_12 m ρ c) (at_v2 m ρ c hw))

include hw in
theorem at_v35 : Mat (M := 1) (N := 2816) (W13 m ρ c (Proc.devRef .tc main_v35)) (fun _ => w 1) :=
  host7_v35 (W12 m ρ c) (Mat3.cast (L := 1) (M := 3) (N := 5632) (v2_12 m ρ c) (at_v2 m ρ c hw))

include hw in
theorem at_v36 : Mat (M := 1) (N := 2816) (W13 m ρ c (Proc.devRef .tc main_v36)) (fun _ => w 2) :=
  host7_v36 (W12 m ρ c) (Mat3.cast (L := 1) (M := 3) (N := 5632) (v2_12 m ρ c) (at_v2 m ρ c hw))

include hw in
theorem at_v37 : Mat (M := 1) (N := 2816) (W13 m ρ c (Proc.devRef .tc main_v37)) (fun _ => hi w 0) :=
  host7_v37 (W12 m ρ c) (Mat3.cast (L := 1) (M := 3) (N := 5632) (v2_12 m ρ c) (at_v2 m ρ c hw))

include hw in
theorem at_v38 : Mat (M := 1) (N := 2816) (W13 m ρ c (Proc.devRef .tc main_v38)) (fun _ => hi w 1) :=
  host7_v38 (W12 m ρ c) (Mat3.cast (L := 1) (M := 3) (N := 5632) (v2_12 m ρ c) (at_v2 m ρ c hw))

include hw in
theorem at_v39 : Mat (M := 1) (N := 2816) (W13 m ρ c (Proc.devRef .tc main_v39)) (fun _ => hi w 2) :=
  host7_v39 (W12 m ρ c) (Mat3.cast (L := 1) (M := 3) (N := 5632) (v2_12 m ρ c) (at_v2 m ρ c hw))

include hp in
theorem at_v41 : Mat (M := 1) (N := 2816) (W13 m ρ c (Proc.devRef .tc main_v41)) (fun _ => p) :=
  host7_v41 (W12 m ρ c) (Mat.cast (M := 1) (N := 5632) (v3_12 m ρ c) (at_v3 m ρ c hp))

include hp in
theorem at_v43 : Mat (M := 1) (N := 2816) (W13 m ρ c (Proc.devRef .tc main_v43)) (fun _ => hi1 p) :=
  host7_v43 (W12 m ρ c) (Mat.cast (M := 1) (N := 5632) (v3_12 m ρ c) (at_v3 m ρ c hp))

include hH hd hg hU hw hp hD in
theorem at_v44_0 : Mat (M := 4096) (N := 2816) (W14 m ρ c (Proc.devRef .tc main_v44_0)) (dGateIn h d g U w p D) :=
  Mat.cast (M := 4096) (N := 2816) (W14_arr m ρ c 11) (call7_11 (V13 m ρ) c (w := w) (x := hi w) (p := p) (q := hi1 p)
    (Mat.cast (M := 4096) (N := 2816) (v11_13 m ρ c) (at_v11 m ρ c hH hg hU))
    (Mat.cast (M := 4096) (N := 2816) (v13_13 m ρ c) (at_v13 m ρ c hH hg hU))
    (at_v34 m ρ c hw)
    (at_v35 m ρ c hw)
    (at_v36 m ρ c hw)
    (at_v37 m ρ c hw)
    (at_v38 m ρ c hw)
    (at_v39 m ρ c hw)
    (at_v41 m ρ c hp)
    (at_v43 m ρ c hp)
    (Mat.cast (M := 4096) (N := 2816) (v30_13 m ρ c) (at_v30 m ρ c hd hD)))

include hH hd hg hU hw hp hD in
theorem at_v44_1 : Mat (M := 4096) (N := 2816) (W14 m ρ c (Proc.devRef .tc main_v44_1)) (dValueIn h d g U w p D) :=
  Mat.cast (M := 4096) (N := 2816) (W14_arr m ρ c 12) (call7_12 (V13 m ρ) c (w := w) (x := hi w) (p := p) (q := hi1 p)
    (Mat.cast (M := 4096) (N := 2816) (v11_13 m ρ c) (at_v11 m ρ c hH hg hU))
    (Mat.cast (M := 4096) (N := 2816) (v13_13 m ρ c) (at_v13 m ρ c hH hg hU))
    (at_v34 m ρ c hw)
    (at_v35 m ρ c hw)
    (at_v36 m ρ c hw)
    (at_v37 m ρ c hw)
    (at_v38 m ρ c hw)
    (at_v39 m ρ c hw)
    (at_v41 m ρ c hp)
    (at_v43 m ρ c hp)
    (Mat.cast (M := 4096) (N := 2816) (v30_13 m ρ c) (at_v30 m ρ c hd hD)))

include hH hd hg hU hw hp hD in
theorem at_v44_2 : Mat (M := 1) (N := 2816) (W14 m ρ c (Proc.devRef .tc main_v44_2)) (fun _ => dTap 2 (gateIn h g U) (dGateC h d g U w p D)) :=
  Mat.cast (M := 1) (N := 2816) (W14_arr m ρ c 13) (call7_13 (V13 m ρ) c (w := w) (x := hi w) (p := p) (q := hi1 p)
    (Mat.cast (M := 4096) (N := 2816) (v11_13 m ρ c) (at_v11 m ρ c hH hg hU))
    (Mat.cast (M := 4096) (N := 2816) (v13_13 m ρ c) (at_v13 m ρ c hH hg hU))
    (at_v34 m ρ c hw)
    (at_v35 m ρ c hw)
    (at_v36 m ρ c hw)
    (at_v37 m ρ c hw)
    (at_v38 m ρ c hw)
    (at_v39 m ρ c hw)
    (at_v41 m ρ c hp)
    (at_v43 m ρ c hp)
    (Mat.cast (M := 4096) (N := 2816) (v30_13 m ρ c) (at_v30 m ρ c hd hD)))

include hH hd hg hU hw hp hD in
theorem at_v44_3 : Mat (M := 1) (N := 2816) (W14 m ρ c (Proc.devRef .tc main_v44_3)) (fun _ => dTap 1 (gateIn h g U) (dGateC h d g U w p D)) :=
  Mat.cast (M := 1) (N := 2816) (W14_arr m ρ c 14) (call7_14 (V13 m ρ) c (w := w) (x := hi w) (p := p) (q := hi1 p)
    (Mat.cast (M := 4096) (N := 2816) (v11_13 m ρ c) (at_v11 m ρ c hH hg hU))
    (Mat.cast (M := 4096) (N := 2816) (v13_13 m ρ c) (at_v13 m ρ c hH hg hU))
    (at_v34 m ρ c hw)
    (at_v35 m ρ c hw)
    (at_v36 m ρ c hw)
    (at_v37 m ρ c hw)
    (at_v38 m ρ c hw)
    (at_v39 m ρ c hw)
    (at_v41 m ρ c hp)
    (at_v43 m ρ c hp)
    (Mat.cast (M := 4096) (N := 2816) (v30_13 m ρ c) (at_v30 m ρ c hd hD)))

include hH hd hg hU hw hp hD in
theorem at_v44_4 : Mat (M := 1) (N := 2816) (W14 m ρ c (Proc.devRef .tc main_v44_4)) (fun _ => dTap 0 (gateIn h g U) (dGateC h d g U w p D)) :=
  Mat.cast (M := 1) (N := 2816) (W14_arr m ρ c 15) (call7_15 (V13 m ρ) c (w := w) (x := hi w) (p := p) (q := hi1 p)
    (Mat.cast (M := 4096) (N := 2816) (v11_13 m ρ c) (at_v11 m ρ c hH hg hU))
    (Mat.cast (M := 4096) (N := 2816) (v13_13 m ρ c) (at_v13 m ρ c hH hg hU))
    (at_v34 m ρ c hw)
    (at_v35 m ρ c hw)
    (at_v36 m ρ c hw)
    (at_v37 m ρ c hw)
    (at_v38 m ρ c hw)
    (at_v39 m ρ c hw)
    (at_v41 m ρ c hp)
    (at_v43 m ρ c hp)
    (Mat.cast (M := 4096) (N := 2816) (v30_13 m ρ c) (at_v30 m ρ c hd hD)))

include hH hd hg hU hw hp hD in
theorem at_v44_5 : Mat (M := 1) (N := 2816) (W14 m ρ c (Proc.devRef .tc main_v44_5)) (fun _ => dTap 2 (valueIn h g U) (dValueC h d g U w p D)) :=
  Mat.cast (M := 1) (N := 2816) (W14_arr m ρ c 16) (call7_16 (V13 m ρ) c (w := w) (x := hi w) (p := p) (q := hi1 p)
    (Mat.cast (M := 4096) (N := 2816) (v11_13 m ρ c) (at_v11 m ρ c hH hg hU))
    (Mat.cast (M := 4096) (N := 2816) (v13_13 m ρ c) (at_v13 m ρ c hH hg hU))
    (at_v34 m ρ c hw)
    (at_v35 m ρ c hw)
    (at_v36 m ρ c hw)
    (at_v37 m ρ c hw)
    (at_v38 m ρ c hw)
    (at_v39 m ρ c hw)
    (at_v41 m ρ c hp)
    (at_v43 m ρ c hp)
    (Mat.cast (M := 4096) (N := 2816) (v30_13 m ρ c) (at_v30 m ρ c hd hD)))

include hH hd hg hU hw hp hD in
theorem at_v44_6 : Mat (M := 1) (N := 2816) (W14 m ρ c (Proc.devRef .tc main_v44_6)) (fun _ => dTap 1 (valueIn h g U) (dValueC h d g U w p D)) :=
  Mat.cast (M := 1) (N := 2816) (W14_arr m ρ c 17) (call7_17 (V13 m ρ) c (w := w) (x := hi w) (p := p) (q := hi1 p)
    (Mat.cast (M := 4096) (N := 2816) (v11_13 m ρ c) (at_v11 m ρ c hH hg hU))
    (Mat.cast (M := 4096) (N := 2816) (v13_13 m ρ c) (at_v13 m ρ c hH hg hU))
    (at_v34 m ρ c hw)
    (at_v35 m ρ c hw)
    (at_v36 m ρ c hw)
    (at_v37 m ρ c hw)
    (at_v38 m ρ c hw)
    (at_v39 m ρ c hw)
    (at_v41 m ρ c hp)
    (at_v43 m ρ c hp)
    (Mat.cast (M := 4096) (N := 2816) (v30_13 m ρ c) (at_v30 m ρ c hd hD)))

include hH hd hg hU hw hp hD in
theorem at_v44_7 : Mat (M := 1) (N := 2816) (W14 m ρ c (Proc.devRef .tc main_v44_7)) (fun _ => dTap 0 (valueIn h g U) (dValueC h d g U w p D)) :=
  Mat.cast (M := 1) (N := 2816) (W14_arr m ρ c 18) (call7_18 (V13 m ρ) c (w := w) (x := hi w) (p := p) (q := hi1 p)
    (Mat.cast (M := 4096) (N := 2816) (v11_13 m ρ c) (at_v11 m ρ c hH hg hU))
    (Mat.cast (M := 4096) (N := 2816) (v13_13 m ρ c) (at_v13 m ρ c hH hg hU))
    (at_v34 m ρ c hw)
    (at_v35 m ρ c hw)
    (at_v36 m ρ c hw)
    (at_v37 m ρ c hw)
    (at_v38 m ρ c hw)
    (at_v39 m ρ c hw)
    (at_v41 m ρ c hp)
    (at_v43 m ρ c hp)
    (Mat.cast (M := 4096) (N := 2816) (v30_13 m ρ c) (at_v30 m ρ c hd hD)))

include hH hd hg hU hw hp hD in
theorem at_v44_8 : Mat (M := 1) (N := 2816) (W14 m ρ c (Proc.devRef .tc main_v44_8)) (fun _ => dBias (dGateC h d g U w p D)) :=
  Mat.cast (M := 1) (N := 2816) (W14_arr m ρ c 19) (call7_19 (V13 m ρ) c (w := w) (x := hi w) (p := p) (q := hi1 p)
    (Mat.cast (M := 4096) (N := 2816) (v11_13 m ρ c) (at_v11 m ρ c hH hg hU))
    (Mat.cast (M := 4096) (N := 2816) (v13_13 m ρ c) (at_v13 m ρ c hH hg hU))
    (at_v34 m ρ c hw)
    (at_v35 m ρ c hw)
    (at_v36 m ρ c hw)
    (at_v37 m ρ c hw)
    (at_v38 m ρ c hw)
    (at_v39 m ρ c hw)
    (at_v41 m ρ c hp)
    (at_v43 m ρ c hp)
    (Mat.cast (M := 4096) (N := 2816) (v30_13 m ρ c) (at_v30 m ρ c hd hD)))

include hH hd hg hU hw hp hD in
theorem at_v44_9 : Mat (M := 1) (N := 2816) (W14 m ρ c (Proc.devRef .tc main_v44_9)) (fun _ => dBias (dValueC h d g U w p D)) :=
  Mat.cast (M := 1) (N := 2816) (W14_arr m ρ c 20) (call7_20 (V13 m ρ) c (w := w) (x := hi w) (p := p) (q := hi1 p)
    (Mat.cast (M := 4096) (N := 2816) (v11_13 m ρ c) (at_v11 m ρ c hH hg hU))
    (Mat.cast (M := 4096) (N := 2816) (v13_13 m ρ c) (at_v13 m ρ c hH hg hU))
    (at_v34 m ρ c hw)
    (at_v35 m ρ c hw)
    (at_v36 m ρ c hw)
    (at_v37 m ρ c hw)
    (at_v38 m ρ c hw)
    (at_v39 m ρ c hw)
    (at_v41 m ρ c hp)
    (at_v43 m ρ c hp)
    (Mat.cast (M := 4096) (N := 2816) (v30_13 m ρ c) (at_v30 m ρ c hd hD)))

include hH hd hg hU hw hp hD in
theorem at_v47 : Mat (M := 3) (N := 5632) (W15 m ρ c (Proc.devRef .tc main_v47)) (dConvW h d g U w p D) :=
  host8_v47 (W14 m ρ c) (at_v44_2 m ρ c hH hd hg hU hw hp hD)
    (at_v44_3 m ρ c hH hd hg hU hw hp hD)
    (at_v44_4 m ρ c hH hd hg hU hw hp hD)
    (at_v44_5 m ρ c hH hd hg hU hw hp hD)
    (at_v44_6 m ρ c hH hd hg hU hw hp hD)
    (at_v44_7 m ρ c hH hd hg hU hw hp hD)

include hH hd hg hU hw hp hD in
theorem at_v49 : Row (N := 5632) (W15 m ρ c (Proc.devRef .tc main_v49)) (dConvB h d g U w p D) :=
  host8_v49 (W14 m ρ c) (at_v44_8 m ρ c hH hd hg hU hw hp hD)
    (at_v44_9 m ρ c hH hd hg hU hw hp hD)

theorem at_v51 : Mat3 (L := 4) (M := 1024) (N := 1408) (W15 m ρ c (Proc.devRef .tc main_v51)) (fun _ _ _ => 0) := host8_v51 (W14 m ρ c)

include hH hd hg hU hw hp hD in
theorem at_v51' : Mat3 (L := 4) (M := 1024) (N := 1408) (W16 m ρ c (Proc.devRef .tc main_v51)) (fun l a b => if l < 2 then Tmul 4096 (nrm h g) (fun r b => dGateIn h d g U w p D r (l * 1408 + b)) a b else 0) :=
  Mat3.cast (L := 4) (M := 1024) (N := 1408) (W16_arr m ρ c 2) (call8 (V15 m ρ) c
    (Mat.cast (M := 4096) (N := 1024) (v9_15 m ρ c) (at_v9 m ρ c hH hg))
    (Mat.cast (M := 4096) (N := 2816) (W15_of m ρ c main_v44_0 (by decide)) (at_v44_0 m ρ c hH hd hg hU hw hp hD)) (at_v51 m ρ c))

include hH hd hg hU hw hp hD in
theorem at_v52 : Mat3 (L := 4) (M := 1024) (N := 1408) (W17 m ρ c (Proc.devRef .tc main_v52)) (fun l a b => if l < 2 then Tmul 4096 (nrm h g) (fun r b => dGateIn h d g U w p D r (l * 1408 + b)) a b else 0) :=
  host9_v52 (W16 m ρ c) (at_v51' m ρ c hH hd hg hU hw hp hD)

include hH hd hg hU hw hp hD in
theorem at_v52' : Mat3 (L := 4) (M := 1024) (N := 1408) (W18 m ρ c (Proc.devRef .tc main_v52)) (dUp h d g U w p D) :=
  Mat3.cast (L := 4) (M := 1024) (N := 1408) (W18_arr m ρ c 2) (call9 (V17 m ρ) c
    (Mat.cast (M := 4096) (N := 1024) ((W17_of m ρ c main_v9 (by decide)).trans ((W16_of _ _ _ _ (by decide)).trans (v9_15 m ρ c))) (at_v9 m ρ c hH hg))
    (Mat.cast (M := 4096) (N := 2816) ((W17_of m ρ c main_v44_1 (by decide)).trans ((W16_of _ _ _ _ (by decide)).trans (W15_of _ _ _ _ (by decide)))) (at_v44_1 m ρ c hH hd hg hU hw hp hD))
    (at_v52 m ρ c hH hd hg hU hw hp hD))

include hU in
theorem at_v53 : Mat (M := 1024) (N := 2816) (W19 m ρ c (Proc.devRef .tc main_v53)) (U) :=
  host10_v53 (W18 m ρ c) (Mat.cast (M := 1024) (N := 5632) (v28_18 m ρ c) (at_v28 m ρ c hU))

include hH hd hg hU hw hp hD in
theorem at_v54 : Mat (M := 4096) (N := 1024) (W20 m ρ c (Proc.devRef .tc main_v54)) (mulT 2816 (dGateIn h d g U w p D) U) :=
  Mat.cast (M := 4096) (N := 1024) (W20_arr m ρ c 2) (call10 (V19 m ρ) c
    (Mat.cast (M := 4096) (N := 2816) ((W19_of m ρ c main_v44_0 (by decide)).trans ((W18_of _ _ _ _ (by decide)).trans ((W17_of _ _ _ _ (by decide)).trans ((W16_of _ _ _ _ (by decide)).trans (W15_of _ _ _ _ (by decide)))))) (at_v44_0 m ρ c hH hd hg hU hw hp hD))
    (at_v53 m ρ c hU))

include hU in
theorem at_v55 : Mat (M := 1024) (N := 2816) (W21 m ρ c (Proc.devRef .tc main_v55)) (hi U) :=
  host11_v55 (W20 m ρ c) (Mat.cast (M := 1024) (N := 5632) ((W20_of m ρ c main_v28 (by decide)).trans ((W19_of _ _ _ _ (by decide)).trans (v28_18 m ρ c))) (at_v28 m ρ c hU))

include hH hd hg hU hw hp hD in
theorem at_v56 : Mat (M := 4096) (N := 1024) (W22 m ρ c (Proc.devRef .tc main_v56)) (dNrm h d g U w p D) :=
  Mat.cast (M := 4096) (N := 1024) (W22_arr m ρ c 3) (call11 (V21 m ρ) c
    (Mat.cast (M := 4096) (N := 2816) ((W21_of m ρ c main_v44_1 (by decide)).trans ((W20_of _ _ _ _ (by decide)).trans ((W19_of _ _ _ _ (by decide)).trans ((W18_of _ _ _ _ (by decide)).trans ((W17_of _ _ _ _ (by decide)).trans ((W16_of _ _ _ _ (by decide)).trans (W15_of _ _ _ _ (by decide)))))))) (at_v44_1 m ρ c hH hd hg hU hw hp hD))
    (at_v55 m ρ c hU)
    (Mat.cast (M := 4096) (N := 1024) (W21_of m ρ c main_v54 (by decide)) (at_v54 m ρ c hH hd hg hU hw hp hD)))

include hg in
theorem at_v58 : Mat (M := 1) (N := 1024) (W23 m ρ c (Proc.devRef .tc main_v58)) (fun _ => g) :=
  host12_v58 (W22 m ρ c) (Mat.cast (M := 1) (N := 1024) ((W22_of m ρ c main_v0 (by decide)).trans ((W21_of _ _ _ _ (by decide)).trans ((W20_of _ _ _ _ (by decide)).trans ((W19_of _ _ _ _ (by decide)).trans ((W18_of _ _ _ _ (by decide)).trans ((W17_of _ _ _ _ (by decide)).trans ((W16_of _ _ _ _ (by decide)).trans ((W15_of _ _ _ _ (by decide)).trans ((W14_of _ _ _ _ (by decide)).trans ((W13_of _ _ _ _ (by decide)).trans ((W12_of _ _ _ _ (by decide)).trans ((W11_of _ _ _ _ (by decide)).trans ((W10_of _ _ _ _ (by decide)).trans ((W9_of _ _ _ _ (by decide)).trans ((W8_of _ _ _ _ (by decide)).trans ((W7_of _ _ _ _ (by decide)).trans ((W6_of _ _ _ _ (by decide)).trans ((W5_of _ _ _ _ (by decide)).trans ((W4_of _ _ _ _ (by decide)).trans ((W3_of _ _ _ _ (by decide)).trans (W2_of _ _ _ _ (by decide)))))))))))))))))))))) (at_v0 m ρ c hg))

include hH hd hg hU hw hp hD in
theorem at_v59_0 : Mat (M := 4096) (N := 1024) (W24 m ρ c (Proc.devRef .tc main_v59_0)) (dRms h g (dNrm h d g U w p D) d) :=
  Mat.cast (M := 4096) (N := 1024) (W24_arr m ρ c 4) (call12_4 (V23 m ρ) c
    (Mat.cast (M := 4096) (N := 1024) (W23_args m ρ c main_arg0 (by decide)) hH)
    (at_v58 m ρ c hg)
    (Mat.cast (M := 4096) (N := 1024) (W23_of m ρ c main_v56 (by decide)) (at_v56 m ρ c hH hd hg hU hw hp hD))
    (Mat.cast (M := 4096) (N := 1024) (W23_args m ρ c main_arg1 (by decide)) hd))

include hH hd hg hU hw hp hD in
theorem at_v59_1 : Mat (M := 1) (N := 1024) (W24 m ρ c (Proc.devRef .tc main_v59_1)) (fun _ => dGain 4096 h (dNrm h d g U w p D)) :=
  Mat.cast (M := 1) (N := 1024) (W24_arr m ρ c 5) (call12_5 (V23 m ρ) c
    (Mat.cast (M := 4096) (N := 1024) (W23_args m ρ c main_arg0 (by decide)) hH)
    (Mat.cast (M := 4096) (N := 1024) (W23_of m ρ c main_v56 (by decide)) (at_v56 m ρ c hH hd hg hU hw hp hD)))

include hH hd hg hU hw hp in
theorem at_v60 : Mat3 (L := 4) (M := 704) (N := 1024) (W25 m ρ c (Proc.devRef .tc main_v60)) (fun l a b => dDown h d g U w p (l * 704 + a) b) :=
  host13_v60 (W24 m ρ c) (Mat.cast (M := 2816) (N := 1024) ((W24_of m ρ c main_v31 (by decide)).trans ((W23_of _ _ _ _ (by decide)).trans ((W22_of _ _ _ _ (by decide)).trans ((W21_of _ _ _ _ (by decide)).trans ((W20_of _ _ _ _ (by decide)).trans ((W19_of _ _ _ _ (by decide)).trans ((W18_of _ _ _ _ (by decide)).trans ((W17_of _ _ _ _ (by decide)).trans ((W16_of _ _ _ _ (by decide)).trans ((W15_of _ _ _ _ (by decide)).trans ((W14_of _ _ _ _ (by decide)).trans (W13_of _ _ _ _ (by decide))))))))))))) (at_v31 m ρ c hH hd hg hU hw hp))

end

end Cert.Mlp
-- ==== Proof.FfnRef.lean ====
/- The reference's arrays, one operation after another, each read at an index. -/
module

public import proofs.«01_k».proof.Proof.Gen.FfnReferenceIdeal.Run
public import proofs.«01_k».proof.Proof.FfnSpec
public import Idealize.ShloMosaic.Lib.Tactic.CleanTypes

@[expose] public section

set_option maxRecDepth 16384

noncomputable section

namespace Cert.Mlp.Ref

open Idealize.ShloMosaic Idealize.ShloMosaic.TcCoe Idealize.SL.Sem Cert.FfnReferenceIdeal Cert.FfnReferenceIdeal.Gen Cert.FfnReferenceIdeal.Value
open scoped BigOperators

variable (X : Valuation τ sig (Elt Ideal))
variable {h d : ℕ → ℕ → EReal} {g : ℕ → EReal} {U w : ℕ → ℕ → EReal} {p : ℕ → EReal} {D : ℕ → ℕ → EReal}
  (hH : Mat (M := 4096) (N := 1024) (X (Proc.devRef .tc main_arg0)) h)
  (hd : Mat (M := 4096) (N := 1024) (X (Proc.devRef .tc main_arg1)) d)
  (hg : Row (N := 1024) (X (Proc.devRef .tc main_arg2)) g)
  (hU : Mat (M := 1024) (N := 5632) (X (Proc.devRef .tc main_arg3)) U)
  (hw : Mat (M := 3) (N := 5632) (X (Proc.devRef .tc main_arg4)) w)
  (hp : Row (N := 5632) (X (Proc.devRef .tc main_arg5)) p)
  (hD : Mat (M := 2816) (N := 1024) (X (Proc.devRef .tc main_arg6)) D)

include hU in
theorem r0 : Mat (M := 1024) (N := 5632) (res_main_v0 X) (U) := by
  intro a b
  unfold res_main_v0
  clean_types
  pointwise
  simp only [hU.e]

include hD in
theorem r1 : Mat (M := 2816) (N := 1024) (res_main_v1 X) (D) := by
  intro a b
  unfold res_main_v1
  clean_types
  pointwise
  simp only [hD.e]

include hH in
theorem r8 : Mat (M := 4096) (N := 1) (res_main_v8 X) (fun a _ => meanSq h a) := by
  intro a b
  unfold res_main_v8
  clean_types
  pointwise
  simp only [hH.e]
  unfold meanSq
  rw [Finset.sum_range]

include hH in
theorem r9 : Mat (M := 4096) (N := 1) (res_main_v9 X) (fun a _ => Ideal.rsqrt (meanSq h a)) := by
  intro a b
  unfold res_main_v9
  clean_types
  pointwise
  simp only [(r8 X hH).e]

include hH in
theorem r14 : Mat (M := 4096) (N := 1024) (res_main_v14 X) (unit h) := by
  intro a b
  unfold res_main_v14
  clean_types
  pointwise
  simp only [hH.e, (r9 X hH).e]
  rfl

include hg in
theorem r15 : Mat (M := 1) (N := 1024) (res_main_v15 X) (fun _ => g) := by
  intro a b
  unfold res_main_v15
  clean_types
  pointwise
  simp only [hg.e]

include hH hg in
theorem r17 : Mat (M := 4096) (N := 1024) (res_main_v17 X) (nrm h g) := by
  intro a b
  unfold res_main_v17
  clean_types
  pointwise
  simp only [(r14 X hH).e, (r15 X hg).e]
  rfl

include hH hg hU in
theorem r20 : Mat (M := 4098) (N := 5632) (res_main_v20 X) (fun a b => if a < 2 then 0 else (gateIn h g U) (a - 2) b) := by
  intro a b
  unfold res_main_v20
  clean_types
  pointwise
  simp only [(r17 X hH hg).e, (r0 X hU).e]
  unfold gateIn mul
  simp only [Finset.sum_range, dite_eq_ite]

include hH hg hU in
theorem r22 : Mat (M := 4096) (N := 5632) (res_main_v22 X) (down 2 (gateIn h g U)) := by
  intro a b
  unfold res_main_v22
  clean_types
  pointwise
  simp only [(r20 X hH hg hU).e]
  unfold down
  by_cases hz : a.val < 2
  · rw [if_pos (by omega), if_neg (by omega)]
  · rw [if_neg (by omega), if_pos (by omega)]

include hH hg hU in
theorem r30 : Mat (M := 4096) (N := 5632) (res_main_v30 X) (down 1 (gateIn h g U)) := by
  intro a b
  unfold res_main_v30
  clean_types
  pointwise
  simp only [(r20 X hH hg hU).e]
  unfold down
  by_cases hz : a.val < 1
  · rw [if_pos (by omega), if_neg (by omega)]
  · rw [if_neg (by omega), if_pos (by omega), show 1 + a.val - 2 = a.val - 1 by omega]

include hH hg hU in
theorem r37 : Mat (M := 4096) (N := 5632) (res_main_v37 X) (down 0 (gateIn h g U)) := by
  intro a b
  unfold res_main_v37
  clean_types
  pointwise
  simp only [(r20 X hH hg hU).e]
  rw [down_zero]
  rw [if_neg (by omega), Nat.add_sub_cancel_left]

include hw in
theorem r25 : Mat (M := 1) (N := 5632) (res_main_v25 X) (fun _ => w 0) := by
  intro a b
  unfold res_main_v25
  clean_types
  pointwise
  simp only [hw.e]
  try rfl

include hw in
theorem r33 : Mat (M := 1) (N := 5632) (res_main_v33 X) (fun _ => w 1) := by
  intro a b
  unfold res_main_v33
  clean_types
  pointwise
  simp only [hw.e]
  try rfl

include hw in
theorem r40 : Mat (M := 1) (N := 5632) (res_main_v40 X) (fun _ => w 2) := by
  intro a b
  unfold res_main_v40
  clean_types
  pointwise
  simp only [hw.e]
  try rfl

include hH hg hU hw hp in
theorem r46 : Mat (M := 4096) (N := 5632) (res_main_v46 X) (conv w p (gateIn h g U)) := by
  intro a b
  unfold res_main_v46
  clean_types
  pointwise
  simp only [(r22 X hH hg hU).e, (r25 X hw).e, (r30 X hH hg hU).e, (r33 X hw).e, (r37 X hH hg hU).e, (r40 X hw).e, hp.e]
  unfold conv
  rw [down_zero, add_comm (down 2 _ _ _ * _), add_comm (_ + _) (gateIn _ _ _ _ _ * _), ← add_assoc]

include hH hg hU hw hp in
theorem r47 : Mat (M := 4096) (N := 2816) (res_main_v47 X) (gateC h g U w p) := by
  intro a b
  unfold res_main_v47
  clean_types
  pointwise
  simp only [(r46 X hH hg hU hw hp).e]
  try rfl

include hH hg hU hw hp in
theorem r48 : Mat (M := 4096) (N := 2816) (res_main_v48 X) (valueC h g U w p) := by
  intro a b
  unfold res_main_v48
  clean_types
  pointwise
  simp only [(r46 X hH hg hU hw hp).e]
  try rfl

include hH hg hU hw hp in
theorem r49_2 : Mat (M := 4096) (N := 2816) (res_main_v49_2 X) (fun a b => Ideal.logistic (gateC h g U w p a b)) := by
  intro a b
  unfold res_main_v49_2
  clean_types
  pointwise
  simp only [(r47 X hH hg hU hw hp).e]
  rfl

include hH hg hU hw hp in
theorem r49_0 : Mat (M := 4096) (N := 2816) (res_main_v49_0 X) (fun a b => gateC h g U w p a b * Ideal.logistic (gateC h g U w p a b)) := by
  intro a b
  unfold res_main_v49_0
  clean_types
  pointwise
  simp only [(r47 X hH hg hU hw hp).e, (r49_2 X hH hg hU hw hp).e]

include hH hg hU hw hp in
theorem r50 : Mat (M := 4096) (N := 2816) (res_main_v50 X) (act h g U w p) := by
  intro a b
  unfold res_main_v50
  clean_types
  pointwise
  simp only [(r49_0 X hH hg hU hw hp).e, (r48 X hH hg hU hw hp).e]
  rfl

include hd in
theorem r53 : Mat (M := 4096) (N := 1024) (res_main_v53 X) (d) := by
  intro a b
  unfold res_main_v53
  clean_types
  pointwise
  simp only [hd.e]

include hd hD in
theorem r56 : Mat (M := 4096) (N := 2816) (res_main_v56 X) (dAct d D) := by
  intro a b
  unfold res_main_v56
  clean_types
  pointwise
  simp only [(r53 X hd).e, (r1 X hD).e]
  unfold dAct mulT
  rw [Finset.sum_range]

include hH hd hg hU hw hp hD in
theorem r58 : Mat (M := 4096) (N := 2816) (res_main_v58 X) (fun a b => dAct d D a b * valueC h g U w p a b) := by
  intro a b
  unfold res_main_v58
  clean_types
  pointwise
  simp only [(r56 X hd hD).e, (r48 X hH hg hU hw hp).e]

include hH hd hg hU hw hp hD in
theorem r60 : Mat (M := 4096) (N := 5632) (res_main_v60 X) ((dConv h d g U w p D)) := by
  intro a b
  unfold res_main_v60
  clean_types
  pointwise
  simp only [(r58 X hH hd hg hU hw hp hD).e, (r49_2 X hH hg hU hw hp).e, (r47 X hH hg hU hw hp).e, (r49_0 X hH hg hU hw hp).e, (r56 X hd hD).e]
  simp only [dite_eq_ite]
  rfl

include hH hd hg hU hw hp hD in
theorem r94 : Mat (M := 4098) (N := 5632) (res_main_v94 X) (fun a b => (if 2 ≤ a then (dConv h d g U w p D) (a - 2) b * w 2 b else 0) + (if 1 ≤ a ∧ a < 4097 then (dConv h d g U w p D) (a - 1) b * w 1 b else 0) + (if a < 4096 then (dConv h d g U w p D) a b * w 0 b else 0)) := by
  intro a b
  unfold res_main_v94
  clean_types
  pointwise
  simp only [(r60 X hH hd hg hU hw hp hD).e, (r40 X hw).e, (r33 X hw).e, (r25 X hw).e]
  have h0 := a.isLt
  have e2 : (2 ≤ a.val ∧ a.val - 2 < 4096) ↔ 2 ≤ a.val := by omega
  have e1 : (1 ≤ a.val ∧ a.val - 1 < 4096) ↔ (1 ≤ a.val ∧ a.val < 4097) := by omega
  simp only [dite_eq_ite, e2, e1]

include hH hd hg hU hw hp hD in
theorem r96 : Mat (M := 4096) (N := 5632) (res_main_v96 X) (unconv w (dConv h d g U w p D)) := by
  intro a b
  unfold res_main_v96
  clean_types
  pointwise
  simp only [(r94 X hH hd hg hU hw hp hD).e]
  have e1 : (1 ≤ 2 + a.val ∧ 2 + a.val < 4097) ↔ a.val < 4096 - 1 := by omega
  have e0 : 2 + a.val < 4096 ↔ a.val < 4096 - 2 := by omega
  rw [if_pos (by omega), if_congr e1 rfl rfl, if_congr e0 rfl rfl, show 2 + a.val - 2 = a.val by omega, show 2 + a.val - 1 = a.val + 1 by omega,
    Nat.add_comm 2 a.val]
  unfold unconv up
  rw [add_comm, add_comm (_ * _), add_assoc]

include hH hd hg hU hw hp hD in
theorem r98 : Mat (M := 1024) (N := 5632) (res_main_v98 X) (Tmul 4096 (nrm h g) (unconv w (dConv h d g U w p D))) := by
  intro a b
  unfold res_main_v98
  clean_types
  pointwise
  simp only [(r96 X hH hd hg hU hw hp hD).e, (r17 X hH hg).e]
  simp only [mul_comm (unconv _ _ _ _)]
  unfold Tmul
  rw [Finset.sum_range]

include hH hd hg hU hw hp hD in
theorem r99 : Mat (M := 4096) (N := 1024) (res_main_v99 X) (mulT 5632 (unconv w (dConv h d g U w p D)) U) := by
  intro a b
  unfold res_main_v99
  clean_types
  pointwise
  simp only [(r96 X hH hd hg hU hw hp hD).e, (r0 X hU).e]
  unfold mulT
  rw [Finset.sum_range]

include hH hd hg hU hw hp hD in
theorem r104 : Mat (M := 4096) (N := 1024) (res_main_v104 X) (fun a b => mulT 5632 (unconv w (dConv h d g U w p D)) U a b * g b) := by
  intro a b
  unfold res_main_v104
  clean_types
  pointwise
  simp only [(r99 X hH hd hg hU hw hp hD).e, (r15 X hg).e]

include hH hd hg hU hw hp hD in
theorem r116 : Mat (M := 4096) (N := 1024) (res_main_v116 X) (fun a _ => dMean h g (mulT 5632 (unconv w (dConv h d g U w p D)) U) a) := by
  intro a b
  unfold res_main_v116
  clean_types
  pointwise
  simp only [hH.e, (r104 X hH hd hg hU hw hp hD).e, (r9 X hH).e, (r8 X hH).e]
  rw [Fin.sum_univ_one]
  unfold dMean
  rw [Finset.sum_range]

theorem wide_lo {a b : ℕ} (hb : b < 2816) : unconv w (dConv h d g U w p D) a b = dGateIn h d g U w p D a b := by
  unfold dGateIn unconv up dConv
  simp only [if_pos hb]

theorem wide_hi (a b : ℕ) : unconv w (dConv h d g U w p D) a (2816 + b) = dValueIn h d g U w p D a b := by
  have e : ¬ 2816 + b < 2816 := by omega
  unfold dValueIn unconv up dConv
  simp only [if_neg e, Nat.add_sub_cancel_left]

theorem narrow : mulT 5632 (unconv w (dConv h d g U w p D)) U = (dNrm h d g U w p D) := by
  funext a b
  unfold dNrm mulT
  rw [show (5632 : ℕ) = 2816 + 2816 from rfl, Finset.sum_range_add, add_comm]
  exact congrArg₂ (· + ·) (Finset.sum_congr rfl fun k _ => by rw [wide_hi])
    (Finset.sum_congr rfl fun k hk => by rw [wide_lo (Finset.mem_range.mp hk)])

theorem col {n : ℕ} {y f f' : ℕ → ℕ → EReal} {a b b' : ℕ} (e : ∀ r, f r b = f' r b') : Tmul n y f a b = Tmul n y f' a b' :=
  Finset.sum_congr rfl fun k _ => by rw [e k]

theorem taps_lo (s : ℕ) {b : ℕ} (hb : b < 2816) :
    ∑ x : Fin 4096, down s (gateIn h g U) x b * (dConv h d g U w p D) x b = dTap s (gateIn h g U) (dGateC h d g U w p D) b := by
  unfold dTap dConv
  rw [Finset.sum_range]
  simp only [if_pos hb]

theorem taps_hi (s b : ℕ) :
    ∑ x : Fin 4096, down s (gateIn h g U) x (2816 + b) * (dConv h d g U w p D) x (2816 + b) = dTap s (valueIn h g U) (dValueC h d g U w p D) b := by
  have e : ¬ 2816 + b < 2816 := by omega
  unfold dTap dConv
  rw [Finset.sum_range]
  simp only [if_neg e, Nat.add_sub_cancel_left]
  rfl

theorem bias_lo {b : ℕ} (hb : b < 2816) : ∑ x : Fin 4096, (dConv h d g U w p D) x b = dBias (dGateC h d g U w p D) b := by
  unfold dBias dConv
  rw [Finset.sum_range]
  simp only [if_pos hb]

theorem bias_hi (b : ℕ) : ∑ x : Fin 4096, (dConv h d g U w p D) x (2816 + b) = dBias (dValueC h d g U w p D) b := by
  have e : ¬ 2816 + b < 2816 := by omega
  unfold dBias dConv
  rw [Finset.sum_range]
  simp only [if_neg e, Nat.add_sub_cancel_left]

theorem right_of {b : ℕ} (hb : ¬ b < 2816) : ∃ k, b = 2816 + k := ⟨b - 2816, by omega⟩

/-- The block's result. -/
def out : FVec Ideal S4096x1024 .f32 :=
  addf (X (Proc.devRef .tc main_arg0)) (Host.dotGeneral (φ₁ := .f32) (φ₂ := .f32) dot_S4096x2816_S2816x1024_S4096x1024_1_0_0_1_n_n none (res_main_v50 X) (res_main_v1 X))

include hH hg hU hw hp hD in
theorem out_at : Mat (M := 4096) (N := 1024) (out X) (outF h g U w p D) := by
  intro a b
  unfold out
  pointwise
  simp only [hH.e, (r50 X hH hg hU hw hp).e, (r1 X hD).e]
  unfold outF mul
  rw [Finset.sum_range, add_comm]

/-- The gradient of its rows. -/
def dh : FVec Ideal S4096x1024 .f32 :=
  addf (addf (addf (X (Proc.devRef .tc main_arg1)) (mulf (res_main_v104 X) (broadcastInDim S4096x1024 ![0, 1] bcast_S4096x1_S4096x1024_0_1 (res_main_v9 X)))) (mulf (X (Proc.devRef .tc main_arg0)) (res_main_v116 X))) (mulf (res_main_v116 X) (X (Proc.devRef .tc main_arg0)))

include hH hd hg hU hw hp hD in
theorem dh_at : Mat (M := 4096) (N := 1024) (dh X) (dRms h g (dNrm h d g U w p D) d) := by
  intro a b
  unfold dh
  pointwise
  simp only [hH.e, hd.e, (r104 X hH hd hg hU hw hp hD).e, (r9 X hH).e, (r116 X hH hd hg hU hw hp hD).e]
  unfold dRms
  rw [narrow, add_assoc, add_assoc, add_comm, ← add_assoc]

/-- The gradient of the gains. -/
def dgain : FVec Ideal S1x1024 .f32 :=
  broadcastInDim S1x1024 ![1] bcast_S1024_S1x1024_1 (Host.reduceAdd (shapeCast _ (Host.reduceAdd (mulf (res_main_v14 X) (res_main_v99 X)) (constant S_ .f32 0x00000000#32) reducesTo_S4096x1024_S1024_d0 h_S_) shapeCasts_S1024_S1x1024) (constant S_ .f32 0x00000000#32) reducesTo_S1x1024_S1024_d0 h_S_)

include hH hd hg hU hw hp hD in
theorem dgain_at : Mat (M := 1) (N := 1024) (dgain X) (fun _ => dGain 4096 h (dNrm h d g U w p D)) := by
  intro a b
  unfold dgain
  pointwise
  simp only [(r14 X hH).e, (r99 X hH hd hg hU hw hp hD).e]
  unfold dGain
  rw [Fin.sum_univ_one, narrow, Finset.sum_range]

/-- The gradient of the first weights, in four parts. -/
def dup : FVec Ideal S4x1024x1408 .f32 :=
  (concatenate S4x1024x1408 0 [⟨S1x1024x1408, ((broadcastInDim S1x1024x1408 ![1, 2] bcast_S1024x1408_S1x1024x1408_1_2 (extractStridedSlice S1024x1408 ![0, 0] (res_main_v98 X) slices_S1024x5632_S1024x1408_0_0)) : (⟨S1x1024x1408, .f32⟩ : BufTy).Contents (Elt Ideal))⟩, ⟨S1x1024x1408, ((broadcastInDim S1x1024x1408 ![1, 2] bcast_S1024x1408_S1x1024x1408_1_2 (extractStridedSlice S1024x1408 ![0, 1408] (res_main_v98 X) slices_S1024x5632_S1024x1408_0_1408)) : (⟨S1x1024x1408, .f32⟩ : BufTy).Contents (Elt Ideal))⟩, ⟨S1x1024x1408, ((broadcastInDim S1x1024x1408 ![1, 2] bcast_S1024x1408_S1x1024x1408_1_2 (extractStridedSlice S1024x1408 ![0, 2816] (res_main_v98 X) slices_S1024x5632_S1024x1408_0_2816)) : (⟨S1x1024x1408, .f32⟩ : BufTy).Contents (Elt Ideal))⟩, ⟨S1x1024x1408, ((broadcastInDim S1x1024x1408 ![1, 2] bcast_S1024x1408_S1x1024x1408_1_2 (extractStridedSlice S1024x1408 ![0, 4224] (res_main_v98 X) slices_S1024x5632_S1024x1408_0_4224)) : (⟨S1x1024x1408, .f32⟩ : BufTy).Contents (Elt Ideal))⟩] concatenates_S1x1024x1408_S1x1024x1408_S1x1024x1408_S1x1024x1408_S4x1024x1408_d0 : (⟨S4x1024x1408, .f32⟩ : BufTy).Contents (Elt Ideal))

include hH hd hg hU hw hp hD in
theorem dup_at : Mat3 (L := 4) (M := 1024) (N := 1408) (dup X) (dUp h d g U w p D) := by
  intro l a b
  unfold dup
  pointwise
  simp only [(r98 X hH hd hg hU hw hp hD).e]
  obtain ⟨l, hl⟩ := l
  obtain ⟨b, hb⟩ := b
  dsimp only
  have hs : l = 0 ∨ l = 1 ∨ l = 2 ∨ l = 3 := by omega
  unfold dUp
  rcases hs with rfl | rfl | rfl | rfl
  · rw [dif_pos (by omega), if_neg (by omega), if_pos (by omega)]
    exact col fun r => (wide_lo (by omega)).trans (by rw [Nat.zero_mul, Nat.zero_add])
  · rw [dif_neg (by omega), dif_pos (by omega), if_neg (by omega), if_pos (by omega)]
    exact col fun r => (wide_lo (by omega)).trans (by rw [Nat.one_mul])
  · rw [dif_neg (by omega), dif_neg (by omega), dif_pos (by omega), if_pos (by omega)]
    exact col fun r => (wide_hi r b).trans (by rw [Nat.sub_self, Nat.zero_mul, Nat.zero_add])
  · rw [dif_neg (by omega), dif_neg (by omega), dif_neg (by omega), if_pos (by omega)]
    exact col fun r => (congrArg _ (by omega : 4224 + b = 2816 + (1408 + b))).trans (wide_hi r (1408 + b))

/-- The gradient of the convolution's weights. -/
def dconvw : FVec Ideal S3x5632 .f32 :=
  addf (addf (pad S3x5632 ![2, 0] ![0, 0] ![0, 0] (broadcastInDim S1x5632 ![1] bcast_S5632_S1x5632_1 (Host.reduceAdd (shapeCast _ (Host.reduceAdd (mulf (res_main_v37 X) (res_main_v60 X)) (constant S_ .f32 0x00000000#32) reducesTo_S4096x5632_S5632_d0 h_S_) shapeCasts_S5632_S1x5632) (constant S_ .f32 0x00000000#32) reducesTo_S1x5632_S5632_d0 h_S_)) (constant S_ .f32 0x00000000#32) pads_S1x5632_S3x5632_200_000 h_S_) (pad S3x5632 ![1, 0] ![1, 0] ![0, 0] (broadcastInDim S1x5632 ![1] bcast_S5632_S1x5632_1 (Host.reduceAdd (shapeCast _ (Host.reduceAdd (mulf (res_main_v30 X) (res_main_v60 X)) (constant S_ .f32 0x00000000#32) reducesTo_S4096x5632_S5632_d0 h_S_) shapeCasts_S5632_S1x5632) (constant S_ .f32 0x00000000#32) reducesTo_S1x5632_S5632_d0 h_S_)) (constant S_ .f32 0x00000000#32) pads_S1x5632_S3x5632_110_000 h_S_)) (pad S3x5632 ![0, 0] ![2, 0] ![0, 0] (broadcastInDim S1x5632 ![1] bcast_S5632_S1x5632_1 (Host.reduceAdd (shapeCast _ (Host.reduceAdd (mulf (res_main_v22 X) (res_main_v60 X)) (constant S_ .f32 0x00000000#32) reducesTo_S4096x5632_S5632_d0 h_S_) shapeCasts_S5632_S1x5632) (constant S_ .f32 0x00000000#32) reducesTo_S1x5632_S5632_d0 h_S_)) (constant S_ .f32 0x00000000#32) pads_S1x5632_S3x5632_020_000 h_S_)

include hH hd hg hU hw hp hD in
theorem dconvw_at : Mat (M := 3) (N := 5632) (dconvw X) (dConvW h d g U w p D) := by
  intro a b
  unfold dconvw
  pointwise
  simp only [(r37 X hH hg hU).e, (r30 X hH hg hU).e, (r22 X hH hg hU).e, (r60 X hH hd hg hU hw hp hD).e]
  obtain ⟨a, ha⟩ := a
  obtain ⟨b, hlt⟩ := b
  dsimp only
  have hs : a = 0 ∨ a = 1 ∨ a = 2 := by omega
  unfold dConvW
  rcases hs with rfl | rfl | rfl <;> by_cases hb : b < 2816
  · rw [dif_neg (by omega), dif_neg (by omega), dif_pos (by omega), zero_add, zero_add, Fin.sum_univ_one, taps_lo 2 hb, if_pos hb, if_pos rfl]
  · obtain ⟨k, rfl⟩ := right_of hb
    rw [dif_neg (by omega), dif_neg (by omega), dif_pos (by omega), zero_add, zero_add, Fin.sum_univ_one, taps_hi 2 k, if_neg hb, if_pos rfl, Nat.add_sub_cancel_left]
  · rw [dif_neg (by omega), dif_pos (by omega), dif_neg (by omega), zero_add, add_zero, Fin.sum_univ_one, taps_lo 1 hb, if_pos hb, if_neg (by omega), if_pos rfl]
  · obtain ⟨k, rfl⟩ := right_of hb
    rw [dif_neg (by omega), dif_pos (by omega), dif_neg (by omega), zero_add, add_zero, Fin.sum_univ_one, taps_hi 1 k, if_neg hb, if_neg (by omega), if_pos rfl, Nat.add_sub_cancel_left]
  · rw [dif_pos (by omega), dif_neg (by omega), dif_neg (by omega), add_zero, add_zero, Fin.sum_univ_one, taps_lo 0 hb, if_pos hb, if_neg (by omega), if_neg (by omega)]
  · obtain ⟨k, rfl⟩ := right_of hb
    rw [dif_pos (by omega), dif_neg (by omega), dif_neg (by omega), add_zero, add_zero, Fin.sum_univ_one, taps_hi 0 k, if_neg hb, if_neg (by omega), if_neg (by omega), Nat.add_sub_cancel_left]

/-- The gradient of the convolution's biases. -/
def dconvb : FVec Ideal S5632 .f32 :=
  Host.reduceAdd (shapeCast _ (Host.reduceAdd (res_main_v60 X) (constant S_ .f32 0x00000000#32) reducesTo_S4096x5632_S5632_d0 h_S_) shapeCasts_S5632_S1x5632) (constant S_ .f32 0x00000000#32) reducesTo_S1x5632_S5632_d0 h_S_

include hH hd hg hU hw hp hD in
theorem dconvb_at : Row (N := 5632) (dconvb X) (dConvB h d g U w p D) := by
  intro b
  unfold dconvb
  pointwise
  simp only [(r60 X hH hd hg hU hw hp hD).e]
  obtain ⟨b, hlt⟩ := b
  dsimp only
  unfold dConvB
  rw [Fin.sum_univ_one]
  by_cases hb : b < 2816
  · rw [bias_lo hb, if_pos hb]
  · obtain ⟨k, rfl⟩ := right_of hb
    rw [bias_hi k, if_neg hb, Nat.add_sub_cancel_left]

/-- The gradient of the second weights, in four parts. -/
def ddown : FVec Ideal S4x704x1024 .f32 :=
  shapeCast _ (transpose S2816x1024 [1, 0] (Host.dotGeneral (φ₁ := .f32) (φ₂ := .f32) dot_S4096x1024_S4096x2816_S1024x2816_0_0_1_1_n_n none (res_main_v53 X) (res_main_v50 X)) transposes_S1024x2816_S2816x1024_1_0) shapeCasts_S2816x1024_S4x704x1024

include hH hd hg hU hw hp in
theorem ddown_at : Mat3 (L := 4) (M := 704) (N := 1024) (ddown X) (fun l a b => dDown h d g U w p (l * 704 + a) b) := by
  intro l a b
  unfold ddown
  pointwise
  simp only [(r53 X hd).e, (r50 X hH hg hU hw hp).e]
  unfold dDown Tmul
  rw [Finset.sum_range]
  exact Finset.sum_congr rfl fun x _ => mul_comm _ _

end Cert.Mlp.Ref
-- ==== Proof.FfnJoin.lean ====
/- The feed-forward block's seven results are the reference's. -/
module

public import proofs.«01_k».proof.Defs
public import proofs.«01_k».proof.Proof.FfnRun
public import proofs.«01_k».proof.Proof.FfnChain
public import proofs.«01_k».proof.Proof.FfnRef

@[expose] public section

set_option maxRecDepth 16384

noncomputable section

namespace Cert.Mlp

open Idealize.ShloMosaic Idealize.ShloMosaic.TcCoe Idealize.SL.Sem Cert.FfnIdeal Cert.FfnIdeal.Gen

/-- The kernel and the reference, from the same arguments, end with the same seven arrays. -/
theorem agree : Cert.algebraic_FfnIdeal_FfnReferenceIdeal := by
  intro m g m' g' _ hargs

  refine ⟨fun c => W9 m g c (Proc.devRef .tc main_v27), fun c => W24 m g c (Proc.devRef .tc main_v59_0), fun c => W24 m g c (Proc.devRef .tc main_v59_1), fun c => W18 m g c (Proc.devRef .tc main_v52), fun c => W15 m g c (Proc.devRef .tc main_v47), fun c => W15 m g c (Proc.devRef .tc main_v49), fun c => W25 m g c (Proc.devRef .tc main_v60),
    results m g, ?_⟩
  refine (θ_run _ _ _).mono (fun r h c => ?_) (Cert.FfnReferenceIdeal.Value.run m' g')
  obtain ⟨r0, r1, r2, r3, r4, r5, r6, ra⟩ := h c
  obtain ⟨a0, a1, a2, a3, a4, a5, a6⟩ := hargs c
  obtain ⟨_, hH⟩ := some_mat (M := 4096) (N := 1024) (m ((c.tc : Thread nD τ).loc main_arg0))
  obtain ⟨_, hd⟩ := some_mat (M := 4096) (N := 1024) (m ((c.tc : Thread nD τ).loc main_arg1))
  obtain ⟨_, hg⟩ := some_row (N := 1024) (m ((c.tc : Thread nD τ).loc main_arg2))
  obtain ⟨_, hU⟩ := some_mat (M := 1024) (N := 5632) (m ((c.tc : Thread nD τ).loc main_arg3))
  obtain ⟨_, hw⟩ := some_mat (M := 3) (N := 5632) (m ((c.tc : Thread nD τ).loc main_arg4))
  obtain ⟨_, hp⟩ := some_row (N := 5632) (m ((c.tc : Thread nD τ).loc main_arg5))
  obtain ⟨_, hD⟩ := some_mat (M := 2816) (N := 1024) (m ((c.tc : Thread nD τ).loc main_arg6))
  have iH := Mat.cast (M := 4096) (N := 1024) a0 hH
  have id := Mat.cast (M := 4096) (N := 1024) a1 hd
  have ig := Row.cast (N := 1024) a2 hg
  have iU := Mat.cast (M := 1024) (N := 5632) a3 hU
  have iw := Mat.cast (M := 3) (N := 5632) a4 hw
  have ip := Row.cast (N := 5632) a5 hp
  have iD := Mat.cast (M := 2816) (N := 1024) a6 hD
  exact ⟨r0.trans (Mat.ext (Ref.out_at _ iH ig iU iw ip iD) (at_v27 m g c hH hg hU hw hp hD)),
    r1.trans (Mat.ext (Ref.dh_at _ iH id ig iU iw ip iD) (at_v59_0 m g c hH hd hg hU hw hp hD)),
    r2.trans (Mat.ext (Ref.dgain_at _ iH id ig iU iw ip iD) (at_v59_1 m g c hH hd hg hU hw hp hD)),
    r3.trans (Mat3.ext (Ref.dup_at _ iH id ig iU iw ip iD) (at_v52' m g c hH hd hg hU hw hp hD)),
    r4.trans (Mat.ext (Ref.dconvw_at _ iH id ig iU iw ip iD) (at_v47 m g c hH hd hg hU hw hp hD)),
    r5.trans (Row.ext (Ref.dconvb_at _ iH id ig iU iw ip iD) (at_v49 m g c hH hd hg hU hw hp hD)),
    r6.trans (Mat3.ext (Ref.ddown_at _ iH id ig iU iw ip) (at_v60 m g c hH hd hg hU hw hp)), ra⟩

end Cert.Mlp
-- ==== Proof.ProjRun.lean ====
/- What the projections' calls leave: the run of the whole program, with the result arrays after it. -/
module

public import proofs.«01_k».proof.Proof.Gen.ProjIdeal.Frame
public import Idealize.ShloMosaic.Lib.Pipeline.ValueKit

@[expose] public section

set_option maxRecDepth 16384

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ProjIdeal Cert.ProjIdeal.Gen

variable (m : (l : Loc nD τ sig) → Buf (Elt Ideal) l) (ρ : Dev nD → PrngReg)

set_option backward.isDefEq.respectTransparency.types false in
/-- Every run ends with the buffers at the contents folded through the calls and the host operations between them. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W24 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h _ => h)

/-- The result arrays after the run, and the arguments as they were. -/
theorem results : θ_run defs (onTc (τ := τ) (main (F := Ideal))) ⟨m, fun _ => 0, ρ⟩ (fun r => ∀ c : Dev nD,
      r.2.mem ((c.tc : Thread nD τ).loc main_v14) = W4 m ρ c (Proc.devRef .tc main_v14)
      ∧ r.2.mem ((c.tc : Thread nD τ).loc main_v19) = W8 m ρ c (Proc.devRef .tc main_v19)
      ∧ r.2.mem ((c.tc : Thread nD τ).loc main_v22) = W10 m ρ c (Proc.devRef .tc main_v22)
      ∧ r.2.mem ((c.tc : Thread nD τ).loc main_v24) = W12 m ρ c (Proc.devRef .tc main_v24)
      ∧ r.2.mem ((c.tc : Thread nD τ).loc main_v45_0) = W23 m ρ c (Proc.devRef .tc main_v45_0)
      ∧ r.2.mem ((c.tc : Thread nD τ).loc main_v45_1) = W23 m ρ c (Proc.devRef .tc main_v45_1)
      ∧ r.2.mem ((c.tc : Thread nD τ).loc main_v51) = W24 m ρ c (Proc.devRef .tc main_v51)
      ∧ r.2.mem ((c.tc : Thread nD τ).loc main_v27) = W15 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v14 (by decide))).trans ((W24_of m ρ c main_v14 (by decide)).trans ((W23_of m ρ c main_v14 (by decide)).trans ((W22_of m ρ c main_v14 (by decide)).trans ((W21_of m ρ c main_v14 (by decide)).trans ((W20_of m ρ c main_v14 (by decide)).trans ((W19_of m ρ c main_v14 (by decide)).trans ((W18_of m ρ c main_v14 (by decide)).trans ((W17_of m ρ c main_v14 (by decide)).trans ((W16_of m ρ c main_v14 (by decide)).trans ((W15_of m ρ c main_v14 (by decide)).trans ((W14_of m ρ c main_v14 (by decide)).trans ((W13_of m ρ c main_v14 (by decide)).trans ((W12_of m ρ c main_v14 (by decide)).trans ((W11_of m ρ c main_v14 (by decide)).trans ((W10_of m ρ c main_v14 (by decide)).trans ((W9_of m ρ c main_v14 (by decide)).trans ((W8_of m ρ c main_v14 (by decide)).trans ((W7_of m ρ c main_v14 (by decide)).trans ((W6_of m ρ c main_v14 (by decide)).trans (W5_of m ρ c main_v14 (by decide))))))))))))))))))))),
     (h c _ (mem_uc main_v19 (by decide))).trans ((W24_of m ρ c main_v19 (by decide)).trans ((W23_of m ρ c main_v19 (by decide)).trans ((W22_of m ρ c main_v19 (by decide)).trans ((W21_of m ρ c main_v19 (by decide)).trans ((W20_of m ρ c main_v19 (by decide)).trans ((W19_of m ρ c main_v19 (by decide)).trans ((W18_of m ρ c main_v19 (by decide)).trans ((W17_of m ρ c main_v19 (by decide)).trans ((W16_of m ρ c main_v19 (by decide)).trans ((W15_of m ρ c main_v19 (by decide)).trans ((W14_of m ρ c main_v19 (by decide)).trans ((W13_of m ρ c main_v19 (by decide)).trans ((W12_of m ρ c main_v19 (by decide)).trans ((W11_of m ρ c main_v19 (by decide)).trans ((W10_of m ρ c main_v19 (by decide)).trans (W9_of m ρ c main_v19 (by decide))))))))))))))))),
     (h c _ (mem_uc main_v22 (by decide))).trans ((W24_of m ρ c main_v22 (by decide)).trans ((W23_of m ρ c main_v22 (by decide)).trans ((W22_of m ρ c main_v22 (by decide)).trans ((W21_of m ρ c main_v22 (by decide)).trans ((W20_of m ρ c main_v22 (by decide)).trans ((W19_of m ρ c main_v22 (by decide)).trans ((W18_of m ρ c main_v22 (by decide)).trans ((W17_of m ρ c main_v22 (by decide)).trans ((W16_of m ρ c main_v22 (by decide)).trans ((W15_of m ρ c main_v22 (by decide)).trans ((W14_of m ρ c main_v22 (by decide)).trans ((W13_of m ρ c main_v22 (by decide)).trans ((W12_of m ρ c main_v22 (by decide)).trans (W11_of m ρ c main_v22 (by decide))))))))))))))),
     (h c _ (mem_uc main_v24 (by decide))).trans ((W24_of m ρ c main_v24 (by decide)).trans ((W23_of m ρ c main_v24 (by decide)).trans ((W22_of m ρ c main_v24 (by decide)).trans ((W21_of m ρ c main_v24 (by decide)).trans ((W20_of m ρ c main_v24 (by decide)).trans ((W19_of m ρ c main_v24 (by decide)).trans ((W18_of m ρ c main_v24 (by decide)).trans ((W17_of m ρ c main_v24 (by decide)).trans ((W16_of m ρ c main_v24 (by decide)).trans ((W15_of m ρ c main_v24 (by decide)).trans ((W14_of m ρ c main_v24 (by decide)).trans (W13_of m ρ c main_v24 (by decide))))))))))))),
     (h c _ (mem_uc main_v45_0 (by decide))).trans (W24_of m ρ c main_v45_0 (by decide)),
     (h c _ (mem_uc main_v45_1 (by decide))).trans (W24_of m ρ c main_v45_1 (by decide)),
     h c _ (mem_uc main_v51 (by decide)),
     (h c _ (mem_uc main_v27 (by decide))).trans ((W24_of m ρ c main_v27 (by decide)).trans ((W23_of m ρ c main_v27 (by decide)).trans ((W22_of m ρ c main_v27 (by decide)).trans ((W21_of m ρ c main_v27 (by decide)).trans ((W20_of m ρ c main_v27 (by decide)).trans ((W19_of m ρ c main_v27 (by decide)).trans ((W18_of m ρ c main_v27 (by decide)).trans ((W17_of m ρ c main_v27 (by decide)).trans (W16_of m ρ c main_v27 (by decide)))))))))),
     (h c _ (mem_uc main_arg0 (by decide))).trans (W24_args m ρ c main_arg0 (by decide)),
     (h c _ (mem_uc main_arg1 (by decide))).trans (W24_args m ρ c main_arg1 (by decide)),
     (h c _ (mem_uc main_arg2 (by decide))).trans (W24_args m ρ c main_arg2 (by decide)),
     (h c _ (mem_uc main_arg3 (by decide))).trans (W24_args m ρ c main_arg3 (by decide)),
     (h c _ (mem_uc main_arg4 (by decide))).trans (W24_args m ρ c main_arg4 (by decide)),
     (h c _ (mem_uc main_arg5 (by decide))).trans (W24_args m ρ c main_arg5 (by decide)),
     (h c _ (mem_uc main_arg6 (by decide))).trans (W24_args m ρ c main_arg6 (by decide)),
     (h c _ (mem_uc main_arg7 (by decide))).trans (W24_args m ρ c main_arg7 (by decide)),
     (h c _ (mem_uc main_arg8 (by decide))).trans (W24_args m ρ c main_arg8 (by decide))⟩) (run m ρ)

end Cert.Mix
-- ==== Proof.ProjSpec.lean ====
/- The projections around the attentions and their gradients, as functions of the nine arguments. -/
module

public import proofs.«01_k».proof.Proof.FfnMat

@[expose] public section

noncomputable section

namespace Cert.Mix

open Idealize.ShloMosaic Cert.Mlp
open scoped BigOperators

/-- The lower half of a matrix of 1024 rows, and the columns of a matrix from 2048 on. -/
abbrev lo (u : ℕ → ℕ → EReal) (a b : ℕ) : EReal := u (512 + a) b
abbrev right (u : ℕ → ℕ → EReal) (a b : ℕ) : EReal := u a (2048 + b)

/-- A matrix of 2496 columns with 32 columns of zeros behind the first and behind the second half of its last 64. -/
def pad (u : ℕ → ℕ → EReal) (a b : ℕ) : EReal :=
  if b < 2464 then u a b else if b < 2496 then 0 else if b < 2528 then u a (b - 32) else 0

/-- A matrix of 2560 columns without those columns. -/
def unpad (u : ℕ → ℕ → EReal) (a b : ℕ) : EReal := if b < 2464 then u a b else u a (b + 32)

section
variable (h d : ℕ → ℕ → EReal) (g : ℕ → EReal) (W O p q r s : ℕ → ℕ → EReal)

/-- The rows after the norm, and what the padded input weights make of them. -/
def nrm : ℕ → ℕ → EReal := rms h g
def projF : ℕ → ℕ → EReal := mul 1024 (nrm h g) (pad W)
/-- The rows with the output weights' upper half added, and with both. -/
def midF (a b : ℕ) : EReal := mul 512 p O a b + h a b
def outF (a b : ℕ) : EReal := mul 512 q (lo O) a b + midF h O p a b
/-- The gradients of the two attentions' rows. -/
def dP : ℕ → ℕ → EReal := mulT 1024 d O
def dQ : ℕ → ℕ → EReal := mulT 1024 d (lo O)
/-- The gradient at the rows after the norm. -/
def dNrm (a b : ℕ) : EReal := mulT 512 s (right (pad W)) a b + mulT 2048 r (pad W) a b
/-- The gradients of the two weights. -/
def dWide : ℕ → ℕ → EReal := cat 2048 (Tmul 4096 (nrm h g) r) (Tmul 4096 (nrm h g) s)
def dW : ℕ → ℕ → EReal := unpad (dWide h g r s)
def dO (a b : ℕ) : EReal := if a < 512 then Tmul 4096 p d a b else Tmul 4096 q d (a - 512) b
end

end Cert.Mix
-- ==== Proof.ProjHost.lean ====
/- The host operations between the calls of the projections: slices, reshapes and concatenations, read at an index. -/
module

public import proofs.«01_k».proof.Proof.Gen.ProjIdeal.Launch
public import proofs.«01_k».proof.Proof.ProjSpec
public import Idealize.ShloMosaic.Lib.StableHlo.ReadAt

@[expose] public section

set_option maxRecDepth 16384

noncomputable section

namespace Cert.Mix

open Idealize.ShloMosaic Idealize.ShloMosaic.TcCoe Idealize.SL.Sem Cert.ProjIdeal Cert.ProjIdeal.Gen Cert.Mlp

variable (X : Valuation τ sig (Elt Ideal))

theorem host0_v0 {g : ℕ → EReal}
    (h0 : Row (N := 1024) (X (Proc.devRef .tc main_arg2)) (g)) :
    Mat (M := 1) (N := 1024) (StableHlo.after hostOps0 X (Proc.devRef .tc main_v0)) (fun _ => g) := by
  intro a b
  after_reads_at
  simp only [h0.e]

theorem host0_v1 {u : ℕ → ℕ → EReal}
    (h0 : Mat (M := 1024) (N := 2496) (X (Proc.devRef .tc main_arg3)) (u)) :
    Mat3 (L := 1) (M := 1024) (N := 2496) (StableHlo.after hostOps0 X (Proc.devRef .tc main_v1)) (fun _ => u) := by
  intro l a b
  after_reads_at
  simp only [h0.e]

theorem host0_v2 {u : ℕ → ℕ → EReal}
    (h0 : Mat (M := 1024) (N := 1024) (X (Proc.devRef .tc main_arg4)) (u)) :
    Mat3 (L := 1) (M := 1024) (N := 1024) (StableHlo.after hostOps0 X (Proc.devRef .tc main_v2)) (fun _ => u) := by
  intro l a b
  after_reads_at
  simp only [h0.e]

theorem host0_v4 {g : ℕ → EReal}
    (h0 : Row (N := 1024) (X (Proc.devRef .tc main_arg2)) (g)) :
    Mat (M := 1) (N := 1024) (StableHlo.after hostOps0 X (Proc.devRef .tc main_v4)) (fun _ => g) := by
  intro a b
  after_reads_at
  simp only [h0.e]

theorem host1_v13 {u : ℕ → ℕ → EReal}
    (h0 : Mat3 (L := 1) (M := 1024) (N := 2496) (X (Proc.devRef .tc main_v1)) (fun _ => u)) :
    Mat (M := 1024) (N := 2560) (StableHlo.after hostOps1 X (Proc.devRef .tc main_v13)) (pad u) := by
  intro a b
  after_reads_at
  after_reads_simp
  pointwise
  simp only [h0.e]
  unfold pad
  split_ifs <;> first | rfl | omega | exact congrArg (u a) (by omega)

theorem host2_v15 {u : ℕ → ℕ → EReal}
    (h0 : Mat3 (L := 1) (M := 1024) (N := 1024) (X (Proc.devRef .tc main_v2)) (fun _ => u)) :
    Mat (M := 1024) (N := 1024) (StableHlo.after hostOps2 X (Proc.devRef .tc main_v15)) (u) := by
  intro a b
  after_reads_at
  simp only [h0.e]

theorem host2_v16 {u : ℕ → ℕ → EReal}
    (h0 : Mat3 (L := 1) (M := 1024) (N := 1024) (X (Proc.devRef .tc main_v2)) (fun _ => u)) :
    Mat (M := 512) (N := 1024) (StableHlo.after hostOps2 X (Proc.devRef .tc main_v16)) (u) := by
  intro a b
  after_reads_at
  simp only [h0.e]

theorem host3_v18 {u : ℕ → ℕ → EReal}
    (h0 : Mat (M := 1024) (N := 1024) (X (Proc.devRef .tc main_v15)) (u)) :
    Mat (M := 512) (N := 1024) (StableHlo.after hostOps3 X (Proc.devRef .tc main_v18)) (lo u) := by
  intro a b
  after_reads_at
  simp only [h0.e]

theorem host4_v20 {u : ℕ → ℕ → EReal}
    (h0 : Mat3 (L := 1) (M := 1024) (N := 1024) (X (Proc.devRef .tc main_v2)) (fun _ => u)) :
    Mat (M := 1024) (N := 1024) (StableHlo.after hostOps4 X (Proc.devRef .tc main_v20)) (u) := by
  intro a b
  after_reads_at
  simp only [h0.e]

theorem host4_v21 {u : ℕ → ℕ → EReal}
    (h0 : Mat3 (L := 1) (M := 1024) (N := 1024) (X (Proc.devRef .tc main_v2)) (fun _ => u)) :
    Mat (M := 512) (N := 1024) (StableHlo.after hostOps4 X (Proc.devRef .tc main_v21)) (u) := by
  intro a b
  after_reads_at
  simp only [h0.e]

theorem host5_v23 {u : ℕ → ℕ → EReal}
    (h0 : Mat (M := 1024) (N := 1024) (X (Proc.devRef .tc main_v20)) (u)) :
    Mat (M := 512) (N := 1024) (StableHlo.after hostOps5 X (Proc.devRef .tc main_v23)) (lo u) := by
  intro a b
  after_reads_at
  simp only [h0.e]

theorem host8_v27 {u : ℕ → ℕ → EReal} {v : ℕ → ℕ → EReal}
    (h0 : Mat (M := 512) (N := 1024) (X (Proc.devRef .tc main_v25)) (u)) (h1 : Mat (M := 512) (N := 1024) (X (Proc.devRef .tc main_v26)) (v)) :
    Mat (M := 1024) (N := 1024) (StableHlo.after hostOps8 X (Proc.devRef .tc main_v27)) (fun a b => if a < 512 then u a b else v (a - 512) b) := by
  intro a b
  after_reads_at
  simp [h0.e, h1.e]

theorem host8_v35 {u : ℕ → ℕ → EReal}
    (h0 : Mat3 (L := 1) (M := 1024) (N := 2496) (X (Proc.devRef .tc main_v1)) (fun _ => u)) :
    Mat (M := 1024) (N := 2560) (StableHlo.after hostOps8 X (Proc.devRef .tc main_v35)) (pad u) := by
  intro a b
  after_reads_at
  after_reads_simp
  pointwise
  simp only [h0.e]
  unfold pad
  split_ifs <;> first | rfl | omega | exact congrArg (u a) (by omega)

theorem host10_v38 {u : ℕ → ℕ → EReal} {v : ℕ → ℕ → EReal}
    (h0 : Mat (M := 1024) (N := 2048) (X (Proc.devRef .tc main_v36)) (u)) (h1 : Mat (M := 1024) (N := 512) (X (Proc.devRef .tc main_v37)) (v)) :
    Mat (M := 1024) (N := 2560) (StableHlo.after hostOps10 X (Proc.devRef .tc main_v38)) (cat 2048 u v) := by
  intro a b
  after_reads_at
  simp [h0.e, h1.e, cat]

theorem host10_v39 {u : ℕ → ℕ → EReal}
    (h0 : Mat (M := 1024) (N := 2560) (X (Proc.devRef .tc main_v35)) (u)) :
    Mat (M := 1024) (N := 2048) (StableHlo.after hostOps10 X (Proc.devRef .tc main_v39)) (u) := by
  intro a b
  after_reads_at
  simp only [h0.e]

theorem host11_v41 {u : ℕ → ℕ → EReal}
    (h0 : Mat (M := 1024) (N := 2560) (X (Proc.devRef .tc main_v35)) (u)) :
    Mat (M := 1024) (N := 512) (StableHlo.after hostOps11 X (Proc.devRef .tc main_v41)) (right u) := by
  intro a b
  after_reads_at
  simp only [h0.e]

theorem host12_v44 {g : ℕ → EReal}
    (h0 : Mat (M := 1) (N := 1024) (X (Proc.devRef .tc main_v0)) (fun _ => g)) :
    Mat (M := 1) (N := 1024) (StableHlo.after hostOps12 X (Proc.devRef .tc main_v44)) (fun _ => g) := by
  intro a b
  after_reads_at
  simp only [h0.e]

theorem host13_v51 {u : ℕ → ℕ → EReal}
    (h0 : Mat (M := 1024) (N := 2560) (X (Proc.devRef .tc main_v38)) (u)) :
    Mat (M := 1024) (N := 2496) (StableHlo.after hostOps13 X (Proc.devRef .tc main_v51)) (unpad u) := by
  intro a b
  after_reads_at
  after_reads_simp
  pointwise
  simp only [h0.e]
  unfold unpad
  split_ifs <;> first | rfl | omega | exact congrArg (u a) (by omega)

end Cert.Mix
-- ==== Proof.ProjBlk.lean ====
/- Where the blocks of the projections' calls lie, and what they hold of the arrays. -/
module

public import proofs.«01_k».proof.Proof.Gen.ProjIdeal.Frame
public import Idealize.ShloMosaic.Lib.Pipeline.ValueKit
public import proofs.«01_k».proof.Proof.FfnMat

@[expose] public section

set_option maxRecDepth 16384

noncomputable section

namespace Cert.Mix

open Idealize.ShloMosaic Idealize.ShloMosaic.TcCoe Idealize.SL.Sem Cert.ProjIdeal Cert.ProjIdeal.Gen Cert.Mlp

/-! ## The index maps -/

theorem at0_0 : ∀ t : Fin grid0.N, win0_0.index t = ![t.val, 0] := by decide +kernel
theorem at0_1 : ∀ t : Fin grid0.N, win0_1.index t = ![0, 0] := by decide +kernel
theorem at0_2 : ∀ t : Fin grid0.N, win0_2.index t = ![t.val, 0] := by decide +kernel
theorem at1_0 : ∀ t : Fin grid1.N, win1_0.index t = ![t.val, 0] := by decide +kernel
theorem at1_1 : ∀ t : Fin grid1.N, win1_1.index t = ![0, 0] := by decide +kernel
theorem at1_2 : ∀ t : Fin grid1.N, win1_2.index t = ![t.val, 0] := by decide +kernel
theorem at2_0 : ∀ t : Fin grid2.N, win2_0.index t = ![t.val, 0] := by decide +kernel
theorem at2_1 : ∀ t : Fin grid2.N, win2_1.index t = ![0, 0] := by decide +kernel
theorem at2_2 : ∀ t : Fin grid2.N, win2_2.index t = ![t.val, 0] := by decide +kernel
theorem at2_3 : ∀ t : Fin grid2.N, win2_3.index t = ![t.val, 0] := by decide +kernel
theorem at3_0 : ∀ t : Fin grid3.N, win3_0.index t = ![t.val, 0] := by decide +kernel
theorem at3_1 : ∀ t : Fin grid3.N, win3_1.index t = ![0, 0] := by decide +kernel
theorem at3_2 : ∀ t : Fin grid3.N, win3_2.index t = ![t.val, 0] := by decide +kernel
theorem at3_3 : ∀ t : Fin grid3.N, win3_3.index t = ![t.val, 0] := by decide +kernel
theorem at4_0 : ∀ t : Fin grid4.N, win4_0.index t = ![t.val, 0] := by decide +kernel
theorem at4_1 : ∀ t : Fin grid4.N, win4_1.index t = ![0, 0] := by decide +kernel
theorem at4_2 : ∀ t : Fin grid4.N, win4_2.index t = ![t.val, 0] := by decide +kernel
theorem at5_0 : ∀ t : Fin grid5.N, win5_0.index t = ![t.val, 0] := by decide +kernel
theorem at5_1 : ∀ t : Fin grid5.N, win5_1.index t = ![0, 0] := by decide +kernel
theorem at5_2 : ∀ t : Fin grid5.N, win5_2.index t = ![t.val, 0] := by decide +kernel
theorem at6_0 : ∀ t : Fin grid6.N, win6_0.index t = ![t.val, 0] := by decide +kernel
theorem at6_1 : ∀ t : Fin grid6.N, win6_1.index t = ![t.val, 0] := by decide +kernel
theorem at6_2 : ∀ t : Fin grid6.N, win6_2.index t = ![0, 0] := by decide +kernel
theorem at7_0 : ∀ t : Fin grid7.N, win7_0.index t = ![t.val, 0] := by decide +kernel
theorem at7_1 : ∀ t : Fin grid7.N, win7_1.index t = ![t.val, 0] := by decide +kernel
theorem at7_2 : ∀ t : Fin grid7.N, win7_2.index t = ![0, 0] := by decide +kernel
theorem at8_0 : ∀ t : Fin grid8.N, win8_0.index t = ![t.val, 0] := by decide +kernel
theorem at8_1 : ∀ t : Fin grid8.N, win8_1.index t = ![t.val, 0] := by decide +kernel
theorem at8_2 : ∀ t : Fin grid8.N, win8_2.index t = ![0, 0] := by decide +kernel
theorem at9_0 : ∀ t : Fin grid9.N, win9_0.index t = ![t.val, 0] := by decide +kernel
theorem at9_1 : ∀ t : Fin grid9.N, win9_1.index t = ![t.val, 0] := by decide +kernel
theorem at9_2 : ∀ t : Fin grid9.N, win9_2.index t = ![0, 0] := by decide +kernel
theorem at10_0 : ∀ t : Fin grid10.N, win10_0.index t = ![t.val, 0] := by decide +kernel
theorem at10_1 : ∀ t : Fin grid10.N, win10_1.index t = ![0, 0] := by decide +kernel
theorem at10_2 : ∀ t : Fin grid10.N, win10_2.index t = ![t.val, 0] := by decide +kernel
theorem at11_0 : ∀ t : Fin grid11.N, win11_0.index t = ![t.val, 0] := by decide +kernel
theorem at11_1 : ∀ t : Fin grid11.N, win11_1.index t = ![0, 0] := by decide +kernel
theorem at11_2 : ∀ t : Fin grid11.N, win11_2.index t = ![t.val, 0] := by decide +kernel
theorem at11_3 : ∀ t : Fin grid11.N, win11_3.index t = ![t.val, 0] := by decide +kernel
theorem at12_0 : ∀ t : Fin grid12.N, win12_0.index t = ![t.val, 0] := by decide +kernel
theorem at12_1 : ∀ t : Fin grid12.N, win12_1.index t = ![0, 0] := by decide +kernel
theorem at12_2 : ∀ t : Fin grid12.N, win12_2.index t = ![t.val, 0] := by decide +kernel
theorem at12_3 : ∀ t : Fin grid12.N, win12_3.index t = ![t.val, 0] := by decide +kernel
theorem at12_4 : ∀ t : Fin grid12.N, win12_4.index t = ![t.val, 0] := by decide +kernel
theorem at12_5 : ∀ t : Fin grid12.N, win12_5.index t = ![0, 0] := by decide +kernel

variable (V : (c : Dev nD) → (b : Ref sig .tc) → Buf (Elt Ideal) ((c : Thread nD τ).loc b)) (c : Dev nD)

/-! ## The blocks of the operands -/

section
variable {f : ℕ → ℕ → EReal}

theorem blk0_0 (h : Mat (M := 4096) (N := 1024) (V c main_arg0) f) (t : Fin grid0.N) :
    Mat (M := 512) (N := 1024) (iblk0 V c 0 t) (fun a b => f (t.val * 512 + a) b) := by
  intro a b
  blk_simp [iblk0]
  refine (h.at _).trans ?_
  blk_simp [at0_0 t]

theorem blk0_1 (h : Mat (M := 1) (N := 1024) (V c main_v4) f) (t : Fin grid0.N) :
    Mat (M := 1) (N := 1024) (iblk0 V c 1 t) f := by
  intro a b
  blk_simp [iblk0]
  refine (h.at _).trans ?_
  blk_simp [at0_1 t]

theorem blk1_0 (h : Mat (M := 4096) (N := 1024) (V c main_v5) f) (t : Fin grid1.N) :
    Mat (M := 512) (N := 1024) (iblk1 V c 0 t) (fun a b => f (t.val * 512 + a) b) := by
  intro a b
  blk_simp [iblk1]
  refine (h.at _).trans ?_
  blk_simp [at1_0 t]

theorem blk1_1 (h : Mat (M := 1024) (N := 2560) (V c main_v13) f) (t : Fin grid1.N) :
    Mat (M := 1024) (N := 2560) (iblk1 V c 1 t) f := by
  intro a b
  blk_simp [iblk1]
  refine (h.at _).trans ?_
  blk_simp [at1_1 t]

theorem blk2_0 (h : Mat (M := 4096) (N := 512) (V c main_arg5) f) (t : Fin grid2.N) :
    Mat (M := 512) (N := 512) (iblk2 V c 0 t) (fun a b => f (t.val * 512 + a) b) := by
  intro a b
  blk_simp [iblk2]
  refine (h.at _).trans ?_
  blk_simp [at2_0 t]

theorem blk2_1 (h : Mat (M := 512) (N := 1024) (V c main_v16) f) (t : Fin grid2.N) :
    Mat (M := 512) (N := 1024) (iblk2 V c 1 t) f := by
  intro a b
  blk_simp [iblk2]
  refine (h.at _).trans ?_
  blk_simp [at2_1 t]

theorem blk2_2 (h : Mat (M := 4096) (N := 1024) (V c main_arg0) f) (t : Fin grid2.N) :
    Mat (M := 512) (N := 1024) (iblk2 V c 2 t) (fun a b => f (t.val * 512 + a) b) := by
  intro a b
  blk_simp [iblk2]
  refine (h.at _).trans ?_
  blk_simp [at2_2 t]

theorem blk3_0 (h : Mat (M := 4096) (N := 512) (V c main_arg6) f) (t : Fin grid3.N) :
    Mat (M := 512) (N := 512) (iblk3 V c 0 t) (fun a b => f (t.val * 512 + a) b) := by
  intro a b
  blk_simp [iblk3]
  refine (h.at _).trans ?_
  blk_simp [at3_0 t]

theorem blk3_1 (h : Mat (M := 512) (N := 1024) (V c main_v18) f) (t : Fin grid3.N) :
    Mat (M := 512) (N := 1024) (iblk3 V c 1 t) f := by
  intro a b
  blk_simp [iblk3]
  refine (h.at _).trans ?_
  blk_simp [at3_1 t]

theorem blk3_2 (h : Mat (M := 4096) (N := 1024) (V c main_v17) f) (t : Fin grid3.N) :
    Mat (M := 512) (N := 1024) (iblk3 V c 2 t) (fun a b => f (t.val * 512 + a) b) := by
  intro a b
  blk_simp [iblk3]
  refine (h.at _).trans ?_
  blk_simp [at3_2 t]

theorem blk4_0 (h : Mat (M := 4096) (N := 1024) (V c main_arg1) f) (t : Fin grid4.N) :
    Mat (M := 512) (N := 1024) (iblk4 V c 0 t) (fun a b => f (t.val * 512 + a) b) := by
  intro a b
  blk_simp [iblk4]
  refine (h.at _).trans ?_
  blk_simp [at4_0 t]

theorem blk4_1 (h : Mat (M := 512) (N := 1024) (V c main_v21) f) (t : Fin grid4.N) :
    Mat (M := 512) (N := 1024) (iblk4 V c 1 t) f := by
  intro a b
  blk_simp [iblk4]
  refine (h.at _).trans ?_
  blk_simp [at4_1 t]

theorem blk5_0 (h : Mat (M := 4096) (N := 1024) (V c main_arg1) f) (t : Fin grid5.N) :
    Mat (M := 512) (N := 1024) (iblk5 V c 0 t) (fun a b => f (t.val * 512 + a) b) := by
  intro a b
  blk_simp [iblk5]
  refine (h.at _).trans ?_
  blk_simp [at5_0 t]

theorem blk5_1 (h : Mat (M := 512) (N := 1024) (V c main_v23) f) (t : Fin grid5.N) :
    Mat (M := 512) (N := 1024) (iblk5 V c 1 t) f := by
  intro a b
  blk_simp [iblk5]
  refine (h.at _).trans ?_
  blk_simp [at5_1 t]

theorem blk6_0 (h : Mat (M := 4096) (N := 512) (V c main_arg5) f) (t : Fin grid6.N) :
    Mat (M := 1024) (N := 512) (iblk6 V c 0 t) (fun a b => f (t.val * 1024 + a) b) := by
  intro a b
  blk_simp [iblk6]
  refine (h.at _).trans ?_
  blk_simp [at6_0 t]

theorem blk6_1 (h : Mat (M := 4096) (N := 1024) (V c main_arg1) f) (t : Fin grid6.N) :
    Mat (M := 1024) (N := 1024) (iblk6 V c 1 t) (fun a b => f (t.val * 1024 + a) b) := by
  intro a b
  blk_simp [iblk6]
  refine (h.at _).trans ?_
  blk_simp [at6_1 t]

theorem blk7_0 (h : Mat (M := 4096) (N := 512) (V c main_arg6) f) (t : Fin grid7.N) :
    Mat (M := 1024) (N := 512) (iblk7 V c 0 t) (fun a b => f (t.val * 1024 + a) b) := by
  intro a b
  blk_simp [iblk7]
  refine (h.at _).trans ?_
  blk_simp [at7_0 t]

theorem blk7_1 (h : Mat (M := 4096) (N := 1024) (V c main_arg1) f) (t : Fin grid7.N) :
    Mat (M := 1024) (N := 1024) (iblk7 V c 1 t) (fun a b => f (t.val * 1024 + a) b) := by
  intro a b
  blk_simp [iblk7]
  refine (h.at _).trans ?_
  blk_simp [at7_1 t]

theorem blk8_0 (h : Mat (M := 4096) (N := 1024) (V c main_v5) f) (t : Fin grid8.N) :
    Mat (M := 1024) (N := 1024) (iblk8 V c 0 t) (fun a b => f (t.val * 1024 + a) b) := by
  intro a b
  blk_simp [iblk8]
  refine (h.at _).trans ?_
  blk_simp [at8_0 t]

theorem blk8_1 (h : Mat (M := 4096) (N := 2048) (V c main_arg7) f) (t : Fin grid8.N) :
    Mat (M := 1024) (N := 2048) (iblk8 V c 1 t) (fun a b => f (t.val * 1024 + a) b) := by
  intro a b
  blk_simp [iblk8]
  refine (h.at _).trans ?_
  blk_simp [at8_1 t]

theorem blk9_0 (h : Mat (M := 4096) (N := 1024) (V c main_v5) f) (t : Fin grid9.N) :
    Mat (M := 1024) (N := 1024) (iblk9 V c 0 t) (fun a b => f (t.val * 1024 + a) b) := by
  intro a b
  blk_simp [iblk9]
  refine (h.at _).trans ?_
  blk_simp [at9_0 t]

theorem blk9_1 (h : Mat (M := 4096) (N := 512) (V c main_arg8) f) (t : Fin grid9.N) :
    Mat (M := 1024) (N := 512) (iblk9 V c 1 t) (fun a b => f (t.val * 1024 + a) b) := by
  intro a b
  blk_simp [iblk9]
  refine (h.at _).trans ?_
  blk_simp [at9_1 t]

theorem blk10_0 (h : Mat (M := 4096) (N := 2048) (V c main_arg7) f) (t : Fin grid10.N) :
    Mat (M := 512) (N := 2048) (iblk10 V c 0 t) (fun a b => f (t.val * 512 + a) b) := by
  intro a b
  blk_simp [iblk10]
  refine (h.at _).trans ?_
  blk_simp [at10_0 t]

theorem blk10_1 (h : Mat (M := 1024) (N := 2048) (V c main_v39) f) (t : Fin grid10.N) :
    Mat (M := 1024) (N := 2048) (iblk10 V c 1 t) f := by
  intro a b
  blk_simp [iblk10]
  refine (h.at _).trans ?_
  blk_simp [at10_1 t]

theorem blk11_0 (h : Mat (M := 4096) (N := 512) (V c main_arg8) f) (t : Fin grid11.N) :
    Mat (M := 512) (N := 512) (iblk11 V c 0 t) (fun a b => f (t.val * 512 + a) b) := by
  intro a b
  blk_simp [iblk11]
  refine (h.at _).trans ?_
  blk_simp [at11_0 t]

theorem blk11_1 (h : Mat (M := 1024) (N := 512) (V c main_v41) f) (t : Fin grid11.N) :
    Mat (M := 1024) (N := 512) (iblk11 V c 1 t) f := by
  intro a b
  blk_simp [iblk11]
  refine (h.at _).trans ?_
  blk_simp [at11_1 t]

theorem blk11_2 (h : Mat (M := 4096) (N := 1024) (V c main_v40) f) (t : Fin grid11.N) :
    Mat (M := 512) (N := 1024) (iblk11 V c 2 t) (fun a b => f (t.val * 512 + a) b) := by
  intro a b
  blk_simp [iblk11]
  refine (h.at _).trans ?_
  blk_simp [at11_2 t]

theorem blk12_0 (h : Mat (M := 4096) (N := 1024) (V c main_arg0) f) (t : Fin grid12.N) :
    Mat (M := 512) (N := 1024) (iblk12 V c 0 t) (fun a b => f (t.val * 512 + a) b) := by
  intro a b
  blk_simp [iblk12]
  refine (h.at _).trans ?_
  blk_simp [at12_0 t]

theorem blk12_1 (h : Mat (M := 1) (N := 1024) (V c main_v44) f) (t : Fin grid12.N) :
    Mat (M := 1) (N := 1024) (iblk12 V c 1 t) f := by
  intro a b
  blk_simp [iblk12]
  refine (h.at _).trans ?_
  blk_simp [at12_1 t]

theorem blk12_2 (h : Mat (M := 4096) (N := 1024) (V c main_v42) f) (t : Fin grid12.N) :
    Mat (M := 512) (N := 1024) (iblk12 V c 2 t) (fun a b => f (t.val * 512 + a) b) := by
  intro a b
  blk_simp [iblk12]
  refine (h.at _).trans ?_
  blk_simp [at12_2 t]

theorem blk12_3 (h : Mat (M := 4096) (N := 1024) (V c main_arg1) f) (t : Fin grid12.N) :
    Mat (M := 512) (N := 1024) (iblk12 V c 3 t) (fun a b => f (t.val * 512 + a) b) := by
  intro a b
  blk_simp [iblk12]
  refine (h.at _).trans ?_
  blk_simp [at12_3 t]

end

end Cert.Mix
-- ==== Proof.ProjPay.lean ====
/- The calls of the projections: what one step computes, at an index. -/
module

public import proofs.«01_k».proof.Proof.Gen.ProjIdeal.Skeleton
public import Idealize.ShloMosaic.Lib.Pointwise
public import Idealize.ShloMosaic.Lib.KernelVsHost
public import Idealize.ShloMosaic.Lib.Pipeline.ValueKit
public import proofs.«01_k».proof.Proof.FfnMat

@[expose] public section

set_option maxRecDepth 16384

noncomputable section

namespace Cert.Mix

open Idealize.ShloMosaic Idealize.SL.Sem Cert.ProjIdeal Cert.ProjIdeal.Gen Cert.Mlp
open scoped BigOperators

/-! ## The norm, the products -/

section
variable {f g h : ℕ → ℕ → EReal}

theorem k0_pay1_mat {v0 : Vec Ideal S512x1024 .f32} {v1 : Vec Ideal S1x1024 .f32} {g : ℕ → EReal} (h0 : Mat (M := 512) (N := 1024) v0 f)
    (h1 : Mat (M := 1) (N := 1024) v1 fun _ => g) : Mat (M := 512) (N := 1024) (k0_pay1 v0 v1) (rms f g) := fun a b => by
  pointwise [k0_pay1]
  simp only [h0.e, h1.e]
  unfold rms unit meanSq
  rw [Finset.sum_range]

theorem k1_pay1_mat {v0 : Vec Ideal S512x1024 .bf16} {v1 : Vec Ideal S1024x2560 .bf16} (h0 : Mat (M := 512) (N := 1024) v0 f)
    (h1 : Mat (M := 1024) (N := 2560) v1 g) :
    Mat (M := 512) (N := 2560) (k1_pay1 v0 v1) (mul 1024 f g) := fun a b => by
  pointwise [k1_pay1]
  simp only [h0.e, h1.e]
  exact (Finset.sum_range fun k => f a k * g k b).symm

theorem k2_pay1_mat {v0 : Vec Ideal S512x512 .bf16} {v1 : Vec Ideal S512x1024 .bf16} {v2 : Vec Ideal S512x1024 .f32} (h0 : Mat (M := 512) (N := 512) v0 f)
    (h1 : Mat (M := 512) (N := 1024) v1 g) (h2 : Mat (M := 512) (N := 1024) v2 h) :
    Mat (M := 512) (N := 1024) (k2_pay1 v0 v1 v2) (fun a b => mul 512 f g a b + h a b) := fun a b => by
  pointwise [k2_pay1]
  simp only [h0.e, h1.e, h2.e]
  exact congrArg (· + h a b) (Finset.sum_range fun k => f a k * g k b).symm

theorem k3_pay1_mat {v0 : Vec Ideal S512x512 .bf16} {v1 : Vec Ideal S512x1024 .bf16} {v2 : Vec Ideal S512x1024 .f32} (h0 : Mat (M := 512) (N := 512) v0 f)
    (h1 : Mat (M := 512) (N := 1024) v1 g) (h2 : Mat (M := 512) (N := 1024) v2 h) :
    Mat (M := 512) (N := 1024) (k3_pay1 v0 v1 v2) (fun a b => mul 512 f g a b + h a b) := fun a b => by
  pointwise [k3_pay1]
  simp only [h0.e, h1.e, h2.e]
  exact congrArg (· + h a b) (Finset.sum_range fun k => f a k * g k b).symm

theorem k4_pay1_mat {v0 : Vec Ideal S512x1024 .f32} {v1 : Vec Ideal S512x1024 .bf16} (h0 : Mat (M := 512) (N := 1024) v0 f)
    (h1 : Mat (M := 512) (N := 1024) v1 g) :
    Mat (M := 512) (N := 512) (k4_pay1 v0 v1) (mulT 1024 f g) := fun a b => by
  pointwise [k4_pay1]
  simp only [h0.e, h1.e]
  exact (Finset.sum_range fun k => f a k * g b k).symm

theorem k5_pay1_mat {v0 : Vec Ideal S512x1024 .f32} {v1 : Vec Ideal S512x1024 .bf16} (h0 : Mat (M := 512) (N := 1024) v0 f)
    (h1 : Mat (M := 512) (N := 1024) v1 g) :
    Mat (M := 512) (N := 512) (k5_pay1 v0 v1) (mulT 1024 f g) := fun a b => by
  pointwise [k5_pay1]
  simp only [h0.e, h1.e]
  exact (Finset.sum_range fun k => f a k * g b k).symm

theorem k6_pay1_mat : Mat (M := 512) (N := 1024) (k6_pay1 (F := Ideal)) fun _ _ => 0 := fun a b => by
  pointwise [k6_pay1]

theorem k6_pay2_mat {v0 : Vec Ideal S1024x512 .bf16} {v1 : Vec Ideal S1024x1024 .f32} {v2 : Vec Ideal S512x1024 .f32} (h0 : Mat (M := 1024) (N := 512) v0 f)
    (h1 : Mat (M := 1024) (N := 1024) v1 g) (h2 : Mat (M := 512) (N := 1024) v2 h) :
    Mat (M := 512) (N := 1024) (k6_pay2 v0 v1 v2) (fun a b => h a b + Tmul 1024 f g a b) := fun a b => by
  pointwise [k6_pay2]
  simp only [h0.e, h1.e, h2.e]
  exact congrArg (h a b + ·) (Finset.sum_range fun k => f k a * g k b).symm

theorem k7_pay1_mat : Mat (M := 512) (N := 1024) (k7_pay1 (F := Ideal)) fun _ _ => 0 := fun a b => by
  pointwise [k7_pay1]

theorem k7_pay2_mat {v0 : Vec Ideal S1024x512 .bf16} {v1 : Vec Ideal S1024x1024 .f32} {v2 : Vec Ideal S512x1024 .f32} (h0 : Mat (M := 1024) (N := 512) v0 f)
    (h1 : Mat (M := 1024) (N := 1024) v1 g) (h2 : Mat (M := 512) (N := 1024) v2 h) :
    Mat (M := 512) (N := 1024) (k7_pay2 v0 v1 v2) (fun a b => h a b + Tmul 1024 f g a b) := fun a b => by
  pointwise [k7_pay2]
  simp only [h0.e, h1.e, h2.e]
  exact congrArg (h a b + ·) (Finset.sum_range fun k => f k a * g k b).symm

theorem k8_pay1_mat : Mat (M := 1024) (N := 2048) (k8_pay1 (F := Ideal)) fun _ _ => 0 := fun a b => by
  pointwise [k8_pay1]

theorem k8_pay2_mat {v0 : Vec Ideal S1024x1024 .bf16} {v1 : Vec Ideal S1024x2048 .f32} {v2 : Vec Ideal S1024x2048 .f32} (h0 : Mat (M := 1024) (N := 1024) v0 f)
    (h1 : Mat (M := 1024) (N := 2048) v1 g) (h2 : Mat (M := 1024) (N := 2048) v2 h) :
    Mat (M := 1024) (N := 2048) (k8_pay2 v0 v1 v2) (fun a b => h a b + Tmul 1024 f g a b) := fun a b => by
  pointwise [k8_pay2]
  simp only [h0.e, h1.e, h2.e]
  exact congrArg (h a b + ·) (Finset.sum_range fun k => f k a * g k b).symm

theorem k9_pay1_mat : Mat (M := 1024) (N := 512) (k9_pay1 (F := Ideal)) fun _ _ => 0 := fun a b => by
  pointwise [k9_pay1]

theorem k9_pay2_mat {v0 : Vec Ideal S1024x1024 .bf16} {v1 : Vec Ideal S1024x512 .f32} {v2 : Vec Ideal S1024x512 .f32} (h0 : Mat (M := 1024) (N := 1024) v0 f)
    (h1 : Mat (M := 1024) (N := 512) v1 g) (h2 : Mat (M := 1024) (N := 512) v2 h) :
    Mat (M := 1024) (N := 512) (k9_pay2 v0 v1 v2) (fun a b => h a b + Tmul 1024 f g a b) := fun a b => by
  pointwise [k9_pay2]
  simp only [h0.e, h1.e, h2.e]
  exact congrArg (h a b + ·) (Finset.sum_range fun k => f k a * g k b).symm

theorem k10_pay1_mat {v0 : Vec Ideal S512x2048 .f32} {v1 : Vec Ideal S1024x2048 .bf16} (h0 : Mat (M := 512) (N := 2048) v0 f)
    (h1 : Mat (M := 1024) (N := 2048) v1 g) :
    Mat (M := 512) (N := 1024) (k10_pay1 v0 v1) (mulT 2048 f g) := fun a b => by
  pointwise [k10_pay1]
  simp only [h0.e, h1.e]
  exact (Finset.sum_range fun k => f a k * g b k).symm

theorem k11_pay1_mat {v0 : Vec Ideal S512x512 .f32} {v1 : Vec Ideal S1024x512 .bf16} {v2 : Vec Ideal S512x1024 .f32} (h0 : Mat (M := 512) (N := 512) v0 f)
    (h1 : Mat (M := 1024) (N := 512) v1 g) (h2 : Mat (M := 512) (N := 1024) v2 h) :
    Mat (M := 512) (N := 1024) (k11_pay1 v0 v1 v2) (fun a b => mulT 512 f g a b + h a b) := fun a b => by
  pointwise [k11_pay1]
  simp only [h0.e, h1.e, h2.e]
  exact congrArg (· + h a b) (Finset.sum_range fun k => f a k * g b k).symm

end

/-! ## The norm's gradient -/

section
variable {f d e : ℕ → ℕ → EReal} {g : ℕ → EReal} {v0 v16 v38 : Vec Ideal S512x1024 .f32} {v1 : Vec Ideal S1x1024 .f32}
  (h0 : Mat (M := 512) (N := 1024) v0 f) (h16 : Mat (M := 512) (N := 1024) v16 d)

include h0 in
theorem k12_pay3_mat : Mat (M := 512) (N := 1) (k12_pay3 v0) fun a _ => meanSq f a := fun a b => by
  obtain rfl : b = 0 := Subsingleton.elim _ _
  pointwise [k12_pay3]
  simp only [h0.e]
  unfold meanSq
  rw [Finset.sum_range]

include h0 h16 in
theorem k12_pay6_mat : Mat (M := 1) (N := 1024) (k12_pay6 v0 v16) fun _ => dGain 512 f d := fun a b => by
  obtain rfl : a = 0 := Subsingleton.elim _ _
  pointwise [k12_pay6, k12_pay5, k12_pay4]
  simp only [h0.e, h16.e, (k12_pay3_mat h0).e]
  unfold dGain unit
  rw [Finset.sum_range]

include h0 h16 in
theorem k12_pay7_mat (h1 : Mat (M := 1) (N := 1024) v1 fun _ => g) (h38 : Mat (M := 512) (N := 1024) v38 e) :
    Mat (M := 512) (N := 1024) (k12_pay7 v0 v1 v16 v38) (dRms f g d e) := fun a b => by
  pointwise [k12_pay7, k12_pay5, k12_pay4]
  simp only [h0.e, h1.e, h16.e, h38.e, (k12_pay3_mat h0).e, Finset.sum_const, Finset.card_univ, Fintype.card_fin, one_smul]
  unfold dRms dMean
  rw [Finset.sum_range]

theorem k12_pay1_mat : Mat (M := 1) (N := 1024) (k12_pay1 (F := Ideal)) fun _ _ => 0 := fun a b => by
  obtain rfl : a = 0 := Subsingleton.elim _ _
  pointwise [k12_pay1]

theorem k12_pay2_mat {v20 v44 : FVec Ideal S1x1024 .f32} {p q : ℕ → EReal} (hp : Mat (M := 1) (N := 1024) v20 fun _ => p)
    (hq : Mat (M := 1) (N := 1024) v44 fun _ => q) : Mat (M := 1) (N := 1024) (k12_pay2 v20 v44) fun _ b => q b + p b := fun a b => by
  obtain rfl : a = 0 := Subsingleton.elim _ _
  pointwise [k12_pay2]
  simp only [hp.e, hq.e]

end

end Cert.Mix
-- ==== Proof.ProjCall.lean ====
/- The arrays the norm's call and the products' calls leave. -/
module

public import proofs.«01_k».proof.Proof.ProjBlk
public import proofs.«01_k».proof.Proof.ProjPay

@[expose] public section

set_option maxRecDepth 16384

noncomputable section

namespace Cert.Mix

open Idealize.ShloMosaic Idealize.ShloMosaic.TcCoe Idealize.SL.Sem Cert.ProjIdeal Cert.ProjIdeal.Gen Cert.Mlp

variable (V : (c : Dev nD) → (b : Ref sig .tc) → Buf (Elt Ideal) ((c : Thread nD τ).loc b)) (c : Dev nD)
variable {f g h : ℕ → ℕ → EReal}

theorem call0 (h0 : Mat (M := 4096) (N := 1024) (V c main_arg0) f) (h1 : Mat (M := 1) (N := 1024) (V c main_v4) fun _ => g 0) :
    Mat (M := 4096) (N := 1024) ((dat0 V c).arrAt 2 cfg0.N) (rms f (g 0)) := by
  refine Mat.of ((dat0 V c).arrAt_eq_of_covers 2 _ (by decide +kernel) fun t hf y => ?_)
  blk_simp
  rw [after0_2]
  frame_out
  refine ((k0_pay1_mat (blk0_0 V c h0 t) (blk0_1 V c h1 t)).at y).trans ?_
  blk_simp [at0_2 t]
  rfl

theorem call1 (h0 : Mat (M := 4096) (N := 1024) (V c main_v5) f) (h1 : Mat (M := 1024) (N := 2560) (V c main_v13) g) :
    Mat (M := 4096) (N := 2560) ((dat1 V c).arrAt 2 cfg1.N) (mul 1024 f g) := by
  refine Mat.of ((dat1 V c).arrAt_eq_of_covers 2 _ (by decide +kernel) fun t hf y => ?_)
  blk_simp
  rw [after1_2]
  frame_out
  refine ((k1_pay1_mat (blk1_0 V c h0 t) (blk1_1 V c h1 t)).at y).trans ?_
  blk_simp [at1_2 t]
  rfl

theorem call2 (h0 : Mat (M := 4096) (N := 512) (V c main_arg5) f) (h1 : Mat (M := 512) (N := 1024) (V c main_v16) g) (h2 : Mat (M := 4096) (N := 1024) (V c main_arg0) h) :
    Mat (M := 4096) (N := 1024) ((dat2 V c).arrAt 3 cfg2.N) (fun a b => mul 512 f g a b + h a b) := by
  refine Mat.of ((dat2 V c).arrAt_eq_of_covers 3 _ (by decide +kernel) fun t hf y => ?_)
  blk_simp
  rw [after2_3]
  frame_out
  refine ((k2_pay1_mat (blk2_0 V c h0 t) (blk2_1 V c h1 t) (blk2_2 V c h2 t)).at y).trans ?_
  blk_simp [at2_3 t]
  rfl

theorem call3 (h0 : Mat (M := 4096) (N := 512) (V c main_arg6) f) (h1 : Mat (M := 512) (N := 1024) (V c main_v18) g) (h2 : Mat (M := 4096) (N := 1024) (V c main_v17) h) :
    Mat (M := 4096) (N := 1024) ((dat3 V c).arrAt 3 cfg3.N) (fun a b => mul 512 f g a b + h a b) := by
  refine Mat.of ((dat3 V c).arrAt_eq_of_covers 3 _ (by decide +kernel) fun t hf y => ?_)
  blk_simp
  rw [after3_3]
  frame_out
  refine ((k3_pay1_mat (blk3_0 V c h0 t) (blk3_1 V c h1 t) (blk3_2 V c h2 t)).at y).trans ?_
  blk_simp [at3_3 t]
  rfl

theorem call4 (h0 : Mat (M := 4096) (N := 1024) (V c main_arg1) f) (h1 : Mat (M := 512) (N := 1024) (V c main_v21) g) :
    Mat (M := 4096) (N := 512) ((dat4 V c).arrAt 2 cfg4.N) (mulT 1024 f g) := by
  refine Mat.of ((dat4 V c).arrAt_eq_of_covers 2 _ (by decide +kernel) fun t hf y => ?_)
  blk_simp
  rw [after4_2]
  frame_out
  refine ((k4_pay1_mat (blk4_0 V c h0 t) (blk4_1 V c h1 t)).at y).trans ?_
  blk_simp [at4_2 t]
  rfl

theorem call5 (h0 : Mat (M := 4096) (N := 1024) (V c main_arg1) f) (h1 : Mat (M := 512) (N := 1024) (V c main_v23) g) :
    Mat (M := 4096) (N := 512) ((dat5 V c).arrAt 2 cfg5.N) (mulT 1024 f g) := by
  refine Mat.of ((dat5 V c).arrAt_eq_of_covers 2 _ (by decide +kernel) fun t hf y => ?_)
  blk_simp
  rw [after5_2]
  frame_out
  refine ((k5_pay1_mat (blk5_0 V c h0 t) (blk5_1 V c h1 t)).at y).trans ?_
  blk_simp [at5_2 t]
  rfl

theorem call10 (h0 : Mat (M := 4096) (N := 2048) (V c main_arg7) f) (h1 : Mat (M := 1024) (N := 2048) (V c main_v39) g) :
    Mat (M := 4096) (N := 1024) ((dat10 V c).arrAt 2 cfg10.N) (mulT 2048 f g) := by
  refine Mat.of ((dat10 V c).arrAt_eq_of_covers 2 _ (by decide +kernel) fun t hf y => ?_)
  blk_simp
  rw [after10_2]
  frame_out
  refine ((k10_pay1_mat (blk10_0 V c h0 t) (blk10_1 V c h1 t)).at y).trans ?_
  blk_simp [at10_2 t]
  rfl

theorem call11 (h0 : Mat (M := 4096) (N := 512) (V c main_arg8) f) (h1 : Mat (M := 1024) (N := 512) (V c main_v41) g) (h2 : Mat (M := 4096) (N := 1024) (V c main_v40) h) :
    Mat (M := 4096) (N := 1024) ((dat11 V c).arrAt 3 cfg11.N) (fun a b => mulT 512 f g a b + h a b) := by
  refine Mat.of ((dat11 V c).arrAt_eq_of_covers 3 _ (by decide +kernel) fun t hf y => ?_)
  blk_simp
  rw [after11_3]
  frame_out
  refine ((k11_pay1_mat (blk11_0 V c h0 t) (blk11_1 V c h1 t) (blk11_2 V c h2 t)).at y).trans ?_
  blk_simp [at11_3 t]
  rfl

end Cert.Mix
-- ==== Proof.ProjAcc.lean ====
/- The arrays the calls leave that add up over their points. -/
module

public import proofs.«01_k».proof.Proof.ProjBlk
public import proofs.«01_k».proof.Proof.ProjPay

@[expose] public section

set_option maxRecDepth 16384

noncomputable section

namespace Cert.Mix

open Idealize.ShloMosaic Idealize.ShloMosaic.TcCoe Idealize.SL.Sem Cert.ProjIdeal Cert.ProjIdeal.Gen Cert.Mlp

variable (V : (c : Dev nD) → (b : Ref sig .tc) → Buf (Elt Ideal) ((c : Thread nD τ).loc b)) (c : Dev nD)
variable {f g h e : ℕ → ℕ → EReal}

/-! ## The gradient of the output weights, the upper half -/

section
variable (h0 : Mat (M := 4096) (N := 512) (V c main_arg5) f) (h1 : Mat (M := 4096) (N := 1024) (V c main_arg1) g)

include h0 h1 in
theorem acc6 (n : ℕ) : ∀ hn : n < cfg6.N, Mat (M := 512) (N := 1024) (outsAt6 V c n hn) (Tmul ((n % 4 + 1) * 1024) f g) := by
  induction n using Nat.strong_induction_on with
  | _ n ih =>
    intro hn a b
    have hN : n < 4 := lt_of_lt_of_eq hn N_6
    by_cases hz : n % 4 = 0
    · refine (congrFun (outsAt6_A V c ⟨n, hn⟩ hz) (ix2 a b)).trans ?_
      frame_out
      refine (k6_pay2_mat (blk6_0 V c h0 ⟨n, hn⟩) (blk6_1 V c h1 ⟨n, hn⟩) k6_pay1_mat a b).trans ?_
      obtain rfl : n = 0 := by omega
      exact Tmul_first f g hz a b
    · refine (congrFun (outsAt6_B V c ⟨n, hn⟩ hz) (ix2 a b)).trans ?_
      frame_out
      refine (k6_pay2_mat (blk6_0 V c h0 ⟨n, hn⟩) (blk6_1 V c h1 ⟨n, hn⟩) (ih (n - 1) (by omega) (by omega)) a b).trans ?_
      exact Tmul_step f g hz (show n * 1024 = n % 4 * 1024 by omega) a b

include h0 h1 in
theorem call6 : Mat (M := 512) (N := 1024) ((dat6 V c).arrAt 2 cfg6.N) (Tmul 4096 f g) := by
  refine Mat.of ((dat6 V c).arrAt_eq_of_covers 2 _ (by decide +kernel) fun t hf y => ?_)
  have hl := (flush6_2 t).mp hf
  blk_simp
  rw [after6_2]
  refine ((acc6 V c h0 h1 t.val t.isLt).at y).trans ?_
  blk_simp [at6_2 t]
  rw [hl]

end

/-! ## The gradient of the output weights, the lower half -/

section
variable (h0 : Mat (M := 4096) (N := 512) (V c main_arg6) f) (h1 : Mat (M := 4096) (N := 1024) (V c main_arg1) g)

include h0 h1 in
theorem acc7 (n : ℕ) : ∀ hn : n < cfg7.N, Mat (M := 512) (N := 1024) (outsAt7 V c n hn) (Tmul ((n % 4 + 1) * 1024) f g) := by
  induction n using Nat.strong_induction_on with
  | _ n ih =>
    intro hn a b
    have hN : n < 4 := lt_of_lt_of_eq hn N_7
    by_cases hz : n % 4 = 0
    · refine (congrFun (outsAt7_A V c ⟨n, hn⟩ hz) (ix2 a b)).trans ?_
      frame_out
      refine (k7_pay2_mat (blk7_0 V c h0 ⟨n, hn⟩) (blk7_1 V c h1 ⟨n, hn⟩) k7_pay1_mat a b).trans ?_
      obtain rfl : n = 0 := by omega
      exact Tmul_first f g hz a b
    · refine (congrFun (outsAt7_B V c ⟨n, hn⟩ hz) (ix2 a b)).trans ?_
      frame_out
      refine (k7_pay2_mat (blk7_0 V c h0 ⟨n, hn⟩) (blk7_1 V c h1 ⟨n, hn⟩) (ih (n - 1) (by omega) (by omega)) a b).trans ?_
      exact Tmul_step f g hz (show n * 1024 = n % 4 * 1024 by omega) a b

include h0 h1 in
theorem call7 : Mat (M := 512) (N := 1024) ((dat7 V c).arrAt 2 cfg7.N) (Tmul 4096 f g) := by
  refine Mat.of ((dat7 V c).arrAt_eq_of_covers 2 _ (by decide +kernel) fun t hf y => ?_)
  have hl := (flush7_2 t).mp hf
  blk_simp
  rw [after7_2]
  refine ((acc7 V c h0 h1 t.val t.isLt).at y).trans ?_
  blk_simp [at7_2 t]
  rw [hl]

end

/-! ## The gradient of the input weights, the first 2048 columns -/

section
variable (h0 : Mat (M := 4096) (N := 1024) (V c main_v5) f) (h1 : Mat (M := 4096) (N := 2048) (V c main_arg7) g)

include h0 h1 in
theorem acc8 (n : ℕ) : ∀ hn : n < cfg8.N, Mat (M := 1024) (N := 2048) (outsAt8 V c n hn) (Tmul ((n % 4 + 1) * 1024) f g) := by
  induction n using Nat.strong_induction_on with
  | _ n ih =>
    intro hn a b
    have hN : n < 4 := lt_of_lt_of_eq hn N_8
    by_cases hz : n % 4 = 0
    · refine (congrFun (outsAt8_A V c ⟨n, hn⟩ hz) (ix2 a b)).trans ?_
      frame_out
      refine (k8_pay2_mat (blk8_0 V c h0 ⟨n, hn⟩) (blk8_1 V c h1 ⟨n, hn⟩) k8_pay1_mat a b).trans ?_
      obtain rfl : n = 0 := by omega
      exact Tmul_first f g hz a b
    · refine (congrFun (outsAt8_B V c ⟨n, hn⟩ hz) (ix2 a b)).trans ?_
      frame_out
      refine (k8_pay2_mat (blk8_0 V c h0 ⟨n, hn⟩) (blk8_1 V c h1 ⟨n, hn⟩) (ih (n - 1) (by omega) (by omega)) a b).trans ?_
      exact Tmul_step f g hz (show n * 1024 = n % 4 * 1024 by omega) a b

include h0 h1 in
theorem call8 : Mat (M := 1024) (N := 2048) ((dat8 V c).arrAt 2 cfg8.N) (Tmul 4096 f g) := by
  refine Mat.of ((dat8 V c).arrAt_eq_of_covers 2 _ (by decide +kernel) fun t hf y => ?_)
  have hl := (flush8_2 t).mp hf
  blk_simp
  rw [after8_2]
  refine ((acc8 V c h0 h1 t.val t.isLt).at y).trans ?_
  blk_simp [at8_2 t]
  rw [hl]

end

/-! ## The gradient of the input weights, the other columns -/

section
variable (h0 : Mat (M := 4096) (N := 1024) (V c main_v5) f) (h1 : Mat (M := 4096) (N := 512) (V c main_arg8) g)

include h0 h1 in
theorem acc9 (n : ℕ) : ∀ hn : n < cfg9.N, Mat (M := 1024) (N := 512) (outsAt9 V c n hn) (Tmul ((n % 4 + 1) * 1024) f g) := by
  induction n using Nat.strong_induction_on with
  | _ n ih =>
    intro hn a b
    have hN : n < 4 := lt_of_lt_of_eq hn N_9
    by_cases hz : n % 4 = 0
    · refine (congrFun (outsAt9_A V c ⟨n, hn⟩ hz) (ix2 a b)).trans ?_
      frame_out
      refine (k9_pay2_mat (blk9_0 V c h0 ⟨n, hn⟩) (blk9_1 V c h1 ⟨n, hn⟩) k9_pay1_mat a b).trans ?_
      obtain rfl : n = 0 := by omega
      exact Tmul_first f g hz a b
    · refine (congrFun (outsAt9_B V c ⟨n, hn⟩ hz) (ix2 a b)).trans ?_
      frame_out
      refine (k9_pay2_mat (blk9_0 V c h0 ⟨n, hn⟩) (blk9_1 V c h1 ⟨n, hn⟩) (ih (n - 1) (by omega) (by omega)) a b).trans ?_
      exact Tmul_step f g hz (show n * 1024 = n % 4 * 1024 by omega) a b

include h0 h1 in
theorem call9 : Mat (M := 1024) (N := 512) ((dat9 V c).arrAt 2 cfg9.N) (Tmul 4096 f g) := by
  refine Mat.of ((dat9 V c).arrAt_eq_of_covers 2 _ (by decide +kernel) fun t hf y => ?_)
  have hl := (flush9_2 t).mp hf
  blk_simp
  rw [after9_2]
  refine ((acc9 V c h0 h1 t.val t.isLt).at y).trans ?_
  blk_simp [at9_2 t]
  rw [hl]

end

/-! ## The gradient of the norm -/

section
variable {g : ℕ → EReal} {d : ℕ → ℕ → EReal}
variable (h0 : Mat (M := 4096) (N := 1024) (V c main_arg0) h) (h1 : Mat (M := 1) (N := 1024) (V c main_v44) fun _ => g)
  (h2 : Mat (M := 4096) (N := 1024) (V c main_v42) d) (h3 : Mat (M := 4096) (N := 1024) (V c main_arg1) e)

include h0 h1 h2 h3 in
theorem row12 (t : Fin cfg12.N) : Mat (M := 512) (N := 1024) (outsAt12 V c t.val t.isLt).1
    (dRms (fun a b => h (t.val * 512 + a) b) g (fun a b => d (t.val * 512 + a) b) (fun a b => e (t.val * 512 + a) b)) := by
  intro a b
  by_cases hz : t.val % 8 = 0
  · rw [outsAt12_A V c t hz]
    frame_out
    exact k12_pay7_mat (blk12_0 V c h0 t) (blk12_2 V c h2 t) (blk12_1 V c h1 t) (blk12_3 V c h3 t) a b
  · rw [outsAt12_B V c t hz]
    frame_out
    exact k12_pay7_mat (blk12_0 V c h0 t) (blk12_2 V c h2 t) (blk12_1 V c h1 t) (blk12_3 V c h3 t) a b

include h0 h1 h2 h3 in
theorem call12_4 : Mat (M := 4096) (N := 1024) ((dat12 V c).arrAt 4 cfg12.N) (dRms h g d e) := by
  refine Mat.of ((dat12 V c).arrAt_eq_of_covers 4 _ (by decide +kernel) fun t hf y => ?_)
  blk_simp
  rw [after12_4]
  refine ((row12 V c h0 h1 h2 h3 t).at y).trans ?_
  blk_simp [at12_4 t]
  rfl

include h0 h2 in
theorem acc12 (n : ℕ) : ∀ hn : n < cfg12.N, Mat (M := 1) (N := 1024) (outsAt12 V c n hn).2 (fun _ => dGain ((n % 8 + 1) * 512) h d) := by
  induction n using Nat.strong_induction_on with
  | _ n ih =>
    intro hn a b
    have hN : n < 8 := lt_of_lt_of_eq hn N_12
    by_cases hz : n % 8 = 0
    · refine (congrFun (congrArg Prod.snd (outsAt12_A V c ⟨n, hn⟩ hz)) (ix2 a b)).trans ?_
      frame_out
      refine (k12_pay2_mat (k12_pay6_mat (blk12_0 V c h0 ⟨n, hn⟩) (blk12_2 V c h2 ⟨n, hn⟩)) k12_pay1_mat a b).trans ?_
      obtain rfl : n = 0 := by omega
      show 0 + dGain 512 (fun a b => h (0 * 512 + a) b) (fun a b => d (0 * 512 + a) b) b = dGain ((0 % 8 + 1) * 512) h d b
      rw [zero_add]
      simp only [Nat.zero_mul, Nat.zero_add, Nat.zero_mod, Nat.one_mul]
    · refine (congrFun (congrArg Prod.snd (outsAt12_B V c ⟨n, hn⟩ hz)) (ix2 a b)).trans ?_
      frame_out
      refine (k12_pay2_mat (k12_pay6_mat (blk12_0 V c h0 ⟨n, hn⟩) (blk12_2 V c h2 ⟨n, hn⟩)) (ih (n - 1) (by omega) (by omega)) a b).trans ?_
      show dGain (((n - 1) % 8 + 1) * 512) h d b + dGain 512 (fun r => h (n * 512 + r)) (fun r => d (n * 512 + r)) b = _
      rw [show ((n - 1) % 8 + 1) * 512 = n * 512 by omega, ← dGain_add, show n * 512 + 512 = (n % 8 + 1) * 512 by omega]

include h0 h2 in
theorem call12_5 : Mat (M := 1) (N := 1024) ((dat12 V c).arrAt 5 cfg12.N) (fun _ => dGain 4096 h d) := by
  refine Mat.of ((dat12 V c).arrAt_eq_of_covers 5 _ (by decide +kernel) fun t hf y => ?_)
  have hl := (flush12_5 t).mp hf
  blk_simp
  rw [after12_5]
  refine ((acc12 V c h0 h2 t.val t.isLt).at y).trans ?_
  blk_simp [at12_5 t]
  rw [hl]

end

end Cert.Mix
-- ==== Proof.ProjChain.lean ====
/- What each buffer of the projections holds, call after call: from the arguments to the eight results. -/
module

public import proofs.«01_k».proof.Proof.ProjSpec
public import proofs.«01_k».proof.Proof.ProjHost
public import proofs.«01_k».proof.Proof.ProjCall
public import proofs.«01_k».proof.Proof.ProjAcc
public import proofs.«01_k».proof.Proof.Gen.ProjIdeal.Frame

@[expose] public section

set_option maxRecDepth 16384

noncomputable section

namespace Cert.Mix

open Idealize.ShloMosaic Idealize.ShloMosaic.TcCoe Idealize.SL.Sem Cert.ProjIdeal Cert.ProjIdeal.Gen Cert.Mlp

section
variable (m : (l : Loc nD τ sig) → Buf (Elt Ideal) l) (ρ : Dev nD → PrngReg) (c : Dev nD)
variable {h d : ℕ → ℕ → EReal} {g : ℕ → EReal} {W O p q r s : ℕ → ℕ → EReal}
  (hh : Mat (M := 4096) (N := 1024) (m ((c.tc : Thread nD τ).loc main_arg0)) (h))
  (hd : Mat (M := 4096) (N := 1024) (m ((c.tc : Thread nD τ).loc main_arg1)) (d))
  (hg : Row (N := 1024) (m ((c.tc : Thread nD τ).loc main_arg2)) (g))
  (hW : Mat (M := 1024) (N := 2496) (m ((c.tc : Thread nD τ).loc main_arg3)) (W))
  (hO : Mat (M := 1024) (N := 1024) (m ((c.tc : Thread nD τ).loc main_arg4)) (O))
  (hp : Mat (M := 4096) (N := 512) (m ((c.tc : Thread nD τ).loc main_arg5)) (p))
  (hq : Mat (M := 4096) (N := 512) (m ((c.tc : Thread nD τ).loc main_arg6)) (q))
  (hr : Mat (M := 4096) (N := 2048) (m ((c.tc : Thread nD τ).loc main_arg7)) (r))
  (hs : Mat (M := 4096) (N := 512) (m ((c.tc : Thread nD τ).loc main_arg8)) (s))

include hg in
theorem at_v0 : Mat (M := 1) (N := 1024) (W1 m ρ c (Proc.devRef .tc main_v0)) (fun _ => g) :=
  host0_v0 (W0 m ρ c) hg

include hW in
theorem at_v1 : Mat3 (L := 1) (M := 1024) (N := 2496) (W1 m ρ c (Proc.devRef .tc main_v1)) (fun _ => W) :=
  host0_v1 (W0 m ρ c) hW

include hO in
theorem at_v2 : Mat3 (L := 1) (M := 1024) (N := 1024) (W1 m ρ c (Proc.devRef .tc main_v2)) (fun _ => O) :=
  host0_v2 (W0 m ρ c) hO

include hg in
theorem at_v4 : Mat (M := 1) (N := 1024) (W1 m ρ c (Proc.devRef .tc main_v4)) (fun _ => g) :=
  host0_v4 (W0 m ρ c) hg

include hh hg in
theorem at_v5 : Mat (M := 4096) (N := 1024) (W2 m ρ c (Proc.devRef .tc main_v5)) (nrm h g) :=
  Mat.cast (M := 4096) (N := 1024) (W2_arr m ρ c 2) (call0 (V1 m ρ) c (g := fun _ => g)
    (Mat.cast (M := 4096) (N := 1024) (W1_args m ρ c main_arg0 (by decide)) hh)
    (at_v4 m ρ c hg))

include hW in
theorem at_v13 : Mat (M := 1024) (N := 2560) (W3 m ρ c (Proc.devRef .tc main_v13)) (pad W) :=
  host1_v13 (W2 m ρ c) (Mat3.cast (L := 1) (M := 1024) (N := 2496) (W2_of m ρ c main_v1 (by decide)) (at_v1 m ρ c hW))

include hh hg hW in
theorem at_v14 : Mat (M := 4096) (N := 2560) (W4 m ρ c (Proc.devRef .tc main_v14)) (projF h g W) :=
  Mat.cast (M := 4096) (N := 2560) (W4_arr m ρ c 2) (call1 (V3 m ρ) c
    (Mat.cast (M := 4096) (N := 1024) (W3_of m ρ c main_v5 (by decide)) (at_v5 m ρ c hh hg))
    (at_v13 m ρ c hW))

/-! Buffers unchanged over several steps. -/

theorem v2_4 : W4 m ρ c (Proc.devRef .tc main_v2) = W1 m ρ c (Proc.devRef .tc main_v2) :=
  (W4_of _ _ _ _ (by decide)).trans ((W3_of _ _ _ _ (by decide)).trans (W2_of _ _ _ _ (by decide)))

theorem v2_8 : W8 m ρ c (Proc.devRef .tc main_v2) = W1 m ρ c (Proc.devRef .tc main_v2) :=
  (W8_of _ _ _ _ (by decide)).trans ((W7_of _ _ _ _ (by decide)).trans ((W6_of _ _ _ _ (by decide)).trans ((W5_of _ _ _ _ (by decide)).trans (v2_4 m ρ c))))

theorem v5_15 : W15 m ρ c (Proc.devRef .tc main_v5) = W2 m ρ c (Proc.devRef .tc main_v5) :=
  (W15_of _ _ _ _ (by decide)).trans ((W14_of _ _ _ _ (by decide)).trans ((W13_of _ _ _ _ (by decide)).trans ((W12_of _ _ _ _ (by decide)).trans ((W11_of _ _ _ _ (by decide)).trans ((W10_of _ _ _ _ (by decide)).trans ((W9_of _ _ _ _ (by decide)).trans ((W8_of _ _ _ _ (by decide)).trans ((W7_of _ _ _ _ (by decide)).trans ((W6_of _ _ _ _ (by decide)).trans ((W5_of _ _ _ _ (by decide)).trans ((W4_of _ _ _ _ (by decide)).trans (W3_of _ _ _ _ (by decide)))))))))))))

include hO in
theorem at_v15 : Mat (M := 1024) (N := 1024) (W5 m ρ c (Proc.devRef .tc main_v15)) (O) :=
  host2_v15 (W4 m ρ c) (Mat3.cast (L := 1) (M := 1024) (N := 1024) (v2_4 m ρ c) (at_v2 m ρ c hO))

include hO in
theorem at_v16 : Mat (M := 512) (N := 1024) (W5 m ρ c (Proc.devRef .tc main_v16)) (O) :=
  host2_v16 (W4 m ρ c) (Mat3.cast (L := 1) (M := 1024) (N := 1024) (v2_4 m ρ c) (at_v2 m ρ c hO))

include hh hO hp in
theorem at_v17 : Mat (M := 4096) (N := 1024) (W6 m ρ c (Proc.devRef .tc main_v17)) (midF h O p) :=
  Mat.cast (M := 4096) (N := 1024) (W6_arr m ρ c 3) (call2 (V5 m ρ) c
    (Mat.cast (M := 4096) (N := 512) (W5_args m ρ c main_arg5 (by decide)) hp)
    (at_v16 m ρ c hO)
    (Mat.cast (M := 4096) (N := 1024) (W5_args m ρ c main_arg0 (by decide)) hh))

include hO in
theorem at_v18 : Mat (M := 512) (N := 1024) (W7 m ρ c (Proc.devRef .tc main_v18)) (lo O) :=
  host3_v18 (W6 m ρ c) (Mat.cast (M := 1024) (N := 1024) (W6_of m ρ c main_v15 (by decide)) (at_v15 m ρ c hO))

include hh hO hp hq in
theorem at_v19 : Mat (M := 4096) (N := 1024) (W8 m ρ c (Proc.devRef .tc main_v19)) (outF h O p q) :=
  Mat.cast (M := 4096) (N := 1024) (W8_arr m ρ c 3) (call3 (V7 m ρ) c
    (Mat.cast (M := 4096) (N := 512) (W7_args m ρ c main_arg6 (by decide)) hq)
    (at_v18 m ρ c hO)
    (Mat.cast (M := 4096) (N := 1024) (W7_of m ρ c main_v17 (by decide)) (at_v17 m ρ c hh hO hp)))

include hO in
theorem at_v20 : Mat (M := 1024) (N := 1024) (W9 m ρ c (Proc.devRef .tc main_v20)) (O) :=
  host4_v20 (W8 m ρ c) (Mat3.cast (L := 1) (M := 1024) (N := 1024) (v2_8 m ρ c) (at_v2 m ρ c hO))

include hO in
theorem at_v21 : Mat (M := 512) (N := 1024) (W9 m ρ c (Proc.devRef .tc main_v21)) (O) :=
  host4_v21 (W8 m ρ c) (Mat3.cast (L := 1) (M := 1024) (N := 1024) (v2_8 m ρ c) (at_v2 m ρ c hO))

include hd hO in
theorem at_v22 : Mat (M := 4096) (N := 512) (W10 m ρ c (Proc.devRef .tc main_v22)) (dP d O) :=
  Mat.cast (M := 4096) (N := 512) (W10_arr m ρ c 2) (call4 (V9 m ρ) c
    (Mat.cast (M := 4096) (N := 1024) (W9_args m ρ c main_arg1 (by decide)) hd)
    (at_v21 m ρ c hO))

include hO in
theorem at_v23 : Mat (M := 512) (N := 1024) (W11 m ρ c (Proc.devRef .tc main_v23)) (lo O) :=
  host5_v23 (W10 m ρ c) (Mat.cast (M := 1024) (N := 1024) (W10_of m ρ c main_v20 (by decide)) (at_v20 m ρ c hO))

include hd hO in
theorem at_v24 : Mat (M := 4096) (N := 512) (W12 m ρ c (Proc.devRef .tc main_v24)) (dQ d O) :=
  Mat.cast (M := 4096) (N := 512) (W12_arr m ρ c 2) (call5 (V11 m ρ) c
    (Mat.cast (M := 4096) (N := 1024) (W11_args m ρ c main_arg1 (by decide)) hd)
    (at_v23 m ρ c hO))

include hd hp in
theorem at_v25 : Mat (M := 512) (N := 1024) (W13 m ρ c (Proc.devRef .tc main_v25)) (Tmul 4096 p d) :=
  Mat.cast (M := 512) (N := 1024) (W13_arr m ρ c 2) (call6 (V12 m ρ) c
    (Mat.cast (M := 4096) (N := 512) (W12_args m ρ c main_arg5 (by decide)) hp)
    (Mat.cast (M := 4096) (N := 1024) (W12_args m ρ c main_arg1 (by decide)) hd))

include hd hq in
theorem at_v26 : Mat (M := 512) (N := 1024) (W14 m ρ c (Proc.devRef .tc main_v26)) (Tmul 4096 q d) :=
  Mat.cast (M := 512) (N := 1024) (W14_arr m ρ c 2) (call7 (V13 m ρ) c
    (Mat.cast (M := 4096) (N := 512) (W13_args m ρ c main_arg6 (by decide)) hq)
    (Mat.cast (M := 4096) (N := 1024) (W13_args m ρ c main_arg1 (by decide)) hd))

include hd hp hq in
theorem at_v27 : Mat (M := 1024) (N := 1024) (W15 m ρ c (Proc.devRef .tc main_v27)) (dO d p q) :=
  host8_v27 (W14 m ρ c) (Mat.cast (M := 512) (N := 1024) (W14_of m ρ c main_v25 (by decide)) (at_v25 m ρ c hd hp))
    (at_v26 m ρ c hd hq)

include hW in
theorem at_v35 : Mat (M := 1024) (N := 2560) (W15 m ρ c (Proc.devRef .tc main_v35)) (pad W) :=
  host8_v35 (W14 m ρ c) (Mat3.cast (L := 1) (M := 1024) (N := 2496) ((W14_of m ρ c main_v1 (by decide)).trans ((W13_of _ _ _ _ (by decide)).trans ((W12_of _ _ _ _ (by decide)).trans ((W11_of _ _ _ _ (by decide)).trans ((W10_of _ _ _ _ (by decide)).trans ((W9_of _ _ _ _ (by decide)).trans ((W8_of _ _ _ _ (by decide)).trans ((W7_of _ _ _ _ (by decide)).trans ((W6_of _ _ _ _ (by decide)).trans ((W5_of _ _ _ _ (by decide)).trans ((W4_of _ _ _ _ (by decide)).trans ((W3_of _ _ _ _ (by decide)).trans (W2_of _ _ _ _ (by decide)))))))))))))) (at_v1 m ρ c hW))

include hh hg hr in
theorem at_v36 : Mat (M := 1024) (N := 2048) (W16 m ρ c (Proc.devRef .tc main_v36)) (Tmul 4096 (nrm h g) r) :=
  Mat.cast (M := 1024) (N := 2048) (W16_arr m ρ c 2) (call8 (V15 m ρ) c
    (Mat.cast (M := 4096) (N := 1024) (v5_15 m ρ c) (at_v5 m ρ c hh hg))
    (Mat.cast (M := 4096) (N := 2048) (W15_args m ρ c main_arg7 (by decide)) hr))

include hh hg hs in
theorem at_v37 : Mat (M := 1024) (N := 512) (W17 m ρ c (Proc.devRef .tc main_v37)) (Tmul 4096 (nrm h g) s) :=
  Mat.cast (M := 1024) (N := 512) (W17_arr m ρ c 2) (call9 (V16 m ρ) c
    (Mat.cast (M := 4096) (N := 1024) ((W16_of m ρ c main_v5 (by decide)).trans (v5_15 m ρ c)) (at_v5 m ρ c hh hg))
    (Mat.cast (M := 4096) (N := 512) (W16_args m ρ c main_arg8 (by decide)) hs))

include hh hg hr hs in
theorem at_v38 : Mat (M := 1024) (N := 2560) (W18 m ρ c (Proc.devRef .tc main_v38)) (dWide h g r s) :=
  host10_v38 (W17 m ρ c) (Mat.cast (M := 1024) (N := 2048) (W17_of m ρ c main_v36 (by decide)) (at_v36 m ρ c hh hg hr))
    (at_v37 m ρ c hh hg hs)

include hW in
theorem at_v39 : Mat (M := 1024) (N := 2048) (W18 m ρ c (Proc.devRef .tc main_v39)) (pad W) :=
  host10_v39 (W17 m ρ c) (Mat.cast (M := 1024) (N := 2560) ((W17_of m ρ c main_v35 (by decide)).trans (W16_of _ _ _ _ (by decide))) (at_v35 m ρ c hW))

include hW hr in
theorem at_v40 : Mat (M := 4096) (N := 1024) (W19 m ρ c (Proc.devRef .tc main_v40)) (mulT 2048 r (pad W)) :=
  Mat.cast (M := 4096) (N := 1024) (W19_arr m ρ c 2) (call10 (V18 m ρ) c
    (Mat.cast (M := 4096) (N := 2048) (W18_args m ρ c main_arg7 (by decide)) hr)
    (at_v39 m ρ c hW))

include hW in
theorem at_v41 : Mat (M := 1024) (N := 512) (W20 m ρ c (Proc.devRef .tc main_v41)) (right (pad W)) :=
  host11_v41 (W19 m ρ c) (Mat.cast (M := 1024) (N := 2560) ((W19_of m ρ c main_v35 (by decide)).trans ((W18_of _ _ _ _ (by decide)).trans ((W17_of _ _ _ _ (by decide)).trans (W16_of _ _ _ _ (by decide))))) (at_v35 m ρ c hW))

include hW hr hs in
theorem at_v42 : Mat (M := 4096) (N := 1024) (W21 m ρ c (Proc.devRef .tc main_v42)) (dNrm W r s) :=
  Mat.cast (M := 4096) (N := 1024) (W21_arr m ρ c 3) (call11 (V20 m ρ) c
    (Mat.cast (M := 4096) (N := 512) (W20_args m ρ c main_arg8 (by decide)) hs)
    (at_v41 m ρ c hW)
    (Mat.cast (M := 4096) (N := 1024) (W20_of m ρ c main_v40 (by decide)) (at_v40 m ρ c hW hr)))

include hg in
theorem at_v44 : Mat (M := 1) (N := 1024) (W22 m ρ c (Proc.devRef .tc main_v44)) (fun _ => g) :=
  host12_v44 (W21 m ρ c) (Mat.cast (M := 1) (N := 1024) ((W21_of m ρ c main_v0 (by decide)).trans ((W20_of _ _ _ _ (by decide)).trans ((W19_of _ _ _ _ (by decide)).trans ((W18_of _ _ _ _ (by decide)).trans ((W17_of _ _ _ _ (by decide)).trans ((W16_of _ _ _ _ (by decide)).trans ((W15_of _ _ _ _ (by decide)).trans ((W14_of _ _ _ _ (by decide)).trans ((W13_of _ _ _ _ (by decide)).trans ((W12_of _ _ _ _ (by decide)).trans ((W11_of _ _ _ _ (by decide)).trans ((W10_of _ _ _ _ (by decide)).trans ((W9_of _ _ _ _ (by decide)).trans ((W8_of _ _ _ _ (by decide)).trans ((W7_of _ _ _ _ (by decide)).trans ((W6_of _ _ _ _ (by decide)).trans ((W5_of _ _ _ _ (by decide)).trans ((W4_of _ _ _ _ (by decide)).trans ((W3_of _ _ _ _ (by decide)).trans (W2_of _ _ _ _ (by decide))))))))))))))))))))) (at_v0 m ρ c hg))

include hh hd hg hW hr hs in
theorem at_v45_0 : Mat (M := 4096) (N := 1024) (W23 m ρ c (Proc.devRef .tc main_v45_0)) (dRms h g (dNrm W r s) d) :=
  Mat.cast (M := 4096) (N := 1024) (W23_arr m ρ c 4) (call12_4 (V22 m ρ) c
    (Mat.cast (M := 4096) (N := 1024) (W22_args m ρ c main_arg0 (by decide)) hh)
    (at_v44 m ρ c hg)
    (Mat.cast (M := 4096) (N := 1024) (W22_of m ρ c main_v42 (by decide)) (at_v42 m ρ c hW hr hs))
    (Mat.cast (M := 4096) (N := 1024) (W22_args m ρ c main_arg1 (by decide)) hd))

include hh hW hr hs in
theorem at_v45_1 : Mat (M := 1) (N := 1024) (W23 m ρ c (Proc.devRef .tc main_v45_1)) (fun _ => dGain 4096 h (dNrm W r s)) :=
  Mat.cast (M := 1) (N := 1024) (W23_arr m ρ c 5) (call12_5 (V22 m ρ) c
    (Mat.cast (M := 4096) (N := 1024) (W22_args m ρ c main_arg0 (by decide)) hh)
    (Mat.cast (M := 4096) (N := 1024) (W22_of m ρ c main_v42 (by decide)) (at_v42 m ρ c hW hr hs)))

include hh hg hr hs in
theorem at_v51 : Mat (M := 1024) (N := 2496) (W24 m ρ c (Proc.devRef .tc main_v51)) (dW h g r s) :=
  host13_v51 (W23 m ρ c) (Mat.cast (M := 1024) (N := 2560) ((W23_of m ρ c main_v38 (by decide)).trans ((W22_of _ _ _ _ (by decide)).trans ((W21_of _ _ _ _ (by decide)).trans ((W20_of _ _ _ _ (by decide)).trans (W19_of _ _ _ _ (by decide)))))) (at_v38 m ρ c hh hg hr hs))

end

end Cert.Mix
-- ==== Proof.ProjRef.lean ====
/- The projections' reference, one operation after another, each read at an index. -/
module

public import proofs.«01_k».proof.Proof.Gen.ProjReferenceIdeal.Run
public import proofs.«01_k».proof.Proof.ProjSpec
public import Idealize.ShloMosaic.Lib.Tactic.CleanTypes

@[expose] public section

set_option maxRecDepth 16384

noncomputable section

namespace Cert.Mix.Ref

open Idealize.ShloMosaic Idealize.ShloMosaic.TcCoe Idealize.SL.Sem Cert.ProjReferenceIdeal Cert.ProjReferenceIdeal.Gen Cert.Mlp

open scoped BigOperators

/-! ## Sums of which some terms are zero or which are cut -/

theorem mul_pad (n u : ℕ → ℕ → EReal) (a b : ℕ) : mul 1024 n (pad u) a b = pad (mul 1024 n u) a b := by
  unfold mul pad
  split_ifs
  · rfl
  · simp only [mul_zero, Finset.sum_const_zero]
  · rfl
  · simp only [mul_zero, Finset.sum_const_zero]

theorem mul_cat (p q u : ℕ → ℕ → EReal) (a b : ℕ) : mul 1024 (cat 512 p q) u a b = mul 512 p u a b + mul 512 q (lo u) a b := by
  unfold mul cat
  rw [show (1024 : ℕ) = 512 + 512 from rfl, Finset.sum_range_add]
  refine congrArg₂ (· + ·) (Finset.sum_congr rfl fun k hk => by rw [if_pos (Finset.mem_range.mp hk)]) (Finset.sum_congr rfl fun k _ => ?_)
  rw [if_neg (by omega), Nat.add_sub_cancel_left]

theorem mulT_unpad (x u : ℕ → ℕ → EReal) (a b : ℕ) : mulT 2496 (unpad x) u a b = mulT 2560 x (pad u) a b := by
  unfold mulT
  rw [show (2496 : ℕ) = 2464 + 32 from rfl, show (2560 : ℕ) = 2464 + 32 + 32 + 32 from rfl, Finset.sum_range_add, Finset.sum_range_add _ (2464 + 32 + 32),
    Finset.sum_range_add _ (2464 + 32), Finset.sum_range_add _ 2464 32]
  have z1 : ∑ k ∈ Finset.range 32, x a (2464 + k) * pad u b (2464 + k) = 0 := Finset.sum_eq_zero fun k hk => by
    have := Finset.mem_range.mp hk
    unfold pad
    rw [if_neg (by omega), if_pos (by omega), mul_zero]
  have z2 : ∑ k ∈ Finset.range 32, x a (2464 + 32 + 32 + k) * pad u b (2464 + 32 + 32 + k) = 0 := Finset.sum_eq_zero fun k hk => by
    unfold pad
    rw [if_neg (by omega), if_neg (by omega), if_neg (by omega), mul_zero]
  rw [z1, z2, add_zero, add_zero]
  refine congrArg₂ (· + ·) (Finset.sum_congr rfl fun k hk => ?_) (Finset.sum_congr rfl fun k hk => ?_)
  · have := Finset.mem_range.mp hk
    unfold pad unpad
    rw [if_pos (by omega), if_pos (by omega)]
  · have := Finset.mem_range.mp hk
    unfold pad unpad
    rw [if_neg (by omega), if_neg (by omega), if_neg (by omega), if_pos (by omega)]
    exact congrArg₂ (· * ·) (congrArg _ (by omega)) (congrArg _ (by omega))

theorem narrow (W r s : ℕ → ℕ → EReal) : mulT 2496 (unpad (cat 2048 r s)) W = dNrm W r s := by
  funext a b
  rw [mulT_unpad]
  unfold dNrm mulT cat
  rw [show (2560 : ℕ) = 2048 + 512 from rfl, Finset.sum_range_add, add_comm]
  refine congrArg₂ (· + ·) (Finset.sum_congr rfl fun k _ => ?_) (Finset.sum_congr rfl fun k hk => by rw [if_pos (Finset.mem_range.mp hk)])
  rw [if_neg (by omega), Nat.add_sub_cancel_left]

variable (x0 : FVec Ideal S4096x1024 .f32) (x1 : FVec Ideal S4096x1024 .f32) (x2 : FVec Ideal S1024 .f32) (x3 : FVec Ideal S1024x2496 .bf16) (x4 : FVec Ideal S1024x1024 .bf16) (x5 : FVec Ideal S4096x512 .bf16) (x6 : FVec Ideal S4096x512 .f32) (x7 : FVec Ideal S4096x2048 .f32) (x8 : FVec Ideal S4096x512 .f32)
variable {h d : ℕ → ℕ → EReal} {g : ℕ → EReal} {W O p q r s : ℕ → ℕ → EReal}
  (h0 : Mat (M := 4096) (N := 1024) x0 h)
  (h1 : Mat (M := 4096) (N := 1024) x1 d)
  (h2 : Row (N := 1024) x2 g)
  (h3 : Mat (M := 1024) (N := 2496) x3 W)
  (h4 : Mat (M := 1024) (N := 1024) x4 O)
  (h5 : Mat (M := 4096) (N := 512) x5 p)
  (h6 : Mat (M := 4096) (N := 512) x6 q)
  (h7 : Mat (M := 4096) (N := 2048) x7 r)
  (h8 : Mat (M := 4096) (N := 512) x8 s)

/-- The input weights. -/
def wIn : FVec Ideal S1024x2496 .f32 :=
  extf .f32 x3 bitsLt_bf16_f32

include h3 in
theorem wIn_at : Mat (M := 1024) (N := 2496) (wIn x3) (W) := by
  intro a b
  unfold wIn
  clean_types
  pointwise
  simp only [h3.e]

/-- The output weights. -/
def wOut : FVec Ideal S1024x1024 .f32 :=
  extf .f32 x4 bitsLt_bf16_f32

include h4 in
theorem wOut_at : Mat (M := 1024) (N := 1024) (wOut x4) (O) := by
  intro a b
  unfold wOut
  clean_types
  pointwise
  simp only [h4.e]

/-- The mean of the rows' squares. -/
def ms : FVec Ideal S4096x1 .f32 :=
  addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

include h0 in
theorem ms_at : Mat (M := 4096) (N := 1) (ms x0) (fun a _ => meanSq h a) := by
  intro a b
  unfold ms
  clean_types
  pointwise
  simp only [h0.e]
  unfold meanSq
  rw [Finset.sum_range]

/-- The root below it. -/
def rs : FVec Ideal S4096x1 .f32 :=
  Host.rsqrt (ms x0)

include h0 in
theorem rs_at : Mat (M := 4096) (N := 1) (rs x0) (fun a _ => Ideal.rsqrt (meanSq h a)) := by
  intro a b
  unfold rs
  clean_types
  pointwise
  simp only [(ms_at x0 h0).e]

/-- The rows divided by their lengths. -/
def un : FVec Ideal S4096x1024 .f32 :=
  mulf x0 (broadcastInDim S4096x1024 ![0, 1] bcast_S4096x1_S4096x1024_0_1 (rs x0))

include h0 in
theorem un_at : Mat (M := 4096) (N := 1024) (un x0) (unit h) := by
  intro a b
  unfold un
  clean_types
  pointwise
  simp only [h0.e, (rs_at x0 h0).e]
  rfl

/-- The gains. -/
def gain : FVec Ideal S1x1024 .f32 :=
  broadcastInDim S1x1024 ![1] bcast_S1024_S1x1024_1 x2

include h2 in
theorem gain_at : Mat (M := 1) (N := 1024) (gain x2) (fun _ => g) := by
  intro a b
  unfold gain
  clean_types
  pointwise
  simp only [h2.e]

/-- The rows after the norm. -/
def nr : FVec Ideal S4096x1024 .f32 :=
  mulf (un x0) (broadcastInDim S4096x1024 ![0, 1] bcast_S1x1024_S4096x1024_0_1 (gain x2))

include h0 h2 in
theorem nr_at : Mat (M := 4096) (N := 1024) (nr x0 x2) (nrm h g) := by
  intro a b
  unfold nr
  clean_types
  pointwise
  simp only [(un_at x0 h0).e, (gain_at x2 h2).e]
  rfl

/-- What the input weights make of them. -/
def narrowProj : FVec Ideal S4096x2496 .f32 :=
  (Host.dotGeneral (φ₁ := .f32) (φ₂ := .f32) dot_S4096x1024_S1024x2496_S4096x2496_1_0_0_1_n_n none (nr x0 x2) (wIn x3))

include h0 h2 h3 in
theorem narrowProj_at : Mat (M := 4096) (N := 2496) (narrowProj x0 x2 x3) (mul 1024 (nrm h g) W) := by
  intro a b
  unfold narrowProj
  clean_types
  pointwise
  simp only [(nr_at x0 x2 h0 h2).e, (wIn_at x3 h3).e]
  unfold mul
  rw [Finset.sum_range]

/-- The same with columns of zeros between. -/
def projR : FVec Ideal S4096x2560 .f32 :=
  (concatenate S4096x2560 1 [⟨S4096x2432, ((extractStridedSlice S4096x2432 ![0, 0] (narrowProj x0 x2 x3) slices_S4096x2496_S4096x2432_0_0) : (⟨S4096x2432, .f32⟩ : BufTy).Contents (Elt Ideal))⟩, ⟨S4096x32, ((extractStridedSlice S4096x32 ![0, 2432] (narrowProj x0 x2 x3) slices_S4096x2496_S4096x32_0_2432) : (⟨S4096x32, .f32⟩ : BufTy).Contents (Elt Ideal))⟩, ⟨S4096x32, ((broadcastInDim S4096x32 ![] bcast_S_S4096x32 (constant (F := Ideal) S_ .f32 0x00000000#32)) : (⟨S4096x32, .f32⟩ : BufTy).Contents (Elt Ideal))⟩, ⟨S4096x32, ((extractStridedSlice S4096x32 ![0, 2464] (narrowProj x0 x2 x3) slices_S4096x2496_S4096x32_0_2464) : (⟨S4096x32, .f32⟩ : BufTy).Contents (Elt Ideal))⟩, ⟨S4096x32, ((broadcastInDim S4096x32 ![] bcast_S_S4096x32 (constant (F := Ideal) S_ .f32 0x00000000#32)) : (⟨S4096x32, .f32⟩ : BufTy).Contents (Elt Ideal))⟩] concatenates_S4096x2432_S4096x32_S4096x32_S4096x32_S4096x32_S4096x2560_d1)

include h0 h2 h3 in
theorem projR_at : Mat (M := 4096) (N := 2560) (projR x0 x2 x3) (projF h g W) := by
  intro a b
  unfold projR
  clean_types
  pointwise
  simp only [(narrowProj_at x0 x2 x3 h0 h2 h3).e]
  unfold projF
  rw [mul_pad]
  unfold pad
  split_ifs <;> first | omega | exact congrArg (mul 1024 (nrm h g) W a) (by omega) | rfl

/-- The two attentions' rows side by side. -/
def pq : FVec Ideal S4096x1024 .f32 :=
  concatenate S4096x1024 1 [⟨S4096x512, (extf .f32 x5 bitsLt_bf16_f32)⟩, ⟨S4096x512, x6⟩] concatenates_S4096x512_S4096x512_S4096x1024_d1

include h5 h6 in
theorem pq_at : Mat (M := 4096) (N := 1024) (pq x5 x6) (cat 512 p q) := by
  intro a b
  unfold pq
  clean_types
  pointwise
  simp only [h5.e, h6.e]
  unfold cat
  simp only [dite_eq_ite]

/-- The rows with what the output weights make of them. -/
def out : FVec Ideal S4096x1024 .f32 :=
  addf x0 (Host.dotGeneral (φ₁ := .f32) (φ₂ := .f32) dot_S4096x1024_S1024x1024_S4096x1024_1_0_0_1_n_n none (pq x5 x6) (wOut x4))

include h0 h4 h5 h6 in
theorem out_at : Mat (M := 4096) (N := 1024) (out x0 x4 x5 x6) (outF h O p q) := by
  intro a b
  unfold out
  clean_types
  pointwise
  simp only [h0.e, (pq_at x5 x6 h5 h6).e, (wOut_at x4 h4).e]
  rw [← Finset.sum_range (fun k => cat 512 p q a k * O k b)]
  exact (congrArg _ (mul_cat p q O a b)).trans (by unfold outF midF; rw [add_comm (h a b), add_comm (mul 512 p O a b), add_assoc])

/-- The gradients of the padded product. -/
def drs : FVec Ideal S4096x2560 .f32 :=
  concatenate S4096x2560 1 [⟨S4096x2048, x7⟩, ⟨S4096x512, x8⟩] concatenates_S4096x2048_S4096x512_S4096x2560_d1

include h7 h8 in
theorem drs_at : Mat (M := 4096) (N := 2560) (drs x7 x8) (cat 2048 r s) := by
  intro a b
  unfold drs
  clean_types
  pointwise
  simp only [h7.e, h8.e]
  unfold cat
  simp only [dite_eq_ite]

/-- Those of the product. -/
def dx : FVec Ideal S4096x2496 .f32 :=
  (concatenate S4096x2496 1 [⟨S4096x2432, ((extractStridedSlice S4096x2432 ![0, 0] (drs x7 x8) slices_S4096x2560_S4096x2432_0_0) : (⟨S4096x2432, .f32⟩ : BufTy).Contents (Elt Ideal))⟩, ⟨S4096x32, ((extractStridedSlice S4096x32 ![0, 2432] (drs x7 x8) slices_S4096x2560_S4096x32_0_2432) : (⟨S4096x32, .f32⟩ : BufTy).Contents (Elt Ideal))⟩, ⟨S4096x32, ((extractStridedSlice S4096x32 ![0, 2496] (drs x7 x8) slices_S4096x2560_S4096x32_0_2496) : (⟨S4096x32, .f32⟩ : BufTy).Contents (Elt Ideal))⟩] concatenates_S4096x2432_S4096x32_S4096x32_S4096x2496_d1)

include h7 h8 in
theorem dx_at : Mat (M := 4096) (N := 2496) (dx x7 x8) (unpad (cat 2048 r s)) := by
  intro a b
  unfold dx
  clean_types
  pointwise
  simp only [(drs_at x7 x8 h7 h8).e]
  unfold unpad
  split_ifs <;> first | omega | exact congrArg (cat 2048 r s a) (by omega) | rfl

/-- The gradient of the input weights. -/
def dWR : FVec Ideal S1024x2496 .f32 :=
  transpose S1024x2496 [1, 0] (Host.dotGeneral (φ₁ := .f32) (φ₂ := .f32) dot_S4096x2496_S4096x1024_S2496x1024_0_0_1_1_n_n none (dx x7 x8) (nr x0 x2)) transposes_S2496x1024_S1024x2496_1_0

include h0 h2 h7 h8 in
theorem dWR_at : Mat (M := 1024) (N := 2496) (dWR x0 x2 x7 x8) (dW h g r s) := by
  intro a b
  unfold dWR
  clean_types
  pointwise
  simp only [(dx_at x7 x8 h7 h8).e, (nr_at x0 x2 h0 h2).e]
  unfold dW dWide unpad cat Tmul
  simp only [mul_comm _ (nrm _ _ _ _)]
  split_ifs <;> rfl

/-- The gradient of the rows after the norm. -/
def dn : FVec Ideal S4096x1024 .f32 :=
  (Host.dotGeneral (φ₁ := .f32) (φ₂ := .f32) dot_S4096x2496_S1024x2496_S4096x1024_1_1_0_0_n_n none (dx x7 x8) (wIn x3))

include h3 h7 h8 in
theorem dn_at : Mat (M := 4096) (N := 1024) (dn x3 x7 x8) (dNrm W r s) := by
  intro a b
  unfold dn
  clean_types
  pointwise
  simp only [(dx_at x7 x8 h7 h8).e, (wIn_at x3 h3).e]
  rw [← narrow]
  unfold mulT
  rw [Finset.sum_range]

/-- The same times the gains. -/
def dg : FVec Ideal S4096x1024 .f32 :=
  mulf (dn x3 x7 x8) (broadcastInDim S4096x1024 ![0, 1] bcast_S1x1024_S4096x1024_0_1 (gain x2))

include h2 h3 h7 h8 in
theorem dg_at : Mat (M := 4096) (N := 1024) (dg x2 x3 x7 x8) (fun a b => dNrm W r s a b * g b) := by
  intro a b
  unfold dg
  clean_types
  pointwise
  simp only [(dn_at x3 x7 x8 h3 h7 h8).e, (gain_at x2 h2).e]

/-- What the mean of the squares receives. -/
def dm : FVec Ideal S4096x1024 .f32 :=
  broadcastInDim S4096x1024 ![0] bcast_S4096_S4096x1024_0 (Host.reduceAdd (Host.divf (mulf (shapeCast _ (Host.reduceAdd (mulf x0 (dg x2 x3 x7 x8)) (constant S_ .f32 0x00000000#32) reducesTo_S4096x1024_S4096_d1 h_S_) shapeCasts_S4096_S4096x1) (mulf (broadcastInDim S4096x1 ![] bcast_S_S4096x1 (constant S_ .f32 0xBF000000#32)) (Host.divf (rs x0) (ms x0)))) (broadcastInDim S4096x1 ![] bcast_S_S4096x1 (constant S_ .f32 0x44800000#32))) (constant S_ .f32 0x00000000#32) reducesTo_S4096x1_S4096_d1 h_S_)

include h0 h2 h3 h7 h8 in
theorem dm_at : Mat (M := 4096) (N := 1024) (dm x0 x2 x3 x7 x8) (fun a _ => dMean h g (dNrm W r s) a) := by
  intro a b
  unfold dm
  clean_types
  pointwise
  simp only [h0.e, (dg_at x2 x3 x7 x8 h2 h3 h7 h8).e, (rs_at x0 h0).e, (ms_at x0 h0).e]
  rw [Fin.sum_univ_one]
  unfold dMean
  rw [Finset.sum_range]

/-- The gradient of the rows. -/
def dh : FVec Ideal S4096x1024 .f32 :=
  addf (addf (addf (mulf (dg x2 x3 x7 x8) (broadcastInDim S4096x1024 ![0, 1] bcast_S4096x1_S4096x1024_0_1 (rs x0))) (mulf x0 (dm x0 x2 x3 x7 x8))) (mulf (dm x0 x2 x3 x7 x8) x0)) x1

include h0 h1 h2 h3 h7 h8 in
theorem dh_at : Mat (M := 4096) (N := 1024) (dh x0 x1 x2 x3 x7 x8) (dRms h g (dNrm W r s) d) := by
  intro a b
  unfold dh
  clean_types
  pointwise
  simp only [h0.e, h1.e, (dg_at x2 x3 x7 x8 h2 h3 h7 h8).e, (rs_at x0 h0).e, (dm_at x0 x2 x3 x7 x8 h0 h2 h3 h7 h8).e]
  rfl

/-- The gradient of the gains. -/
def dgain : FVec Ideal S1x1024 .f32 :=
  broadcastInDim S1x1024 ![1] bcast_S1024_S1x1024_1 (Host.reduceAdd (shapeCast _ (Host.reduceAdd (mulf (un x0) (dn x3 x7 x8)) (constant S_ .f32 0x00000000#32) reducesTo_S4096x1024_S1024_d0 h_S_) shapeCasts_S1024_S1x1024) (constant S_ .f32 0x00000000#32) reducesTo_S1x1024_S1024_d0 h_S_)

include h0 h3 h7 h8 in
theorem dgain_at : Mat (M := 1) (N := 1024) (dgain x0 x3 x7 x8) (fun _ => dGain 4096 h (dNrm W r s)) := by
  intro a b
  unfold dgain
  clean_types
  pointwise
  simp only [(un_at x0 h0).e, (dn_at x3 x7 x8 h3 h7 h8).e]
  unfold dGain
  rw [Fin.sum_univ_one, Finset.sum_range]

/-- The gradient at the result. -/
def dd : FVec Ideal S4096x1024 .f32 :=
  shapeCast _ x1 shapeCasts_S4096x1024_S4096x1024

include h1 in
theorem dd_at : Mat (M := 4096) (N := 1024) (dd x1) (d) := by
  intro a b
  unfold dd
  clean_types
  pointwise
  simp only [h1.e]

/-- The gradient of the two attentions' rows … -/
def dpq : FVec Ideal S4096x1024 .f32 :=
  (Host.dotGeneral (φ₁ := .f32) (φ₂ := .f32) dot_S4096x1024_S1024x1024_S4096x1024_1_1_0_0_n_n none (dd x1) (wOut x4))

include h1 h4 in
theorem dpq_at : Mat (M := 4096) (N := 1024) (dpq x1 x4) (mulT 1024 d O) := by
  intro a b
  unfold dpq
  clean_types
  pointwise
  simp only [(dd_at x1 h1).e, (wOut_at x4 h4).e]
  unfold mulT
  rw [Finset.sum_range]

/-- … of the first … -/
def dPR : FVec Ideal S4096x512 .f32 :=
  (extractStridedSlice S4096x512 ![0, 0] (dpq x1 x4) slices_S4096x1024_S4096x512_0_0)

include h1 h4 in
theorem dPR_at : Mat (M := 4096) (N := 512) (dPR x1 x4) (dP d O) := by
  intro a b
  unfold dPR
  clean_types
  pointwise
  simp only [(dpq_at x1 x4 h1 h4).e]
  try rfl

/-- … and of the second. -/
def dQR : FVec Ideal S4096x512 .f32 :=
  (extractStridedSlice S4096x512 ![0, 512] (dpq x1 x4) slices_S4096x1024_S4096x512_0_512)

include h1 h4 in
theorem dQR_at : Mat (M := 4096) (N := 512) (dQR x1 x4) (dQ d O) := by
  intro a b
  unfold dQR
  clean_types
  pointwise
  simp only [(dpq_at x1 x4 h1 h4).e]
  try rfl

/-- The gradient of the output weights. -/
def dOR : FVec Ideal S1024x1024 .f32 :=
  transpose S1024x1024 [1, 0] (Host.dotGeneral (φ₁ := .f32) (φ₂ := .f32) dot_S4096x1024_S4096x1024_S1024x1024_0_0_1_1_n_n none (dd x1) (pq x5 x6)) transposes_S1024x1024_S1024x1024_1_0

include h1 h5 h6 in
theorem dOR_at : Mat (M := 1024) (N := 1024) (dOR x1 x5 x6) (dO d p q) := by
  intro a b
  unfold dOR
  clean_types
  pointwise
  simp only [(dd_at x1 h1).e, (pq_at x5 x6 h5 h6).e]
  unfold dO cat Tmul
  rw [Finset.sum_range, Finset.sum_range]
  simp only [mul_comm (d _ _)]
  split_ifs <;> rfl

end Cert.Mix.Ref
-- ==== Proof.ProjJoin.lean ====
/- The projections' eight results are the reference's. -/
module

public import proofs.«01_k».proof.Defs
public import proofs.«01_k».proof.Proof.ProjRun
public import proofs.«01_k».proof.Proof.ProjChain
public import proofs.«01_k».proof.Proof.ProjRef

@[expose] public section

set_option maxRecDepth 16384

noncomputable section

namespace Cert.Mix

open Idealize.ShloMosaic Idealize.ShloMosaic.TcCoe Idealize.SL.Sem Cert.ProjIdeal Cert.ProjIdeal.Gen Cert.Mlp

/-- The kernel and the reference, from the same arguments, end with the same eight arrays. -/
theorem agree : Cert.algebraic_ProjIdeal_ProjReferenceIdeal := by
  intro m g m' g' _ hargs
  refine ⟨fun c => W4 m g c (Proc.devRef .tc main_v14), fun c => W8 m g c (Proc.devRef .tc main_v19), fun c => W10 m g c (Proc.devRef .tc main_v22), fun c => W12 m g c (Proc.devRef .tc main_v24), fun c => W23 m g c (Proc.devRef .tc main_v45_0), fun c => W23 m g c (Proc.devRef .tc main_v45_1), fun c => W24 m g c (Proc.devRef .tc main_v51), fun c => W15 m g c (Proc.devRef .tc main_v27),
    results m g, ?_⟩
  refine (θ_run _ _ _).mono (fun r h c => ?_) (Cert.ProjReferenceIdeal.Value.run m' g')
  obtain ⟨r0, r1, r2, r3, r4, r5, r6, r7, ra⟩ := h c
  obtain ⟨a0, a1, a2, a3, a4, a5, a6, a7, a8⟩ := hargs c
  obtain ⟨_, hh⟩ := some_mat (M := 4096) (N := 1024) (m ((c.tc : Thread nD τ).loc main_arg0))
  obtain ⟨_, hd⟩ := some_mat (M := 4096) (N := 1024) (m ((c.tc : Thread nD τ).loc main_arg1))
  obtain ⟨_, hg⟩ := some_row (N := 1024) (m ((c.tc : Thread nD τ).loc main_arg2))
  obtain ⟨_, hW⟩ := some_mat (M := 1024) (N := 2496) (m ((c.tc : Thread nD τ).loc main_arg3))
  obtain ⟨_, hO⟩ := some_mat (M := 1024) (N := 1024) (m ((c.tc : Thread nD τ).loc main_arg4))
  obtain ⟨_, hp⟩ := some_mat (M := 4096) (N := 512) (m ((c.tc : Thread nD τ).loc main_arg5))
  obtain ⟨_, hq⟩ := some_mat (M := 4096) (N := 512) (m ((c.tc : Thread nD τ).loc main_arg6))
  obtain ⟨_, hr⟩ := some_mat (M := 4096) (N := 2048) (m ((c.tc : Thread nD τ).loc main_arg7))
  obtain ⟨_, hs⟩ := some_mat (M := 4096) (N := 512) (m ((c.tc : Thread nD τ).loc main_arg8))
  have i0 := Mat.cast (M := 4096) (N := 1024) a0 hh
  have i1 := Mat.cast (M := 4096) (N := 1024) a1 hd
  have i2 := Row.cast (N := 1024) a2 hg
  have i3 := Mat.cast (M := 1024) (N := 2496) a3 hW
  have i4 := Mat.cast (M := 1024) (N := 1024) a4 hO
  have i5 := Mat.cast (M := 4096) (N := 512) a5 hp
  have i6 := Mat.cast (M := 4096) (N := 512) a6 hq
  have i7 := Mat.cast (M := 4096) (N := 2048) a7 hr
  have i8 := Mat.cast (M := 4096) (N := 512) a8 hs
  exact ⟨r0.trans (Mat.ext (Ref.projR_at _ _ _ i0 i2 i3) (at_v14 m g c hh hg hW)),
    r1.trans (Mat.ext (Ref.out_at _ _ _ _ i0 i4 i5 i6) (at_v19 m g c hh hO hp hq)),
    r2.trans (Mat.ext (Ref.dPR_at _ _ i1 i4) (at_v22 m g c hd hO)),
    r3.trans (Mat.ext (Ref.dQR_at _ _ i1 i4) (at_v24 m g c hd hO)),
    r4.trans (Mat.ext (Ref.dh_at _ _ _ _ _ _ i0 i1 i2 i3 i7 i8) (at_v45_0 m g c hh hd hg hW hr hs)),
    r5.trans (Mat.ext (Ref.dgain_at _ _ _ _ i0 i3 i7 i8) (at_v45_1 m g c hh hW hr hs)),
    r6.trans (Mat.ext (Ref.dWR_at _ _ _ _ i0 i2 i7 i8) (at_v51 m g c hh hg hr hs)),
    r7.trans (Mat.ext (Ref.dOR_at _ _ _ i1 i5 i6) (at_v27 m g c hd hp hq)), ra⟩

end Cert.Mix
-- ==== Proof.GluRun.lean ====
/- What the gated unit's calls leave: the run of the whole program, with the result arrays after it. -/
module

public import proofs.«01_k».proof.Proof.Gen.GluIdeal.Frame
public import Idealize.ShloMosaic.Lib.Pipeline.ValueKit

@[expose] public section

set_option maxRecDepth 16384

noncomputable section

namespace Cert.Tail

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GluIdeal Cert.GluIdeal.Gen

variable (m : (l : Loc nD τ sig) → Buf (Elt Ideal) l) (ρ : Dev nD → PrngReg)

set_option backward.isDefEq.respectTransparency.types false in
/-- Every run ends with the buffers at the contents folded through the calls and the host operations between them. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W13 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ => h)

/-- The result arrays after the run, and the arguments as they were. -/
theorem results : θ_run defs (onTc (τ := τ) (main (F := Ideal))) ⟨m, fun _ => 0, ρ⟩ (fun r => ∀ c : Dev nD,
      r.2.mem ((c.tc : Thread nD τ).loc main_v8) = W5 m ρ c (Proc.devRef .tc main_v8)
      ∧ r.2.mem ((c.tc : Thread nD τ).loc main_v16_0) = W12 m ρ c (Proc.devRef .tc main_v16_0)
      ∧ r.2.mem ((c.tc : Thread nD τ).loc main_v16_1) = W12 m ρ c (Proc.devRef .tc main_v16_1)
      ∧ r.2.mem ((c.tc : Thread nD τ).loc main_v16_2) = W12 m ρ c (Proc.devRef .tc main_v16_2)
      ∧ r.2.mem ((c.tc : Thread nD τ).loc main_v17) = W13 m ρ c (Proc.devRef .tc main_v17)
      ∧ r.2.mem ((c.tc : Thread nD τ).loc main_v18) = W13 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v8 (by decide))).trans ((W13_of m ρ c main_v8 (by decide)).trans ((W12_of m ρ c main_v8 (by decide)).trans ((W11_of m ρ c main_v8 (by decide)).trans ((W10_of m ρ c main_v8 (by decide)).trans ((W9_of m ρ c main_v8 (by decide)).trans ((W8_of m ρ c main_v8 (by decide)).trans ((W7_of m ρ c main_v8 (by decide)).trans (W6_of m ρ c main_v8 (by decide))))))))),
     (h c _ (mem_uc main_v16_0 (by decide))).trans (W13_of m ρ c main_v16_0 (by decide)),
     (h c _ (mem_uc main_v16_1 (by decide))).trans (W13_of m ρ c main_v16_1 (by decide)),
     (h c _ (mem_uc main_v16_2 (by decide))).trans (W13_of m ρ c main_v16_2 (by decide)),
     h c _ (mem_uc main_v17 (by decide)),
     h c _ (mem_uc main_v18 (by decide)),
     (h c _ (mem_uc main_arg0 (by decide))).trans (W13_args m ρ c main_arg0 (by decide)),
     (h c _ (mem_uc main_arg1 (by decide))).trans (W13_args m ρ c main_arg1 (by decide)),
     (h c _ (mem_uc main_arg2 (by decide))).trans (W13_args m ρ c main_arg2 (by decide)),
     (h c _ (mem_uc main_arg3 (by decide))).trans (W13_args m ρ c main_arg3 (by decide)),
     (h c _ (mem_uc main_arg4 (by decide))).trans (W13_args m ρ c main_arg4 (by decide)),
     (h c _ (mem_uc main_arg5 (by decide))).trans (W13_args m ρ c main_arg5 (by decide)),
     (h c _ (mem_uc main_arg6 (by decide))).trans (W13_args m ρ c main_arg6 (by decide))⟩) (run m ρ)

end Cert.Tail
-- ==== Proof.GluSpec.lean ====
/- The gated unit after the recurrence and its gradients, as functions of the seven arguments. -/
module

public import proofs.«01_k».proof.Proof.FfnMat

@[expose] public section

noncomputable section

namespace Cert.Tail

open Idealize.ShloMosaic Cert.Mlp
open scoped BigOperators

/-- The recurrence's rows with the scaled inputs added. -/
def skip (y u : ℕ → ℕ → EReal) (s : ℕ → EReal) (a b : ℕ) : EReal := y a b + s b * u a b

/-- The hyperbolic tangent inside the activation. -/
def th (x : EReal) : EReal :=
  Ideal.tanh (Ideal.ofBits FTy.f32 0x3F4C422A#32 * (x + Ideal.ofBits FTy.f32 0x3D372713#32 * (x * (x * x))))

/-- The activation. -/
def gelu (z : ℕ → ℕ → EReal) (a b : ℕ) : EReal :=
  z a b * (Ideal.ofBits FTy.f32 0x3F000000#32 * (1 + th (z a b)))

/-- What the tangent's argument receives, and the activation's gradient. -/
def dTh (x d : EReal) : EReal :=
  Ideal.ofBits FTy.f32 0x3F4C422A#32 * (Ideal.ofBits FTy.f32 0x3F000000#32 * (x * d) * ((1 + th x) * (1 - th x)))
def dGelu (z d : ℕ → ℕ → EReal) (a b : ℕ) : EReal :=
  d a b * (Ideal.ofBits FTy.f32 0x3F000000#32 * (1 + th (z a b))) + dTh (z a b) (d a b)
    + Ideal.ofBits FTy.f32 0x3D372713#32 * dTh (z a b) (d a b) * (Ideal.ofBits FTy.f32 0x40400000#32 * (z a b * z a b))

/-- The gradients of the gate's two operands. -/
def dLeft (q d : ℕ → ℕ → EReal) (a b : ℕ) : EReal := d a b * Ideal.logistic (q a b)
def dRight (p q d : ℕ → ℕ → EReal) (a b : ℕ) : EReal :=
  p a b * d a b * (Ideal.logistic (q a b) * (1 - Ideal.logistic (q a b)))

/-- The gradient of the scales, from `n` rows. -/
def dSkip (n : ℕ) (f u : ℕ → ℕ → EReal) (b : ℕ) : EReal := ∑ a ∈ Finset.range n, f a b * u a b

theorem dSkip_add (n m : ℕ) (f u : ℕ → ℕ → EReal) (b : ℕ) :
    dSkip (n + m) f u b = dSkip n f u b + dSkip m (fun r => f (n + r)) (fun r => u (n + r)) b := by
  unfold dSkip; exact Finset.sum_range_add _ n m

section
variable (h d u y : ℕ → ℕ → EReal) (s : ℕ → EReal) (A B : ℕ → ℕ → EReal)

/-- The activated rows, the two products, and the unit's result. -/
def act : ℕ → ℕ → EReal := gelu (skip y u s)
def left : ℕ → ℕ → EReal := mul 1024 (act u y s) A
def right : ℕ → ℕ → EReal := mul 1024 (act u y s) B
def outF (a b : ℕ) : EReal := h a b + left u y s A a b * Ideal.logistic (right u y s B a b)
/-- The gradients of the two products. -/
def dA : ℕ → ℕ → EReal := dLeft (right u y s B) d
def dB : ℕ → ℕ → EReal := dRight (left u y s A) (right u y s B) d
/-- The gradient at the activated rows, and before the activation. -/
def dAct (a b : ℕ) : EReal := mulT 1024 (dB d u y s A B) B a b + mulT 1024 (dA d u y s B) A a b
def dPre : ℕ → ℕ → EReal := dGelu (skip y u s) (dAct d u y s A B)
/-- The gradients of the recurrence's inputs past it, of the scales and of the two weights. -/
def dIn (a b : ℕ) : EReal := s b * dPre d u y s A B a b
def dScale : ℕ → EReal := dSkip 4096 (dPre d u y s A B) u
def dWa : ℕ → ℕ → EReal := Tmul 4096 (act u y s) (dA d u y s B)
def dWb : ℕ → ℕ → EReal := Tmul 4096 (act u y s) (dB d u y s A B)
end

end Cert.Tail
-- ==== Proof.GluHost.lean ====
/- The host operations between the calls of the gated unit, read at an index. -/
module

public import proofs.«01_k».proof.Proof.Gen.GluIdeal.Launch
public import proofs.«01_k».proof.Proof.GluSpec
public import Idealize.ShloMosaic.Lib.StableHlo.ReadAt

@[expose] public section

set_option maxRecDepth 16384

noncomputable section

namespace Cert.Tail

open Idealize.ShloMosaic Idealize.ShloMosaic.TcCoe Idealize.SL.Sem Cert.GluIdeal Cert.GluIdeal.Gen Cert.Mlp

variable (X : Valuation τ sig (Elt Ideal))

theorem host0_v0 {g : ℕ → EReal}
    (h0 : Row (N := 1024) (X (Proc.devRef .tc main_arg4)) (g)) :
    Mat (M := 1) (N := 1024) (StableHlo.after hostOps0 X (Proc.devRef .tc main_v0)) (fun _ => g) := by
  intro a b
  after_reads_at
  simp only [h0.e]

theorem host0_v1 {u : ℕ → ℕ → EReal}
    (h0 : Mat (M := 1024) (N := 1024) (X (Proc.devRef .tc main_arg5)) (u)) :
    Mat3 (L := 1) (M := 1024) (N := 1024) (StableHlo.after hostOps0 X (Proc.devRef .tc main_v1)) (fun _ => u) := by
  intro l a b
  after_reads_at
  simp only [h0.e]

theorem host0_v2 {u : ℕ → ℕ → EReal}
    (h0 : Mat (M := 1024) (N := 1024) (X (Proc.devRef .tc main_arg6)) (u)) :
    Mat3 (L := 1) (M := 1024) (N := 1024) (StableHlo.after hostOps0 X (Proc.devRef .tc main_v2)) (fun _ => u) := by
  intro l a b
  after_reads_at
  simp only [h0.e]

theorem host1_v6 {u : ℕ → ℕ → EReal} {v : ℕ → ℕ → EReal}
    (h0 : Mat3 (L := 1) (M := 1024) (N := 1024) (X (Proc.devRef .tc main_v1)) (fun _ => u)) (h1 : Mat3 (L := 1) (M := 1024) (N := 1024) (X (Proc.devRef .tc main_v2)) (fun _ => v)) :
    Mat (M := 1024) (N := 2048) (StableHlo.after hostOps1 X (Proc.devRef .tc main_v6)) (cat 1024 u v) := by
  intro a b
  after_reads_at
  simp [h0.e, h1.e, cat]

theorem host4_v10 {u : ℕ → ℕ → EReal}
    (h0 : Mat3 (L := 1) (M := 1024) (N := 1024) (X (Proc.devRef .tc main_v1)) (fun _ => u)) :
    Mat (M := 1024) (N := 1024) (StableHlo.after hostOps4 X (Proc.devRef .tc main_v10)) (u) := by
  intro a b
  after_reads_at
  simp only [h0.e]

theorem host4_v11 {u : ℕ → ℕ → EReal}
    (h0 : Mat3 (L := 1) (M := 1024) (N := 1024) (X (Proc.devRef .tc main_v2)) (fun _ => u)) :
    Mat (M := 1024) (N := 1024) (StableHlo.after hostOps4 X (Proc.devRef .tc main_v11)) (u) := by
  intro a b
  after_reads_at
  simp only [h0.e]

theorem host9_v17 {u : ℕ → ℕ → EReal}
    (h0 : Mat (M := 1024) (N := 1024) (X (Proc.devRef .tc main_v14)) (u)) :
    Mat3 (L := 4) (M := 256) (N := 1024) (StableHlo.after hostOps9 X (Proc.devRef .tc main_v17)) (fun l a b => u (l * 256 + a) b) := by
  intro l a b
  after_reads_at
  simp only [h0.e]

theorem host9_v18 {u : ℕ → ℕ → EReal}
    (h0 : Mat (M := 1024) (N := 1024) (X (Proc.devRef .tc main_v15)) (u)) :
    Mat3 (L := 4) (M := 256) (N := 1024) (StableHlo.after hostOps9 X (Proc.devRef .tc main_v18)) (fun l a b => u (l * 256 + a) b) := by
  intro l a b
  after_reads_at
  simp only [h0.e]

end Cert.Tail
-- ==== Proof.GluBlk.lean ====
/- Where the blocks of the gated unit's calls lie, and what they hold of the arrays. -/
module

public import proofs.«01_k».proof.Proof.Gen.GluIdeal.Frame
public import Idealize.ShloMosaic.Lib.Pipeline.ValueKit
public import proofs.«01_k».proof.Proof.FfnMat

@[expose] public section

set_option maxRecDepth 16384

noncomputable section

namespace Cert.Tail

open Idealize.ShloMosaic Idealize.ShloMosaic.TcCoe Idealize.SL.Sem Cert.GluIdeal Cert.GluIdeal.Gen Cert.Mlp

/-! ## The index maps -/

theorem at0_0 : ∀ t : Fin grid0.N, win0_0.index t = ![t.val, 0] := by decide +kernel
theorem at0_1 : ∀ t : Fin grid0.N, win0_1.index t = ![t.val, 0] := by decide +kernel
theorem at0_2 : ∀ t : Fin grid0.N, win0_2.index t = ![0, 0] := by decide +kernel
theorem at0_3 : ∀ t : Fin grid0.N, win0_3.index t = ![t.val, 0] := by decide +kernel
theorem at1_0 : ∀ t : Fin grid1.N, win1_0.index t = ![t.val, 0] := by decide +kernel
theorem at1_1 : ∀ t : Fin grid1.N, win1_1.index t = ![0, 0] := by decide +kernel
theorem at1_2 : ∀ t : Fin grid1.N, win1_2.index t = ![t.val, 0] := by decide +kernel
theorem at2_0 : ∀ t : Fin grid2.N, win2_0.index t = ![t.val, 0] := by decide +kernel
theorem at2_1 : ∀ t : Fin grid2.N, win2_1.index t = ![t.val, 1] := by decide +kernel
theorem at2_2 : ∀ t : Fin grid2.N, win2_2.index t = ![t.val, 0] := by decide +kernel
theorem at2_3 : ∀ t : Fin grid2.N, win2_3.index t = ![t.val, 0] := by decide +kernel
theorem at3_0 : ∀ t : Fin grid3.N, win3_0.index t = ![t.val, 0] := by decide +kernel
theorem at3_1 : ∀ t : Fin grid3.N, win3_1.index t = ![t.val, 1] := by decide +kernel
theorem at3_2 : ∀ t : Fin grid3.N, win3_2.index t = ![t.val, 0] := by decide +kernel
theorem at3_3 : ∀ t : Fin grid3.N, win3_3.index t = ![t.val, 0] := by decide +kernel
theorem at3_4 : ∀ t : Fin grid3.N, win3_4.index t = ![t.val, 0] := by decide +kernel
theorem at4_0 : ∀ t : Fin grid4.N, win4_0.index t = ![t.val, 0] := by decide +kernel
theorem at4_1 : ∀ t : Fin grid4.N, win4_1.index t = ![0, 0] := by decide +kernel
theorem at4_2 : ∀ t : Fin grid4.N, win4_2.index t = ![t.val, 0] := by decide +kernel
theorem at5_0 : ∀ t : Fin grid5.N, win5_0.index t = ![t.val, 0] := by decide +kernel
theorem at5_1 : ∀ t : Fin grid5.N, win5_1.index t = ![0, 0] := by decide +kernel
theorem at5_2 : ∀ t : Fin grid5.N, win5_2.index t = ![t.val, 0] := by decide +kernel
theorem at5_3 : ∀ t : Fin grid5.N, win5_3.index t = ![t.val, 0] := by decide +kernel
theorem at6_0 : ∀ t : Fin grid6.N, win6_0.index t = ![t.val, 0] := by decide +kernel
theorem at6_1 : ∀ t : Fin grid6.N, win6_1.index t = ![t.val, 0] := by decide +kernel
theorem at6_2 : ∀ t : Fin grid6.N, win6_2.index t = ![0, 0] := by decide +kernel
theorem at7_0 : ∀ t : Fin grid7.N, win7_0.index t = ![t.val, 0] := by decide +kernel
theorem at7_1 : ∀ t : Fin grid7.N, win7_1.index t = ![t.val, 0] := by decide +kernel
theorem at7_2 : ∀ t : Fin grid7.N, win7_2.index t = ![0, 0] := by decide +kernel
theorem at8_0 : ∀ t : Fin grid8.N, win8_0.index t = ![t.val, 0] := by decide +kernel
theorem at8_1 : ∀ t : Fin grid8.N, win8_1.index t = ![t.val, 0] := by decide +kernel
theorem at8_2 : ∀ t : Fin grid8.N, win8_2.index t = ![0, 0] := by decide +kernel
theorem at8_3 : ∀ t : Fin grid8.N, win8_3.index t = ![t.val, 0] := by decide +kernel
theorem at8_4 : ∀ t : Fin grid8.N, win8_4.index t = ![t.val, 0] := by decide +kernel
theorem at8_5 : ∀ t : Fin grid8.N, win8_5.index t = ![t.val, 0] := by decide +kernel
theorem at8_6 : ∀ t : Fin grid8.N, win8_6.index t = ![0, 0] := by decide +kernel

variable (V : (c : Dev nD) → (b : Ref sig .tc) → Buf (Elt Ideal) ((c : Thread nD τ).loc b)) (c : Dev nD)

/-! ## The blocks of the operands -/

section
variable {f : ℕ → ℕ → EReal}

theorem blk0_0 (h : Mat (M := 4096) (N := 1024) (V c main_arg3) f) (t : Fin grid0.N) :
    Mat (M := 256) (N := 1024) (iblk0 V c 0 t) (fun a b => f (t.val * 256 + a) b) := by
  intro a b
  blk_simp [iblk0]
  refine (h.at _).trans ?_
  blk_simp [at0_0 t]

theorem blk0_1 (h : Mat (M := 4096) (N := 1024) (V c main_arg2) f) (t : Fin grid0.N) :
    Mat (M := 256) (N := 1024) (iblk0 V c 1 t) (fun a b => f (t.val * 256 + a) b) := by
  intro a b
  blk_simp [iblk0]
  refine (h.at _).trans ?_
  blk_simp [at0_1 t]

theorem blk0_2 (h : Mat (M := 1) (N := 1024) (V c main_v0) f) (t : Fin grid0.N) :
    Mat (M := 1) (N := 1024) (iblk0 V c 2 t) f := by
  intro a b
  blk_simp [iblk0]
  refine (h.at _).trans ?_
  blk_simp [at0_2 t]

theorem blk1_0 (h : Mat (M := 4096) (N := 1024) (V c main_v3) f) (t : Fin grid1.N) :
    Mat (M := 512) (N := 1024) (iblk1 V c 0 t) (fun a b => f (t.val * 512 + a) b) := by
  intro a b
  blk_simp [iblk1]
  refine (h.at _).trans ?_
  blk_simp [at1_0 t]

theorem blk1_1 (h : Mat (M := 1024) (N := 2048) (V c main_v6) f) (t : Fin grid1.N) :
    Mat (M := 1024) (N := 2048) (iblk1 V c 1 t) f := by
  intro a b
  blk_simp [iblk1]
  refine (h.at _).trans ?_
  blk_simp [at1_1 t]

theorem blk2_0 (h : Mat (M := 4096) (N := 2048) (V c main_v7) f) (t : Fin grid2.N) :
    Mat (M := 256) (N := 1024) (iblk2 V c 0 t) (fun a b => f (t.val * 256 + a) b) := by
  intro a b
  blk_simp [iblk2]
  refine (h.at _).trans ?_
  blk_simp [at2_0 t]

theorem blk2_1 (h : Mat (M := 4096) (N := 2048) (V c main_v7) f) (t : Fin grid2.N) :
    Mat (M := 256) (N := 1024) (iblk2 V c 1 t) (fun a b => f (t.val * 256 + a) (1024 + b)) := by
  intro a b
  blk_simp [iblk2]
  refine (h.at _).trans ?_
  blk_simp [at2_1 t]

theorem blk2_2 (h : Mat (M := 4096) (N := 1024) (V c main_arg0) f) (t : Fin grid2.N) :
    Mat (M := 256) (N := 1024) (iblk2 V c 2 t) (fun a b => f (t.val * 256 + a) b) := by
  intro a b
  blk_simp [iblk2]
  refine (h.at _).trans ?_
  blk_simp [at2_2 t]

theorem blk3_0 (h : Mat (M := 4096) (N := 2048) (V c main_v7) f) (t : Fin grid3.N) :
    Mat (M := 256) (N := 1024) (iblk3 V c 0 t) (fun a b => f (t.val * 256 + a) b) := by
  intro a b
  blk_simp [iblk3]
  refine (h.at _).trans ?_
  blk_simp [at3_0 t]

theorem blk3_1 (h : Mat (M := 4096) (N := 2048) (V c main_v7) f) (t : Fin grid3.N) :
    Mat (M := 256) (N := 1024) (iblk3 V c 1 t) (fun a b => f (t.val * 256 + a) (1024 + b)) := by
  intro a b
  blk_simp [iblk3]
  refine (h.at _).trans ?_
  blk_simp [at3_1 t]

theorem blk3_2 (h : Mat (M := 4096) (N := 1024) (V c main_arg1) f) (t : Fin grid3.N) :
    Mat (M := 256) (N := 1024) (iblk3 V c 2 t) (fun a b => f (t.val * 256 + a) b) := by
  intro a b
  blk_simp [iblk3]
  refine (h.at _).trans ?_
  blk_simp [at3_2 t]

theorem blk4_0 (h : Mat (M := 4096) (N := 1024) (V c main_v9_0) f) (t : Fin grid4.N) :
    Mat (M := 512) (N := 1024) (iblk4 V c 0 t) (fun a b => f (t.val * 512 + a) b) := by
  intro a b
  blk_simp [iblk4]
  refine (h.at _).trans ?_
  blk_simp [at4_0 t]

theorem blk4_1 (h : Mat (M := 1024) (N := 1024) (V c main_v10) f) (t : Fin grid4.N) :
    Mat (M := 1024) (N := 1024) (iblk4 V c 1 t) f := by
  intro a b
  blk_simp [iblk4]
  refine (h.at _).trans ?_
  blk_simp [at4_1 t]

theorem blk5_0 (h : Mat (M := 4096) (N := 1024) (V c main_v9_1) f) (t : Fin grid5.N) :
    Mat (M := 512) (N := 1024) (iblk5 V c 0 t) (fun a b => f (t.val * 512 + a) b) := by
  intro a b
  blk_simp [iblk5]
  refine (h.at _).trans ?_
  blk_simp [at5_0 t]

theorem blk5_1 (h : Mat (M := 1024) (N := 1024) (V c main_v11) f) (t : Fin grid5.N) :
    Mat (M := 1024) (N := 1024) (iblk5 V c 1 t) f := by
  intro a b
  blk_simp [iblk5]
  refine (h.at _).trans ?_
  blk_simp [at5_1 t]

theorem blk5_2 (h : Mat (M := 4096) (N := 1024) (V c main_v12) f) (t : Fin grid5.N) :
    Mat (M := 512) (N := 1024) (iblk5 V c 2 t) (fun a b => f (t.val * 512 + a) b) := by
  intro a b
  blk_simp [iblk5]
  refine (h.at _).trans ?_
  blk_simp [at5_2 t]

theorem blk6_0 (h : Mat (M := 4096) (N := 1024) (V c main_v3) f) (t : Fin grid6.N) :
    Mat (M := 1024) (N := 1024) (iblk6 V c 0 t) (fun a b => f (t.val * 1024 + a) b) := by
  intro a b
  blk_simp [iblk6]
  refine (h.at _).trans ?_
  blk_simp [at6_0 t]

theorem blk6_1 (h : Mat (M := 4096) (N := 1024) (V c main_v9_0) f) (t : Fin grid6.N) :
    Mat (M := 1024) (N := 1024) (iblk6 V c 1 t) (fun a b => f (t.val * 1024 + a) b) := by
  intro a b
  blk_simp [iblk6]
  refine (h.at _).trans ?_
  blk_simp [at6_1 t]

theorem blk7_0 (h : Mat (M := 4096) (N := 1024) (V c main_v3) f) (t : Fin grid7.N) :
    Mat (M := 1024) (N := 1024) (iblk7 V c 0 t) (fun a b => f (t.val * 1024 + a) b) := by
  intro a b
  blk_simp [iblk7]
  refine (h.at _).trans ?_
  blk_simp [at7_0 t]

theorem blk7_1 (h : Mat (M := 4096) (N := 1024) (V c main_v9_1) f) (t : Fin grid7.N) :
    Mat (M := 1024) (N := 1024) (iblk7 V c 1 t) (fun a b => f (t.val * 1024 + a) b) := by
  intro a b
  blk_simp [iblk7]
  refine (h.at _).trans ?_
  blk_simp [at7_1 t]

theorem blk8_0 (h : Mat (M := 4096) (N := 1024) (V c main_arg3) f) (t : Fin grid8.N) :
    Mat (M := 256) (N := 1024) (iblk8 V c 0 t) (fun a b => f (t.val * 256 + a) b) := by
  intro a b
  blk_simp [iblk8]
  refine (h.at _).trans ?_
  blk_simp [at8_0 t]

theorem blk8_1 (h : Mat (M := 4096) (N := 1024) (V c main_arg2) f) (t : Fin grid8.N) :
    Mat (M := 256) (N := 1024) (iblk8 V c 1 t) (fun a b => f (t.val * 256 + a) b) := by
  intro a b
  blk_simp [iblk8]
  refine (h.at _).trans ?_
  blk_simp [at8_1 t]

theorem blk8_2 (h : Mat (M := 1) (N := 1024) (V c main_v0) f) (t : Fin grid8.N) :
    Mat (M := 1) (N := 1024) (iblk8 V c 2 t) f := by
  intro a b
  blk_simp [iblk8]
  refine (h.at _).trans ?_
  blk_simp [at8_2 t]

theorem blk8_3 (h : Mat (M := 4096) (N := 1024) (V c main_v13) f) (t : Fin grid8.N) :
    Mat (M := 256) (N := 1024) (iblk8 V c 3 t) (fun a b => f (t.val * 256 + a) b) := by
  intro a b
  blk_simp [iblk8]
  refine (h.at _).trans ?_
  blk_simp [at8_3 t]

end

end Cert.Tail
-- ==== Proof.GluPay.lean ====
/- The calls of the gated unit after the recurrence: what one step computes, at an index. -/
module

public import proofs.«01_k».proof.Proof.Gen.GluIdeal.Skeleton
public import Idealize.ShloMosaic.Lib.Pointwise
public import Idealize.ShloMosaic.Lib.KernelVsHost
public import Idealize.ShloMosaic.Lib.Pipeline.ValueKit
public import proofs.«01_k».proof.Proof.GluSpec

@[expose] public section

set_option maxRecDepth 16384

noncomputable section

namespace Cert.Tail

open Idealize.ShloMosaic Idealize.SL.Sem Cert.GluIdeal Cert.GluIdeal.Gen Cert.Mlp
open scoped BigOperators

section
variable {f g h : ℕ → ℕ → EReal}

/-! ## The activation and the gate -/

theorem k0_pay1_mat {v0 v1 : Vec Ideal S256x1024 .f32} {v2 : Vec Ideal S1x1024 .f32} {s : ℕ → EReal} (h0 : Mat (M := 256) (N := 1024) v0 f)
    (h1 : Mat (M := 256) (N := 1024) v1 g) (h2 : Mat (M := 1) (N := 1024) v2 fun _ => s) :
    Mat (M := 256) (N := 1024) (k0_pay1 v0 v1 v2) (gelu (skip f g s)) := fun a b => by
  pointwise [k0_pay1]
  simp only [h0.e, h1.e, h2.e]
  rfl

theorem k2_pay1_mat {v0 v1 v2 : Vec Ideal S256x1024 .f32} (h0 : Mat (M := 256) (N := 1024) v0 f) (h1 : Mat (M := 256) (N := 1024) v1 g)
    (h2 : Mat (M := 256) (N := 1024) v2 h) : Mat (M := 256) (N := 1024) (k2_pay1 v0 v1 v2) (fun a b => h a b + f a b * Ideal.logistic (g a b)) := fun a b => by
  pointwise [k2_pay1]
  simp only [h0.e, h1.e, h2.e]

theorem k3_pay2_mat {v1 v2 : Vec Ideal S256x1024 .f32} (h1 : Mat (M := 256) (N := 1024) v1 g) (h2 : Mat (M := 256) (N := 1024) v2 h) :
    Mat (M := 256) (N := 1024) (k3_pay2 v1 v2) (dLeft g h) := fun a b => by
  pointwise [k3_pay2, k3_pay1]
  simp only [h1.e, h2.e]
  rfl

theorem k3_pay3_mat {v0 v1 v2 : Vec Ideal S256x1024 .f32} (h0 : Mat (M := 256) (N := 1024) v0 f) (h1 : Mat (M := 256) (N := 1024) v1 g)
    (h2 : Mat (M := 256) (N := 1024) v2 h) : Mat (M := 256) (N := 1024) (k3_pay3 v0 v1 v2) (dRight f g h) := fun a b => by
  pointwise [k3_pay3, k3_pay1]
  simp only [h0.e, h1.e, h2.e]
  rfl

/-! ## The products -/

theorem k1_pay1_mat {v0 : Vec Ideal S512x1024 .bf16} {v1 : Vec Ideal S1024x2048 .bf16} (h0 : Mat (M := 512) (N := 1024) v0 f)
    (h1 : Mat (M := 1024) (N := 2048) v1 g) :
    Mat (M := 512) (N := 2048) (k1_pay1 v0 v1) (mul 1024 f g) := fun a b => by
  pointwise [k1_pay1]
  simp only [h0.e, h1.e]
  exact (Finset.sum_range fun k => f a k * g k b).symm

theorem k4_pay1_mat {v0 : Vec Ideal S512x1024 .f32} {v1 : Vec Ideal S1024x1024 .bf16} (h0 : Mat (M := 512) (N := 1024) v0 f)
    (h1 : Mat (M := 1024) (N := 1024) v1 g) :
    Mat (M := 512) (N := 1024) (k4_pay1 v0 v1) (mulT 1024 f g) := fun a b => by
  pointwise [k4_pay1]
  simp only [h0.e, h1.e]
  exact (Finset.sum_range fun k => f a k * g b k).symm

theorem k5_pay1_mat {v0 : Vec Ideal S512x1024 .f32} {v1 : Vec Ideal S1024x1024 .bf16} {v2 : Vec Ideal S512x1024 .f32} (h0 : Mat (M := 512) (N := 1024) v0 f)
    (h1 : Mat (M := 1024) (N := 1024) v1 g) (h2 : Mat (M := 512) (N := 1024) v2 h) :
    Mat (M := 512) (N := 1024) (k5_pay1 v0 v1 v2) (fun a b => mulT 1024 f g a b + h a b) := fun a b => by
  pointwise [k5_pay1]
  simp only [h0.e, h1.e, h2.e]
  exact congrArg (· + h a b) (Finset.sum_range fun k => f a k * g b k).symm

theorem k6_pay1_mat : Mat (M := 1024) (N := 1024) (k6_pay1 (F := Ideal)) fun _ _ => 0 := fun a b => by
  pointwise [k6_pay1]

theorem k6_pay2_mat {v0 : Vec Ideal S1024x1024 .bf16} {v1 : Vec Ideal S1024x1024 .f32} {v2 : Vec Ideal S1024x1024 .f32} (h0 : Mat (M := 1024) (N := 1024) v0 f)
    (h1 : Mat (M := 1024) (N := 1024) v1 g) (h2 : Mat (M := 1024) (N := 1024) v2 h) :
    Mat (M := 1024) (N := 1024) (k6_pay2 v0 v1 v2) (fun a b => h a b + Tmul 1024 f g a b) := fun a b => by
  pointwise [k6_pay2]
  simp only [h0.e, h1.e, h2.e]
  exact congrArg (h a b + ·) (Finset.sum_range fun k => f k a * g k b).symm

theorem k7_pay1_mat : Mat (M := 1024) (N := 1024) (k7_pay1 (F := Ideal)) fun _ _ => 0 := fun a b => by
  pointwise [k7_pay1]

theorem k7_pay2_mat {v0 : Vec Ideal S1024x1024 .bf16} {v1 : Vec Ideal S1024x1024 .f32} {v2 : Vec Ideal S1024x1024 .f32} (h0 : Mat (M := 1024) (N := 1024) v0 f)
    (h1 : Mat (M := 1024) (N := 1024) v1 g) (h2 : Mat (M := 1024) (N := 1024) v2 h) :
    Mat (M := 1024) (N := 1024) (k7_pay2 v0 v1 v2) (fun a b => h a b + Tmul 1024 f g a b) := fun a b => by
  pointwise [k7_pay2]
  simp only [h0.e, h1.e, h2.e]
  exact congrArg (h a b + ·) (Finset.sum_range fun k => f k a * g k b).symm

end

/-! ## The activation's gradient -/

section
variable {f g h : ℕ → ℕ → EReal} {s : ℕ → EReal} {v0 v1 v27 : Vec Ideal S256x1024 .f32} {v2 : Vec Ideal S1x1024 .f32}
  (h0 : Mat (M := 256) (N := 1024) v0 f) (h1 : Mat (M := 256) (N := 1024) v1 g)
  (h2 : Mat (M := 1) (N := 1024) v2 fun _ => s) (h27 : Mat (M := 256) (N := 1024) v27 h)

include h0 h1 h2 h27 in
theorem k8_pay5_mat : Mat (M := 256) (N := 1024) (k8_pay5 v0 v1 v2 v27) (dGelu (skip f g s) h) := fun a b => by
  pointwise [k8_pay5, k8_pay4]
  simp only [h0.e, h1.e, h2.e, h27.e]
  rfl

theorem k8_pay1_mat {v40 : FVec Ideal S256x1024 .f32} (h2 : Mat (M := 1) (N := 1024) v2 fun _ => s) (h40 : Mat (M := 256) (N := 1024) v40 f) :
    Mat (M := 256) (N := 1024) (k8_pay1 (k8_pay4 v2) v40) (fun a b => s b * f a b) := fun a b => by
  pointwise [k8_pay1, k8_pay4]
  simp only [h2.e, h40.e]

theorem k8_pay2_mat : Mat (M := 1) (N := 1024) (k8_pay2 (F := Ideal)) fun _ _ => 0 := fun a b => by
  obtain rfl : a = 0 := Subsingleton.elim _ _
  pointwise [k8_pay2]

theorem k8_pay3_mat {v40 : FVec Ideal S256x1024 .f32} {v51 : Vec Ideal S1x1024 .f32} {q : ℕ → EReal} (h1 : Mat (M := 256) (N := 1024) v1 g)
    (h40 : Mat (M := 256) (N := 1024) v40 f) (h51 : Mat (M := 1) (N := 1024) v51 fun _ => q) :
    Mat (M := 1) (N := 1024) (k8_pay3 v1 v40 v51) fun _ b => q b + dSkip 256 f g b := fun a b => by
  obtain rfl : a = 0 := Subsingleton.elim _ _
  pointwise [k8_pay3]
  simp only [h1.e, h40.e, h51.e]
  unfold dSkip
  rw [Finset.sum_range]

end

end Cert.Tail
-- ==== Proof.GluCall.lean ====
/- The arrays the calls leave whose points are independent. -/
module

public import proofs.«01_k».proof.Proof.GluBlk
public import proofs.«01_k».proof.Proof.GluPay

@[expose] public section

set_option maxRecDepth 16384

noncomputable section

namespace Cert.Tail

open Idealize.ShloMosaic Idealize.ShloMosaic.TcCoe Idealize.SL.Sem Cert.GluIdeal Cert.GluIdeal.Gen Cert.Mlp

variable (V : (c : Dev nD) → (b : Ref sig .tc) → Buf (Elt Ideal) ((c : Thread nD τ).loc b)) (c : Dev nD)
variable {f g h : ℕ → ℕ → EReal}

theorem call0 (h0 : Mat (M := 4096) (N := 1024) (V c main_arg3) f) (h1 : Mat (M := 4096) (N := 1024) (V c main_arg2) g) (h2 : Mat (M := 1) (N := 1024) (V c main_v0) fun _ => h 0) :
    Mat (M := 4096) (N := 1024) ((dat0 V c).arrAt 3 cfg0.N) (gelu (skip f g (h 0))) := by
  refine Mat.of ((dat0 V c).arrAt_eq_of_covers 3 _ (by decide +kernel) fun t hf y => ?_)
  blk_simp
  rw [after0_3]
  frame_out
  refine ((k0_pay1_mat (blk0_0 V c h0 t) (blk0_1 V c h1 t) (blk0_2 V c h2 t)).at y).trans ?_
  blk_simp [at0_3 t]
  rfl

theorem call1 (h0 : Mat (M := 4096) (N := 1024) (V c main_v3) f) (h1 : Mat (M := 1024) (N := 2048) (V c main_v6) g) :
    Mat (M := 4096) (N := 2048) ((dat1 V c).arrAt 2 cfg1.N) (mul 1024 f g) := by
  refine Mat.of ((dat1 V c).arrAt_eq_of_covers 2 _ (by decide +kernel) fun t hf y => ?_)
  blk_simp
  rw [after1_2]
  frame_out
  refine ((k1_pay1_mat (blk1_0 V c h0 t) (blk1_1 V c h1 t)).at y).trans ?_
  blk_simp [at1_2 t]
  rfl

theorem call2 (h0 : Mat (M := 4096) (N := 2048) (V c main_v7) f) (h1 : Mat (M := 4096) (N := 2048) (V c main_v7) g) (h2 : Mat (M := 4096) (N := 1024) (V c main_arg0) h) :
    Mat (M := 4096) (N := 1024) ((dat2 V c).arrAt 3 cfg2.N) (fun a b => h a b + f a b * Ideal.logistic (g a (1024 + b))) := by
  refine Mat.of ((dat2 V c).arrAt_eq_of_covers 3 _ (by decide +kernel) fun t hf y => ?_)
  blk_simp
  rw [after2_3]
  frame_out
  refine ((k2_pay1_mat (blk2_0 V c h0 t) (blk2_1 V c h1 t) (blk2_2 V c h2 t)).at y).trans ?_
  blk_simp [at2_3 t]

theorem call3_3 (h1 : Mat (M := 4096) (N := 2048) (V c main_v7) g) (h2 : Mat (M := 4096) (N := 1024) (V c main_arg1) h) :
    Mat (M := 4096) (N := 1024) ((dat3 V c).arrAt 3 cfg3.N) (dLeft (fun a b => g a (1024 + b)) h) := by
  refine Mat.of ((dat3 V c).arrAt_eq_of_covers 3 _ (by decide +kernel) fun t hf y => ?_)
  blk_simp
  rw [after3_3]
  frame_out
  refine ((k3_pay2_mat (blk3_1 V c h1 t) (blk3_2 V c h2 t)).at y).trans ?_
  blk_simp [at3_3 t]
  rfl

theorem call3_4 (h0 : Mat (M := 4096) (N := 2048) (V c main_v7) f) (h1 : Mat (M := 4096) (N := 2048) (V c main_v7) g) (h2 : Mat (M := 4096) (N := 1024) (V c main_arg1) h) :
    Mat (M := 4096) (N := 1024) ((dat3 V c).arrAt 4 cfg3.N) (dRight f (fun a b => g a (1024 + b)) h) := by
  refine Mat.of ((dat3 V c).arrAt_eq_of_covers 4 _ (by decide +kernel) fun t hf y => ?_)
  blk_simp
  rw [after3_4]
  frame_out
  refine ((k3_pay3_mat (blk3_0 V c h0 t) (blk3_1 V c h1 t) (blk3_2 V c h2 t)).at y).trans ?_
  blk_simp [at3_4 t]
  rfl

theorem call4 (h0 : Mat (M := 4096) (N := 1024) (V c main_v9_0) f) (h1 : Mat (M := 1024) (N := 1024) (V c main_v10) g) :
    Mat (M := 4096) (N := 1024) ((dat4 V c).arrAt 2 cfg4.N) (mulT 1024 f g) := by
  refine Mat.of ((dat4 V c).arrAt_eq_of_covers 2 _ (by decide +kernel) fun t hf y => ?_)
  blk_simp
  rw [after4_2]
  frame_out
  refine ((k4_pay1_mat (blk4_0 V c h0 t) (blk4_1 V c h1 t)).at y).trans ?_
  blk_simp [at4_2 t]
  rfl

theorem call5 (h0 : Mat (M := 4096) (N := 1024) (V c main_v9_1) f) (h1 : Mat (M := 1024) (N := 1024) (V c main_v11) g) (h2 : Mat (M := 4096) (N := 1024) (V c main_v12) h) :
    Mat (M := 4096) (N := 1024) ((dat5 V c).arrAt 3 cfg5.N) (fun a b => mulT 1024 f g a b + h a b) := by
  refine Mat.of ((dat5 V c).arrAt_eq_of_covers 3 _ (by decide +kernel) fun t hf y => ?_)
  blk_simp
  rw [after5_3]
  frame_out
  refine ((k5_pay1_mat (blk5_0 V c h0 t) (blk5_1 V c h1 t) (blk5_2 V c h2 t)).at y).trans ?_
  blk_simp [at5_3 t]
  rfl

end Cert.Tail
-- ==== Proof.GluAcc.lean ====
/- The arrays the calls leave that add up over their points. -/
module

public import proofs.«01_k».proof.Proof.GluBlk
public import proofs.«01_k».proof.Proof.GluPay

@[expose] public section

set_option maxRecDepth 16384

noncomputable section

namespace Cert.Tail

open Idealize.ShloMosaic Idealize.ShloMosaic.TcCoe Idealize.SL.Sem Cert.GluIdeal Cert.GluIdeal.Gen Cert.Mlp

variable (V : (c : Dev nD) → (b : Ref sig .tc) → Buf (Elt Ideal) ((c : Thread nD τ).loc b)) (c : Dev nD)
variable {f g h : ℕ → ℕ → EReal}

/-! ## The gradient of the first weights -/

section
variable (h0 : Mat (M := 4096) (N := 1024) (V c main_v3) f) (h1 : Mat (M := 4096) (N := 1024) (V c main_v9_0) g)

include h0 h1 in
theorem acc6 (n : ℕ) : ∀ hn : n < cfg6.N, Mat (M := 1024) (N := 1024) (outsAt6 V c n hn) (Tmul ((n % 4 + 1) * 1024) f g) := by
  induction n using Nat.strong_induction_on with
  | _ n ih =>
    intro hn a b
    have hN : n < 4 := lt_of_lt_of_eq hn N_6
    by_cases hz : n % 4 = 0
    · refine (congrFun (outsAt6_A V c ⟨n, hn⟩ hz) (ix2 a b)).trans ?_
      frame_out
      refine (k6_pay2_mat (blk6_0 V c h0 ⟨n, hn⟩) (blk6_1 V c h1 ⟨n, hn⟩) k6_pay1_mat a b).trans ?_
      obtain rfl : n = 0 := by omega
      exact Tmul_first f g hz a b
    · refine (congrFun (outsAt6_B V c ⟨n, hn⟩ hz) (ix2 a b)).trans ?_
      frame_out
      refine (k6_pay2_mat (blk6_0 V c h0 ⟨n, hn⟩) (blk6_1 V c h1 ⟨n, hn⟩) (ih (n - 1) (by omega) (by omega)) a b).trans ?_
      exact Tmul_step f g hz (show n * 1024 = n % 4 * 1024 by omega) a b

include h0 h1 in
theorem call6 : Mat (M := 1024) (N := 1024) ((dat6 V c).arrAt 2 cfg6.N) (Tmul 4096 f g) := by
  refine Mat.of ((dat6 V c).arrAt_eq_of_covers 2 _ (by decide +kernel) fun t hf y => ?_)
  have hl := (flush6_2 t).mp hf
  blk_simp
  rw [after6_2]
  refine ((acc6 V c h0 h1 t.val t.isLt).at y).trans ?_
  blk_simp [at6_2 t]
  rw [hl]

end

/-! ## The gradient of the gate's weights -/

section
variable (h0 : Mat (M := 4096) (N := 1024) (V c main_v3) f) (h1 : Mat (M := 4096) (N := 1024) (V c main_v9_1) g)

include h0 h1 in
theorem acc7 (n : ℕ) : ∀ hn : n < cfg7.N, Mat (M := 1024) (N := 1024) (outsAt7 V c n hn) (Tmul ((n % 4 + 1) * 1024) f g) := by
  induction n using Nat.strong_induction_on with
  | _ n ih =>
    intro hn a b
    have hN : n < 4 := lt_of_lt_of_eq hn N_7
    by_cases hz : n % 4 = 0
    · refine (congrFun (outsAt7_A V c ⟨n, hn⟩ hz) (ix2 a b)).trans ?_
      frame_out
      refine (k7_pay2_mat (blk7_0 V c h0 ⟨n, hn⟩) (blk7_1 V c h1 ⟨n, hn⟩) k7_pay1_mat a b).trans ?_
      obtain rfl : n = 0 := by omega
      exact Tmul_first f g hz a b
    · refine (congrFun (outsAt7_B V c ⟨n, hn⟩ hz) (ix2 a b)).trans ?_
      frame_out
      refine (k7_pay2_mat (blk7_0 V c h0 ⟨n, hn⟩) (blk7_1 V c h1 ⟨n, hn⟩) (ih (n - 1) (by omega) (by omega)) a b).trans ?_
      exact Tmul_step f g hz (show n * 1024 = n % 4 * 1024 by omega) a b

include h0 h1 in
theorem call7 : Mat (M := 1024) (N := 1024) ((dat7 V c).arrAt 2 cfg7.N) (Tmul 4096 f g) := by
  refine Mat.of ((dat7 V c).arrAt_eq_of_covers 2 _ (by decide +kernel) fun t hf y => ?_)
  have hl := (flush7_2 t).mp hf
  blk_simp
  rw [after7_2]
  refine ((acc7 V c h0 h1 t.val t.isLt).at y).trans ?_
  blk_simp [at7_2 t]
  rw [hl]

end

/-! ## The activation's gradient -/

section
variable {s : ℕ → EReal}
variable (h0 : Mat (M := 4096) (N := 1024) (V c main_arg3) f) (h1 : Mat (M := 4096) (N := 1024) (V c main_arg2) g)
  (h2 : Mat (M := 1) (N := 1024) (V c main_v0) fun _ => s) (h3 : Mat (M := 4096) (N := 1024) (V c main_v13) h)

include h0 h1 h2 h3 in
theorem row8 (t : Fin cfg8.N) : Mat (M := 256) (N := 1024) (outsAt8 V c t.val t.isLt).1 (fun a b => (dGelu (skip f g s) h) (t.val * 256 + a) b) := by
  intro a b
  by_cases hz : t.val % 16 = 0
  · rw [outsAt8_A V c t hz]
    frame_out
    exact k8_pay5_mat (blk8_0 V c h0 t) (blk8_1 V c h1 t) (blk8_2 V c h2 t) (blk8_3 V c h3 t) a b
  · rw [outsAt8_B V c t hz]
    frame_out
    exact k8_pay5_mat (blk8_0 V c h0 t) (blk8_1 V c h1 t) (blk8_2 V c h2 t) (blk8_3 V c h3 t) a b

include h0 h1 h2 h3 in
theorem call8_4 : Mat (M := 4096) (N := 1024) ((dat8 V c).arrAt 4 cfg8.N) (dGelu (skip f g s) h) := by
  refine Mat.of ((dat8 V c).arrAt_eq_of_covers 4 _ (by decide +kernel) fun t hf y => ?_)
  blk_simp
  rw [after8_4]
  refine ((row8 V c h0 h1 h2 h3 t).at y).trans ?_
  blk_simp [at8_4 t]

include h0 h1 h2 h3 in
theorem in8 (t : Fin cfg8.N) : Mat (M := 256) (N := 1024) (outsAt8 V c t.val t.isLt).2.1 (fun a b => (fun a b => s b * dGelu (skip f g s) h a b) (t.val * 256 + a) b) := by
  intro a b
  by_cases hz : t.val % 16 = 0
  · rw [outsAt8_A V c t hz]
    frame_out
    exact k8_pay1_mat (blk8_2 V c h2 t) (k8_pay5_mat (blk8_0 V c h0 t) (blk8_1 V c h1 t) (blk8_2 V c h2 t) (blk8_3 V c h3 t)) a b
  · rw [outsAt8_B V c t hz]
    frame_out
    exact k8_pay1_mat (blk8_2 V c h2 t) (k8_pay5_mat (blk8_0 V c h0 t) (blk8_1 V c h1 t) (blk8_2 V c h2 t) (blk8_3 V c h3 t)) a b

include h0 h1 h2 h3 in
theorem call8_5 : Mat (M := 4096) (N := 1024) ((dat8 V c).arrAt 5 cfg8.N) (fun a b => s b * dGelu (skip f g s) h a b) := by
  refine Mat.of ((dat8 V c).arrAt_eq_of_covers 5 _ (by decide +kernel) fun t hf y => ?_)
  blk_simp
  rw [after8_5]
  refine ((in8 V c h0 h1 h2 h3 t).at y).trans ?_
  blk_simp [at8_5 t]

include h0 h1 h2 h3 in
theorem acc8 (n : ℕ) : ∀ hn : n < cfg8.N, Mat (M := 1) (N := 1024) (outsAt8 V c n hn).2.2
    (fun _ => dSkip ((n % 16 + 1) * 256) (dGelu (skip f g s) h) g) := by
  induction n using Nat.strong_induction_on with
  | _ n ih =>
    intro hn a b
    have hN : n < 16 := lt_of_lt_of_eq hn N_8
    by_cases hz : n % 16 = 0
    · refine (congrFun (congrArg (fun x => x.2.2) (outsAt8_A V c ⟨n, hn⟩ hz)) (ix2 a b)).trans ?_
      frame_out
      refine (k8_pay3_mat (blk8_1 V c h1 ⟨n, hn⟩) (k8_pay5_mat (blk8_0 V c h0 ⟨n, hn⟩) (blk8_1 V c h1 ⟨n, hn⟩) (blk8_2 V c h2 ⟨n, hn⟩) (blk8_3 V c h3 ⟨n, hn⟩)) k8_pay2_mat a b).trans ?_
      obtain rfl : n = 0 := by omega
      show 0 + dSkip 256 (fun a b => dGelu (skip f g s) h (0 * 256 + a) b) (fun a b => g (0 * 256 + a) b) b
        = dSkip ((0 % 16 + 1) * 256) (dGelu (skip f g s) h) g b
      rw [zero_add]
      simp only [Nat.zero_mul, Nat.zero_add, Nat.zero_mod, Nat.one_mul]
    · refine (congrFun (congrArg (fun x => x.2.2) (outsAt8_B V c ⟨n, hn⟩ hz)) (ix2 a b)).trans ?_
      frame_out
      refine (k8_pay3_mat (blk8_1 V c h1 ⟨n, hn⟩) (k8_pay5_mat (blk8_0 V c h0 ⟨n, hn⟩) (blk8_1 V c h1 ⟨n, hn⟩) (blk8_2 V c h2 ⟨n, hn⟩) (blk8_3 V c h3 ⟨n, hn⟩)) (ih (n - 1) (by omega) (by omega)) a b).trans ?_
      show dSkip (((n - 1) % 16 + 1) * 256) (dGelu (skip f g s) h) g b
        + dSkip 256 (fun r => dGelu (skip f g s) h (n * 256 + r)) (fun r => g (n * 256 + r)) b = _
      rw [show ((n - 1) % 16 + 1) * 256 = n * 256 by omega, ← dSkip_add, show n * 256 + 256 = (n % 16 + 1) * 256 by omega]

include h0 h1 h2 h3 in
theorem call8_6 : Mat (M := 1) (N := 1024) ((dat8 V c).arrAt 6 cfg8.N) (fun _ => dSkip 4096 (dGelu (skip f g s) h) g) := by
  refine Mat.of ((dat8 V c).arrAt_eq_of_covers 6 _ (by decide +kernel) fun t hf y => ?_)
  have hl := (flush8_6 t).mp hf
  blk_simp
  rw [after8_6]
  refine ((acc8 V c h0 h1 h2 h3 t.val t.isLt).at y).trans ?_
  blk_simp [at8_6 t]
  rw [hl]

end

end Cert.Tail
-- ==== Proof.GluChain.lean ====
/- What each buffer of the gated unit holds, call after call: from the arguments to the six results. -/
module

public import proofs.«01_k».proof.Proof.GluSpec
public import proofs.«01_k».proof.Proof.GluHost
public import proofs.«01_k».proof.Proof.GluCall
public import proofs.«01_k».proof.Proof.GluAcc
public import proofs.«01_k».proof.Proof.Gen.GluIdeal.Frame

@[expose] public section

set_option maxRecDepth 16384

noncomputable section

namespace Cert.Tail

open Idealize.ShloMosaic Idealize.ShloMosaic.TcCoe Idealize.SL.Sem Cert.GluIdeal Cert.GluIdeal.Gen Cert.Mlp

/-! ## The product with both weights side by side -/

section
variable {h d u y : ℕ → ℕ → EReal} {s : ℕ → EReal} {A B : ℕ → ℕ → EReal}

def both (u y : ℕ → ℕ → EReal) (s : ℕ → EReal) (A B : ℕ → ℕ → EReal) : ℕ → ℕ → EReal := mul 1024 (act u y s) (cat 1024 A B)

theorem both_lo {a b : ℕ} (hb : b < 1024) : both u y s A B a b = left u y s A a b := by
  unfold both left mul cat
  simp only [if_pos hb]

theorem both_hi : (fun a b => both u y s A B a (1024 + b)) = right u y s B := by
  funext a b
  have e : ¬ 1024 + b < 1024 := by omega
  unfold both right mul cat
  simp only [if_neg e, Nat.add_sub_cancel_left]

variable (V : (c : Dev nD) → (b : Ref sig .tc) → Buf (Elt Ideal) ((c : Thread nD τ).loc b)) (c : Dev nD)

theorem out2 (h0 h1 : Mat (M := 4096) (N := 2048) (V c main_v7) (both u y s A B)) (h2 : Mat (M := 4096) (N := 1024) (V c main_arg0) h) :
    Mat (M := 4096) (N := 1024) ((dat2 V c).arrAt 3 cfg2.N) (outF h u y s A B) :=
  (call2 V c h0 h1 h2).congr fun a b _ hb => by
    unfold outF
    rw [both_lo hb, ← both_hi]

theorem da3 (h1 : Mat (M := 4096) (N := 2048) (V c main_v7) (both u y s A B)) (h2 : Mat (M := 4096) (N := 1024) (V c main_arg1) d) :
    Mat (M := 4096) (N := 1024) ((dat3 V c).arrAt 3 cfg3.N) (dA d u y s B) := by
  have e := call3_3 V c h1 h2
  rw [both_hi] at e
  exact e

theorem db3 (h0 h1 : Mat (M := 4096) (N := 2048) (V c main_v7) (both u y s A B)) (h2 : Mat (M := 4096) (N := 1024) (V c main_arg1) d) :
    Mat (M := 4096) (N := 1024) ((dat3 V c).arrAt 4 cfg3.N) (dB d u y s A B) := by
  have e := call3_4 V c h0 h1 h2
  rw [both_hi] at e
  exact e.congr fun a b _ hb => by
    unfold dB dRight
    rw [both_lo hb]

end

section
variable (m : (l : Loc nD τ sig) → Buf (Elt Ideal) l) (ρ : Dev nD → PrngReg) (c : Dev nD)
variable {h d u y : ℕ → ℕ → EReal} {s : ℕ → EReal} {A B : ℕ → ℕ → EReal}
  (hh : Mat (M := 4096) (N := 1024) (m ((c.tc : Thread nD τ).loc main_arg0)) (h))
  (hd : Mat (M := 4096) (N := 1024) (m ((c.tc : Thread nD τ).loc main_arg1)) (d))
  (hu : Mat (M := 4096) (N := 1024) (m ((c.tc : Thread nD τ).loc main_arg2)) (u))
  (hy : Mat (M := 4096) (N := 1024) (m ((c.tc : Thread nD τ).loc main_arg3)) (y))
  (hs : Row (N := 1024) (m ((c.tc : Thread nD τ).loc main_arg4)) (s))
  (hA : Mat (M := 1024) (N := 1024) (m ((c.tc : Thread nD τ).loc main_arg5)) (A))
  (hB : Mat (M := 1024) (N := 1024) (m ((c.tc : Thread nD τ).loc main_arg6)) (B))

include hs in
theorem at_v0 : Mat (M := 1) (N := 1024) (W1 m ρ c (Proc.devRef .tc main_v0)) (fun _ => s) :=
  host0_v0 (W0 m ρ c) hs

include hA in
theorem at_v1 : Mat3 (L := 1) (M := 1024) (N := 1024) (W1 m ρ c (Proc.devRef .tc main_v1)) (fun _ => A) :=
  host0_v1 (W0 m ρ c) hA

include hB in
theorem at_v2 : Mat3 (L := 1) (M := 1024) (N := 1024) (W1 m ρ c (Proc.devRef .tc main_v2)) (fun _ => B) :=
  host0_v2 (W0 m ρ c) hB

include hu hy hs in
theorem at_v3 : Mat (M := 4096) (N := 1024) (W2 m ρ c (Proc.devRef .tc main_v3)) (act u y s) :=
  Mat.cast (M := 4096) (N := 1024) (W2_arr m ρ c 3) (call0 (V1 m ρ) c (h := fun _ => s)
    (Mat.cast (M := 4096) (N := 1024) (W1_args m ρ c main_arg3 (by decide)) hy)
    (Mat.cast (M := 4096) (N := 1024) (W1_args m ρ c main_arg2 (by decide)) hu)
    (at_v0 m ρ c hs))

include hA hB in
theorem at_v6 : Mat (M := 1024) (N := 2048) (W3 m ρ c (Proc.devRef .tc main_v6)) (cat 1024 A B) :=
  host1_v6 (W2 m ρ c) (Mat3.cast (L := 1) (M := 1024) (N := 1024) (W2_of m ρ c main_v1 (by decide)) (at_v1 m ρ c hA))
    (Mat3.cast (L := 1) (M := 1024) (N := 1024) (W2_of m ρ c main_v2 (by decide)) (at_v2 m ρ c hB))

include hu hy hs hA hB in
theorem at_v7 : Mat (M := 4096) (N := 2048) (W4 m ρ c (Proc.devRef .tc main_v7)) (both u y s A B) :=
  Mat.cast (M := 4096) (N := 2048) (W4_arr m ρ c 2) (call1 (V3 m ρ) c
    (Mat.cast (M := 4096) (N := 1024) (W3_of m ρ c main_v3 (by decide)) (at_v3 m ρ c hu hy hs))
    (at_v6 m ρ c hA hB))

include hh hu hy hs hA hB in
theorem at_v8 : Mat (M := 4096) (N := 1024) (W5 m ρ c (Proc.devRef .tc main_v8)) (outF h u y s A B) :=
  Mat.cast (M := 4096) (N := 1024) (W5_arr m ρ c 3) (out2 (V4 m ρ) c
    (at_v7 m ρ c hu hy hs hA hB)
    (at_v7 m ρ c hu hy hs hA hB)
    (Mat.cast (M := 4096) (N := 1024) (W4_args m ρ c main_arg0 (by decide)) hh))

include hd hu hy hs hA hB in
theorem at_v9_0 : Mat (M := 4096) (N := 1024) (W6 m ρ c (Proc.devRef .tc main_v9_0)) (dA d u y s B) :=
  Mat.cast (M := 4096) (N := 1024) (W6_arr m ρ c 3) (da3 (V5 m ρ) c
    (Mat.cast (M := 4096) (N := 2048) (W5_of m ρ c main_v7 (by decide)) (at_v7 m ρ c hu hy hs hA hB))
    (Mat.cast (M := 4096) (N := 1024) (W5_args m ρ c main_arg1 (by decide)) hd))

include hd hu hy hs hA hB in
theorem at_v9_1 : Mat (M := 4096) (N := 1024) (W6 m ρ c (Proc.devRef .tc main_v9_1)) (dB d u y s A B) :=
  Mat.cast (M := 4096) (N := 1024) (W6_arr m ρ c 4) (db3 (V5 m ρ) c
    (Mat.cast (M := 4096) (N := 2048) (W5_of m ρ c main_v7 (by decide)) (at_v7 m ρ c hu hy hs hA hB))
    (Mat.cast (M := 4096) (N := 2048) (W5_of m ρ c main_v7 (by decide)) (at_v7 m ρ c hu hy hs hA hB))
    (Mat.cast (M := 4096) (N := 1024) (W5_args m ρ c main_arg1 (by decide)) hd))

include hA in
theorem at_v10 : Mat (M := 1024) (N := 1024) (W7 m ρ c (Proc.devRef .tc main_v10)) (A) :=
  host4_v10 (W6 m ρ c) (Mat3.cast (L := 1) (M := 1024) (N := 1024) ((W6_of m ρ c main_v1 (by decide)).trans ((W5_of _ _ _ _ (by decide)).trans ((W4_of _ _ _ _ (by decide)).trans ((W3_of _ _ _ _ (by decide)).trans (W2_of _ _ _ _ (by decide)))))) (at_v1 m ρ c hA))

include hB in
theorem at_v11 : Mat (M := 1024) (N := 1024) (W7 m ρ c (Proc.devRef .tc main_v11)) (B) :=
  host4_v11 (W6 m ρ c) (Mat3.cast (L := 1) (M := 1024) (N := 1024) ((W6_of m ρ c main_v2 (by decide)).trans ((W5_of _ _ _ _ (by decide)).trans ((W4_of _ _ _ _ (by decide)).trans ((W3_of _ _ _ _ (by decide)).trans (W2_of _ _ _ _ (by decide)))))) (at_v2 m ρ c hB))

include hd hu hy hs hA hB in
theorem at_v12 : Mat (M := 4096) (N := 1024) (W8 m ρ c (Proc.devRef .tc main_v12)) (mulT 1024 (dA d u y s B) A) :=
  Mat.cast (M := 4096) (N := 1024) (W8_arr m ρ c 2) (call4 (V7 m ρ) c
    (Mat.cast (M := 4096) (N := 1024) (W7_of m ρ c main_v9_0 (by decide)) (at_v9_0 m ρ c hd hu hy hs hA hB))
    (at_v10 m ρ c hA))

include hd hu hy hs hA hB in
theorem at_v13 : Mat (M := 4096) (N := 1024) (W9 m ρ c (Proc.devRef .tc main_v13)) (dAct d u y s A B) :=
  Mat.cast (M := 4096) (N := 1024) (W9_arr m ρ c 3) (call5 (V8 m ρ) c
    (Mat.cast (M := 4096) (N := 1024) ((W8_of m ρ c main_v9_1 (by decide)).trans (W7_of _ _ _ _ (by decide))) (at_v9_1 m ρ c hd hu hy hs hA hB))
    (Mat.cast (M := 1024) (N := 1024) (W8_of m ρ c main_v11 (by decide)) (at_v11 m ρ c hB))
    (at_v12 m ρ c hd hu hy hs hA hB))

/-! Buffers unchanged over several steps. -/

theorem v13_11 : W11 m ρ c (Proc.devRef .tc main_v13) = W9 m ρ c (Proc.devRef .tc main_v13) :=
  (W11_of _ _ _ _ (by decide)).trans (W10_of _ _ _ _ (by decide))

theorem v3_9 : W9 m ρ c (Proc.devRef .tc main_v3) = W2 m ρ c (Proc.devRef .tc main_v3) :=
  (W9_of _ _ _ _ (by decide)).trans ((W8_of _ _ _ _ (by decide)).trans ((W7_of _ _ _ _ (by decide)).trans ((W6_of _ _ _ _ (by decide)).trans ((W5_of _ _ _ _ (by decide)).trans ((W4_of _ _ _ _ (by decide)).trans (W3_of _ _ _ _ (by decide)))))))

theorem v0_11 : W11 m ρ c (Proc.devRef .tc main_v0) = W1 m ρ c (Proc.devRef .tc main_v0) :=
  (W11_of _ _ _ _ (by decide)).trans ((W10_of _ _ _ _ (by decide)).trans ((W9_of _ _ _ _ (by decide)).trans ((W8_of _ _ _ _ (by decide)).trans ((W7_of _ _ _ _ (by decide)).trans ((W6_of _ _ _ _ (by decide)).trans ((W5_of _ _ _ _ (by decide)).trans ((W4_of _ _ _ _ (by decide)).trans ((W3_of _ _ _ _ (by decide)).trans (W2_of _ _ _ _ (by decide))))))))))

include hd hu hy hs hA hB in
theorem at_v14 : Mat (M := 1024) (N := 1024) (W10 m ρ c (Proc.devRef .tc main_v14)) (dWa d u y s B) :=
  Mat.cast (M := 1024) (N := 1024) (W10_arr m ρ c 2) (call6 (V9 m ρ) c
    (Mat.cast (M := 4096) (N := 1024) (v3_9 m ρ c) (at_v3 m ρ c hu hy hs))
    (Mat.cast (M := 4096) (N := 1024) ((W9_of m ρ c main_v9_0 (by decide)).trans ((W8_of _ _ _ _ (by decide)).trans (W7_of _ _ _ _ (by decide)))) (at_v9_0 m ρ c hd hu hy hs hA hB)))

include hd hu hy hs hA hB in
theorem at_v15 : Mat (M := 1024) (N := 1024) (W11 m ρ c (Proc.devRef .tc main_v15)) (dWb d u y s A B) :=
  Mat.cast (M := 1024) (N := 1024) (W11_arr m ρ c 2) (call7 (V10 m ρ) c
    (Mat.cast (M := 4096) (N := 1024) ((W10_of m ρ c main_v3 (by decide)).trans (v3_9 m ρ c)) (at_v3 m ρ c hu hy hs))
    (Mat.cast (M := 4096) (N := 1024) ((W10_of m ρ c main_v9_1 (by decide)).trans ((W9_of _ _ _ _ (by decide)).trans ((W8_of _ _ _ _ (by decide)).trans (W7_of _ _ _ _ (by decide))))) (at_v9_1 m ρ c hd hu hy hs hA hB)))

include hd hu hy hs hA hB in
theorem at_v16_0 : Mat (M := 4096) (N := 1024) (W12 m ρ c (Proc.devRef .tc main_v16_0)) (dPre d u y s A B) :=
  Mat.cast (M := 4096) (N := 1024) (W12_arr m ρ c 4) (call8_4 (V11 m ρ) c
    (Mat.cast (M := 4096) (N := 1024) (W11_args m ρ c main_arg3 (by decide)) hy)
    (Mat.cast (M := 4096) (N := 1024) (W11_args m ρ c main_arg2 (by decide)) hu)
    (Mat.cast (M := 1) (N := 1024) (v0_11 m ρ c) (at_v0 m ρ c hs))
    (Mat.cast (M := 4096) (N := 1024) (v13_11 m ρ c) (at_v13 m ρ c hd hu hy hs hA hB)))

include hd hu hy hs hA hB in
theorem at_v16_1 : Mat (M := 4096) (N := 1024) (W12 m ρ c (Proc.devRef .tc main_v16_1)) (dIn d u y s A B) :=
  Mat.cast (M := 4096) (N := 1024) (W12_arr m ρ c 5) (call8_5 (V11 m ρ) c
    (Mat.cast (M := 4096) (N := 1024) (W11_args m ρ c main_arg3 (by decide)) hy)
    (Mat.cast (M := 4096) (N := 1024) (W11_args m ρ c main_arg2 (by decide)) hu)
    (Mat.cast (M := 1) (N := 1024) (v0_11 m ρ c) (at_v0 m ρ c hs))
    (Mat.cast (M := 4096) (N := 1024) (v13_11 m ρ c) (at_v13 m ρ c hd hu hy hs hA hB)))

include hd hu hy hs hA hB in
theorem at_v16_2 : Mat (M := 1) (N := 1024) (W12 m ρ c (Proc.devRef .tc main_v16_2)) (fun _ => dScale d u y s A B) :=
  Mat.cast (M := 1) (N := 1024) (W12_arr m ρ c 6) (call8_6 (V11 m ρ) c
    (Mat.cast (M := 4096) (N := 1024) (W11_args m ρ c main_arg3 (by decide)) hy)
    (Mat.cast (M := 4096) (N := 1024) (W11_args m ρ c main_arg2 (by decide)) hu)
    (Mat.cast (M := 1) (N := 1024) (v0_11 m ρ c) (at_v0 m ρ c hs))
    (Mat.cast (M := 4096) (N := 1024) (v13_11 m ρ c) (at_v13 m ρ c hd hu hy hs hA hB)))

include hd hu hy hs hA hB in
theorem at_v17 : Mat3 (L := 4) (M := 256) (N := 1024) (W13 m ρ c (Proc.devRef .tc main_v17)) (fun l a b => dWa d u y s B (l * 256 + a) b) :=
  host9_v17 (W12 m ρ c) (Mat.cast (M := 1024) (N := 1024) ((W12_of m ρ c main_v14 (by decide)).trans (W11_of _ _ _ _ (by decide))) (at_v14 m ρ c hd hu hy hs hA hB))

include hd hu hy hs hA hB in
theorem at_v18 : Mat3 (L := 4) (M := 256) (N := 1024) (W13 m ρ c (Proc.devRef .tc main_v18)) (fun l a b => dWb d u y s A B (l * 256 + a) b) :=
  host9_v18 (W12 m ρ c) (Mat.cast (M := 1024) (N := 1024) (W12_of m ρ c main_v15 (by decide)) (at_v15 m ρ c hd hu hy hs hA hB))

end

end Cert.Tail
-- ==== Proof.GluRef.lean ====
/- The gated unit's reference, one operation after another, each read at an index. -/
module

public import proofs.«01_k».proof.Proof.Gen.GluReferenceIdeal.Run
public import proofs.«01_k».proof.Proof.GluSpec
public import Idealize.ShloMosaic.Lib.Tactic.CleanTypes

@[expose] public section

set_option maxRecDepth 16384

noncomputable section

namespace Cert.Tail.Ref

open Idealize.ShloMosaic Idealize.ShloMosaic.TcCoe Idealize.SL.Sem Cert.GluReferenceIdeal Cert.GluReferenceIdeal.Gen Cert.Mlp

open scoped BigOperators

variable (x0 : FVec Ideal S4096x1024 .f32) (x1 : FVec Ideal S4096x1024 .f32) (x2 : FVec Ideal S4096x1024 .f32) (x3 : FVec Ideal S4096x1024 .f32) (x4 : FVec Ideal S1024 .f32) (x5 : FVec Ideal S1024x1024 .bf16) (x6 : FVec Ideal S1024x1024 .bf16)
variable {h d u y : ℕ → ℕ → EReal} {s : ℕ → EReal} {A B : ℕ → ℕ → EReal}
  (h0 : Mat (M := 4096) (N := 1024) x0 h)
  (h1 : Mat (M := 4096) (N := 1024) x1 d)
  (h2 : Mat (M := 4096) (N := 1024) x2 u)
  (h3 : Mat (M := 4096) (N := 1024) x3 y)
  (h4 : Row (N := 1024) x4 s)
  (h5 : Mat (M := 1024) (N := 1024) x5 A)
  (h6 : Mat (M := 1024) (N := 1024) x6 B)

/-- The first weights. -/
def wA : FVec Ideal S1024x1024 .f32 :=
  extf .f32 x5 bitsLt_bf16_f32

include h5 in
theorem wA_at : Mat (M := 1024) (N := 1024) (wA x5) (A) := by
  intro a b
  unfold wA
  clean_types
  pointwise
  simp only [h5.e]

/-- The second weights. -/
def wB : FVec Ideal S1024x1024 .f32 :=
  extf .f32 x6 bitsLt_bf16_f32

include h6 in
theorem wB_at : Mat (M := 1024) (N := 1024) (wB x6) (B) := by
  intro a b
  unfold wB
  clean_types
  pointwise
  simp only [h6.e]

/-- The scales. -/
def scale : FVec Ideal S1x1024 .f32 :=
  broadcastInDim S1x1024 ![1] bcast_S1024_S1x1024_1 x4

include h4 in
theorem scale_at : Mat (M := 1) (N := 1024) (scale x4) (fun _ => s) := by
  intro a b
  unfold scale
  clean_types
  pointwise
  simp only [h4.e]

/-- The rows before the activation. -/
def z : FVec Ideal S4096x1024 .f32 :=
  addf x3 (mulf (broadcastInDim S4096x1024 ![0, 1] bcast_S1x1024_S4096x1024_0_1 (scale x4)) x2)

include h2 h3 h4 in
theorem z_at : Mat (M := 4096) (N := 1024) (z x2 x3 x4) (skip y u s) := by
  intro a b
  unfold z
  clean_types
  pointwise
  simp only [h3.e, h2.e, (scale_at x4 h4).e]
  rfl

/-- The tangent in the activation. -/
def tan : FVec Ideal S4096x1024 .f32 :=
  Host.tanh (mulf (broadcastInDim S4096x1024 ![] bcast_S_S4096x1024 (constant S_ .f32 0x3F4C422A#32)) (addf (z x2 x3 x4) (mulf (broadcastInDim S4096x1024 ![] bcast_S_S4096x1024 (constant S_ .f32 0x3D372713#32)) (mulf (mulf (z x2 x3 x4) (z x2 x3 x4)) (z x2 x3 x4)))))

include h2 h3 h4 in
theorem tan_at : Mat (M := 4096) (N := 1024) (tan x2 x3 x4) (fun a b => th (skip y u s a b)) := by
  intro a b
  unfold tan
  clean_types
  pointwise
  simp only [(z_at x2 x3 x4 h2 h3 h4).e]
  unfold th
  rw [mul_comm (_ * _) (skip y u s a b)]

/-- What the activation multiplies its rows by. -/
def fac : FVec Ideal S4096x1024 .f32 :=
  mulf (broadcastInDim S4096x1024 ![] bcast_S_S4096x1024 (constant S_ .f32 0x3F000000#32)) (addf (broadcastInDim S4096x1024 ![] bcast_S_S4096x1024 (constant S_ .f32 0x3F800000#32)) (tan x2 x3 x4))

include h2 h3 h4 in
theorem fac_at : Mat (M := 4096) (N := 1024) (fac x2 x3 x4) (fun a b => Ideal.ofBits FTy.f32 0x3F000000#32 * (1 + th (skip y u s a b))) := by
  intro a b
  unfold fac
  clean_types
  pointwise
  simp only [(tan_at x2 x3 x4 h2 h3 h4).e]

/-- The activated rows. -/
def actR : FVec Ideal S4096x1024 .f32 :=
  mulf (z x2 x3 x4) (fac x2 x3 x4)

include h2 h3 h4 in
theorem actR_at : Mat (M := 4096) (N := 1024) (actR x2 x3 x4) (act u y s) := by
  intro a b
  unfold actR
  clean_types
  pointwise
  simp only [(z_at x2 x3 x4 h2 h3 h4).e, (fac_at x2 x3 x4 h2 h3 h4).e]
  rfl

/-- The first product. -/
def leftR : FVec Ideal S4096x1024 .f32 :=
  (Host.dotGeneral (φ₁ := .f32) (φ₂ := .f32) dot_S4096x1024_S1024x1024_S4096x1024_1_0_0_1_n_n none (actR x2 x3 x4) (wA x5))

include h2 h3 h4 h5 in
theorem leftR_at : Mat (M := 4096) (N := 1024) (leftR x2 x3 x4 x5) (left u y s A) := by
  intro a b
  unfold leftR
  clean_types
  pointwise
  simp only [(actR_at x2 x3 x4 h2 h3 h4).e, (wA_at x5 h5).e]
  unfold left mul
  rw [Finset.sum_range]

/-- The second product. -/
def rightR : FVec Ideal S4096x1024 .f32 :=
  (Host.dotGeneral (φ₁ := .f32) (φ₂ := .f32) dot_S4096x1024_S1024x1024_S4096x1024_1_0_0_1_n_n none (actR x2 x3 x4) (wB x6))

include h2 h3 h4 h6 in
theorem rightR_at : Mat (M := 4096) (N := 1024) (rightR x2 x3 x4 x6) (right u y s B) := by
  intro a b
  unfold rightR
  clean_types
  pointwise
  simp only [(actR_at x2 x3 x4 h2 h3 h4).e, (wB_at x6 h6).e]
  unfold right mul
  rw [Finset.sum_range]

/-- The gate. -/
def gate : FVec Ideal S4096x1024 .f32 :=
  Host.divf (broadcastInDim S4096x1024 ![] bcast_S_S4096x1024 (constant S_ .f32 0x3F800000#32)) (addf (broadcastInDim S4096x1024 ![] bcast_S_S4096x1024 (constant S_ .f32 0x3F800000#32)) (Host.exp (Host.negf (rightR x2 x3 x4 x6))))

include h2 h3 h4 h6 in
theorem gate_at : Mat (M := 4096) (N := 1024) (gate x2 x3 x4 x6) (fun a b => Ideal.logistic (right u y s B a b)) := by
  intro a b
  unfold gate
  clean_types
  pointwise
  simp only [(rightR_at x2 x3 x4 x6 h2 h3 h4 h6).e]
  rfl

/-- The unit's result. -/
def out : FVec Ideal S4096x1024 .f32 :=
  addf x0 (mulf (leftR x2 x3 x4 x5) (gate x2 x3 x4 x6))

include h0 h2 h3 h4 h5 h6 in
theorem out_at : Mat (M := 4096) (N := 1024) (out x0 x2 x3 x4 x5 x6) (outF h u y s A B) := by
  intro a b
  unfold out
  clean_types
  pointwise
  simp only [h0.e, (leftR_at x2 x3 x4 x5 h2 h3 h4 h5).e, (gate_at x2 x3 x4 x6 h2 h3 h4 h6).e]
  rfl

/-- The gradient at the result. -/
def dd : FVec Ideal S4096x1024 .f32 :=
  shapeCast _ x1 shapeCasts_S4096x1024_S4096x1024

include h1 in
theorem dd_at : Mat (M := 4096) (N := 1024) (dd x1) (d) := by
  intro a b
  unfold dd
  clean_types
  pointwise
  simp only [h1.e]

/-- The gradient of the first product. -/
def dAR : FVec Ideal S4096x1024 .f32 :=
  mulf (dd x1) (gate x2 x3 x4 x6)

include h1 h2 h3 h4 h6 in
theorem dAR_at : Mat (M := 4096) (N := 1024) (dAR x1 x2 x3 x4 x6) (dA d u y s B) := by
  intro a b
  unfold dAR
  clean_types
  pointwise
  simp only [(dd_at x1 h1).e, (gate_at x2 x3 x4 x6 h2 h3 h4 h6).e]
  rfl

/-- The gradient of the second product. -/
def dBR : FVec Ideal S4096x1024 .f32 :=
  mulf (mulf (leftR x2 x3 x4 x5) (dd x1)) (mulf (gate x2 x3 x4 x6) (subf (broadcastInDim S4096x1024 ![] bcast_S_S4096x1024 (constant S_ .f32 0x3F800000#32)) (gate x2 x3 x4 x6)))

include h1 h2 h3 h4 h5 h6 in
theorem dBR_at : Mat (M := 4096) (N := 1024) (dBR x1 x2 x3 x4 x5 x6) (dB d u y s A B) := by
  intro a b
  unfold dBR
  clean_types
  pointwise
  simp only [(leftR_at x2 x3 x4 x5 h2 h3 h4 h5).e, (dd_at x1 h1).e, (gate_at x2 x3 x4 x6 h2 h3 h4 h6).e]
  rfl

/-- The gradient of the activated rows. -/
def dActR : FVec Ideal S4096x1024 .f32 :=
  addf (Host.dotGeneral (φ₁ := .f32) (φ₂ := .f32) dot_S4096x1024_S1024x1024_S4096x1024_1_1_0_0_n_n none (dBR x1 x2 x3 x4 x5 x6) (wB x6)) (Host.dotGeneral (φ₁ := .f32) (φ₂ := .f32) dot_S4096x1024_S1024x1024_S4096x1024_1_1_0_0_n_n none (dAR x1 x2 x3 x4 x6) (wA x5))

include h1 h2 h3 h4 h5 h6 in
theorem dActR_at : Mat (M := 4096) (N := 1024) (dActR x1 x2 x3 x4 x5 x6) (dAct d u y s A B) := by
  intro a b
  unfold dActR
  clean_types
  pointwise
  simp only [(dBR_at x1 x2 x3 x4 x5 x6 h1 h2 h3 h4 h5 h6).e, (wB_at x6 h6).e, (dAR_at x1 x2 x3 x4 x6 h1 h2 h3 h4 h6).e, (wA_at x5 h5).e]
  unfold dAct mulT
  rw [Finset.sum_range, Finset.sum_range]

/-- The gradient at the tangent's argument. -/
def dTan : FVec Ideal S4096x1024 .f32 :=
  mulf (broadcastInDim S4096x1024 ![] bcast_S_S4096x1024 (constant S_ .f32 0x3F4C422A#32)) (mulf (mulf (broadcastInDim S4096x1024 ![] bcast_S_S4096x1024 (constant S_ .f32 0x3F000000#32)) (mulf (z x2 x3 x4) (dActR x1 x2 x3 x4 x5 x6))) (mulf (addf (broadcastInDim S4096x1024 ![] bcast_S_S4096x1024 (constant S_ .f32 0x3F800000#32)) (tan x2 x3 x4)) (subf (broadcastInDim S4096x1024 ![] bcast_S_S4096x1024 (constant S_ .f32 0x3F800000#32)) (tan x2 x3 x4))))

include h1 h2 h3 h4 h5 h6 in
theorem dTan_at : Mat (M := 4096) (N := 1024) (dTan x1 x2 x3 x4 x5 x6) (fun a b => dTh (skip y u s a b) (dAct d u y s A B a b)) := by
  intro a b
  unfold dTan
  clean_types
  pointwise
  simp only [(z_at x2 x3 x4 h2 h3 h4).e, (dActR_at x1 x2 x3 x4 x5 x6 h1 h2 h3 h4 h5 h6).e, (tan_at x2 x3 x4 h2 h3 h4).e]
  rfl

/-- The gradient before the activation. -/
def dPreR : FVec Ideal S4096x1024 .f32 :=
  addf (addf (mulf (dActR x1 x2 x3 x4 x5 x6) (fac x2 x3 x4)) (dTan x1 x2 x3 x4 x5 x6)) (mulf (mulf (broadcastInDim S4096x1024 ![] bcast_S_S4096x1024 (constant S_ .f32 0x3D372713#32)) (dTan x1 x2 x3 x4 x5 x6)) (mulf (broadcastInDim S4096x1024 ![] bcast_S_S4096x1024 (constant S_ .f32 0x40400000#32)) (mulf (z x2 x3 x4) (z x2 x3 x4))))

include h1 h2 h3 h4 h5 h6 in
theorem dPreR_at : Mat (M := 4096) (N := 1024) (dPreR x1 x2 x3 x4 x5 x6) (dPre d u y s A B) := by
  intro a b
  unfold dPreR
  clean_types
  pointwise
  simp only [(dActR_at x1 x2 x3 x4 x5 x6 h1 h2 h3 h4 h5 h6).e, (fac_at x2 x3 x4 h2 h3 h4).e, (dTan_at x1 x2 x3 x4 x5 x6 h1 h2 h3 h4 h5 h6).e, (z_at x2 x3 x4 h2 h3 h4).e]
  rfl

/-- The gradient of the recurrence's inputs past it. -/
def dInR : FVec Ideal S4096x1024 .f32 :=
  mulf (broadcastInDim S4096x1024 ![0, 1] bcast_S1x1024_S4096x1024_0_1 (scale x4)) (dPreR x1 x2 x3 x4 x5 x6)

include h1 h2 h3 h4 h5 h6 in
theorem dInR_at : Mat (M := 4096) (N := 1024) (dInR x1 x2 x3 x4 x5 x6) (dIn d u y s A B) := by
  intro a b
  unfold dInR
  clean_types
  pointwise
  simp only [(scale_at x4 h4).e, (dPreR_at x1 x2 x3 x4 x5 x6 h1 h2 h3 h4 h5 h6).e]
  rfl

/-- The gradient of the scales. -/
def dScaleR : FVec Ideal S1x1024 .f32 :=
  broadcastInDim S1x1024 ![1] bcast_S1024_S1x1024_1 (Host.reduceAdd (shapeCast _ (Host.reduceAdd (mulf (dPreR x1 x2 x3 x4 x5 x6) x2) (constant S_ .f32 0x00000000#32) reducesTo_S4096x1024_S1024_d0 h_S_) shapeCasts_S1024_S1x1024) (constant S_ .f32 0x00000000#32) reducesTo_S1x1024_S1024_d0 h_S_)

include h1 h2 h3 h4 h5 h6 in
theorem dScaleR_at : Mat (M := 1) (N := 1024) (dScaleR x1 x2 x3 x4 x5 x6) (fun _ => dScale d u y s A B) := by
  intro a b
  unfold dScaleR
  clean_types
  pointwise
  simp only [(dPreR_at x1 x2 x3 x4 x5 x6 h1 h2 h3 h4 h5 h6).e, h2.e]
  unfold dScale dSkip
  rw [Fin.sum_univ_one, Finset.sum_range]

/-- The gradient of the first weights, in four parts. -/
def dWaR : FVec Ideal S4x256x1024 .f32 :=
  shapeCast _ (transpose S1024x1024 [1, 0] (Host.dotGeneral (φ₁ := .f32) (φ₂ := .f32) dot_S4096x1024_S4096x1024_S1024x1024_0_0_1_1_n_n none (dAR x1 x2 x3 x4 x6) (actR x2 x3 x4)) transposes_S1024x1024_S1024x1024_1_0) shapeCasts_S1024x1024_S4x256x1024

include h1 h2 h3 h4 h6 in
theorem dWaR_at : Mat3 (L := 4) (M := 256) (N := 1024) (dWaR x1 x2 x3 x4 x6) (fun l a b => dWa d u y s B (l * 256 + a) b) := by
  intro l a b
  unfold dWaR
  clean_types
  pointwise
  simp only [(dAR_at x1 x2 x3 x4 x6 h1 h2 h3 h4 h6).e, (actR_at x2 x3 x4 h2 h3 h4).e]
  unfold dWa Tmul
  rw [Finset.sum_range]
  exact Finset.sum_congr rfl fun x _ => mul_comm _ _

/-- The gradient of the second weights, in four parts. -/
def dWbR : FVec Ideal S4x256x1024 .f32 :=
  shapeCast _ (transpose S1024x1024 [1, 0] (Host.dotGeneral (φ₁ := .f32) (φ₂ := .f32) dot_S4096x1024_S4096x1024_S1024x1024_0_0_1_1_n_n none (dBR x1 x2 x3 x4 x5 x6) (actR x2 x3 x4)) transposes_S1024x1024_S1024x1024_1_0) shapeCasts_S1024x1024_S4x256x1024

include h1 h2 h3 h4 h5 h6 in
theorem dWbR_at : Mat3 (L := 4) (M := 256) (N := 1024) (dWbR x1 x2 x3 x4 x5 x6) (fun l a b => dWb d u y s A B (l * 256 + a) b) := by
  intro l a b
  unfold dWbR
  clean_types
  pointwise
  simp only [(dBR_at x1 x2 x3 x4 x5 x6 h1 h2 h3 h4 h5 h6).e, (actR_at x2 x3 x4 h2 h3 h4).e]
  unfold dWb Tmul
  rw [Finset.sum_range]
  exact Finset.sum_congr rfl fun x _ => mul_comm _ _

end Cert.Tail.Ref
-- ==== Proof.GluJoin.lean ====
/- The gated unit's six results are the reference's. -/
module

public import proofs.«01_k».proof.Defs
public import proofs.«01_k».proof.Proof.GluRun
public import proofs.«01_k».proof.Proof.GluChain
public import proofs.«01_k».proof.Proof.GluRef

@[expose] public section

set_option maxRecDepth 16384

noncomputable section

namespace Cert.Tail

open Idealize.ShloMosaic Idealize.ShloMosaic.TcCoe Idealize.SL.Sem Cert.GluIdeal Cert.GluIdeal.Gen Cert.Mlp

/-- The kernel and the reference, from the same arguments, end with the same six arrays. -/
theorem agree : Cert.algebraic_GluIdeal_GluReferenceIdeal := by
  intro m g m' g' _ hargs
  refine ⟨fun c => W5 m g c (Proc.devRef .tc main_v8), fun c => W12 m g c (Proc.devRef .tc main_v16_0), fun c => W12 m g c (Proc.devRef .tc main_v16_1), fun c => W12 m g c (Proc.devRef .tc main_v16_2), fun c => W13 m g c (Proc.devRef .tc main_v17), fun c => W13 m g c (Proc.devRef .tc main_v18),
    results m g, ?_⟩
  refine (θ_run _ _ _).mono (fun r h c => ?_) (Cert.GluReferenceIdeal.Value.run m' g')
  obtain ⟨r0, r1, r2, r3, r4, r5, ra⟩ := h c
  obtain ⟨a0, a1, a2, a3, a4, a5, a6⟩ := hargs c
  obtain ⟨_, hh⟩ := some_mat (M := 4096) (N := 1024) (m ((c.tc : Thread nD τ).loc main_arg0))
  obtain ⟨_, hd⟩ := some_mat (M := 4096) (N := 1024) (m ((c.tc : Thread nD τ).loc main_arg1))
  obtain ⟨_, hu⟩ := some_mat (M := 4096) (N := 1024) (m ((c.tc : Thread nD τ).loc main_arg2))
  obtain ⟨_, hy⟩ := some_mat (M := 4096) (N := 1024) (m ((c.tc : Thread nD τ).loc main_arg3))
  obtain ⟨_, hs⟩ := some_row (N := 1024) (m ((c.tc : Thread nD τ).loc main_arg4))
  obtain ⟨_, hA⟩ := some_mat (M := 1024) (N := 1024) (m ((c.tc : Thread nD τ).loc main_arg5))
  obtain ⟨_, hB⟩ := some_mat (M := 1024) (N := 1024) (m ((c.tc : Thread nD τ).loc main_arg6))
  have i0 := Mat.cast (M := 4096) (N := 1024) a0 hh
  have i1 := Mat.cast (M := 4096) (N := 1024) a1 hd
  have i2 := Mat.cast (M := 4096) (N := 1024) a2 hu
  have i3 := Mat.cast (M := 4096) (N := 1024) a3 hy
  have i4 := Row.cast (N := 1024) a4 hs
  have i5 := Mat.cast (M := 1024) (N := 1024) a5 hA
  have i6 := Mat.cast (M := 1024) (N := 1024) a6 hB
  exact ⟨r0.trans (Mat.ext (Ref.out_at _ _ _ _ _ _ i0 i2 i3 i4 i5 i6) (at_v8 m g c hh hu hy hs hA hB)),
    r1.trans (Mat.ext (Ref.dPreR_at _ _ _ _ _ _ i1 i2 i3 i4 i5 i6) (at_v16_0 m g c hd hu hy hs hA hB)),
    r2.trans (Mat.ext (Ref.dInR_at _ _ _ _ _ _ i1 i2 i3 i4 i5 i6) (at_v16_1 m g c hd hu hy hs hA hB)),
    r3.trans (Mat.ext (Ref.dScaleR_at _ _ _ _ _ _ i1 i2 i3 i4 i5 i6) (at_v16_2 m g c hd hu hy hs hA hB)),
    r4.trans (Mat3.ext (Ref.dWaR_at _ _ _ _ _ i1 i2 i3 i4 i6) (at_v17 m g c hd hu hy hs hA hB)),
    r5.trans (Mat3.ext (Ref.dWbR_at _ _ _ _ _ _ i1 i2 i3 i4 i5 i6) (at_v18 m g c hd hu hy hs hA hB)), ra⟩

end Cert.Tail
-- ==== Proof.XaRun.lean ====
/- What the calls of the cross-attention's projections leave: the run of the whole program, with the result arrays after it. -/
module

public import proofs.«01_k».proof.Proof.Gen.XaIdeal.Frame
public import Idealize.ShloMosaic.Lib.Pipeline.ValueKit

@[expose] public section

set_option maxRecDepth 16384

noncomputable section

namespace Cert.Cross

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.XaIdeal Cert.XaIdeal.Gen

variable (m : (l : Loc nD τ sig) → Buf (Elt Ideal) l) (ρ : Dev nD → PrngReg)

set_option backward.isDefEq.respectTransparency.types false in
/-- Every run ends with the buffers at the contents folded through the calls and the host operations between them. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W15 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h _ => h)

/-- The result arrays after the run, and the arguments as they were. -/
theorem results : θ_run defs (onTc (τ := τ) (main (F := Ideal))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_v9) = W6 m ρ c (Proc.devRef .tc main_v9)
      ∧ r.2.mem ((c.tc : Thread nD τ).loc main_v11) = W8 m ρ c (Proc.devRef .tc main_v11)
      ∧ r.2.mem ((c.tc : Thread nD τ).loc main_v18_0) = W14 m ρ c (Proc.devRef .tc main_v18_0)
      ∧ r.2.mem ((c.tc : Thread nD τ).loc main_v18_1) = W14 m ρ c (Proc.devRef .tc main_v18_1)
      ∧ r.2.mem ((c.tc : Thread nD τ).loc main_v19) = W15 m ρ c (Proc.devRef .tc main_v19)
      ∧ r.2.mem ((c.tc : Thread nD τ).loc main_v20) = W15 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v7 (by decide))).trans ((W15_of m ρ c main_v7 (by decide)).trans ((W14_of m ρ c main_v7 (by decide)).trans ((W13_of m ρ c main_v7 (by decide)).trans ((W12_of m ρ c main_v7 (by decide)).trans ((W11_of m ρ c main_v7 (by decide)).trans ((W10_of m ρ c main_v7 (by decide)).trans ((W9_of m ρ c main_v7 (by decide)).trans ((W8_of m ρ c main_v7 (by decide)).trans ((W7_of m ρ c main_v7 (by decide)).trans ((W6_of m ρ c main_v7 (by decide)).trans (W5_of m ρ c main_v7 (by decide)))))))))))),
     (h c _ (mem_uc main_v9 (by decide))).trans ((W15_of m ρ c main_v9 (by decide)).trans ((W14_of m ρ c main_v9 (by decide)).trans ((W13_of m ρ c main_v9 (by decide)).trans ((W12_of m ρ c main_v9 (by decide)).trans ((W11_of m ρ c main_v9 (by decide)).trans ((W10_of m ρ c main_v9 (by decide)).trans ((W9_of m ρ c main_v9 (by decide)).trans ((W8_of m ρ c main_v9 (by decide)).trans (W7_of m ρ c main_v9 (by decide)))))))))),
     (h c _ (mem_uc main_v11 (by decide))).trans ((W15_of m ρ c main_v11 (by decide)).trans ((W14_of m ρ c main_v11 (by decide)).trans ((W13_of m ρ c main_v11 (by decide)).trans ((W12_of m ρ c main_v11 (by decide)).trans ((W11_of m ρ c main_v11 (by decide)).trans ((W10_of m ρ c main_v11 (by decide)).trans (W9_of m ρ c main_v11 (by decide)))))))),
     (h c _ (mem_uc main_v18_0 (by decide))).trans (W15_of m ρ c main_v18_0 (by decide)),
     (h c _ (mem_uc main_v18_1 (by decide))).trans (W15_of m ρ c main_v18_1 (by decide)),
     h c _ (mem_uc main_v19 (by decide)),
     h c _ (mem_uc main_v20 (by decide)),
     (h c _ (mem_uc main_arg0 (by decide))).trans (W15_args m ρ c main_arg0 (by decide)),
     (h c _ (mem_uc main_arg1 (by decide))).trans (W15_args m ρ c main_arg1 (by decide)),
     (h c _ (mem_uc main_arg2 (by decide))).trans (W15_args m ρ c main_arg2 (by decide)),
     (h c _ (mem_uc main_arg3 (by decide))).trans (W15_args m ρ c main_arg3 (by decide)),
     (h c _ (mem_uc main_arg4 (by decide))).trans (W15_args m ρ c main_arg4 (by decide)),
     (h c _ (mem_uc main_arg5 (by decide))).trans (W15_args m ρ c main_arg5 (by decide)),
     (h c _ (mem_uc main_arg6 (by decide))).trans (W15_args m ρ c main_arg6 (by decide))⟩) (run m ρ)

end Cert.Cross
-- ==== Proof.XaSpec.lean ====
/- The projections around the attention to the memory and their gradients, as functions of the seven arguments. -/
module

public import proofs.«01_k».proof.Proof.FfnMat

@[expose] public section

noncomputable section

namespace Cert.Cross

open Idealize.ShloMosaic Cert.Mlp
open scoped BigOperators

section
variable (h d : ℕ → ℕ → EReal) (g : ℕ → EReal) (Q O p q : ℕ → ℕ → EReal)

/-- The rows after the norm, the queries made of them, and the rows with what the attention gives added. -/
def nrm : ℕ → ℕ → EReal := rms h g
def queryF : ℕ → ℕ → EReal := mul 1024 (nrm h g) Q
def outF (a b : ℕ) : EReal := mul 1024 p O a b + h a b
/-- The gradient of the attention's rows, and at the rows after the norm. -/
def dP : ℕ → ℕ → EReal := mulT 1024 d O
def dNrm : ℕ → ℕ → EReal := mulT 1024 q Q
/-- The gradients of the two weights. -/
def dQ : ℕ → ℕ → EReal := Tmul 4096 (nrm h g) q
def dO : ℕ → ℕ → EReal := Tmul 4096 p d
end

end Cert.Cross
-- ==== Proof.XaHost.lean ====
/- The host operations between the calls of the cross-attention's projections, read at an index. -/
module

public import proofs.«01_k».proof.Proof.Gen.XaIdeal.Launch
public import proofs.«01_k».proof.Proof.XaSpec
public import Idealize.ShloMosaic.Lib.StableHlo.ReadAt

@[expose] public section

set_option maxRecDepth 16384

noncomputable section

namespace Cert.Cross

open Idealize.ShloMosaic Idealize.ShloMosaic.TcCoe Idealize.SL.Sem Cert.XaIdeal Cert.XaIdeal.Gen Cert.Mlp

variable (X : Valuation τ sig (Elt Ideal))

theorem host0_v1 {u : ℕ → ℕ → EReal}
    (h0 : Mat (M := 1024) (N := 1024) (X (Proc.devRef .tc main_arg3)) (u)) :
    Mat3 (L := 1) (M := 1024) (N := 1024) (StableHlo.after hostOps0 X (Proc.devRef .tc main_v1)) (fun _ => u) := by
  intro l a b
  after_reads_at
  simp only [h0.e]

theorem host0_v0 {g : ℕ → EReal}
    (h0 : Row (N := 1024) (X (Proc.devRef .tc main_arg2)) (g)) :
    Mat (M := 1) (N := 1024) (StableHlo.after hostOps0 X (Proc.devRef .tc main_v0)) (fun _ => g) := by
  intro a b
  after_reads_at
  simp only [h0.e]

theorem host0_v2 {u : ℕ → ℕ → EReal}
    (h0 : Mat (M := 1024) (N := 1024) (X (Proc.devRef .tc main_arg4)) (u)) :
    Mat3 (L := 1) (M := 1024) (N := 1024) (StableHlo.after hostOps0 X (Proc.devRef .tc main_v2)) (fun _ => u) := by
  intro l a b
  after_reads_at
  simp only [h0.e]

theorem host0_v4 {g : ℕ → EReal}
    (h0 : Row (N := 1024) (X (Proc.devRef .tc main_arg2)) (g)) :
    Mat (M := 1) (N := 1024) (StableHlo.after hostOps0 X (Proc.devRef .tc main_v4)) (fun _ => g) := by
  intro a b
  after_reads_at
  simp only [h0.e]

theorem host1_v6 {u : ℕ → ℕ → EReal}
    (h0 : Mat3 (L := 1) (M := 1024) (N := 1024) (X (Proc.devRef .tc main_v1)) (fun _ => u)) :
    Mat (M := 1024) (N := 1024) (StableHlo.after hostOps1 X (Proc.devRef .tc main_v6)) (u) := by
  intro a b
  after_reads_at
  simp only [h0.e]

theorem host2_v8 {u : ℕ → ℕ → EReal}
    (h0 : Mat3 (L := 1) (M := 1024) (N := 1024) (X (Proc.devRef .tc main_v2)) (fun _ => u)) :
    Mat (M := 1024) (N := 1024) (StableHlo.after hostOps2 X (Proc.devRef .tc main_v8)) (u) := by
  intro a b
  after_reads_at
  simp only [h0.e]

theorem host3_v10 {u : ℕ → ℕ → EReal}
    (h0 : Mat3 (L := 1) (M := 1024) (N := 1024) (X (Proc.devRef .tc main_v2)) (fun _ => u)) :
    Mat (M := 1024) (N := 1024) (StableHlo.after hostOps3 X (Proc.devRef .tc main_v10)) (u) := by
  intro a b
  after_reads_at
  simp only [h0.e]

theorem host6_v14 {u : ℕ → ℕ → EReal}
    (h0 : Mat3 (L := 1) (M := 1024) (N := 1024) (X (Proc.devRef .tc main_v1)) (fun _ => u)) :
    Mat (M := 1024) (N := 1024) (StableHlo.after hostOps6 X (Proc.devRef .tc main_v14)) (u) := by
  intro a b
  after_reads_at
  simp only [h0.e]

theorem host7_v17 {g : ℕ → EReal}
    (h0 : Mat (M := 1) (N := 1024) (X (Proc.devRef .tc main_v0)) (fun _ => g)) :
    Mat (M := 1) (N := 1024) (StableHlo.after hostOps7 X (Proc.devRef .tc main_v17)) (fun _ => g) := by
  intro a b
  after_reads_at
  simp only [h0.e]

theorem host8_v19 {u : ℕ → ℕ → EReal}
    (h0 : Mat (M := 1024) (N := 1024) (X (Proc.devRef .tc main_v13)) (u)) :
    Mat3 (L := 4) (M := 256) (N := 1024) (StableHlo.after hostOps8 X (Proc.devRef .tc main_v19)) (fun l a b => u (l * 256 + a) b) := by
  intro l a b
  after_reads_at
  simp only [h0.e]

theorem host8_v20 {u : ℕ → ℕ → EReal}
    (h0 : Mat (M := 1024) (N := 1024) (X (Proc.devRef .tc main_v12)) (u)) :
    Mat3 (L := 4) (M := 256) (N := 1024) (StableHlo.after hostOps8 X (Proc.devRef .tc main_v20)) (fun l a b => u (l * 256 + a) b) := by
  intro l a b
  after_reads_at
  simp only [h0.e]

end Cert.Cross
-- ==== Proof.XaBlk.lean ====
/- Where the blocks of the calls of the cross-attention's projections lie, and what they hold of the arrays. -/
module

public import proofs.«01_k».proof.Proof.Gen.XaIdeal.Frame
public import Idealize.ShloMosaic.Lib.Pipeline.ValueKit
public import proofs.«01_k».proof.Proof.FfnMat

@[expose] public section

set_option maxRecDepth 16384

noncomputable section

namespace Cert.Cross

open Idealize.ShloMosaic Idealize.ShloMosaic.TcCoe Idealize.SL.Sem Cert.XaIdeal Cert.XaIdeal.Gen Cert.Mlp

/-! ## The index maps -/

theorem at0_0 : ∀ t : Fin grid0.N, win0_0.index t = ![t.val, 0] := by decide +kernel
theorem at0_1 : ∀ t : Fin grid0.N, win0_1.index t = ![0, 0] := by decide +kernel
theorem at0_2 : ∀ t : Fin grid0.N, win0_2.index t = ![t.val, 0] := by decide +kernel
theorem at1_0 : ∀ t : Fin grid1.N, win1_0.index t = ![t.val, 0] := by decide +kernel
theorem at1_1 : ∀ t : Fin grid1.N, win1_1.index t = ![0, 0] := by decide +kernel
theorem at1_2 : ∀ t : Fin grid1.N, win1_2.index t = ![t.val, 0] := by decide +kernel
theorem at2_0 : ∀ t : Fin grid2.N, win2_0.index t = ![t.val, 0] := by decide +kernel
theorem at2_1 : ∀ t : Fin grid2.N, win2_1.index t = ![0, 0] := by decide +kernel
theorem at2_2 : ∀ t : Fin grid2.N, win2_2.index t = ![t.val, 0] := by decide +kernel
theorem at2_3 : ∀ t : Fin grid2.N, win2_3.index t = ![t.val, 0] := by decide +kernel
theorem at3_0 : ∀ t : Fin grid3.N, win3_0.index t = ![t.val, 0] := by decide +kernel
theorem at3_1 : ∀ t : Fin grid3.N, win3_1.index t = ![0, 0] := by decide +kernel
theorem at3_2 : ∀ t : Fin grid3.N, win3_2.index t = ![t.val, 0] := by decide +kernel
theorem at4_0 : ∀ t : Fin grid4.N, win4_0.index t = ![t.val, 0] := by decide +kernel
theorem at4_1 : ∀ t : Fin grid4.N, win4_1.index t = ![t.val, 0] := by decide +kernel
theorem at4_2 : ∀ t : Fin grid4.N, win4_2.index t = ![0, 0] := by decide +kernel
theorem at5_0 : ∀ t : Fin grid5.N, win5_0.index t = ![t.val, 0] := by decide +kernel
theorem at5_1 : ∀ t : Fin grid5.N, win5_1.index t = ![t.val, 0] := by decide +kernel
theorem at5_2 : ∀ t : Fin grid5.N, win5_2.index t = ![0, 0] := by decide +kernel
theorem at6_0 : ∀ t : Fin grid6.N, win6_0.index t = ![t.val, 0] := by decide +kernel
theorem at6_1 : ∀ t : Fin grid6.N, win6_1.index t = ![0, 0] := by decide +kernel
theorem at6_2 : ∀ t : Fin grid6.N, win6_2.index t = ![t.val, 0] := by decide +kernel
theorem at7_0 : ∀ t : Fin grid7.N, win7_0.index t = ![t.val, 0] := by decide +kernel
theorem at7_1 : ∀ t : Fin grid7.N, win7_1.index t = ![0, 0] := by decide +kernel
theorem at7_2 : ∀ t : Fin grid7.N, win7_2.index t = ![t.val, 0] := by decide +kernel
theorem at7_3 : ∀ t : Fin grid7.N, win7_3.index t = ![t.val, 0] := by decide +kernel
theorem at7_4 : ∀ t : Fin grid7.N, win7_4.index t = ![t.val, 0] := by decide +kernel
theorem at7_5 : ∀ t : Fin grid7.N, win7_5.index t = ![0, 0] := by decide +kernel

variable (V : (c : Dev nD) → (b : Ref sig .tc) → Buf (Elt Ideal) ((c : Thread nD τ).loc b)) (c : Dev nD)

/-! ## The blocks of the operands -/

section
variable {f : ℕ → ℕ → EReal}

theorem blk0_0 (h : Mat (M := 4096) (N := 1024) (V c main_arg0) f) (t : Fin grid0.N) :
    Mat (M := 512) (N := 1024) (iblk0 V c 0 t) (fun a b => f (t.val * 512 + a) b) := by
  intro a b
  blk_simp [iblk0]
  refine (h.at _).trans ?_
  blk_simp [at0_0 t]

theorem blk0_1 (h : Mat (M := 1) (N := 1024) (V c main_v4) f) (t : Fin grid0.N) :
    Mat (M := 1) (N := 1024) (iblk0 V c 1 t) f := by
  intro a b
  blk_simp [iblk0]
  refine (h.at _).trans ?_
  blk_simp [at0_1 t]

theorem blk1_0 (h : Mat (M := 4096) (N := 1024) (V c main_v5) f) (t : Fin grid1.N) :
    Mat (M := 512) (N := 1024) (iblk1 V c 0 t) (fun a b => f (t.val * 512 + a) b) := by
  intro a b
  blk_simp [iblk1]
  refine (h.at _).trans ?_
  blk_simp [at1_0 t]

theorem blk1_1 (h : Mat (M := 1024) (N := 1024) (V c main_v6) f) (t : Fin grid1.N) :
    Mat (M := 1024) (N := 1024) (iblk1 V c 1 t) f := by
  intro a b
  blk_simp [iblk1]
  refine (h.at _).trans ?_
  blk_simp [at1_1 t]

theorem blk2_0 (h : Mat (M := 4096) (N := 1024) (V c main_arg5) f) (t : Fin grid2.N) :
    Mat (M := 512) (N := 1024) (iblk2 V c 0 t) (fun a b => f (t.val * 512 + a) b) := by
  intro a b
  blk_simp [iblk2]
  refine (h.at _).trans ?_
  blk_simp [at2_0 t]

theorem blk2_1 (h : Mat (M := 1024) (N := 1024) (V c main_v8) f) (t : Fin grid2.N) :
    Mat (M := 1024) (N := 1024) (iblk2 V c 1 t) f := by
  intro a b
  blk_simp [iblk2]
  refine (h.at _).trans ?_
  blk_simp [at2_1 t]

theorem blk2_2 (h : Mat (M := 4096) (N := 1024) (V c main_arg0) f) (t : Fin grid2.N) :
    Mat (M := 512) (N := 1024) (iblk2 V c 2 t) (fun a b => f (t.val * 512 + a) b) := by
  intro a b
  blk_simp [iblk2]
  refine (h.at _).trans ?_
  blk_simp [at2_2 t]

theorem blk3_0 (h : Mat (M := 4096) (N := 1024) (V c main_arg1) f) (t : Fin grid3.N) :
    Mat (M := 512) (N := 1024) (iblk3 V c 0 t) (fun a b => f (t.val * 512 + a) b) := by
  intro a b
  blk_simp [iblk3]
  refine (h.at _).trans ?_
  blk_simp [at3_0 t]

theorem blk3_1 (h : Mat (M := 1024) (N := 1024) (V c main_v10) f) (t : Fin grid3.N) :
    Mat (M := 1024) (N := 1024) (iblk3 V c 1 t) f := by
  intro a b
  blk_simp [iblk3]
  refine (h.at _).trans ?_
  blk_simp [at3_1 t]

theorem blk4_0 (h : Mat (M := 4096) (N := 1024) (V c main_arg5) f) (t : Fin grid4.N) :
    Mat (M := 1024) (N := 1024) (iblk4 V c 0 t) (fun a b => f (t.val * 1024 + a) b) := by
  intro a b
  blk_simp [iblk4]
  refine (h.at _).trans ?_
  blk_simp [at4_0 t]

theorem blk4_1 (h : Mat (M := 4096) (N := 1024) (V c main_arg1) f) (t : Fin grid4.N) :
    Mat (M := 1024) (N := 1024) (iblk4 V c 1 t) (fun a b => f (t.val * 1024 + a) b) := by
  intro a b
  blk_simp [iblk4]
  refine (h.at _).trans ?_
  blk_simp [at4_1 t]

theorem blk5_0 (h : Mat (M := 4096) (N := 1024) (V c main_v5) f) (t : Fin grid5.N) :
    Mat (M := 1024) (N := 1024) (iblk5 V c 0 t) (fun a b => f (t.val * 1024 + a) b) := by
  intro a b
  blk_simp [iblk5]
  refine (h.at _).trans ?_
  blk_simp [at5_0 t]

theorem blk5_1 (h : Mat (M := 4096) (N := 1024) (V c main_arg6) f) (t : Fin grid5.N) :
    Mat (M := 1024) (N := 1024) (iblk5 V c 1 t) (fun a b => f (t.val * 1024 + a) b) := by
  intro a b
  blk_simp [iblk5]
  refine (h.at _).trans ?_
  blk_simp [at5_1 t]

theorem blk6_0 (h : Mat (M := 4096) (N := 1024) (V c main_arg6) f) (t : Fin grid6.N) :
    Mat (M := 512) (N := 1024) (iblk6 V c 0 t) (fun a b => f (t.val * 512 + a) b) := by
  intro a b
  blk_simp [iblk6]
  refine (h.at _).trans ?_
  blk_simp [at6_0 t]

theorem blk6_1 (h : Mat (M := 1024) (N := 1024) (V c main_v14) f) (t : Fin grid6.N) :
    Mat (M := 1024) (N := 1024) (iblk6 V c 1 t) f := by
  intro a b
  blk_simp [iblk6]
  refine (h.at _).trans ?_
  blk_simp [at6_1 t]

theorem blk7_0 (h : Mat (M := 4096) (N := 1024) (V c main_arg0) f) (t : Fin grid7.N) :
    Mat (M := 512) (N := 1024) (iblk7 V c 0 t) (fun a b => f (t.val * 512 + a) b) := by
  intro a b
  blk_simp [iblk7]
  refine (h.at _).trans ?_
  blk_simp [at7_0 t]

theorem blk7_1 (h : Mat (M := 1) (N := 1024) (V c main_v17) f) (t : Fin grid7.N) :
    Mat (M := 1) (N := 1024) (iblk7 V c 1 t) f := by
  intro a b
  blk_simp [iblk7]
  refine (h.at _).trans ?_
  blk_simp [at7_1 t]

theorem blk7_2 (h : Mat (M := 4096) (N := 1024) (V c main_v15) f) (t : Fin grid7.N) :
    Mat (M := 512) (N := 1024) (iblk7 V c 2 t) (fun a b => f (t.val * 512 + a) b) := by
  intro a b
  blk_simp [iblk7]
  refine (h.at _).trans ?_
  blk_simp [at7_2 t]

theorem blk7_3 (h : Mat (M := 4096) (N := 1024) (V c main_arg1) f) (t : Fin grid7.N) :
    Mat (M := 512) (N := 1024) (iblk7 V c 3 t) (fun a b => f (t.val * 512 + a) b) := by
  intro a b
  blk_simp [iblk7]
  refine (h.at _).trans ?_
  blk_simp [at7_3 t]

end

end Cert.Cross
-- ==== Proof.XaPay.lean ====
/- The calls of the cross-attention's projections: what one step computes, at an index. -/
module

public import proofs.«01_k».proof.Proof.Gen.XaIdeal.Skeleton
public import Idealize.ShloMosaic.Lib.Pointwise
public import Idealize.ShloMosaic.Lib.KernelVsHost
public import Idealize.ShloMosaic.Lib.Pipeline.ValueKit
public import proofs.«01_k».proof.Proof.FfnMat

@[expose] public section

set_option maxRecDepth 16384

noncomputable section

namespace Cert.Cross

open Idealize.ShloMosaic Idealize.SL.Sem Cert.XaIdeal Cert.XaIdeal.Gen Cert.Mlp
open scoped BigOperators

/-! ## The norm, the products -/

section
variable {f g h : ℕ → ℕ → EReal}

theorem k0_pay1_mat {v0 : Vec Ideal S512x1024 .f32} {v1 : Vec Ideal S1x1024 .f32} {g : ℕ → EReal} (h0 : Mat (M := 512) (N := 1024) v0 f)
    (h1 : Mat (M := 1) (N := 1024) v1 fun _ => g) : Mat (M := 512) (N := 1024) (k0_pay1 v0 v1) (rms f g) := fun a b => by
  pointwise [k0_pay1]
  simp only [h0.e, h1.e]
  unfold rms unit meanSq
  rw [Finset.sum_range]

theorem k1_pay1_mat {v0 : Vec Ideal S512x1024 .bf16} {v1 : Vec Ideal S1024x1024 .bf16} (h0 : Mat (M := 512) (N := 1024) v0 f)
    (h1 : Mat (M := 1024) (N := 1024) v1 g) :
    Mat (M := 512) (N := 1024) (k1_pay1 v0 v1) (mul 1024 f g) := fun a b => by
  pointwise [k1_pay1]
  simp only [h0.e, h1.e]
  exact (Finset.sum_range fun k => f a k * g k b).symm

theorem k2_pay1_mat {v0 : Vec Ideal S512x1024 .bf16} {v1 : Vec Ideal S1024x1024 .bf16} {v2 : Vec Ideal S512x1024 .f32} (h0 : Mat (M := 512) (N := 1024) v0 f)
    (h1 : Mat (M := 1024) (N := 1024) v1 g) (h2 : Mat (M := 512) (N := 1024) v2 h) :
    Mat (M := 512) (N := 1024) (k2_pay1 v0 v1 v2) (fun a b => mul 1024 f g a b + h a b) := fun a b => by
  pointwise [k2_pay1]
  simp only [h0.e, h1.e, h2.e]
  exact congrArg (· + h a b) (Finset.sum_range fun k => f a k * g k b).symm

theorem k3_pay1_mat {v0 : Vec Ideal S512x1024 .f32} {v1 : Vec Ideal S1024x1024 .bf16} (h0 : Mat (M := 512) (N := 1024) v0 f)
    (h1 : Mat (M := 1024) (N := 1024) v1 g) :
    Mat (M := 512) (N := 1024) (k3_pay1 v0 v1) (mulT 1024 f g) := fun a b => by
  pointwise [k3_pay1]
  simp only [h0.e, h1.e]
  exact (Finset.sum_range fun k => f a k * g b k).symm

theorem k4_pay1_mat : Mat (M := 1024) (N := 1024) (k4_pay1 (F := Ideal)) fun _ _ => 0 := fun a b => by
  pointwise [k4_pay1]

theorem k4_pay2_mat {v0 : Vec Ideal S1024x1024 .bf16} {v1 : Vec Ideal S1024x1024 .f32} {v2 : Vec Ideal S1024x1024 .f32} (h0 : Mat (M := 1024) (N := 1024) v0 f)
    (h1 : Mat (M := 1024) (N := 1024) v1 g) (h2 : Mat (M := 1024) (N := 1024) v2 h) :
    Mat (M := 1024) (N := 1024) (k4_pay2 v0 v1 v2) (fun a b => h a b + Tmul 1024 f g a b) := fun a b => by
  pointwise [k4_pay2]
  simp only [h0.e, h1.e, h2.e]
  exact congrArg (h a b + ·) (Finset.sum_range fun k => f k a * g k b).symm

theorem k5_pay1_mat : Mat (M := 1024) (N := 1024) (k5_pay1 (F := Ideal)) fun _ _ => 0 := fun a b => by
  pointwise [k5_pay1]

theorem k5_pay2_mat {v0 : Vec Ideal S1024x1024 .bf16} {v1 : Vec Ideal S1024x1024 .f32} {v2 : Vec Ideal S1024x1024 .f32} (h0 : Mat (M := 1024) (N := 1024) v0 f)
    (h1 : Mat (M := 1024) (N := 1024) v1 g) (h2 : Mat (M := 1024) (N := 1024) v2 h) :
    Mat (M := 1024) (N := 1024) (k5_pay2 v0 v1 v2) (fun a b => h a b + Tmul 1024 f g a b) := fun a b => by
  pointwise [k5_pay2]
  simp only [h0.e, h1.e, h2.e]
  exact congrArg (h a b + ·) (Finset.sum_range fun k => f k a * g k b).symm

theorem k6_pay1_mat {v0 : Vec Ideal S512x1024 .f32} {v1 : Vec Ideal S1024x1024 .bf16} (h0 : Mat (M := 512) (N := 1024) v0 f)
    (h1 : Mat (M := 1024) (N := 1024) v1 g) :
    Mat (M := 512) (N := 1024) (k6_pay1 v0 v1) (mulT 1024 f g) := fun a b => by
  pointwise [k6_pay1]
  simp only [h0.e, h1.e]
  exact (Finset.sum_range fun k => f a k * g b k).symm

end

/-! ## The norm's gradient -/

section
variable {f d e : ℕ → ℕ → EReal} {g : ℕ → EReal} {v0 v16 v38 : Vec Ideal S512x1024 .f32} {v1 : Vec Ideal S1x1024 .f32}
  (h0 : Mat (M := 512) (N := 1024) v0 f) (h16 : Mat (M := 512) (N := 1024) v16 d)

include h0 in
theorem k7_pay3_mat : Mat (M := 512) (N := 1) (k7_pay3 v0) fun a _ => meanSq f a := fun a b => by
  obtain rfl : b = 0 := Subsingleton.elim _ _
  pointwise [k7_pay3]
  simp only [h0.e]
  unfold meanSq
  rw [Finset.sum_range]

include h0 h16 in
theorem k7_pay6_mat : Mat (M := 1) (N := 1024) (k7_pay6 v0 v16) fun _ => dGain 512 f d := fun a b => by
  obtain rfl : a = 0 := Subsingleton.elim _ _
  pointwise [k7_pay6, k7_pay5, k7_pay4]
  simp only [h0.e, h16.e, (k7_pay3_mat h0).e]
  unfold dGain unit
  rw [Finset.sum_range]

include h0 h16 in
theorem k7_pay7_mat (h1 : Mat (M := 1) (N := 1024) v1 fun _ => g) (h38 : Mat (M := 512) (N := 1024) v38 e) :
    Mat (M := 512) (N := 1024) (k7_pay7 v0 v1 v16 v38) (dRms f g d e) := fun a b => by
  pointwise [k7_pay7, k7_pay5, k7_pay4]
  simp only [h0.e, h1.e, h16.e, h38.e, (k7_pay3_mat h0).e, Finset.sum_const, Finset.card_univ, Fintype.card_fin, one_smul]
  unfold dRms dMean
  rw [Finset.sum_range]

theorem k7_pay1_mat : Mat (M := 1) (N := 1024) (k7_pay1 (F := Ideal)) fun _ _ => 0 := fun a b => by
  obtain rfl : a = 0 := Subsingleton.elim _ _
  pointwise [k7_pay1]

theorem k7_pay2_mat {v20 v44 : FVec Ideal S1x1024 .f32} {p q : ℕ → EReal} (hp : Mat (M := 1) (N := 1024) v20 fun _ => p)
    (hq : Mat (M := 1) (N := 1024) v44 fun _ => q) : Mat (M := 1) (N := 1024) (k7_pay2 v20 v44) fun _ b => q b + p b := fun a b => by
  obtain rfl : a = 0 := Subsingleton.elim _ _
  pointwise [k7_pay2]
  simp only [hp.e, hq.e]

end

end Cert.Cross
-- ==== Proof.XaCall.lean ====
/- The arrays the norm's call and the products' calls leave. -/
module

public import proofs.«01_k».proof.Proof.XaBlk
public import proofs.«01_k».proof.Proof.XaPay

@[expose] public section

set_option maxRecDepth 16384

noncomputable section

namespace Cert.Cross

open Idealize.ShloMosaic Idealize.ShloMosaic.TcCoe Idealize.SL.Sem Cert.XaIdeal Cert.XaIdeal.Gen Cert.Mlp

variable (V : (c : Dev nD) → (b : Ref sig .tc) → Buf (Elt Ideal) ((c : Thread nD τ).loc b)) (c : Dev nD)
variable {f g h : ℕ → ℕ → EReal}

theorem call0 (h0 : Mat (M := 4096) (N := 1024) (V c main_arg0) f) (h1 : Mat (M := 1) (N := 1024) (V c main_v4) fun _ => g 0) :
    Mat (M := 4096) (N := 1024) ((dat0 V c).arrAt 2 cfg0.N) (rms f (g 0)) := by
  refine Mat.of ((dat0 V c).arrAt_eq_of_covers 2 _ (by decide +kernel) fun t hf y => ?_)
  blk_simp
  rw [after0_2]
  frame_out
  refine ((k0_pay1_mat (blk0_0 V c h0 t) (blk0_1 V c h1 t)).at y).trans ?_
  blk_simp [at0_2 t]
  rfl

theorem call1 (h0 : Mat (M := 4096) (N := 1024) (V c main_v5) f) (h1 : Mat (M := 1024) (N := 1024) (V c main_v6) g) :
    Mat (M := 4096) (N := 1024) ((dat1 V c).arrAt 2 cfg1.N) (mul 1024 f g) := by
  refine Mat.of ((dat1 V c).arrAt_eq_of_covers 2 _ (by decide +kernel) fun t hf y => ?_)
  blk_simp
  rw [after1_2]
  frame_out
  refine ((k1_pay1_mat (blk1_0 V c h0 t) (blk1_1 V c h1 t)).at y).trans ?_
  blk_simp [at1_2 t]
  rfl

theorem call2 (h0 : Mat (M := 4096) (N := 1024) (V c main_arg5) f) (h1 : Mat (M := 1024) (N := 1024) (V c main_v8) g) (h2 : Mat (M := 4096) (N := 1024) (V c main_arg0) h) :
    Mat (M := 4096) (N := 1024) ((dat2 V c).arrAt 3 cfg2.N) (fun a b => mul 1024 f g a b + h a b) := by
  refine Mat.of ((dat2 V c).arrAt_eq_of_covers 3 _ (by decide +kernel) fun t hf y => ?_)
  blk_simp
  rw [after2_3]
  frame_out
  refine ((k2_pay1_mat (blk2_0 V c h0 t) (blk2_1 V c h1 t) (blk2_2 V c h2 t)).at y).trans ?_
  blk_simp [at2_3 t]
  rfl

theorem call3 (h0 : Mat (M := 4096) (N := 1024) (V c main_arg1) f) (h1 : Mat (M := 1024) (N := 1024) (V c main_v10) g) :
    Mat (M := 4096) (N := 1024) ((dat3 V c).arrAt 2 cfg3.N) (mulT 1024 f g) := by
  refine Mat.of ((dat3 V c).arrAt_eq_of_covers 2 _ (by decide +kernel) fun t hf y => ?_)
  blk_simp
  rw [after3_2]
  frame_out
  refine ((k3_pay1_mat (blk3_0 V c h0 t) (blk3_1 V c h1 t)).at y).trans ?_
  blk_simp [at3_2 t]
  rfl

theorem call6 (h0 : Mat (M := 4096) (N := 1024) (V c main_arg6) f) (h1 : Mat (M := 1024) (N := 1024) (V c main_v14) g) :
    Mat (M := 4096) (N := 1024) ((dat6 V c).arrAt 2 cfg6.N) (mulT 1024 f g) := by
  refine Mat.of ((dat6 V c).arrAt_eq_of_covers 2 _ (by decide +kernel) fun t hf y => ?_)
  blk_simp
  rw [after6_2]
  frame_out
  refine ((k6_pay1_mat (blk6_0 V c h0 t) (blk6_1 V c h1 t)).at y).trans ?_
  blk_simp [at6_2 t]
  rfl

end Cert.Cross
-- ==== Proof.XaAcc.lean ====
/- The arrays the calls leave that add up over their points. -/
module

public import proofs.«01_k».proof.Proof.XaBlk
public import proofs.«01_k».proof.Proof.XaPay

@[expose] public section

set_option maxRecDepth 16384

noncomputable section

namespace Cert.Cross

open Idealize.ShloMosaic Idealize.ShloMosaic.TcCoe Idealize.SL.Sem Cert.XaIdeal Cert.XaIdeal.Gen Cert.Mlp

variable (V : (c : Dev nD) → (b : Ref sig .tc) → Buf (Elt Ideal) ((c : Thread nD τ).loc b)) (c : Dev nD)
variable {f g h e : ℕ → ℕ → EReal}

/-! ## The gradient of the output weights -/

section
variable (h0 : Mat (M := 4096) (N := 1024) (V c main_arg5) f) (h1 : Mat (M := 4096) (N := 1024) (V c main_arg1) g)

include h0 h1 in
theorem acc4 (n : ℕ) : ∀ hn : n < cfg4.N, Mat (M := 1024) (N := 1024) (outsAt4 V c n hn) (Tmul ((n % 4 + 1) * 1024) f g) := by
  induction n using Nat.strong_induction_on with
  | _ n ih =>
    intro hn a b
    have hN : n < 4 := lt_of_lt_of_eq hn N_4
    by_cases hz : n % 4 = 0
    · refine (congrFun (outsAt4_A V c ⟨n, hn⟩ hz) (ix2 a b)).trans ?_
      frame_out
      refine (k4_pay2_mat (blk4_0 V c h0 ⟨n, hn⟩) (blk4_1 V c h1 ⟨n, hn⟩) k4_pay1_mat a b).trans ?_
      obtain rfl : n = 0 := by omega
      exact Tmul_first f g hz a b
    · refine (congrFun (outsAt4_B V c ⟨n, hn⟩ hz) (ix2 a b)).trans ?_
      frame_out
      refine (k4_pay2_mat (blk4_0 V c h0 ⟨n, hn⟩) (blk4_1 V c h1 ⟨n, hn⟩) (ih (n - 1) (by omega) (by omega)) a b).trans ?_
      exact Tmul_step f g hz (show n * 1024 = n % 4 * 1024 by omega) a b

include h0 h1 in
theorem call4 : Mat (M := 1024) (N := 1024) ((dat4 V c).arrAt 2 cfg4.N) (Tmul 4096 f g) := by
  refine Mat.of ((dat4 V c).arrAt_eq_of_covers 2 _ (by decide +kernel) fun t hf y => ?_)
  have hl := (flush4_2 t).mp hf
  blk_simp
  rw [after4_2]
  refine ((acc4 V c h0 h1 t.val t.isLt).at y).trans ?_
  blk_simp [at4_2 t]
  rw [hl]

end

/-! ## The gradient of the queries' weights -/

section
variable (h0 : Mat (M := 4096) (N := 1024) (V c main_v5) f) (h1 : Mat (M := 4096) (N := 1024) (V c main_arg6) g)

include h0 h1 in
theorem acc5 (n : ℕ) : ∀ hn : n < cfg5.N, Mat (M := 1024) (N := 1024) (outsAt5 V c n hn) (Tmul ((n % 4 + 1) * 1024) f g) := by
  induction n using Nat.strong_induction_on with
  | _ n ih =>
    intro hn a b
    have hN : n < 4 := lt_of_lt_of_eq hn N_5
    by_cases hz : n % 4 = 0
    · refine (congrFun (outsAt5_A V c ⟨n, hn⟩ hz) (ix2 a b)).trans ?_
      frame_out
      refine (k5_pay2_mat (blk5_0 V c h0 ⟨n, hn⟩) (blk5_1 V c h1 ⟨n, hn⟩) k5_pay1_mat a b).trans ?_
      obtain rfl : n = 0 := by omega
      exact Tmul_first f g hz a b
    · refine (congrFun (outsAt5_B V c ⟨n, hn⟩ hz) (ix2 a b)).trans ?_
      frame_out
      refine (k5_pay2_mat (blk5_0 V c h0 ⟨n, hn⟩) (blk5_1 V c h1 ⟨n, hn⟩) (ih (n - 1) (by omega) (by omega)) a b).trans ?_
      exact Tmul_step f g hz (show n * 1024 = n % 4 * 1024 by omega) a b

include h0 h1 in
theorem call5 : Mat (M := 1024) (N := 1024) ((dat5 V c).arrAt 2 cfg5.N) (Tmul 4096 f g) := by
  refine Mat.of ((dat5 V c).arrAt_eq_of_covers 2 _ (by decide +kernel) fun t hf y => ?_)
  have hl := (flush5_2 t).mp hf
  blk_simp
  rw [after5_2]
  refine ((acc5 V c h0 h1 t.val t.isLt).at y).trans ?_
  blk_simp [at5_2 t]
  rw [hl]

end

/-! ## The gradient of the norm -/

section
variable {g : ℕ → EReal} {d : ℕ → ℕ → EReal}
variable (h0 : Mat (M := 4096) (N := 1024) (V c main_arg0) h) (h1 : Mat (M := 1) (N := 1024) (V c main_v17) fun _ => g)
  (h2 : Mat (M := 4096) (N := 1024) (V c main_v15) d) (h3 : Mat (M := 4096) (N := 1024) (V c main_arg1) e)

include h0 h1 h2 h3 in
theorem row7 (t : Fin cfg7.N) : Mat (M := 512) (N := 1024) (outsAt7 V c t.val t.isLt).1
    (dRms (fun a b => h (t.val * 512 + a) b) g (fun a b => d (t.val * 512 + a) b) (fun a b => e (t.val * 512 + a) b)) := by
  intro a b
  by_cases hz : t.val % 8 = 0
  · rw [outsAt7_A V c t hz]
    frame_out
    exact k7_pay7_mat (blk7_0 V c h0 t) (blk7_2 V c h2 t) (blk7_1 V c h1 t) (blk7_3 V c h3 t) a b
  · rw [outsAt7_B V c t hz]
    frame_out
    exact k7_pay7_mat (blk7_0 V c h0 t) (blk7_2 V c h2 t) (blk7_1 V c h1 t) (blk7_3 V c h3 t) a b

include h0 h1 h2 h3 in
theorem call7_4 : Mat (M := 4096) (N := 1024) ((dat7 V c).arrAt 4 cfg7.N) (dRms h g d e) := by
  refine Mat.of ((dat7 V c).arrAt_eq_of_covers 4 _ (by decide +kernel) fun t hf y => ?_)
  blk_simp
  rw [after7_4]
  refine ((row7 V c h0 h1 h2 h3 t).at y).trans ?_
  blk_simp [at7_4 t]
  rfl

include h0 h2 in
theorem acc7 (n : ℕ) : ∀ hn : n < cfg7.N, Mat (M := 1) (N := 1024) (outsAt7 V c n hn).2 (fun _ => dGain ((n % 8 + 1) * 512) h d) := by
  induction n using Nat.strong_induction_on with
  | _ n ih =>
    intro hn a b
    have hN : n < 8 := lt_of_lt_of_eq hn N_7
    by_cases hz : n % 8 = 0
    · refine (congrFun (congrArg Prod.snd (outsAt7_A V c ⟨n, hn⟩ hz)) (ix2 a b)).trans ?_
      frame_out
      refine (k7_pay2_mat (k7_pay6_mat (blk7_0 V c h0 ⟨n, hn⟩) (blk7_2 V c h2 ⟨n, hn⟩)) k7_pay1_mat a b).trans ?_
      obtain rfl : n = 0 := by omega
      show 0 + dGain 512 (fun a b => h (0 * 512 + a) b) (fun a b => d (0 * 512 + a) b) b = dGain ((0 % 8 + 1) * 512) h d b
      rw [zero_add]
      simp only [Nat.zero_mul, Nat.zero_add, Nat.zero_mod, Nat.one_mul]
    · refine (congrFun (congrArg Prod.snd (outsAt7_B V c ⟨n, hn⟩ hz)) (ix2 a b)).trans ?_
      frame_out
      refine (k7_pay2_mat (k7_pay6_mat (blk7_0 V c h0 ⟨n, hn⟩) (blk7_2 V c h2 ⟨n, hn⟩)) (ih (n - 1) (by omega) (by omega)) a b).trans ?_
      show dGain (((n - 1) % 8 + 1) * 512) h d b + dGain 512 (fun r => h (n * 512 + r)) (fun r => d (n * 512 + r)) b = _
      rw [show ((n - 1) % 8 + 1) * 512 = n * 512 by omega, ← dGain_add, show n * 512 + 512 = (n % 8 + 1) * 512 by omega]

include h0 h2 in
theorem call7_5 : Mat (M := 1) (N := 1024) ((dat7 V c).arrAt 5 cfg7.N) (fun _ => dGain 4096 h d) := by
  refine Mat.of ((dat7 V c).arrAt_eq_of_covers 5 _ (by decide +kernel) fun t hf y => ?_)
  have hl := (flush7_5 t).mp hf
  blk_simp
  rw [after7_5]
  refine ((acc7 V c h0 h2 t.val t.isLt).at y).trans ?_
  blk_simp [at7_5 t]
  rw [hl]

end

end Cert.Cross
-- ==== Proof.XaChain.lean ====
/- What each buffer of the cross-attention's projections holds, call after call: from the arguments to the seven results. -/
module

public import proofs.«01_k».proof.Proof.XaSpec
public import proofs.«01_k».proof.Proof.XaHost
public import proofs.«01_k».proof.Proof.XaCall
public import proofs.«01_k».proof.Proof.XaAcc
public import proofs.«01_k».proof.Proof.Gen.XaIdeal.Frame

@[expose] public section

set_option maxRecDepth 16384

noncomputable section

namespace Cert.Cross

open Idealize.ShloMosaic Idealize.ShloMosaic.TcCoe Idealize.SL.Sem Cert.XaIdeal Cert.XaIdeal.Gen Cert.Mlp

section
variable (m : (l : Loc nD τ sig) → Buf (Elt Ideal) l) (ρ : Dev nD → PrngReg) (c : Dev nD)
variable {h d : ℕ → ℕ → EReal} {g : ℕ → EReal} {Q O p q : ℕ → ℕ → EReal}
  (hh : Mat (M := 4096) (N := 1024) (m ((c.tc : Thread nD τ).loc main_arg0)) (h))
  (hd : Mat (M := 4096) (N := 1024) (m ((c.tc : Thread nD τ).loc main_arg1)) (d))
  (hg : Row (N := 1024) (m ((c.tc : Thread nD τ).loc main_arg2)) (g))
  (hQ : Mat (M := 1024) (N := 1024) (m ((c.tc : Thread nD τ).loc main_arg3)) (Q))
  (hO : Mat (M := 1024) (N := 1024) (m ((c.tc : Thread nD τ).loc main_arg4)) (O))
  (hp : Mat (M := 4096) (N := 1024) (m ((c.tc : Thread nD τ).loc main_arg5)) (p))
  (hq : Mat (M := 4096) (N := 1024) (m ((c.tc : Thread nD τ).loc main_arg6)) (q))

include hg in
theorem at_v0 : Mat (M := 1) (N := 1024) (W1 m ρ c (Proc.devRef .tc main_v0)) (fun _ => g) :=
  host0_v0 (W0 m ρ c) hg

include hQ in
theorem at_v1 : Mat3 (L := 1) (M := 1024) (N := 1024) (W1 m ρ c (Proc.devRef .tc main_v1)) (fun _ => Q) :=
  host0_v1 (W0 m ρ c) hQ

include hO in
theorem at_v2 : Mat3 (L := 1) (M := 1024) (N := 1024) (W1 m ρ c (Proc.devRef .tc main_v2)) (fun _ => O) :=
  host0_v2 (W0 m ρ c) hO

include hg in
theorem at_v4 : Mat (M := 1) (N := 1024) (W1 m ρ c (Proc.devRef .tc main_v4)) (fun _ => g) :=
  host0_v4 (W0 m ρ c) hg

include hh hg in
theorem at_v5 : Mat (M := 4096) (N := 1024) (W2 m ρ c (Proc.devRef .tc main_v5)) (nrm h g) :=
  Mat.cast (M := 4096) (N := 1024) (W2_arr m ρ c 2) (call0 (V1 m ρ) c (g := fun _ => g)
    (Mat.cast (M := 4096) (N := 1024) (W1_args m ρ c main_arg0 (by decide)) hh)
    (at_v4 m ρ c hg))

include hQ in
theorem at_v6 : Mat (M := 1024) (N := 1024) (W3 m ρ c (Proc.devRef .tc main_v6)) (Q) :=
  host1_v6 (W2 m ρ c) (Mat3.cast (L := 1) (M := 1024) (N := 1024) (W2_of m ρ c main_v1 (by decide)) (at_v1 m ρ c hQ))

include hh hg hQ in
theorem at_v7 : Mat (M := 4096) (N := 1024) (W4 m ρ c (Proc.devRef .tc main_v7)) (queryF h g Q) :=
  Mat.cast (M := 4096) (N := 1024) (W4_arr m ρ c 2) (call1 (V3 m ρ) c
    (Mat.cast (M := 4096) (N := 1024) (W3_of m ρ c main_v5 (by decide)) (at_v5 m ρ c hh hg))
    (at_v6 m ρ c hQ))

/-! Buffers unchanged over several steps. -/

theorem v2_4 : W4 m ρ c (Proc.devRef .tc main_v2) = W1 m ρ c (Proc.devRef .tc main_v2) :=
  (W4_of _ _ _ _ (by decide)).trans ((W3_of _ _ _ _ (by decide)).trans (W2_of _ _ _ _ (by decide)))

include hO in
theorem at_v8 : Mat (M := 1024) (N := 1024) (W5 m ρ c (Proc.devRef .tc main_v8)) (O) :=
  host2_v8 (W4 m ρ c) (Mat3.cast (L := 1) (M := 1024) (N := 1024) (v2_4 m ρ c) (at_v2 m ρ c hO))

include hh hO hp in
theorem at_v9 : Mat (M := 4096) (N := 1024) (W6 m ρ c (Proc.devRef .tc main_v9)) (outF h O p) :=
  Mat.cast (M := 4096) (N := 1024) (W6_arr m ρ c 3) (call2 (V5 m ρ) c
    (Mat.cast (M := 4096) (N := 1024) (W5_args m ρ c main_arg5 (by decide)) hp)
    (at_v8 m ρ c hO)
    (Mat.cast (M := 4096) (N := 1024) (W5_args m ρ c main_arg0 (by decide)) hh))

include hO in
theorem at_v10 : Mat (M := 1024) (N := 1024) (W7 m ρ c (Proc.devRef .tc main_v10)) (O) :=
  host3_v10 (W6 m ρ c) (Mat3.cast (L := 1) (M := 1024) (N := 1024) ((W6_of m ρ c main_v2 (by decide)).trans ((W5_of _ _ _ _ (by decide)).trans (v2_4 m ρ c))) (at_v2 m ρ c hO))

include hd hO in
theorem at_v11 : Mat (M := 4096) (N := 1024) (W8 m ρ c (Proc.devRef .tc main_v11)) (dP d O) :=
  Mat.cast (M := 4096) (N := 1024) (W8_arr m ρ c 2) (call3 (V7 m ρ) c
    (Mat.cast (M := 4096) (N := 1024) (W7_args m ρ c main_arg1 (by decide)) hd)
    (at_v10 m ρ c hO))

include hd hp in
theorem at_v12 : Mat (M := 1024) (N := 1024) (W9 m ρ c (Proc.devRef .tc main_v12)) (dO d p) :=
  Mat.cast (M := 1024) (N := 1024) (W9_arr m ρ c 2) (call4 (V8 m ρ) c
    (Mat.cast (M := 4096) (N := 1024) (W8_args m ρ c main_arg5 (by decide)) hp)
    (Mat.cast (M := 4096) (N := 1024) (W8_args m ρ c main_arg1 (by decide)) hd))

include hh hg hq in
theorem at_v13 : Mat (M := 1024) (N := 1024) (W10 m ρ c (Proc.devRef .tc main_v13)) (dQ h g q) :=
  Mat.cast (M := 1024) (N := 1024) (W10_arr m ρ c 2) (call5 (V9 m ρ) c
    (Mat.cast (M := 4096) (N := 1024) ((W9_of m ρ c main_v5 (by decide)).trans ((W8_of _ _ _ _ (by decide)).trans ((W7_of _ _ _ _ (by decide)).trans ((W6_of _ _ _ _ (by decide)).trans ((W5_of _ _ _ _ (by decide)).trans ((W4_of _ _ _ _ (by decide)).trans (W3_of _ _ _ _ (by decide)))))))) (at_v5 m ρ c hh hg))
    (Mat.cast (M := 4096) (N := 1024) (W9_args m ρ c main_arg6 (by decide)) hq))

include hQ in
theorem at_v14 : Mat (M := 1024) (N := 1024) (W11 m ρ c (Proc.devRef .tc main_v14)) (Q) :=
  host6_v14 (W10 m ρ c) (Mat3.cast (L := 1) (M := 1024) (N := 1024) ((W10_of m ρ c main_v1 (by decide)).trans ((W9_of _ _ _ _ (by decide)).trans ((W8_of _ _ _ _ (by decide)).trans ((W7_of _ _ _ _ (by decide)).trans ((W6_of _ _ _ _ (by decide)).trans ((W5_of _ _ _ _ (by decide)).trans ((W4_of _ _ _ _ (by decide)).trans ((W3_of _ _ _ _ (by decide)).trans (W2_of _ _ _ _ (by decide)))))))))) (at_v1 m ρ c hQ))

include hQ hq in
theorem at_v15 : Mat (M := 4096) (N := 1024) (W12 m ρ c (Proc.devRef .tc main_v15)) (dNrm Q q) :=
  Mat.cast (M := 4096) (N := 1024) (W12_arr m ρ c 2) (call6 (V11 m ρ) c
    (Mat.cast (M := 4096) (N := 1024) (W11_args m ρ c main_arg6 (by decide)) hq)
    (at_v14 m ρ c hQ))

include hg in
theorem at_v17 : Mat (M := 1) (N := 1024) (W13 m ρ c (Proc.devRef .tc main_v17)) (fun _ => g) :=
  host7_v17 (W12 m ρ c) (Mat.cast (M := 1) (N := 1024) ((W12_of m ρ c main_v0 (by decide)).trans ((W11_of _ _ _ _ (by decide)).trans ((W10_of _ _ _ _ (by decide)).trans ((W9_of _ _ _ _ (by decide)).trans ((W8_of _ _ _ _ (by decide)).trans ((W7_of _ _ _ _ (by decide)).trans ((W6_of _ _ _ _ (by decide)).trans ((W5_of _ _ _ _ (by decide)).trans ((W4_of _ _ _ _ (by decide)).trans ((W3_of _ _ _ _ (by decide)).trans (W2_of _ _ _ _ (by decide)))))))))))) (at_v0 m ρ c hg))

include hh hd hg hQ hq in
theorem at_v18_0 : Mat (M := 4096) (N := 1024) (W14 m ρ c (Proc.devRef .tc main_v18_0)) (dRms h g (dNrm Q q) d) :=
  Mat.cast (M := 4096) (N := 1024) (W14_arr m ρ c 4) (call7_4 (V13 m ρ) c
    (Mat.cast (M := 4096) (N := 1024) (W13_args m ρ c main_arg0 (by decide)) hh)
    (at_v17 m ρ c hg)
    (Mat.cast (M := 4096) (N := 1024) (W13_of m ρ c main_v15 (by decide)) (at_v15 m ρ c hQ hq))
    (Mat.cast (M := 4096) (N := 1024) (W13_args m ρ c main_arg1 (by decide)) hd))

include hh hQ hq in
theorem at_v18_1 : Mat (M := 1) (N := 1024) (W14 m ρ c (Proc.devRef .tc main_v18_1)) (fun _ => dGain 4096 h (dNrm Q q)) :=
  Mat.cast (M := 1) (N := 1024) (W14_arr m ρ c 5) (call7_5 (V13 m ρ) c
    (Mat.cast (M := 4096) (N := 1024) (W13_args m ρ c main_arg0 (by decide)) hh)
    (Mat.cast (M := 4096) (N := 1024) (W13_of m ρ c main_v15 (by decide)) (at_v15 m ρ c hQ hq)))

include hh hg hq in
theorem at_v19 : Mat3 (L := 4) (M := 256) (N := 1024) (W15 m ρ c (Proc.devRef .tc main_v19)) (fun l a b => dQ h g q (l * 256 + a) b) :=
  host8_v19 (W14 m ρ c) (Mat.cast (M := 1024) (N := 1024) ((W14_of m ρ c main_v13 (by decide)).trans ((W13_of _ _ _ _ (by decide)).trans ((W12_of _ _ _ _ (by decide)).trans (W11_of _ _ _ _ (by decide))))) (at_v13 m ρ c hh hg hq))

include hd hp in
theorem at_v20 : Mat3 (L := 4) (M := 256) (N := 1024) (W15 m ρ c (Proc.devRef .tc main_v20)) (fun l a b => dO d p (l * 256 + a) b) :=
  host8_v20 (W14 m ρ c) (Mat.cast (M := 1024) (N := 1024) ((W14_of m ρ c main_v12 (by decide)).trans ((W13_of _ _ _ _ (by decide)).trans ((W12_of _ _ _ _ (by decide)).trans ((W11_of _ _ _ _ (by decide)).trans (W10_of _ _ _ _ (by decide)))))) (at_v12 m ρ c hd hp))

end

end Cert.Cross
-- ==== Proof.XaRef.lean ====
/- The reference of the cross-attention's projections, one operation after another, each read at an index. -/
module

public import proofs.«01_k».proof.Proof.Gen.XaReferenceIdeal.Run
public import proofs.«01_k».proof.Proof.XaSpec
public import Idealize.ShloMosaic.Lib.Tactic.CleanTypes

@[expose] public section

set_option maxRecDepth 16384

noncomputable section

namespace Cert.Cross.Ref

open Idealize.ShloMosaic Idealize.ShloMosaic.TcCoe Idealize.SL.Sem Cert.XaReferenceIdeal Cert.XaReferenceIdeal.Gen Cert.Mlp

open scoped BigOperators

variable (x0 : FVec Ideal S4096x1024 .f32) (x1 : FVec Ideal S4096x1024 .f32) (x2 : FVec Ideal S1024 .f32) (x3 : FVec Ideal S1024x1024 .bf16) (x4 : FVec Ideal S1024x1024 .bf16) (x5 : FVec Ideal S4096x1024 .bf16) (x6 : FVec Ideal S4096x1024 .f32)
variable {h d : ℕ → ℕ → EReal} {g : ℕ → EReal} {Q O p q : ℕ → ℕ → EReal}
  (h0 : Mat (M := 4096) (N := 1024) x0 h)
  (h1 : Mat (M := 4096) (N := 1024) x1 d)
  (h2 : Row (N := 1024) x2 g)
  (h3 : Mat (M := 1024) (N := 1024) x3 Q)
  (h4 : Mat (M := 1024) (N := 1024) x4 O)
  (h5 : Mat (M := 4096) (N := 1024) x5 p)
  (h6 : Mat (M := 4096) (N := 1024) x6 q)

/-- The weights of the queries. -/
def wQ : FVec Ideal S1024x1024 .f32 :=
  extf .f32 x3 bitsLt_bf16_f32

include h3 in
theorem wQ_at : Mat (M := 1024) (N := 1024) (wQ x3) (Q) := by
  intro a b
  unfold wQ
  clean_types
  pointwise
  simp only [h3.e]

/-- The output weights. -/
def wOut : FVec Ideal S1024x1024 .f32 :=
  extf .f32 x4 bitsLt_bf16_f32

include h4 in
theorem wOut_at : Mat (M := 1024) (N := 1024) (wOut x4) (O) := by
  intro a b
  unfold wOut
  clean_types
  pointwise
  simp only [h4.e]

/-- The mean of the rows' squares. -/
def ms : FVec Ideal S4096x1 .f32 :=
  addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

include h0 in
theorem ms_at : Mat (M := 4096) (N := 1) (ms x0) (fun a _ => meanSq h a) := by
  intro a b
  unfold ms
  clean_types
  pointwise
  simp only [h0.e]
  unfold meanSq
  rw [Finset.sum_range]

/-- The root below it. -/
def rs : FVec Ideal S4096x1 .f32 :=
  Host.rsqrt (ms x0)

include h0 in
theorem rs_at : Mat (M := 4096) (N := 1) (rs x0) (fun a _ => Ideal.rsqrt (meanSq h a)) := by
  intro a b
  unfold rs
  clean_types
  pointwise
  simp only [(ms_at x0 h0).e]

/-- The rows divided by their lengths. -/
def un : FVec Ideal S4096x1024 .f32 :=
  mulf x0 (broadcastInDim S4096x1024 ![0, 1] bcast_S4096x1_S4096x1024_0_1 (rs x0))

include h0 in
theorem un_at : Mat (M := 4096) (N := 1024) (un x0) (unit h) := by
  intro a b
  unfold un
  clean_types
  pointwise
  simp only [h0.e, (rs_at x0 h0).e]
  rfl

/-- The gains. -/
def gain : FVec Ideal S1x1024 .f32 :=
  broadcastInDim S1x1024 ![1] bcast_S1024_S1x1024_1 x2

include h2 in
theorem gain_at : Mat (M := 1) (N := 1024) (gain x2) (fun _ => g) := by
  intro a b
  unfold gain
  clean_types
  pointwise
  simp only [h2.e]

/-- The rows after the norm. -/
def nr : FVec Ideal S4096x1024 .f32 :=
  mulf (un x0) (broadcastInDim S4096x1024 ![0, 1] bcast_S1x1024_S4096x1024_0_1 (gain x2))

include h0 h2 in
theorem nr_at : Mat (M := 4096) (N := 1024) (nr x0 x2) (nrm h g) := by
  intro a b
  unfold nr
  clean_types
  pointwise
  simp only [(un_at x0 h0).e, (gain_at x2 h2).e]
  rfl

/-- What the weights make of them. -/
def query : FVec Ideal S4096x1024 .f32 :=
  (Host.dotGeneral (φ₁ := .f32) (φ₂ := .f32) dot_S4096x1024_S1024x1024_S4096x1024_1_0_0_1_n_n none (nr x0 x2) (wQ x3))

include h0 h2 h3 in
theorem query_at : Mat (M := 4096) (N := 1024) (query x0 x2 x3) (queryF h g Q) := by
  intro a b
  unfold query
  clean_types
  pointwise
  simp only [(nr_at x0 x2 h0 h2).e, (wQ_at x3 h3).e]
  unfold queryF mul
  rw [Finset.sum_range]

/-- The attention's rows. -/
def pp : FVec Ideal S4096x1024 .f32 :=
  extf .f32 x5 bitsLt_bf16_f32

include h5 in
theorem pp_at : Mat (M := 4096) (N := 1024) (pp x5) (p) := by
  intro a b
  unfold pp
  clean_types
  pointwise
  simp only [h5.e]

/-- The rows with what the attention gives added. -/
def out : FVec Ideal S4096x1024 .f32 :=
  addf x0 (Host.dotGeneral (φ₁ := .f32) (φ₂ := .f32) dot_S4096x1024_S1024x1024_S4096x1024_1_0_0_1_n_n none (pp x5) (wOut x4))

include h0 h4 h5 in
theorem out_at : Mat (M := 4096) (N := 1024) (out x0 x4 x5) (outF h O p) := by
  intro a b
  unfold out
  clean_types
  pointwise
  simp only [h0.e, (pp_at x5 h5).e, (wOut_at x4 h4).e]
  unfold outF mul
  rw [Finset.sum_range]
  rw [add_comm]

/-- The gradient of the queries' weights. -/
def dQR : FVec Ideal S4x256x1024 .f32 :=
  shapeCast _ (transpose S1024x1024 [1, 0] (Host.dotGeneral (φ₁ := .f32) (φ₂ := .f32) dot_S4096x1024_S4096x1024_S1024x1024_0_0_1_1_n_n none x6 (nr x0 x2)) transposes_S1024x1024_S1024x1024_1_0) shapeCasts_S1024x1024_S4x256x1024

include h0 h2 h6 in
theorem dQR_at : Mat3 (L := 4) (M := 256) (N := 1024) (dQR x0 x2 x6) (fun l a b => dQ h g q (l * 256 + a) b) := by
  intro l a b
  unfold dQR
  clean_types
  pointwise
  simp only [h6.e, (nr_at x0 x2 h0 h2).e]
  unfold dQ Tmul
  rw [Finset.sum_range]
  simp only [mul_comm (q _ _)]

/-- The gradient of the rows after the norm. -/
def dn : FVec Ideal S4096x1024 .f32 :=
  (Host.dotGeneral (φ₁ := .f32) (φ₂ := .f32) dot_S4096x1024_S1024x1024_S4096x1024_1_1_0_0_n_n none x6 (wQ x3))

include h3 h6 in
theorem dn_at : Mat (M := 4096) (N := 1024) (dn x3 x6) (dNrm Q q) := by
  intro a b
  unfold dn
  clean_types
  pointwise
  simp only [h6.e, (wQ_at x3 h3).e]
  unfold dNrm mulT
  rw [Finset.sum_range]

/-- The same times the gains. -/
def dg : FVec Ideal S4096x1024 .f32 :=
  mulf (dn x3 x6) (broadcastInDim S4096x1024 ![0, 1] bcast_S1x1024_S4096x1024_0_1 (gain x2))

include h2 h3 h6 in
theorem dg_at : Mat (M := 4096) (N := 1024) (dg x2 x3 x6) (fun a b => dNrm Q q a b * g b) := by
  intro a b
  unfold dg
  clean_types
  pointwise
  simp only [(dn_at x3 x6 h3 h6).e, (gain_at x2 h2).e]

/-- What the mean of the squares receives. -/
def dm : FVec Ideal S4096x1024 .f32 :=
  broadcastInDim S4096x1024 ![0] bcast_S4096_S4096x1024_0 (Host.reduceAdd (Host.divf (mulf (shapeCast _ (Host.reduceAdd (mulf x0 (dg x2 x3 x6)) (constant S_ .f32 0x00000000#32) reducesTo_S4096x1024_S4096_d1 h_S_) shapeCasts_S4096_S4096x1) (mulf (broadcastInDim S4096x1 ![] bcast_S_S4096x1 (constant S_ .f32 0xBF000000#32)) (Host.divf (rs x0) (ms x0)))) (broadcastInDim S4096x1 ![] bcast_S_S4096x1 (constant S_ .f32 0x44800000#32))) (constant S_ .f32 0x00000000#32) reducesTo_S4096x1_S4096_d1 h_S_)

include h0 h2 h3 h6 in
theorem dm_at : Mat (M := 4096) (N := 1024) (dm x0 x2 x3 x6) (fun a _ => dMean h g (dNrm Q q) a) := by
  intro a b
  unfold dm
  clean_types
  pointwise
  simp only [h0.e, (dg_at x2 x3 x6 h2 h3 h6).e, (rs_at x0 h0).e, (ms_at x0 h0).e]
  rw [Fin.sum_univ_one]
  unfold dMean
  rw [Finset.sum_range]

/-- The gradient of the rows. -/
def dh : FVec Ideal S4096x1024 .f32 :=
  addf (addf (addf (mulf (dg x2 x3 x6) (broadcastInDim S4096x1024 ![0, 1] bcast_S4096x1_S4096x1024_0_1 (rs x0))) (mulf x0 (dm x0 x2 x3 x6))) (mulf (dm x0 x2 x3 x6) x0)) x1

include h0 h1 h2 h3 h6 in
theorem dh_at : Mat (M := 4096) (N := 1024) (dh x0 x1 x2 x3 x6) (dRms h g (dNrm Q q) d) := by
  intro a b
  unfold dh
  clean_types
  pointwise
  simp only [h0.e, h1.e, (dg_at x2 x3 x6 h2 h3 h6).e, (rs_at x0 h0).e, (dm_at x0 x2 x3 x6 h0 h2 h3 h6).e]
  rfl

/-- The gradient of the gains. -/
def dgain : FVec Ideal S1x1024 .f32 :=
  broadcastInDim S1x1024 ![1] bcast_S1024_S1x1024_1 (Host.reduceAdd (shapeCast _ (Host.reduceAdd (mulf (un x0) (dn x3 x6)) (constant S_ .f32 0x00000000#32) reducesTo_S4096x1024_S1024_d0 h_S_) shapeCasts_S1024_S1x1024) (constant S_ .f32 0x00000000#32) reducesTo_S1x1024_S1024_d0 h_S_)

include h0 h3 h6 in
theorem dgain_at : Mat (M := 1) (N := 1024) (dgain x0 x3 x6) (fun _ => dGain 4096 h (dNrm Q q)) := by
  intro a b
  unfold dgain
  clean_types
  pointwise
  simp only [(un_at x0 h0).e, (dn_at x3 x6 h3 h6).e]
  unfold dGain
  rw [Fin.sum_univ_one, Finset.sum_range]

/-- The gradient at the result. -/
def dd : FVec Ideal S4096x1024 .f32 :=
  shapeCast _ x1 shapeCasts_S4096x1024_S4096x1024

include h1 in
theorem dd_at : Mat (M := 4096) (N := 1024) (dd x1) (d) := by
  intro a b
  unfold dd
  clean_types
  pointwise
  simp only [h1.e]

/-- The gradient of the attention's rows. -/
def dPR : FVec Ideal S4096x1024 .f32 :=
  (Host.dotGeneral (φ₁ := .f32) (φ₂ := .f32) dot_S4096x1024_S1024x1024_S4096x1024_1_1_0_0_n_n none (dd x1) (wOut x4))

include h1 h4 in
theorem dPR_at : Mat (M := 4096) (N := 1024) (dPR x1 x4) (dP d O) := by
  intro a b
  unfold dPR
  clean_types
  pointwise
  simp only [(dd_at x1 h1).e, (wOut_at x4 h4).e]
  unfold dP mulT
  rw [Finset.sum_range]

/-- The gradient of the output weights. -/
def dOR : FVec Ideal S4x256x1024 .f32 :=
  shapeCast _ (transpose S1024x1024 [1, 0] (Host.dotGeneral (φ₁ := .f32) (φ₂ := .f32) dot_S4096x1024_S4096x1024_S1024x1024_0_0_1_1_n_n none (dd x1) (pp x5)) transposes_S1024x1024_S1024x1024_1_0) shapeCasts_S1024x1024_S4x256x1024

include h1 h5 in
theorem dOR_at : Mat3 (L := 4) (M := 256) (N := 1024) (dOR x1 x5) (fun l a b => dO d p (l * 256 + a) b) := by
  intro l a b
  unfold dOR
  clean_types
  pointwise
  simp only [(dd_at x1 h1).e, (pp_at x5 h5).e]
  unfold dO Tmul
  rw [Finset.sum_range]
  simp only [mul_comm (d _ _)]

end Cert.Cross.Ref
-- ==== Proof.XaJoin.lean ====
/- The seven results of the cross-attention's projections are the reference's. -/
module

public import proofs.«01_k».proof.Defs
public import proofs.«01_k».proof.Proof.XaRun
public import proofs.«01_k».proof.Proof.XaChain
public import proofs.«01_k».proof.Proof.XaRef

@[expose] public section

set_option maxRecDepth 16384

noncomputable section

namespace Cert.Cross

open Idealize.ShloMosaic Idealize.ShloMosaic.TcCoe Idealize.SL.Sem Cert.XaIdeal Cert.XaIdeal.Gen Cert.Mlp

/-- The kernel and the reference, from the same arguments, end with the same seven arrays. -/
theorem agree : Cert.algebraic_XaIdeal_XaReferenceIdeal := by
  intro m g m' g' _ hargs
  refine ⟨fun c => W4 m g c (Proc.devRef .tc main_v7), fun c => W6 m g c (Proc.devRef .tc main_v9), fun c => W8 m g c (Proc.devRef .tc main_v11), fun c => W14 m g c (Proc.devRef .tc main_v18_0), fun c => W14 m g c (Proc.devRef .tc main_v18_1), fun c => W15 m g c (Proc.devRef .tc main_v19), fun c => W15 m g c (Proc.devRef .tc main_v20),
    results m g, ?_⟩
  refine (θ_run _ _ _).mono (fun r h c => ?_) (Cert.XaReferenceIdeal.Value.run m' g')
  obtain ⟨r0, r1, r2, r3, r4, r5, r6, ra⟩ := h c
  obtain ⟨a0, a1, a2, a3, a4, a5, a6⟩ := hargs c
  obtain ⟨_, hh⟩ := some_mat (M := 4096) (N := 1024) (m ((c.tc : Thread nD τ).loc main_arg0))
  obtain ⟨_, hd⟩ := some_mat (M := 4096) (N := 1024) (m ((c.tc : Thread nD τ).loc main_arg1))
  obtain ⟨_, hg⟩ := some_row (N := 1024) (m ((c.tc : Thread nD τ).loc main_arg2))
  obtain ⟨_, hQ⟩ := some_mat (M := 1024) (N := 1024) (m ((c.tc : Thread nD τ).loc main_arg3))
  obtain ⟨_, hO⟩ := some_mat (M := 1024) (N := 1024) (m ((c.tc : Thread nD τ).loc main_arg4))
  obtain ⟨_, hp⟩ := some_mat (M := 4096) (N := 1024) (m ((c.tc : Thread nD τ).loc main_arg5))
  obtain ⟨_, hq⟩ := some_mat (M := 4096) (N := 1024) (m ((c.tc : Thread nD τ).loc main_arg6))
  have i0 := Mat.cast (M := 4096) (N := 1024) a0 hh
  have i1 := Mat.cast (M := 4096) (N := 1024) a1 hd
  have i2 := Row.cast (N := 1024) a2 hg
  have i3 := Mat.cast (M := 1024) (N := 1024) a3 hQ
  have i4 := Mat.cast (M := 1024) (N := 1024) a4 hO
  have i5 := Mat.cast (M := 4096) (N := 1024) a5 hp
  have i6 := Mat.cast (M := 4096) (N := 1024) a6 hq
  exact ⟨r0.trans (Mat.ext (Ref.query_at _ _ _ i0 i2 i3) (at_v7 m g c hh hg hQ)),
    r1.trans (Mat.ext (Ref.out_at _ _ _ i0 i4 i5) (at_v9 m g c hh hO hp)),
    r2.trans (Mat.ext (Ref.dPR_at _ _ i1 i4) (at_v11 m g c hd hO)),
    r3.trans (Mat.ext (Ref.dh_at _ _ _ _ _ i0 i1 i2 i3 i6) (at_v18_0 m g c hh hd hg hQ hq)),
    r4.trans (Mat.ext (Ref.dgain_at _ _ _ i0 i3 i6) (at_v18_1 m g c hh hQ hq)),
    r5.trans (Mat3.ext (Ref.dQR_at _ _ _ i0 i2 i6) (at_v19 m g c hh hg hq)),
    r6.trans (Mat3.ext (Ref.dOR_at _ _ i1 i5) (at_v20 m g c hd hp)), ra⟩

end Cert.Cross
-- ==== Proof.CoreRun.lean ====
/- What the two calls of the attention to the memory leave: the run of the whole program, with the result arrays after it. -/
module

public import proofs.«01_k».proof.Proof.Gen.CoreIdeal.Frame
public import Idealize.ShloMosaic.Lib.Pipeline.ValueKit

@[expose] public section

set_option maxRecDepth 16384

noncomputable section

namespace Cert.Memo

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.CoreIdeal Cert.CoreIdeal.Gen

variable (m : (l : Loc nD τ sig) → Buf (Elt Ideal) l) (ρ : Dev nD → PrngReg)

set_option backward.isDefEq.respectTransparency.types false in
/-- Every run ends with the buffers at the contents folded through the calls and the host operations between them. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The result arrays after the run, and the arguments as they were. -/
theorem results : θ_run defs (onTc (τ := τ) (main (F := Ideal))) ⟨m, fun _ => 0, ρ⟩ (fun r => ∀ c : Dev nD,
      r.2.mem ((c.tc : Thread nD τ).loc main_v3) = W2 m ρ c (Proc.devRef .tc main_v3)
      ∧ r.2.mem ((c.tc : Thread nD τ).loc main_v6_0) = W4 m ρ c (Proc.devRef .tc main_v6_0)
      ∧ r.2.mem ((c.tc : Thread nD τ).loc main_v6_1) = W4 m ρ c (Proc.devRef .tc main_v6_1)
      ∧ r.2.mem ((c.tc : Thread nD τ).loc main_v6_2) = W4 m ρ c (Proc.devRef .tc main_v6_2)
      ∧ r.2.mem ((c.tc : Thread nD τ).loc main_v6_3) = W4 m ρ c (Proc.devRef .tc main_v6_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v3 (by decide))).trans ((W4_of m ρ c main_v3 (by decide +kernel)).trans (W3_of m ρ c main_v3 (by decide +kernel))),
     h c _ (mem_uc main_v6_0 (by decide)),
     h c _ (mem_uc main_v6_1 (by decide)),
     h c _ (mem_uc main_v6_2 (by decide)),
     h c _ (mem_uc main_v6_3 (by decide)),
     (h c _ (mem_uc main_arg0 (by decide))).trans (W4_args m ρ c main_arg0 (by decide)),
     (h c _ (mem_uc main_arg1 (by decide))).trans (W4_args m ρ c main_arg1 (by decide)),
     (h c _ (mem_uc main_arg2 (by decide))).trans (W4_args m ρ c main_arg2 (by decide)),
     (h c _ (mem_uc main_arg3 (by decide))).trans (W4_args m ρ c main_arg3 (by decide)),
     (h c _ (mem_uc main_arg4 (by decide))).trans (W4_args m ρ c main_arg4 (by decide))⟩) (run m ρ)

end Cert.Memo
-- ==== Proof.CoreSpec.lean ====
/- The attention to the memory and its gradients, as functions of the five arguments: one head, and the four heads side by side. -/
module

public import proofs.«01_k».proof.Proof.FfnMat

@[expose] public section

noncomputable section

namespace Cert.Memo

open Idealize.ShloMosaic Cert.Mlp
open scoped BigOperators

/-! ## One head, over its 256 columns -/

section
variable (x : ℕ → ℕ → EReal) (g : ℕ → EReal) (k v d : ℕ → ℕ → EReal)

/-- The mean of a row's squares, a little above it. -/
def msq (a : ℕ) : EReal :=
  Ideal.div (∑ i ∈ Finset.range 256, x a i * x a i) (Ideal.ofBits FTy.f32 1132462080#32) + Ideal.ofBits FTy.f32 897988541#32

/-- A row divided by its length, and that scaled by the gains. -/
def unit (a b : ℕ) : EReal := x a b * Ideal.rsqrt (msq x a)
def query (a b : ℕ) : EReal := unit x a b * g b

/-- The scores of a row, the largest of them, and the weights before they are divided by their sum. -/
def score (a b : ℕ) : EReal := mulT 256 (query x g) k a b * Ideal.ofBits FTy.f32 1031798784#32
def top (a : ℕ) : EReal := Finset.fold max (Ideal.ofBits FTy.f32 4286578688#32) (fun i : Fin 256 => score x g k a i) Finset.univ
def weight (a b : ℕ) : EReal := Ideal.exp (score x g k a b - top x g k a)
def total (a : ℕ) : EReal := ∑ i ∈ Finset.range 256, weight x g k a i
def prob (a b : ℕ) : EReal := Ideal.div (weight x g k a b) (total x g k a)

/-- What the head gives. -/
def out (a b : ℕ) : EReal := mul 256 (prob x g k) v a b

/-- The gradient of the probabilities and of the scores. -/
def dProb (a b : ℕ) : EReal := mulT 256 d v a b
def dTotal (a : ℕ) : EReal :=
  -∑ i ∈ Finset.range 256, dProb v d a i * Ideal.div 1 (total x g k a * total x g k a) * weight x g k a i
def dScore (a b : ℕ) : EReal :=
  (Ideal.div (dProb v d a b) (total x g k a) + dTotal x g k v d a) * weight x g k a b * Ideal.ofBits FTy.f32 1031798784#32

/-- The gradient of the queries after the norm; what the mean of a row's squares receives if that gradient is `d`. -/
def dQuery (a b : ℕ) : EReal := mul 256 (dScore x g k v d) k a b
def dMsq (a : ℕ) : EReal :=
  Ideal.div ((∑ i ∈ Finset.range 256, x a i * (d a i * g i)) *
    (Ideal.ofBits FTy.f32 3204448256#32 * Ideal.div (Ideal.rsqrt (msq x a)) (msq x a))) (Ideal.ofBits FTy.f32 1132462080#32)

/-- The gradients of the queries, of the keys and values and of the gains, the last three from `n` rows; in the first and the last, `d` is the gradient after the norm. -/
def dX (a b : ℕ) : EReal :=
  d a b * g b * Ideal.rsqrt (msq x a) + x a b * dMsq x g d a + dMsq x g d a * x a b
def dK (n : ℕ) (a b : ℕ) : EReal := Tmul n (dScore x g k v d) (query x g) a b
def dV (n : ℕ) (a b : ℕ) : EReal := Tmul n (prob x g k) d a b
def dG (n : ℕ) (b : ℕ) : EReal := ∑ a ∈ Finset.range n, unit x a b * d a b
end

/-! ## The four heads -/

/-- The columns of head `n`, and matrices side by side. -/
def head (n : ℕ) (f : ℕ → ℕ → EReal) (a b : ℕ) : EReal := f a (n * 256 + b)
def beside (F : ℕ → ℕ → ℕ → EReal) (a b : ℕ) : EReal := F (b / 256) a (b % 256)

section
variable (x : ℕ → ℕ → EReal) (g : ℕ → EReal) (k v d : ℕ → ℕ → EReal)

def outF : ℕ → ℕ → EReal := beside fun n => out (head n x) g (head n k) (head n v)
def dXF : ℕ → ℕ → EReal := beside fun n => dX (head n x) g (dQuery (head n x) g (head n k) (head n v) (head n d))
def dKF (r : ℕ) : ℕ → ℕ → EReal := beside fun n => dK (head n x) g (head n k) (head n v) (head n d) r
def dVF (r : ℕ) : ℕ → ℕ → EReal := beside fun n => dV (head n x) g (head n k) (head n d) r
def dGF (r : ℕ) (b : ℕ) : EReal := ∑ n ∈ Finset.range 4, dG (head n x) (dQuery (head n x) g (head n k) (head n v) (head n d)) r b

/-! ## Sums of which a part is added -/

theorem dKF_add (n r a b : ℕ) : dKF x g k v d (n + r) a b = dKF x g k v d n a b
    + dKF (fun a => x (n + a)) g k v (fun a => d (n + a)) r a b := Tmul_add n r _ _ _ _

theorem dVF_add (n r a b : ℕ) : dVF x g k d (n + r) a b = dVF x g k d n a b
    + dVF (fun a => x (n + a)) g k (fun a => d (n + a)) r a b := Tmul_add n r _ _ _ _

theorem dGF_add (n r b : ℕ) : dGF x g k v d (n + r) b = dGF x g k v d n b
    + dGF (fun a => x (n + a)) g k v (fun a => d (n + a)) r b := by
  unfold dGF
  rw [← Finset.sum_add_distrib]
  exact Finset.sum_congr rfl fun i _ => Finset.sum_range_add _ n r

end

end Cert.Memo
-- ==== Proof.CoreHost.lean ====
/- The host operations before the calls of the attention to the memory, read at an index. -/
module

public import proofs.«01_k».proof.Proof.Gen.CoreIdeal.Launch
public import proofs.«01_k».proof.Proof.CoreSpec
public import Idealize.ShloMosaic.Lib.StableHlo.ReadAt

@[expose] public section

set_option maxRecDepth 16384

noncomputable section

namespace Cert.Memo

open Idealize.ShloMosaic Idealize.ShloMosaic.TcCoe Idealize.SL.Sem Cert.CoreIdeal Cert.CoreIdeal.Gen Cert.Mlp

variable (X : Valuation τ sig (Elt Ideal))

theorem host0_v0 {g : ℕ → EReal}
    (h0 : Row (N := 256) (X (Proc.devRef .tc main_arg3)) (g)) :
    Mat (M := 1) (N := 256) (StableHlo.after hostOps0 X (Proc.devRef .tc main_v0)) (fun _ => g) := by
  intro a b
  after_reads_at
  simp only [h0.e]

theorem host0_v2 {g : ℕ → EReal}
    (h0 : Row (N := 256) (X (Proc.devRef .tc main_arg3)) (g)) :
    Mat (M := 1) (N := 256) (StableHlo.after hostOps0 X (Proc.devRef .tc main_v2)) (fun _ => g) := by
  intro a b
  after_reads_at
  simp only [h0.e]

theorem host1_v5 {g : ℕ → EReal}
    (h0 : Mat (M := 1) (N := 256) (X (Proc.devRef .tc main_v0)) (fun _ => g)) :
    Mat (M := 1) (N := 256) (StableHlo.after hostOps1 X (Proc.devRef .tc main_v5)) (fun _ => g) := by
  intro a b
  after_reads_at
  simp only [h0.e]

end Cert.Memo
-- ==== Proof.CoreBlk.lean ====
/- Where the blocks of the attention to the memory lie, and what they hold of the arrays. -/
module

public import proofs.«01_k».proof.Proof.Gen.CoreIdeal.Frame
public import Idealize.ShloMosaic.Lib.Pipeline.ValueKit
public import proofs.«01_k».proof.Proof.FfnMat

@[expose] public section

set_option maxRecDepth 16384

noncomputable section

namespace Cert.Memo

open Idealize.ShloMosaic Idealize.ShloMosaic.TcCoe Idealize.SL.Sem Cert.CoreIdeal Cert.CoreIdeal.Gen Cert.Mlp

/-! ## The index maps -/

theorem at0_0 : ∀ t : Fin grid0.N, win0_0.index t = ![t.val, 0] := by decide +kernel
theorem at0_1 : ∀ t : Fin grid0.N, win0_1.index t = ![0, 0] := by decide +kernel
theorem at0_2 : ∀ t : Fin grid0.N, win0_2.index t = ![0, 0] := by decide +kernel
theorem at0_3 : ∀ t : Fin grid0.N, win0_3.index t = ![0, 0] := by decide +kernel
theorem at0_4 : ∀ t : Fin grid0.N, win0_4.index t = ![t.val, 0] := by decide +kernel
theorem at1_0 : ∀ t : Fin grid1.N, win1_0.index t = ![t.val, 0] := by decide +kernel
theorem at1_1 : ∀ t : Fin grid1.N, win1_1.index t = ![0, 0] := by decide +kernel
theorem at1_2 : ∀ t : Fin grid1.N, win1_2.index t = ![0, 0] := by decide +kernel
theorem at1_3 : ∀ t : Fin grid1.N, win1_3.index t = ![0, 0] := by decide +kernel
theorem at1_4 : ∀ t : Fin grid1.N, win1_4.index t = ![t.val, 0] := by decide +kernel
theorem at1_5 : ∀ t : Fin grid1.N, win1_5.index t = ![t.val, 0] := by decide +kernel
theorem at1_6 : ∀ t : Fin grid1.N, win1_6.index t = ![0, 0] := by decide +kernel
theorem at1_7 : ∀ t : Fin grid1.N, win1_7.index t = ![0, 0] := by decide +kernel
theorem at1_8 : ∀ t : Fin grid1.N, win1_8.index t = ![0, 0] := by decide +kernel

variable (V : (c : Dev nD) → (b : Ref sig .tc) → Buf (Elt Ideal) ((c : Thread nD τ).loc b)) (c : Dev nD)

/-! ## The blocks of the operands -/

section
variable {f : ℕ → ℕ → EReal}

theorem blk0_0 (h : Mat (M := 4096) (N := 1024) (V c main_arg0) f) (t : Fin grid0.N) :
    Mat (M := 256) (N := 1024) (iblk0 V c 0 t) (fun a b => f (t.val * 256 + a) b) := by
  intro a b
  blk_simp [iblk0]
  refine (h.at _).trans ?_
  blk_simp [at0_0 t]

theorem blk0_1 (h : Mat (M := 256) (N := 1024) (V c main_arg1) f) (t : Fin grid0.N) :
    Mat (M := 256) (N := 1024) (iblk0 V c 1 t) f := by
  intro a b
  blk_simp [iblk0]
  refine (h.at _).trans ?_
  blk_simp [at0_1 t]

theorem blk0_2 (h : Mat (M := 256) (N := 1024) (V c main_arg2) f) (t : Fin grid0.N) :
    Mat (M := 256) (N := 1024) (iblk0 V c 2 t) f := by
  intro a b
  blk_simp [iblk0]
  refine (h.at _).trans ?_
  blk_simp [at0_2 t]

theorem blk0_3 (h : Mat (M := 1) (N := 256) (V c main_v2) f) (t : Fin grid0.N) :
    Mat (M := 1) (N := 256) (iblk0 V c 3 t) f := by
  intro a b
  blk_simp [iblk0]
  refine (h.at _).trans ?_
  blk_simp [at0_3 t]

theorem blk1_0 (h : Mat (M := 4096) (N := 1024) (V c main_arg0) f) (t : Fin grid1.N) :
    Mat (M := 256) (N := 1024) (iblk1 V c 0 t) (fun a b => f (t.val * 256 + a) b) := by
  intro a b
  blk_simp [iblk1]
  refine (h.at _).trans ?_
  blk_simp [at1_0 t]

theorem blk1_1 (h : Mat (M := 256) (N := 1024) (V c main_arg1) f) (t : Fin grid1.N) :
    Mat (M := 256) (N := 1024) (iblk1 V c 1 t) f := by
  intro a b
  blk_simp [iblk1]
  refine (h.at _).trans ?_
  blk_simp [at1_1 t]

theorem blk1_2 (h : Mat (M := 256) (N := 1024) (V c main_arg2) f) (t : Fin grid1.N) :
    Mat (M := 256) (N := 1024) (iblk1 V c 2 t) f := by
  intro a b
  blk_simp [iblk1]
  refine (h.at _).trans ?_
  blk_simp [at1_2 t]

theorem blk1_3 (h : Mat (M := 1) (N := 256) (V c main_v5) f) (t : Fin grid1.N) :
    Mat (M := 1) (N := 256) (iblk1 V c 3 t) f := by
  intro a b
  blk_simp [iblk1]
  refine (h.at _).trans ?_
  blk_simp [at1_3 t]

theorem blk1_4 (h : Mat (M := 4096) (N := 1024) (V c main_arg4) f) (t : Fin grid1.N) :
    Mat (M := 256) (N := 1024) (iblk1 V c 4 t) (fun a b => f (t.val * 256 + a) b) := by
  intro a b
  blk_simp [iblk1]
  refine (h.at _).trans ?_
  blk_simp [at1_4 t]

end

end Cert.Memo
-- ==== Proof.CorePay.lean ====
/- The attention to the memory, forward and backward: what one step computes, at an index. -/
module

public import proofs.«01_k».proof.Proof.Gen.CoreIdeal.Skeleton
public import Idealize.ShloMosaic.Lib.Pointwise
public import Idealize.ShloMosaic.Lib.KernelVsHost
public import Idealize.ShloMosaic.Lib.Pipeline.ValueKit
public import proofs.«01_k».proof.Proof.CoreSpec

@[expose] public section

set_option maxRecDepth 16384

noncomputable section

namespace Cert.Memo

open Idealize.ShloMosaic Idealize.SL.Sem Cert.CoreIdeal Cert.CoreIdeal.Gen Cert.Mlp
open scoped BigOperators

/-! ## The operations of one head -/

/-- The mean of the squares, the rows divided by their lengths, the queries. -/
def vMsq (x : FVec Ideal S256x256 .f32) : FVec Ideal S256x1 .f32 :=
  addf (divf (shapeCast S256x1 (multiReduction .add [1] S256 (mulf x x) 0x00000000#32 reduces_S256x256_S256 (.inl rfl) rfl) shapeCasts_S256_S256x1)
    (broadcast S256x1 (Scalar.ofBits .f32 0x43800000#32))) (broadcast S256x1 (Scalar.ofBits .f32 0x358637BD#32))
def vUnit (x : FVec Ideal S256x256 .f32) : FVec Ideal S256x256 .f32 := mulf x (broadcastTo S256x256 (rsqrt (vMsq x)) broadcasts_S256x1_S256x256)
def vQuery (x : FVec Ideal S256x256 .f32) (g : FVec Ideal S1x256 .f32) : FVec Ideal S256x256 .bf16 := truncf .bf16 (mulf (vUnit x) (broadcastTo S256x256 g broadcasts_S1x256_S256x256)) bitsLt_bf16_f32

/-- The scores, the weights, their sums, the probabilities. -/
def vScore (q k : FVec Ideal S256x256 .bf16) : FVec Ideal S256x256 .f32 := mulf (matmul dot_S256x256_S256x256_S256x256_1_1_0_0_n_n none q k (constant S256x256 .f32 0x00000000#32)) (broadcast S256x256 (Scalar.ofBits .f32 0x3D800000#32))
def vWeight (s : FVec Ideal S256x256 .f32) : FVec Ideal S256x256 .f32 :=
  exp (subf s (broadcastTo S256x256 (shapeCast S256x1 (multiReduction .maximumf [1] S256 s 0xFF800000#32 reduces_S256x256_S256 (.inl rfl) rfl) shapeCasts_S256_S256x1) broadcasts_S256x1_S256x256))
def vTotal (e : FVec Ideal S256x256 .f32) : FVec Ideal S256x1 .f32 := shapeCast S256x1 (multiReduction .add [1] S256 e 0x00000000#32 reduces_S256x256_S256 (.inl rfl) rfl) shapeCasts_S256_S256x1
def vProb (e : FVec Ideal S256x256 .f32) : FVec Ideal S256x256 .bf16 := truncf .bf16 (divf e (broadcastTo S256x256 (vTotal e) broadcasts_S256x1_S256x256)) bitsLt_bf16_f32
def vOut (p v : FVec Ideal S256x256 .bf16) : FVec Ideal S256x256 .f32 := matmul dot_S256x256_S256x256_S256x256_1_0_0_1_n_n none p v (constant S256x256 .f32 0x00000000#32)

/-- The gradients of the values, the probabilities, the scores, the keys and the queries. -/
def vRound (y : FVec Ideal S256x256 .f32) : FVec Ideal S256x256 .f32 := extf .f32 (truncf .bf16 y bitsLt_bf16_f32) bitsLt_bf16_f32
def vDV (d : FVec Ideal S256x256 .f32) (p : FVec Ideal S256x256 .bf16) : FVec Ideal S256x256 .f32 := vRound (transpose S256x256 [1, 0] (matmul dot_S256x256_S256x256_S256x256_0_0_1_1_n_n none d p (constant S256x256 .f32 0x00000000#32)) transposes_S256x256_p1_0_S256x256)
def vDProb (d : FVec Ideal S256x256 .f32) (v : FVec Ideal S256x256 .bf16) : FVec Ideal S256x256 .f32 := vRound (matmul dot_S256x256_S256x256_S256x256_1_1_0_0_n_n none d v (constant S256x256 .f32 0x00000000#32))
def vDTotal (e p : FVec Ideal S256x256 .f32) : FVec Ideal S256x1 .f32 :=
  subf (broadcast S256x1 (Scalar.ofBits .f32 0x00000000#32)) (shapeCast S256x1 (multiReduction .add [1] S256
    (mulf (mulf p (broadcastTo S256x256 (divf (broadcast S256x1 (Scalar.ofBits .f32 0x3F800000#32)) (mulf (vTotal e) (vTotal e))) broadcasts_S256x1_S256x256)) e)
    0x00000000#32 reduces_S256x256_S256 (.inl rfl) rfl) shapeCasts_S256_S256x1)
def vDScore (e p : FVec Ideal S256x256 .f32) : FVec Ideal S256x256 .f32 :=
  mulf (mulf (addf (divf p (broadcastTo S256x256 (vTotal e) broadcasts_S256x1_S256x256))
    (broadcastTo S256x256 (shapeCast S256x1 (multiReduction .add [1] S256 (vDTotal e p) 0x00000000#32 reduces_S256x1_S256 (.inl rfl) rfl) shapeCasts_S256_S256x1) broadcasts_S256x1_S256x256)) e)
    (broadcast S256x256 (Scalar.ofBits .f32 0x3D800000#32))
def vDK (s : FVec Ideal S256x256 .f32) (q : FVec Ideal S256x256 .bf16) : FVec Ideal S256x256 .f32 := vRound (matmul dot_S256x256_S256x256_S256x256_0_0_1_1_n_n none s q (constant S256x256 .f32 0x00000000#32))
def vDQuery (s : FVec Ideal S256x256 .f32) (k : FVec Ideal S256x256 .bf16) : FVec Ideal S256x256 .f32 := vRound (matmul dot_S256x256_S256x256_S256x256_1_0_0_1_n_n none s k (constant S256x256 .f32 0x00000000#32))

/-- The gradients of the gains and, through the norm, of its rows. -/
def vDG (x q : FVec Ideal S256x256 .f32) : FVec Ideal S1x256 .f32 := shapeCast S1x256 (multiReduction .add [0] S256 (mulf (vUnit x) q) 0x00000000#32 reduces_S256x256_S256_2 (.inl rfl) rfl) shapeCasts_S256_S1x256
def vScaled (q : FVec Ideal S256x256 .f32) (g : FVec Ideal S1x256 .f32) : FVec Ideal S256x256 .f32 := mulf q (broadcastTo S256x256 g broadcasts_S1x256_S256x256)
def vDMsq (x : FVec Ideal S256x256 .f32) (y : FVec Ideal S256x256 .f32) : FVec Ideal S256x256 .f32 :=
  broadcastTo S256x256 (shapeCast S256x1 (multiReduction .add [1] S256 (divf (mulf
    (shapeCast S256x1 (multiReduction .add [1] S256 (mulf x y) 0x00000000#32 reduces_S256x256_S256 (.inl rfl) rfl) shapeCasts_S256_S256x1)
    (mulf (broadcast S256x1 (Scalar.ofBits .f32 0xBF000000#32)) (divf (rsqrt (vMsq x)) (vMsq x))))
    (broadcast S256x1 (Scalar.ofBits .f32 0x43800000#32))) 0x00000000#32 reduces_S256x1_S256 (.inl rfl) rfl) shapeCasts_S256_S256x1) broadcasts_S256x1_S256x256
def vDX (x : FVec Ideal S256x256 .f32) (q : FVec Ideal S256x256 .f32) (g : FVec Ideal S1x256 .f32) : FVec Ideal S256x256 .f32 :=
  addf (addf (mulf (vScaled q g) (broadcastTo S256x256 (rsqrt (vMsq x)) broadcasts_S256x1_S256x256)) (mulf x (vDMsq x (vScaled q g)))) (mulf (vDMsq x (vScaled q g)) x)

/-! ## Their values -/

section
variable {x k v d e p s q : ℕ → ℕ → EReal} {g : ℕ → EReal} {X E D Y S : FVec Ideal S256x256 .f32} {Q K U Z : FVec Ideal S256x256 .bf16} {H : FVec Ideal S1x256 .f32}

theorem vMsq_mat (hx : Mat (M := 256) (N := 256) X x) : Mat (M := 256) (N := 1) (vMsq X) fun a _ => msq x a := fun a b => by
  obtain rfl : b = 0 := Subsingleton.elim _ _
  pointwise [vMsq]
  simp only [hx.e]
  unfold msq
  rw [Finset.sum_range]

theorem vUnit_mat (hx : Mat (M := 256) (N := 256) X x) : Mat (M := 256) (N := 256) (vUnit X) (unit x) := fun a b => by
  pointwise [vUnit]
  simp only [hx.e, (vMsq_mat hx).e]
  rfl

theorem vQuery_mat (hx : Mat (M := 256) (N := 256) X x) (hg : Mat (M := 1) (N := 256) H fun _ => g) : Mat (M := 256) (N := 256) (vQuery X H) (query x g) := fun a b => by
  pointwise [vQuery]
  simp only [(vUnit_mat hx).e, hg.e]
  rfl

theorem vScore_mat (hq : Mat (M := 256) (N := 256) Q (query x g)) (hk : Mat (M := 256) (N := 256) K k) : Mat (M := 256) (N := 256) (vScore Q K) (score x g k) := fun a b => by
  pointwise [vScore]
  simp only [hq.e, hk.e]
  unfold score mulT
  rw [Finset.sum_range]

theorem vWeight_mat (hs : Mat (M := 256) (N := 256) S (score x g k)) : Mat (M := 256) (N := 256) (vWeight S) (weight x g k) := fun a b => by
  pointwise [vWeight]
  simp only [hs.e]
  rfl

section
variable (he : Mat (M := 256) (N := 256) E (weight x g k))

include he in
theorem vTotal_mat : Mat (M := 256) (N := 1) (vTotal E) fun a _ => total x g k a := fun a b => by
  obtain rfl : b = 0 := Subsingleton.elim _ _
  pointwise [vTotal]
  simp only [he.e]
  unfold total
  rw [Finset.sum_range]

include he in
theorem vProb_mat : Mat (M := 256) (N := 256) (vProb E) (prob x g k) := fun a b => by
  pointwise [vProb]
  simp only [he.e, (vTotal_mat he).e]
  rfl

theorem vOut_mat (hp : Mat (M := 256) (N := 256) Z (prob x g k)) (hv : Mat (M := 256) (N := 256) U v) : Mat (M := 256) (N := 256) (vOut Z U) (out x g k v) := fun a b => by
  pointwise [vOut]
  simp only [hp.e, hv.e]
  unfold out mul
  rw [Finset.sum_range]

theorem vDV_mat (hd : Mat (M := 256) (N := 256) D d) (hp : Mat (M := 256) (N := 256) Z (prob x g k)) : Mat (M := 256) (N := 256) (vDV D Z) (dV x g k d 256) := fun a b => by
  pointwise [vDV, vRound]
  simp only [hd.e, hp.e]
  unfold dV Tmul
  rw [Finset.sum_range]
  exact Finset.sum_congr rfl fun _ _ => mul_comm _ _

theorem vDProb_mat (hd : Mat (M := 256) (N := 256) D d) (hv : Mat (M := 256) (N := 256) U v) : Mat (M := 256) (N := 256) (vDProb D U) (dProb v d) := fun a b => by
  pointwise [vDProb, vRound]
  simp only [hd.e, hv.e]
  unfold dProb mulT
  rw [Finset.sum_range]

variable (hp : Mat (M := 256) (N := 256) Y (dProb v d))

include he hp in
theorem vDTotal_mat : Mat (M := 256) (N := 1) (vDTotal E Y) fun a _ => dTotal x g k v d a := fun a b => by
  obtain rfl : b = 0 := Subsingleton.elim _ _
  pointwise [vDTotal]
  simp only [he.e, hp.e, (vTotal_mat he).e, zero_sub]
  unfold dTotal
  rw [Finset.sum_range]

include he hp in
theorem vDScore_mat : Mat (M := 256) (N := 256) (vDScore E Y) (dScore x g k v d) := fun a b => by
  pointwise [vDScore]
  simp only [he.e, hp.e, (vTotal_mat he).e, (vDTotal_mat he hp).e, Finset.sum_const, Finset.card_univ, Fintype.card_fin, one_smul]
  rfl

end

theorem vDK_mat (hs : Mat (M := 256) (N := 256) S (dScore x g k v d)) (hq : Mat (M := 256) (N := 256) Q (query x g)) : Mat (M := 256) (N := 256) (vDK S Q) (dK x g k v d 256) := fun a b => by
  pointwise [vDK, vRound]
  simp only [hs.e, hq.e]
  unfold dK Tmul
  rw [Finset.sum_range]

theorem vDQuery_mat (hs : Mat (M := 256) (N := 256) S (dScore x g k v d)) (hk : Mat (M := 256) (N := 256) K k) : Mat (M := 256) (N := 256) (vDQuery S K) (dQuery x g k v d) := fun a b => by
  pointwise [vDQuery, vRound]
  simp only [hs.e, hk.e]
  unfold dQuery mul
  rw [Finset.sum_range]

section
variable (hx : Mat (M := 256) (N := 256) X x) (hy : Mat (M := 256) (N := 256) Y d) (hg : Mat (M := 1) (N := 256) H fun _ => g)

include hx hy in
theorem vDG_mat : Mat (M := 1) (N := 256) (vDG X Y) fun _ => dG x d 256 := fun a b => by
  obtain rfl : a = 0 := Subsingleton.elim _ _
  pointwise [vDG]
  simp only [(vUnit_mat hx).e, hy.e]
  unfold dG
  rw [Finset.sum_range]

include hy hg in
theorem vScaled_mat : Mat (M := 256) (N := 256) (vScaled Y H) (fun a b => d a b * g b) := fun a b => by
  pointwise [vScaled]
  simp only [hy.e, hg.e]

include hx hy hg in
theorem vDMsq_mat : Mat (M := 256) (N := 256) (vDMsq X (vScaled Y H)) (fun a _ => dMsq x g d a) := fun a b => by
  pointwise [vDMsq]
  simp only [hx.e, (vScaled_mat hy hg).e, (vMsq_mat hx).e, Finset.sum_const, Finset.card_univ, Fintype.card_fin, one_smul]
  unfold dMsq
  rw [Finset.sum_range]

include hx hy hg in
theorem vDX_mat : Mat (M := 256) (N := 256) (vDX X Y H) (dX x g d) := fun a b => by
  pointwise [vDX]
  simp only [hx.e, (vScaled_mat hy hg).e, (vMsq_mat hx).e, (vDMsq_mat hx hy hg).e]
  rfl

end

end

end Cert.Memo
-- ==== Proof.CoreStep.lean ====
/- The four heads of the attention to the memory side by side: what one step leaves. -/
module

public import proofs.«01_k».proof.Proof.CorePay

@[expose] public section

set_option maxRecDepth 16384

noncomputable section

namespace Cert.Memo

open Idealize.ShloMosaic Idealize.SL.Sem Cert.CoreIdeal Cert.CoreIdeal.Gen Cert.Mlp
open scoped BigOperators

/-! ## The columns of a head, and heads side by side -/

def col0 (v : FVec Ideal S256x1024 .f32) : FVec Ideal S256x256 .f32 := extractStridedSlice S256x256 ![0, 0] v slices_S256x1024_o0_0_S256x256
def col1 (v : FVec Ideal S256x1024 .f32) : FVec Ideal S256x256 .f32 := extractStridedSlice S256x256 ![0, 256] v slices_S256x1024_o0_256_S256x256
def col2 (v : FVec Ideal S256x1024 .f32) : FVec Ideal S256x256 .f32 := extractStridedSlice S256x256 ![0, 512] v slices_S256x1024_o0_512_S256x256
def col3 (v : FVec Ideal S256x1024 .f32) : FVec Ideal S256x256 .f32 := extractStridedSlice S256x256 ![0, 768] v slices_S256x1024_o0_768_S256x256

def put0 (y : FVec Ideal S256x256 .f32) : FVec Ideal S256x1024 .f32 :=
  concatenate S256x1024 1 [⟨S256x256, y⟩, ⟨S256x768, broadcast S256x768 (Scalar.ofBits .f32 0x00000000#32)⟩] concatenates_S256x256_S256x768_S256x1024_d1
def put1 (y : FVec Ideal S256x256 .f32) : FVec Ideal S256x1024 .f32 :=
  concatenate S256x1024 1 [⟨S256x512, concatenate S256x512 1 [⟨S256x256, broadcast S256x256 (Scalar.ofBits .f32 0x00000000#32)⟩, ⟨S256x256, y⟩] concatenates_S256x256_S256x256_S256x512_d1⟩,
    ⟨S256x512, broadcast S256x512 (Scalar.ofBits .f32 0x00000000#32)⟩] concatenates_S256x512_S256x512_S256x1024_d1
def put2 (y : FVec Ideal S256x256 .f32) : FVec Ideal S256x1024 .f32 :=
  concatenate S256x1024 1 [⟨S256x768, concatenate S256x768 1 [⟨S256x512, broadcast S256x512 (Scalar.ofBits .f32 0x00000000#32)⟩, ⟨S256x256, y⟩] concatenates_S256x512_S256x256_S256x768_d1⟩,
    ⟨S256x256, broadcast S256x256 (Scalar.ofBits .f32 0x00000000#32)⟩] concatenates_S256x768_S256x256_S256x1024_d1
def put3 (y : FVec Ideal S256x256 .f32) : FVec Ideal S256x1024 .f32 :=
  concatenate S256x1024 1 [⟨S256x768, broadcast S256x768 (Scalar.ofBits .f32 0x00000000#32)⟩, ⟨S256x256, y⟩] concatenates_S256x768_S256x256_S256x1024_d1

def putAll (y0 y1 y2 y3 : FVec Ideal S256x256 .f32) : FVec Ideal S256x1024 .f32 := addf (addf (addf (put3 y3) (put2 y2)) (put1 y1)) (put0 y0)
def row4 (y0 y1 y2 y3 : FVec Ideal S1x256 .f32) : FVec Ideal S1x256 .f32 := addf (addf (addf y3 y2) y1) y0
def join4 (y0 y1 y2 y3 : FVec Ideal S256x256 .f32) : FVec Ideal S256x1024 .bf16 :=
  truncf .bf16 (concatenate S256x1024 1 [⟨S256x256, y0⟩, ⟨S256x256, y1⟩, ⟨S256x256, y2⟩, ⟨S256x256, y3⟩]
    concatenates_S256x256_S256x256_S256x256_S256x256_S256x1024_d1) bitsLt_bf16_f32

/-- The head a column belongs to, and its place there. -/
theorem beside_at (F : ℕ → ℕ → ℕ → EReal) (a n b r : ℕ) (hr : r < 256) (hb : b = n * 256 + r) : beside F a b = F n a r := by
  unfold beside
  rw [show b / 256 = n by omega, show b % 256 = r by omega]

theorem col0_mat {f : ℕ → ℕ → EReal} {v : FVec Ideal S256x1024 .f32} (h : Mat (M := 256) (N := 1024) v f) : Mat (M := 256) (N := 256) (col0 v) (head 0 f) := fun a b => by
  pointwise [col0]
  refine (h.e _ _).trans (congrArg (f a) ?_)
  show b.val = 0 * 256 + b.val
  omega

theorem col1_mat {f : ℕ → ℕ → EReal} {v : FVec Ideal S256x1024 .f32} (h : Mat (M := 256) (N := 1024) v f) : Mat (M := 256) (N := 256) (col1 v) (head 1 f) := fun a b => by
  pointwise [col1]
  refine (h.e _ _).trans (congrArg (f a) ?_)
  show 256 + b.val = 1 * 256 + b.val
  omega

theorem col2_mat {f : ℕ → ℕ → EReal} {v : FVec Ideal S256x1024 .f32} (h : Mat (M := 256) (N := 1024) v f) : Mat (M := 256) (N := 256) (col2 v) (head 2 f) := fun a b => by
  pointwise [col2]
  refine (h.e _ _).trans (congrArg (f a) ?_)
  show 512 + b.val = 2 * 256 + b.val
  omega

theorem col3_mat {f : ℕ → ℕ → EReal} {v : FVec Ideal S256x1024 .f32} (h : Mat (M := 256) (N := 1024) v f) : Mat (M := 256) (N := 256) (col3 v) (head 3 f) := fun a b => by
  pointwise [col3]
  refine (h.e _ _).trans (congrArg (f a) ?_)
  show 768 + b.val = 3 * 256 + b.val
  omega

section
variable {F : ℕ → ℕ → ℕ → EReal} {Y0 Y1 Y2 Y3 : FVec Ideal S256x256 .f32}
variable (h0 : Mat (M := 256) (N := 256) Y0 (F 0)) (h1 : Mat (M := 256) (N := 256) Y1 (F 1)) (h2 : Mat (M := 256) (N := 256) Y2 (F 2)) (h3 : Mat (M := 256) (N := 256) Y3 (F 3))

include h0 in
theorem put0_mat : Mat (M := 256) (N := 1024) (put0 Y0) fun a b => if 0 ≤ b ∧ b < 256 then F 0 a (b - 0) else 0 := fun a b => by
  have hb := b.isLt
  pointwise [put0]
  simp only [h0.e]
  split_ifs <;> first | omega | rfl | exact congrArg (F 0 a) (by show _ = b.val - 0; omega)

include h1 in
theorem put1_mat : Mat (M := 256) (N := 1024) (put1 Y1) fun a b => if 256 ≤ b ∧ b < 512 then F 1 a (b - 256) else 0 := fun a b => by
  have hb := b.isLt
  pointwise [put1]
  simp only [h1.e]
  split_ifs <;> first | omega | rfl | exact congrArg (F 1 a) (by show _ = b.val - 256; omega)

include h2 in
theorem put2_mat : Mat (M := 256) (N := 1024) (put2 Y2) fun a b => if 512 ≤ b ∧ b < 768 then F 2 a (b - 512) else 0 := fun a b => by
  have hb := b.isLt
  pointwise [put2]
  simp only [h2.e]
  split_ifs <;> first | omega | rfl | exact congrArg (F 2 a) (by show _ = b.val - 512; omega)

include h3 in
theorem put3_mat : Mat (M := 256) (N := 1024) (put3 Y3) fun a b => if 768 ≤ b ∧ b < 1024 then F 3 a (b - 768) else 0 := fun a b => by
  have hb := b.isLt
  pointwise [put3]
  simp only [h3.e]
  split_ifs <;> first | omega | rfl | exact congrArg (F 3 a) (by show _ = b.val - 768; omega)

include h0 h1 h2 h3 in
theorem putAll_mat : Mat (M := 256) (N := 1024) (putAll Y0 Y1 Y2 Y3) (beside F) := fun a b => by
  have hb := b.isLt
  pointwise [putAll]
  simp only [(put0_mat h0).e, (put1_mat h1).e, (put2_mat h2).e, (put3_mat h3).e]
  split_ifs <;> first
    | omega
    | simp only [add_zero, zero_add]
      exact (beside_at F a.val _ b.val _ (by omega) (by omega)).symm

include h0 h1 h2 h3 in
theorem join4_mat : Mat (M := 256) (N := 1024) (join4 Y0 Y1 Y2 Y3) (beside F) := fun a b => by
  have hb := b.isLt
  pointwise [join4]
  simp only [h0.e, h1.e, h2.e, h3.e]
  split_ifs <;> first
    | omega
    | exact (beside_at F a.val _ b.val _ (by omega) (by omega)).symm
end

theorem row4_mat {p : ℕ → ℕ → EReal} {Y0 Y1 Y2 Y3 : FVec Ideal S1x256 .f32} (h0 : Mat (M := 1) (N := 256) Y0 fun _ => p 0)
    (h1 : Mat (M := 1) (N := 256) Y1 fun _ => p 1) (h2 : Mat (M := 1) (N := 256) Y2 fun _ => p 2) (h3 : Mat (M := 1) (N := 256) Y3 fun _ => p 3) :
    Mat (M := 1) (N := 256) (row4 Y0 Y1 Y2 Y3) fun _ b => ∑ n ∈ Finset.range 4, p n b := fun a b => by
  pointwise [row4]
  simp only [h0.e, h1.e, h2.e, h3.e, Finset.sum_range_succ, Finset.sum_range_zero, zero_add]
  abel

/-! ## One step -/

section
variable (x k v d : FVec Ideal S256x1024 .f32) (h : FVec Ideal S1x256 .f32)

/-- The gains, the rounded keys and values, the weights and the gradient of the scores, of one head. -/
def gains : FVec Ideal S1x256 .f32 := shapeCast S1x256 h shapeCasts_S1x256_S1x256

def low (y : FVec Ideal S256x256 .f32) : FVec Ideal S256x256 .bf16 := truncf .bf16 y bitsLt_bf16_f32
def wt (x k : FVec Ideal S256x256 .f32) (h : FVec Ideal S1x256 .f32) : FVec Ideal S256x256 .f32 := vWeight (vScore (vQuery x h) (low k))
def ds (x k v d : FVec Ideal S256x256 .f32) (h : FVec Ideal S1x256 .f32) : FVec Ideal S256x256 .f32 := vDScore (wt x k h) (vDProb d (low v))
def dq (x k v d : FVec Ideal S256x256 .f32) (h : FVec Ideal S1x256 .f32) : FVec Ideal S256x256 .f32 := vDQuery (ds x k v d h) (low k)

def stepOut : FVec Ideal S256x1024 .bf16 :=
  join4 (vOut (vProb (wt (col0 x) (col0 k) (gains h))) (low (col0 v)))
    (vOut (vProb (wt (col1 x) (col1 k) (gains h))) (low (col1 v)))
    (vOut (vProb (wt (col2 x) (col2 k) (gains h))) (low (col2 v)))
    (vOut (vProb (wt (col3 x) (col3 k) (gains h))) (low (col3 v)))
def stepDX : FVec Ideal S256x1024 .f32 :=
  putAll (vDX (col0 x) (dq (col0 x) (col0 k) (col0 v) (col0 d) (gains h)) (gains h))
    (vDX (col1 x) (dq (col1 x) (col1 k) (col1 v) (col1 d) (gains h)) (gains h))
    (vDX (col2 x) (dq (col2 x) (col2 k) (col2 v) (col2 d) (gains h)) (gains h))
    (vDX (col3 x) (dq (col3 x) (col3 k) (col3 v) (col3 d) (gains h)) (gains h))
def stepDK : FVec Ideal S256x1024 .f32 :=
  putAll (vDK (ds (col0 x) (col0 k) (col0 v) (col0 d) (gains h)) (vQuery (col0 x) (gains h)))
    (vDK (ds (col1 x) (col1 k) (col1 v) (col1 d) (gains h)) (vQuery (col1 x) (gains h)))
    (vDK (ds (col2 x) (col2 k) (col2 v) (col2 d) (gains h)) (vQuery (col2 x) (gains h)))
    (vDK (ds (col3 x) (col3 k) (col3 v) (col3 d) (gains h)) (vQuery (col3 x) (gains h)))
def stepDV : FVec Ideal S256x1024 .f32 :=
  putAll (vDV (col0 d) (vProb (wt (col0 x) (col0 k) (gains h))))
    (vDV (col1 d) (vProb (wt (col1 x) (col1 k) (gains h))))
    (vDV (col2 d) (vProb (wt (col2 x) (col2 k) (gains h))))
    (vDV (col3 d) (vProb (wt (col3 x) (col3 k) (gains h))))
def stepDG : FVec Ideal S1x256 .f32 :=
  row4 (vDG (col0 x) (dq (col0 x) (col0 k) (col0 v) (col0 d) (gains h)))
    (vDG (col1 x) (dq (col1 x) (col1 k) (col1 v) (col1 d) (gains h)))
    (vDG (col2 x) (dq (col2 x) (col2 k) (col2 v) (col2 d) (gains h)))
    (vDG (col3 x) (dq (col3 x) (col3 k) (col3 v) (col3 d) (gains h)))
end

section
variable {x k v d : ℕ → ℕ → EReal} {g : ℕ → EReal} {X K V D : FVec Ideal S256x256 .f32} {H : FVec Ideal S1x256 .f32}
variable (hx : Mat (M := 256) (N := 256) X x) (hk : Mat (M := 256) (N := 256) K k) (hv : Mat (M := 256) (N := 256) V v) (hd : Mat (M := 256) (N := 256) D d) (hg : Mat (M := 1) (N := 256) H fun _ => g)

include hg in
theorem gains_mat : Mat (M := 1) (N := 256) (gains H) fun _ => g := fun a b => by
  pointwise [gains]
  exact hg.e _ _

include hk in
theorem low_mat : Mat (M := 256) (N := 256) (low K) k := fun a b => by
  pointwise [low]
  exact hk.e _ _

include hx hk hg in
theorem wt_mat : Mat (M := 256) (N := 256) (wt X K H) (weight x g k) := vWeight_mat (vScore_mat (vQuery_mat hx hg) (low_mat hk))

include hx hk hv hd hg in
theorem ds_mat : Mat (M := 256) (N := 256) (ds X K V D H) (dScore x g k v d) := vDScore_mat (wt_mat hx hk hg) (vDProb_mat hd (low_mat hv))

include hx hk hv hd hg in
theorem dq_mat : Mat (M := 256) (N := 256) (dq X K V D H) (dQuery x g k v d) := vDQuery_mat (ds_mat hx hk hv hd hg) (low_mat hk)

end

section
variable {x k v d : ℕ → ℕ → EReal} {g : ℕ → EReal} {X K V D : FVec Ideal S256x1024 .f32} {H : FVec Ideal S1x256 .f32}
variable (hx : Mat (M := 256) (N := 1024) X x) (hk : Mat (M := 256) (N := 1024) K k) (hv : Mat (M := 256) (N := 1024) V v) (hd : Mat (M := 256) (N := 1024) D d) (hg : Mat (M := 1) (N := 256) H fun _ => g)

include hx hk hv hg in
theorem stepOut_mat : Mat (M := 256) (N := 1024) (stepOut X K V H) (outF x g k v) :=
  join4_mat (F := fun n => out (head n x) g (head n k) (head n v))
    (vOut_mat (vProb_mat (wt_mat (col0_mat hx) (col0_mat hk) (gains_mat hg))) (low_mat (col0_mat hv)))
    (vOut_mat (vProb_mat (wt_mat (col1_mat hx) (col1_mat hk) (gains_mat hg))) (low_mat (col1_mat hv)))
    (vOut_mat (vProb_mat (wt_mat (col2_mat hx) (col2_mat hk) (gains_mat hg))) (low_mat (col2_mat hv)))
    (vOut_mat (vProb_mat (wt_mat (col3_mat hx) (col3_mat hk) (gains_mat hg))) (low_mat (col3_mat hv)))

include hx hk hv hd hg in
theorem stepDX_mat : Mat (M := 256) (N := 1024) (stepDX X K V D H) (dXF x g k v d) :=
  putAll_mat (F := fun n => dX (head n x) g (dQuery (head n x) g (head n k) (head n v) (head n d)))
    (vDX_mat (col0_mat hx) (dq_mat (col0_mat hx) (col0_mat hk) (col0_mat hv) (col0_mat hd) (gains_mat hg)) (gains_mat hg))
    (vDX_mat (col1_mat hx) (dq_mat (col1_mat hx) (col1_mat hk) (col1_mat hv) (col1_mat hd) (gains_mat hg)) (gains_mat hg))
    (vDX_mat (col2_mat hx) (dq_mat (col2_mat hx) (col2_mat hk) (col2_mat hv) (col2_mat hd) (gains_mat hg)) (gains_mat hg))
    (vDX_mat (col3_mat hx) (dq_mat (col3_mat hx) (col3_mat hk) (col3_mat hv) (col3_mat hd) (gains_mat hg)) (gains_mat hg))

include hx hk hv hd hg in
theorem stepDK_mat : Mat (M := 256) (N := 1024) (stepDK X K V D H) (dKF x g k v d 256) :=
  putAll_mat (F := fun n => dK (head n x) g (head n k) (head n v) (head n d) 256)
    (vDK_mat (ds_mat (col0_mat hx) (col0_mat hk) (col0_mat hv) (col0_mat hd) (gains_mat hg)) (vQuery_mat (col0_mat hx) (gains_mat hg)))
    (vDK_mat (ds_mat (col1_mat hx) (col1_mat hk) (col1_mat hv) (col1_mat hd) (gains_mat hg)) (vQuery_mat (col1_mat hx) (gains_mat hg)))
    (vDK_mat (ds_mat (col2_mat hx) (col2_mat hk) (col2_mat hv) (col2_mat hd) (gains_mat hg)) (vQuery_mat (col2_mat hx) (gains_mat hg)))
    (vDK_mat (ds_mat (col3_mat hx) (col3_mat hk) (col3_mat hv) (col3_mat hd) (gains_mat hg)) (vQuery_mat (col3_mat hx) (gains_mat hg)))

include hx hk hd hg in
theorem stepDV_mat : Mat (M := 256) (N := 1024) (stepDV X K D H) (dVF x g k d 256) :=
  putAll_mat (F := fun n => dV (head n x) g (head n k) (head n d) 256)
    (vDV_mat (col0_mat hd) (vProb_mat (wt_mat (col0_mat hx) (col0_mat hk) (gains_mat hg))))
    (vDV_mat (col1_mat hd) (vProb_mat (wt_mat (col1_mat hx) (col1_mat hk) (gains_mat hg))))
    (vDV_mat (col2_mat hd) (vProb_mat (wt_mat (col2_mat hx) (col2_mat hk) (gains_mat hg))))
    (vDV_mat (col3_mat hd) (vProb_mat (wt_mat (col3_mat hx) (col3_mat hk) (gains_mat hg))))

include hx hk hv hd hg in
theorem stepDG_mat : Mat (M := 1) (N := 256) (stepDG X K V D H) (fun _ => dGF x g k v d 256) :=
  row4_mat (p := fun n => dG (head n x) (dQuery (head n x) g (head n k) (head n v) (head n d)) 256)
    (vDG_mat (col0_mat hx) (dq_mat (col0_mat hx) (col0_mat hk) (col0_mat hv) (col0_mat hd) (gains_mat hg)))
    (vDG_mat (col1_mat hx) (dq_mat (col1_mat hx) (col1_mat hk) (col1_mat hv) (col1_mat hd) (gains_mat hg)))
    (vDG_mat (col2_mat hx) (dq_mat (col2_mat hx) (col2_mat hk) (col2_mat hv) (col2_mat hd) (gains_mat hg)))
    (vDG_mat (col3_mat hx) (dq_mat (col3_mat hx) (col3_mat hk) (col3_mat hv) (col3_mat hd) (gains_mat hg)))

end

/-! ## Added to what was there -/

section
variable {f s : ℕ → ℕ → EReal} {S A : FVec Ideal S256x1024 .f32} (hs : Mat (M := 256) (N := 1024) S s)

include hs in
theorem first_mat : Mat (M := 256) (N := 1024) (addf (shapeCast S256x1024 (broadcast S256x1024 (Scalar.ofBits (F := Ideal) .f32 0x00000000#32)) shapeCasts_S256x1024_S256x1024) S) s := fun a b => by
  pointwise
  simp only [hs.e, zero_add]

include hs in
theorem next_mat (ha : Mat (M := 256) (N := 1024) A f) :
    Mat (M := 256) (N := 1024) (addf (shapeCast S256x1024 A shapeCasts_S256x1024_S256x1024) S) fun a b => f a b + s a b := fun a b => by
  pointwise
  simp only [hs.e, ha.e]
end

section
variable {f s : ℕ → EReal} {S A : FVec Ideal S1x256 .f32} (hs : Mat (M := 1) (N := 256) S fun _ => s)

include hs in
theorem rowFirst_mat : Mat (M := 1) (N := 256) (addf (shapeCast S1x256 (broadcast S1x256 (Scalar.ofBits (F := Ideal) .f32 0x00000000#32)) shapeCasts_S1x256_S1x256) S) fun _ => s := fun a b => by
  pointwise
  exact hs.e _ _

include hs in
theorem rowNext_mat (ha : Mat (M := 1) (N := 256) A fun _ => f) :
    Mat (M := 1) (N := 256) (addf (shapeCast S1x256 A shapeCasts_S1x256_S1x256) S) fun _ b => f b + s b := fun a b => by
  pointwise
  rw [hs.e, ha.e]
end

end Cert.Memo
-- ==== Proof.CoreCall.lean ====
/- The arrays the two calls of the attention to the memory leave. -/
module

public import proofs.«01_k».proof.Proof.CoreBlk
public import proofs.«01_k».proof.Proof.CoreStep

@[expose] public section

set_option maxRecDepth 16384

noncomputable section

namespace Cert.Memo

open Idealize.ShloMosaic Idealize.ShloMosaic.TcCoe Idealize.SL.Sem Cert.CoreIdeal Cert.CoreIdeal.Gen Cert.Mlp

variable (V : (c : Dev nD) → (b : Ref sig .tc) → Buf (Elt Ideal) ((c : Thread nD τ).loc b)) (c : Dev nD)
variable {x k v d : ℕ → ℕ → EReal} {g : ℕ → EReal}

/-! ## Forward -/

/-- The printed values of one step are the four heads'. -/
theorem out_eq (v0 v1 v2 : FVec Ideal S256x1024 .f32) (v3 : FVec Ideal S1x256 .f32) :
    k0_pay8 v0 v1 v2 (k0_pay1 v3) (k0_pay2 v0 v1 v2 v3)
      (k0_pay5 v1 v2 (k0_pay1 v3) (k0_pay3 v0) (k0_pay4 v0) (Scalar.ofBits .f32 0x43800000#32)) (k0_pay6 v0 v1 (k0_pay1 v3)) (k0_pay7 v0 v1 (k0_pay1 v3))
    = stepOut v0 v1 v2 v3 := rfl

theorem call0 (hx : Mat (M := 4096) (N := 1024) (V c main_arg0) x) (hk : Mat (M := 256) (N := 1024) (V c main_arg1) k)
    (hv : Mat (M := 256) (N := 1024) (V c main_arg2) v) (hg : Mat (M := 1) (N := 256) (V c main_v2) fun _ => g) :
    Mat (M := 4096) (N := 1024) ((dat0 V c).arrAt 4 cfg0.N) (outF x g k v) := by
  refine Mat.of ((dat0 V c).arrAt_eq_of_covers 4 _ (by decide +kernel) fun t hf y => ?_)
  blk_simp
  rw [after0_4]
  unfold_out out0_4
  frame_out
  refine (congrFun (out_eq _ _ _ _) y).trans ?_
  refine ((stepOut_mat (blk0_0 V c hx t) (blk0_1 V c hk t) (blk0_2 V c hv t) (blk0_3 V c hg t)).at y).trans ?_
  blk_simp [at0_4 t]
  rfl

/-! ## Backward -/

section
variable (hx : Mat (M := 4096) (N := 1024) (V c main_arg0) x) (hk : Mat (M := 256) (N := 1024) (V c main_arg1) k)
  (hv : Mat (M := 256) (N := 1024) (V c main_arg2) v) (hg : Mat (M := 1) (N := 256) (V c main_v5) fun _ => g)
  (hd : Mat (M := 4096) (N := 1024) (V c main_arg4) d)

include hx hk hv hg hd in
theorem row1 (t : Fin cfg1.N) : Mat (M := 256) (N := 1024) (outsAt1 V c t.val t.isLt).1 (fun a b => dXF x g k v d (t.val * 256 + a) b) := by
  intro a b
  by_cases hz : t.val % 16 = 0
  · rw [outsAt1_A V c t hz hz hz]
    frame_out
    exact stepDX_mat (blk1_0 V c hx t) (blk1_1 V c hk t) (blk1_2 V c hv t) (blk1_4 V c hd t) (blk1_3 V c hg t) a b
  · rw [outsAt1_B V c t hz hz hz]
    frame_out
    exact stepDX_mat (blk1_0 V c hx t) (blk1_1 V c hk t) (blk1_2 V c hv t) (blk1_4 V c hd t) (blk1_3 V c hg t) a b

include hx hk hv hg hd in
theorem call1_5 : Mat (M := 4096) (N := 1024) ((dat1 V c).arrAt 5 cfg1.N) (dXF x g k v d) := by
  refine Mat.of ((dat1 V c).arrAt_eq_of_covers 5 _ (by decide +kernel) fun t hf y => ?_)
  blk_simp
  rw [after1_5]
  refine ((row1 V c hx hk hv hg hd t).at y).trans ?_
  blk_simp [at1_5 t]

/-! The gradient of the keys -/

include hx hk hv hd hg in
theorem acc6 (n : ℕ) : ∀ hn : n < cfg1.N, Mat (M := 256) (N := 1024) (outsAt1 V c n hn).2.1 (dKF x g k v d ((n % 16 + 1) * 256)) := by
  induction n using Nat.strong_induction_on with
  | _ n ih =>
    intro hn a b
    have hN : n < 16 := lt_of_lt_of_eq hn N_1
    by_cases hz : n % 16 = 0
    · refine (congrFun (congrArg (fun x => x.2.1) (outsAt1_A V c ⟨n, hn⟩ hz hz hz)) (ix2 a b)).trans ?_
      frame_out
      refine (first_mat (stepDK_mat (blk1_0 V c hx ⟨n, hn⟩) (blk1_1 V c hk ⟨n, hn⟩) (blk1_2 V c hv ⟨n, hn⟩) (blk1_4 V c hd ⟨n, hn⟩) (blk1_3 V c hg ⟨n, hn⟩)) a b).trans ?_
      obtain rfl : n = 0 := by omega
      show dKF (fun a b => x (0 * 256 + a) b) g k v (fun a b => d (0 * 256 + a) b) 256 a b = dKF x g k v d ((0 % 16 + 1) * 256) a b
      simp only [Nat.zero_mul, Nat.zero_add, Nat.zero_mod, Nat.one_mul]
    · refine (congrFun (congrArg (fun x => x.2.1) (outsAt1_B V c ⟨n, hn⟩ hz hz hz)) (ix2 a b)).trans ?_
      frame_out
      refine (next_mat (stepDK_mat (blk1_0 V c hx ⟨n, hn⟩) (blk1_1 V c hk ⟨n, hn⟩) (blk1_2 V c hv ⟨n, hn⟩) (blk1_4 V c hd ⟨n, hn⟩) (blk1_3 V c hg ⟨n, hn⟩)) (ih (n - 1) (by omega) (by omega)) a b).trans ?_
      show dKF x g k v d (((n - 1) % 16 + 1) * 256) a b + dKF (fun a b => x (n * 256 + a) b) g k v (fun a b => d (n * 256 + a) b) 256 a b = _
      rw [show ((n - 1) % 16 + 1) * 256 = n * 256 by omega]
      refine (dKF_add x g k v d (n * 256) 256 a b).symm.trans ?_
      rw [show n * 256 + 256 = (n % 16 + 1) * 256 by omega]

include hx hk hv hd hg in
theorem call1_6 : Mat (M := 256) (N := 1024) ((dat1 V c).arrAt 6 cfg1.N) (dKF x g k v d 4096) := by
  refine Mat.of ((dat1 V c).arrAt_eq_of_covers 6 _ (by decide +kernel) fun t hf y => ?_)
  have hl := (flush1_6 t).mp hf
  blk_simp
  rw [after1_6]
  refine ((acc6 V c hx hk hv hg hd t.val t.isLt).at y).trans ?_
  blk_simp [at1_6 t]
  rw [hl]

/-! The gradient of the values -/

include hx hk hd hg in
theorem acc7 (n : ℕ) : ∀ hn : n < cfg1.N, Mat (M := 256) (N := 1024) (outsAt1 V c n hn).2.2.1 (dVF x g k d ((n % 16 + 1) * 256)) := by
  induction n using Nat.strong_induction_on with
  | _ n ih =>
    intro hn a b
    have hN : n < 16 := lt_of_lt_of_eq hn N_1
    by_cases hz : n % 16 = 0
    · refine (congrFun (congrArg (fun x => x.2.2.1) (outsAt1_A V c ⟨n, hn⟩ hz hz hz)) (ix2 a b)).trans ?_
      frame_out
      refine (first_mat (stepDV_mat (blk1_0 V c hx ⟨n, hn⟩) (blk1_1 V c hk ⟨n, hn⟩) (blk1_4 V c hd ⟨n, hn⟩) (blk1_3 V c hg ⟨n, hn⟩)) a b).trans ?_
      obtain rfl : n = 0 := by omega
      show dVF (fun a b => x (0 * 256 + a) b) g k (fun a b => d (0 * 256 + a) b) 256 a b = dVF x g k d ((0 % 16 + 1) * 256) a b
      simp only [Nat.zero_mul, Nat.zero_add, Nat.zero_mod, Nat.one_mul]
    · refine (congrFun (congrArg (fun x => x.2.2.1) (outsAt1_B V c ⟨n, hn⟩ hz hz hz)) (ix2 a b)).trans ?_
      frame_out
      refine (next_mat (stepDV_mat (blk1_0 V c hx ⟨n, hn⟩) (blk1_1 V c hk ⟨n, hn⟩) (blk1_4 V c hd ⟨n, hn⟩) (blk1_3 V c hg ⟨n, hn⟩)) (ih (n - 1) (by omega) (by omega)) a b).trans ?_
      show dVF x g k d (((n - 1) % 16 + 1) * 256) a b + dVF (fun a b => x (n * 256 + a) b) g k (fun a b => d (n * 256 + a) b) 256 a b = _
      rw [show ((n - 1) % 16 + 1) * 256 = n * 256 by omega]
      refine (dVF_add x g k d (n * 256) 256 a b).symm.trans ?_
      rw [show n * 256 + 256 = (n % 16 + 1) * 256 by omega]

include hx hk hd hg in
theorem call1_7 : Mat (M := 256) (N := 1024) ((dat1 V c).arrAt 7 cfg1.N) (dVF x g k d 4096) := by
  refine Mat.of ((dat1 V c).arrAt_eq_of_covers 7 _ (by decide +kernel) fun t hf y => ?_)
  have hl := (flush1_7 t).mp hf
  blk_simp
  rw [after1_7]
  refine ((acc7 V c hx hk hg hd t.val t.isLt).at y).trans ?_
  blk_simp [at1_7 t]
  rw [hl]

/-! The gradient of the gains -/

include hx hk hv hd hg in
theorem acc8 (n : ℕ) : ∀ hn : n < cfg1.N, Mat (M := 1) (N := 256) (outsAt1 V c n hn).2.2.2 (fun _ => dGF x g k v d ((n % 16 + 1) * 256)) := by
  induction n using Nat.strong_induction_on with
  | _ n ih =>
    intro hn a b
    have hN : n < 16 := lt_of_lt_of_eq hn N_1
    by_cases hz : n % 16 = 0
    · refine (congrFun (congrArg (fun x => x.2.2.2) (outsAt1_A V c ⟨n, hn⟩ hz hz hz)) (ix2 a b)).trans ?_
      frame_out
      refine (rowFirst_mat (stepDG_mat (blk1_0 V c hx ⟨n, hn⟩) (blk1_1 V c hk ⟨n, hn⟩) (blk1_2 V c hv ⟨n, hn⟩) (blk1_4 V c hd ⟨n, hn⟩) (blk1_3 V c hg ⟨n, hn⟩)) a b).trans ?_
      obtain rfl : n = 0 := by omega
      show dGF (fun a b => x (0 * 256 + a) b) g k v (fun a b => d (0 * 256 + a) b) 256 b = dGF x g k v d ((0 % 16 + 1) * 256) b
      simp only [Nat.zero_mul, Nat.zero_add, Nat.zero_mod, Nat.one_mul]
    · refine (congrFun (congrArg (fun x => x.2.2.2) (outsAt1_B V c ⟨n, hn⟩ hz hz hz)) (ix2 a b)).trans ?_
      frame_out
      refine (rowNext_mat (stepDG_mat (blk1_0 V c hx ⟨n, hn⟩) (blk1_1 V c hk ⟨n, hn⟩) (blk1_2 V c hv ⟨n, hn⟩) (blk1_4 V c hd ⟨n, hn⟩) (blk1_3 V c hg ⟨n, hn⟩)) (ih (n - 1) (by omega) (by omega)) a b).trans ?_
      show dGF x g k v d (((n - 1) % 16 + 1) * 256) b + dGF (fun a b => x (n * 256 + a) b) g k v (fun a b => d (n * 256 + a) b) 256 b = _
      rw [show ((n - 1) % 16 + 1) * 256 = n * 256 by omega]
      refine (dGF_add x g k v d (n * 256) 256 b).symm.trans ?_
      rw [show n * 256 + 256 = (n % 16 + 1) * 256 by omega]

include hx hk hv hd hg in
theorem call1_8 : Mat (M := 1) (N := 256) ((dat1 V c).arrAt 8 cfg1.N) (fun _ => dGF x g k v d 4096) := by
  refine Mat.of ((dat1 V c).arrAt_eq_of_covers 8 _ (by decide +kernel) fun t hf y => ?_)
  have hl := (flush1_8 t).mp hf
  blk_simp
  rw [after1_8]
  refine ((acc8 V c hx hk hv hg hd t.val t.isLt).at y).trans ?_
  blk_simp [at1_8 t]
  rw [hl]

end

end Cert.Memo
-- ==== Proof.CoreChain.lean ====
/- What each buffer of the attention to the memory holds, call after call: from the arguments to the five results. -/
module

public import proofs.«01_k».proof.Proof.CoreSpec
public import proofs.«01_k».proof.Proof.CoreHost
public import proofs.«01_k».proof.Proof.CoreCall
public import proofs.«01_k».proof.Proof.Gen.CoreIdeal.Frame

@[expose] public section

set_option maxRecDepth 16384

noncomputable section

namespace Cert.Memo

open Idealize.ShloMosaic Idealize.ShloMosaic.TcCoe Idealize.SL.Sem Cert.CoreIdeal Cert.CoreIdeal.Gen Cert.Mlp

section
variable (m : (l : Loc nD τ sig) → Buf (Elt Ideal) l) (ρ : Dev nD → PrngReg) (c : Dev nD)
variable {x k v d : ℕ → ℕ → EReal} {g : ℕ → EReal}
  (hx : Mat (M := 4096) (N := 1024) (m ((c.tc : Thread nD τ).loc main_arg0)) (x))
  (hk : Mat (M := 256) (N := 1024) (m ((c.tc : Thread nD τ).loc main_arg1)) (k))
  (hv : Mat (M := 256) (N := 1024) (m ((c.tc : Thread nD τ).loc main_arg2)) (v))
  (hg : Row (N := 256) (m ((c.tc : Thread nD τ).loc main_arg3)) (g))
  (hd : Mat (M := 4096) (N := 1024) (m ((c.tc : Thread nD τ).loc main_arg4)) (d))

include hg in
theorem at_v0 : Mat (M := 1) (N := 256) (W1 m ρ c (Proc.devRef .tc main_v0)) (fun _ => g) :=
  host0_v0 (W0 m ρ c) hg

include hg in
theorem at_v2 : Mat (M := 1) (N := 256) (W1 m ρ c (Proc.devRef .tc main_v2)) (fun _ => g) :=
  host0_v2 (W0 m ρ c) hg

include hx hk hv hg in
theorem at_v3 : Mat (M := 4096) (N := 1024) (W2 m ρ c (Proc.devRef .tc main_v3)) (outF x g k v) :=
  Mat.cast (M := 4096) (N := 1024) (W2_arr m ρ c 4) (call0 (V1 m ρ) c
    (Mat.cast (M := 4096) (N := 1024) (W1_args m ρ c main_arg0 (by decide)) hx)
    (Mat.cast (M := 256) (N := 1024) (W1_args m ρ c main_arg1 (by decide)) hk)
    (Mat.cast (M := 256) (N := 1024) (W1_args m ρ c main_arg2 (by decide)) hv)
    (at_v2 m ρ c hg))

include hg in
theorem at_v5 : Mat (M := 1) (N := 256) (W3 m ρ c (Proc.devRef .tc main_v5)) (fun _ => g) :=
  host1_v5 (W2 m ρ c) (Mat.cast (M := 1) (N := 256) (W2_of m ρ c main_v0 (by decide +kernel)) (at_v0 m ρ c hg))

include hx hk hv hg hd in
theorem at_v6_0 : Mat (M := 4096) (N := 1024) (W4 m ρ c (Proc.devRef .tc main_v6_0)) (dXF x g k v d) :=
  Mat.cast (M := 4096) (N := 1024) (W4_arr m ρ c 5) (call1_5 (V3 m ρ) c
    (Mat.cast (M := 4096) (N := 1024) (W3_args m ρ c main_arg0 (by decide)) hx)
    (Mat.cast (M := 256) (N := 1024) (W3_args m ρ c main_arg1 (by decide)) hk)
    (Mat.cast (M := 256) (N := 1024) (W3_args m ρ c main_arg2 (by decide)) hv)
    (at_v5 m ρ c hg)
    (Mat.cast (M := 4096) (N := 1024) (W3_args m ρ c main_arg4 (by decide)) hd))

include hx hk hv hg hd in
theorem at_v6_1 : Mat (M := 256) (N := 1024) (W4 m ρ c (Proc.devRef .tc main_v6_1)) (dKF x g k v d 4096) :=
  Mat.cast (M := 256) (N := 1024) (W4_arr m ρ c 6) (call1_6 (V3 m ρ) c
    (Mat.cast (M := 4096) (N := 1024) (W3_args m ρ c main_arg0 (by decide)) hx)
    (Mat.cast (M := 256) (N := 1024) (W3_args m ρ c main_arg1 (by decide)) hk)
    (Mat.cast (M := 256) (N := 1024) (W3_args m ρ c main_arg2 (by decide)) hv)
    (at_v5 m ρ c hg)
    (Mat.cast (M := 4096) (N := 1024) (W3_args m ρ c main_arg4 (by decide)) hd))

include hx hk hg hd in
theorem at_v6_2 : Mat (M := 256) (N := 1024) (W4 m ρ c (Proc.devRef .tc main_v6_2)) (dVF x g k d 4096) :=
  Mat.cast (M := 256) (N := 1024) (W4_arr m ρ c 7) (call1_7 (V3 m ρ) c
    (Mat.cast (M := 4096) (N := 1024) (W3_args m ρ c main_arg0 (by decide)) hx)
    (Mat.cast (M := 256) (N := 1024) (W3_args m ρ c main_arg1 (by decide)) hk)
    (at_v5 m ρ c hg)
    (Mat.cast (M := 4096) (N := 1024) (W3_args m ρ c main_arg4 (by decide)) hd))

include hx hk hv hg hd in
theorem at_v6_3 : Mat (M := 1) (N := 256) (W4 m ρ c (Proc.devRef .tc main_v6_3)) (fun _ => dGF x g k v d 4096) :=
  Mat.cast (M := 1) (N := 256) (W4_arr m ρ c 8) (call1_8 (V3 m ρ) c
    (Mat.cast (M := 4096) (N := 1024) (W3_args m ρ c main_arg0 (by decide)) hx)
    (Mat.cast (M := 256) (N := 1024) (W3_args m ρ c main_arg1 (by decide)) hk)
    (Mat.cast (M := 256) (N := 1024) (W3_args m ρ c main_arg2 (by decide)) hv)
    (at_v5 m ρ c hg)
    (Mat.cast (M := 4096) (N := 1024) (W3_args m ρ c main_arg4 (by decide)) hd))

end

end Cert.Memo
-- ==== Proof.CoreRef.lean ====
/- The reference of the attention to the memory, one operation after another, each read at an index. -/
module

public import proofs.«01_k».proof.Proof.Gen.CoreReferenceIdeal.Run
public import proofs.«01_k».proof.Proof.CoreSpec
public import Idealize.ShloMosaic.Lib.Tactic.CleanTypes

@[expose] public section

set_option maxRecDepth 16384

noncomputable section

namespace Cert.Memo.Ref

open Idealize.ShloMosaic Idealize.ShloMosaic.TcCoe Idealize.SL.Sem Cert.CoreReferenceIdeal Cert.CoreReferenceIdeal.Gen Cert.Mlp

open scoped BigOperators

/-- The sum over the first two coordinates of three, at the third. -/
theorem sum01 {r s n : ℕ} (h : (⟨3, ![r, s, n]⟩ : Shape).ReducesTo [0, 1] (⟨1, ![n]⟩ : Shape)) (v : (⟨3, ![r, s, n]⟩ : Shape).Idx → EReal)
    (e : EReal) (b : Fin n) : Ideal.hostReduceAdd h v e (ix1 b) = e + ∑ a : Fin r, ∑ l : Fin s, v (ix3 a l b) := by
  refine congrArg (e + ·) ((Finset.sum_filter_eq_sum_of_fiber _ (fun p : Fin r × Fin s => ix3 p.1 p.2 b)
    (fun _ _ q => Prod.ext (congrFun q 0) (congrFun q 1)) (fun i => ⟨fun q => ⟨(i 0, i 1), ?_⟩, ?_⟩) v).trans ?_)
  · funext c
    match c with
    | ⟨0, _⟩ => rfl
    | ⟨1, _⟩ => rfl
    | ⟨2, _⟩ => exact Fin.ext (congrArg Fin.val (congrFun q 0)).symm
  · rintro ⟨p, rfl⟩
    funext c
    match c with
    | ⟨0, _⟩ => rfl
  · simp only [Fintype.sum_prod_type]

variable (x0 : FVec Ideal S4096x1024 .f32) (x1 : FVec Ideal S256x1024 .f32) (x2 : FVec Ideal S256x1024 .f32) (x3 : FVec Ideal S256 .f32) (x4 : FVec Ideal S4096x1024 .f32)
variable {x k v d : ℕ → ℕ → EReal} {g : ℕ → EReal}
  (h0 : Mat (M := 4096) (N := 1024) x0 x)
  (h1 : Mat (M := 256) (N := 1024) x1 k)
  (h2 : Mat (M := 256) (N := 1024) x2 v)
  (h3 : Row (N := 256) x3 g)
  (h4 : Mat (M := 4096) (N := 1024) x4 d)

/-- The queries, head by head. -/
def xh : FVec Ideal S4096x4x256 .f32 :=
  shapeCast _ x0 shapeCasts_S4096x1024_S4096x4x256

include h0 in
theorem xh_at : Mat3 (L := 4096) (M := 4) (N := 256) (xh x0) (fun a l b => head l x a b) := by
  intro l a b
  unfold xh
  clean_types
  pointwise
  simp only [h0.e]
  rfl

/-- The keys, head by head. -/
def kh : FVec Ideal S256x4x256 .f32 :=
  shapeCast _ x1 shapeCasts_S256x1024_S256x4x256

include h1 in
theorem kh_at : Mat3 (L := 256) (M := 4) (N := 256) (kh x1) (fun a l b => head l k a b) := by
  intro l a b
  unfold kh
  clean_types
  pointwise
  simp only [h1.e]
  rfl

/-- The values, head by head. -/
def vh : FVec Ideal S256x4x256 .f32 :=
  shapeCast _ x2 shapeCasts_S256x1024_S256x4x256

include h2 in
theorem vh_at : Mat3 (L := 256) (M := 4) (N := 256) (vh x2) (fun a l b => head l v a b) := by
  intro l a b
  unfold vh
  clean_types
  pointwise
  simp only [h2.e]
  rfl

/-- The gradient of the result, head by head. -/
def dh : FVec Ideal S4096x4x256 .f32 :=
  shapeCast _ x4 shapeCasts_S4096x1024_S4096x4x256

include h4 in
theorem dh_at : Mat3 (L := 4096) (M := 4) (N := 256) (dh x4) (fun a l b => head l d a b) := by
  intro l a b
  unfold dh
  clean_types
  pointwise
  simp only [h4.e]
  rfl

/-- The gains. -/
def gain : FVec Ideal S1x1x256 .f32 :=
  broadcastInDim S1x1x256 ![2] bcast_S256_S1x1x256_2 x3

include h3 in
theorem gain_at : Mat3 (L := 1) (M := 1) (N := 256) (gain x3) (fun _ _ b => g b) := by
  intro l a b
  unfold gain
  clean_types
  pointwise
  simp only [h3.e]

/-- The mean of the rows' squares. -/
def ms : FVec Ideal S4096x4x1 .f32 :=
  addf (Host.divf (broadcastInDim S4096x4x1 ![0, 1] bcast_S4096x4_S4096x4x1_0_1 (Host.reduceAdd (mulf (xh x0) (xh x0)) (constant S_ .f32 0x00000000#32) reducesTo_S4096x4x256_S4096x4_d2 h_S_)) (broadcastInDim S4096x4x1 ![] bcast_S_S4096x4x1 (constant S_ .f32 0x43800000#32))) (broadcastInDim S4096x4x1 ![] bcast_S_S4096x4x1 (constant S_ .f32 0x358637BD#32))

include h0 in
theorem ms_at : Mat3 (L := 4096) (M := 4) (N := 1) (ms x0) (fun a l _ => msq (head l x) a) := by
  intro l a b
  unfold ms
  clean_types
  pointwise
  simp only [(xh_at x0 h0).e]
  unfold msq
  rw [Finset.sum_range]

/-- The root below it. -/
def rs : FVec Ideal S4096x4x1 .f32 :=
  Host.rsqrt (ms x0)

include h0 in
theorem rs_at : Mat3 (L := 4096) (M := 4) (N := 1) (rs x0) (fun a l _ => Ideal.rsqrt (msq (head l x) a)) := by
  intro l a b
  unfold rs
  clean_types
  pointwise
  simp only [(ms_at x0 h0).e]

/-- The queries divided by their lengths. -/
def un : FVec Ideal S4096x4x256 .f32 :=
  mulf (xh x0) (broadcastInDim S4096x4x256 ![0, 1, 2] bcast_S4096x4x1_S4096x4x256_0_1_2 (rs x0))

include h0 in
theorem un_at : Mat3 (L := 4096) (M := 4) (N := 256) (un x0) (fun a l b => unit (head l x) a b) := by
  intro l a b
  unfold un
  clean_types
  pointwise
  simp only [(xh_at x0 h0).e, (rs_at x0 h0).e]
  rfl

/-- The same times the gains. -/
def qh : FVec Ideal S4096x4x256 .f32 :=
  mulf (un x0) (broadcastInDim S4096x4x256 ![0, 1, 2] bcast_S1x1x256_S4096x4x256_0_1_2 (gain x3))

include h0 h3 in
theorem qh_at : Mat3 (L := 4096) (M := 4) (N := 256) (qh x0 x3) (fun a l b => query (head l x) g a b) := by
  intro l a b
  unfold qh
  clean_types
  pointwise
  simp only [(un_at x0 h0).e, (gain_at x3 h3).e]
  rfl

/-- The scores. -/
def sc : FVec Ideal S4x4096x256 .f32 :=
  mulf (Host.dotGeneral (φ₁ := .f32) (φ₂ := .f32) dot_S4096x4x256_S256x4x256_S4x4096x256_2_2_0_0_1_1 none (qh x0 x3) (kh x1)) (broadcastInDim S4x4096x256 ![] bcast_S_S4x4096x256 (constant S_ .f32 0x3D800000#32))

include h0 h1 h3 in
theorem sc_at : Mat3 (L := 4) (M := 4096) (N := 256) (sc x0 x1 x3) (fun l a b => score (head l x) g (head l k) a b) := by
  intro l a b
  unfold sc
  clean_types
  pointwise
  simp only [(qh_at x0 x3 h0 h3).e, (kh_at x1 h1).e]
  unfold score mulT
  rw [Finset.sum_range]

/-- The largest score of a row. -/
def mx : FVec Ideal S4x4096 .f32 :=
  Host.reduce FloatOps.maximumf (sc x0 x1 x3) (constant S_ .f32 0xFF800000#32) reducesTo_S4x4096x256_S4x4096_d2 h_S_

include h0 h1 h3 in
theorem mx_at : Mat (M := 4) (N := 4096) (mx x0 x1 x3) (fun l a => top (head l x) g (head l k) a) := by
  intro a b
  unfold mx
  clean_types
  pointwise
  simp only [(sc_at x0 x1 x3 h0 h1 h3).e]
  rfl

/-- The weights. -/
def wt : FVec Ideal S4x4096x256 .f32 :=
  Host.exp (subf (sc x0 x1 x3) (broadcastInDim S4x4096x256 ![0, 1, 2] bcast_S4x4096x1_S4x4096x256_0_1_2 (broadcastInDim S4x4096x1 ![0, 1] bcast_S4x4096_S4x4096x1_0_1 (mx x0 x1 x3))))

include h0 h1 h3 in
theorem wt_at : Mat3 (L := 4) (M := 4096) (N := 256) (wt x0 x1 x3) (fun l a b => weight (head l x) g (head l k) a b) := by
  intro l a b
  unfold wt
  clean_types
  pointwise
  simp only [(sc_at x0 x1 x3 h0 h1 h3).e, (mx_at x0 x1 x3 h0 h1 h3).e]
  rfl

/-- Their sum. -/
def tl : FVec Ideal S4x4096x1 .f32 :=
  broadcastInDim S4x4096x1 ![0, 1] bcast_S4x4096_S4x4096x1_0_1 (Host.reduceAdd (wt x0 x1 x3) (constant S_ .f32 0x00000000#32) reducesTo_S4x4096x256_S4x4096_d2 h_S_)

include h0 h1 h3 in
theorem tl_at : Mat3 (L := 4) (M := 4096) (N := 1) (tl x0 x1 x3) (fun l a _ => total (head l x) g (head l k) a) := by
  intro l a b
  unfold tl
  clean_types
  pointwise
  simp only [(wt_at x0 x1 x3 h0 h1 h3).e]
  unfold total
  rw [Finset.sum_range]

/-- The probabilities. -/
def pr : FVec Ideal S4x4096x256 .f32 :=
  Host.divf (wt x0 x1 x3) (broadcastInDim S4x4096x256 ![0, 1, 2] bcast_S4x4096x1_S4x4096x256_0_1_2 (tl x0 x1 x3))

include h0 h1 h3 in
theorem pr_at : Mat3 (L := 4) (M := 4096) (N := 256) (pr x0 x1 x3) (fun l a b => prob (head l x) g (head l k) a b) := by
  intro l a b
  unfold pr
  clean_types
  pointwise
  simp only [(wt_at x0 x1 x3 h0 h1 h3).e, (tl_at x0 x1 x3 h0 h1 h3).e]
  rfl

/-- What the heads give. -/
def og : FVec Ideal S4096x1024 .bf16 :=
  truncf .bf16 (shapeCast S4096x1024 (transpose S4096x4x256 [2, 0, 1] (Host.dotGeneral (φ₁ := .f32) (φ₂ := .f32) dot_S256x4x256_S4x4096x256_S4x256x4096_0_2_2_1_1_0 none (vh x2) (pr x0 x1 x3)) transposes_S4x256x4096_S4096x4x256_2_0_1) shapeCasts_S4096x4x256_S4096x1024) bitsLt_bf16_f32

include h0 h1 h2 h3 in
theorem og_at : Mat (M := 4096) (N := 1024) (og x0 x1 x2 x3) (outF x g k v) := by
  intro a b
  unfold og
  clean_types
  pointwise
  simp only [(vh_at x2 h2).e, (pr_at x0 x1 x3 h0 h1 h3).e]
  unfold outF beside out mul
  beta_reduce
  rw [Finset.sum_range]
  simp only [mul_comm (head _ v _ _)]

/-- The gradient of the probabilities. -/
def dp : FVec Ideal S4x4096x256 .f32 :=
  (Host.dotGeneral (φ₁ := .f32) (φ₂ := .f32) dot_S4x256x4096_S256x4x256_S4x4096x256_1_2_2_0_0_1 none (transpose S4x256x4096 [1, 2, 0] (dh x4) transposes_S4096x4x256_S4x256x4096_1_2_0) (vh x2))

include h2 h4 in
theorem dp_at : Mat3 (L := 4) (M := 4096) (N := 256) (dp x2 x4) (fun l a b => dProb (head l v) (head l d) a b) := by
  intro l a b
  unfold dp
  clean_types
  pointwise
  simp only [(dh_at x4 h4).e, (vh_at x2 h2).e]
  unfold dProb mulT
  rw [Finset.sum_range]

/-- The gradient of the values. -/
def dv : FVec Ideal S256x1024 .f32 :=
  shapeCast S256x1024 (transpose S256x4x256 [2, 0, 1] (Host.dotGeneral (φ₁ := .f32) (φ₂ := .f32) dot_S4x256x4096_S4x4096x256_S4x256x256_2_1_1_2_0_0 none (transpose S4x256x4096 [1, 2, 0] (dh x4) transposes_S4096x4x256_S4x256x4096_1_2_0) (pr x0 x1 x3)) transposes_S4x256x256_S256x4x256_2_0_1) shapeCasts_S256x4x256_S256x1024

include h0 h1 h3 h4 in
theorem dv_at : Mat (M := 256) (N := 1024) (dv x0 x1 x3 x4) (dVF x g k d 4096) := by
  intro a b
  unfold dv
  clean_types
  pointwise
  simp only [(dh_at x4 h4).e, (pr_at x0 x1 x3 h0 h1 h3).e]
  unfold dVF beside dV Tmul
  beta_reduce
  rw [Finset.sum_range]
  simp only [mul_comm (head _ d _ _)]

/-- The gradient of the weights' sum. -/
def dt : FVec Ideal S4x4096 .f32 :=
  Host.reduceAdd (Host.negf (shapeCast S4x4096x1 (Host.reduceAdd (mulf (mulf (dp x2 x4) (broadcastInDim S4x4096x256 ![0, 1, 2] bcast_S4x4096x1_S4x4096x256_0_1_2 (Host.divf (broadcastInDim S4x4096x1 ![] bcast_S_S4x4096x1 (constant S_ .f32 0x3F800000#32)) (mulf (tl x0 x1 x3) (tl x0 x1 x3))))) (wt x0 x1 x3)) (constant S_ .f32 0x00000000#32) reducesTo_S4x4096x256_S4x4096_d2 h_S_) shapeCasts_S4x4096_S4x4096x1)) (constant S_ .f32 0x00000000#32) reducesTo_S4x4096x1_S4x4096_d2 h_S_

include h0 h1 h2 h3 h4 in
theorem dt_at : Mat (M := 4) (N := 4096) (dt x0 x1 x2 x3 x4) (fun l a => dTotal (head l x) g (head l k) (head l v) (head l d) a) := by
  intro a b
  unfold dt
  clean_types
  pointwise
  simp only [(dp_at x2 x4 h2 h4).e, (tl_at x0 x1 x3 h0 h1 h3).e, (wt_at x0 x1 x3 h0 h1 h3).e]
  unfold dTotal
  rw [Fin.sum_univ_one, Finset.sum_range]

/-- The gradient of the scores. -/
def dsc : FVec Ideal S4x4096x256 .f32 :=
  mulf (mulf (addf (Host.divf (dp x2 x4) (broadcastInDim S4x4096x256 ![0, 1, 2] bcast_S4x4096x1_S4x4096x256_0_1_2 (tl x0 x1 x3))) (broadcastInDim S4x4096x256 ![0, 1] bcast_S4x4096_S4x4096x256_0_1 (dt x0 x1 x2 x3 x4))) (wt x0 x1 x3)) (broadcastInDim S4x4096x256 ![] bcast_S_S4x4096x256 (constant S_ .f32 0x3D800000#32))

include h0 h1 h2 h3 h4 in
theorem dsc_at : Mat3 (L := 4) (M := 4096) (N := 256) (dsc x0 x1 x2 x3 x4) (fun l a b => dScore (head l x) g (head l k) (head l v) (head l d) a b) := by
  intro l a b
  unfold dsc
  clean_types
  pointwise
  simp only [(dp_at x2 x4 h2 h4).e, (tl_at x0 x1 x3 h0 h1 h3).e, (dt_at x0 x1 x2 x3 x4 h0 h1 h2 h3 h4).e, (wt_at x0 x1 x3 h0 h1 h3).e]
  rfl

/-- The gradient of the keys. -/
def dk : FVec Ideal S256x1024 .f32 :=
  shapeCast S256x1024 (transpose S256x4x256 [1, 0, 2] (Host.dotGeneral (φ₁ := .f32) (φ₂ := .f32) dot_S4x4096x256_S4096x4x256_S4x256x256_1_0_2_2_0_1 none (dsc x0 x1 x2 x3 x4) (qh x0 x3)) transposes_S4x256x256_S256x4x256_1_0_2) shapeCasts_S256x4x256_S256x1024

include h0 h1 h2 h3 h4 in
theorem dk_at : Mat (M := 256) (N := 1024) (dk x0 x1 x2 x3 x4) (dKF x g k v d 4096) := by
  intro a b
  unfold dk
  clean_types
  pointwise
  simp only [(dsc_at x0 x1 x2 x3 x4 h0 h1 h2 h3 h4).e, (qh_at x0 x3 h0 h3).e]
  unfold dKF beside dK Tmul
  beta_reduce
  rw [Finset.sum_range]

/-- The gradient of the queries after the norm. -/
def dq : FVec Ideal S4096x4x256 .f32 :=
  transpose S4096x4x256 [1, 0, 2] (Host.dotGeneral (φ₁ := .f32) (φ₂ := .f32) dot_S4x4096x256_S256x4x256_S4x4096x256_2_0_1_2_0_1 none (dsc x0 x1 x2 x3 x4) (kh x1)) transposes_S4x4096x256_S4096x4x256_1_0_2

include h0 h1 h2 h3 h4 in
theorem dq_at : Mat3 (L := 4096) (M := 4) (N := 256) (dq x0 x1 x2 x3 x4) (fun a l b => dQuery (head l x) g (head l k) (head l v) (head l d) a b) := by
  intro l a b
  unfold dq
  clean_types
  pointwise
  simp only [(dsc_at x0 x1 x2 x3 x4 h0 h1 h2 h3 h4).e, (kh_at x1 h1).e]
  unfold dQuery mul
  rw [Finset.sum_range]

/-- The gradient of the gains. -/
def dgain : FVec Ideal S1x256 .f32 :=
  broadcastInDim S1x256 ![1] bcast_S256_S1x256_1 (Host.reduceAdd (shapeCast S1x1x256 (Host.reduceAdd (mulf (un x0) (dq x0 x1 x2 x3 x4)) (constant S_ .f32 0x00000000#32) reducesTo_S4096x4x256_S256_d0_1 h_S_) shapeCasts_S256_S1x1x256) (constant S_ .f32 0x00000000#32) reducesTo_S1x1x256_S256_d0_1 h_S_)

include h0 h1 h2 h3 h4 in
theorem dgain_at : Mat (M := 1) (N := 256) (dgain x0 x1 x2 x3 x4) (fun _ => dGF x g k v d 4096) := by
  intro a b
  unfold dgain
  clean_types
  pointwise
  rw [sum01, zero_add]
  pointwise
  rw [Fin.sum_univ_one, Fin.sum_univ_one, sum01, zero_add, Finset.sum_comm]
  pointwise
  simp only [(un_at x0 h0).e, (dq_at x0 x1 x2 x3 x4 h0 h1 h2 h3 h4).e]
  unfold dGF dG
  rw [Finset.sum_range]
  simp only [Finset.sum_range]

/-- The gradient of the queries divided by their lengths. -/
def dqg : FVec Ideal S4096x4x256 .f32 :=
  mulf (dq x0 x1 x2 x3 x4) (broadcastInDim S4096x4x256 ![0, 1, 2] bcast_S1x1x256_S4096x4x256_0_1_2 (gain x3))

include h0 h1 h2 h3 h4 in
theorem dqg_at : Mat3 (L := 4096) (M := 4) (N := 256) (dqg x0 x1 x2 x3 x4) (fun a l b => dQuery (head l x) g (head l k) (head l v) (head l d) a b * g b) := by
  intro l a b
  unfold dqg
  clean_types
  pointwise
  simp only [(dq_at x0 x1 x2 x3 x4 h0 h1 h2 h3 h4).e, (gain_at x3 h3).e]

/-- What the mean of the squares receives. -/
def dm : FVec Ideal S4096x4x256 .f32 :=
  broadcastInDim S4096x4x256 ![0, 1] bcast_S4096x4_S4096x4x256_0_1 (Host.reduceAdd (Host.divf (mulf (shapeCast S4096x4x1 (Host.reduceAdd (mulf (xh x0) (dqg x0 x1 x2 x3 x4)) (constant S_ .f32 0x00000000#32) reducesTo_S4096x4x256_S4096x4_d2 h_S_) shapeCasts_S4096x4_S4096x4x1) (mulf (broadcastInDim S4096x4x1 ![] bcast_S_S4096x4x1 (constant S_ .f32 0xBF000000#32)) (Host.divf (rs x0) (ms x0)))) (broadcastInDim S4096x4x1 ![] bcast_S_S4096x4x1 (constant S_ .f32 0x43800000#32))) (constant S_ .f32 0x00000000#32) reducesTo_S4096x4x1_S4096x4_d2 h_S_)

include h0 h1 h2 h3 h4 in
theorem dm_at : Mat3 (L := 4096) (M := 4) (N := 256) (dm x0 x1 x2 x3 x4) (fun a l _ => dMsq (head l x) g (dQuery (head l x) g (head l k) (head l v) (head l d)) a) := by
  intro l a b
  unfold dm
  clean_types
  pointwise
  simp only [(xh_at x0 h0).e, (dqg_at x0 x1 x2 x3 x4 h0 h1 h2 h3 h4).e, (rs_at x0 h0).e, (ms_at x0 h0).e]
  rw [Fin.sum_univ_one]
  unfold dMsq
  rw [Finset.sum_range]

/-- The gradient of the queries. -/
def dx : FVec Ideal S4096x1024 .f32 :=
  shapeCast S4096x1024 (addf (addf (mulf (dqg x0 x1 x2 x3 x4) (broadcastInDim S4096x4x256 ![0, 1, 2] bcast_S4096x4x1_S4096x4x256_0_1_2 (rs x0))) (mulf (xh x0) (dm x0 x1 x2 x3 x4))) (mulf (dm x0 x1 x2 x3 x4) (xh x0))) shapeCasts_S4096x4x256_S4096x1024

include h0 h1 h2 h3 h4 in
theorem dx_at : Mat (M := 4096) (N := 1024) (dx x0 x1 x2 x3 x4) (dXF x g k v d) := by
  intro a b
  unfold dx
  clean_types
  pointwise
  simp only [(xh_at x0 h0).e, (dqg_at x0 x1 x2 x3 x4 h0 h1 h2 h3 h4).e, (rs_at x0 h0).e, (dm_at x0 x1 x2 x3 x4 h0 h1 h2 h3 h4).e]
  rfl

end Cert.Memo.Ref
-- ==== Proof.CoreJoin.lean ====
/- The five results of the attention to the memory are the reference's. -/
module

public import proofs.«01_k».proof.Defs
public import proofs.«01_k».proof.Proof.CoreRun
public import proofs.«01_k».proof.Proof.CoreChain
public import proofs.«01_k».proof.Proof.CoreRef

@[expose] public section

set_option maxRecDepth 16384

noncomputable section

namespace Cert.Memo

open Idealize.ShloMosaic Idealize.ShloMosaic.TcCoe Idealize.SL.Sem Cert.CoreIdeal Cert.CoreIdeal.Gen Cert.Mlp

/-- The kernel and the reference, from the same arguments, end with the same five arrays. -/
theorem agree : Cert.algebraic_CoreIdeal_CoreReferenceIdeal := by
  intro m g m' g' _ hargs
  refine ⟨fun c => W2 m g c (Proc.devRef .tc main_v3), fun c => W4 m g c (Proc.devRef .tc main_v6_0), fun c => W4 m g c (Proc.devRef .tc main_v6_1), fun c => W4 m g c (Proc.devRef .tc main_v6_2), fun c => W4 m g c (Proc.devRef .tc main_v6_3),
    results m g, ?_⟩
  refine (θ_run _ _ _).mono (fun r h c => ?_) (Cert.CoreReferenceIdeal.Value.run m' g')
  obtain ⟨r0, r1, r2, r3, r4, ra⟩ := h c
  obtain ⟨a0, a1, a2, a3, a4⟩ := hargs c
  obtain ⟨_, hx⟩ := some_mat (M := 4096) (N := 1024) (m ((c.tc : Thread nD τ).loc main_arg0))
  obtain ⟨_, hk⟩ := some_mat (M := 256) (N := 1024) (m ((c.tc : Thread nD τ).loc main_arg1))
  obtain ⟨_, hv⟩ := some_mat (M := 256) (N := 1024) (m ((c.tc : Thread nD τ).loc main_arg2))
  obtain ⟨_, hg⟩ := some_row (N := 256) (m ((c.tc : Thread nD τ).loc main_arg3))
  obtain ⟨_, hd⟩ := some_mat (M := 4096) (N := 1024) (m ((c.tc : Thread nD τ).loc main_arg4))
  have i0 := Mat.cast (M := 4096) (N := 1024) a0 hx
  have i1 := Mat.cast (M := 256) (N := 1024) a1 hk
  have i2 := Mat.cast (M := 256) (N := 1024) a2 hv
  have i3 := Row.cast (N := 256) a3 hg
  have i4 := Mat.cast (M := 4096) (N := 1024) a4 hd
  exact ⟨r0.trans (Mat.ext (Ref.og_at _ _ _ _ i0 i1 i2 i3) (at_v3 m g c hx hk hv hg)),
    r1.trans (Mat.ext (Ref.dx_at _ _ _ _ _ i0 i1 i2 i3 i4) (at_v6_0 m g c hx hk hv hg hd)),
    r2.trans (Mat.ext (Ref.dk_at _ _ _ _ _ i0 i1 i2 i3 i4) (at_v6_1 m g c hx hk hv hg hd)),
    r3.trans (Mat.ext (Ref.dv_at _ _ _ _ i0 i1 i3 i4) (at_v6_2 m g c hx hk hg hd)),
    r4.trans (Mat.ext (Ref.dgain_at _ _ _ _ _ i0 i1 i2 i3 i4) (at_v6_3 m g c hx hk hv hg hd)), ra⟩

end Cert.Memo
-- ==== Proof.Adam.lean ====
/- The update of the small weights: what one step of the call computes, what the call leaves, and that the reference's three results are the same. -/
module

public import proofs.«01_k».proof.Defs
public import proofs.«01_k».proof.Proof.Gen.AdamIdeal.Frame
public import proofs.«01_k».proof.Proof.Gen.AdamReferenceIdeal.Run
public import Idealize.ShloMosaic.Lib.Pointwise
public import Idealize.ShloMosaic.Lib.KernelVsHost
public import Idealize.ShloMosaic.Lib.Pipeline.ValueKit
public import Idealize.ShloMosaic.Lib.Tactic.CleanTypes
public import proofs.«01_k».proof.Proof.FfnMat

@[expose] public section

set_option maxRecDepth 16384

noncomputable section

namespace Cert.Upd

open Idealize.ShloMosaic Idealize.ShloMosaic.TcCoe Idealize.SL.Sem Cert.Mlp

/-! ## The update of one element -/

/-- The new first moment, the new second moment and the change of the weight, from the weight `w`, its gradient `g`
and the moments `p` and `q` before. -/
def first (g p : EReal) : EReal := Ideal.ofBits FTy.f32 0x3F666666#32 * p + Ideal.ofBits FTy.f32 0x3DCCCCCD#32 * g
def second (g q : EReal) : EReal := Ideal.ofBits FTy.f32 0x3F7FBE77#32 * q + Ideal.ofBits FTy.f32 0x3A83126F#32 * (g * g)
def change (w g p q : EReal) : EReal :=
  Ideal.ofBits FTy.f32 0xBA83126F#32 * (Ideal.div (Ideal.div (first g p) (Ideal.ofBits FTy.f32 0x3F26BD02#32))
    (Ideal.sqrt (Ideal.div (second g q) (Ideal.ofBits FTy.f32 0x3C231ACC#32)) + Ideal.ofBits FTy.f32 0x322BCC77#32)
    + Ideal.ofBits FTy.f32 0x3C23D70A#32 * w)

variable {w g p q : ℕ → ℕ → EReal}

/-! ## The reference -/

namespace Ref

open Cert.AdamReferenceIdeal Cert.AdamReferenceIdeal.Gen

variable (x0 x1 x2 x3 : FVec Ideal S384x1024 .f32)
  (h0 : Mat (M := 384) (N := 1024) x0 w)
  (h1 : Mat (M := 384) (N := 1024) x1 g)
  (h2 : Mat (M := 384) (N := 1024) x2 p)
  (h3 : Mat (M := 384) (N := 1024) x3 q)

/-- The new first moments. -/
def moment1 : FVec Ideal S384x1024 .f32 :=
  addf (mulf (broadcastInDim S384x1024 ![] bcast_S_S384x1024 (constant S_ .f32 0x3F666666#32)) x2) (mulf (broadcastInDim S384x1024 ![] bcast_S_S384x1024 (constant S_ .f32 0x3DCCCCCD#32)) x1)

include h1 h2 in
theorem moment1_at : Mat (M := 384) (N := 1024) (moment1 x1 x2) (fun a b => first (g a b) (p a b)) := fun a b => by
  unfold moment1
  clean_types
  pointwise
  simp only [h1.e, h2.e]
  rfl

/-- The new second moments. -/
def moment2 : FVec Ideal S384x1024 .f32 :=
  addf (mulf (broadcastInDim S384x1024 ![] bcast_S_S384x1024 (constant S_ .f32 0x3F7FBE77#32)) x3) (mulf (broadcastInDim S384x1024 ![] bcast_S_S384x1024 (constant S_ .f32 0x3A83126F#32)) (mulf x1 x1))

include h1 h3 in
theorem moment2_at : Mat (M := 384) (N := 1024) (moment2 x1 x3) (fun a b => second (g a b) (q a b)) := fun a b => by
  unfold moment2
  clean_types
  pointwise
  simp only [h1.e, h3.e]
  rfl

/-- The changes of the weights. -/
def delta : FVec Ideal S384x1024 .f32 :=
  mulf (broadcastInDim S384x1024 ![] bcast_S_S384x1024 (constant S_ .f32 0xBA83126F#32)) (addf (Host.divf (Host.divf (moment1 x1 x2) (broadcastInDim S384x1024 ![] bcast_S_S384x1024 (constant S_ .f32 0x3F26BD02#32)))
    (addf (Host.sqrt (Host.divf (moment2 x1 x3) (broadcastInDim S384x1024 ![] bcast_S_S384x1024 (constant S_ .f32 0x3C231ACC#32)))) (broadcastInDim S384x1024 ![] bcast_S_S384x1024 (constant S_ .f32 0x322BCC77#32)))) (mulf (broadcastInDim S384x1024 ![] bcast_S_S384x1024 (constant S_ .f32 0x3C23D70A#32)) x0))

include h0 h1 h2 h3 in
theorem delta_at : Mat (M := 384) (N := 1024) (delta x0 x1 x2 x3) (fun a b => change (w a b) (g a b) (p a b) (q a b)) := fun a b => by
  unfold delta
  clean_types
  pointwise
  simp only [h0.e, (moment1_at x1 x2 h1 h2).e, (moment2_at x1 x3 h1 h3).e]
  rfl

end Ref

open Cert.AdamIdeal Cert.AdamIdeal.Gen

/-! ## One step -/

section
variable {v0 v1 v2 v3 : Vec Ideal S192x1024 .f32}
  (h0 : Mat (M := 192) (N := 1024) v0 w) (h1 : Mat (M := 192) (N := 1024) v1 g)
  (h2 : Mat (M := 192) (N := 1024) v2 p) (h3 : Mat (M := 192) (N := 1024) v3 q)

include h1 h2 in
theorem first_mat : Mat (M := 192) (N := 1024) (k0_pay1 v1 v2) (fun a b => first (g a b) (p a b)) := fun a b => by
  pointwise [k0_pay1]
  simp only [h1.e, h2.e]
  rfl

include h1 h3 in
theorem second_mat : Mat (M := 192) (N := 1024) (k0_pay2 v1 v3) (fun a b => second (g a b) (q a b)) := fun a b => by
  pointwise [k0_pay2]
  simp only [h1.e, h3.e]
  rfl

include h0 h1 h2 h3 in
theorem change_mat : Mat (M := 192) (N := 1024) (k0_pay3 v0 v1 v2 v3) (fun a b => change (w a b) (g a b) (p a b) (q a b)) := fun a b => by
  pointwise [k0_pay3]
  simp only [h0.e, (first_mat h1 h2).e, (second_mat h1 h3).e]
  rfl

end

/-! ## The blocks -/

theorem at0 : ∀ t : Fin grid0.N, win0_0.index t = ![t.val, 0] := by decide +kernel
theorem at1 : ∀ t : Fin grid0.N, win0_1.index t = ![t.val, 0] := by decide +kernel
theorem at2 : ∀ t : Fin grid0.N, win0_2.index t = ![t.val, 0] := by decide +kernel
theorem at3 : ∀ t : Fin grid0.N, win0_3.index t = ![t.val, 0] := by decide +kernel
theorem at4 : ∀ t : Fin grid0.N, win0_4.index t = ![t.val, 0] := by decide +kernel
theorem at5 : ∀ t : Fin grid0.N, win0_5.index t = ![t.val, 0] := by decide +kernel
theorem at6 : ∀ t : Fin grid0.N, win0_6.index t = ![t.val, 0] := by decide +kernel

section
variable (m : (l : Loc nD τ sig) → Buf (Elt Ideal) l) (c : Dev nD) (t : Fin grid0.N)

theorem blk0 (h : Mat (M := 384) (N := 1024) (m ((c.tc : Thread nD τ).loc main_arg0)) w) :
    Mat (M := 192) (N := 1024) (iblk m c 0 t) (fun a b => w (t.val * 192 + a) b) := by
  intro a b
  blk_simp [iblk]
  refine (h.at _).trans ?_
  blk_simp [at0 t]

theorem blk1 (h : Mat (M := 384) (N := 1024) (m ((c.tc : Thread nD τ).loc main_arg1)) g) :
    Mat (M := 192) (N := 1024) (iblk m c 1 t) (fun a b => g (t.val * 192 + a) b) := by
  intro a b
  blk_simp [iblk]
  refine (h.at _).trans ?_
  blk_simp [at1 t]

theorem blk2 (h : Mat (M := 384) (N := 1024) (m ((c.tc : Thread nD τ).loc main_arg2)) p) :
    Mat (M := 192) (N := 1024) (iblk m c 2 t) (fun a b => p (t.val * 192 + a) b) := by
  intro a b
  blk_simp [iblk]
  refine (h.at _).trans ?_
  blk_simp [at2 t]

theorem blk3 (h : Mat (M := 384) (N := 1024) (m ((c.tc : Thread nD τ).loc main_arg3)) q) :
    Mat (M := 192) (N := 1024) (iblk m c 3 t) (fun a b => q (t.val * 192 + a) b) := by
  intro a b
  blk_simp [iblk]
  refine (h.at _).trans ?_
  blk_simp [at3 t]

end

/-! ## The arrays the call leaves -/

section
variable (m : (l : Loc nD τ sig) → Buf (Elt Ideal) l) (c : Dev nD)
  (h0 : Mat (M := 384) (N := 1024) (m ((c.tc : Thread nD τ).loc main_arg0)) w)
  (h1 : Mat (M := 384) (N := 1024) (m ((c.tc : Thread nD τ).loc main_arg1)) g)
  (h2 : Mat (M := 384) (N := 1024) (m ((c.tc : Thread nD τ).loc main_arg2)) p)
  (h3 : Mat (M := 384) (N := 1024) (m ((c.tc : Thread nD τ).loc main_arg3)) q)

include h0 h1 h2 h3 in
theorem call_change : Mat (M := 384) (N := 1024) ((dats m 0 c).arrAt 4 cfg0.N) (fun a b => change (w a b) (g a b) (p a b) (q a b)) := by
  refine Mat.of ((dats m 0 c).arrAt_eq_of_covers 4 _ (by decide +kernel) fun t hf y => ?_)
  blk_simp
  rw [after0_4]
  frame_out
  refine ((change_mat (blk0 m c t h0) (blk1 m c t h1) (blk2 m c t h2) (blk3 m c t h3)).at y).trans ?_
  blk_simp [at4 t]

include h1 h2 in
theorem call_first : Mat (M := 384) (N := 1024) ((dats m 0 c).arrAt 5 cfg0.N) (fun a b => first (g a b) (p a b)) := by
  refine Mat.of ((dats m 0 c).arrAt_eq_of_covers 5 _ (by decide +kernel) fun t hf y => ?_)
  blk_simp
  rw [after0_5]
  frame_out
  refine ((first_mat (blk1 m c t h1) (blk2 m c t h2)).at y).trans ?_
  blk_simp [at5 t]

include h1 h3 in
theorem call_second : Mat (M := 384) (N := 1024) ((dats m 0 c).arrAt 6 cfg0.N) (fun a b => second (g a b) (q a b)) := by
  refine Mat.of ((dats m 0 c).arrAt_eq_of_covers 6 _ (by decide +kernel) fun t hf y => ?_)
  blk_simp
  rw [after0_6]
  frame_out
  refine ((second_mat (blk1 m c t h1) (blk3 m c t h3)).at y).trans ?_
  blk_simp [at6 t]

end

/-- The kernel and the reference, from the same arguments, end with the same three arrays. -/
theorem agree : Cert.algebraic_AdamIdeal_AdamReferenceIdeal := by
  intro m ρ m' ρ' _ hargs
  refine ⟨fun c => (dats m 0 c).arrAt 4 cfg0.N, fun c => (dats m 0 c).arrAt 5 cfg0.N, fun c => (dats m 0 c).arrAt 6 cfg0.N,
    (θ_run _ _ _).mono (fun r h c => ⟨(h.1 c).1 4, (h.1 c).1 5, (h.1 c).1 6, h.2 c⟩) (θ_run_and (run_main m ρ) (unchanged m ρ)), ?_⟩
  refine (θ_run _ _ _).mono (fun r h c => ?_) (Cert.AdamReferenceIdeal.Value.run m' ρ')
  obtain ⟨r0, r1, r2, ra⟩ := h c
  obtain ⟨a0, a1, a2, a3⟩ := hargs c
  obtain ⟨_, h0⟩ := some_mat (M := 384) (N := 1024) (m ((c.tc : Thread nD τ).loc main_arg0))
  obtain ⟨_, h1⟩ := some_mat (M := 384) (N := 1024) (m ((c.tc : Thread nD τ).loc main_arg1))
  obtain ⟨_, h2⟩ := some_mat (M := 384) (N := 1024) (m ((c.tc : Thread nD τ).loc main_arg2))
  obtain ⟨_, h3⟩ := some_mat (M := 384) (N := 1024) (m ((c.tc : Thread nD τ).loc main_arg3))
  have i0 := Mat.cast (M := 384) (N := 1024) a0 h0
  have i1 := Mat.cast (M := 384) (N := 1024) a1 h1
  have i2 := Mat.cast (M := 384) (N := 1024) a2 h2
  have i3 := Mat.cast (M := 384) (N := 1024) a3 h3
  exact ⟨r0.trans (Mat.ext (Ref.delta_at _ _ _ _ i0 i1 i2 i3) (call_change m c h0 h1 h2 h3)),
    r1.trans (Mat.ext (Ref.moment1_at _ _ i1 i2) (call_first m c h1 h2)),
    r2.trans (Mat.ext (Ref.moment2_at _ _ i1 i3) (call_second m c h1 h3)), ra⟩

end Cert.Upd
-- ==== Proof.Mem.lean ====
/- The keys and values of the memory: what the call computes, and that the reference's two results are the same. -/
module

public import proofs.«01_k».proof.Defs
public import proofs.«01_k».proof.Proof.Gen.MemIdeal.Frame
public import proofs.«01_k».proof.Proof.Gen.MemReferenceIdeal.Run
public import Idealize.ShloMosaic.Lib.Tactic.CleanTypes
public import proofs.«01_k».proof.Proof.CoreStep

@[expose] public section

set_option maxRecDepth 16384

noncomputable section

namespace Cert.Keys

open Idealize.ShloMosaic Idealize.ShloMosaic.TcCoe Idealize.SL.Sem Cert.Mlp
open scoped BigOperators

variable {x k v : ℕ → ℕ → EReal} {g h : ℕ → EReal}

/-- The keys: the memory's rows normed, times `k`, and each head's rows of that normed. The values: the same rows, times `v`. -/
def keys (x : ℕ → ℕ → EReal) (g : ℕ → EReal) (k : ℕ → ℕ → EReal) (h : ℕ → EReal) : ℕ → ℕ → EReal :=
  Memo.beside fun n => Memo.query (Memo.head n (mul 1024 (rms x g) k)) h
def values (x : ℕ → ℕ → EReal) (g : ℕ → EReal) (v : ℕ → ℕ → EReal) : ℕ → ℕ → EReal := mul 1024 (rms x g) v

/-! ## The reference -/

namespace Ref

open Cert.MemReferenceIdeal Cert.MemReferenceIdeal.Gen

variable (x0 : FVec Ideal S256x1024 .f32) (x1 : FVec Ideal S1x1024 .f32) {φ : FTy} (x2 : FVec Ideal S1024x1024 φ) (x3 : FVec Ideal S1024x1024 .bf16) (x4 : FVec Ideal S1x256 .f32)
  (h0 : Mat (M := 256) (N := 1024) x0 x) (h1 : Mat (M := 1) (N := 1024) x1 fun _ => g)
  (h2 : Mat (M := 1024) (N := 1024) x2 k) (h3 : Mat (M := 1024) (N := 1024) x3 v) (h4 : Mat (M := 1) (N := 256) x4 fun _ => h)

/-- The mean of the squares of the memory's rows. -/
def ms : FVec Ideal S256x1 .f32 :=
  addf (Host.divf (broadcastInDim S256x1 ![0] bcast_S256_S256x1_0 (Host.reduceAdd (mulf x0 x0) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32))

include h0 in
theorem ms_at : Mat (M := 256) (N := 1) (ms x0) (fun a _ => meanSq x a) := by
  intro a b
  unfold ms
  clean_types
  pointwise
  simp only [h0.e]
  unfold meanSq
  rw [Finset.sum_range]

/-- The memory, normed. -/
def nm : FVec Ideal S256x1024 .f32 :=
  mulf (mulf x0 (broadcastInDim S256x1024 ![0, 1] bcast_S256x1_S256x1024_0_1 (Host.rsqrt (ms x0)))) (broadcastInDim S256x1024 ![0, 1] bcast_S1x1024_S256x1024_0_1 (broadcastInDim S1x1024 ![1] bcast_S1024_S1x1024_1 (shapeCast _ x1 shapeCasts_S1x1024_S1024)))

include h0 h1 in
theorem nm_at : Mat (M := 256) (N := 1024) (nm x0 x1) (rms x g) := by
  intro a b
  unfold nm
  clean_types
  pointwise
  simp only [h0.e, h1.e, (ms_at x0 h0).e]
  rfl

/-- The values. -/
def vs : FVec Ideal S256x1024 .f32 :=
  Host.dotGeneral dot_S256x1024_S1024x1024_S256x1024_1_0_0_1_n_n none (nm x0 x1) x3

include h0 h1 h3 in
theorem vs_at : Mat (M := 256) (N := 1024) (vs x0 x1 x3) (values x g v) := by
  intro a b
  unfold vs
  clean_types
  pointwise
  simp only [(nm_at x0 x1 h0 h1).e, h3.e]
  unfold values mul
  rw [Finset.sum_range]

/-- The keys before their norm, head by head. -/
def kp : FVec Ideal S256x4x256 .f32 :=
  shapeCast _ (Host.dotGeneral dot_S256x1024_S1024x1024_S256x1024_1_0_0_1_n_n none (nm x0 x1) x2) shapeCasts_S256x1024_S256x4x256

include h0 h1 h2 in
theorem kp_at : Mat3 (L := 256) (M := 4) (N := 256) (kp x0 x1 x2) (fun a l b => Memo.head l (mul 1024 (rms x g) k) a b) := by
  intro a l b
  unfold kp
  clean_types
  pointwise
  simp only [(nm_at x0 x1 h0 h1).e, h2.e]
  unfold Memo.head mul
  rw [Finset.sum_range]

/-- The mean of their squares. -/
def kq : FVec Ideal S256x4x1 .f32 :=
  addf (Host.divf (broadcastInDim S256x4x1 ![0, 1] bcast_S256x4_S256x4x1_0_1 (Host.reduceAdd (mulf (kp x0 x1 x2) (kp x0 x1 x2)) (constant S_ .f32 0x00000000#32) reducesTo_S256x4x256_S256x4_d2 h_S_)) (broadcastInDim S256x4x1 ![] bcast_S_S256x4x1 (constant S_ .f32 0x43800000#32))) (broadcastInDim S256x4x1 ![] bcast_S_S256x4x1 (constant S_ .f32 0x358637BD#32))

include h0 h1 h2 in
theorem kq_at : Mat3 (L := 256) (M := 4) (N := 1) (kq x0 x1 x2) (fun a l _ => Memo.msq (Memo.head l (mul 1024 (rms x g) k)) a) := by
  intro a l b
  unfold kq
  clean_types
  pointwise
  simp only [(kp_at x0 x1 x2 h0 h1 h2).e]
  unfold Memo.msq
  rw [Finset.sum_range]

/-- The keys. -/
def ks : FVec Ideal S256x1024 .f32 :=
  shapeCast _ (mulf (mulf (kp x0 x1 x2) (broadcastInDim S256x4x256 ![0, 1, 2] bcast_S256x4x1_S256x4x256_0_1_2 (Host.rsqrt (kq x0 x1 x2)))) (broadcastInDim S256x4x256 ![0, 1, 2] bcast_S1x1x256_S256x4x256_0_1_2 (broadcastInDim S1x1x256 ![2] bcast_S256_S1x1x256_2 (shapeCast _ x4 shapeCasts_S1x256_S256)))) shapeCasts_S256x4x256_S256x1024

include h0 h1 h2 h4 in
theorem ks_at : Mat (M := 256) (N := 1024) (ks x0 x1 x2 x4) (keys x g k h) := by
  intro a b
  unfold ks
  clean_types
  pointwise
  simp only [(kp_at x0 x1 x2 h0 h1 h2).e, (kq_at x0 x1 x2 h0 h1 h2).e, h4.e]
  rfl

end Ref

open Cert.MemIdeal Cert.MemIdeal.Gen

/-! ## The call's two values -/

/-- The rows of a head, normed. -/
def headed (y : FVec Ideal S256x256 .f32) (z : Vec Ideal S1x256 .f32) : FVec Ideal S256x256 .f32 :=
  mulf (Memo.vUnit y) (broadcastTo S256x256 z broadcasts_S1x256_S256x256)

section
variable {v0 : Vec Ideal S256x1024 .f32} {v1 : Vec Ideal S1x1024 .f32} {v2 v4 : Vec Ideal S1024x1024 .bf16} {v6 : Vec Ideal S1x256 .f32}
  (h0 : Mat (M := 256) (N := 1024) v0 x) (h1 : Mat (M := 1) (N := 1024) v1 fun _ => g)
  (h2 : Mat (M := 1024) (N := 1024) v2 k) (h4 : Mat (M := 1024) (N := 1024) v4 v) (h6 : Mat (M := 1) (N := 256) v6 fun _ => h)

theorem headed_mat {y : FVec Ideal S256x256 .f32} {f : ℕ → ℕ → EReal} (hy : Mat (M := 256) (N := 256) y f) (h6 : Mat (M := 1) (N := 256) v6 fun _ => h) :
    Mat (M := 256) (N := 256) (headed y v6) (Memo.query f h) := fun a b => by
  pointwise [headed]
  simp only [(Memo.vUnit_mat hy).e, h6.e]
  rfl

include h0 h1 in
theorem normed_mat : Mat (M := 256) (N := 1024) (k0_pay4 v0 v1) (rms x g) := fun a b => by
  pointwise [k0_pay4]
  simp only [h0.e, h1.e]
  unfold rms unit meanSq
  rw [Finset.sum_range]

include h0 h1 h4 in
theorem values_mat : Mat (M := 256) (N := 1024) (k0_pay2 (k0_pay3 v4) (k0_pay4 v0 v1)) (values x g v) := fun a b => by
  pointwise [k0_pay2, k0_pay3]
  simp only [(normed_mat h0 h1).e, h4.e]
  unfold values mul
  rw [Finset.sum_range]

include h0 h1 h2 in
theorem product_mat : Mat (M := 256) (N := 1024) (k0_pay5 v0 v1 v2) (mul 1024 (rms x g) k) := fun a b => by
  pointwise [k0_pay5]
  simp only [(normed_mat h0 h1).e, h2.e]
  unfold mul
  rw [Finset.sum_range]

include h0 h1 h2 h6 in
theorem keys_mat : Mat (M := 256) (N := 1024)
    (k0_pay1 v6 (k0_pay5 v0 v1 v2) (k0_pay6 v0 v1 v2 v6) (k0_pay7 v0 v1 v2) (k0_pay8 v0 v1 v2) (k0_pay9 (F := Ideal))) (keys x g k h) := by
  have p := product_mat h0 h1 h2
  exact Memo.join4_mat (F := fun n => Memo.query (Memo.head n (mul 1024 (rms x g) k)) h)
    (headed_mat (Memo.col0_mat p) h6) (headed_mat (Memo.col1_mat p) h6) (headed_mat (Memo.col2_mat p) h6) (headed_mat (Memo.col3_mat p) h6)

end

/-! ## The blocks and the arrays the call leaves -/

theorem at0 : ∀ t : Fin grid0.N, win0_0.index t = ![0, 0] := by decide
theorem at1 : ∀ t : Fin grid0.N, win0_1.index t = ![0, 0] := by decide
theorem at2 : ∀ t : Fin grid0.N, win0_2.index t = ![0, 0] := by decide
theorem at3 : ∀ t : Fin grid0.N, win0_3.index t = ![0, 0] := by decide
theorem at4 : ∀ t : Fin grid0.N, win0_4.index t = ![0, 0] := by decide
theorem at5 : ∀ t : Fin grid0.N, win0_5.index t = ![0, 0] := by decide
theorem at6 : ∀ t : Fin grid0.N, win0_6.index t = ![0, 0] := by decide

section
variable (m : (l : Loc nD τ sig) → Buf (Elt Ideal) l) (c : Dev nD)

theorem blk0 {f : ℕ → ℕ → EReal} (h : Mat (M := 256) (N := 1024) (m ((c.tc : Thread nD τ).loc main_arg0)) f) (t : Fin grid0.N) :
    Mat (M := 256) (N := 1024) (iblk m c 0 t) f := by
  intro a b
  blk_simp [iblk]
  refine (h.at _).trans ?_
  blk_simp [at0 t]

theorem blk1 {f : ℕ → ℕ → EReal} (h : Mat (M := 1) (N := 1024) (m ((c.tc : Thread nD τ).loc main_arg1)) f) (t : Fin grid0.N) :
    Mat (M := 1) (N := 1024) (iblk m c 1 t) f := by
  intro a b
  blk_simp [iblk]
  refine (h.at _).trans ?_
  blk_simp [at1 t]

theorem blk2 {f : ℕ → ℕ → EReal} (h : Mat (M := 1024) (N := 1024) (m ((c.tc : Thread nD τ).loc main_arg2)) f) (t : Fin grid0.N) :
    Mat (M := 1024) (N := 1024) (iblk m c 2 t) f := by
  intro a b
  blk_simp [iblk]
  refine (h.at _).trans ?_
  blk_simp [at2 t]

theorem blk3 {f : ℕ → ℕ → EReal} (h : Mat (M := 1024) (N := 1024) (m ((c.tc : Thread nD τ).loc main_arg3)) f) (t : Fin grid0.N) :
    Mat (M := 1024) (N := 1024) (iblk m c 3 t) f := by
  intro a b
  blk_simp [iblk]
  refine (h.at _).trans ?_
  blk_simp [at3 t]

theorem blk4 {f : ℕ → ℕ → EReal} (h : Mat (M := 1) (N := 256) (m ((c.tc : Thread nD τ).loc main_arg4)) f) (t : Fin grid0.N) :
    Mat (M := 1) (N := 256) (iblk m c 4 t) f := by
  intro a b
  blk_simp [iblk]
  refine (h.at _).trans ?_
  blk_simp [at4 t]

variable
  (h0 : Mat (M := 256) (N := 1024) (m ((c.tc : Thread nD τ).loc main_arg0)) x)
  (h1 : Mat (M := 1) (N := 1024) (m ((c.tc : Thread nD τ).loc main_arg1)) fun _ => g)
  (h2 : Mat (M := 1024) (N := 1024) (m ((c.tc : Thread nD τ).loc main_arg2)) k)
  (h3 : Mat (M := 1024) (N := 1024) (m ((c.tc : Thread nD τ).loc main_arg3)) v)
  (h4 : Mat (M := 1) (N := 256) (m ((c.tc : Thread nD τ).loc main_arg4)) fun _ => h)

include h0 h1 h2 h4 in
theorem call_keys : Mat (M := 256) (N := 1024) ((dats m 0 c).arrAt 5 cfg0.N) (keys x g k h) := by
  refine Mat.of ((dats m 0 c).arrAt_eq_of_covers 5 _ (by decide +kernel) fun t hf y => ?_)
  blk_simp
  rw [after0_5]
  frame_out
  refine ((keys_mat (blk0 m c h0 t) (blk1 m c h1 t) (blk2 m c h2 t) (blk4 m c h4 t)).at y).trans ?_
  blk_simp [at5 t]

include h0 h1 h3 in
theorem call_values : Mat (M := 256) (N := 1024) ((dats m 0 c).arrAt 6 cfg0.N) (values x g v) := by
  refine Mat.of ((dats m 0 c).arrAt_eq_of_covers 6 _ (by decide +kernel) fun t hf y => ?_)
  blk_simp
  rw [after0_6]
  frame_out
  refine ((values_mat (blk0 m c h0 t) (blk1 m c h1 t) (blk3 m c h3 t)).at y).trans ?_
  blk_simp [at6 t]

end

/-- A matrix of one row. -/
theorem one_row {n : ℕ} {A : (⟨2, ![1, n]⟩ : Shape).Idx → EReal} {f : ℕ → ℕ → EReal} (h : Mat A f) : Mat A fun _ => f 0 := fun a b => by
  obtain rfl : a = 0 := Subsingleton.elim _ _
  exact h 0 b

/-- The kernel and the reference, from the same arguments, end with the same two arrays. -/
theorem agree : Cert.algebraic_MemIdeal_MemReferenceIdeal := by
  intro m ρ m' ρ' _ hargs
  refine ⟨fun c => (dats m 0 c).arrAt 5 cfg0.N, fun c => (dats m 0 c).arrAt 6 cfg0.N,
    (θ_run _ _ _).mono (fun r h c => ⟨(h.1 c).1 5, (h.1 c).1 6, h.2 c⟩) (θ_run_and (run_main m ρ) (unchanged m ρ)), ?_⟩
  refine (θ_run _ _ _).mono (fun r h c => ?_) (Cert.MemReferenceIdeal.Value.run m' ρ')
  obtain ⟨r0, r1, ra⟩ := h c
  obtain ⟨a0, a1, a2, a3, a4⟩ := hargs c
  obtain ⟨_, h0⟩ := some_mat (M := 256) (N := 1024) (m ((c.tc : Thread nD τ).loc main_arg0))
  obtain ⟨_, h1⟩ := some_mat (M := 1) (N := 1024) (m ((c.tc : Thread nD τ).loc main_arg1))
  obtain ⟨_, h2⟩ := some_mat (M := 1024) (N := 1024) (m ((c.tc : Thread nD τ).loc main_arg2))
  obtain ⟨_, h3⟩ := some_mat (M := 1024) (N := 1024) (m ((c.tc : Thread nD τ).loc main_arg3))
  obtain ⟨_, h4⟩ := some_mat (M := 1) (N := 256) (m ((c.tc : Thread nD τ).loc main_arg4))
  replace h1 := one_row h1
  replace h4 := one_row h4
  have i0 := Mat.cast (M := 256) (N := 1024) a0 h0
  have i1 := Mat.cast (M := 1) (N := 1024) a1 h1
  have i2 := Mat.cast (M := 1024) (N := 1024) a2 h2
  have i3 := Mat.cast (M := 1024) (N := 1024) a3 h3
  have i4 := Mat.cast (M := 1) (N := 256) a4 h4
  exact ⟨r0.trans (Mat.ext (Ref.ks_at _ _ _ _ i0 i1 i2 i4) (call_keys m c h0 h1 h2 h4)),
    r1.trans (Mat.ext (Ref.vs_at _ _ _ i0 i1 i3) (call_values m c h0 h1 h3)), ra⟩

end Cert.Keys
-- ==== Proof.MemB.lean ====
/- The gradients of what the keys and values of the memory are made with: what the backward call computes, and that the reference's four results are the same. -/
module

public import proofs.«01_k».proof.Defs
public import proofs.«01_k».proof.Proof.Gen.MemBIdeal.Frame
public import proofs.«01_k».proof.Proof.Gen.MemBReferenceIdeal.Run
public import proofs.«01_k».proof.Proof.CoreRef
public import proofs.«01_k».proof.Proof.Mem

@[expose] public section

set_option maxRecDepth 16384

noncomputable section

namespace Cert.Keys

open Idealize.ShloMosaic Idealize.ShloMosaic.TcCoe Idealize.SL.Sem Cert.Mlp
open Memo (head beside col0 col1 col2 col3 col0_mat col1_mat col2_mat col3_mat vDX vDX_mat vDG vDG_mat putAll putAll_mat row4 row4_mat)
open scoped BigOperators

variable {x k v d e y : ℕ → ℕ → EReal} {g h : ℕ → EReal}

section
variable (x : ℕ → ℕ → EReal) (g : ℕ → EReal) (k v : ℕ → ℕ → EReal) (h : ℕ → EReal) (d e : ℕ → ℕ → EReal)

/-- The keys before their norm, and their gradient; `d` is the keys' and `e` the values'. -/
def pre : ℕ → ℕ → EReal := mul 1024 (rms x g) k
def dPre : ℕ → ℕ → EReal := beside fun n => Memo.dX (head n (pre x g k)) h (head n d)

/-- The gradients of a matrix the normed memory is multiplied with, of the normed memory, and of the two norms' gains. -/
def dWeight (y : ℕ → ℕ → EReal) (a b : ℕ) : EReal := Tmul 256 y (rms x g) b a
def dNormed (a b : ℕ) : EReal := mulT 1024 e v a b + mulT 1024 (dPre x g k h d) k a b
def dMem : ℕ → EReal := dGain 256 x (dNormed x g k v h d e)
def dKey (b : ℕ) : EReal := ∑ n ∈ Finset.range 4, Memo.dG (head n (pre x g k)) (head n d) 256 b
end

/-! ## The reference -/

namespace Ref

open Cert.MemBReferenceIdeal Cert.MemBReferenceIdeal.Gen

variable (x0 : FVec Ideal S256x1024 .f32) (x1 : FVec Ideal S1x1024 .f32) (x2 x3 : FVec Ideal S1024x1024 .f32) (x4 : FVec Ideal S1x256 .f32) (x5 x6 : FVec Ideal S256x1024 .f32)
  (h0 : Mat (M := 256) (N := 1024) x0 x) (h1 : Mat (M := 1) (N := 1024) x1 fun _ => g)
  (h2 : Mat (M := 1024) (N := 1024) x2 k) (h3 : Mat (M := 1024) (N := 1024) x3 v) (h4 : Mat (M := 1) (N := 256) x4 fun _ => h)
  (h5 : Mat (M := 256) (N := 1024) x5 d) (h6 : Mat (M := 256) (N := 1024) x6 e)

/-- The keys divided by their lengths. -/
def un : FVec Ideal S256x4x256 .f32 :=
  mulf (kp x0 x1 x2) (broadcastInDim S256x4x256 ![0, 1, 2] bcast_S256x4x1_S256x4x256_0_1_2 (Host.rsqrt (kq x0 x1 x2)))

include h0 h1 h2 in
theorem un_at : Mat3 (L := 256) (M := 4) (N := 256) (un x0 x1 x2) (fun a l b => Memo.unit (head l (pre x g k)) a b) := by
  intro a l b
  unfold un
  clean_types
  pointwise
  simp only [(kp_at x0 x1 x2 h0 h1 h2).e, (kq_at x0 x1 x2 h0 h1 h2).e]
  rfl

/-- The gradient of the keys' gains. -/
def gk : FVec Ideal S1x256 .f32 :=
  broadcastInDim S1x256 ![1] bcast_S256_S1x256_1 (Host.reduceAdd (shapeCast S1x1x256 (Host.reduceAdd (mulf (un x0 x1 x2) (shapeCast _ x5 shapeCasts_S256x1024_S256x4x256)) (constant S_ .f32 0x00000000#32) reducesTo_S256x4x256_S256_d0_1 h_S_) shapeCasts_S256_S1x1x256) (constant S_ .f32 0x00000000#32) reducesTo_S1x1x256_S256_d0_1 h_S_)

include h0 h1 h2 h5 in
theorem gk_at : Mat (M := 1) (N := 256) (gk x0 x1 x2 x5) (fun _ => dKey x g k d) := by
  intro a b
  unfold gk
  clean_types
  pointwise
  rw [Memo.Ref.sum01, zero_add]
  pointwise
  rw [Fin.sum_univ_one, Fin.sum_univ_one, Memo.Ref.sum01, zero_add, Finset.sum_comm]
  pointwise
  simp only [(un_at x0 x1 x2 h0 h1 h2).e, h5.e]
  unfold dKey Memo.dG
  rw [Finset.sum_range]
  simp only [Finset.sum_range]
  rfl

/-- The gradient of the keys divided by their lengths. -/
def dq : FVec Ideal S256x4x256 .f32 :=
  mulf (shapeCast _ x5 shapeCasts_S256x1024_S256x4x256) (broadcastInDim S256x4x256 ![0, 1, 2] bcast_S1x1x256_S256x4x256_0_1_2 (broadcastInDim S1x1x256 ![2] bcast_S256_S1x1x256_2 (shapeCast _ x4 shapeCasts_S1x256_S256)))

include h4 h5 in
theorem dq_at : Mat3 (L := 256) (M := 4) (N := 256) (dq x4 x5) (fun a l b => head l d a b * h b) := by
  intro a l b
  unfold dq
  clean_types
  pointwise
  simp only [h4.e, h5.e]
  rfl

/-- What the mean of the squares receives. -/
def dm : FVec Ideal S256x4x256 .f32 :=
  broadcastInDim S256x4x256 ![0, 1] bcast_S256x4_S256x4x256_0_1 (Host.reduceAdd (Host.divf (mulf (shapeCast S256x4x1 (Host.reduceAdd (mulf (kp x0 x1 x2) (dq x4 x5)) (constant S_ .f32 0x00000000#32) reducesTo_S256x4x256_S256x4_d2 h_S_) shapeCasts_S256x4_S256x4x1) (mulf (broadcastInDim S256x4x1 ![] bcast_S_S256x4x1 (constant S_ .f32 0xBF000000#32)) (Host.divf (Host.rsqrt (kq x0 x1 x2)) (kq x0 x1 x2)))) (broadcastInDim S256x4x1 ![] bcast_S_S256x4x1 (constant S_ .f32 0x43800000#32))) (constant S_ .f32 0x00000000#32) reducesTo_S256x4x1_S256x4_d2 h_S_)

include h0 h1 h2 h4 h5 in
theorem dm_at : Mat3 (L := 256) (M := 4) (N := 256) (dm x0 x1 x2 x4 x5) (fun a l _ => Memo.dMsq (head l (pre x g k)) h (head l d) a) := by
  intro a l b
  unfold dm
  clean_types
  pointwise
  simp only [(kp_at x0 x1 x2 h0 h1 h2).e, (kq_at x0 x1 x2 h0 h1 h2).e, (dq_at x4 x5 h4 h5).e]
  rw [Fin.sum_univ_one]
  unfold Memo.dMsq
  rw [Finset.sum_range]
  rfl

/-- The gradient of the keys before their norm. -/
def dp : FVec Ideal S256x1024 .f32 :=
  shapeCast S256x1024 (addf (addf (mulf (dq x4 x5) (broadcastInDim S256x4x256 ![0, 1, 2] bcast_S256x4x1_S256x4x256_0_1_2 (Host.rsqrt (kq x0 x1 x2)))) (mulf (kp x0 x1 x2) (dm x0 x1 x2 x4 x5))) (mulf (dm x0 x1 x2 x4 x5) (kp x0 x1 x2))) shapeCasts_S256x4x256_S256x1024

include h0 h1 h2 h4 h5 in
theorem dp_at : Mat (M := 256) (N := 1024) (dp x0 x1 x2 x4 x5) (dPre x g k h d) := by
  intro a b
  unfold dp
  clean_types
  pointwise
  simp only [(kp_at x0 x1 x2 h0 h1 h2).e, (kq_at x0 x1 x2 h0 h1 h2).e, (dq_at x4 x5 h4 h5).e, (dm_at x0 x1 x2 x4 x5 h0 h1 h2 h4 h5).e]
  rfl

/-- The gradient of a matrix. -/
def dw (z : FVec Ideal S256x1024 .f32) : FVec Ideal S1024x1024 .f32 :=
  transpose S1024x1024 [1, 0] (Host.dotGeneral dot_S256x1024_S256x1024_S1024x1024_0_0_1_1_n_n none z (nm x0 x1)) transposes_S1024x1024_S1024x1024_1_0

include h0 h1 in
theorem dw_at {z : FVec Ideal S256x1024 .f32} (hz : Mat (M := 256) (N := 1024) z y) : Mat (M := 1024) (N := 1024) (dw x0 x1 z) (dWeight x g y) := by
  intro a b
  unfold dw
  clean_types
  pointwise
  simp only [hz.e, (nm_at x0 x1 h0 h1).e]
  unfold dWeight Tmul
  rw [Finset.sum_range]

/-- The gradient of the memory's gains. -/
def gm : FVec Ideal S1x1024 .f32 :=
  broadcastInDim S1x1024 ![1] bcast_S1024_S1x1024_1 (Host.reduceAdd (shapeCast S1x1024 (Host.reduceAdd (mulf (mulf x0 (broadcastInDim S256x1024 ![0, 1] bcast_S256x1_S256x1024_0_1 (Host.rsqrt (ms x0)))) (addf (Host.dotGeneral dot_S256x1024_S1024x1024_S256x1024_1_1_0_0_n_n none x6 x3) (Host.dotGeneral dot_S256x1024_S1024x1024_S256x1024_1_1_0_0_n_n none (dp x0 x1 x2 x4 x5) x2))) (constant S_ .f32 0x00000000#32) reducesTo_S256x1024_S1024_d0 h_S_) shapeCasts_S1024_S1x1024) (constant S_ .f32 0x00000000#32) reducesTo_S1x1024_S1024_d0 h_S_)

include h0 h1 h2 h3 h4 h5 h6 in
theorem gm_at : Mat (M := 1) (N := 1024) (gm x0 x1 x2 x3 x4 x5 x6) (fun _ => dMem x g k v h d e) := by
  intro a b
  unfold gm
  clean_types
  pointwise
  simp only [h0.e, (ms_at x0 h0).e, h2.e, h3.e, h6.e, (dp_at x0 x1 x2 x4 x5 h0 h1 h2 h4 h5).e]
  unfold dMem dGain dNormed mulT
  rw [Fin.sum_univ_one, Finset.sum_range]
  simp only [Finset.sum_range]
  rfl

end Ref

open Cert.MemBIdeal Cert.MemBIdeal.Gen

/-! ## The call's four values -/

section
variable (v0 : Vec Ideal S256x1024 .f32) (v1 : Vec Ideal S1x1024 .f32) (v2 v4 : Vec Ideal S1024x1024 .bf16) (v6 : Vec Ideal S1x256 .f32) (w0 w1 : Vec Ideal S256x1024 .f32)

/-- The gradient of the keys before their norm. -/
def back : FVec Ideal S256x1024 .f32 :=
  putAll (vDX (col0 (k0_pay9 v0 v1 v2)) (col0 w0) v6) (vDX (col1 (k0_pay9 v0 v1 v2)) (col1 w0) v6)
    (vDX (col2 (k0_pay9 v0 v1 v2)) (col2 w0) v6) (vDX (col3 (k0_pay9 v0 v1 v2)) (col3 w0) v6)

/-- What is stored: the gradients of a matrix, of the keys' gains and of the memory's, each added to zeros. -/
def outW (z : FVec Ideal S256x1024 .f32) : FVec Ideal S1024x1024 .f32 :=
  k0_pay1 (k0_pay33 (k0_pay32 (k0_pay6 v0 v1) z)) (k0_pay52 (F := Ideal))
def outK : FVec Ideal S1x256 .f32 :=
  k0_pay3 (row4 (vDG (col0 (k0_pay9 v0 v1 v2)) (col0 w0)) (vDG (col1 (k0_pay9 v0 v1 v2)) (col1 w0))
    (vDG (col2 (k0_pay9 v0 v1 v2)) (col2 w0)) (vDG (col3 (k0_pay9 v0 v1 v2)) (col3 w0))) (k0_pay2 (F := Ideal))
def outM : FVec Ideal S1x1024 .f32 :=
  addf (shapeCast S1x1024 (k0_pay50 (F := Ideal)) shapeCasts_S1x1024_S1x1024) (shapeCast S1x1024 (multiReduction .add [0] S1024
    (mulf (k0_pay5 v0) (addf (k0_pay34 (k0_pay31 (k0_pay4 v4)) w1) (k0_pay34 (k0_pay8 v2) (back v0 v1 v2 v6 w0))))
    0x00000000#32 reduces_S256x1024_S1024 (.inl rfl) rfl) shapeCasts_S1024_S1x1024)
end

section
variable {v0 : Vec Ideal S256x1024 .f32} {v1 : Vec Ideal S1x1024 .f32} {v2 v4 : Vec Ideal S1024x1024 .bf16} {v6 : Vec Ideal S1x256 .f32} {w0 w1 : Vec Ideal S256x1024 .f32}
  (h0 : Mat (M := 256) (N := 1024) v0 x) (h1 : Mat (M := 1) (N := 1024) v1 fun _ => g)
  (h2 : Mat (M := 1024) (N := 1024) v2 k) (h3 : Mat (M := 1024) (N := 1024) v4 v) (h4 : Mat (M := 1) (N := 256) v6 fun _ => h)
  (h5 : Mat (M := 256) (N := 1024) w0 d) (h6 : Mat (M := 256) (N := 1024) w1 e)

include h0 in
theorem unit_mat : Mat (M := 256) (N := 1024) (k0_pay5 v0) (unit x) := fun a b => by
  pointwise [k0_pay5]
  simp only [h0.e]
  unfold unit meanSq
  rw [Finset.sum_range]

include h0 h1 in
theorem rms_mat : Mat (M := 256) (N := 1024) (k0_pay6 v0 v1) (rms x g) := fun a b => by
  pointwise [k0_pay6]
  simp only [(unit_mat h0).e, h1.e]
  rfl

include h0 h1 h2 in
theorem pre_mat : Mat (M := 256) (N := 1024) (k0_pay9 v0 v1 v2) (pre x g k) := fun a b => by
  pointwise [k0_pay9, k0_pay7, k0_pay8]
  simp only [(rms_mat h0 h1).e, h2.e]
  unfold pre mul
  rw [Finset.sum_range]

include h0 h1 h2 h4 h5 in
theorem back_mat : Mat (M := 256) (N := 1024) (back v0 v1 v2 v6 w0) (dPre x g k h d) := by
  have p := pre_mat h0 h1 h2
  exact putAll_mat (F := fun n => Memo.dX (head n (pre x g k)) h (head n d)) (vDX_mat (col0_mat p) (col0_mat h5) h4)
    (vDX_mat (col1_mat p) (col1_mat h5) h4) (vDX_mat (col2_mat p) (col2_mat h5) h4) (vDX_mat (col3_mat p) (col3_mat h5) h4)

include h0 h1 in
theorem outW_mat {z : FVec Ideal S256x1024 .f32} (hz : Mat (M := 256) (N := 1024) z y) : Mat (M := 1024) (N := 1024) (outW v0 v1 z) (dWeight x g y) := fun a b => by
  pointwise [outW, k0_pay1, k0_pay52, k0_pay33, k0_pay32]
  simp only [hz.e, (rms_mat h0 h1).e, zero_add]
  unfold dWeight Tmul
  rw [Finset.sum_range]

include h0 h1 h2 h5 in
theorem outK_mat : Mat (M := 1) (N := 256) (outK v0 v1 v2 w0) fun _ => dKey x g k d := fun a b => by
  have p := pre_mat h0 h1 h2
  pointwise [outK, k0_pay3, k0_pay2]
  exact row4_mat (p := fun n => Memo.dG (head n (pre x g k)) (head n d) 256) (vDG_mat (col0_mat p) (col0_mat h5))
    (vDG_mat (col1_mat p) (col1_mat h5)) (vDG_mat (col2_mat p) (col2_mat h5)) (vDG_mat (col3_mat p) (col3_mat h5)) a b

include h0 h1 h2 h3 h4 h5 h6 in
theorem outM_mat : Mat (M := 1) (N := 1024) (outM v0 v1 v2 v4 v6 w0 w1) fun _ => dMem x g k v h d e := fun a b => by
  pointwise [outM, k0_pay50, k0_pay34, k0_pay31, k0_pay4, k0_pay8]
  simp only [(unit_mat h0).e, h2.e, h3.e, h6.e, (back_mat h0 h1 h2 h4 h5).e, zero_add]
  unfold dMem dGain dNormed mulT
  rw [Finset.sum_range]
  simp only [Finset.sum_range]

end

/-! ## The blocks and the arrays the call leaves -/

namespace Back

theorem at0 : ∀ t : Fin grid0.N, win0_0.index t = ![0, 0] := by decide
theorem at1 : ∀ t : Fin grid0.N, win0_1.index t = ![0, 0] := by decide
theorem at2 : ∀ t : Fin grid0.N, win0_2.index t = ![0, 0] := by decide
theorem at3 : ∀ t : Fin grid0.N, win0_3.index t = ![0, 0] := by decide
theorem at4 : ∀ t : Fin grid0.N, win0_4.index t = ![0, 0] := by decide
theorem at5 : ∀ t : Fin grid0.N, win0_5.index t = ![0, 0] := by decide
theorem at6 : ∀ t : Fin grid0.N, win0_6.index t = ![0, 0] := by decide
theorem at7 : ∀ t : Fin grid0.N, win0_7.index t = ![0, 0] := by decide
theorem at8 : ∀ t : Fin grid0.N, win0_8.index t = ![0, 0] := by decide
theorem at9 : ∀ t : Fin grid0.N, win0_9.index t = ![0, 0] := by decide
theorem at10 : ∀ t : Fin grid0.N, win0_10.index t = ![0, 0] := by decide

section
variable (m : (l : Loc nD τ sig) → Buf (Elt Ideal) l) (c : Dev nD)

theorem blk0 {f : ℕ → ℕ → EReal} (h : Mat (M := 256) (N := 1024) (m ((c.tc : Thread nD τ).loc main_arg0)) f) (t : Fin grid0.N) :
    Mat (M := 256) (N := 1024) (iblk m c 0 t) f := by
  intro a b
  blk_simp [iblk]
  refine (h.at _).trans ?_
  blk_simp [at0 t]

theorem blk1 {f : ℕ → ℕ → EReal} (h : Mat (M := 1) (N := 1024) (m ((c.tc : Thread nD τ).loc main_arg1)) f) (t : Fin grid0.N) :
    Mat (M := 1) (N := 1024) (iblk m c 1 t) f := by
  intro a b
  blk_simp [iblk]
  refine (h.at _).trans ?_
  blk_simp [at1 t]

theorem blk2 {f : ℕ → ℕ → EReal} (h : Mat (M := 1024) (N := 1024) (m ((c.tc : Thread nD τ).loc main_arg2)) f) (t : Fin grid0.N) :
    Mat (M := 1024) (N := 1024) (iblk m c 2 t) f := by
  intro a b
  blk_simp [iblk]
  refine (h.at _).trans ?_
  blk_simp [at2 t]

theorem blk3 {f : ℕ → ℕ → EReal} (h : Mat (M := 1024) (N := 1024) (m ((c.tc : Thread nD τ).loc main_arg3)) f) (t : Fin grid0.N) :
    Mat (M := 1024) (N := 1024) (iblk m c 3 t) f := by
  intro a b
  blk_simp [iblk]
  refine (h.at _).trans ?_
  blk_simp [at3 t]

theorem blk4 {f : ℕ → ℕ → EReal} (h : Mat (M := 1) (N := 256) (m ((c.tc : Thread nD τ).loc main_arg4)) f) (t : Fin grid0.N) :
    Mat (M := 1) (N := 256) (iblk m c 4 t) f := by
  intro a b
  blk_simp [iblk]
  refine (h.at _).trans ?_
  blk_simp [at4 t]

theorem blk5 {f : ℕ → ℕ → EReal} (h : Mat (M := 256) (N := 1024) (m ((c.tc : Thread nD τ).loc main_arg5)) f) (t : Fin grid0.N) :
    Mat (M := 256) (N := 1024) (iblk m c 5 t) f := by
  intro a b
  blk_simp [iblk]
  refine (h.at _).trans ?_
  blk_simp [at5 t]

theorem blk6 {f : ℕ → ℕ → EReal} (h : Mat (M := 256) (N := 1024) (m ((c.tc : Thread nD τ).loc main_arg6)) f) (t : Fin grid0.N) :
    Mat (M := 256) (N := 1024) (iblk m c 6 t) f := by
  intro a b
  blk_simp [iblk]
  refine (h.at _).trans ?_
  blk_simp [at6 t]

variable
  (h0 : Mat (M := 256) (N := 1024) (m ((c.tc : Thread nD τ).loc main_arg0)) x)
  (h1 : Mat (M := 1) (N := 1024) (m ((c.tc : Thread nD τ).loc main_arg1)) fun _ => g)
  (h2 : Mat (M := 1024) (N := 1024) (m ((c.tc : Thread nD τ).loc main_arg2)) k)
  (h3 : Mat (M := 1024) (N := 1024) (m ((c.tc : Thread nD τ).loc main_arg3)) v)
  (h4 : Mat (M := 1) (N := 256) (m ((c.tc : Thread nD τ).loc main_arg4)) fun _ => h)
  (h5 : Mat (M := 256) (N := 1024) (m ((c.tc : Thread nD τ).loc main_arg5)) d)
  (h6 : Mat (M := 256) (N := 1024) (m ((c.tc : Thread nD τ).loc main_arg6)) e)

include h0 h1 h2 h3 h4 h5 h6 in
theorem call_mem : Mat (M := 1) (N := 1024) ((dats m 0 c).arrAt 7 cfg0.N) (fun _ => dMem x g k v h d e) := by
  refine Mat.of ((dats m 0 c).arrAt_eq_of_covers 7 _ (by decide +kernel) fun t hf y => ?_)
  blk_simp
  rw [after0_7]
  unfold outsAt0
  frame_out
  refine ((outM_mat (blk0 m c h0 t) (blk1 m c h1 t) (blk2 m c h2 t) (blk3 m c h3 t) (blk4 m c h4 t) (blk5 m c h5 t) (blk6 m c h6 t)).at y).trans ?_
  blk_simp [at7 t]

include h0 h1 h2 h4 h5 in
theorem call_wk : Mat (M := 1024) (N := 1024) ((dats m 0 c).arrAt 8 cfg0.N) (dWeight x g (dPre x g k h d)) := by
  refine Mat.of ((dats m 0 c).arrAt_eq_of_covers 8 _ (by decide +kernel) fun t hf y => ?_)
  blk_simp
  rw [after0_8]
  unfold outsAt0
  frame_out
  refine ((outW_mat (blk0 m c h0 t) (blk1 m c h1 t) (back_mat (blk0 m c h0 t) (blk1 m c h1 t) (blk2 m c h2 t) (blk4 m c h4 t) (blk5 m c h5 t))).at y).trans ?_
  blk_simp [at8 t]

include h0 h1 h6 in
theorem call_wv : Mat (M := 1024) (N := 1024) ((dats m 0 c).arrAt 9 cfg0.N) (dWeight x g e) := by
  refine Mat.of ((dats m 0 c).arrAt_eq_of_covers 9 _ (by decide +kernel) fun t hf y => ?_)
  blk_simp
  rw [after0_9]
  unfold outsAt0
  frame_out
  refine ((outW_mat (blk0 m c h0 t) (blk1 m c h1 t) (blk6 m c h6 t)).at y).trans ?_
  blk_simp [at9 t]

include h0 h1 h2 h5 in
theorem call_key : Mat (M := 1) (N := 256) ((dats m 0 c).arrAt 10 cfg0.N) (fun _ => dKey x g k d) := by
  refine Mat.of ((dats m 0 c).arrAt_eq_of_covers 10 _ (by decide +kernel) fun t hf y => ?_)
  blk_simp
  rw [after0_10]
  unfold outsAt0
  frame_out
  refine ((outK_mat (blk0 m c h0 t) (blk1 m c h1 t) (blk2 m c h2 t) (blk5 m c h5 t)).at y).trans ?_
  blk_simp [at10 t]

end

end Back

/-- The kernel and the reference, from the same arguments, end with the same four arrays. -/
theorem back_agree : Cert.algebraic_MemBIdeal_MemBReferenceIdeal := by
  intro m ρ m' ρ' _ hargs
  refine ⟨fun c => (dats m 0 c).arrAt 7 cfg0.N, fun c => (dats m 0 c).arrAt 8 cfg0.N, fun c => (dats m 0 c).arrAt 9 cfg0.N, fun c => (dats m 0 c).arrAt 10 cfg0.N,
    (θ_run _ _ _).mono (fun r h c => ⟨(h.1 c).1 7, (h.1 c).1 8, (h.1 c).1 9, (h.1 c).1 10, h.2 c⟩) (θ_run_and (run_main m ρ) (unchanged m ρ)), ?_⟩
  refine (θ_run _ _ _).mono (fun r h c => ?_) (Cert.MemBReferenceIdeal.Value.run m' ρ')
  obtain ⟨r0, r1, r2, r3, ra⟩ := h c
  obtain ⟨a0, a1, a2, a3, a4, a5, a6⟩ := hargs c
  obtain ⟨_, h0⟩ := some_mat (M := 256) (N := 1024) (m ((c.tc : Thread nD τ).loc main_arg0))
  obtain ⟨_, h1⟩ := some_mat (M := 1) (N := 1024) (m ((c.tc : Thread nD τ).loc main_arg1))
  obtain ⟨_, h2⟩ := some_mat (M := 1024) (N := 1024) (m ((c.tc : Thread nD τ).loc main_arg2))
  obtain ⟨_, h3⟩ := some_mat (M := 1024) (N := 1024) (m ((c.tc : Thread nD τ).loc main_arg3))
  obtain ⟨_, h4⟩ := some_mat (M := 1) (N := 256) (m ((c.tc : Thread nD τ).loc main_arg4))
  obtain ⟨_, h5⟩ := some_mat (M := 256) (N := 1024) (m ((c.tc : Thread nD τ).loc main_arg5))
  obtain ⟨_, h6⟩ := some_mat (M := 256) (N := 1024) (m ((c.tc : Thread nD τ).loc main_arg6))
  replace h1 := one_row h1
  replace h4 := one_row h4
  have i0 := Mat.cast (M := 256) (N := 1024) a0 h0
  have i1 := Mat.cast (M := 1) (N := 1024) a1 h1
  have i2 := Mat.cast (M := 1024) (N := 1024) a2 h2
  have i3 := Mat.cast (M := 1024) (N := 1024) a3 h3
  have i4 := Mat.cast (M := 1) (N := 256) a4 h4
  have i5 := Mat.cast (M := 256) (N := 1024) a5 h5
  have i6 := Mat.cast (M := 256) (N := 1024) a6 h6
  exact ⟨r0.trans (Mat.ext (Ref.gm_at _ _ (extf .f32 _ bitsLt_bf16_f32) (extf .f32 _ bitsLt_bf16_f32) _ _ _ i0 i1 i2 i3 i4 i5 i6) (Back.call_mem m c h0 h1 h2 h3 h4 h5 h6)),
    r1.trans (Mat.ext (Ref.dw_at _ _ i0 i1 (Ref.dp_at _ _ (extf .f32 _ bitsLt_bf16_f32) _ _ i0 i1 i2 i4 i5)) (Back.call_wk m c h0 h1 h2 h4 h5)),
    r2.trans (Mat.ext (Ref.dw_at _ _ i0 i1 i6) (Back.call_wv m c h0 h1 h6)),
    r3.trans (Mat.ext (Ref.gk_at _ _ (extf .f32 _ bitsLt_bf16_f32) _ i0 i1 i2 i5) (Back.call_key m c h0 h1 h2 h5)), ra⟩

end Cert.Keys
-- ==== Proof.lean ====
/- The proof of the certificate's claims. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnReferenceIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjReferenceIdeal
public import proofs.«01_k».proof.Proof.Gen.ProjReferenceIdeal.Run
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluReferenceIdeal
public import proofs.«01_k».proof.Proof.Gen.GluReferenceIdeal.Run
public import proofs.«01_k».proof.Proof.Gen.Xa
public import proofs.«01_k».proof.Proof.Gen.Xa.Skeleton
public import proofs.«01_k».proof.Proof.Gen.Xa.Launch
public import proofs.«01_k».proof.Proof.Gen.Xa.Points
public import proofs.«01_k».proof.Proof.Gen.Xa.Frame
public import proofs.«01_k».proof.Proof.Gen.XaIdeal
public import proofs.«01_k».proof.Proof.Gen.XaIdeal.Skeleton
public import proofs.«01_k».proof.Proof.Gen.XaIdeal.Launch
public import proofs.«01_k».proof.Proof.Gen.XaIdeal.Points
public import proofs.«01_k».proof.Proof.Gen.XaIdeal.Frame
public import proofs.«01_k».proof.Proof.Gen.XaReferenceIdeal
public import proofs.«01_k».proof.Proof.Gen.XaReferenceIdeal.Run
public import proofs.«01_k».proof.Proof.Gen.Core
public import proofs.«01_k».proof.Proof.Gen.Core.Skeleton
public import proofs.«01_k».proof.Proof.Gen.Core.Launch
public import proofs.«01_k».proof.Proof.Gen.Core.Points
public import proofs.«01_k».proof.Proof.Gen.Core.Frame
public import proofs.«01_k».proof.Proof.Gen.CoreIdeal
public import proofs.«01_k».proof.Proof.Gen.CoreIdeal.Skeleton
public import proofs.«01_k».proof.Proof.Gen.CoreIdeal.Launch
public import proofs.«01_k».proof.Proof.Gen.CoreIdeal.Points
public import proofs.«01_k».proof.Proof.Gen.CoreIdeal.Frame
public import proofs.«01_k».proof.Proof.Gen.CoreReferenceIdeal
public import proofs.«01_k».proof.Proof.Gen.CoreReferenceIdeal.Run
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamReferenceIdeal
public import proofs.«01_k».proof.Proof.Gen.AdamReferenceIdeal.Run
public import proofs.«01_k».proof.Proof.Gen.Mem
public import proofs.«01_k».proof.Proof.Gen.Mem.Skeleton
public import proofs.«01_k».proof.Proof.Gen.Mem.Launch
public import proofs.«01_k».proof.Proof.Gen.Mem.Points
public import proofs.«01_k».proof.Proof.Gen.Mem.Frame
public import proofs.«01_k».proof.Proof.Gen.MemIdeal
public import proofs.«01_k».proof.Proof.Gen.MemIdeal.Skeleton
public import proofs.«01_k».proof.Proof.Gen.MemIdeal.Launch
public import proofs.«01_k».proof.Proof.Gen.MemIdeal.Points
public import proofs.«01_k».proof.Proof.Gen.MemIdeal.Frame
public import proofs.«01_k».proof.Proof.Gen.MemReferenceIdeal
public import proofs.«01_k».proof.Proof.Gen.MemReferenceIdeal.Run
public import proofs.«01_k».proof.Proof.Gen.MemB
public import proofs.«01_k».proof.Proof.Gen.MemB.Skeleton
public import proofs.«01_k».proof.Proof.Gen.MemB.Launch
public import proofs.«01_k».proof.Proof.Gen.MemB.Points
public import proofs.«01_k».proof.Proof.Gen.MemB.Frame
public import proofs.«01_k».proof.Proof.Gen.MemBIdeal
public import proofs.«01_k».proof.Proof.Gen.MemBIdeal.Skeleton
public import proofs.«01_k».proof.Proof.Gen.MemBIdeal.Launch
public import proofs.«01_k».proof.Proof.Gen.MemBIdeal.Points
public import proofs.«01_k».proof.Proof.Gen.MemBIdeal.Frame
public import proofs.«01_k».proof.Proof.Gen.MemBReferenceIdeal
public import proofs.«01_k».proof.Proof.Gen.MemBReferenceIdeal.Run
public import proofs.«01_k».proof.Proof.Join
public import proofs.«01_k».proof.Proof.FfnJoin
public import proofs.«01_k».proof.Proof.ProjJoin
public import proofs.«01_k».proof.Proof.GluJoin
public import proofs.«01_k».proof.Proof.XaJoin
public import proofs.«01_k».proof.Proof.CoreJoin
public import proofs.«01_k».proof.Proof.Adam
public import proofs.«01_k».proof.Proof.Mem
public import proofs.«01_k».proof.Proof.MemB
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, leaves its arguments as they were, and its machine has no counter. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2.2.2.2, sem_eq_zero_of_no_sems rfl r.2⟩)
    (Cert.ReferenceIdeal.Value.run m g)

/-- The feed-forward block's reference runs, leaves its arguments as they were, and its machine has no counter. -/
theorem ffn_reference_frame : Cert.quiescent_FfnReferenceIdeal := fun m g _ =>
  (θ_run _ _ _).mono (fun r h => ⟨fun c => (h c).2.2.2.2.2.2.2, sem_eq_zero_of_no_sems rfl r.2⟩) (Cert.FfnReferenceIdeal.Value.run m g)

/-- The projections' reference runs, leaves its arguments as they were, and its machine has no counter. -/
theorem proj_reference_frame : Cert.quiescent_ProjReferenceIdeal := fun m g _ =>
  (θ_run _ _ _).mono (fun r h => ⟨fun c => (h c).2.2.2.2.2.2.2.2, sem_eq_zero_of_no_sems rfl r.2⟩) (Cert.ProjReferenceIdeal.Value.run m g)

/-- The gated unit's reference runs, leaves its arguments as they were, and its machine has no counter. -/
theorem glu_reference_frame : Cert.quiescent_GluReferenceIdeal := fun m g _ =>
  (θ_run _ _ _).mono (fun r h => ⟨fun c => (h c).2.2.2.2.2.2, sem_eq_zero_of_no_sems rfl r.2⟩) (Cert.GluReferenceIdeal.Value.run m g)

/-- The reference of the cross-attention's projections runs, leaves its arguments as they were, and its machine has no counter. -/
theorem xa_reference_frame : Cert.quiescent_XaReferenceIdeal := fun m g _ =>
  (θ_run _ _ _).mono (fun r h => ⟨fun c => (h c).2.2.2.2.2.2.2, sem_eq_zero_of_no_sems rfl r.2⟩) (Cert.XaReferenceIdeal.Value.run m g)

/-- The reference of the attention to the memory runs, leaves its arguments as they were, and its machine has no counter. -/
theorem core_reference_frame : Cert.quiescent_CoreReferenceIdeal := fun m g _ =>
  (θ_run _ _ _).mono (fun r h => ⟨fun c => (h c).2.2.2.2.2, sem_eq_zero_of_no_sems rfl r.2⟩) (Cert.CoreReferenceIdeal.Value.run m g)

/-- The references of the update and of the keys and values run, leave their arguments as they were, and their machines have no counter. -/
theorem adam_reference_frame : Cert.quiescent_AdamReferenceIdeal := fun m g _ =>
  (θ_run _ _ _).mono (fun r h => ⟨fun c => (h c).2.2.2, sem_eq_zero_of_no_sems rfl r.2⟩) (Cert.AdamReferenceIdeal.Value.run m g)
theorem mem_reference_frame : Cert.quiescent_MemReferenceIdeal := fun m g _ =>
  (θ_run _ _ _).mono (fun r h => ⟨fun c => (h c).2.2, sem_eq_zero_of_no_sems rfl r.2⟩) (Cert.MemReferenceIdeal.Value.run m g)
theorem memB_reference_frame : Cert.quiescent_MemBReferenceIdeal := fun m g _ =>
  (θ_run _ _ _).mono (fun r h => ⟨fun c => (h c).2.2.2.2, sem_eq_zero_of_no_sems rfl r.2⟩) (Cert.MemBReferenceIdeal.Value.run m g)

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Proj.Gen.facts, Cert.ProjIdeal.Gen.facts, Cert.ProjReferenceIdeal.Gen.facts,
  Cert.Glu.Gen.facts, Cert.GluIdeal.Gen.facts, Cert.GluReferenceIdeal.Gen.facts,
  Cert.Xa.Gen.facts, Cert.XaIdeal.Gen.facts, Cert.XaReferenceIdeal.Gen.facts,
  Cert.Core.Gen.facts, Cert.CoreIdeal.Gen.facts, Cert.CoreReferenceIdeal.Gen.facts,
  Cert.Adam.Gen.facts, Cert.AdamIdeal.Gen.facts, Cert.AdamReferenceIdeal.Gen.facts,
  Cert.Mem.Gen.facts, Cert.MemIdeal.Gen.facts, Cert.MemReferenceIdeal.Gen.facts,
  Cert.MemB.Gen.facts, Cert.MemBIdeal.Gen.facts, Cert.MemBReferenceIdeal.Gen.facts, Cert.Attn.preFacts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ,
  fun m ρ _ => Cert.Ffn.Gen.frame m ρ, fun m ρ _ => Cert.FfnIdeal.Gen.frame m ρ, ffn_reference_frame,
  fun m ρ _ => Cert.Proj.Gen.frame m ρ, fun m ρ _ => Cert.ProjIdeal.Gen.frame m ρ, proj_reference_frame,
  fun m ρ _ => Cert.Glu.Gen.frame m ρ, fun m ρ _ => Cert.GluIdeal.Gen.frame m ρ, glu_reference_frame,
  fun m ρ _ => Cert.Xa.Gen.frame m ρ, fun m ρ _ => Cert.XaIdeal.Gen.frame m ρ, xa_reference_frame,
  fun m ρ _ => Cert.Core.Gen.frame m ρ, fun m ρ _ => Cert.CoreIdeal.Gen.frame m ρ, core_reference_frame,
  fun m ρ _ => Cert.Adam.Gen.frame m ρ, fun m ρ _ => Cert.AdamIdeal.Gen.frame m ρ, adam_reference_frame,
  fun m ρ _ => Cert.Mem.Gen.frame m ρ, fun m ρ _ => Cert.MemIdeal.Gen.frame m ρ, mem_reference_frame,
  fun m ρ _ => Cert.MemB.Gen.frame m ρ, fun m ρ _ => Cert.MemBIdeal.Gen.frame m ρ, memB_reference_frame,
  trivial, Cert.Attn.agree, trivial, Cert.Mlp.agree, trivial, Cert.Mix.agree, trivial, Cert.Tail.agree, trivial, Cert.Cross.agree,
  trivial, Cert.Memo.agree, trivial, Cert.Upd.agree, trivial, Cert.Keys.agree, trivial, Cert.Keys.back_agree⟩

end Cert.Proof

end
